-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31)
      ∧ r.2.mem ((c.tc : Thread Cert.Kernel6.nD Cert.Kernel6.τ).loc Cert.Kernel6.main_arg32) = m ((c.tc : Thread Cert.Kernel6.nD Cert.Kernel6.τ).loc Cert.Kernel6.main_arg32)
      ∧ r.2.mem ((c.tc : Thread Cert.Kernel6.nD Cert.Kernel6.τ).loc Cert.Kernel6.main_arg33) = m ((c.tc : Thread Cert.Kernel6.nD Cert.Kernel6.τ).loc Cert.Kernel6.main_arg33)
      ∧ r.2.mem ((c.tc : Thread Cert.Kernel6.nD Cert.Kernel6.τ).loc Cert.Kernel6.main_arg34) = m ((c.tc : Thread Cert.Kernel6.nD Cert.Kernel6.τ).loc Cert.Kernel6.main_arg34)
      ∧ r.2.mem ((c.tc : Thread Cert.Kernel6.nD Cert.Kernel6.τ).loc Cert.Kernel6.main_arg35) = m ((c.tc : Thread Cert.Kernel6.nD Cert.Kernel6.τ).loc Cert.Kernel6.main_arg35)
      ∧ r.2.mem ((c.tc : Thread Cert.Kernel6.nD Cert.Kernel6.τ).loc Cert.Kernel6.main_arg36) = m ((c.tc : Thread Cert.Kernel6.nD Cert.Kernel6.τ).loc Cert.Kernel6.main_arg36)
      ∧ r.2.mem ((c.tc : Thread Cert.Kernel6.nD Cert.Kernel6.τ).loc Cert.Kernel6.main_arg37) = m ((c.tc : Thread Cert.Kernel6.nD Cert.Kernel6.τ).loc Cert.Kernel6.main_arg37)
      ∧ r.2.mem ((c.tc : Thread Cert.Kernel6.nD Cert.Kernel6.τ).loc Cert.Kernel6.main_arg38) = m ((c.tc : Thread Cert.Kernel6.nD Cert.Kernel6.τ).loc Cert.Kernel6.main_arg38)
      ∧ r.2.mem ((c.tc : Thread Cert.Kernel6.nD Cert.Kernel6.τ).loc Cert.Kernel6.main_arg39) = m ((c.tc : Thread Cert.Kernel6.nD Cert.Kernel6.τ).loc Cert.Kernel6.main_arg39)
      ∧ r.2.mem ((c.tc : Thread Cert.Kernel6.nD Cert.Kernel6.τ).loc Cert.Kernel6.main_arg40) = m ((c.tc : Thread Cert.Kernel6.nD Cert.Kernel6.τ).loc Cert.Kernel6.main_arg40)
      ∧ r.2.mem ((c.tc : Thread Cert.Kernel6.nD Cert.Kernel6.τ).loc Cert.Kernel6.main_arg41) = m ((c.tc : Thread Cert.Kernel6.nD Cert.Kernel6.τ).loc Cert.Kernel6.main_arg41)
      ∧ r.2.mem ((c.tc : Thread Cert.Kernel6.nD Cert.Kernel6.τ).loc Cert.Kernel6.main_arg42) = m ((c.tc : Thread Cert.Kernel6.nD Cert.Kernel6.τ).loc Cert.Kernel6.main_arg42)
      ∧ r.2.mem ((c.tc : Thread Cert.Kernel6.nD Cert.Kernel6.τ).loc Cert.Kernel6.main_arg43) = m ((c.tc : Thread Cert.Kernel6.nD Cert.Kernel6.τ).loc Cert.Kernel6.main_arg43))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
      ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
      ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
      ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
      ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35)
      ∧ r.2.mem ((c.tc : Thread Cert.Kernel6Ideal.nD Cert.Kernel6Ideal.τ).loc Cert.Kernel6Ideal.main_arg36) = m ((c.tc : Thread Cert.Kernel6Ideal.nD Cert.Kernel6Ideal.τ).loc Cert.Kernel6Ideal.main_arg36)
      ∧ r.2.mem ((c.tc : Thread Cert.Kernel6Ideal.nD Cert.Kernel6Ideal.τ).loc Cert.Kernel6Ideal.main_arg37) = m ((c.tc : Thread Cert.Kernel6Ideal.nD Cert.Kernel6Ideal.τ).loc Cert.Kernel6Ideal.main_arg37)
      ∧ r.2.mem ((c.tc : Thread Cert.Kernel6Ideal.nD Cert.Kernel6Ideal.τ).loc Cert.Kernel6Ideal.main_arg38) = m ((c.tc : Thread Cert.Kernel6Ideal.nD Cert.Kernel6Ideal.τ).loc Cert.Kernel6Ideal.main_arg38)
      ∧ r.2.mem ((c.tc : Thread Cert.Kernel6Ideal.nD Cert.Kernel6Ideal.τ).loc Cert.Kernel6Ideal.main_arg39) = m ((c.tc : Thread Cert.Kernel6Ideal.nD Cert.Kernel6Ideal.τ).loc Cert.Kernel6Ideal.main_arg39)
      ∧ r.2.mem ((c.tc : Thread Cert.Kernel6Ideal.nD Cert.Kernel6Ideal.τ).loc Cert.Kernel6Ideal.main_arg40) = m ((c.tc : Thread Cert.Kernel6Ideal.nD Cert.Kernel6Ideal.τ).loc Cert.Kernel6Ideal.main_arg40)
      ∧ r.2.mem ((c.tc : Thread Cert.Kernel6Ideal.nD Cert.Kernel6Ideal.τ).loc Cert.Kernel6Ideal.main_arg41) = m ((c.tc : Thread Cert.Kernel6Ideal.nD Cert.Kernel6Ideal.τ).loc Cert.Kernel6Ideal.main_arg41)
      ∧ r.2.mem ((c.tc : Thread Cert.Kernel6Ideal.nD Cert.Kernel6Ideal.τ).loc Cert.Kernel6Ideal.main_arg42) = m ((c.tc : Thread Cert.Kernel6Ideal.nD Cert.Kernel6Ideal.τ).loc Cert.Kernel6Ideal.main_arg42)
      ∧ r.2.mem ((c.tc : Thread Cert.Kernel6Ideal.nD Cert.Kernel6Ideal.τ).loc Cert.Kernel6Ideal.main_arg43) = m ((c.tc : Thread Cert.Kernel6Ideal.nD Cert.Kernel6Ideal.τ).loc Cert.Kernel6Ideal.main_arg43))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31)
      ∧ r.2.mem ((c.tc : Thread Cert.Reference6Ideal.nD Cert.Reference6Ideal.τ).loc Cert.Reference6Ideal.main_arg32) = m ((c.tc : Thread Cert.Reference6Ideal.nD Cert.Reference6Ideal.τ).loc Cert.Reference6Ideal.main_arg32)
      ∧ r.2.mem ((c.tc : Thread Cert.Reference6Ideal.nD Cert.Reference6Ideal.τ).loc Cert.Reference6Ideal.main_arg33) = m ((c.tc : Thread Cert.Reference6Ideal.nD Cert.Reference6Ideal.τ).loc Cert.Reference6Ideal.main_arg33)
      ∧ r.2.mem ((c.tc : Thread Cert.Reference6Ideal.nD Cert.Reference6Ideal.τ).loc Cert.Reference6Ideal.main_arg34) = m ((c.tc : Thread Cert.Reference6Ideal.nD Cert.Reference6Ideal.τ).loc Cert.Reference6Ideal.main_arg34)
      ∧ r.2.mem ((c.tc : Thread Cert.Reference6Ideal.nD Cert.Reference6Ideal.τ).loc Cert.Reference6Ideal.main_arg35) = m ((c.tc : Thread Cert.Reference6Ideal.nD Cert.Reference6Ideal.τ).loc Cert.Reference6Ideal.main_arg35)
      ∧ r.2.mem ((c.tc : Thread Cert.Reference6Ideal.nD Cert.Reference6Ideal.τ).loc Cert.Reference6Ideal.main_arg36) = m ((c.tc : Thread Cert.Reference6Ideal.nD Cert.Reference6Ideal.τ).loc Cert.Reference6Ideal.main_arg36)
      ∧ r.2.mem ((c.tc : Thread Cert.Reference6Ideal.nD Cert.Reference6Ideal.τ).loc Cert.Reference6Ideal.main_arg37) = m ((c.tc : Thread Cert.Reference6Ideal.nD Cert.Reference6Ideal.τ).loc Cert.Reference6Ideal.main_arg37)
      ∧ r.2.mem ((c.tc : Thread Cert.Reference6Ideal.nD Cert.Reference6Ideal.τ).loc Cert.Reference6Ideal.main_arg38) = m ((c.tc : Thread Cert.Reference6Ideal.nD Cert.Reference6Ideal.τ).loc Cert.Reference6Ideal.main_arg38)
      ∧ r.2.mem ((c.tc : Thread Cert.Reference6Ideal.nD Cert.Reference6Ideal.τ).loc Cert.Reference6Ideal.main_arg39) = m ((c.tc : Thread Cert.Reference6Ideal.nD Cert.Reference6Ideal.τ).loc Cert.Reference6Ideal.main_arg39)
      ∧ r.2.mem ((c.tc : Thread Cert.Reference6Ideal.nD Cert.Reference6Ideal.τ).loc Cert.Reference6Ideal.main_arg40) = m ((c.tc : Thread Cert.Reference6Ideal.nD Cert.Reference6Ideal.τ).loc Cert.Reference6Ideal.main_arg40)
      ∧ r.2.mem ((c.tc : Thread Cert.Reference6Ideal.nD Cert.Reference6Ideal.τ).loc Cert.Reference6Ideal.main_arg41) = m ((c.tc : Thread Cert.Reference6Ideal.nD Cert.Reference6Ideal.τ).loc Cert.Reference6Ideal.main_arg41)
      ∧ r.2.mem ((c.tc : Thread Cert.Reference6Ideal.nD Cert.Reference6Ideal.τ).loc Cert.Reference6Ideal.main_arg42) = m ((c.tc : Thread Cert.Reference6Ideal.nD Cert.Reference6Ideal.τ).loc Cert.Reference6Ideal.main_arg42)
      ∧ r.2.mem ((c.tc : Thread Cert.Reference6Ideal.nD Cert.Reference6Ideal.τ).loc Cert.Reference6Ideal.main_arg43) = m ((c.tc : Thread Cert.Reference6Ideal.nD Cert.Reference6Ideal.τ).loc Cert.Reference6Ideal.main_arg43))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v15)) (v3 : (c : Dev Cert.Kernel2Ideal.nD) → Buf (Elt Ideal) ((c.tc : Thread Cert.Kernel2Ideal.nD Cert.Kernel2Ideal.τ).loc Cert.Kernel2Ideal.main_v13)) (v4 : (c : Dev Cert.Kernel2Ideal.nD) → Buf (Elt Ideal) ((c.tc : Thread Cert.Kernel2Ideal.nD Cert.Kernel2Ideal.τ).loc Cert.Kernel2Ideal.main_v18)) (v5 : (c : Dev Cert.Kernel2Ideal.nD) → Buf (Elt Ideal) ((c.tc : Thread Cert.Kernel2Ideal.nD Cert.Kernel2Ideal.τ).loc Cert.Kernel2Ideal.main_v20)) (v6 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v15) = v2 c
          ∧ r.2.mem ((c.tc : Thread Cert.Kernel2Ideal.nD Cert.Kernel2Ideal.τ).loc Cert.Kernel2Ideal.main_v13) = v3 c
          ∧ r.2.mem ((c.tc : Thread Cert.Kernel2Ideal.nD Cert.Kernel2Ideal.τ).loc Cert.Kernel2Ideal.main_v18) = v4 c
          ∧ r.2.mem ((c.tc : Thread Cert.Kernel2Ideal.nD Cert.Kernel2Ideal.τ).loc Cert.Kernel2Ideal.main_v20) = v5 c
          ∧ r.2.mem ((c.tc : Thread Cert.Kernel2Ideal.nD Cert.Kernel2Ideal.τ).loc Cert.Kernel2Ideal.main_v11) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_v95) = v2 c
          ∧ r.2.mem ((c.tc : Thread Cert.Reference2Ideal.nD Cert.Reference2Ideal.τ).loc Cert.Reference2Ideal.main_v97) = v3 c
          ∧ r.2.mem ((c.tc : Thread Cert.Reference2Ideal.nD Cert.Reference2Ideal.τ).loc Cert.Reference2Ideal.main_v51) = v4 c
          ∧ r.2.mem ((c.tc : Thread Cert.Reference2Ideal.nD Cert.Reference2Ideal.τ).loc Cert.Reference2Ideal.main_v48) = v5 c
          ∧ r.2.mem ((c.tc : Thread Cert.Reference2Ideal.nD Cert.Reference2Ideal.τ).loc Cert.Reference2Ideal.main_v98) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v19_0)) (v3 : (c : Dev Cert.Kernel3Ideal.nD) → Buf (Elt Ideal) ((c.tc : Thread Cert.Kernel3Ideal.nD Cert.Kernel3Ideal.τ).loc Cert.Kernel3Ideal.main_v20)) (v4 : (c : Dev Cert.Kernel3Ideal.nD) → Buf (Elt Ideal) ((c.tc : Thread Cert.Kernel3Ideal.nD Cert.Kernel3Ideal.τ).loc Cert.Kernel3Ideal.main_v18)) (v5 : (c : Dev Cert.Kernel3Ideal.nD) → Buf (Elt Ideal) ((c.tc : Thread Cert.Kernel3Ideal.nD Cert.Kernel3Ideal.τ).loc Cert.Kernel3Ideal.main_v17)) (v6 : (c : Dev Cert.Kernel3Ideal.nD) → Buf (Elt Ideal) ((c.tc : Thread Cert.Kernel3Ideal.nD Cert.Kernel3Ideal.τ).loc Cert.Kernel3Ideal.main_v23)) (v7 : (c : Dev Cert.Kernel3Ideal.nD) → Buf (Elt Ideal) ((c.tc : Thread Cert.Kernel3Ideal.nD Cert.Kernel3Ideal.τ).loc Cert.Kernel3Ideal.main_v25)) (v8 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v19_0) = v2 c
          ∧ r.2.mem ((c.tc : Thread Cert.Kernel3Ideal.nD Cert.Kernel3Ideal.τ).loc Cert.Kernel3Ideal.main_v20) = v3 c
          ∧ r.2.mem ((c.tc : Thread Cert.Kernel3Ideal.nD Cert.Kernel3Ideal.τ).loc Cert.Kernel3Ideal.main_v18) = v4 c
          ∧ r.2.mem ((c.tc : Thread Cert.Kernel3Ideal.nD Cert.Kernel3Ideal.τ).loc Cert.Kernel3Ideal.main_v17) = v5 c
          ∧ r.2.mem ((c.tc : Thread Cert.Kernel3Ideal.nD Cert.Kernel3Ideal.τ).loc Cert.Kernel3Ideal.main_v23) = v6 c
          ∧ r.2.mem ((c.tc : Thread Cert.Kernel3Ideal.nD Cert.Kernel3Ideal.τ).loc Cert.Kernel3Ideal.main_v25) = v7 c
          ∧ r.2.mem ((c.tc : Thread Cert.Kernel3Ideal.nD Cert.Kernel3Ideal.τ).loc Cert.Kernel3Ideal.main_v21) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v114) = v1 c
          ∧ r.2.mem ((c.tc : Thread Cert.Reference3Ideal.nD Cert.Reference3Ideal.τ).loc Cert.Reference3Ideal.main_v89) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_v117) = v4 c
          ∧ r.2.mem ((c.tc : Thread Cert.Reference3Ideal.nD Cert.Reference3Ideal.τ).loc Cert.Reference3Ideal.main_v119) = v5 c
          ∧ r.2.mem ((c.tc : Thread Cert.Reference3Ideal.nD Cert.Reference3Ideal.τ).loc Cert.Reference3Ideal.main_v63) = v6 c
          ∧ r.2.mem ((c.tc : Thread Cert.Reference3Ideal.nD Cert.Reference3Ideal.τ).loc Cert.Reference3Ideal.main_v60) = v7 c
          ∧ r.2.mem ((c.tc : Thread Cert.Reference3Ideal.nD Cert.Reference3Ideal.τ).loc Cert.Reference3Ideal.main_v120) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v3_0)) (v2 : (c : Dev Cert.Kernel4Ideal.nD) → Buf (Elt Ideal) ((c.tc : Thread Cert.Kernel4Ideal.nD Cert.Kernel4Ideal.τ).loc Cert.Kernel4Ideal.main_v3_1)) (v3 : (c : Dev Cert.Kernel4Ideal.nD) → Buf (Elt Ideal) ((c.tc : Thread Cert.Kernel4Ideal.nD Cert.Kernel4Ideal.τ).loc Cert.Kernel4Ideal.main_v3_2)) (v4 : (c : Dev Cert.Kernel4Ideal.nD) → Buf (Elt Ideal) ((c.tc : Thread Cert.Kernel4Ideal.nD Cert.Kernel4Ideal.τ).loc Cert.Kernel4Ideal.main_v3_3)) (v5 : (c : Dev Cert.Kernel4Ideal.nD) → Buf (Elt Ideal) ((c.tc : Thread Cert.Kernel4Ideal.nD Cert.Kernel4Ideal.τ).loc Cert.Kernel4Ideal.main_v4)) (v6 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v3_0) = v1 c
          ∧ r.2.mem ((c.tc : Thread Cert.Kernel4Ideal.nD Cert.Kernel4Ideal.τ).loc Cert.Kernel4Ideal.main_v3_1) = v2 c
          ∧ r.2.mem ((c.tc : Thread Cert.Kernel4Ideal.nD Cert.Kernel4Ideal.τ).loc Cert.Kernel4Ideal.main_v3_2) = v3 c
          ∧ r.2.mem ((c.tc : Thread Cert.Kernel4Ideal.nD Cert.Kernel4Ideal.τ).loc Cert.Kernel4Ideal.main_v3_3) = v4 c
          ∧ r.2.mem ((c.tc : Thread Cert.Kernel4Ideal.nD Cert.Kernel4Ideal.τ).loc Cert.Kernel4Ideal.main_v4) = v5 c
          ∧ r.2.mem ((c.tc : Thread Cert.Kernel4Ideal.nD Cert.Kernel4Ideal.τ).loc Cert.Kernel4Ideal.main_v5) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v37) = v3 c
          ∧ r.2.mem ((c.tc : Thread Cert.Reference4Ideal.nD Cert.Reference4Ideal.τ).loc Cert.Reference4Ideal.main_v31) = v4 c
          ∧ r.2.mem ((c.tc : Thread Cert.Reference4Ideal.nD Cert.Reference4Ideal.τ).loc Cert.Reference4Ideal.main_v42) = v5 c
          ∧ r.2.mem ((c.tc : Thread Cert.Reference4Ideal.nD Cert.Reference4Ideal.τ).loc Cert.Reference4Ideal.main_v43) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v28)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v29)) (v4 : (c : Dev Cert.Kernel5Ideal.nD) → Buf (Elt Ideal) ((c.tc : Thread Cert.Kernel5Ideal.nD Cert.Kernel5Ideal.τ).loc Cert.Kernel5Ideal.main_v30)) (v5 : (c : Dev Cert.Kernel5Ideal.nD) → Buf (Elt Ideal) ((c.tc : Thread Cert.Kernel5Ideal.nD Cert.Kernel5Ideal.τ).loc Cert.Kernel5Ideal.main_v32)) (v6 : (c : Dev Cert.Kernel5Ideal.nD) → Buf (Elt Ideal) ((c.tc : Thread Cert.Kernel5Ideal.nD Cert.Kernel5Ideal.τ).loc Cert.Kernel5Ideal.main_v34)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_v29) = v3 c
          ∧ r.2.mem ((c.tc : Thread Cert.Kernel5Ideal.nD Cert.Kernel5Ideal.τ).loc Cert.Kernel5Ideal.main_v30) = v4 c
          ∧ r.2.mem ((c.tc : Thread Cert.Kernel5Ideal.nD Cert.Kernel5Ideal.τ).loc Cert.Kernel5Ideal.main_v32) = v5 c
          ∧ r.2.mem ((c.tc : Thread Cert.Kernel5Ideal.nD Cert.Kernel5Ideal.τ).loc Cert.Kernel5Ideal.main_v34) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v97) = v2 c
          ∧ r.2.mem ((c.tc : Thread Cert.Reference5Ideal.nD Cert.Reference5Ideal.τ).loc Cert.Reference5Ideal.main_v98) = v3 c
          ∧ r.2.mem ((c.tc : Thread Cert.Reference5Ideal.nD Cert.Reference5Ideal.τ).loc Cert.Reference5Ideal.main_v99) = v4 c
          ∧ r.2.mem ((c.tc : Thread Cert.Reference5Ideal.nD Cert.Reference5Ideal.τ).loc Cert.Reference5Ideal.main_v68) = v5 c
          ∧ r.2.mem ((c.tc : Thread Cert.Reference5Ideal.nD Cert.Reference5Ideal.τ).loc Cert.Reference5Ideal.main_v65) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)
      ∧ m' ((c.tc : Thread Cert.Reference6Ideal.nD Cert.Reference6Ideal.τ).loc Cert.Reference6Ideal.main_arg32) = m ((c.tc : Thread Cert.Kernel6Ideal.nD Cert.Kernel6Ideal.τ).loc Cert.Kernel6Ideal.main_arg32)
      ∧ m' ((c.tc : Thread Cert.Reference6Ideal.nD Cert.Reference6Ideal.τ).loc Cert.Reference6Ideal.main_arg33) = m ((c.tc : Thread Cert.Kernel6Ideal.nD Cert.Kernel6Ideal.τ).loc Cert.Kernel6Ideal.main_arg33)
      ∧ m' ((c.tc : Thread Cert.Reference6Ideal.nD Cert.Reference6Ideal.τ).loc Cert.Reference6Ideal.main_arg34) = m ((c.tc : Thread Cert.Kernel6Ideal.nD Cert.Kernel6Ideal.τ).loc Cert.Kernel6Ideal.main_arg34)
      ∧ m' ((c.tc : Thread Cert.Reference6Ideal.nD Cert.Reference6Ideal.τ).loc Cert.Reference6Ideal.main_arg35) = m ((c.tc : Thread Cert.Kernel6Ideal.nD Cert.Kernel6Ideal.τ).loc Cert.Kernel6Ideal.main_arg35)
      ∧ m' ((c.tc : Thread Cert.Reference6Ideal.nD Cert.Reference6Ideal.τ).loc Cert.Reference6Ideal.main_arg36) = m ((c.tc : Thread Cert.Kernel6Ideal.nD Cert.Kernel6Ideal.τ).loc Cert.Kernel6Ideal.main_arg36)
      ∧ m' ((c.tc : Thread Cert.Reference6Ideal.nD Cert.Reference6Ideal.τ).loc Cert.Reference6Ideal.main_arg37) = m ((c.tc : Thread Cert.Kernel6Ideal.nD Cert.Kernel6Ideal.τ).loc Cert.Kernel6Ideal.main_arg37)
      ∧ m' ((c.tc : Thread Cert.Reference6Ideal.nD Cert.Reference6Ideal.τ).loc Cert.Reference6Ideal.main_arg38) = m ((c.tc : Thread Cert.Kernel6Ideal.nD Cert.Kernel6Ideal.τ).loc Cert.Kernel6Ideal.main_arg38)
      ∧ m' ((c.tc : Thread Cert.Reference6Ideal.nD Cert.Reference6Ideal.τ).loc Cert.Reference6Ideal.main_arg39) = m ((c.tc : Thread Cert.Kernel6Ideal.nD Cert.Kernel6Ideal.τ).loc Cert.Kernel6Ideal.main_arg39)
      ∧ m' ((c.tc : Thread Cert.Reference6Ideal.nD Cert.Reference6Ideal.τ).loc Cert.Reference6Ideal.main_arg40) = m ((c.tc : Thread Cert.Kernel6Ideal.nD Cert.Kernel6Ideal.τ).loc Cert.Kernel6Ideal.main_arg40)
      ∧ m' ((c.tc : Thread Cert.Reference6Ideal.nD Cert.Reference6Ideal.τ).loc Cert.Reference6Ideal.main_arg41) = m ((c.tc : Thread Cert.Kernel6Ideal.nD Cert.Kernel6Ideal.τ).loc Cert.Kernel6Ideal.main_arg41)
      ∧ m' ((c.tc : Thread Cert.Reference6Ideal.nD Cert.Reference6Ideal.τ).loc Cert.Reference6Ideal.main_arg42) = m ((c.tc : Thread Cert.Kernel6Ideal.nD Cert.Kernel6Ideal.τ).loc Cert.Kernel6Ideal.main_arg42)
      ∧ m' ((c.tc : Thread Cert.Reference6Ideal.nD Cert.Reference6Ideal.τ).loc Cert.Reference6Ideal.main_arg43) = m ((c.tc : Thread Cert.Kernel6Ideal.nD Cert.Kernel6Ideal.τ).loc Cert.Kernel6Ideal.main_arg43)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v1_0)) (v5 : (c : Dev Cert.Kernel6Ideal.nD) → Buf (Elt Ideal) ((c.tc : Thread Cert.Kernel6Ideal.nD Cert.Kernel6Ideal.τ).loc Cert.Kernel6Ideal.main_v1_1)) (v6 : (c : Dev Cert.Kernel6Ideal.nD) → Buf (Elt Ideal) ((c.tc : Thread Cert.Kernel6Ideal.nD Cert.Kernel6Ideal.τ).loc Cert.Kernel6Ideal.main_v1_2)) (v7 : (c : Dev Cert.Kernel6Ideal.nD) → Buf (Elt Ideal) ((c.tc : Thread Cert.Kernel6Ideal.nD Cert.Kernel6Ideal.τ).loc Cert.Kernel6Ideal.main_v1_3)) (v8 : (c : Dev Cert.Kernel6Ideal.nD) → Buf (Elt Ideal) ((c.tc : Thread Cert.Kernel6Ideal.nD Cert.Kernel6Ideal.τ).loc Cert.Kernel6Ideal.main_v2_0)) (v9 : (c : Dev Cert.Kernel6Ideal.nD) → Buf (Elt Ideal) ((c.tc : Thread Cert.Kernel6Ideal.nD Cert.Kernel6Ideal.τ).loc Cert.Kernel6Ideal.main_v2_1)) (v10 : (c : Dev Cert.Kernel6Ideal.nD) → Buf (Elt Ideal) ((c.tc : Thread Cert.Kernel6Ideal.nD Cert.Kernel6Ideal.τ).loc Cert.Kernel6Ideal.main_v2_2)) (v11 : (c : Dev Cert.Kernel6Ideal.nD) → Buf (Elt Ideal) ((c.tc : Thread Cert.Kernel6Ideal.nD Cert.Kernel6Ideal.τ).loc Cert.Kernel6Ideal.main_v2_3)) (v12 : (c : Dev Cert.Kernel6Ideal.nD) → Buf (Elt Ideal) ((c.tc : Thread Cert.Kernel6Ideal.nD Cert.Kernel6Ideal.τ).loc Cert.Kernel6Ideal.main_v3_0)) (v13 : (c : Dev Cert.Kernel6Ideal.nD) → Buf (Elt Ideal) ((c.tc : Thread Cert.Kernel6Ideal.nD Cert.Kernel6Ideal.τ).loc Cert.Kernel6Ideal.main_v3_1)) (v14 : (c : Dev Cert.Kernel6Ideal.nD) → Buf (Elt Ideal) ((c.tc : Thread Cert.Kernel6Ideal.nD Cert.Kernel6Ideal.τ).loc Cert.Kernel6Ideal.main_v3_2)) (v15 : (c : Dev Cert.Kernel6Ideal.nD) → Buf (Elt Ideal) ((c.tc : Thread Cert.Kernel6Ideal.nD Cert.Kernel6Ideal.τ).loc Cert.Kernel6Ideal.main_v3_3)) (v16 : (c : Dev Cert.Kernel6Ideal.nD) → Buf (Elt Ideal) ((c.tc : Thread Cert.Kernel6Ideal.nD Cert.Kernel6Ideal.τ).loc Cert.Kernel6Ideal.main_v4_0)) (v17 : (c : Dev Cert.Kernel6Ideal.nD) → Buf (Elt Ideal) ((c.tc : Thread Cert.Kernel6Ideal.nD Cert.Kernel6Ideal.τ).loc Cert.Kernel6Ideal.main_v4_1)) (v18 : (c : Dev Cert.Kernel6Ideal.nD) → Buf (Elt Ideal) ((c.tc : Thread Cert.Kernel6Ideal.nD Cert.Kernel6Ideal.τ).loc Cert.Kernel6Ideal.main_v4_2)) (v19 : (c : Dev Cert.Kernel6Ideal.nD) → Buf (Elt Ideal) ((c.tc : Thread Cert.Kernel6Ideal.nD Cert.Kernel6Ideal.τ).loc Cert.Kernel6Ideal.main_v4_3)) (v20 : (c : Dev Cert.Kernel6Ideal.nD) → Buf (Elt Ideal) ((c.tc : Thread Cert.Kernel6Ideal.nD Cert.Kernel6Ideal.τ).loc Cert.Kernel6Ideal.main_v5_0)) (v21 : (c : Dev Cert.Kernel6Ideal.nD) → Buf (Elt Ideal) ((c.tc : Thread Cert.Kernel6Ideal.nD Cert.Kernel6Ideal.τ).loc Cert.Kernel6Ideal.main_v5_1)) (v22 : (c : Dev Cert.Kernel6Ideal.nD) → Buf (Elt Ideal) ((c.tc : Thread Cert.Kernel6Ideal.nD Cert.Kernel6Ideal.τ).loc Cert.Kernel6Ideal.main_v5_2)) (v23 : (c : Dev Cert.Kernel6Ideal.nD) → Buf (Elt Ideal) ((c.tc : Thread Cert.Kernel6Ideal.nD Cert.Kernel6Ideal.τ).loc Cert.Kernel6Ideal.main_v5_3)) (v24 : (c : Dev Cert.Kernel6Ideal.nD) → Buf (Elt Ideal) ((c.tc : Thread Cert.Kernel6Ideal.nD Cert.Kernel6Ideal.τ).loc Cert.Kernel6Ideal.main_v6_0)) (v25 : (c : Dev Cert.Kernel6Ideal.nD) → Buf (Elt Ideal) ((c.tc : Thread Cert.Kernel6Ideal.nD Cert.Kernel6Ideal.τ).loc Cert.Kernel6Ideal.main_v6_1)) (v26 : (c : Dev Cert.Kernel6Ideal.nD) → Buf (Elt Ideal) ((c.tc : Thread Cert.Kernel6Ideal.nD Cert.Kernel6Ideal.τ).loc Cert.Kernel6Ideal.main_v6_2)) (v27 : (c : Dev Cert.Kernel6Ideal.nD) → Buf (Elt Ideal) ((c.tc : Thread Cert.Kernel6Ideal.nD Cert.Kernel6Ideal.τ).loc Cert.Kernel6Ideal.main_v6_3)) (v28 : (c : Dev Cert.Kernel6Ideal.nD) → Buf (Elt Ideal) ((c.tc : Thread Cert.Kernel6Ideal.nD Cert.Kernel6Ideal.τ).loc Cert.Kernel6Ideal.main_v7_0)) (v29 : (c : Dev Cert.Kernel6Ideal.nD) → Buf (Elt Ideal) ((c.tc : Thread Cert.Kernel6Ideal.nD Cert.Kernel6Ideal.τ).loc Cert.Kernel6Ideal.main_v7_1)) (v30 : (c : Dev Cert.Kernel6Ideal.nD) → Buf (Elt Ideal) ((c.tc : Thread Cert.Kernel6Ideal.nD Cert.Kernel6Ideal.τ).loc Cert.Kernel6Ideal.main_v7_2)) (v31 : (c : Dev Cert.Kernel6Ideal.nD) → Buf (Elt Ideal) ((c.tc : Thread Cert.Kernel6Ideal.nD Cert.Kernel6Ideal.τ).loc Cert.Kernel6Ideal.main_v7_3)) (v32 : (c : Dev Cert.Kernel6Ideal.nD) → Buf (Elt Ideal) ((c.tc : Thread Cert.Kernel6Ideal.nD Cert.Kernel6Ideal.τ).loc Cert.Kernel6Ideal.main_v8_0)) (v33 : (c : Dev Cert.Kernel6Ideal.nD) → Buf (Elt Ideal) ((c.tc : Thread Cert.Kernel6Ideal.nD Cert.Kernel6Ideal.τ).loc Cert.Kernel6Ideal.main_v8_1)) (v34 : (c : Dev Cert.Kernel6Ideal.nD) → Buf (Elt Ideal) ((c.tc : Thread Cert.Kernel6Ideal.nD Cert.Kernel6Ideal.τ).loc Cert.Kernel6Ideal.main_v8_2)) (v35 : (c : Dev Cert.Kernel6Ideal.nD) → Buf (Elt Ideal) ((c.tc : Thread Cert.Kernel6Ideal.nD Cert.Kernel6Ideal.τ).loc Cert.Kernel6Ideal.main_v8_3)) (v36 : (c : Dev Cert.Kernel6Ideal.nD) → Buf (Elt Ideal) ((c.tc : Thread Cert.Kernel6Ideal.nD Cert.Kernel6Ideal.τ).loc Cert.Kernel6Ideal.main_v9_0)) (v37 : (c : Dev Cert.Kernel6Ideal.nD) → Buf (Elt Ideal) ((c.tc : Thread Cert.Kernel6Ideal.nD Cert.Kernel6Ideal.τ).loc Cert.Kernel6Ideal.main_v9_1)) (v38 : (c : Dev Cert.Kernel6Ideal.nD) → Buf (Elt Ideal) ((c.tc : Thread Cert.Kernel6Ideal.nD Cert.Kernel6Ideal.τ).loc Cert.Kernel6Ideal.main_v9_2)) (v39 : (c : Dev Cert.Kernel6Ideal.nD) → Buf (Elt Ideal) ((c.tc : Thread Cert.Kernel6Ideal.nD Cert.Kernel6Ideal.τ).loc Cert.Kernel6Ideal.main_v9_3)) (v40 : (c : Dev Cert.Kernel6Ideal.nD) → Buf (Elt Ideal) ((c.tc : Thread Cert.Kernel6Ideal.nD Cert.Kernel6Ideal.τ).loc Cert.Kernel6Ideal.main_v10_0)) (v41 : (c : Dev Cert.Kernel6Ideal.nD) → Buf (Elt Ideal) ((c.tc : Thread Cert.Kernel6Ideal.nD Cert.Kernel6Ideal.τ).loc Cert.Kernel6Ideal.main_v10_1)) (v42 : (c : Dev Cert.Kernel6Ideal.nD) → Buf (Elt Ideal) ((c.tc : Thread Cert.Kernel6Ideal.nD Cert.Kernel6Ideal.τ).loc Cert.Kernel6Ideal.main_v10_2)) (v43 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v1_0) = v4 c
          ∧ r.2.mem ((c.tc : Thread Cert.Kernel6Ideal.nD Cert.Kernel6Ideal.τ).loc Cert.Kernel6Ideal.main_v1_1) = v5 c
          ∧ r.2.mem ((c.tc : Thread Cert.Kernel6Ideal.nD Cert.Kernel6Ideal.τ).loc Cert.Kernel6Ideal.main_v1_2) = v6 c
          ∧ r.2.mem ((c.tc : Thread Cert.Kernel6Ideal.nD Cert.Kernel6Ideal.τ).loc Cert.Kernel6Ideal.main_v1_3) = v7 c
          ∧ r.2.mem ((c.tc : Thread Cert.Kernel6Ideal.nD Cert.Kernel6Ideal.τ).loc Cert.Kernel6Ideal.main_v2_0) = v8 c
          ∧ r.2.mem ((c.tc : Thread Cert.Kernel6Ideal.nD Cert.Kernel6Ideal.τ).loc Cert.Kernel6Ideal.main_v2_1) = v9 c
          ∧ r.2.mem ((c.tc : Thread Cert.Kernel6Ideal.nD Cert.Kernel6Ideal.τ).loc Cert.Kernel6Ideal.main_v2_2) = v10 c
          ∧ r.2.mem ((c.tc : Thread Cert.Kernel6Ideal.nD Cert.Kernel6Ideal.τ).loc Cert.Kernel6Ideal.main_v2_3) = v11 c
          ∧ r.2.mem ((c.tc : Thread Cert.Kernel6Ideal.nD Cert.Kernel6Ideal.τ).loc Cert.Kernel6Ideal.main_v3_0) = v12 c
          ∧ r.2.mem ((c.tc : Thread Cert.Kernel6Ideal.nD Cert.Kernel6Ideal.τ).loc Cert.Kernel6Ideal.main_v3_1) = v13 c
          ∧ r.2.mem ((c.tc : Thread Cert.Kernel6Ideal.nD Cert.Kernel6Ideal.τ).loc Cert.Kernel6Ideal.main_v3_2) = v14 c
          ∧ r.2.mem ((c.tc : Thread Cert.Kernel6Ideal.nD Cert.Kernel6Ideal.τ).loc Cert.Kernel6Ideal.main_v3_3) = v15 c
          ∧ r.2.mem ((c.tc : Thread Cert.Kernel6Ideal.nD Cert.Kernel6Ideal.τ).loc Cert.Kernel6Ideal.main_v4_0) = v16 c
          ∧ r.2.mem ((c.tc : Thread Cert.Kernel6Ideal.nD Cert.Kernel6Ideal.τ).loc Cert.Kernel6Ideal.main_v4_1) = v17 c
          ∧ r.2.mem ((c.tc : Thread Cert.Kernel6Ideal.nD Cert.Kernel6Ideal.τ).loc Cert.Kernel6Ideal.main_v4_2) = v18 c
          ∧ r.2.mem ((c.tc : Thread Cert.Kernel6Ideal.nD Cert.Kernel6Ideal.τ).loc Cert.Kernel6Ideal.main_v4_3) = v19 c
          ∧ r.2.mem ((c.tc : Thread Cert.Kernel6Ideal.nD Cert.Kernel6Ideal.τ).loc Cert.Kernel6Ideal.main_v5_0) = v20 c
          ∧ r.2.mem ((c.tc : Thread Cert.Kernel6Ideal.nD Cert.Kernel6Ideal.τ).loc Cert.Kernel6Ideal.main_v5_1) = v21 c
          ∧ r.2.mem ((c.tc : Thread Cert.Kernel6Ideal.nD Cert.Kernel6Ideal.τ).loc Cert.Kernel6Ideal.main_v5_2) = v22 c
          ∧ r.2.mem ((c.tc : Thread Cert.Kernel6Ideal.nD Cert.Kernel6Ideal.τ).loc Cert.Kernel6Ideal.main_v5_3) = v23 c
          ∧ r.2.mem ((c.tc : Thread Cert.Kernel6Ideal.nD Cert.Kernel6Ideal.τ).loc Cert.Kernel6Ideal.main_v6_0) = v24 c
          ∧ r.2.mem ((c.tc : Thread Cert.Kernel6Ideal.nD Cert.Kernel6Ideal.τ).loc Cert.Kernel6Ideal.main_v6_1) = v25 c
          ∧ r.2.mem ((c.tc : Thread Cert.Kernel6Ideal.nD Cert.Kernel6Ideal.τ).loc Cert.Kernel6Ideal.main_v6_2) = v26 c
          ∧ r.2.mem ((c.tc : Thread Cert.Kernel6Ideal.nD Cert.Kernel6Ideal.τ).loc Cert.Kernel6Ideal.main_v6_3) = v27 c
          ∧ r.2.mem ((c.tc : Thread Cert.Kernel6Ideal.nD Cert.Kernel6Ideal.τ).loc Cert.Kernel6Ideal.main_v7_0) = v28 c
          ∧ r.2.mem ((c.tc : Thread Cert.Kernel6Ideal.nD Cert.Kernel6Ideal.τ).loc Cert.Kernel6Ideal.main_v7_1) = v29 c
          ∧ r.2.mem ((c.tc : Thread Cert.Kernel6Ideal.nD Cert.Kernel6Ideal.τ).loc Cert.Kernel6Ideal.main_v7_2) = v30 c
          ∧ r.2.mem ((c.tc : Thread Cert.Kernel6Ideal.nD Cert.Kernel6Ideal.τ).loc Cert.Kernel6Ideal.main_v7_3) = v31 c
          ∧ r.2.mem ((c.tc : Thread Cert.Kernel6Ideal.nD Cert.Kernel6Ideal.τ).loc Cert.Kernel6Ideal.main_v8_0) = v32 c
          ∧ r.2.mem ((c.tc : Thread Cert.Kernel6Ideal.nD Cert.Kernel6Ideal.τ).loc Cert.Kernel6Ideal.main_v8_1) = v33 c
          ∧ r.2.mem ((c.tc : Thread Cert.Kernel6Ideal.nD Cert.Kernel6Ideal.τ).loc Cert.Kernel6Ideal.main_v8_2) = v34 c
          ∧ r.2.mem ((c.tc : Thread Cert.Kernel6Ideal.nD Cert.Kernel6Ideal.τ).loc Cert.Kernel6Ideal.main_v8_3) = v35 c
          ∧ r.2.mem ((c.tc : Thread Cert.Kernel6Ideal.nD Cert.Kernel6Ideal.τ).loc Cert.Kernel6Ideal.main_v9_0) = v36 c
          ∧ r.2.mem ((c.tc : Thread Cert.Kernel6Ideal.nD Cert.Kernel6Ideal.τ).loc Cert.Kernel6Ideal.main_v9_1) = v37 c
          ∧ r.2.mem ((c.tc : Thread Cert.Kernel6Ideal.nD Cert.Kernel6Ideal.τ).loc Cert.Kernel6Ideal.main_v9_2) = v38 c
          ∧ r.2.mem ((c.tc : Thread Cert.Kernel6Ideal.nD Cert.Kernel6Ideal.τ).loc Cert.Kernel6Ideal.main_v9_3) = v39 c
          ∧ r.2.mem ((c.tc : Thread Cert.Kernel6Ideal.nD Cert.Kernel6Ideal.τ).loc Cert.Kernel6Ideal.main_v10_0) = v40 c
          ∧ r.2.mem ((c.tc : Thread Cert.Kernel6Ideal.nD Cert.Kernel6Ideal.τ).loc Cert.Kernel6Ideal.main_v10_1) = v41 c
          ∧ r.2.mem ((c.tc : Thread Cert.Kernel6Ideal.nD Cert.Kernel6Ideal.τ).loc Cert.Kernel6Ideal.main_v10_2) = v42 c
          ∧ r.2.mem ((c.tc : Thread Cert.Kernel6Ideal.nD Cert.Kernel6Ideal.τ).loc Cert.Kernel6Ideal.main_v10_3) = v43 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
          ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
          ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
          ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
          ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35)
          ∧ r.2.mem ((c.tc : Thread Cert.Kernel6Ideal.nD Cert.Kernel6Ideal.τ).loc Cert.Kernel6Ideal.main_arg36) = m ((c.tc : Thread Cert.Kernel6Ideal.nD Cert.Kernel6Ideal.τ).loc Cert.Kernel6Ideal.main_arg36)
          ∧ r.2.mem ((c.tc : Thread Cert.Kernel6Ideal.nD Cert.Kernel6Ideal.τ).loc Cert.Kernel6Ideal.main_arg37) = m ((c.tc : Thread Cert.Kernel6Ideal.nD Cert.Kernel6Ideal.τ).loc Cert.Kernel6Ideal.main_arg37)
          ∧ r.2.mem ((c.tc : Thread Cert.Kernel6Ideal.nD Cert.Kernel6Ideal.τ).loc Cert.Kernel6Ideal.main_arg38) = m ((c.tc : Thread Cert.Kernel6Ideal.nD Cert.Kernel6Ideal.τ).loc Cert.Kernel6Ideal.main_arg38)
          ∧ r.2.mem ((c.tc : Thread Cert.Kernel6Ideal.nD Cert.Kernel6Ideal.τ).loc Cert.Kernel6Ideal.main_arg39) = m ((c.tc : Thread Cert.Kernel6Ideal.nD Cert.Kernel6Ideal.τ).loc Cert.Kernel6Ideal.main_arg39)
          ∧ r.2.mem ((c.tc : Thread Cert.Kernel6Ideal.nD Cert.Kernel6Ideal.τ).loc Cert.Kernel6Ideal.main_arg40) = m ((c.tc : Thread Cert.Kernel6Ideal.nD Cert.Kernel6Ideal.τ).loc Cert.Kernel6Ideal.main_arg40)
          ∧ r.2.mem ((c.tc : Thread Cert.Kernel6Ideal.nD Cert.Kernel6Ideal.τ).loc Cert.Kernel6Ideal.main_arg41) = m ((c.tc : Thread Cert.Kernel6Ideal.nD Cert.Kernel6Ideal.τ).loc Cert.Kernel6Ideal.main_arg41)
          ∧ r.2.mem ((c.tc : Thread Cert.Kernel6Ideal.nD Cert.Kernel6Ideal.τ).loc Cert.Kernel6Ideal.main_arg42) = m ((c.tc : Thread Cert.Kernel6Ideal.nD Cert.Kernel6Ideal.τ).loc Cert.Kernel6Ideal.main_arg42)
          ∧ r.2.mem ((c.tc : Thread Cert.Kernel6Ideal.nD Cert.Kernel6Ideal.τ).loc Cert.Kernel6Ideal.main_arg43) = m ((c.tc : Thread Cert.Kernel6Ideal.nD Cert.Kernel6Ideal.τ).loc Cert.Kernel6Ideal.main_arg43))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v27) = v4 c
          ∧ r.2.mem ((c.tc : Thread Cert.Reference6Ideal.nD Cert.Reference6Ideal.τ).loc Cert.Reference6Ideal.main_v51) = v5 c
          ∧ r.2.mem ((c.tc : Thread Cert.Reference6Ideal.nD Cert.Reference6Ideal.τ).loc Cert.Reference6Ideal.main_v32) = v6 c
          ∧ r.2.mem ((c.tc : Thread Cert.Reference6Ideal.nD Cert.Reference6Ideal.τ).loc Cert.Reference6Ideal.main_v38) = v7 c
          ∧ r.2.mem ((c.tc : Thread Cert.Reference6Ideal.nD Cert.Reference6Ideal.τ).loc Cert.Reference6Ideal.main_v53) = v8 c
          ∧ r.2.mem ((c.tc : Thread Cert.Reference6Ideal.nD Cert.Reference6Ideal.τ).loc Cert.Reference6Ideal.main_v77) = v9 c
          ∧ r.2.mem ((c.tc : Thread Cert.Reference6Ideal.nD Cert.Reference6Ideal.τ).loc Cert.Reference6Ideal.main_v58) = v10 c
          ∧ r.2.mem ((c.tc : Thread Cert.Reference6Ideal.nD Cert.Reference6Ideal.τ).loc Cert.Reference6Ideal.main_v64) = v11 c
          ∧ r.2.mem ((c.tc : Thread Cert.Reference6Ideal.nD Cert.Reference6Ideal.τ).loc Cert.Reference6Ideal.main_v79) = v12 c
          ∧ r.2.mem ((c.tc : Thread Cert.Reference6Ideal.nD Cert.Reference6Ideal.τ).loc Cert.Reference6Ideal.main_v103) = v13 c
          ∧ r.2.mem ((c.tc : Thread Cert.Reference6Ideal.nD Cert.Reference6Ideal.τ).loc Cert.Reference6Ideal.main_v84) = v14 c
          ∧ r.2.mem ((c.tc : Thread Cert.Reference6Ideal.nD Cert.Reference6Ideal.τ).loc Cert.Reference6Ideal.main_v90) = v15 c
          ∧ r.2.mem ((c.tc : Thread Cert.Reference6Ideal.nD Cert.Reference6Ideal.τ).loc Cert.Reference6Ideal.main_v105) = v16 c
          ∧ r.2.mem ((c.tc : Thread Cert.Reference6Ideal.nD Cert.Reference6Ideal.τ).loc Cert.Reference6Ideal.main_v129) = v17 c
          ∧ r.2.mem ((c.tc : Thread Cert.Reference6Ideal.nD Cert.Reference6Ideal.τ).loc Cert.Reference6Ideal.main_v110) = v18 c
          ∧ r.2.mem ((c.tc : Thread Cert.Reference6Ideal.nD Cert.Reference6Ideal.τ).loc Cert.Reference6Ideal.main_v116) = v19 c
          ∧ r.2.mem ((c.tc : Thread Cert.Reference6Ideal.nD Cert.Reference6Ideal.τ).loc Cert.Reference6Ideal.main_v131) = v20 c
          ∧ r.2.mem ((c.tc : Thread Cert.Reference6Ideal.nD Cert.Reference6Ideal.τ).loc Cert.Reference6Ideal.main_v155) = v21 c
          ∧ r.2.mem ((c.tc : Thread Cert.Reference6Ideal.nD Cert.Reference6Ideal.τ).loc Cert.Reference6Ideal.main_v136) = v22 c
          ∧ r.2.mem ((c.tc : Thread Cert.Reference6Ideal.nD Cert.Reference6Ideal.τ).loc Cert.Reference6Ideal.main_v142) = v23 c
          ∧ r.2.mem ((c.tc : Thread Cert.Reference6Ideal.nD Cert.Reference6Ideal.τ).loc Cert.Reference6Ideal.main_v157) = v24 c
          ∧ r.2.mem ((c.tc : Thread Cert.Reference6Ideal.nD Cert.Reference6Ideal.τ).loc Cert.Reference6Ideal.main_v181) = v25 c
          ∧ r.2.mem ((c.tc : Thread Cert.Reference6Ideal.nD Cert.Reference6Ideal.τ).loc Cert.Reference6Ideal.main_v162) = v26 c
          ∧ r.2.mem ((c.tc : Thread Cert.Reference6Ideal.nD Cert.Reference6Ideal.τ).loc Cert.Reference6Ideal.main_v168) = v27 c
          ∧ r.2.mem ((c.tc : Thread Cert.Reference6Ideal.nD Cert.Reference6Ideal.τ).loc Cert.Reference6Ideal.main_v183) = v28 c
          ∧ r.2.mem ((c.tc : Thread Cert.Reference6Ideal.nD Cert.Reference6Ideal.τ).loc Cert.Reference6Ideal.main_v207) = v29 c
          ∧ r.2.mem ((c.tc : Thread Cert.Reference6Ideal.nD Cert.Reference6Ideal.τ).loc Cert.Reference6Ideal.main_v188) = v30 c
          ∧ r.2.mem ((c.tc : Thread Cert.Reference6Ideal.nD Cert.Reference6Ideal.τ).loc Cert.Reference6Ideal.main_v194) = v31 c
          ∧ r.2.mem ((c.tc : Thread Cert.Reference6Ideal.nD Cert.Reference6Ideal.τ).loc Cert.Reference6Ideal.main_v209) = v32 c
          ∧ r.2.mem ((c.tc : Thread Cert.Reference6Ideal.nD Cert.Reference6Ideal.τ).loc Cert.Reference6Ideal.main_v233) = v33 c
          ∧ r.2.mem ((c.tc : Thread Cert.Reference6Ideal.nD Cert.Reference6Ideal.τ).loc Cert.Reference6Ideal.main_v214) = v34 c
          ∧ r.2.mem ((c.tc : Thread Cert.Reference6Ideal.nD Cert.Reference6Ideal.τ).loc Cert.Reference6Ideal.main_v220) = v35 c
          ∧ r.2.mem ((c.tc : Thread Cert.Reference6Ideal.nD Cert.Reference6Ideal.τ).loc Cert.Reference6Ideal.main_v235) = v36 c
          ∧ r.2.mem ((c.tc : Thread Cert.Reference6Ideal.nD Cert.Reference6Ideal.τ).loc Cert.Reference6Ideal.main_v259) = v37 c
          ∧ r.2.mem ((c.tc : Thread Cert.Reference6Ideal.nD Cert.Reference6Ideal.τ).loc Cert.Reference6Ideal.main_v240) = v38 c
          ∧ r.2.mem ((c.tc : Thread Cert.Reference6Ideal.nD Cert.Reference6Ideal.τ).loc Cert.Reference6Ideal.main_v246) = v39 c
          ∧ r.2.mem ((c.tc : Thread Cert.Reference6Ideal.nD Cert.Reference6Ideal.τ).loc Cert.Reference6Ideal.main_v261) = v40 c
          ∧ r.2.mem ((c.tc : Thread Cert.Reference6Ideal.nD Cert.Reference6Ideal.τ).loc Cert.Reference6Ideal.main_v285) = v41 c
          ∧ r.2.mem ((c.tc : Thread Cert.Reference6Ideal.nD Cert.Reference6Ideal.τ).loc Cert.Reference6Ideal.main_v266) = v42 c
          ∧ r.2.mem ((c.tc : Thread Cert.Reference6Ideal.nD Cert.Reference6Ideal.τ).loc Cert.Reference6Ideal.main_v272) = v43 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31)
          ∧ r.2.mem ((c.tc : Thread Cert.Reference6Ideal.nD Cert.Reference6Ideal.τ).loc Cert.Reference6Ideal.main_arg32) = m' ((c.tc : Thread Cert.Reference6Ideal.nD Cert.Reference6Ideal.τ).loc Cert.Reference6Ideal.main_arg32)
          ∧ r.2.mem ((c.tc : Thread Cert.Reference6Ideal.nD Cert.Reference6Ideal.τ).loc Cert.Reference6Ideal.main_arg33) = m' ((c.tc : Thread Cert.Reference6Ideal.nD Cert.Reference6Ideal.τ).loc Cert.Reference6Ideal.main_arg33)
          ∧ r.2.mem ((c.tc : Thread Cert.Reference6Ideal.nD Cert.Reference6Ideal.τ).loc Cert.Reference6Ideal.main_arg34) = m' ((c.tc : Thread Cert.Reference6Ideal.nD Cert.Reference6Ideal.τ).loc Cert.Reference6Ideal.main_arg34)
          ∧ r.2.mem ((c.tc : Thread Cert.Reference6Ideal.nD Cert.Reference6Ideal.τ).loc Cert.Reference6Ideal.main_arg35) = m' ((c.tc : Thread Cert.Reference6Ideal.nD Cert.Reference6Ideal.τ).loc Cert.Reference6Ideal.main_arg35)
          ∧ r.2.mem ((c.tc : Thread Cert.Reference6Ideal.nD Cert.Reference6Ideal.τ).loc Cert.Reference6Ideal.main_arg36) = m' ((c.tc : Thread Cert.Reference6Ideal.nD Cert.Reference6Ideal.τ).loc Cert.Reference6Ideal.main_arg36)
          ∧ r.2.mem ((c.tc : Thread Cert.Reference6Ideal.nD Cert.Reference6Ideal.τ).loc Cert.Reference6Ideal.main_arg37) = m' ((c.tc : Thread Cert.Reference6Ideal.nD Cert.Reference6Ideal.τ).loc Cert.Reference6Ideal.main_arg37)
          ∧ r.2.mem ((c.tc : Thread Cert.Reference6Ideal.nD Cert.Reference6Ideal.τ).loc Cert.Reference6Ideal.main_arg38) = m' ((c.tc : Thread Cert.Reference6Ideal.nD Cert.Reference6Ideal.τ).loc Cert.Reference6Ideal.main_arg38)
          ∧ r.2.mem ((c.tc : Thread Cert.Reference6Ideal.nD Cert.Reference6Ideal.τ).loc Cert.Reference6Ideal.main_arg39) = m' ((c.tc : Thread Cert.Reference6Ideal.nD Cert.Reference6Ideal.τ).loc Cert.Reference6Ideal.main_arg39)
          ∧ r.2.mem ((c.tc : Thread Cert.Reference6Ideal.nD Cert.Reference6Ideal.τ).loc Cert.Reference6Ideal.main_arg40) = m' ((c.tc : Thread Cert.Reference6Ideal.nD Cert.Reference6Ideal.τ).loc Cert.Reference6Ideal.main_arg40)
          ∧ r.2.mem ((c.tc : Thread Cert.Reference6Ideal.nD Cert.Reference6Ideal.τ).loc Cert.Reference6Ideal.main_arg41) = m' ((c.tc : Thread Cert.Reference6Ideal.nD Cert.Reference6Ideal.τ).loc Cert.Reference6Ideal.main_arg41)
          ∧ r.2.mem ((c.tc : Thread Cert.Reference6Ideal.nD Cert.Reference6Ideal.τ).loc Cert.Reference6Ideal.main_arg42) = m' ((c.tc : Thread Cert.Reference6Ideal.nD Cert.Reference6Ideal.τ).loc Cert.Reference6Ideal.main_arg42)
          ∧ r.2.mem ((c.tc : Thread Cert.Reference6Ideal.nD Cert.Reference6Ideal.τ).loc Cert.Reference6Ideal.main_arg43) = m' ((c.tc : Thread Cert.Reference6Ideal.nD Cert.Reference6Ideal.τ).loc Cert.Reference6Ideal.main_arg43))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x3584 : Shape := ⟨2, ![4096, 3584]⟩
abbrev S4096x512 : Shape := ⟨2, ![4096, 512]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩

class Facts : Prop where
  bcast_S_S4096x3584 : S_.BroadcastsInDim S4096x3584 (![] : Fin 0 → Fin S4096x3584.rank)
  bcast_S_S4096x512 : S_.BroadcastsInDim S4096x512 (![] : Fin 0 → Fin S4096x512.rank)
  bcast_S_S1x512 : S_.BroadcastsInDim S1x512 (![] : Fin 0 → Fin S1x512.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S4096x3584 .f32) (main_arg1 : FVec F S4096x512 .f32) (main_arg2 : FVec F S1x512 .f32) (main_arg3 : FVec F S1x512 .f32) (main_arg4 : FVec F S8x128x128 .f32) (main_arg5 : FVec F S8x128 .f32) : IVec S4096x3584 1 × IVec S4096x512 1 × IVec S1x512 1 × IVec S1x512 1 × IVec S8x128x128 1 × IVec S8x128 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Pre_finite2.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1x1024 : S_.BroadcastsInDim S1x1024 (![] : Fin 0 → Fin S1x1024.rank)
  bcast_S_S1024x3584 : S_.BroadcastsInDim S1024x3584 (![] : Fin 0 → Fin S1024x3584.rank)
  bcast_S_S4096x3584 : S_.BroadcastsInDim S4096x3584 (![] : Fin 0 → Fin S4096x3584.rank)

variable [Facts]

def fn_part1 {F : FTy → Type} [FloatOps F] (main_arg7 : FVec F S4096x1024 .f32) (main_v2 : IVec S4096x1024 1) (main_v5 : IVec S1024x5632 1) (main_v8 : IVec S2816x1024 1) (main_v11 : IVec S1x1024 1) (main_v14 : IVec S1024x3584 1) (main_v17 : IVec S4096x3584 1) : IVec S4096x1024 1 × IVec S1024x5632 1 × IVec S2816x1024 1 × IVec S1x1024 1 × IVec S1024x3584 1 × IVec S4096x3584 1 × IVec S4096x1024 1 :=
  let main_v18 : FVec F S4096x1024 .f32 := Host.absf main_arg7
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1024x5632 .f32) (main_arg2 : FVec F S2816x1024 .f32) (main_arg3 : FVec F S1x1024 .f32) (main_arg4 : FVec F S1x1024 .f32) (main_arg5 : FVec F S1024x3584 .f32) (main_arg6 : FVec F S4096x3584 .f32) (main_arg7 : FVec F S4096x1024 .f32) : IVec S4096x1024 1 × IVec S1024x5632 1 × IVec S2816x1024 1 × IVec S1x1024 1 × IVec S1024x3584 1 × IVec S4096x3584 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x3584 .f32 := Host.absf main_arg5
  let main_cst_3 : FVec F S_ .f32 := constant S_ .f32 0x7F800000#32
  let main_v13 : FVec F S1024x3584 .f32 := broadcastInDim S1024x3584 ![] bcast_S_S1024x3584 main_cst_3
  let main_v14 : IVec S1024x3584 1 := cmpf .olt main_v12 main_v13
  let main_v15 : FVec F S4096x3584 .f32 := Host.absf main_arg6
  let main_cst_4 : FVec F S_ .f32 := constant S_ .f32 0x7F800000#32
  let main_v16 : FVec F S4096x3584 .f32 := broadcastInDim S4096x3584 ![] bcast_S_S4096x3584 main_cst_4
  let main_v17 : IVec S4096x3584 1 := cmpf .olt main_v15 main_v16
  fn_part1 (F := F) main_arg7 main_v2 main_v5 main_v8 main_v11 main_v14 main_v17
-- ==== Pre_finite3.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2816x1024 .f32) (main_arg9 : FVec F S4096x1024 .f32) (main_v2 : IVec S4096x1024 1) (main_v5 : IVec S4096x1024 1) (main_v8 : IVec S1024x1024 1) (main_v11 : IVec S1x1024 1) (main_v14 : IVec S1x1024 1) (main_v17 : IVec S1024x5632 1) : IVec S4096x1024 1 × IVec S4096x1024 1 × IVec S1024x1024 1 × IVec S1x1024 1 × IVec S1x1024 1 × IVec S1024x5632 1 × IVec S2816x1024 1 × IVec S4096x1024 1 :=
  let main_v18 : FVec F S2816x1024 .f32 := Host.absf main_arg6
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S4096x1024 .f32 := Host.absf main_arg9
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1024x1024 .f32) (main_arg3 : FVec F S1x1024 .f32) (main_arg4 : FVec F S1x1024 .f32) (main_arg5 : FVec F S1024x5632 .f32) (main_arg6 : FVec F S2816x1024 .f32) (main_arg7 : FVec F S1x1024 .f32) (main_arg8 : FVec F S1x1024 .f32) (main_arg9 : FVec F S4096x1024 .f32) : IVec S4096x1024 1 × IVec S4096x1024 1 × IVec S1024x1024 1 × IVec S1x1024 1 × IVec S1x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x5632 .f32 := Host.absf main_arg5
  let main_cst_4 : FVec F S_ .f32 := constant S_ .f32 0x7F800000#32
  let main_v16 : FVec F S1024x5632 .f32 := broadcastInDim S1024x5632 ![] bcast_S_S1024x5632 main_cst_4
  let main_v17 : IVec S1024x5632 1 := cmpf .olt main_v15 main_v16
  fn_part1 (F := F) main_arg6 main_arg9 main_v2 main_v5 main_v8 main_v11 main_v14 main_v17
-- ==== Pre_finite5.lean ====
abbrev S4096x1024 : Shape := ⟨2, ![4096, 1024]⟩
abbrev S1x1024 : Shape := ⟨2, ![1, 1024]⟩
abbrev S4096x256 : Shape := ⟨2, ![4096, 256]⟩
abbrev S1024x1024 : Shape := ⟨2, ![1024, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S4096x256 : S_.BroadcastsInDim S4096x256 (![] : Fin 0 → Fin S4096x256.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_v2 : IVec S4096x1024 1) (main_v5 : IVec S1x1024 1) (main_v8 : IVec S1x1024 1) (main_v11 : IVec S4096x256 1) (main_v14 : IVec S4096x1024 1) (main_v17 : IVec S1024x1024 1) : IVec S4096x1024 1 × IVec S1x1024 1 × IVec S1x1024 1 × IVec S4096x256 1 × IVec S4096x1024 1 × IVec S1024x1024 1 × IVec S256x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1x1024 .f32) (main_arg3 : FVec F S4096x256 .f32) (main_arg4 : FVec F S4096x1024 .f32) (main_arg5 : FVec F S1024x1024 .f32) (main_arg6 : FVec F S256x1024 .f32) : IVec S4096x1024 1 × IVec S1x1024 1 × IVec S1x1024 1 × IVec S4096x256 1 × IVec S4096x1024 1 × IVec S1024x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Kernel.lean ====
abbrev S4096x3584 : Shape := ⟨2, ![4096, 3584]⟩
abbrev S4096x512 : Shape := ⟨2, ![4096, 512]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S8x512 : Shape := ⟨2, ![8, 512]⟩
abbrev S512x512 : Shape := ⟨2, ![512, 512]⟩
abbrev S128 : Shape := ⟨1, ![128]⟩
abbrev S128x1 : Shape := ⟨2, ![128, 1]⟩
abbrev S16x8x512 : Shape := ⟨3, ![16, 8, 512]⟩
abbrev S512 : Shape := ⟨1, ![512]⟩

abbrev nBuf : Space → Nat
  | .hbm => 50
  | .vmem => 19
  | .smem => 0
  | _ => 0

abbrev bufTy : (tb : Table) → Fin (tcTables nBuf tb) → BufTy
  | .hbm, ⟨0, _⟩ => ⟨S4096x3584, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S8x128x128, .bf16⟩
  | .hbm, ⟨25, _⟩ => ⟨S128x8, .f32⟩
  | .hbm, ⟨26, _⟩ => ⟨S128x8x64, .f32⟩
  | .hbm, ⟨27, _⟩ => ⟨S128x512, .f32⟩
  | .hbm, ⟨28, _⟩ => ⟨S4096x512, .bf16⟩
  | .hbm, ⟨29, _⟩ => ⟨S4096x512, .bf16⟩
  | .hbm, ⟨30, _⟩ => ⟨S8x128x128, .f32⟩
  | .hbm, ⟨31, _⟩ => ⟨S128x512, .f32⟩
  | .hbm, ⟨32, _⟩ => ⟨S8x512, .f32⟩
  | .hbm, ⟨33, _⟩ => ⟨S8x512, .f32⟩
  | .hbm, ⟨34, _⟩ => ⟨S1x128x128, .i1⟩
  | .hbm, ⟨35, _⟩ => ⟨S_, .f32⟩
  | .hbm, ⟨36, _⟩ => ⟨S_, .f32⟩
  | .hbm, ⟨37, _⟩ => ⟨S8x128x128, .i1⟩
  | .hbm, ⟨38, _⟩ => ⟨S8x128x128, .f32⟩
  | .hbm, ⟨39, _⟩ => ⟨S8x128x128, .f32⟩
  | .hbm, ⟨40, _⟩ => ⟨S128x8x64, .f32⟩
  | .hbm, ⟨41, _⟩ => ⟨S_, .f32⟩
  | .hbm, ⟨42, _⟩ => ⟨S128x8, .f32⟩
  | .hbm, ⟨43, _⟩ => ⟨S8x128, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S512, .f32⟩
  | .hbm, ⟨49, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S8x128x128, .bf16⟩
  | .local _ .vmem, ⟨9, _⟩ => ⟨S8x128x128, .bf16⟩
  | .local _ .vmem, ⟨10, _⟩ => ⟨S128x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S8x128x128, .f32⟩
  | .local _ .vmem, ⟨16, _⟩ => ⟨S128x512, .f32⟩
  | .local _ .vmem, ⟨17, _⟩ => ⟨S8x512, .f32⟩
  | .local _ .vmem, ⟨18, _⟩ => ⟨S8x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev main_v9_4 : Ref sig .tc := ⟨.hbm, 32, rfl⟩
abbrev main_v9_5 : Ref sig .tc := ⟨.hbm, 33, rfl⟩
abbrev main_v10 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x3584 : Shape := ⟨2, ![4096, 3584]⟩
abbrev S4096x512 : Shape := ⟨2, ![4096, 512]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S128x8x1 : Shape := ⟨3, ![128, 8, 1]⟩
abbrev S1x128x8x1 : Shape := ⟨4, ![1, 128, 8, 1]⟩
abbrev S512 : Shape := ⟨1, ![512]⟩

abbrev nBuf : Space → Nat
  | .hbm => 231
  | .vmem => 0
  | .smem => 0
  | _ => 0

abbrev hbmTy0_0 (i : Nat) : BufTy := match i % 128 with
  | 0 => ⟨S4096x3584, .f32⟩
  | 1 => ⟨S4096x512, .f32⟩
  | 2 => ⟨S1x512, .f32⟩
  | 3 => ⟨S1x512, .f32⟩
  | 4 => ⟨S8x128x128, .f32⟩
  | 5 => ⟨S8x128, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S4096x512, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S4096x512, .f32⟩
  | 89 => ⟨S4096x512, .f32⟩
  | 90 => ⟨S_, .f32⟩
  | 91 => ⟨S4096x1, .f32⟩
  | 92 => ⟨S4096x1, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S32x128x8x64, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S1x128x128, .i1⟩
  | 117 => ⟨S_, .f32⟩
  | 118 => ⟨S_, .f32⟩
  | 119 => ⟨S8x128x128, .i1⟩
  | 120 => ⟨S8x128x128, .f32⟩
  | 121 => ⟨S8x128x128, .f32⟩
  | 122 => ⟨S_, .f32⟩
  | 123 => ⟨S8x128x128, .f32⟩
  | 124 => ⟨S8x32x64x128, .f32⟩
  | 125 => ⟨S32x128x8x64, .f32⟩
  | 126 => ⟨S128x8, .f32⟩
  | 127 => ⟨S128x8x1, .f32⟩
  | _ => ⟨S4096x3584, .f32⟩

abbrev hbmTy0_1 (i : Nat) : BufTy := match i % 128 with
  | 0 => ⟨S1x128x8x1, .f32⟩
  | 1 => ⟨S32x128x8x64, .f32⟩
  | 2 => ⟨S32x128x8x64, .f32⟩
  | 3 => ⟨S4096x512, .f32⟩
  | 4 => ⟨S4096x512, .f32⟩
  | 5 => ⟨S4096x512, .f32⟩
  | 6 => ⟨S4096x512, .f32⟩
  | 7 => ⟨S32x128x8x64, .f32⟩
  | 8 => ⟨S_, .f32⟩
  | 9 => ⟨S128x8, .f32⟩
  | 10 => ⟨S1x128x8x1, .f32⟩
  | 11 => ⟨S_, .f32⟩
  | 12 => ⟨S128x8, .f32⟩
  | 13 => ⟨S128x8x1, .f32⟩
  | 14 => ⟨S_, .f32⟩
  | 15 => ⟨S128x8, .f32⟩
  | 16 => ⟨S8x128, .f32⟩
  | 17 => ⟨S8x32x64x128, .f32⟩
  | 18 => ⟨S8x128x128, .f32⟩
  | 19 => ⟨S8x32x64x128, .f32⟩
  | 20 => ⟨S32x128x8x64, .f32⟩
  | 21 => ⟨S_, .f32⟩
  | 22 => ⟨S8x128x128, .f32⟩
  | 23 => ⟨S8x128x128, .f32⟩
  | 24 => ⟨S4096x512, .f32⟩
  | 25 => ⟨S_, .f32⟩
  | 26 => ⟨S512, .f32⟩
  | 27 => ⟨S1x512, .f32⟩
  | 28 => ⟨S4096x512, .f32⟩
  | 29 => ⟨S_, .f32⟩
  | 30 => ⟨S512, .f32⟩
  | 31 => ⟨S1x512, .f32⟩
  | 32 => ⟨S4096x512, .f32⟩
  | 33 => ⟨S4096x512, .f32⟩
  | 34 => ⟨S4096x512, .f32⟩
  | 35 => ⟨S_, .f32⟩
  | 36 => ⟨S4096, .f32⟩
  | 37 => ⟨S4096x1, .f32⟩
  | 38 => ⟨S4096x512, .f32⟩
  | 39 => ⟨S4096x512, .f32⟩
  | 40 => ⟨S4096x1, .f32⟩
  | 41 => ⟨S4096x512, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096, .f32⟩
  | 50 => ⟨S4096x512, .f32⟩
  | 51 => ⟨S4096x512, .f32⟩
  | 52 => ⟨S4096x512, .f32⟩
  | 53 => ⟨S_, .f32⟩
  | 54 => ⟨S4096, .f32⟩
  | 55 => ⟨S4096x1, .f32⟩
  | 56 => ⟨S4096x512, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x512, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S_, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S4096x512, .f32⟩
  | 100 => ⟨S4096x512, .f32⟩
  | 101 => ⟨S4096x512, .bf16⟩
  | 102 => ⟨S4096x512, .bf16⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c : Ref sig .tc := ⟨.hbm, 105, rfl⟩
abbrev main_v76 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v77 : Ref sig .tc := ⟨.hbm, 115, rfl⟩
abbrev main_v78 : Ref sig .tc := ⟨.hbm, 116, rfl⟩
abbrev main_cst_22 : Ref sig .tc := ⟨.hbm, 117, rfl⟩
abbrev main_call1_v0 : Ref sig .tc := ⟨.hbm, 118, rfl⟩
abbrev main_v79_1 : Ref sig .tc := ⟨.hbm, 119, rfl⟩
abbrev main_call1_v2 : Ref sig .tc := ⟨.hbm, 120, rfl⟩
abbrev main_v79_0 : Ref sig .tc := ⟨.hbm, 121, rfl⟩
abbrev main_call1_cst : Ref sig .tc := ⟨.hbm, 122, rfl⟩
abbrev main_v79_2 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_23 : Ref sig .tc := ⟨.hbm, 136, rfl⟩
abbrev main_v92 : Ref sig .tc := ⟨.hbm, 137, rfl⟩
abbrev main_v93 : Ref sig .tc := ⟨.hbm, 138, rfl⟩
abbrev main_cst_24 : Ref sig .tc := ⟨.hbm, 139, rfl⟩
abbrev main_v94 : Ref sig .tc := ⟨.hbm, 140, rfl⟩
abbrev main_v95 : Ref sig .tc := ⟨.hbm, 141, rfl⟩
abbrev main_cst_25 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call2_cst : Ref sig .tc := ⟨.hbm, 149, rfl⟩
abbrev main_call2_v0 : Ref sig .tc := ⟨.hbm, 150, rfl⟩
abbrev main_v102 : Ref sig .tc := ⟨.hbm, 151, rfl⟩
abbrev main_v103 : Ref sig .tc := ⟨.hbm, 152, rfl⟩
abbrev main_cst_26 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_28 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_29 : Ref sig .tc := ⟨.hbm, 170, rfl⟩
abbrev main_v118 : Ref sig .tc := ⟨.hbm, 171, rfl⟩
abbrev main_v119 : Ref sig .tc := ⟨.hbm, 172, rfl⟩
abbrev main_cst_30 : Ref sig .tc := ⟨.hbm, 173, rfl⟩
abbrev main_v120 : Ref sig .tc := ⟨.hbm, 174, rfl⟩
abbrev main_v121 : Ref sig .tc := ⟨.hbm, 175, rfl⟩
abbrev main_cst_31 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_32 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_33 : Ref sig .tc := ⟨.hbm, 186, rfl⟩
abbrev main_v130 : Ref sig .tc := ⟨.hbm, 187, rfl⟩
abbrev main_v131 : Ref sig .tc := ⟨.hbm, 188, rfl⟩
abbrev main_cst_34 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_35 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_36 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_37 : Ref sig .tc := ⟨.hbm, 203, rfl⟩
abbrev main_v143 : Ref sig .tc := ⟨.hbm, 204, rfl⟩
abbrev main_v144 : Ref sig .tc := ⟨.hbm, 205, rfl⟩
abbrev main_cst_38 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_39 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_40 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_41 : Ref sig .tc := ⟨.hbm, 221, rfl⟩
abbrev main_v157 : Ref sig .tc := ⟨.hbm, 222, rfl⟩
abbrev main_v158 : Ref sig .tc := ⟨.hbm, 223, rfl⟩
abbrev main_cst_42 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S1024x3584 : Shape := ⟨2, ![1024, 3584]⟩
abbrev S4096x3584 : Shape := ⟨2, ![4096, 3584]⟩
abbrev S1024x8x704 : Shape := ⟨3, ![1024, 8, 704]⟩
abbrev S8x1024x704 : Shape := ⟨3, ![8, 1024, 704]⟩
abbrev S2x4x1024x704 : Shape := ⟨4, ![2, 4, 1024, 704]⟩
abbrev S4x704x1024 : Shape := ⟨3, ![4, 704, 1024]⟩
abbrev S4x2x4096x704 : Shape := ⟨4, ![4, 2, 4096, 704]⟩
abbrev S4x4096x704 : Shape := ⟨3, ![4, 4096, 704]⟩
abbrev S2048x1024 : Shape := ⟨2, ![2048, 1024]⟩
abbrev S1x1x1024x704 : Shape := ⟨4, ![1, 1, 1024, 704]⟩
abbrev S1x2x2048x704 : Shape := ⟨4, ![1, 2, 2048, 704]⟩
abbrev S1x2048x704 : Shape := ⟨3, ![1, 2048, 704]⟩
abbrev S1024x704 : Shape := ⟨2, ![1024, 704]⟩
abbrev S2048x704 : Shape := ⟨2, ![2048, 704]⟩
abbrev S1x1x2048x704 : Shape := ⟨4, ![1, 1, 2048, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024x512 : Shape := ⟨2, ![1024, 512]⟩
abbrev S2048x512 : Shape := ⟨2, ![2048, 512]⟩
abbrev S4096x512 : Shape := ⟨2, ![4096, 512]⟩
abbrev S8x1024 : Shape := ⟨2, ![8, 1024]⟩
abbrev S512x3584 : Shape := ⟨2, ![512, 3584]⟩
abbrev S64x8x1024 : Shape := ⟨3, ![64, 8, 1024]⟩
abbrev S1x4096x704 : Shape := ⟨3, ![1, 4096, 704]⟩
abbrev S4096x704 : Shape := ⟨2, ![4096, 704]⟩
abbrev S1x1x4096x704 : Shape := ⟨4, ![1, 1, 4096, 704]⟩
abbrev S4x2x512x704 : Shape := ⟨4, ![4, 2, 512, 704]⟩
abbrev S1x1x512x704 : Shape := ⟨4, ![1, 1, 512, 704]⟩
abbrev S_ : Shape := ⟨0, ![]⟩
abbrev S1024 : Shape := ⟨1, ![1024]⟩

abbrev nBuf : Space → Nat
  | .hbm => 37
  | .vmem => 73
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S1024x3584, .f32⟩
  | .hbm, ⟨6, _⟩ => ⟨S4096x3584, .f32⟩
  | .hbm, ⟨7, _⟩ => ⟨S4096x1024, .f32⟩
  | .hbm, ⟨8, _⟩ => ⟨S4096x1024, .bf16⟩
  | .hbm, ⟨9, _⟩ => ⟨S1024x5632, .bf16⟩
  | .hbm, ⟨10, _⟩ => ⟨S2816x1024, .bf16⟩
  | .hbm, ⟨11, _⟩ => ⟨S1024x3584, .bf16⟩
  | .hbm, ⟨12, _⟩ => ⟨S1024x8x704, .bf16⟩
  | .hbm, ⟨13, _⟩ => ⟨S8x1024x704, .bf16⟩
  | .hbm, ⟨14, _⟩ => ⟨S2x4x1024x704, .bf16⟩
  | .hbm, ⟨15, _⟩ => ⟨S4x704x1024, .bf16⟩
  | .hbm, ⟨16, _⟩ => ⟨S4x2x4096x704, .bf16⟩
  | .hbm, ⟨17, _⟩ => ⟨S4x4096x704, .bf16⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x3584, .f32⟩
  | .hbm, ⟨22, _⟩ => ⟨S1024x3584, .bf16⟩
  | .hbm, ⟨23, _⟩ => ⟨S4096x1024, .f32⟩
  | .hbm, ⟨24, _⟩ => ⟨S4096x1024, .bf16⟩
  | .hbm, ⟨25, _⟩ => ⟨S8x1024, .f32⟩
  | .hbm, ⟨26, _⟩ => ⟨S8x1024, .f32⟩
  | .hbm, ⟨27, _⟩ => ⟨S4x704x1024, .bf16⟩
  | .hbm, ⟨28, _⟩ => ⟨S4x2x4096x704, .bf16⟩
  | .hbm, ⟨29, _⟩ => ⟨S2x4x1024x704, .bf16⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2x2048x704, .bf16⟩
  | .local _ .vmem, ⟨7, _⟩ => ⟨S1x2x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x704x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S2048x1024, .bf16⟩
  | .local _ .vmem, ⟨24, _⟩ => ⟨S2048x1024, .bf16⟩
  | .local _ .vmem, ⟨25, _⟩ => ⟨S1024x512, .bf16⟩
  | .local _ .vmem, ⟨26, _⟩ => ⟨S1024x512, .bf16⟩
  | .local _ .vmem, ⟨27, _⟩ => ⟨S2048x512, .f32⟩
  | .local _ .vmem, ⟨28, _⟩ => ⟨S2048x512, .f32⟩
  | .local _ .vmem, ⟨29, _⟩ => ⟨S4096x1024, .bf16⟩
  | .local _ .vmem, ⟨30, _⟩ => ⟨S4096x512, .f32⟩
  | .local _ .vmem, ⟨31, _⟩ => ⟨S4096x512, .f32⟩
  | .local _ .vmem, ⟨32, _⟩ => ⟨S1024x512, .bf16⟩
  | .local _ .vmem, ⟨33, _⟩ => ⟨S1024x512, .bf16⟩
  | .local _ .vmem, ⟨34, _⟩ => ⟨S512x3584, .f32⟩
  | .local _ .vmem, ⟨35, _⟩ => ⟨S512x3584, .f32⟩
  | .local _ .vmem, ⟨36, _⟩ => ⟨S1024x3584, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S1x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .bf16⟩
  | .local _ .vmem, ⟨45, _⟩ => ⟨S512x1024, .bf16⟩
  | .local _ .vmem, ⟨46, _⟩ => ⟨S8x1024, .f32⟩
  | .local _ .vmem, ⟨47, _⟩ => ⟨S8x1024, .f32⟩
  | .local _ .vmem, ⟨48, _⟩ => ⟨S1x4096x704, .bf16⟩
  | .local _ .vmem, ⟨49, _⟩ => ⟨S1x4096x704, .bf16⟩
  | .local _ .vmem, ⟨50, _⟩ => ⟨S4096x1024, .bf16⟩
  | .local _ .vmem, ⟨51, _⟩ => ⟨S1x704x1024, .bf16⟩
  | .local _ .vmem, ⟨52, _⟩ => ⟨S1x704x1024, .bf16⟩
  | .local _ .vmem, ⟨53, _⟩ => ⟨S2048x1024, .bf16⟩
  | .local _ .vmem, ⟨54, _⟩ => ⟨S2048x1024, .bf16⟩
  | .local _ .vmem, ⟨55, _⟩ => ⟨S1x704x1024, .bf16⟩
  | .local _ .vmem, ⟨56, _⟩ => ⟨S1x704x1024, .bf16⟩
  | .local _ .vmem, ⟨57, _⟩ => ⟨S1x2x2048x704, .bf16⟩
  | .local _ .vmem, ⟨58, _⟩ => ⟨S1x2x2048x704, .bf16⟩
  | .local _ .vmem, ⟨59, _⟩ => ⟨S1x2x2048x704, .bf16⟩
  | .local _ .vmem, ⟨60, _⟩ => ⟨S1x2x2048x704, .bf16⟩
  | .local _ .vmem, ⟨61, _⟩ => ⟨S4096x1024, .bf16⟩
  | .local _ .vmem, ⟨62, _⟩ => ⟨S1x1x4096x704, .bf16⟩
  | .local _ .vmem, ⟨63, _⟩ => ⟨S1x1x4096x704, .bf16⟩
  | .local _ .vmem, ⟨64, _⟩ => ⟨S1x1x1024x704, .bf16⟩
  | .local _ .vmem, ⟨65, _⟩ => ⟨S1x1x1024x704, .bf16⟩
  | .local _ .vmem, ⟨66, _⟩ => ⟨S4x2x512x704, .bf16⟩
  | .local _ .vmem, ⟨67, _⟩ => ⟨S4x2x512x704, .bf16⟩
  | .local _ .vmem, ⟨68, _⟩ => ⟨S2x4x1024x704, .bf16⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg8_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg2_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc7_stg0_0 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg2_1 : Ref sig .tc := ⟨.vmem, 70, rfl⟩
abbrev cc8_stg3_0 : Ref sig .tc := ⟨.vmem, 71, rfl⟩
abbrev cc8_stg3_1 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45
abbrev cc4_sem7_0 : DmaSem sig := 46
abbrev cc4_sem8_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem2_1 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem2_1 : DmaSem sig := 58
abbrev cc6_sem3_0 : DmaSem sig := 59
abbrev cc6_sem3_1 : DmaSem sig := 60
abbrev cc7_sem0_0 : DmaSem sig := 61
abbrev cc7_sem1_0 : DmaSem sig := 62
abbrev cc7_sem1_1 : DmaSem sig := 63
abbrev cc7_sem2_0 : DmaSem sig := 64
abbrev cc7_sem2_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem2_1 : DmaSem sig := 70
abbrev cc8_sem3_0 : DmaSem sig := 71
abbrev cc8_sem3_1 : DmaSem sig := 72

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨3, ![2, 7, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 7, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x3584 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x3584 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S8x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S8x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![4], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x4096x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x704x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc6_transform_2 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc6_transform_3 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x704x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x2x2048x704 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x2x2048x704 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_2 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 2 → Memref sig .tc .vmem S1x1x4096x704 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x1x1024x704 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![8], ![false]⟩

def cc8_transform_0 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc8_transform_1 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4x2x512x704 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2x4x1024x704 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]
-- ==== Reference2Ideal.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S1024x3584 : Shape := ⟨2, ![1024, 3584]⟩
abbrev S4096x3584 : Shape := ⟨2, ![4096, 3584]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S3584x1024 : Shape := ⟨2, ![3584, 1024]⟩
abbrev S1024 : Shape := ⟨1, ![1024]⟩
abbrev S1024x2816 : Shape := ⟨2, ![1024, 2816]⟩
abbrev S5632x1024 : Shape := ⟨2, ![5632, 1024]⟩
abbrev S1024x2x4x704 : Shape := ⟨4, ![1024, 2, 4, 704]⟩
abbrev S2x4x1024x704 : Shape := ⟨4, ![2, 4, 1024, 704]⟩
abbrev S4x704x1024 : Shape := ⟨3, ![4, 704, 1024]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S1024x5632, .f32⟩
  | 2 => ⟨S2816x1024, .f32⟩
  | 3 => ⟨S1x1024, .f32⟩
  | 4 => ⟨S1x1024, .f32⟩
  | 5 => ⟨S1024x3584, .f32⟩
  | 6 => ⟨S4096x3584, .f32⟩
  | 7 => ⟨S4096x1024, .f32⟩
  | 8 => ⟨S4096x5632, .f32⟩
  | 9 => ⟨S4096x2816, .f32⟩
  | 10 => ⟨S4096x2816, .f32⟩
  | 11 => ⟨S_, .f32⟩
  | 12 => ⟨S4096x1024, .f32⟩
  | 13 => ⟨S4096x1024, .f32⟩
  | 14 => ⟨S4096x2816, .f32⟩
  | 15 => ⟨S4096x2816, .f32⟩
  | 16 => ⟨S_, .f32⟩
  | 17 => ⟨S4096x2816, .f32⟩
  | 18 => ⟨S4096x2816, .f32⟩
  | 19 => ⟨S_, .f32⟩
  | 20 => ⟨S4096x2816, .f32⟩
  | 21 => ⟨S4096x2816, .f32⟩
  | 22 => ⟨S_, .f32⟩
  | 23 => ⟨S4096x2816, .f32⟩
  | 24 => ⟨S4096x2816, .f32⟩
  | 25 => ⟨S4096x2816, .f32⟩
  | 26 => ⟨S4096x2816, .f32⟩
  | 27 => ⟨S4096x2816, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x3584, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S3584x1024, .f32⟩
  | 75 => ⟨S1024x3584, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S4096x1024, .f32⟩
  | 88 => ⟨S_, .f32⟩
  | 89 => ⟨S4096, .f32⟩
  | 90 => ⟨S4096x1, .f32⟩
  | 91 => ⟨S4096x1024, .f32⟩
  | 92 => ⟨S4096x1024, .f32⟩
  | 93 => ⟨S4096x1, .f32⟩
  | 94 => ⟨S4096x1024, .f32⟩
  | 95 => ⟨S_, .f32⟩
  | 96 => ⟨S4096, .f32⟩
  | 97 => ⟨S4096x1, .f32⟩
  | 98 => ⟨S_, .f32⟩
  | 99 => ⟨S4096x1, .f32⟩
  | 100 => ⟨S4096x1, .f32⟩
  | 101 => ⟨S_, .f32⟩
  | 102 => ⟨S4096, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1, .f32⟩
  | 111 => ⟨S_, .f32⟩
  | 112 => ⟨S4096x1, .f32⟩
  | 113 => ⟨S4096x1, .f32⟩
  | 114 => ⟨S_, .f32⟩
  | 115 => ⟨S4096, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S1024x2816, .f32⟩
  | 122 => ⟨S2816x1024, .f32⟩
  | 123 => ⟨S4096x2816, .f32⟩
  | 124 => ⟨S4096x2816, .f32⟩
  | 125 => ⟨S4096x2816, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S_, .f32⟩
  | 3 => ⟨S4096x1024, .f32⟩
  | 4 => ⟨S4096x1024, .f32⟩
  | 5 => ⟨S4096x5632, .f32⟩
  | 6 => ⟨S5632x1024, .f32⟩
  | 7 => ⟨S1024x5632, .f32⟩
  | 8 => ⟨S4096x1024, .f32⟩
  | 9 => ⟨S4096x1024, .f32⟩
  | 10 => ⟨S1024x2x4x704, .f32⟩
  | 11 => ⟨S2x4x1024x704, .f32⟩
  | 12 => ⟨S2x4x1024x704, .bf16⟩
  | 13 => ⟨S4x704x1024, .f32⟩
  | 14 => ⟨S4x704x1024, .bf16⟩
  | 15 => ⟨S1024x3584, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_17 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_19 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v85 : Ref sig .tc := ⟨.hbm, 129, rfl⟩
abbrev main_cst_20 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S2x4x1024x704 : Shape := ⟨4, ![2, 4, 1024, 704]⟩
abbrev S4x704x1024 : Shape := ⟨3, ![4, 704, 1024]⟩
abbrev S_ : Shape := ⟨0, ![]⟩
abbrev S1x4096x1024 : Shape := ⟨3, ![1, 4096, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S4x2x4096x704 : Shape := ⟨4, ![4, 2, 4096, 704]⟩
abbrev S4x4096x704 : Shape := ⟨3, ![4, 4096, 704]⟩
abbrev S2048x1024 : Shape := ⟨2, ![2048, 1024]⟩
abbrev S1x1x1024x704 : Shape := ⟨4, ![1, 1, 1024, 704]⟩
abbrev S1x2x2048x704 : Shape := ⟨4, ![1, 2, 2048, 704]⟩
abbrev S1x2048x704 : Shape := ⟨3, ![1, 2048, 704]⟩
abbrev S1024x704 : Shape := ⟨2, ![1024, 704]⟩
abbrev S2048x704 : Shape := ⟨2, ![2048, 704]⟩
abbrev S1x1x2048x704 : Shape := ⟨4, ![1, 1, 2048, 704]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1x4096x704 : Shape := ⟨3, ![1, 4096, 704]⟩
abbrev S4096x704 : Shape := ⟨2, ![4096, 704]⟩
abbrev S1x1x4096x704 : Shape := ⟨4, ![1, 1, 4096, 704]⟩
abbrev S8x1024 : Shape := ⟨2, ![8, 1024]⟩
abbrev S4x2x512x704 : Shape := ⟨4, ![4, 2, 512, 704]⟩
abbrev S1x1x512x704 : Shape := ⟨4, ![1, 1, 512, 704]⟩
abbrev S64x8x1024 : Shape := ⟨3, ![64, 8, 1024]⟩
abbrev S2048x512 : Shape := ⟨2, ![2048, 512]⟩
abbrev S4096x512 : Shape := ⟨2, ![4096, 512]⟩
abbrev S1024x512 : Shape := ⟨2, ![1024, 512]⟩
abbrev S1024 : Shape := ⟨1, ![1024]⟩

abbrev nBuf : Space → Nat
  | .hbm => 47
  | .vmem => 79
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S1024x8x704, .bf16⟩
  | .hbm, ⟨15, _⟩ => ⟨S8x1024x704, .bf16⟩
  | .hbm, ⟨16, _⟩ => ⟨S2x4x1024x704, .bf16⟩
  | .hbm, ⟨17, _⟩ => ⟨S4x704x1024, .bf16⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1x4096x1024, .bf16⟩
  | .hbm, ⟨23, _⟩ => ⟨S1x1024x1024, .bf16⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4x2x4096x704, .bf16⟩
  | .hbm, ⟨28, _⟩ => ⟨S4x4096x704, .bf16⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4x2x4096x704, .bf16⟩
  | .hbm, ⟨33, _⟩ => ⟨S4x704x1024, .bf16⟩
  | .hbm, ⟨34, _⟩ => ⟨S2x4x1024x704, .bf16⟩
  | .hbm, ⟨35, _⟩ => ⟨S4096x1024, .f32⟩
  | .hbm, ⟨36, _⟩ => ⟨S4096x1024, .bf16⟩
  | .hbm, ⟨37, _⟩ => ⟨S8x1024, .f32⟩
  | .hbm, ⟨38, _⟩ => ⟨S8x1024, .f32⟩
  | .hbm, ⟨39, _⟩ => ⟨S4096x1024, .f32⟩
  | .hbm, ⟨40, _⟩ => ⟨S1024x1024, .bf16⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1x1x1024x704, .bf16⟩
  | .local _ .vmem, ⟨16, _⟩ => ⟨S1x1x1024x704, .bf16⟩
  | .local _ .vmem, ⟨17, _⟩ => ⟨S1x1x1024x704, .bf16⟩
  | .local _ .vmem, ⟨18, _⟩ => ⟨S1x1x1024x704, .bf16⟩
  | .local _ .vmem, ⟨19, _⟩ => ⟨S1x2x2048x704, .bf16⟩
  | .local _ .vmem, ⟨20, _⟩ => ⟨S1x2x2048x704, .bf16⟩
  | .local _ .vmem, ⟨21, _⟩ => ⟨S1x2048x704, .bf16⟩
  | .local _ .vmem, ⟨22, _⟩ => ⟨S1x2048x704, .bf16⟩
  | .local _ .vmem, ⟨23, _⟩ => ⟨S4x512x704, .bf16⟩
  | .local _ .vmem, ⟨24, _⟩ => ⟨S4x512x704, .bf16⟩
  | .local _ .vmem, ⟨25, _⟩ => ⟨S4x704x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S2048x1024, .bf16⟩
  | .local _ .vmem, ⟨37, _⟩ => ⟨S2048x1024, .bf16⟩
  | .local _ .vmem, ⟨38, _⟩ => ⟨S1x704x1024, .bf16⟩
  | .local _ .vmem, ⟨39, _⟩ => ⟨S1x704x1024, .bf16⟩
  | .local _ .vmem, ⟨40, _⟩ => ⟨S1x2x2048x704, .bf16⟩
  | .local _ .vmem, ⟨41, _⟩ => ⟨S1x2x2048x704, .bf16⟩
  | .local _ .vmem, ⟨42, _⟩ => ⟨S1x2x2048x704, .bf16⟩
  | .local _ .vmem, ⟨43, _⟩ => ⟨S1x2x2048x704, .bf16⟩
  | .local _ .vmem, ⟨44, _⟩ => ⟨S1x4096x704, .bf16⟩
  | .local _ .vmem, ⟨45, _⟩ => ⟨S1x4096x704, .bf16⟩
  | .local _ .vmem, ⟨46, _⟩ => ⟨S4096x1024, .bf16⟩
  | .local _ .vmem, ⟨47, _⟩ => ⟨S1x704x1024, .bf16⟩
  | .local _ .vmem, ⟨48, _⟩ => ⟨S1x704x1024, .bf16⟩
  | .local _ .vmem, ⟨49, _⟩ => ⟨S4096x1024, .bf16⟩
  | .local _ .vmem, ⟨50, _⟩ => ⟨S1x1x4096x704, .bf16⟩
  | .local _ .vmem, ⟨51, _⟩ => ⟨S1x1x4096x704, .bf16⟩
  | .local _ .vmem, ⟨52, _⟩ => ⟨S1x1x1024x704, .bf16⟩
  | .local _ .vmem, ⟨53, _⟩ => ⟨S1x1x1024x704, .bf16⟩
  | .local _ .vmem, ⟨54, _⟩ => ⟨S4x2x512x704, .bf16⟩
  | .local _ .vmem, ⟨55, _⟩ => ⟨S4x2x512x704, .bf16⟩
  | .local _ .vmem, ⟨56, _⟩ => ⟨S2x4x1024x704, .bf16⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S1x1024, .f32⟩
  | .local _ .vmem, ⟨62, _⟩ => ⟨S512x1024, .f32⟩
  | .local _ .vmem, ⟨63, _⟩ => ⟨S512x1024, .f32⟩
  | .local _ .vmem, ⟨64, _⟩ => ⟨S512x1024, .bf16⟩
  | .local _ .vmem, ⟨65, _⟩ => ⟨S512x1024, .bf16⟩
  | .local _ .vmem, ⟨66, _⟩ => ⟨S8x1024, .f32⟩
  | .local _ .vmem, ⟨67, _⟩ => ⟨S8x1024, .f32⟩
  | .local _ .vmem, ⟨68, _⟩ => ⟨S2048x1024, .bf16⟩
  | .local _ .vmem, ⟨69, _⟩ => ⟨S2048x1024, .bf16⟩
  | .local _ .vmem, ⟨70, _⟩ => ⟨S512x1024, .bf16⟩
  | .local _ .vmem, ⟨71, _⟩ => ⟨S512x1024, .bf16⟩
  | .local _ .vmem, ⟨72, _⟩ => ⟨S2048x512, .f32⟩
  | .local _ .vmem, ⟨73, _⟩ => ⟨S2048x512, .f32⟩
  | .local _ .vmem, ⟨74, _⟩ => ⟨S4096x1024, .bf16⟩
  | .local _ .vmem, ⟨75, _⟩ => ⟨S4096x512, .bf16⟩
  | .local _ .vmem, ⟨76, _⟩ => ⟨S4096x512, .bf16⟩
  | .local _ .vmem, ⟨77, _⟩ => ⟨S1024x512, .bf16⟩
  | .local _ .vmem, ⟨78, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14_0 : Ref sig .tc := ⟨.hbm, 27, rfl⟩
abbrev main_v14_1 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg2_1 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg3_1 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg5_1 : Ref sig .tc := ⟨.vmem, 63, rfl⟩
abbrev cc6_stg6_0 : Ref sig .tc := ⟨.vmem, 64, rfl⟩
abbrev cc6_stg6_1 : Ref sig .tc := ⟨.vmem, 65, rfl⟩
abbrev cc6_stg7_0 : Ref sig .tc := ⟨.vmem, 66, rfl⟩
abbrev cc6_stg8_0 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg2_1 : Ref sig .tc := ⟨.vmem, 73, rfl⟩
abbrev cc8_stg0_0 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg2_1 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem2_1 : DmaSem sig := 48
abbrev cc5_sem0_0 : DmaSem sig := 49
abbrev cc5_sem1_0 : DmaSem sig := 50
abbrev cc5_sem1_1 : DmaSem sig := 51
abbrev cc5_sem2_0 : DmaSem sig := 52
abbrev cc5_sem2_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58
abbrev cc6_sem3_0 : DmaSem sig := 59
abbrev cc6_sem3_1 : DmaSem sig := 60
abbrev cc6_sem4_0 : DmaSem sig := 61
abbrev cc6_sem5_0 : DmaSem sig := 62
abbrev cc6_sem5_1 : DmaSem sig := 63
abbrev cc6_sem6_0 : DmaSem sig := 64
abbrev cc6_sem6_1 : DmaSem sig := 65
abbrev cc6_sem7_0 : DmaSem sig := 66
abbrev cc6_sem8_0 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem2_1 : DmaSem sig := 73
abbrev cc8_sem0_0 : DmaSem sig := 74
abbrev cc8_sem1_0 : DmaSem sig := 75
abbrev cc8_sem1_1 : DmaSem sig := 76
abbrev cc8_sem2_0 : DmaSem sig := 77
abbrev cc8_sem2_1 : DmaSem sig := 78

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x2x2048x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x704x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x704x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2x2048x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2x2048x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S1x1x4096x704 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1x1024x704 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4x2x512x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x4x1024x704 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S8x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S8x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S2048x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference3Ideal.lean ====
abbrev S4096x1024 : Shape := ⟨2, ![4096, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩
abbrev S1024 : Shape := ⟨1, ![1024]⟩
abbrev S1024x2x4x704 : Shape := ⟨4, ![1024, 2, 4, 704]⟩
abbrev S2x4x1024x704 : Shape := ⟨4, ![2, 4, 1024, 704]⟩
abbrev S4x704x1024 : Shape := ⟨3, ![4, 704, 1024]⟩

abbrev nBuf : Space → Nat
  | .hbm => 172
  | .vmem => 0
  | .smem => 0
  | _ => 0

abbrev hbmTy0_0 (i : Nat) : BufTy := match i % 128 with
  | 0 => ⟨S4096x1024, .f32⟩
  | 1 => ⟨S4096x1024, .f32⟩
  | 2 => ⟨S1024x1024, .f32⟩
  | 3 => ⟨S1x1024, .f32⟩
  | 4 => ⟨S1x1024, .f32⟩
  | 5 => ⟨S1024x5632, .f32⟩
  | 6 => ⟨S2816x1024, .f32⟩
  | 7 => ⟨S1x1024, .f32⟩
  | 8 => ⟨S1x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x5632, .f32⟩
  | 50 => ⟨S4096x2816, .f32⟩
  | 51 => ⟨S4096x2816, .f32⟩
  | 52 => ⟨S_, .f32⟩
  | 53 => ⟨S4096x1024, .f32⟩
  | 54 => ⟨S4096x1024, .f32⟩
  | 55 => ⟨S4096x2816, .f32⟩
  | 56 => ⟨S4096x2816, .f32⟩
  | 57 => ⟨S_, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S_, .f32⟩
  | 64 => ⟨S4096x2816, .f32⟩
  | 65 => ⟨S4096x2816, .f32⟩
  | 66 => ⟨S4096x2816, .f32⟩
  | 67 => ⟨S4096x2816, .f32⟩
  | 68 => ⟨S4096x2816, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S1024x2816, .f32⟩
  | 80 => ⟨S2816x1024, .f32⟩
  | 81 => ⟨S4096x2816, .f32⟩
  | 82 => ⟨S4096x2816, .f32⟩
  | 83 => ⟨S4096x2816, .f32⟩
  | 84 => ⟨S4096x2816, .f32⟩
  | 85 => ⟨S4096x2816, .f32⟩
  | 86 => ⟨S4096x2816, .f32⟩
  | 87 => ⟨S4096x2816, .f32⟩
  | 88 => ⟨S_, .f32⟩
  | 89 => ⟨S4096x1024, .f32⟩
  | 90 => ⟨S4096x1024, .f32⟩
  | 91 => ⟨S4096x5632, .f32⟩
  | 92 => ⟨S5632x1024, .f32⟩
  | 93 => ⟨S1024x5632, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S4096x1024, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1024, .f32⟩
  | 7 => ⟨S4096x1024, .f32⟩
  | 8 => ⟨S1024x1024, .f32⟩
  | 9 => ⟨S1024x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S_, .f32⟩
  | 29 => ⟨S4096x1, .f32⟩
  | 30 => ⟨S4096x1, .f32⟩
  | 31 => ⟨S4096x1, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S1024x2x4x704, .f32⟩
  | 39 => ⟨S2x4x1024x704, .f32⟩
  | 40 => ⟨S2x4x1024x704, .bf16⟩
  | 41 => ⟨S4x704x1024, .f32⟩
  | 42 => ⟨S4x704x1024, .bf16⟩
  | 43 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v36_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v36_1 : Ref sig .tc := ⟨.hbm, 66, rfl⟩
abbrev main_v36_0 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v51 : Ref sig .tc := ⟨.hbm, 87, rfl⟩
abbrev main_cst_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_12 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_14 : Ref sig .tc := ⟨.hbm, 113, rfl⟩
abbrev main_v73 : Ref sig .tc := ⟨.hbm, 114, rfl⟩
abbrev main_v74 : Ref sig .tc := ⟨.hbm, 115, rfl⟩
abbrev main_cst_15 : Ref sig .tc := ⟨.hbm, 116, rfl⟩
abbrev main_v75 : Ref sig .tc := ⟨.hbm, 117, rfl⟩
abbrev main_v76 : Ref sig .tc := ⟨.hbm, 118, rfl⟩
abbrev main_cst_16 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_17 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_v86 : Ref sig .tc := ⟨.hbm, 131, rfl⟩
abbrev main_cst_19 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_20 : Ref sig .tc := ⟨.hbm, 139, rfl⟩
abbrev main_v93 : Ref sig .tc := ⟨.hbm, 140, rfl⟩
abbrev main_v94 : Ref sig .tc := ⟨.hbm, 141, rfl⟩
abbrev main_cst_21 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_22 : Ref sig .tc := ⟨.hbm, 148, rfl⟩
abbrev main_v100 : Ref sig .tc := ⟨.hbm, 149, rfl⟩
abbrev main_v101 : Ref sig .tc := ⟨.hbm, 150, rfl⟩
abbrev main_cst_23 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩

abbrev nD : Nat := 1
abbrev τ : Topo := Topo.v7x

variable {F : FTy → Type} [FloatOps F]
-- ==== Kernel4.lean ====
abbrev S4096x512 : Shape := ⟨2, ![4096, 512]⟩
abbrev S4096x3584 : Shape := ⟨2, ![4096, 3584]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 19
  | .vmem => 50
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3584, .f32⟩
  | .hbm, ⟨3, _⟩ => ⟨S512x1024, .f32⟩
  | .hbm, ⟨4, _⟩ => ⟨S512x1024, .f32⟩
  | .hbm, ⟨5, _⟩ => ⟨S4096x1024, .f32⟩
  | .hbm, ⟨6, _⟩ => ⟨S512x1024, .bf16⟩
  | .hbm, ⟨7, _⟩ => ⟨S512x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x512, .f32⟩
  | .hbm, ⟨14, _⟩ => ⟨S4096x512, .f32⟩
  | .hbm, ⟨15, _⟩ => ⟨S512x1024, .f32⟩
  | .hbm, ⟨16, _⟩ => ⟨S512x1024, .f32⟩
  | .hbm, ⟨17, _⟩ => ⟨S512x1024, .bf16⟩
  | .hbm, ⟨18, _⟩ => ⟨S512x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S512x1024, .f32⟩
  | .local _ .vmem, ⟨49, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc1_stg15_0 : Ref sig .tc := ⟨.vmem, 48, rfl⟩
abbrev cc1_stg16_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem10_0 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem16_0 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_6 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_7 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_8 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S512x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S512x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S512x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== Reference4Ideal.lean ====
abbrev S4096x512 : Shape := ⟨2, ![4096, 512]⟩
abbrev S4096x3584 : Shape := ⟨2, ![4096, 3584]⟩
abbrev S512x1024 : Shape := ⟨2, ![512, 1024]⟩
abbrev S4096x1024 : Shape := ⟨2, ![4096, 1024]⟩
abbrev S_ : Shape := ⟨0, ![]⟩
abbrev S1024x512 : Shape := ⟨2, ![1024, 512]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3584, .f32⟩
  | .hbm, ⟨3, _⟩ => ⟨S512x1024, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x512, .f32⟩
  | .hbm, ⟨42, _⟩ => ⟨S512x1024, .f32⟩
  | .hbm, ⟨43, _⟩ => ⟨S4096x512, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x512, .f32⟩
  | .hbm, ⟨48, _⟩ => ⟨S512x1024, .f32⟩
  | .hbm, ⟨49, _⟩ => ⟨S4096x512, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S512x1024, .bf16⟩
  | .hbm, ⟨55, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4096x256 : Shape := ⟨2, ![4096, 256]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S64x128 : Shape := ⟨2, ![64, 128]⟩
abbrev S8x1024 : Shape := ⟨2, ![8, 1024]⟩
abbrev S512x1024 : Shape := ⟨2, ![512, 1024]⟩
abbrev S512x256 : Shape := ⟨2, ![512, 256]⟩
abbrev S8x128 : Shape := ⟨2, ![8, 128]⟩
abbrev S512 : Shape := ⟨1, ![512]⟩
abbrev S1x512 : Shape := ⟨2, ![1, 512]⟩
abbrev S1 : Shape := ⟨1, ![1]⟩
abbrev S1x1 : Shape := ⟨2, ![1, 1]⟩
abbrev S512x1 : Shape := ⟨2, ![512, 1]⟩
abbrev S64x8x1024 : Shape := ⟨3, ![64, 8, 1024]⟩
abbrev S8x1 : Shape := ⟨2, ![8, 1]⟩
abbrev S8 : Shape := ⟨1, ![8]⟩
abbrev S1024 : Shape := ⟨1, ![1024]⟩

abbrev nBuf : Space → Nat
  | .hbm => 56
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x256, .f32⟩
  | .hbm, ⟨4, _⟩ => ⟨S4096x1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x256, .bf16⟩
  | .hbm, ⟨35, _⟩ => ⟨S1024x1024, .bf16⟩
  | .hbm, ⟨36, _⟩ => ⟨S256x1024, .bf16⟩
  | .hbm, ⟨37, _⟩ => ⟨S64x128, .f32⟩
  | .hbm, ⟨38, _⟩ => ⟨S4096x1024, .f32⟩
  | .hbm, ⟨39, _⟩ => ⟨S4096x1024, .bf16⟩
  | .hbm, ⟨40, _⟩ => ⟨S1024x1024, .f32⟩
  | .hbm, ⟨41, _⟩ => ⟨S256x1024, .f32⟩
  | .hbm, ⟨42, _⟩ => ⟨S8x1024, .f32⟩
  | .hbm, ⟨43, _⟩ => ⟨S8x1024, .f32⟩
  | .hbm, ⟨44, _⟩ => ⟨S8x1, .f32⟩
  | .hbm, ⟨45, _⟩ => ⟨S8, .f32⟩
  | .hbm, ⟨46, _⟩ => ⟨S_, .f32⟩
  | .hbm, ⟨47, _⟩ => ⟨S_, .f32⟩
  | .hbm, ⟨48, _⟩ => ⟨S1024x1024, .bf16⟩
  | .hbm, ⟨49, _⟩ => ⟨S256x1024, .bf16⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x256, .bf16⟩
  | .local _ .vmem, ⟨6, _⟩ => ⟨S512x256, .bf16⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S256x1024, .bf16⟩
  | .local _ .vmem, ⟨11, _⟩ => ⟨S8x128, .f32⟩
  | .local _ .vmem, ⟨12, _⟩ => ⟨S8x128, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S256x1024, .f32⟩
  | .local _ .vmem, ⟨19, _⟩ => ⟨S8x1024, .f32⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S4096x1024 : Shape := ⟨2, ![4096, 1024]⟩
abbrev S1x1024 : Shape := ⟨2, ![1, 1024]⟩
abbrev S4096x256 : Shape := ⟨2, ![4096, 256]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S1024 : Shape := ⟨1, ![1024]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S4096x256, .f32⟩
  | 4 => ⟨S4096x1024, .f32⟩
  | 5 => ⟨S1024x1024, .f32⟩
  | 6 => ⟨S256x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S_, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096, .f32⟩
  | 64 => ⟨S_, .f32⟩
  | 65 => ⟨S4096, .f32⟩
  | 66 => ⟨S4096, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x1024, .f32⟩
  | 79 => ⟨S4096x1024, .f32⟩
  | 80 => ⟨S4096x1024, .f32⟩
  | 81 => ⟨S4096x1024, .f32⟩
  | 82 => ⟨S1024x256, .f32⟩
  | 83 => ⟨S256x1024, .f32⟩
  | 84 => ⟨S4096x1024, .f32⟩
  | 85 => ⟨S1024x1024, .f32⟩
  | 86 => ⟨S1024x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S_, .f32⟩
  | 94 => ⟨S1024, .f32⟩
  | 95 => ⟨S1x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S4096x1024, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096x1024, .f32⟩
  | 3 => ⟨S4096x1024, .f32⟩
  | 4 => ⟨S4096x1024, .bf16⟩
  | 5 => ⟨S1024x1024, .bf16⟩
  | 6 => ⟨S256x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_cst_14 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_18 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_20 : Ref sig .tc := ⟨.hbm, 106, rfl⟩
abbrev main_v78 : Ref sig .tc := ⟨.hbm, 107, rfl⟩
abbrev main_v79 : Ref sig .tc := ⟨.hbm, 108, rfl⟩
abbrev main_cst_21 : Ref sig .tc := ⟨.hbm, 109, rfl⟩
abbrev main_v80 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_23 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_24 : Ref sig .tc := ⟨.hbm, 122, rfl⟩
abbrev main_v90 : Ref sig .tc := ⟨.hbm, 123, rfl⟩
abbrev main_v91 : Ref sig .tc := ⟨.hbm, 124, rfl⟩
abbrev main_cst_25 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_26 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]
-- ==== Kernel6.lean ====
abbrev S8x1024x704 : Shape := ⟨3, ![8, 1024, 704]⟩
abbrev S1024x704 : Shape := ⟨2, ![1024, 704]⟩
abbrev S8x352x1024 : Shape := ⟨3, ![8, 352, 1024]⟩
abbrev S352x1024 : Shape := ⟨2, ![352, 1024]⟩
abbrev S8x1024x448 : Shape := ⟨3, ![8, 1024, 448]⟩
abbrev S1024x448 : Shape := ⟨2, ![1024, 448]⟩
abbrev S8x64x512 : Shape := ⟨3, ![8, 64, 512]⟩
abbrev S64x512 : Shape := ⟨2, ![64, 512]⟩
abbrev S8x512x128 : Shape := ⟨3, ![8, 512, 128]⟩
abbrev S512x128 : Shape := ⟨2, ![512, 128]⟩
abbrev S8x128x1024 : Shape := ⟨3, ![8, 128, 1024]⟩
abbrev S128x1024 : Shape := ⟨2, ![128, 1024]⟩
abbrev S8x256x128 : Shape := ⟨3, ![8, 256, 128]⟩
abbrev S256x128 : Shape := ⟨2, ![256, 128]⟩
abbrev S8x512x704 : Shape := ⟨3, ![8, 512, 704]⟩
abbrev S512x704 : Shape := ⟨2, ![512, 704]⟩
abbrev S1x512x704 : Shape := ⟨3, ![1, 512, 704]⟩
abbrev S1x352x1024 : Shape := ⟨3, ![1, 352, 1024]⟩
abbrev S8x512x448 : Shape := ⟨3, ![8, 512, 448]⟩
abbrev S512x448 : Shape := ⟨2, ![512, 448]⟩
abbrev S1x512x448 : Shape := ⟨3, ![1, 512, 448]⟩
abbrev S1x64x512 : Shape := ⟨3, ![1, 64, 512]⟩
abbrev S1x512x128 : Shape := ⟨3, ![1, 512, 128]⟩
abbrev S1x128x1024 : Shape := ⟨3, ![1, 128, 1024]⟩
abbrev S1x256x128 : Shape := ⟨3, ![1, 256, 128]⟩

abbrev nBuf : Space → Nat
  | .hbm => 88
  | .vmem => 112
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S8x1024x448, .bf16⟩
  | .hbm, ⟨9, _⟩ => ⟨S1024x448, .f32⟩
  | .hbm, ⟨10, _⟩ => ⟨S1024x448, .f32⟩
  | .hbm, ⟨11, _⟩ => ⟨S1024x448, .f32⟩
  | .hbm, ⟨12, _⟩ => ⟨S8x64x512, .bf16⟩
  | .hbm, ⟨13, _⟩ => ⟨S64x512, .f32⟩
  | .hbm, ⟨14, _⟩ => ⟨S64x512, .f32⟩
  | .hbm, ⟨15, _⟩ => ⟨S64x512, .f32⟩
  | .hbm, ⟨16, _⟩ => ⟨S8x512x128, .bf16⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S8x512x128, .bf16⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S8x128x1024, .bf16⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S8x1024x704, .bf16⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S8x352x1024, .bf16⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S8x256x128, .bf16⟩
  | .hbm, ⟨37, _⟩ => ⟨S256x128, .f32⟩
  | .hbm, ⟨38, _⟩ => ⟨S256x128, .f32⟩
  | .hbm, ⟨39, _⟩ => ⟨S256x128, .f32⟩
  | .hbm, ⟨40, _⟩ => ⟨S8x128x1024, .bf16⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S1024x704, .f32⟩
  | .hbm, ⟨45, _⟩ => ⟨S1024x704, .f32⟩
  | .hbm, ⟨46, _⟩ => ⟨S1024x704, .f32⟩
  | .hbm, ⟨47, _⟩ => ⟨S1024x704, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S1024x448, .f32⟩
  | .hbm, ⟨53, _⟩ => ⟨S1024x448, .f32⟩
  | .hbm, ⟨54, _⟩ => ⟨S1024x448, .f32⟩
  | .hbm, ⟨55, _⟩ => ⟨S1024x448, .f32⟩
  | .hbm, ⟨56, _⟩ => ⟨S64x512, .f32⟩
  | .hbm, ⟨57, _⟩ => ⟨S64x512, .f32⟩
  | .hbm, ⟨58, _⟩ => ⟨S64x512, .f32⟩
  | .hbm, ⟨59, _⟩ => ⟨S64x512, .f32⟩
  | .hbm, ⟨60, _⟩ => ⟨S512x128, .f32⟩
  | .hbm, ⟨61, _⟩ => ⟨S512x128, .f32⟩
  | .hbm, ⟨62, _⟩ => ⟨S512x128, .f32⟩
  | .hbm, ⟨63, _⟩ => ⟨S512x128, .f32⟩
  | .hbm, ⟨64, _⟩ => ⟨S512x128, .f32⟩
  | .hbm, ⟨65, _⟩ => ⟨S512x128, .f32⟩
  | .hbm, ⟨66, _⟩ => ⟨S512x128, .f32⟩
  | .hbm, ⟨67, _⟩ => ⟨S512x128, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S128x1024, .f32⟩
  | .hbm, ⟨72, _⟩ => ⟨S1024x704, .f32⟩
  | .hbm, ⟨73, _⟩ => ⟨S1024x704, .f32⟩
  | .hbm, ⟨74, _⟩ => ⟨S1024x704, .f32⟩
  | .hbm, ⟨75, _⟩ => ⟨S1024x704, .f32⟩
  | .hbm, ⟨76, _⟩ => ⟨S352x1024, .f32⟩
  | .hbm, ⟨77, _⟩ => ⟨S352x1024, .f32⟩
  | .hbm, ⟨78, _⟩ => ⟨S352x1024, .f32⟩
  | .hbm, ⟨79, _⟩ => ⟨S352x1024, .f32⟩
  | .hbm, ⟨80, _⟩ => ⟨S256x128, .f32⟩
  | .hbm, ⟨81, _⟩ => ⟨S256x128, .f32⟩
  | .hbm, ⟨82, _⟩ => ⟨S256x128, .f32⟩
  | .hbm, ⟨83, _⟩ => ⟨S256x128, .f32⟩
  | .hbm, ⟨84, _⟩ => ⟨S128x1024, .f32⟩
  | .hbm, ⟨85, _⟩ => ⟨S128x1024, .f32⟩
  | .hbm, ⟨86, _⟩ => ⟨S128x1024, .f32⟩
  | .hbm, ⟨87, _⟩ => ⟨S128x1024, .f32⟩
  | .local _ .vmem, ⟨0, _⟩ => ⟨S8x512x704, .bf16⟩
  | .local _ .vmem, ⟨1, _⟩ => ⟨S8x512x704, .bf16⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S8x352x1024, .bf16⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | .local _ .vmem, ⟨24, _⟩ => ⟨S8x512x448, .bf16⟩
  | .local _ .vmem, ⟨25, _⟩ => ⟨S8x512x448, .bf16⟩
  | .local _ .vmem, ⟨26, _⟩ => ⟨S512x448, .f32⟩
  | .local _ .vmem, ⟨27, _⟩ => ⟨S512x448, .f32⟩
  | .local _ .vmem, ⟨28, _⟩ => ⟨S512x448, .f32⟩
  | .local _ .vmem, ⟨29, _⟩ => ⟨S512x448, .f32⟩
  | .local _ .vmem, ⟨30, _⟩ => ⟨S512x448, .f32⟩
  | .local _ .vmem, ⟨31, _⟩ => ⟨S512x448, .f32⟩
  | .local _ .vmem, ⟨32, _⟩ => ⟨S512x448, .f32⟩
  | .local _ .vmem, ⟨33, _⟩ => ⟨S512x448, .f32⟩
  | .local _ .vmem, ⟨34, _⟩ => ⟨S512x448, .f32⟩
  | .local _ .vmem, ⟨35, _⟩ => ⟨S512x448, .f32⟩
  | .local _ .vmem, ⟨36, _⟩ => ⟨S512x448, .f32⟩
  | .local _ .vmem, ⟨37, _⟩ => ⟨S512x448, .f32⟩
  | .local _ .vmem, ⟨38, _⟩ => ⟨S512x448, .f32⟩
  | .local _ .vmem, ⟨39, _⟩ => ⟨S512x448, .f32⟩
  | .local _ .vmem, ⟨40, _⟩ => ⟨S8x64x512, .bf16⟩
  | .local _ .vmem, ⟨41, _⟩ => ⟨S64x512, .f32⟩
  | .local _ .vmem, ⟨42, _⟩ => ⟨S64x512, .f32⟩
  | .local _ .vmem, ⟨43, _⟩ => ⟨S64x512, .f32⟩
  | .local _ .vmem, ⟨44, _⟩ => ⟨S64x512, .f32⟩
  | .local _ .vmem, ⟨45, _⟩ => ⟨S64x512, .f32⟩
  | .local _ .vmem, ⟨46, _⟩ => ⟨S64x512, .f32⟩
  | .local _ .vmem, ⟨47, _⟩ => ⟨S64x512, .f32⟩
  | .local _ .vmem, ⟨48, _⟩ => ⟨S8x512x128, .bf16⟩
  | .local _ .vmem, ⟨49, _⟩ => ⟨S512x128, .f32⟩
  | .local _ .vmem, ⟨50, _⟩ => ⟨S512x128, .f32⟩
  | .local _ .vmem, ⟨51, _⟩ => ⟨S512x128, .f32⟩
  | .local _ .vmem, ⟨52, _⟩ => ⟨S512x128, .f32⟩
  | .local _ .vmem, ⟨53, _⟩ => ⟨S512x128, .f32⟩
  | .local _ .vmem, ⟨54, _⟩ => ⟨S512x128, .f32⟩
  | .local _ .vmem, ⟨55, _⟩ => ⟨S512x128, .f32⟩
  | .local _ .vmem, ⟨56, _⟩ => ⟨S8x512x128, .bf16⟩
  | .local _ .vmem, ⟨57, _⟩ => ⟨S512x128, .f32⟩
  | .local _ .vmem, ⟨58, _⟩ => ⟨S512x128, .f32⟩
  | .local _ .vmem, ⟨59, _⟩ => ⟨S512x128, .f32⟩
  | .local _ .vmem, ⟨60, _⟩ => ⟨S512x128, .f32⟩
  | .local _ .vmem, ⟨61, _⟩ => ⟨S512x128, .f32⟩
  | .local _ .vmem, ⟨62, _⟩ => ⟨S512x128, .f32⟩
  | .local _ .vmem, ⟨63, _⟩ => ⟨S512x128, .f32⟩
  | .local _ .vmem, ⟨64, _⟩ => ⟨S8x128x1024, .bf16⟩
  | .local _ .vmem, ⟨65, _⟩ => ⟨S128x1024, .f32⟩
  | .local _ .vmem, ⟨66, _⟩ => ⟨S128x1024, .f32⟩
  | .local _ .vmem, ⟨67, _⟩ => ⟨S128x1024, .f32⟩
  | .local _ .vmem, ⟨68, _⟩ => ⟨S128x1024, .f32⟩
  | .local _ .vmem, ⟨69, _⟩ => ⟨S128x1024, .f32⟩
  | .local _ .vmem, ⟨70, _⟩ => ⟨S128x1024, .f32⟩
  | .local _ .vmem, ⟨71, _⟩ => ⟨S128x1024, .f32⟩
  | .local _ .vmem, ⟨72, _⟩ => ⟨S8x512x704, .bf16⟩
  | .local _ .vmem, ⟨73, _⟩ => ⟨S8x512x704, .bf16⟩
  | .local _ .vmem, ⟨74, _⟩ => ⟨S512x704, .f32⟩
  | .local _ .vmem, ⟨75, _⟩ => ⟨S512x704, .f32⟩
  | .local _ .vmem, ⟨76, _⟩ => ⟨S512x704, .f32⟩
  | .local _ .vmem, ⟨77, _⟩ => ⟨S512x704, .f32⟩
  | .local _ .vmem, ⟨78, _⟩ => ⟨S512x704, .f32⟩
  | .local _ .vmem, ⟨79, _⟩ => ⟨S512x704, .f32⟩
  | .local _ .vmem, ⟨80, _⟩ => ⟨S512x704, .f32⟩
  | .local _ .vmem, ⟨81, _⟩ => ⟨S512x704, .f32⟩
  | .local _ .vmem, ⟨82, _⟩ => ⟨S512x704, .f32⟩
  | .local _ .vmem, ⟨83, _⟩ => ⟨S512x704, .f32⟩
  | .local _ .vmem, ⟨84, _⟩ => ⟨S512x704, .f32⟩
  | .local _ .vmem, ⟨85, _⟩ => ⟨S512x704, .f32⟩
  | .local _ .vmem, ⟨86, _⟩ => ⟨S512x704, .f32⟩
  | .local _ .vmem, ⟨87, _⟩ => ⟨S512x704, .f32⟩
  | .local _ .vmem, ⟨88, _⟩ => ⟨S8x352x1024, .bf16⟩
  | .local _ .vmem, ⟨89, _⟩ => ⟨S352x1024, .f32⟩
  | .local _ .vmem, ⟨90, _⟩ => ⟨S352x1024, .f32⟩
  | .local _ .vmem, ⟨91, _⟩ => ⟨S352x1024, .f32⟩
  | .local _ .vmem, ⟨92, _⟩ => ⟨S352x1024, .f32⟩
  | .local _ .vmem, ⟨93, _⟩ => ⟨S352x1024, .f32⟩
  | .local _ .vmem, ⟨94, _⟩ => ⟨S352x1024, .f32⟩
  | .local _ .vmem, ⟨95, _⟩ => ⟨S352x1024, .f32⟩
  | .local _ .vmem, ⟨96, _⟩ => ⟨S8x256x128, .bf16⟩
  | .local _ .vmem, ⟨97, _⟩ => ⟨S256x128, .f32⟩
  | .local _ .vmem, ⟨98, _⟩ => ⟨S256x128, .f32⟩
  | .local _ .vmem, ⟨99, _⟩ => ⟨S256x128, .f32⟩
  | .local _ .vmem, ⟨100, _⟩ => ⟨S256x128, .f32⟩
  | .local _ .vmem, ⟨101, _⟩ => ⟨S256x128, .f32⟩
  | .local _ .vmem, ⟨102, _⟩ => ⟨S256x128, .f32⟩
  | .local _ .vmem, ⟨103, _⟩ => ⟨S256x128, .f32⟩
  | .local _ .vmem, ⟨104, _⟩ => ⟨S8x128x1024, .bf16⟩
  | .local _ .vmem, ⟨105, _⟩ => ⟨S128x1024, .f32⟩
  | .local _ .vmem, ⟨106, _⟩ => ⟨S128x1024, .f32⟩
  | .local _ .vmem, ⟨107, _⟩ => ⟨S128x1024, .f32⟩
  | .local _ .vmem, ⟨108, _⟩ => ⟨S128x1024, .f32⟩
  | .local _ .vmem, ⟨109, _⟩ => ⟨S128x1024, .f32⟩
  | .local _ .vmem, ⟨110, _⟩ => ⟨S128x1024, .f32⟩
  | .local _ .vmem, ⟨111, _⟩ => ⟨S128x1024, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0_0 : Ref sig .tc := ⟨.hbm, 44, rfl⟩
abbrev main_v0_1 : Ref sig .tc := ⟨.hbm, 45, rfl⟩
abbrev main_v0_2 : Ref sig .tc := ⟨.hbm, 46, rfl⟩
abbrev main_v0_3 : Ref sig .tc := ⟨.hbm, 47, rfl⟩
abbrev main_v1_0 : Ref sig .tc := ⟨.hbm, 48, rfl⟩
abbrev main_v1_1 : Ref sig .tc := ⟨.hbm, 49, rfl⟩
abbrev main_v1_2 : Ref sig .tc := ⟨.hbm, 50, rfl⟩
abbrev main_v1_3 : Ref sig .tc := ⟨.hbm, 51, rfl⟩
abbrev main_v2_0 : Ref sig .tc := ⟨.hbm, 52, rfl⟩
abbrev main_v2_1 : Ref sig .tc := ⟨.hbm, 53, rfl⟩
abbrev main_v2_2 : Ref sig .tc := ⟨.hbm, 54, rfl⟩
abbrev main_v2_3 : Ref sig .tc := ⟨.hbm, 55, rfl⟩
abbrev main_v3_0 : Ref sig .tc := ⟨.hbm, 56, rfl⟩
abbrev main_v3_1 : Ref sig .tc := ⟨.hbm, 57, rfl⟩
abbrev main_v3_2 : Ref sig .tc := ⟨.hbm, 58, rfl⟩
abbrev main_v3_3 : Ref sig .tc := ⟨.hbm, 59, rfl⟩
abbrev main_v4_0 : Ref sig .tc := ⟨.hbm, 60, rfl⟩
abbrev main_v4_1 : Ref sig .tc := ⟨.hbm, 61, rfl⟩
abbrev main_v4_2 : Ref sig .tc := ⟨.hbm, 62, rfl⟩
abbrev main_v4_3 : Ref sig .tc := ⟨.hbm, 63, rfl⟩
abbrev main_v5_0 : Ref sig .tc := ⟨.hbm, 64, rfl⟩
abbrev main_v5_1 : Ref sig .tc := ⟨.hbm, 65, rfl⟩
abbrev main_v5_2 : Ref sig .tc := ⟨.hbm, 66, rfl⟩
abbrev main_v5_3 : Ref sig .tc := ⟨.hbm, 67, rfl⟩
abbrev main_v6_0 : Ref sig .tc := ⟨.hbm, 68, rfl⟩
abbrev main_v6_1 : Ref sig .tc := ⟨.hbm, 69, rfl⟩
abbrev main_v6_2 : Ref sig .tc := ⟨.hbm, 70, rfl⟩
abbrev main_v6_3 : Ref sig .tc := ⟨.hbm, 71, rfl⟩
abbrev main_v7_0 : Ref sig .tc := ⟨.hbm, 72, rfl⟩
abbrev main_v7_1 : Ref sig .tc := ⟨.hbm, 73, rfl⟩
abbrev main_v7_2 : Ref sig .tc := ⟨.hbm, 74, rfl⟩
abbrev main_v7_3 : Ref sig .tc := ⟨.hbm, 75, rfl⟩
abbrev main_v8_0 : Ref sig .tc := ⟨.hbm, 76, rfl⟩
abbrev main_v8_1 : Ref sig .tc := ⟨.hbm, 77, rfl⟩
abbrev main_v8_2 : Ref sig .tc := ⟨.hbm, 78, rfl⟩
abbrev main_v8_3 : Ref sig .tc := ⟨.hbm, 79, rfl⟩
abbrev main_v9_0 : Ref sig .tc := ⟨.hbm, 80, rfl⟩
abbrev main_v9_1 : Ref sig .tc := ⟨.hbm, 81, rfl⟩
abbrev main_v9_2 : Ref sig .tc := ⟨.hbm, 82, rfl⟩
abbrev main_v9_3 : Ref sig .tc := ⟨.hbm, 83, rfl⟩
abbrev main_v10_0 : Ref sig .tc := ⟨.hbm, 84, rfl⟩
abbrev main_v10_1 : Ref sig .tc := ⟨.hbm, 85, rfl⟩
abbrev main_v10_2 : Ref sig .tc := ⟨.hbm, 86, rfl⟩
abbrev main_v10_3 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc4_stg0_0 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc5_stg0_0 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg7_0 : Ref sig .tc := ⟨.vmem, 63, rfl⟩
abbrev cc6_stg0_0 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg7_0 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg2_1 : Ref sig .tc := ⟨.vmem, 77, rfl⟩
abbrev cc7_stg3_0 : Ref sig .tc := ⟨.vmem, 78, rfl⟩
abbrev cc7_stg3_1 : Ref sig .tc := ⟨.vmem, 79, rfl⟩
abbrev cc7_stg4_0 : Ref sig .tc := ⟨.vmem, 80, rfl⟩
abbrev cc7_stg4_1 : Ref sig .tc := ⟨.vmem, 81, rfl⟩
abbrev cc7_stg5_0 : Ref sig .tc := ⟨.vmem, 82, rfl⟩
abbrev cc7_stg5_1 : Ref sig .tc := ⟨.vmem, 83, rfl⟩
abbrev cc7_stg6_0 : Ref sig .tc := ⟨.vmem, 84, rfl⟩
abbrev cc7_stg6_1 : Ref sig .tc := ⟨.vmem, 85, rfl⟩
abbrev cc7_stg7_0 : Ref sig .tc := ⟨.vmem, 86, rfl⟩
abbrev cc7_stg7_1 : Ref sig .tc := ⟨.vmem, 87, rfl⟩
abbrev cc8_stg0_0 : Ref sig .tc := ⟨.vmem, 88, rfl⟩
abbrev cc8_stg1_0 : Ref sig .tc := ⟨.vmem, 89, rfl⟩
abbrev cc8_stg2_0 : Ref sig .tc := ⟨.vmem, 90, rfl⟩
abbrev cc8_stg3_0 : Ref sig .tc := ⟨.vmem, 91, rfl⟩
abbrev cc8_stg4_0 : Ref sig .tc := ⟨.vmem, 92, rfl⟩
abbrev cc8_stg5_0 : Ref sig .tc := ⟨.vmem, 93, rfl⟩
abbrev cc8_stg6_0 : Ref sig .tc := ⟨.vmem, 94, rfl⟩
abbrev cc8_stg7_0 : Ref sig .tc := ⟨.vmem, 95, rfl⟩
abbrev cc9_stg0_0 : Ref sig .tc := ⟨.vmem, 96, rfl⟩
abbrev cc9_stg1_0 : Ref sig .tc := ⟨.vmem, 97, rfl⟩
abbrev cc9_stg2_0 : Ref sig .tc := ⟨.vmem, 98, rfl⟩
abbrev cc9_stg3_0 : Ref sig .tc := ⟨.vmem, 99, rfl⟩
abbrev cc9_stg4_0 : Ref sig .tc := ⟨.vmem, 100, rfl⟩
abbrev cc9_stg5_0 : Ref sig .tc := ⟨.vmem, 101, rfl⟩
abbrev cc9_stg6_0 : Ref sig .tc := ⟨.vmem, 102, rfl⟩
abbrev cc9_stg7_0 : Ref sig .tc := ⟨.vmem, 103, rfl⟩
abbrev cc10_stg0_0 : Ref sig .tc := ⟨.vmem, 104, rfl⟩
abbrev cc10_stg1_0 : Ref sig .tc := ⟨.vmem, 105, rfl⟩
abbrev cc10_stg2_0 : Ref sig .tc := ⟨.vmem, 106, rfl⟩
abbrev cc10_stg3_0 : Ref sig .tc := ⟨.vmem, 107, rfl⟩
abbrev cc10_stg4_0 : Ref sig .tc := ⟨.vmem, 108, rfl⟩
abbrev cc10_stg5_0 : Ref sig .tc := ⟨.vmem, 109, rfl⟩
abbrev cc10_stg6_0 : Ref sig .tc := ⟨.vmem, 110, rfl⟩
abbrev cc10_stg7_0 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc4_sem0_0 : DmaSem sig := 48
abbrev cc4_sem1_0 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc5_sem0_0 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem7_0 : DmaSem sig := 63
abbrev cc6_sem0_0 : DmaSem sig := 64
abbrev cc6_sem1_0 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem6_0 : DmaSem sig := 70
abbrev cc6_sem7_0 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem2_1 : DmaSem sig := 77
abbrev cc7_sem3_0 : DmaSem sig := 78
abbrev cc7_sem3_1 : DmaSem sig := 79
abbrev cc7_sem4_0 : DmaSem sig := 80
abbrev cc7_sem4_1 : DmaSem sig := 81
abbrev cc7_sem5_0 : DmaSem sig := 82
abbrev cc7_sem5_1 : DmaSem sig := 83
abbrev cc7_sem6_0 : DmaSem sig := 84
abbrev cc7_sem6_1 : DmaSem sig := 85
abbrev cc7_sem7_0 : DmaSem sig := 86
abbrev cc7_sem7_1 : DmaSem sig := 87
abbrev cc8_sem0_0 : DmaSem sig := 88
abbrev cc8_sem1_0 : DmaSem sig := 89
abbrev cc8_sem2_0 : DmaSem sig := 90
abbrev cc8_sem3_0 : DmaSem sig := 91
abbrev cc8_sem4_0 : DmaSem sig := 92
abbrev cc8_sem5_0 : DmaSem sig := 93
abbrev cc8_sem6_0 : DmaSem sig := 94
abbrev cc8_sem7_0 : DmaSem sig := 95
abbrev cc9_sem0_0 : DmaSem sig := 96
abbrev cc9_sem1_0 : DmaSem sig := 97
abbrev cc9_sem2_0 : DmaSem sig := 98
abbrev cc9_sem3_0 : DmaSem sig := 99
abbrev cc9_sem4_0 : DmaSem sig := 100
abbrev cc9_sem5_0 : DmaSem sig := 101
abbrev cc9_sem6_0 : DmaSem sig := 102
abbrev cc9_sem7_0 : DmaSem sig := 103
abbrev cc10_sem0_0 : DmaSem sig := 104
abbrev cc10_sem1_0 : DmaSem sig := 105
abbrev cc10_sem2_0 : DmaSem sig := 106
abbrev cc10_sem3_0 : DmaSem sig := 107
abbrev cc10_sem4_0 : DmaSem sig := 108
abbrev cc10_sem5_0 : DmaSem sig := 109
abbrev cc10_sem6_0 : DmaSem sig := 110
abbrev cc10_sem7_0 : DmaSem sig := 111

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S352x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x512x448 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x448 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x448 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x448 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x448 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x448 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x448 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x448 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S8x64x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S64x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S64x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S64x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S64x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S64x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S64x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S8x512x128 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S512x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S512x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S512x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S512x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S512x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S512x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S512x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S8x512x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S512x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S512x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S512x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S512x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S512x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S512x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S512x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S8x128x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S128x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S128x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S128x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S128x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S128x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev stage6_7 : Fin 1 → Memref sig .tc .vmem S128x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]

abbrev grid7 : Pipeline.Grid := ⟨1, ![2], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x512x704 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x704 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x704 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x704 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S512x704 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S512x704 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S512x704 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S512x704 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![1], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S8x352x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S352x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S352x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S352x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S352x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S352x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev stage8_6 : Fin 1 → Memref sig .tc .vmem S352x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]

abbrev stage8_7 : Fin 1 → Memref sig .tc .vmem S352x1024 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![true]

abbrev grid9 : Pipeline.Grid := ⟨1, ![1], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S8x256x128 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S256x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S256x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S256x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev stage9_4 : Fin 1 → Memref sig .tc .vmem S256x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev stage9_5 : Fin 1 → Memref sig .tc .vmem S256x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![true]

abbrev stage9_6 : Fin 1 → Memref sig .tc .vmem S256x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![true]

abbrev stage9_7 : Fin 1 → Memref sig .tc .vmem S256x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S8x128x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S128x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

abbrev stage10_3 : Fin 1 → Memref sig .tc .vmem S128x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev stage10_4 : Fin 1 → Memref sig .tc .vmem S128x1024 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev stage10_5 : Fin 1 → Memref sig .tc .vmem S128x1024 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![true]

abbrev stage10_6 : Fin 1 → Memref sig .tc .vmem S128x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![true]

abbrev stage10_7 : Fin 1 → Memref sig .tc .vmem S128x1024 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![true]
-- ==== Reference6Ideal.lean ====
abbrev S8x1024x704 : Shape := ⟨3, ![8, 1024, 704]⟩
abbrev S1024x704 : Shape := ⟨2, ![1024, 704]⟩
abbrev S8x352x1024 : Shape := ⟨3, ![8, 352, 1024]⟩
abbrev S352x1024 : Shape := ⟨2, ![352, 1024]⟩
abbrev S8x1024x448 : Shape := ⟨3, ![8, 1024, 448]⟩
abbrev S1024x448 : Shape := ⟨2, ![1024, 448]⟩
abbrev S8x64x512 : Shape := ⟨3, ![8, 64, 512]⟩
abbrev S64x512 : Shape := ⟨2, ![64, 512]⟩
abbrev S8x512x128 : Shape := ⟨3, ![8, 512, 128]⟩
abbrev S512x128 : Shape := ⟨2, ![512, 128]⟩
abbrev S8x128x1024 : Shape := ⟨3, ![8, 128, 1024]⟩
abbrev S128x1024 : Shape := ⟨2, ![128, 1024]⟩
abbrev S8x256x128 : Shape := ⟨3, ![8, 256, 128]⟩
abbrev S256x128 : Shape := ⟨2, ![256, 128]⟩
abbrev S_ : Shape := ⟨0, ![]⟩

abbrev nBuf : Space → Nat
  | .hbm => 440
  | .vmem => 0
  | .smem => 0
  | _ => 0

abbrev hbmTy0_0 (i : Nat) : BufTy := match i % 128 with
  | 0 => ⟨S8x1024x704, .bf16⟩
  | 1 => ⟨S1024x704, .f32⟩
  | 2 => ⟨S1024x704, .f32⟩
  | 3 => ⟨S1024x704, .f32⟩
  | 4 => ⟨S8x352x1024, .bf16⟩
  | 5 => ⟨S352x1024, .f32⟩
  | 6 => ⟨S352x1024, .f32⟩
  | 7 => ⟨S352x1024, .f32⟩
  | 8 => ⟨S8x1024x448, .bf16⟩
  | 9 => ⟨S1024x448, .f32⟩
  | 10 => ⟨S1024x448, .f32⟩
  | 11 => ⟨S1024x448, .f32⟩
  | 12 => ⟨S8x64x512, .bf16⟩
  | 13 => ⟨S64x512, .f32⟩
  | 14 => ⟨S64x512, .f32⟩
  | 15 => ⟨S64x512, .f32⟩
  | 16 => ⟨S8x512x128, .bf16⟩
  | 17 => ⟨S512x128, .f32⟩
  | 18 => ⟨S512x128, .f32⟩
  | 19 => ⟨S512x128, .f32⟩
  | 20 => ⟨S8x512x128, .bf16⟩
  | 21 => ⟨S512x128, .f32⟩
  | 22 => ⟨S512x128, .f32⟩
  | 23 => ⟨S512x128, .f32⟩
  | 24 => ⟨S8x128x1024, .bf16⟩
  | 25 => ⟨S128x1024, .f32⟩
  | 26 => ⟨S128x1024, .f32⟩
  | 27 => ⟨S128x1024, .f32⟩
  | 28 => ⟨S8x1024x704, .bf16⟩
  | 29 => ⟨S1024x704, .f32⟩
  | 30 => ⟨S1024x704, .f32⟩
  | 31 => ⟨S1024x704, .f32⟩
  | 32 => ⟨S8x352x1024, .bf16⟩
  | 33 => ⟨S352x1024, .f32⟩
  | 34 => ⟨S352x1024, .f32⟩
  | 35 => ⟨S352x1024, .f32⟩
  | 36 => ⟨S8x256x128, .bf16⟩
  | 37 => ⟨S256x128, .f32⟩
  | 38 => ⟨S256x128, .f32⟩
  | 39 => ⟨S256x128, .f32⟩
  | 40 => ⟨S8x128x1024, .bf16⟩
  | 41 => ⟨S128x1024, .f32⟩
  | 42 => ⟨S128x1024, .f32⟩
  | 43 => ⟨S128x1024, .f32⟩
  | 44 => ⟨S8x1024x704, .f32⟩
  | 45 => ⟨S_, .f32⟩
  | 46 => ⟨S1024x704, .f32⟩
  | 47 => ⟨S_, .f32⟩
  | 48 => ⟨S1024x704, .f32⟩
  | 49 => ⟨S1024x704, .f32⟩
  | 50 => ⟨S_, .f32⟩
  | 51 => ⟨S1024x704, .f32⟩
  | 52 => ⟨S1024x704, .f32⟩
  | 53 => ⟨S1024x704, .f32⟩
  | 54 => ⟨S_, .f32⟩
  | 55 => ⟨S1024x704, .f32⟩
  | 56 => ⟨S1024x704, .f32⟩
  | 57 => ⟨S1024x704, .f32⟩
  | 58 => ⟨S_, .f32⟩
  | 59 => ⟨S1024x704, .f32⟩
  | 60 => ⟨S1024x704, .f32⟩
  | 61 => ⟨S1024x704, .f32⟩
  | 62 => ⟨S_, .f32⟩
  | 63 => ⟨S1024x704, .f32⟩
  | 64 => ⟨S1024x704, .f32⟩
  | 65 => ⟨S_, .f32⟩
  | 66 => ⟨S1024x704, .f32⟩
  | 67 => ⟨S1024x704, .f32⟩
  | 68 => ⟨S1024x704, .f32⟩
  | 69 => ⟨S_, .f32⟩
  | 70 => ⟨S1024x704, .f32⟩
  | 71 => ⟨S1024x704, .f32⟩
  | 72 => ⟨S1024x704, .f32⟩
  | 73 => ⟨S_, .f32⟩
  | 74 => ⟨S1024x704, .f32⟩
  | 75 => ⟨S1024x704, .f32⟩
  | 76 => ⟨S1024x704, .f32⟩
  | 77 => ⟨S_, .f32⟩
  | 78 => ⟨S1024x704, .f32⟩
  | 79 => ⟨S1024x704, .f32⟩
  | 80 => ⟨S8x352x1024, .f32⟩
  | 81 => ⟨S_, .f32⟩
  | 82 => ⟨S352x1024, .f32⟩
  | 83 => ⟨S_, .f32⟩
  | 84 => ⟨S352x1024, .f32⟩
  | 85 => ⟨S352x1024, .f32⟩
  | 86 => ⟨S_, .f32⟩
  | 87 => ⟨S352x1024, .f32⟩
  | 88 => ⟨S352x1024, .f32⟩
  | 89 => ⟨S352x1024, .f32⟩
  | 90 => ⟨S_, .f32⟩
  | 91 => ⟨S352x1024, .f32⟩
  | 92 => ⟨S352x1024, .f32⟩
  | 93 => ⟨S352x1024, .f32⟩
  | 94 => ⟨S_, .f32⟩
  | 95 => ⟨S352x1024, .f32⟩
  | 96 => ⟨S352x1024, .f32⟩
  | 97 => ⟨S352x1024, .f32⟩
  | 98 => ⟨S_, .f32⟩
  | 99 => ⟨S352x1024, .f32⟩
  | 100 => ⟨S352x1024, .f32⟩
  | 101 => ⟨S_, .f32⟩
  | 102 => ⟨S352x1024, .f32⟩
  | 103 => ⟨S352x1024, .f32⟩
  | 104 => ⟨S352x1024, .f32⟩
  | 105 => ⟨S_, .f32⟩
  | 106 => ⟨S352x1024, .f32⟩
  | 107 => ⟨S352x1024, .f32⟩
  | 108 => ⟨S352x1024, .f32⟩
  | 109 => ⟨S_, .f32⟩
  | 110 => ⟨S352x1024, .f32⟩
  | 111 => ⟨S352x1024, .f32⟩
  | 112 => ⟨S352x1024, .f32⟩
  | 113 => ⟨S_, .f32⟩
  | 114 => ⟨S352x1024, .f32⟩
  | 115 => ⟨S352x1024, .f32⟩
  | 116 => ⟨S8x1024x448, .f32⟩
  | 117 => ⟨S_, .f32⟩
  | 118 => ⟨S1024x448, .f32⟩
  | 119 => ⟨S_, .f32⟩
  | 120 => ⟨S1024x448, .f32⟩
  | 121 => ⟨S1024x448, .f32⟩
  | 122 => ⟨S_, .f32⟩
  | 123 => ⟨S1024x448, .f32⟩
  | 124 => ⟨S1024x448, .f32⟩
  | 125 => ⟨S1024x448, .f32⟩
  | 126 => ⟨S_, .f32⟩
  | 127 => ⟨S1024x448, .f32⟩
  | _ => ⟨S8x1024x704, .bf16⟩

abbrev hbmTy0_1 (i : Nat) : BufTy := match i % 128 with
  | 0 => ⟨S1024x448, .f32⟩
  | 1 => ⟨S1024x448, .f32⟩
  | 2 => ⟨S_, .f32⟩
  | 3 => ⟨S1024x448, .f32⟩
  | 4 => ⟨S1024x448, .f32⟩
  | 5 => ⟨S1024x448, .f32⟩
  | 6 => ⟨S_, .f32⟩
  | 7 => ⟨S1024x448, .f32⟩
  | 8 => ⟨S1024x448, .f32⟩
  | 9 => ⟨S_, .f32⟩
  | 10 => ⟨S1024x448, .f32⟩
  | 11 => ⟨S1024x448, .f32⟩
  | 12 => ⟨S1024x448, .f32⟩
  | 13 => ⟨S_, .f32⟩
  | 14 => ⟨S1024x448, .f32⟩
  | 15 => ⟨S1024x448, .f32⟩
  | 16 => ⟨S1024x448, .f32⟩
  | 17 => ⟨S_, .f32⟩
  | 18 => ⟨S1024x448, .f32⟩
  | 19 => ⟨S1024x448, .f32⟩
  | 20 => ⟨S1024x448, .f32⟩
  | 21 => ⟨S_, .f32⟩
  | 22 => ⟨S1024x448, .f32⟩
  | 23 => ⟨S1024x448, .f32⟩
  | 24 => ⟨S8x64x512, .f32⟩
  | 25 => ⟨S_, .f32⟩
  | 26 => ⟨S64x512, .f32⟩
  | 27 => ⟨S_, .f32⟩
  | 28 => ⟨S64x512, .f32⟩
  | 29 => ⟨S64x512, .f32⟩
  | 30 => ⟨S_, .f32⟩
  | 31 => ⟨S64x512, .f32⟩
  | 32 => ⟨S64x512, .f32⟩
  | 33 => ⟨S64x512, .f32⟩
  | 34 => ⟨S_, .f32⟩
  | 35 => ⟨S64x512, .f32⟩
  | 36 => ⟨S64x512, .f32⟩
  | 37 => ⟨S64x512, .f32⟩
  | 38 => ⟨S_, .f32⟩
  | 39 => ⟨S64x512, .f32⟩
  | 40 => ⟨S64x512, .f32⟩
  | 41 => ⟨S64x512, .f32⟩
  | 42 => ⟨S_, .f32⟩
  | 43 => ⟨S64x512, .f32⟩
  | 44 => ⟨S64x512, .f32⟩
  | 45 => ⟨S_, .f32⟩
  | 46 => ⟨S64x512, .f32⟩
  | 47 => ⟨S64x512, .f32⟩
  | 48 => ⟨S64x512, .f32⟩
  | 49 => ⟨S_, .f32⟩
  | 50 => ⟨S64x512, .f32⟩
  | 51 => ⟨S64x512, .f32⟩
  | 52 => ⟨S64x512, .f32⟩
  | 53 => ⟨S_, .f32⟩
  | 54 => ⟨S64x512, .f32⟩
  | 55 => ⟨S64x512, .f32⟩
  | 56 => ⟨S64x512, .f32⟩
  | 57 => ⟨S_, .f32⟩
  | 58 => ⟨S64x512, .f32⟩
  | 59 => ⟨S64x512, .f32⟩
  | 60 => ⟨S8x512x128, .f32⟩
  | 61 => ⟨S_, .f32⟩
  | 62 => ⟨S512x128, .f32⟩
  | 63 => ⟨S_, .f32⟩
  | 64 => ⟨S512x128, .f32⟩
  | 65 => ⟨S512x128, .f32⟩
  | 66 => ⟨S_, .f32⟩
  | 67 => ⟨S512x128, .f32⟩
  | 68 => ⟨S512x128, .f32⟩
  | 69 => ⟨S512x128, .f32⟩
  | 70 => ⟨S_, .f32⟩
  | 71 => ⟨S512x128, .f32⟩
  | 72 => ⟨S512x128, .f32⟩
  | 73 => ⟨S512x128, .f32⟩
  | 74 => ⟨S_, .f32⟩
  | 75 => ⟨S512x128, .f32⟩
  | 76 => ⟨S512x128, .f32⟩
  | 77 => ⟨S512x128, .f32⟩
  | 78 => ⟨S_, .f32⟩
  | 79 => ⟨S512x128, .f32⟩
  | 80 => ⟨S512x128, .f32⟩
  | 81 => ⟨S_, .f32⟩
  | 82 => ⟨S512x128, .f32⟩
  | 83 => ⟨S512x128, .f32⟩
  | 84 => ⟨S512x128, .f32⟩
  | 85 => ⟨S_, .f32⟩
  | 86 => ⟨S512x128, .f32⟩
  | 87 => ⟨S512x128, .f32⟩
  | 88 => ⟨S512x128, .f32⟩
  | 89 => ⟨S_, .f32⟩
  | 90 => ⟨S512x128, .f32⟩
  | 91 => ⟨S512x128, .f32⟩
  | 92 => ⟨S512x128, .f32⟩
  | 93 => ⟨S_, .f32⟩
  | 94 => ⟨S512x128, .f32⟩
  | 95 => ⟨S512x128, .f32⟩
  | 96 => ⟨S8x512x128, .f32⟩
  | 97 => ⟨S_, .f32⟩
  | 98 => ⟨S512x128, .f32⟩
  | 99 => ⟨S_, .f32⟩
  | 100 => ⟨S512x128, .f32⟩
  | 101 => ⟨S512x128, .f32⟩
  | 102 => ⟨S_, .f32⟩
  | 103 => ⟨S512x128, .f32⟩
  | 104 => ⟨S512x128, .f32⟩
  | 105 => ⟨S512x128, .f32⟩
  | 106 => ⟨S_, .f32⟩
  | 107 => ⟨S512x128, .f32⟩
  | 108 => ⟨S512x128, .f32⟩
  | 109 => ⟨S512x128, .f32⟩
  | 110 => ⟨S_, .f32⟩
  | 111 => ⟨S512x128, .f32⟩
  | 112 => ⟨S512x128, .f32⟩
  | 113 => ⟨S512x128, .f32⟩
  | 114 => ⟨S_, .f32⟩
  | 115 => ⟨S512x128, .f32⟩
  | 116 => ⟨S512x128, .f32⟩
  | 117 => ⟨S_, .f32⟩
  | 118 => ⟨S512x128, .f32⟩
  | 119 => ⟨S512x128, .f32⟩
  | 120 => ⟨S512x128, .f32⟩
  | 121 => ⟨S_, .f32⟩
  | 122 => ⟨S512x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S8x1024x704, .bf16⟩

abbrev hbmTy0_2 (i : Nat) : BufTy := match i % 128 with
  | 0 => ⟨S512x128, .f32⟩
  | 1 => ⟨S_, .f32⟩
  | 2 => ⟨S512x128, .f32⟩
  | 3 => ⟨S512x128, .f32⟩
  | 4 => ⟨S8x128x1024, .f32⟩
  | 5 => ⟨S_, .f32⟩
  | 6 => ⟨S128x1024, .f32⟩
  | 7 => ⟨S_, .f32⟩
  | 8 => ⟨S128x1024, .f32⟩
  | 9 => ⟨S128x1024, .f32⟩
  | 10 => ⟨S_, .f32⟩
  | 11 => ⟨S128x1024, .f32⟩
  | 12 => ⟨S128x1024, .f32⟩
  | 13 => ⟨S128x1024, .f32⟩
  | 14 => ⟨S_, .f32⟩
  | 15 => ⟨S128x1024, .f32⟩
  | 16 => ⟨S128x1024, .f32⟩
  | 17 => ⟨S128x1024, .f32⟩
  | 18 => ⟨S_, .f32⟩
  | 19 => ⟨S128x1024, .f32⟩
  | 20 => ⟨S128x1024, .f32⟩
  | 21 => ⟨S128x1024, .f32⟩
  | 22 => ⟨S_, .f32⟩
  | 23 => ⟨S128x1024, .f32⟩
  | 24 => ⟨S128x1024, .f32⟩
  | 25 => ⟨S_, .f32⟩
  | 26 => ⟨S128x1024, .f32⟩
  | 27 => ⟨S128x1024, .f32⟩
  | 28 => ⟨S128x1024, .f32⟩
  | 29 => ⟨S_, .f32⟩
  | 30 => ⟨S128x1024, .f32⟩
  | 31 => ⟨S128x1024, .f32⟩
  | 32 => ⟨S128x1024, .f32⟩
  | 33 => ⟨S_, .f32⟩
  | 34 => ⟨S128x1024, .f32⟩
  | 35 => ⟨S128x1024, .f32⟩
  | 36 => ⟨S128x1024, .f32⟩
  | 37 => ⟨S_, .f32⟩
  | 38 => ⟨S128x1024, .f32⟩
  | 39 => ⟨S128x1024, .f32⟩
  | 40 => ⟨S8x1024x704, .f32⟩
  | 41 => ⟨S_, .f32⟩
  | 42 => ⟨S1024x704, .f32⟩
  | 43 => ⟨S_, .f32⟩
  | 44 => ⟨S1024x704, .f32⟩
  | 45 => ⟨S1024x704, .f32⟩
  | 46 => ⟨S_, .f32⟩
  | 47 => ⟨S1024x704, .f32⟩
  | 48 => ⟨S1024x704, .f32⟩
  | 49 => ⟨S1024x704, .f32⟩
  | 50 => ⟨S_, .f32⟩
  | 51 => ⟨S1024x704, .f32⟩
  | 52 => ⟨S1024x704, .f32⟩
  | 53 => ⟨S1024x704, .f32⟩
  | 54 => ⟨S_, .f32⟩
  | 55 => ⟨S1024x704, .f32⟩
  | 56 => ⟨S1024x704, .f32⟩
  | 57 => ⟨S1024x704, .f32⟩
  | 58 => ⟨S_, .f32⟩
  | 59 => ⟨S1024x704, .f32⟩
  | 60 => ⟨S1024x704, .f32⟩
  | 61 => ⟨S_, .f32⟩
  | 62 => ⟨S1024x704, .f32⟩
  | 63 => ⟨S1024x704, .f32⟩
  | 64 => ⟨S1024x704, .f32⟩
  | 65 => ⟨S_, .f32⟩
  | 66 => ⟨S1024x704, .f32⟩
  | 67 => ⟨S1024x704, .f32⟩
  | 68 => ⟨S1024x704, .f32⟩
  | 69 => ⟨S_, .f32⟩
  | 70 => ⟨S1024x704, .f32⟩
  | 71 => ⟨S1024x704, .f32⟩
  | 72 => ⟨S1024x704, .f32⟩
  | 73 => ⟨S_, .f32⟩
  | 74 => ⟨S1024x704, .f32⟩
  | 75 => ⟨S1024x704, .f32⟩
  | 76 => ⟨S8x352x1024, .f32⟩
  | 77 => ⟨S_, .f32⟩
  | 78 => ⟨S352x1024, .f32⟩
  | 79 => ⟨S_, .f32⟩
  | 80 => ⟨S352x1024, .f32⟩
  | 81 => ⟨S352x1024, .f32⟩
  | 82 => ⟨S_, .f32⟩
  | 83 => ⟨S352x1024, .f32⟩
  | 84 => ⟨S352x1024, .f32⟩
  | 85 => ⟨S352x1024, .f32⟩
  | 86 => ⟨S_, .f32⟩
  | 87 => ⟨S352x1024, .f32⟩
  | 88 => ⟨S352x1024, .f32⟩
  | 89 => ⟨S352x1024, .f32⟩
  | 90 => ⟨S_, .f32⟩
  | 91 => ⟨S352x1024, .f32⟩
  | 92 => ⟨S352x1024, .f32⟩
  | 93 => ⟨S352x1024, .f32⟩
  | 94 => ⟨S_, .f32⟩
  | 95 => ⟨S352x1024, .f32⟩
  | 96 => ⟨S352x1024, .f32⟩
  | 97 => ⟨S_, .f32⟩
  | 98 => ⟨S352x1024, .f32⟩
  | 99 => ⟨S352x1024, .f32⟩
  | 100 => ⟨S352x1024, .f32⟩
  | 101 => ⟨S_, .f32⟩
  | 102 => ⟨S352x1024, .f32⟩
  | 103 => ⟨S352x1024, .f32⟩
  | 104 => ⟨S352x1024, .f32⟩
  | 105 => ⟨S_, .f32⟩
  | 106 => ⟨S352x1024, .f32⟩
  | 107 => ⟨S352x1024, .f32⟩
  | 108 => ⟨S352x1024, .f32⟩
  | 109 => ⟨S_, .f32⟩
  | 110 => ⟨S352x1024, .f32⟩
  | 111 => ⟨S352x1024, .f32⟩
  | 112 => ⟨S8x256x128, .f32⟩
  | 113 => ⟨S_, .f32⟩
  | 114 => ⟨S256x128, .f32⟩
  | 115 => ⟨S_, .f32⟩
  | 116 => ⟨S256x128, .f32⟩
  | 117 => ⟨S256x128, .f32⟩
  | 118 => ⟨S_, .f32⟩
  | 119 => ⟨S256x128, .f32⟩
  | 120 => ⟨S256x128, .f32⟩
  | 121 => ⟨S256x128, .f32⟩
  | 122 => ⟨S_, .f32⟩
  | 123 => ⟨S256x128, .f32⟩
  | 124 => ⟨S256x128, .f32⟩
  | 125 => ⟨S256x128, .f32⟩
  | 126 => ⟨S_, .f32⟩
  | 127 => ⟨S256x128, .f32⟩
  | _ => ⟨S8x1024x704, .bf16⟩

abbrev hbmTy0_3 (i : Nat) : BufTy := match i % 128 with
  | 0 => ⟨S256x128, .f32⟩
  | 1 => ⟨S256x128, .f32⟩
  | 2 => ⟨S_, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S256x128, .f32⟩
  | 9 => ⟨S_, .f32⟩
  | 10 => ⟨S256x128, .f32⟩
  | 11 => ⟨S256x128, .f32⟩
  | 12 => ⟨S256x128, .f32⟩
  | 13 => ⟨S_, .f32⟩
  | 14 => ⟨S256x128, .f32⟩
  | 15 => ⟨S256x128, .f32⟩
  | 16 => ⟨S256x128, .f32⟩
  | 17 => ⟨S_, .f32⟩
  | 18 => ⟨S256x128, .f32⟩
  | 19 => ⟨S256x128, .f32⟩
  | 20 => ⟨S8x128x1024, .f32⟩
  | 21 => ⟨S_, .f32⟩
  | 22 => ⟨S128x1024, .f32⟩
  | 23 => ⟨S_, .f32⟩
  | 24 => ⟨S128x1024, .f32⟩
  | 25 => ⟨S128x1024, .f32⟩
  | 26 => ⟨S_, .f32⟩
  | 27 => ⟨S128x1024, .f32⟩
  | 28 => ⟨S128x1024, .f32⟩
  | 29 => ⟨S128x1024, .f32⟩
  | 30 => ⟨S_, .f32⟩
  | 31 => ⟨S128x1024, .f32⟩
  | 32 => ⟨S128x1024, .f32⟩
  | 33 => ⟨S128x1024, .f32⟩
  | 34 => ⟨S_, .f32⟩
  | 35 => ⟨S128x1024, .f32⟩
  | 36 => ⟨S128x1024, .f32⟩
  | 37 => ⟨S128x1024, .f32⟩
  | 38 => ⟨S_, .f32⟩
  | 39 => ⟨S128x1024, .f32⟩
  | 40 => ⟨S128x1024, .f32⟩
  | 41 => ⟨S_, .f32⟩
  | 42 => ⟨S128x1024, .f32⟩
  | 43 => ⟨S128x1024, .f32⟩
  | 44 => ⟨S128x1024, .f32⟩
  | 45 => ⟨S_, .f32⟩
  | 46 => ⟨S128x1024, .f32⟩
  | 47 => ⟨S128x1024, .f32⟩
  | 48 => ⟨S128x1024, .f32⟩
  | 49 => ⟨S_, .f32⟩
  | 50 => ⟨S128x1024, .f32⟩
  | 51 => ⟨S128x1024, .f32⟩
  | 52 => ⟨S128x1024, .f32⟩
  | 53 => ⟨S_, .f32⟩
  | 54 => ⟨S128x1024, .f32⟩
  | 55 => ⟨S128x1024, .f32⟩
  | _ => ⟨S8x1024x704, .bf16⟩

abbrev hbmTy (i : Nat) : BufTy := match i / 128 with
  | 0 => hbmTy0_0 i
  | 1 => hbmTy0_1 i
  | 2 => hbmTy0_2 i
  | 3 => hbmTy0_3 i
  | _ => ⟨S8x1024x704, .bf16⟩

abbrev bufTy : (tb : Table) → Fin (tcTables nBuf tb) → BufTy
  | .hbm, ⟨i, _⟩ => hbmTy i
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_cst : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_cst_1 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_cst_2 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_3 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_cst_5 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_cst_6 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_cst_7 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_cst_9 : Ref sig .tc := ⟨.hbm, 81, rfl⟩
abbrev main_v27 : Ref sig .tc := ⟨.hbm, 82, rfl⟩
abbrev main_cst_10 : Ref sig .tc := ⟨.hbm, 83, rfl⟩
abbrev main_v28 : Ref sig .tc := ⟨.hbm, 84, rfl⟩
abbrev main_v29 : Ref sig .tc := ⟨.hbm, 85, rfl⟩
abbrev main_cst_11 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_12 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_13 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_14 : Ref sig .tc := ⟨.hbm, 98, rfl⟩
abbrev main_v39 : Ref sig .tc := ⟨.hbm, 99, rfl⟩
abbrev main_v40 : Ref sig .tc := ⟨.hbm, 100, rfl⟩
abbrev main_cst_15 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_16 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_17 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_cst_20 : Ref sig .tc := ⟨.hbm, 119, rfl⟩
abbrev main_v54 : Ref sig .tc := ⟨.hbm, 120, rfl⟩
abbrev main_v55 : Ref sig .tc := ⟨.hbm, 121, rfl⟩
abbrev main_cst_21 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_22 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_23 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_24 : Ref sig .tc := ⟨.hbm, 134, rfl⟩
abbrev main_v65 : Ref sig .tc := ⟨.hbm, 135, rfl⟩
abbrev main_v66 : Ref sig .tc := ⟨.hbm, 136, rfl⟩
abbrev main_cst_25 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_cst_26 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_cst_27 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_28 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_29 : Ref sig .tc := ⟨.hbm, 153, rfl⟩
abbrev main_v79 : Ref sig .tc := ⟨.hbm, 154, rfl⟩
abbrev main_cst_30 : Ref sig .tc := ⟨.hbm, 155, rfl⟩
abbrev main_v80 : Ref sig .tc := ⟨.hbm, 156, rfl⟩
abbrev main_v81 : Ref sig .tc := ⟨.hbm, 157, rfl⟩
abbrev main_cst_31 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_cst_32 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_cst_33 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_cst_34 : Ref sig .tc := ⟨.hbm, 170, rfl⟩
abbrev main_v91 : Ref sig .tc := ⟨.hbm, 171, rfl⟩
abbrev main_v92 : Ref sig .tc := ⟨.hbm, 172, rfl⟩
abbrev main_cst_35 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_cst_36 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_37 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_cst_38 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_cst_39 : Ref sig .tc := ⟨.hbm, 189, rfl⟩
abbrev main_v105 : Ref sig .tc := ⟨.hbm, 190, rfl⟩
abbrev main_cst_40 : Ref sig .tc := ⟨.hbm, 191, rfl⟩
abbrev main_v106 : Ref sig .tc := ⟨.hbm, 192, rfl⟩
abbrev main_v107 : Ref sig .tc := ⟨.hbm, 193, rfl⟩
abbrev main_cst_41 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_42 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_cst_43 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_cst_44 : Ref sig .tc := ⟨.hbm, 206, rfl⟩
abbrev main_v117 : Ref sig .tc := ⟨.hbm, 207, rfl⟩
abbrev main_v118 : Ref sig .tc := ⟨.hbm, 208, rfl⟩
abbrev main_cst_45 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_cst_46 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_cst_47 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_cst_48 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_cst_49 : Ref sig .tc := ⟨.hbm, 225, rfl⟩
abbrev main_v131 : Ref sig .tc := ⟨.hbm, 226, rfl⟩
abbrev main_cst_50 : Ref sig .tc := ⟨.hbm, 227, rfl⟩
abbrev main_v132 : Ref sig .tc := ⟨.hbm, 228, rfl⟩
abbrev main_v133 : Ref sig .tc := ⟨.hbm, 229, rfl⟩
abbrev main_cst_51 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_cst_52 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_cst_53 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_cst_54 : Ref sig .tc := ⟨.hbm, 242, rfl⟩
abbrev main_v143 : Ref sig .tc := ⟨.hbm, 243, rfl⟩
abbrev main_v144 : Ref sig .tc := ⟨.hbm, 244, rfl⟩
abbrev main_cst_55 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_cst_56 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_cst_57 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_cst_58 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_cst_59 : Ref sig .tc := ⟨.hbm, 261, rfl⟩
abbrev main_v157 : Ref sig .tc := ⟨.hbm, 262, rfl⟩
abbrev main_cst_60 : Ref sig .tc := ⟨.hbm, 263, rfl⟩
abbrev main_v158 : Ref sig .tc := ⟨.hbm, 264, rfl⟩
abbrev main_v159 : Ref sig .tc := ⟨.hbm, 265, rfl⟩
abbrev main_cst_61 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_cst_62 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_cst_63 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_cst_64 : Ref sig .tc := ⟨.hbm, 278, rfl⟩
abbrev main_v169 : Ref sig .tc := ⟨.hbm, 279, rfl⟩
abbrev main_v170 : Ref sig .tc := ⟨.hbm, 280, rfl⟩
abbrev main_cst_65 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_cst_66 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_cst_67 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_cst_68 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_cst_69 : Ref sig .tc := ⟨.hbm, 297, rfl⟩
abbrev main_v183 : Ref sig .tc := ⟨.hbm, 298, rfl⟩
abbrev main_cst_70 : Ref sig .tc := ⟨.hbm, 299, rfl⟩
abbrev main_v184 : Ref sig .tc := ⟨.hbm, 300, rfl⟩
abbrev main_v185 : Ref sig .tc := ⟨.hbm, 301, rfl⟩
abbrev main_cst_71 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_cst_72 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_cst_73 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_cst_74 : Ref sig .tc := ⟨.hbm, 314, rfl⟩
abbrev main_v195 : Ref sig .tc := ⟨.hbm, 315, rfl⟩
abbrev main_v196 : Ref sig .tc := ⟨.hbm, 316, rfl⟩
abbrev main_cst_75 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_cst_76 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_cst_77 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_cst_78 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_cst_79 : Ref sig .tc := ⟨.hbm, 333, rfl⟩
abbrev main_v209 : Ref sig .tc := ⟨.hbm, 334, rfl⟩
abbrev main_cst_80 : Ref sig .tc := ⟨.hbm, 335, rfl⟩
abbrev main_v210 : Ref sig .tc := ⟨.hbm, 336, rfl⟩
abbrev main_v211 : Ref sig .tc := ⟨.hbm, 337, rfl⟩
abbrev main_cst_81 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_cst_82 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_cst_83 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_cst_84 : Ref sig .tc := ⟨.hbm, 350, rfl⟩
abbrev main_v221 : Ref sig .tc := ⟨.hbm, 351, rfl⟩
abbrev main_v222 : Ref sig .tc := ⟨.hbm, 352, rfl⟩
abbrev main_cst_85 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_cst_86 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_cst_87 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_cst_88 : Ref sig .tc := ⟨.hbm, 365, rfl⟩
abbrev main_v232 : Ref sig .tc := ⟨.hbm, 366, rfl⟩
abbrev main_v233 : Ref sig .tc := ⟨.hbm, 367, rfl⟩
abbrev main_v234 : Ref sig .tc := ⟨.hbm, 368, rfl⟩
abbrev main_cst_89 : Ref sig .tc := ⟨.hbm, 369, rfl⟩
abbrev main_v235 : Ref sig .tc := ⟨.hbm, 370, rfl⟩
abbrev main_cst_90 : Ref sig .tc := ⟨.hbm, 371, rfl⟩
abbrev main_v236 : Ref sig .tc := ⟨.hbm, 372, rfl⟩
abbrev main_v237 : Ref sig .tc := ⟨.hbm, 373, rfl⟩
abbrev main_cst_91 : Ref sig .tc := ⟨.hbm, 374, rfl⟩
abbrev main_v238 : Ref sig .tc := ⟨.hbm, 375, rfl⟩
abbrev main_v239 : Ref sig .tc := ⟨.hbm, 376, rfl⟩
abbrev main_v240 : Ref sig .tc := ⟨.hbm, 377, rfl⟩
abbrev main_cst_92 : Ref sig .tc := ⟨.hbm, 378, rfl⟩
abbrev main_v241 : Ref sig .tc := ⟨.hbm, 379, rfl⟩
abbrev main_v242 : Ref sig .tc := ⟨.hbm, 380, rfl⟩
abbrev main_v243 : Ref sig .tc := ⟨.hbm, 381, rfl⟩
abbrev main_cst_93 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_cst_94 : Ref sig .tc := ⟨.hbm, 386, rfl⟩
abbrev main_v247 : Ref sig .tc := ⟨.hbm, 387, rfl⟩
abbrev main_v248 : Ref sig .tc := ⟨.hbm, 388, rfl⟩
abbrev main_cst_95 : Ref sig .tc := ⟨.hbm, 389, rfl⟩
abbrev main_v249 : Ref sig .tc := ⟨.hbm, 390, rfl⟩
abbrev main_v250 : Ref sig .tc := ⟨.hbm, 391, rfl⟩
abbrev main_v251 : Ref sig .tc := ⟨.hbm, 392, rfl⟩
abbrev main_cst_96 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_cst_97 : Ref sig .tc := ⟨.hbm, 397, rfl⟩
abbrev main_v255 : Ref sig .tc := ⟨.hbm, 398, rfl⟩
abbrev main_v256 : Ref sig .tc := ⟨.hbm, 399, rfl⟩
abbrev main_v257 : Ref sig .tc := ⟨.hbm, 400, rfl⟩
abbrev main_cst_98 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_cst_99 : Ref sig .tc := ⟨.hbm, 405, rfl⟩
abbrev main_v261 : Ref sig .tc := ⟨.hbm, 406, rfl⟩
abbrev main_cst_100 : Ref sig .tc := ⟨.hbm, 407, rfl⟩
abbrev main_v262 : Ref sig .tc := ⟨.hbm, 408, rfl⟩
abbrev main_v263 : Ref sig .tc := ⟨.hbm, 409, rfl⟩
abbrev main_cst_101 : Ref sig .tc := ⟨.hbm, 410, rfl⟩
abbrev main_v264 : Ref sig .tc := ⟨.hbm, 411, rfl⟩
abbrev main_v265 : Ref sig .tc := ⟨.hbm, 412, rfl⟩
abbrev main_v266 : Ref sig .tc := ⟨.hbm, 413, rfl⟩
abbrev main_cst_102 : Ref sig .tc := ⟨.hbm, 414, rfl⟩
abbrev main_v267 : Ref sig .tc := ⟨.hbm, 415, rfl⟩
abbrev main_v268 : Ref sig .tc := ⟨.hbm, 416, rfl⟩
abbrev main_v269 : Ref sig .tc := ⟨.hbm, 417, rfl⟩
abbrev main_cst_103 : Ref sig .tc := ⟨.hbm, 418, rfl⟩
abbrev main_v270 : Ref sig .tc := ⟨.hbm, 419, rfl⟩
abbrev main_v271 : Ref sig .tc := ⟨.hbm, 420, rfl⟩
abbrev main_v272 : Ref sig .tc := ⟨.hbm, 421, rfl⟩
abbrev main_cst_104 : Ref sig .tc := ⟨.hbm, 422, rfl⟩
abbrev main_v273 : Ref sig .tc := ⟨.hbm, 423, rfl⟩
abbrev main_v274 : Ref sig .tc := ⟨.hbm, 424, rfl⟩
abbrev main_cst_105 : Ref sig .tc := ⟨.hbm, 425, rfl⟩
abbrev main_v275 : Ref sig .tc := ⟨.hbm, 426, rfl⟩
abbrev main_v276 : Ref sig .tc := ⟨.hbm, 427, rfl⟩
abbrev main_v277 : Ref sig .tc := ⟨.hbm, 428, rfl⟩
abbrev main_cst_106 : Ref sig .tc := ⟨.hbm, 429, rfl⟩
abbrev main_v278 : Ref sig .tc := ⟨.hbm, 430, rfl⟩
abbrev main_v279 : Ref sig .tc := ⟨.hbm, 431, rfl⟩
abbrev main_v280 : Ref sig .tc := ⟨.hbm, 432, rfl⟩
abbrev main_cst_107 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_cst_108 : Ref sig .tc := ⟨.hbm, 437, rfl⟩
abbrev main_v284 : Ref sig .tc := ⟨.hbm, 438, rfl⟩
abbrev main_v285 : Ref sig .tc := ⟨.hbm, 439, rfl⟩

abbrev nD : Nat := 1
abbrev τ : Topo := Topo.v7x

variable {F : FTy → Type} [FloatOps F]
-- ==== Kernel7.lean ====
abbrev S4096x3584 : Shape := ⟨2, ![4096, 3584]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S4096x512 : Shape := ⟨2, ![4096, 512]⟩
abbrev S512x512 : Shape := ⟨2, ![512, 512]⟩
abbrev S128 : Shape := ⟨1, ![128]⟩
abbrev S128x1 : Shape := ⟨2, ![128, 1]⟩

abbrev nBuf : Space → Nat
  | .hbm => 27
  | .vmem => 10
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S128x8, .f32⟩
  | .hbm, ⟨24, _⟩ => ⟨S128x8x64, .f32⟩
  | .hbm, ⟨25, _⟩ => ⟨S128x512, .f32⟩
  | .hbm, ⟨26, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S8x128x128, .bf16⟩
  | .local _ .vmem, ⟨7, _⟩ => ⟨S128x512, .f32⟩
  | .local _ .vmem, ⟨8, _⟩ => ⟨S512x512, .f32⟩
  | .local _ .vmem, ⟨9, _⟩ => ⟨S512x512, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4096x3584 : Shape := ⟨2, ![4096, 3584]⟩
abbrev S1x512 : Shape := ⟨2, ![1, 512]⟩
abbrev S8x128x128 : Shape := ⟨3, ![8, 128, 128]⟩
abbrev S8x128 : Shape := ⟨2, ![8, 128]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S32x128x8x64, .f32⟩
  | .hbm, ⟨69, _⟩ => ⟨S_, .i1⟩
  | .hbm, ⟨70, _⟩ => ⟨S128x128, .i1⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .i1⟩
  | .hbm, ⟨78, _⟩ => ⟨S128x128, .i1⟩
  | .hbm, ⟨79, _⟩ => ⟨S128x128, .i1⟩
  | .hbm, ⟨80, _⟩ => ⟨S1x128x128, .i1⟩
  | .hbm, ⟨81, _⟩ => ⟨S_, .f32⟩
  | .hbm, ⟨82, _⟩ => ⟨S_, .f32⟩
  | .hbm, ⟨83, _⟩ => ⟨S8x128x128, .i1⟩
  | .hbm, ⟨84, _⟩ => ⟨S8x128x128, .f32⟩
  | .hbm, ⟨85, _⟩ => ⟨S8x128x128, .f32⟩
  | .hbm, ⟨86, _⟩ => ⟨S8x32x64x128, .f32⟩
  | .hbm, ⟨87, _⟩ => ⟨S32x128x8x64, .f32⟩
  | .hbm, ⟨88, _⟩ => ⟨S128x8, .f32⟩
  | .hbm, ⟨89, _⟩ => ⟨S128x8x1, .f32⟩
  | .hbm, ⟨90, _⟩ => ⟨S1x128x8x1, .f32⟩
  | .hbm, ⟨91, _⟩ => ⟨S32x128x8x64, .f32⟩
  | .hbm, ⟨92, _⟩ => ⟨S32x128x8x64, .f32⟩
  | .hbm, ⟨93, _⟩ => ⟨S4096x512, .f32⟩
  | .hbm, ⟨94, _⟩ => ⟨S4096x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_v51 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Proof.Vocab.lean ====
/-
  One chunk of 128 tokens of the backward pass, in the vector operations of the kernel's body: the names that
  the four chunks of a grid point share. Nothing is computed here; what the names are as real numbers is
  Proof/ChunkReal.lean's.
-/
module

public import proofs.«01_k».proof.Proof.Gen.KernelIdeal.Skeleton

@[expose] public section

set_option maxRecDepth 16384

noncomputable section

open Idealize.ShloMosaic Idealize.ShloMosaic.TcCoe Idealize.SL.Sem

namespace Cert.KernelIdeal.Chunk

open Cert.KernelIdeal Cert.KernelIdeal.Gen

/-- A float word at every place of the chunk. -/
def word (b : BitVec 32) : FVec Ideal S128x512 .f32 := broadcast S128x512 (Scalar.ofBits (F := Ideal) .f32 b)

/-- The argument of gelu's tanh. -/
def tanhArg (v : FVec Ideal S128x512 .f32) : FVec Ideal S128x512 .f32 :=
  mulf (word 0x3F4C422A#32) (addf v (mulf (broadcast S128x512 (Named.named (F := Ideal) κ "gelu_a" 0x3D372713#32)) (mulf (mulf v v) v)))

/-- gelu. -/
def gelu (v : FVec Ideal S128x512 .f32) : FVec Ideal S128x512 .f32 :=
  mulf (mulf (word 0x3F000000#32) v) (addf (word 0x3F800000#32) (tanh (tanhArg v)))

/-- gelu's derivative. -/
def geluGrad (v : FVec Ideal S128x512 .f32) : FVec Ideal S128x512 .f32 :=
  addf (mulf (word 0x3F000000#32) (addf (word 0x3F800000#32) (tanh (tanhArg v))))
    (mulf (mulf (mulf (word 0x3F000000#32) v) (subf (word 0x3F800000#32) (mulf (tanh (tanhArg v)) (tanh (tanhArg v)))))
      (mulf (word 0x3F4C422A#32) (addf (word 0x3F800000#32)
        (mulf (mulf (broadcast S128x512 (Named.named (F := Ideal) κ "gelu_3a" 0x3E095D4F#32)) v) v))))

/-- A row's mean, as a column. -/
def mean (v : FVec Ideal S128x512 .f32) : FVec Ideal S128x1 .f32 :=
  divf (shapeCast S128x1 (multiReduction .add [1] S128 v 0x00000000#32 reduces_S128x512_S128 (.inl rfl) rfl) shapeCasts_S128_S128x1)
    (broadcast S128x1 (Scalar.ofBits (F := Ideal) .f32 0x44000000#32))

/-- A column at every lane. -/
def lanes (v : FVec Ideal S128x1 .f32) : FVec Ideal S128x512 .f32 := broadcastTo S128x512 v broadcasts_S128x1_S128x512

/-- A row at every token. -/
def tokens (v : FVec Ideal S1x512 .f32) : FVec Ideal S128x512 .f32 := broadcastTo S128x512 v broadcasts_S1x512_S128x512

/-- The branch's gelu, less its row's mean. -/
def centred (zv : FVec Ideal S128x512 .f32) : FVec Ideal S128x512 .f32 := subf (gelu zv) (lanes (mean (gelu zv)))

/-- The reciprocal of the row's standard deviation. -/
def rstd (zv : FVec Ideal S128x512 .f32) : FVec Ideal S128x1 .f32 :=
  rsqrt (addf (mean (mulf (centred zv) (centred zv))) (broadcast S128x1 (Scalar.ofBits (F := Ideal) .f32 0x3727C5AC#32)))

/-- The normalised row. -/
def xhat (zv : FVec Ideal S128x512 .f32) : FVec Ideal S128x512 .f32 := mulf (centred zv) (lanes (rstd zv))

/-- The layer norm's result, in bf16. -/
def normed (zv : FVec Ideal S128x512 .f32) (g b : FVec Ideal S1x512 .f32) : FVec Ideal S128x512 .bf16 :=
  truncf .bf16 (addf (mulf (xhat zv) (tokens g)) (tokens b)) bitsLt_bf16_f32

/-- A head's matrix times the chunk. -/
def headDot (w : FVec Ideal S1x128x128 .bf16) (x : FVec Ideal S128x512 .bf16) : FVec Ideal S128x512 .f32 :=
  matmul dot_S128x128_S128x512_S128x512_1_0_0_1_n_n none (shapeCast S128x128 w shapeCasts_S1x128x128_S128x128) x
    (constant S128x512 .f32 0x00000000#32)

/-- The lanes of head `h`. -/
def isHead (h : BitVec 32) : IVec S128x512 1 := cmpi .eq k0_pay6 (broadcast S128x512 h)

/-- Each lane from its own head's product. -/
def byHead (w : Fin 8 → FVec Ideal S1x128x128 .bf16) (x : FVec Ideal S128x512 .bf16) : FVec Ideal S128x512 .f32 :=
  select (isHead 7#32) (headDot (w 7) x) <| select (isHead 6#32) (headDot (w 6) x) <|
  select (isHead 5#32) (headDot (w 5) x) <| select (isHead 4#32) (headDot (w 4) x) <|
  select (isHead 3#32) (headDot (w 3) x) <| select (isHead 2#32) (headDot (w 2) x) <|
  select (isHead 1#32) (headDot (w 1) x) <| select (isHead 0#32) (headDot (w 0) x) (word 0x00000000#32)

/-- The gate's spatial product with its bias. -/
def gate (zv : FVec Ideal S128x512 .f32) (g b : FVec Ideal S1x512 .f32) (w : Fin 8 → FVec Ideal S1x128x128 .bf16)
    (bs : FVec Ideal S128x512 .f32) : FVec Ideal S128x512 .f32 :=
  addf (byHead w (normed zv g b)) (shapeCast S128x512 bs shapeCasts_S128x512_S128x512)

/-- The gradient of the multiplier's pre-activation. -/
def dzu (zu zv d : FVec Ideal S128x512 .f32) (g b : FVec Ideal S1x512 .f32) (w : Fin 8 → FVec Ideal S1x128x128 .bf16)
    (bs : FVec Ideal S128x512 .f32) : FVec Ideal S128x512 .bf16 :=
  truncf .bf16 (mulf (mulf d (gate zv g b w bs)) (geluGrad zu)) bitsLt_bf16_f32

/-- The gradient of the gate's product. -/
def ds (zu d : FVec Ideal S128x512 .f32) : FVec Ideal S128x512 .f32 := mulf d (gelu zu)

/-- The same in bf16. -/
def ds16 (zu d : FVec Ideal S128x512 .f32) : FVec Ideal S128x512 .bf16 := truncf .bf16 (ds zu d) bitsLt_bf16_f32

/-- The bias' accumulator after a chunk. -/
def dbsStep (zu d acc : FVec Ideal S128x512 .f32) : FVec Ideal S128x512 .f32 :=
  addf (shapeCast S128x512 acc shapeCasts_S128x512_S128x512) (ds zu d)

/-- A head's matrix accumulator after a chunk. -/
def dwsStep (h : BitVec 32) (zu zv d : FVec Ideal S128x512 .f32) (g b : FVec Ideal S1x512 .f32)
    (acc : FVec Ideal S1x128x128 .f32) : FVec Ideal S1x128x128 .f32 :=
  shapeCast S1x128x128 (addf (shapeCast S128x128 acc shapeCasts_S1x128x128_S128x128)
    (matmul dot_S128x512_S128x512_S128x128_1_1_0_0_n_n none
      (select (isHead h) (ds16 zu d) (broadcast S128x512 (Scalar.ofBits (F := Ideal) .bf16 0x0000#16))) (normed zv g b)
      (constant S128x128 .f32 0x00000000#32))) shapeCasts_S128x128_S1x128x128

/-- The gradient of the layer norm's result. -/
def dvn (zu d : FVec Ideal S128x512 .f32) (wt : Fin 8 → FVec Ideal S1x128x128 .bf16) : FVec Ideal S128x512 .f32 :=
  byHead wt (ds16 zu d)

/-- The rows added up eight apart. -/
def fold8 (v : FVec Ideal S128x512 .f32) : FVec Ideal S8x512 .f32 :=
  multiReduction .add [0] S8x512 (shapeCast S16x8x512 v shapeCasts_S128x512_S16x8x512) 0x00000000#32 reduces_S16x8x512_S8x512 (.inl rfl) rfl

/-- The accumulator of the layer norm's scale after a chunk. -/
def dgStep (zu zv d : FVec Ideal S128x512 .f32) (wt : Fin 8 → FVec Ideal S1x128x128 .bf16) (acc : FVec Ideal S8x512 .f32) :
    FVec Ideal S8x512 .f32 :=
  addf (shapeCast S8x512 acc shapeCasts_S8x512_S8x512) (fold8 (mulf (dvn zu d wt) (xhat zv)))

/-- The accumulator of the layer norm's shift after a chunk. -/
def dbStep (zu d : FVec Ideal S128x512 .f32) (wt : Fin 8 → FVec Ideal S1x128x128 .bf16) (acc : FVec Ideal S8x512 .f32) :
    FVec Ideal S8x512 .f32 :=
  addf (shapeCast S8x512 acc shapeCasts_S8x512_S8x512) (fold8 (dvn zu d wt))

/-- The gradient of the layer norm's argument. -/
def dgv (zu zv d : FVec Ideal S128x512 .f32) (g : FVec Ideal S1x512 .f32) (wt : Fin 8 → FVec Ideal S1x128x128 .bf16) :
    FVec Ideal S128x512 .f32 :=
  mulf (lanes (rstd zv))
    (subf (subf (mulf (dvn zu d wt) (tokens g)) (lanes (mean (mulf (dvn zu d wt) (tokens g)))))
      (mulf (xhat zv) (lanes (mean (mulf (mulf (dvn zu d wt) (tokens g)) (xhat zv))))))

/-- The gradient of the other pre-activation. -/
def dzv (zu zv d : FVec Ideal S128x512 .f32) (g : FVec Ideal S1x512 .f32) (wt : Fin 8 → FVec Ideal S1x128x128 .bf16) :
    FVec Ideal S128x512 .bf16 :=
  truncf .bf16 (mulf (dgv zu zv d g wt) (geluGrad zv)) bitsLt_bf16_f32

end Cert.KernelIdeal.Chunk

end
-- ==== Proof.Steps.lean ====
/-
  What a grid point leaves in each output window: four chunks of 128 tokens, each by the names of
  Proof/Vocab.lean, the accumulators over what the point before left (or over zeros at the first point).
-/
module

public import proofs.«01_k».proof.Proof.Gen.KernelIdeal.Frame
public import proofs.«01_k».proof.Proof.Vocab
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Chunk

open Cert.KernelIdeal Cert.KernelIdeal.Gen

variable (m : (ℓ : Loc nD τ sig) → Buf (Elt Ideal) ℓ)

/-- Chunk `k` of a block of 512 tokens. -/
def chunkOf (X : FVec Ideal S512x512 .f32) (k : Fin 4) : FVec Ideal S128x512 .f32 :=
  fun i => X (ix2 (⟨128 * k.val + (i 0).val, by have : (i 0).val < 128 := (i 0).isLt; omega⟩ : Fin 512) (i 1))

/-- Head `h` of eight matrices. -/
def headOf {φ : FTy} (X : FVec Ideal S8x128x128 φ) (h : Fin 8) : FVec Ideal S1x128x128 φ := fun i => X (ix3 h (i 1) (i 2))

/-- Four chunks, one under the other. -/
def unchunk {φ : FTy} (f : Fin 4 → FVec Ideal S128x512 φ) : FVec Ideal S512x512 φ :=
  fun y => f ⟨(y 0).val / 128, by have : (y 0).val < 512 := (y 0).isLt; omega⟩ (ix2 (⟨(y 0).val % 128, by omega⟩ : Fin 128) (y 1))

/-- Eight matrices, one after the other. -/
def unhead (f : Fin 8 → FVec Ideal S1x128x128 .f32) : FVec Ideal S8x128x128 .f32 := fun y => f (y 0) (ix3 0 (y 1) (y 2))

theorem unchunk_at {φ : FTy} (f : Fin 4 → FVec Ideal S128x512 φ) (k : Fin 4) (y : S512x512.Idx) (x : S128x512.Idx)
    (h0 : (y 0).val = 128 * k.val + (x 0).val) (h1 : (y 1).val = (x 1).val) : unchunk f y = f k x := by
  have hx : (x 0).val < 128 := (x 0).isLt
  have e1 : (⟨(y 0).val / 128, by have : (y 0).val < 512 := (y 0).isLt; omega⟩ : Fin 4) = k := Fin.ext (by simp only; omega)
  have e2 : (ix2 (⟨(y 0).val % 128, by omega⟩ : Fin 128) (y 1) : S128x512.Idx) = x := by
    exact ((ix2_inj ..).2 ⟨Fin.ext (by simp only; omega), Fin.ext h1⟩).trans (eq_ix2 x).symm
  show f ⟨(y 0).val / 128, _⟩ (ix2 (⟨(y 0).val % 128, _⟩ : Fin 128) (y 1)) = f k x
  rw [e1, e2]

theorem unhead_at (f : Fin 8 → FVec Ideal S1x128x128 .f32) (k : Fin 8) (y : S8x128x128.Idx) (x : S1x128x128.Idx)
    (h0 : (y 0).val = k.val) (h1 : (y 1).val = (x 1).val) (h2 : (y 2).val = (x 2).val) : unhead f y = f k x := by
  have e1 : (y 0 : Fin 8) = k := Fin.ext h0
  have e2 : (ix3 0 (y 1) (y 2) : S1x128x128.Idx) = x := by
    exact ((ix3_inj ..).2 ⟨Subsingleton.elim (α := Fin 1) _ _, Fin.ext h1, Fin.ext h2⟩).trans (eq_ix3 x).symm
  show f (y 0) (ix3 0 (y 1) (y 2)) = f k x
  rw [e1, e2]

theorem unhead_emb (f : Fin 8 → FVec Ideal S1x128x128 .f32) (k : Fin 8)
    (inb : ∀ a, (![k.val, 0, 0] : Fin 3 → ℕ) a + (![1, 128, 128] : Fin 3 → ℕ) a ≤ S8x128x128.size a) (x : S1x128x128.Idx) :
    unhead f ((Rect.unit (s := S8x128x128) ![k.val, 0, 0] ![1, 128, 128] inb).emb x) = f k x := by
  have hx : (x 0).val < 1 := (x 0).isLt
  have E : ∀ a : Fin 3, ((Rect.unit (s := S8x128x128) ![k.val, 0, 0] ![1, 128, 128] inb).emb x a : ℕ) = (![k.val, 0, 0] : Fin 3 → ℕ) a + (x a).val :=
    fun a => ValueKit.rect_emb_unit_val (s := S8x128x128) ![k.val, 0, 0] ![1, 128, 128] inb x a
  have E0 : ((Rect.unit (s := S8x128x128) ![k.val, 0, 0] ![1, 128, 128] inb).emb x 0 : ℕ) = k.val + (x 0).val := E 0
  have E1 : ((Rect.unit (s := S8x128x128) ![k.val, 0, 0] ![1, 128, 128] inb).emb x 1 : ℕ) = 0 + (x 1).val := E 1
  have E2 : ((Rect.unit (s := S8x128x128) ![k.val, 0, 0] ![1, 128, 128] inb).emb x 2 : ℕ) = 0 + (x 2).val := E 2
  exact unhead_at f k _ x (by rw [E0]; omega) (by rw [E1, Nat.zero_add]) (by rw [E2, Nat.zero_add])

theorem ld_chunk0 (X : FVec Ideal S512x512 .f32) :
    View.ld (Val := Elt Ideal) (e' := .f32) (S := S512x512) X
      (Rect.unit (s := S512x512) ![0, 0] ![128, 512] inb_S512x512_S128x512_0_0) = chunkOf X 0 := by
  funext i
  pointwise [chunkOf]
theorem ld_chunk1 (X : FVec Ideal S512x512 .f32) :
    View.ld (Val := Elt Ideal) (e' := .f32) (S := S512x512) X
      (Rect.unit (s := S512x512) ![128, 0] ![128, 512] inb_S512x512_S128x512_128_0) = chunkOf X 1 := by
  funext i
  pointwise [chunkOf]
theorem ld_chunk2 (X : FVec Ideal S512x512 .f32) :
    View.ld (Val := Elt Ideal) (e' := .f32) (S := S512x512) X
      (Rect.unit (s := S512x512) ![256, 0] ![128, 512] inb_S512x512_S128x512_256_0) = chunkOf X 2 := by
  funext i
  pointwise [chunkOf]
theorem ld_chunk3 (X : FVec Ideal S512x512 .f32) :
    View.ld (Val := Elt Ideal) (e' := .f32) (S := S512x512) X
      (Rect.unit (s := S512x512) ![384, 0] ![128, 512] inb_S512x512_S128x512_384_0) = chunkOf X 3 := by
  funext i
  pointwise [chunkOf]

theorem ld_head0_bf16 (X : FVec Ideal S8x128x128 .bf16) :
    View.ld (Val := Elt Ideal) (e' := .bf16) (S := S8x128x128) X
      (Rect.unit (s := S8x128x128) ![0, 0, 0] ![1, 128, 128] inb_S8x128x128_S1x128x128_0_0_0) = headOf X 0 := by
  funext i
  pointwise [headOf]
theorem ld_head1_bf16 (X : FVec Ideal S8x128x128 .bf16) :
    View.ld (Val := Elt Ideal) (e' := .bf16) (S := S8x128x128) X
      (Rect.unit (s := S8x128x128) ![1, 0, 0] ![1, 128, 128] inb_S8x128x128_S1x128x128_1_0_0) = headOf X 1 := by
  funext i
  pointwise [headOf]
theorem ld_head2_bf16 (X : FVec Ideal S8x128x128 .bf16) :
    View.ld (Val := Elt Ideal) (e' := .bf16) (S := S8x128x128) X
      (Rect.unit (s := S8x128x128) ![2, 0, 0] ![1, 128, 128] inb_S8x128x128_S1x128x128_2_0_0) = headOf X 2 := by
  funext i
  pointwise [headOf]
theorem ld_head3_bf16 (X : FVec Ideal S8x128x128 .bf16) :
    View.ld (Val := Elt Ideal) (e' := .bf16) (S := S8x128x128) X
      (Rect.unit (s := S8x128x128) ![3, 0, 0] ![1, 128, 128] inb_S8x128x128_S1x128x128_3_0_0) = headOf X 3 := by
  funext i
  pointwise [headOf]
theorem ld_head4_bf16 (X : FVec Ideal S8x128x128 .bf16) :
    View.ld (Val := Elt Ideal) (e' := .bf16) (S := S8x128x128) X
      (Rect.unit (s := S8x128x128) ![4, 0, 0] ![1, 128, 128] inb_S8x128x128_S1x128x128_4_0_0) = headOf X 4 := by
  funext i
  pointwise [headOf]
theorem ld_head5_bf16 (X : FVec Ideal S8x128x128 .bf16) :
    View.ld (Val := Elt Ideal) (e' := .bf16) (S := S8x128x128) X
      (Rect.unit (s := S8x128x128) ![5, 0, 0] ![1, 128, 128] inb_S8x128x128_S1x128x128_5_0_0) = headOf X 5 := by
  funext i
  pointwise [headOf]
theorem ld_head6_bf16 (X : FVec Ideal S8x128x128 .bf16) :
    View.ld (Val := Elt Ideal) (e' := .bf16) (S := S8x128x128) X
      (Rect.unit (s := S8x128x128) ![6, 0, 0] ![1, 128, 128] inb_S8x128x128_S1x128x128_6_0_0) = headOf X 6 := by
  funext i
  pointwise [headOf]
theorem ld_head7_bf16 (X : FVec Ideal S8x128x128 .bf16) :
    View.ld (Val := Elt Ideal) (e' := .bf16) (S := S8x128x128) X
      (Rect.unit (s := S8x128x128) ![7, 0, 0] ![1, 128, 128] inb_S8x128x128_S1x128x128_7_0_0) = headOf X 7 := by
  funext i
  pointwise [headOf]
theorem ld_head0_f32 (X : FVec Ideal S8x128x128 .f32) :
    View.ld (Val := Elt Ideal) (e' := .f32) (S := S8x128x128) X
      (Rect.unit (s := S8x128x128) ![0, 0, 0] ![1, 128, 128] inb_S8x128x128_S1x128x128_0_0_0) = headOf X 0 := by
  funext i
  pointwise [headOf]
theorem ld_head1_f32 (X : FVec Ideal S8x128x128 .f32) :
    View.ld (Val := Elt Ideal) (e' := .f32) (S := S8x128x128) X
      (Rect.unit (s := S8x128x128) ![1, 0, 0] ![1, 128, 128] inb_S8x128x128_S1x128x128_1_0_0) = headOf X 1 := by
  funext i
  pointwise [headOf]
theorem ld_head2_f32 (X : FVec Ideal S8x128x128 .f32) :
    View.ld (Val := Elt Ideal) (e' := .f32) (S := S8x128x128) X
      (Rect.unit (s := S8x128x128) ![2, 0, 0] ![1, 128, 128] inb_S8x128x128_S1x128x128_2_0_0) = headOf X 2 := by
  funext i
  pointwise [headOf]
theorem ld_head3_f32 (X : FVec Ideal S8x128x128 .f32) :
    View.ld (Val := Elt Ideal) (e' := .f32) (S := S8x128x128) X
      (Rect.unit (s := S8x128x128) ![3, 0, 0] ![1, 128, 128] inb_S8x128x128_S1x128x128_3_0_0) = headOf X 3 := by
  funext i
  pointwise [headOf]
theorem ld_head4_f32 (X : FVec Ideal S8x128x128 .f32) :
    View.ld (Val := Elt Ideal) (e' := .f32) (S := S8x128x128) X
      (Rect.unit (s := S8x128x128) ![4, 0, 0] ![1, 128, 128] inb_S8x128x128_S1x128x128_4_0_0) = headOf X 4 := by
  funext i
  pointwise [headOf]
theorem ld_head5_f32 (X : FVec Ideal S8x128x128 .f32) :
    View.ld (Val := Elt Ideal) (e' := .f32) (S := S8x128x128) X
      (Rect.unit (s := S8x128x128) ![5, 0, 0] ![1, 128, 128] inb_S8x128x128_S1x128x128_5_0_0) = headOf X 5 := by
  funext i
  pointwise [headOf]
theorem ld_head6_f32 (X : FVec Ideal S8x128x128 .f32) :
    View.ld (Val := Elt Ideal) (e' := .f32) (S := S8x128x128) X
      (Rect.unit (s := S8x128x128) ![6, 0, 0] ![1, 128, 128] inb_S8x128x128_S1x128x128_6_0_0) = headOf X 6 := by
  funext i
  pointwise [headOf]
theorem ld_head7_f32 (X : FVec Ideal S8x128x128 .f32) :
    View.ld (Val := Elt Ideal) (e' := .f32) (S := S8x128x128) X
      (Rect.unit (s := S8x128x128) ![7, 0, 0] ![1, 128, 128] inb_S8x128x128_S1x128x128_7_0_0) = headOf X 7 := by
  funext i
  pointwise [headOf]

/-- The windows' blocks at point `t`: the two pre-activations, the incoming gradient, the layer norm's scale and shift. -/
abbrev Zu (c : Dev nD) (t : Fin cfg0.N) (k : Fin 4) : FVec Ideal S128x512 .f32 := chunkOf (iblk m c 0 t) k
abbrev Zv (c : Dev nD) (t : Fin cfg0.N) (k : Fin 4) : FVec Ideal S128x512 .f32 := chunkOf (iblk m c 1 t) k
abbrev Dd (c : Dev nD) (t : Fin cfg0.N) (k : Fin 4) : FVec Ideal S128x512 .f32 := chunkOf (iblk m c 2 t) k
abbrev Wn (c : Dev nD) (t : Fin cfg0.N) (h : Fin 8) : FVec Ideal S1x128x128 .bf16 := headOf (φ := .bf16) (iblk m c 5 t) h
abbrev Wt (c : Dev nD) (t : Fin cfg0.N) (h : Fin 8) : FVec Ideal S1x128x128 .bf16 := headOf (φ := .bf16) (iblk m c 6 t) h

/-- A point's four chunks of the two pre-activations' gradients. -/
def dzuPt (c : Dev nD) (t : Fin cfg0.N) : FVec Ideal S512x512 .bf16 :=
  unchunk fun k => dzu (Zu m c t k) (Zv m c t k) (Dd m c t k) (iblk m c 3 t) (iblk m c 4 t) (Wn m c t) (iblk m c 7 t)
def dzvPt (c : Dev nD) (t : Fin cfg0.N) : FVec Ideal S512x512 .bf16 :=
  unchunk fun k => dzv (Zu m c t k) (Zv m c t k) (Dd m c t k) (iblk m c 3 t) (Wt m c t)

/-- A point's four steps of each accumulator. -/
def dwsPt (c : Dev nD) (t : Fin cfg0.N) (acc : FVec Ideal S8x128x128 .f32) : FVec Ideal S8x128x128 .f32 :=
  unhead fun h =>
    dwsStep (BitVec.ofNat 32 h.val) (Zu m c t 3) (Zv m c t 3) (Dd m c t 3) (iblk m c 3 t) (iblk m c 4 t) <|
    dwsStep (BitVec.ofNat 32 h.val) (Zu m c t 2) (Zv m c t 2) (Dd m c t 2) (iblk m c 3 t) (iblk m c 4 t) <|
    dwsStep (BitVec.ofNat 32 h.val) (Zu m c t 1) (Zv m c t 1) (Dd m c t 1) (iblk m c 3 t) (iblk m c 4 t) <|
    dwsStep (BitVec.ofNat 32 h.val) (Zu m c t 0) (Zv m c t 0) (Dd m c t 0) (iblk m c 3 t) (iblk m c 4 t) (headOf acc h)
def dbsPt (c : Dev nD) (t : Fin cfg0.N) (acc : FVec Ideal S128x512 .f32) : FVec Ideal S128x512 .f32 :=
  dbsStep (Zu m c t 3) (Dd m c t 3) <| dbsStep (Zu m c t 2) (Dd m c t 2) <|
  dbsStep (Zu m c t 1) (Dd m c t 1) <| dbsStep (Zu m c t 0) (Dd m c t 0) acc
def dgPt (c : Dev nD) (t : Fin cfg0.N) (acc : FVec Ideal S8x512 .f32) : FVec Ideal S8x512 .f32 :=
  dgStep (Zu m c t 3) (Zv m c t 3) (Dd m c t 3) (Wt m c t) <| dgStep (Zu m c t 2) (Zv m c t 2) (Dd m c t 2) (Wt m c t) <|
  dgStep (Zu m c t 1) (Zv m c t 1) (Dd m c t 1) (Wt m c t) <| dgStep (Zu m c t 0) (Zv m c t 0) (Dd m c t 0) (Wt m c t) acc
def dbPt (c : Dev nD) (t : Fin cfg0.N) (acc : FVec Ideal S8x512 .f32) : FVec Ideal S8x512 .f32 :=
  dbStep (Zu m c t 3) (Dd m c t 3) (Wt m c t) <| dbStep (Zu m c t 2) (Dd m c t 2) (Wt m c t) <|
  dbStep (Zu m c t 1) (Dd m c t 1) (Wt m c t) <| dbStep (Zu m c t 0) (Dd m c t 0) (Wt m c t) acc

theorem dzu_A (c : Dev nD) (t : Fin cfg0.N) (h : t.val % 8 = 0) :
    (outsAt0 m c t.val t.isLt).1 = dzuPt m c t := by
  rw [outsAt0_A m c t h]
  frame_out
  funext y
  canon_tiles y h
  case piece0 =>
    refine Eq.trans ?_ (unchunk_at _ 3 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece1 =>
    refine Eq.trans ?_ (unchunk_at _ 2 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece2 =>
    refine Eq.trans ?_ (unchunk_at _ 1 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece3 =>
    refine Eq.trans ?_ (unchunk_at _ 0 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl

theorem dzu_B (c : Dev nD) (t : Fin cfg0.N) (h : ¬ t.val % 8 = 0) :
    (outsAt0 m c t.val t.isLt).1 = dzuPt m c t := by
  rw [outsAt0_B m c t h]
  frame_out
  funext y
  canon_tiles y h
  case piece0 =>
    refine Eq.trans ?_ (unchunk_at _ 3 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece1 =>
    refine Eq.trans ?_ (unchunk_at _ 2 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece2 =>
    refine Eq.trans ?_ (unchunk_at _ 1 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece3 =>
    refine Eq.trans ?_ (unchunk_at _ 0 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl

theorem dzv_A (c : Dev nD) (t : Fin cfg0.N) (h : t.val % 8 = 0) :
    (outsAt0 m c t.val t.isLt).2.1 = dzvPt m c t := by
  rw [outsAt0_A m c t h]
  frame_out
  funext y
  canon_tiles y h
  case piece0 =>
    refine Eq.trans ?_ (unchunk_at _ 3 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece1 =>
    refine Eq.trans ?_ (unchunk_at _ 2 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece2 =>
    refine Eq.trans ?_ (unchunk_at _ 1 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece3 =>
    refine Eq.trans ?_ (unchunk_at _ 0 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl

theorem dzv_B (c : Dev nD) (t : Fin cfg0.N) (h : ¬ t.val % 8 = 0) :
    (outsAt0 m c t.val t.isLt).2.1 = dzvPt m c t := by
  rw [outsAt0_B m c t h]
  frame_out
  funext y
  canon_tiles y h
  case piece0 =>
    refine Eq.trans ?_ (unchunk_at _ 3 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece1 =>
    refine Eq.trans ?_ (unchunk_at _ 2 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece2 =>
    refine Eq.trans ?_ (unchunk_at _ 1 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl
  case piece3 =>
    refine Eq.trans ?_ (unchunk_at _ 0 _ _ (by simpa using h0) h1).symm
    simp only [ld_chunk0, ld_chunk1, ld_chunk2, ld_chunk3, ld_head0_bf16, ld_head1_bf16, ld_head2_bf16, ld_head3_bf16, ld_head4_bf16, ld_head5_bf16, ld_head6_bf16, ld_head7_bf16]
    rfl

theorem dws_A (c : Dev nD) (t : Fin cfg0.N) (h : t.val % 8 = 0) :
    (outsAt0 m c t.val t.isLt).2.2.1 = dwsPt m c t k0_pay2 := by
  rw [outsAt0_A m c t h]
  frame_open
  simp (disch := decide) only [↓ View.readCov_skip, ↓ View.readCov_cons_toLoadRect, ↓ View.readCov_fill]
  frame_out
  simp only [ld_chunk0, ld_chunk1, ld_chunk2, ld_chunk3, ld_head0_bf16, ld_head1_bf16, ld_head2_bf16, ld_head3_bf16, ld_head4_bf16, ld_head5_bf16, ld_head6_bf16, ld_head7_bf16, ld_head0_f32, ld_head1_f32, ld_head2_f32, ld_head3_f32, ld_head4_f32, ld_head5_f32, ld_head6_f32, ld_head7_f32]
  funext y
  refine View.canon_append_of_piecesOf (Val := Elt Ideal) (e := .f32) (dwsPt m c t _) _ [_, _, _, _, _, _, _, _] ?_ y
    (View.cover_of_tiled_head _ _ _ (by rfl) y)
  refine ⟨?_, ?_, ?_, ?_, ?_, ?_, ?_, ?_, trivial⟩
  · intro x
    refine Eq.trans ?_ (unhead_emb _ 7 inb_S8x128x128_S1x128x128_7_0_0 x).symm
    rfl
  · intro x
    refine Eq.trans ?_ (unhead_emb _ 6 inb_S8x128x128_S1x128x128_6_0_0 x).symm
    rfl
  · intro x
    refine Eq.trans ?_ (unhead_emb _ 5 inb_S8x128x128_S1x128x128_5_0_0 x).symm
    rfl
  · intro x
    refine Eq.trans ?_ (unhead_emb _ 4 inb_S8x128x128_S1x128x128_4_0_0 x).symm
    rfl
  · intro x
    refine Eq.trans ?_ (unhead_emb _ 3 inb_S8x128x128_S1x128x128_3_0_0 x).symm
    rfl
  · intro x
    refine Eq.trans ?_ (unhead_emb _ 2 inb_S8x128x128_S1x128x128_2_0_0 x).symm
    rfl
  · intro x
    refine Eq.trans ?_ (unhead_emb _ 1 inb_S8x128x128_S1x128x128_1_0_0 x).symm
    rfl
  · intro x
    refine Eq.trans ?_ (unhead_emb _ 0 inb_S8x128x128_S1x128x128_0_0_0 x).symm
    rfl

theorem dws_B (c : Dev nD) (t : Fin cfg0.N) (h : ¬ t.val % 8 = 0) :
    (outsAt0 m c t.val t.isLt).2.2.1 = dwsPt m c t (outsAt0 m c (t.val - 1) (lt_of_le_of_lt (Nat.sub_le _ _) t.isLt)).2.2.1 := by
  rw [outsAt0_B m c t h]
  frame_open
  simp (disch := decide) only [↓ View.readCov_skip, ↓ View.readCov_cons_toLoadRect, ↓ View.readCov_fill]
  frame_out
  simp only [ld_chunk0, ld_chunk1, ld_chunk2, ld_chunk3, ld_head0_bf16, ld_head1_bf16, ld_head2_bf16, ld_head3_bf16, ld_head4_bf16, ld_head5_bf16, ld_head6_bf16, ld_head7_bf16, ld_head0_f32, ld_head1_f32, ld_head2_f32, ld_head3_f32, ld_head4_f32, ld_head5_f32, ld_head6_f32, ld_head7_f32]
  funext y
  refine View.canon_append_of_piecesOf (Val := Elt Ideal) (e := .f32) (dwsPt m c t _) _ [_, _, _, _, _, _, _, _] ?_ y
    (View.cover_of_tiled_head _ _ _ (by rfl) y)
  refine ⟨?_, ?_, ?_, ?_, ?_, ?_, ?_, ?_, trivial⟩
  · intro x
    refine Eq.trans ?_ (unhead_emb _ 7 inb_S8x128x128_S1x128x128_7_0_0 x).symm
    rfl
  · intro x
    refine Eq.trans ?_ (unhead_emb _ 6 inb_S8x128x128_S1x128x128_6_0_0 x).symm
    rfl
  · intro x
    refine Eq.trans ?_ (unhead_emb _ 5 inb_S8x128x128_S1x128x128_5_0_0 x).symm
    rfl
  · intro x
    refine Eq.trans ?_ (unhead_emb _ 4 inb_S8x128x128_S1x128x128_4_0_0 x).symm
    rfl
  · intro x
    refine Eq.trans ?_ (unhead_emb _ 3 inb_S8x128x128_S1x128x128_3_0_0 x).symm
    rfl
  · intro x
    refine Eq.trans ?_ (unhead_emb _ 2 inb_S8x128x128_S1x128x128_2_0_0 x).symm
    rfl
  · intro x
    refine Eq.trans ?_ (unhead_emb _ 1 inb_S8x128x128_S1x128x128_1_0_0 x).symm
    rfl
  · intro x
    refine Eq.trans ?_ (unhead_emb _ 0 inb_S8x128x128_S1x128x128_0_0_0 x).symm
    rfl

theorem dbs_A (c : Dev nD) (t : Fin cfg0.N) (h : t.val % 8 = 0) :
    (outsAt0 m c t.val t.isLt).2.2.2.1 = dbsPt m c t k0_pay3 := by
  rw [outsAt0_A m c t h]
  frame_out
  simp only [ld_chunk0, ld_chunk1, ld_chunk2, ld_chunk3, ld_head0_bf16, ld_head1_bf16, ld_head2_bf16, ld_head3_bf16, ld_head4_bf16, ld_head5_bf16, ld_head6_bf16, ld_head7_bf16]
  rfl

theorem dbs_B (c : Dev nD) (t : Fin cfg0.N) (h : ¬ t.val % 8 = 0) :
    (outsAt0 m c t.val t.isLt).2.2.2.1 = dbsPt m c t (outsAt0 m c (t.val - 1) (lt_of_le_of_lt (Nat.sub_le _ _) t.isLt)).2.2.2.1 := by
  rw [outsAt0_B m c t h]
  frame_out
  simp only [ld_chunk0, ld_chunk1, ld_chunk2, ld_chunk3, ld_head0_bf16, ld_head1_bf16, ld_head2_bf16, ld_head3_bf16, ld_head4_bf16, ld_head5_bf16, ld_head6_bf16, ld_head7_bf16]
  rfl

theorem dg_A (c : Dev nD) (t : Fin cfg0.N) (h : t.val % 8 = 0) :
    (outsAt0 m c t.val t.isLt).2.2.2.2.1 = dgPt m c t k0_pay4 := by
  rw [outsAt0_A m c t h]
  frame_out
  simp only [ld_chunk0, ld_chunk1, ld_chunk2, ld_chunk3, ld_head0_bf16, ld_head1_bf16, ld_head2_bf16, ld_head3_bf16, ld_head4_bf16, ld_head5_bf16, ld_head6_bf16, ld_head7_bf16]
  rfl

theorem dg_B (c : Dev nD) (t : Fin cfg0.N) (h : ¬ t.val % 8 = 0) :
    (outsAt0 m c t.val t.isLt).2.2.2.2.1 = dgPt m c t (outsAt0 m c (t.val - 1) (lt_of_le_of_lt (Nat.sub_le _ _) t.isLt)).2.2.2.2.1 := by
  rw [outsAt0_B m c t h]
  frame_out
  simp only [ld_chunk0, ld_chunk1, ld_chunk2, ld_chunk3, ld_head0_bf16, ld_head1_bf16, ld_head2_bf16, ld_head3_bf16, ld_head4_bf16, ld_head5_bf16, ld_head6_bf16, ld_head7_bf16]
  rfl

theorem db_A (c : Dev nD) (t : Fin cfg0.N) (h : t.val % 8 = 0) :
    (outsAt0 m c t.val t.isLt).2.2.2.2.2 = dbPt m c t k0_pay5 := by
  rw [outsAt0_A m c t h]
  frame_out
  simp only [ld_chunk0, ld_chunk1, ld_chunk2, ld_chunk3, ld_head0_bf16, ld_head1_bf16, ld_head2_bf16, ld_head3_bf16, ld_head4_bf16, ld_head5_bf16, ld_head6_bf16, ld_head7_bf16]
  rfl

theorem db_B (c : Dev nD) (t : Fin cfg0.N) (h : ¬ t.val % 8 = 0) :
    (outsAt0 m c t.val t.isLt).2.2.2.2.2 = dbPt m c t (outsAt0 m c (t.val - 1) (lt_of_le_of_lt (Nat.sub_le _ _) t.isLt)).2.2.2.2.2 := by
  rw [outsAt0_B m c t h]
  frame_out
  simp only [ld_chunk0, ld_chunk1, ld_chunk2, ld_chunk3, ld_head0_bf16, ld_head1_bf16, ld_head2_bf16, ld_head3_bf16, ld_head4_bf16, ld_head5_bf16, ld_head6_bf16, ld_head7_bf16]
  rfl

end Cert.KernelIdeal.Chunk

end
-- ==== Proof.Consts.lean ====
/-
  The float words that the two programs spell, as the real numbers they denote.
-/
module

public import proofs.«01_k».proof.KernelIdeal
public import Idealize.ShloMosaic.PureOps.Ideal
public import Idealize.ShloMosaic.PureOps.IdealRules

@[expose] public section

noncomputable section

namespace Cert.Consts

open Idealize.ShloMosaic

theorem half_word : Ideal.ofBits .f32 0x3F000000#32 = ((1 / 2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; try norm_num

theorem two_word : Ideal.ofBits .f32 0x40000000#32 = ((2 : ℝ) : EReal) := by
  simp [Ideal.ofBits, Ideal.ieee, -EReal.coe_mul]; norm_num

theorem three_word : Ideal.ofBits .f32 0x40400000#32 = ((3 : ℝ) : EReal) := by
  simp [Ideal.ofBits, Ideal.ieee, -EReal.coe_mul]; norm_num

theorem negHalf_word : Ideal.ofBits .f32 0xBF000000#32 = ((-(1 / 2) : ℝ) : EReal) := by
  simp [Ideal.ofBits, Ideal.ieee, -EReal.coe_mul]; norm_num

theorem width_word : Ideal.ofBits .f32 0x44000000#32 = ((512 : ℝ) : EReal) := by
  simp [Ideal.ofBits, Ideal.ieee, -EReal.coe_mul]; norm_num

theorem eps_word : Ideal.ofBits .f32 0x3727C5AC#32 = ((2748779 / 274877906944 : ℝ) : EReal) := by
  simp [Ideal.ofBits, Ideal.ieee, -EReal.coe_mul]; norm_num

theorem rootTwoOverPi_word : Ideal.ofBits .f32 0x3F4C422A#32 = ((6693141 / 8388608 : ℝ) : EReal) := by
  simp [Ideal.ofBits, Ideal.ieee, -EReal.coe_mul]; norm_num

theorem num_word : Ideal.ofBits .f32 0x472EAB00#32 = ((44715 : ℝ) : EReal) := by
  simp [Ideal.ofBits, Ideal.ieee, -EReal.coe_mul]; norm_num

theorem den_word : Ideal.ofBits .f32 0x49742400#32 = ((1000000 : ℝ) : EReal) := by
  simp [Ideal.ofBits, Ideal.ieee, -EReal.coe_mul]; norm_num

theorem zero_word : Ideal.ofBits .f32 0x00000000#32 = ((0 : ℝ) : EReal) := by
  simp [Ideal.ofBits, Ideal.ieee, -EReal.coe_mul]

theorem zero_word16 : Ideal.ofBits .bf16 0x0000#16 = ((0 : ℝ) : EReal) := by
  simp [Ideal.ofBits, Ideal.ieee, -EReal.coe_mul]

theorem gelu_a : Named.named (F := Ideal) Cert.KernelIdeal.κ "gelu_a" (φ := .f32) 0x3D372713#32 = ((8943 / 200000 : ℝ) : EReal) :=
  IdealRules.named_const.ideal_named_scalar _ _ _ _ rfl

theorem gelu_3a : Named.named (F := Ideal) Cert.KernelIdeal.κ "gelu_3a" (φ := .f32) 0x3E095D4F#32 = ((26829 / 200000 : ℝ) : EReal) :=
  IdealRules.named_const.ideal_named_scalar _ _ _ _ rfl

end Cert.Consts

end
-- ==== Proof.Math.lean ====
/-
  The branch and its gradient as real functions. A row is a function of 512 lanes. Two ways of writing a gradient meet
  here: the kernel's, and the one that the chain rule gives operation by operation.
-/
module

public import Idealize.ShloMosaic.PureOps.Ideal

@[expose] public section

noncomputable section

namespace Cert.Math

/-- The rational that stands for the root of two over pi. -/
def cC : ℝ := 6693141 / 8388608
/-- The layer norm's epsilon. -/
def eps : ℝ := 2748779 / 274877906944

def tanhOf (x : ℝ) : ℝ := Real.tanh (cC * (x + 8943 / 200000 * (x * x * x)))
def gelu (x : ℝ) : ℝ := 1 / 2 * x * (1 + tanhOf x)
def geluGrad (x : ℝ) : ℝ := 1 / 2 * (1 + tanhOf x) + 1 / 2 * x * (1 - tanhOf x * tanhOf x) * (cC * (1 + 26829 / 200000 * x * x))

def mean (v : Fin 512 → ℝ) : ℝ := (∑ l, v l) * (1 / 512)
def centred (z : Fin 512 → ℝ) (l : Fin 512) : ℝ := gelu (z l) - mean fun j => gelu (z j)
def var (z : Fin 512 → ℝ) : ℝ := mean (fun l => centred z l * centred z l) + eps
def rstd (z : Fin 512 → ℝ) : ℝ := (Real.sqrt (var z))⁻¹
def xhat (z : Fin 512 → ℝ) (l : Fin 512) : ℝ := centred z l * rstd z
def normed (z g b : Fin 512 → ℝ) (l : Fin 512) : ℝ := xhat z l * g l + b l

/-- The layer norm's gradient in its argument, of an incoming gradient `d`. -/
def lnGrad (z g d : Fin 512 → ℝ) (l : Fin 512) : ℝ :=
  rstd z * (d l * g l - mean (fun j => d j * g j) - xhat z l * mean fun j => d j * g j * xhat z j)

theorem var_pos (z : Fin 512 → ℝ) : 0 < var z := by
  have h : 0 ≤ mean fun l => centred z l * centred z l :=
    mul_nonneg (Finset.sum_nonneg fun l _ => mul_self_nonneg _) (by norm_num)
  have : (0 : ℝ) < eps := by norm_num [eps]
  unfold var; linarith

/-- The chain rule's form of gelu's gradient, as the reference's operations have it. -/
theorem geluGrad_chain (d x : ℝ) :
    d * (1 / 2 * (1 + tanhOf x)) + cC * (1 / 2 * (x * d) * ((1 + tanhOf x) * (1 - tanhOf x)))
      + cC * (1 / 2 * (x * d) * ((1 + tanhOf x) * (1 - tanhOf x))) * (1 / 1000000) * 44715 * (3 * (x * x)) = d * geluGrad x := by
  unfold geluGrad; ring

/-- The arguments, as real numbers: the projection, the incoming gradient, the layer norm's scale and shift, the
    spatial matrices and their bias. -/
structure Args where
  P : Fin 4096 → Fin 3584 → ℝ
  D : Fin 4096 → Fin 512 → ℝ
  g : Fin 512 → ℝ
  b : Fin 512 → ℝ
  W : Fin 8 → Fin 128 → Fin 128 → ℝ
  B : Fin 8 → Fin 128 → ℝ

namespace Args

variable (A : Args)

/-- The multiplier's columns of the projection, and the gate's. -/
def zu (n : Fin 4096) (l : Fin 512) : ℝ := A.P n ⟨512 + l.val, by omega⟩
def zv (n : Fin 4096) (l : Fin 512) : ℝ := A.P n ⟨1024 + l.val, by omega⟩
/-- The spatial matrices below and on their diagonals. -/
def wm (h : Fin 8) (r k : Fin 128) : ℝ := if k ≤ r then A.W h r k else 0

end Args

/-- A lane's head. -/
def head (l : Fin 512) : Fin 8 := ⟨l.val / 64, by omega⟩
/-- Token `r` of chunk `q`. -/
def tok (q : Fin 32) (r : Fin 128) : Fin 4096 := ⟨q.val * 128 + r.val, by omega⟩
/-- A token's chunk, and its place there. -/
def chunk (n : Fin 4096) : Fin 32 := ⟨n.val / 128, by omega⟩
def place (n : Fin 4096) : Fin 128 := ⟨n.val % 128, by omega⟩

namespace Args

variable (A : Args)

/-- The gradient of the gate's product. -/
def ds (n : Fin 4096) (l : Fin 512) : ℝ := A.D n l * gelu (A.zu n l)
/-- The gate's product, with its bias. -/
def gate (n : Fin 4096) (l : Fin 512) : ℝ :=
  ∑ k, A.wm (head l) (place n) k * normed (A.zv (tok (chunk n) k)) A.g A.b l + A.B (head l) (place n)
/-- The gradient of the layer norm's result. -/
def dvn (n : Fin 4096) (l : Fin 512) : ℝ := ∑ k, A.wm (head l) k (place n) * A.ds (tok (chunk n) k) l

/-- The six results. -/
def dzu (n : Fin 4096) (l : Fin 512) : ℝ := A.D n l * A.gate n l * geluGrad (A.zu n l)
def dzv (n : Fin 4096) (l : Fin 512) : ℝ := lnGrad (A.zv n) A.g (A.dvn n) l * geluGrad (A.zv n l)
def dws (h : Fin 8) (r k : Fin 128) : ℝ :=
  if k ≤ r then ∑ q : Fin 32, ∑ j : Fin 64, A.ds (tok q r) ⟨h.val * 64 + j.val, by omega⟩ *
    normed (A.zv (tok q k)) A.g A.b ⟨h.val * 64 + j.val, by omega⟩ else 0
def dbs (h : Fin 8) (r : Fin 128) : ℝ := ∑ q : Fin 32, ∑ j : Fin 64, A.ds (tok q r) ⟨h.val * 64 + j.val, by omega⟩
def dg (l : Fin 512) : ℝ := ∑ n, A.dvn n l * xhat (A.zv n) l
def db (l : Fin 512) : ℝ := ∑ n, A.dvn n l

end Args

end Cert.Math

end
-- ==== Proof.ChunkReal.lean ====
/-
  The chunk's names as real numbers: on arguments whose elements are reals, each of them is the real function that
  Proof/Math.lean states of a row.
-/
module

public import proofs.«01_k».proof.Proof.Vocab
public import proofs.«01_k».proof.Proof.Consts
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.KernelIdeal.Chunk

open Cert.KernelIdeal Cert.KernelIdeal.Gen Cert.Consts
open Cert.Math (head)

/-- A sum of reals, taken among the extended reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s h ih => rw [Finset.sum_insert h, Finset.sum_insert h, ih, EReal.coe_add]

/-- A chunk of reals. -/
def up {φ : FTy} (f : Fin 128 → Fin 512 → ℝ) : FVec Ideal S128x512 φ := fun i => ((f (i 0) (i 1) : ℝ) : EReal)
/-- A column of reals. -/
def upc (f : Fin 128 → ℝ) : FVec Ideal S128x1 .f32 := fun i => ((f (i 0) : ℝ) : EReal)
/-- A row of reals. -/
def upr (f : Fin 512 → ℝ) : FVec Ideal S1x512 .f32 := fun i => ((f (i 1) : ℝ) : EReal)
/-- A head's matrix of reals. -/
def upm {φ : FTy} (f : Fin 128 → Fin 128 → ℝ) : FVec Ideal S1x128x128 φ := fun i => ((f (i 1) (i 2) : ℝ) : EReal)
/-- Eight rows of reals. -/
def up8 (f : Fin 8 → Fin 512 → ℝ) : FVec Ideal S8x512 .f32 := fun i => ((f (i 0) (i 1) : ℝ) : EReal)

theorem up_at {φ : FTy} (f : Fin 128 → Fin 512 → ℝ) (r : Fin 128) (l : Fin 512) :
    up (φ := φ) f (ix2 r l) = ((f r l : ℝ) : EReal) := rfl
theorem upc_at (f : Fin 128 → ℝ) (r : Fin 128) (l : Fin 1) : upc f (ix2 r l) = ((f r : ℝ) : EReal) := rfl
theorem upr_at (f : Fin 512 → ℝ) (r : Fin 1) (l : Fin 512) : upr f (ix2 r l) = ((f l : ℝ) : EReal) := rfl

section Ops

variable {φ : FTy} (v w : Fin 128 → Fin 512 → ℝ)

theorem mulf_up : mulf (up (φ := φ) v) (up w) = up fun r l => v r l * w r l := by
  funext i; idx_vars i; pointwise [up]; exact (EReal.coe_mul _ _).symm

theorem addf_up : addf (up (φ := φ) v) (up w) = up fun r l => v r l + w r l := by
  funext i; idx_vars i; pointwise [up]; exact (EReal.coe_add _ _).symm

theorem subf_up : subf (up (φ := φ) v) (up w) = up fun r l => v r l - w r l := by
  funext i; idx_vars i; pointwise [up]; exact (EReal.coe_sub _ _).symm

theorem truncf_up : truncf .bf16 (up (φ := .f32) v) bitsLt_bf16_f32 = up v := by
  funext i; idx_vars i; pointwise [up]

theorem cast_up : shapeCast S128x512 (up (φ := φ) v) shapeCasts_S128x512_S128x512 = up v := by
  funext i; idx_vars i; pointwise [up]

theorem lanes_upc (f : Fin 128 → ℝ) : lanes (upc f) = up fun r _ => f r := by
  funext i; idx_vars i; pointwise [lanes, up, upc]

theorem tokens_upr (f : Fin 512 → ℝ) : tokens (upr f) = up fun _ l => f l := by
  funext i; idx_vars i; pointwise [tokens, up, upr]

theorem mean_up : mean (up v) = upc fun r => Math.mean (v r) := by
  funext i
  idx_vars i
  pointwise [mean, up, upc]
  rw [coe_sum, width_word, Ideal.div_coe (by norm_num), ← EReal.coe_mul]
  rfl

end Ops

section Gelu

variable (v : Fin 128 → Fin 512 → ℝ)

theorem tanh_up : tanh (tanhArg (up v)) = up fun r l => Math.tanhOf (v r l) := by
  funext i
  idx_vars i
  pointwise [tanhArg, word, up]
  rw [rootTwoOverPi_word, gelu_a]
  simp only [← EReal.coe_mul, ← EReal.coe_add]
  rw [Ideal.tanh_coe]
  rfl

theorem gelu_up : gelu (up v) = up fun r l => Math.gelu (v r l) := by
  rw [gelu, tanh_up]
  funext i
  idx_vars i
  pointwise [word, up]
  rw [half_word, ← EReal.coe_one]
  simp only [← EReal.coe_mul, ← EReal.coe_add]
  rfl

theorem geluGrad_up : geluGrad (up v) = up fun r l => Math.geluGrad (v r l) := by
  rw [geluGrad, tanh_up]
  funext i
  idx_vars i
  pointwise [word, up]
  rw [half_word, rootTwoOverPi_word, gelu_3a, ← EReal.coe_one]
  simp only [← EReal.coe_mul, ← EReal.coe_add, ← EReal.coe_sub]
  rfl

end Gelu

section Norm

variable (z : Fin 128 → Fin 512 → ℝ) (g b : Fin 512 → ℝ)

theorem centred_up : centred (up z) = up fun r l => Math.centred (z r) l := by
  rw [centred, gelu_up, mean_up, lanes_upc, subf_up]; rfl

theorem rstd_up : rstd (up z) = upc fun r => Math.rstd (z r) := by
  rw [rstd, centred_up, mulf_up, mean_up]
  funext i
  idx_vars i
  pointwise [upc]
  rw [eps_word, ← EReal.coe_add, Ideal.rsqrt_coe]
  have h := Math.var_pos (z i0)
  simp only [Math.var, Math.eps] at h
  rw [if_neg (not_lt.2 h.le), if_neg h.ne']
  rfl

theorem xhat_up : xhat (up z) = up fun r l => Math.xhat (z r) l := by
  rw [xhat, centred_up, rstd_up, lanes_upc, mulf_up]; rfl

theorem normed_up : normed (up z) (upr g) (upr b) = up fun r l => Math.normed (z r) g b l := by
  rw [normed, xhat_up, tokens_upr, tokens_upr, mulf_up, addf_up, truncf_up]; rfl

end Norm

section Heads

theorem headDot_up (w : Fin 128 → Fin 128 → ℝ) (x : Fin 128 → Fin 512 → ℝ) :
    headDot (upm w) (up x) = up fun r l => ∑ k, w r k * x k l := by
  funext i
  idx_vars i
  pointwise [headDot, upm, up]
  simp only [← EReal.coe_mul]
  rw [coe_sum]

theorem head_lane : ∀ l : Fin 512, k0_pay6 (ix2 (0 : Fin 128) l) = BitVec.ofNat 32 (l.val / 64) := by decide +kernel

theorem head_at (r : Fin 128) (l : Fin 512) : k0_pay6 (ix2 r l) = BitVec.ofNat 32 (l.val / 64) := by
  rw [← head_lane l]
  pointwise [k0_pay6]

theorem isHead_at (h : BitVec 32) (r : Fin 128) (l : Fin 512) :
    isHead h (ix2 r l) = BitVec.ofBool (BitVec.ofNat 32 (head l).val == h) := by
  pointwise [isHead]
  rw [head_at]
  rfl

theorem byHead_up (w : Fin 8 → Fin 128 → Fin 128 → ℝ) (x : Fin 128 → Fin 512 → ℝ) :
    byHead (fun h => upm (w h)) (up x) = up fun r l => ∑ k, w (head l) r k * x k l := by
  funext i
  idx_vars i
  simp only [byHead, headDot_up]
  pointwise [isHead_at, up, word]
  generalize head i1 = h
  fin_cases h <;> rfl

theorem masked_up (h : Fin 8) (v : Fin 128 → Fin 512 → ℝ) :
    select (isHead (BitVec.ofNat 32 h.val)) (up (φ := .bf16) v) (broadcast S128x512 (Scalar.ofBits (F := Ideal) .bf16 0x0000#16)) =
      up fun r l => if head l = h then v r l else 0 := by
  funext i
  idx_vars i
  pointwise [isHead_at, up]
  generalize head i1 = h'
  by_cases e : h' = h
  · subst e
    simp [Scalar.select]
  · have : ¬ (BitVec.ofNat 32 h'.val = BitVec.ofNat 32 h.val) := by
      intro q
      have := congrArg BitVec.toNat q
      simp at this
      exact e (Fin.ext (by omega))
    simp [Scalar.select, e, this]

end Heads

section Gradients

variable (zu zv d : Fin 128 → Fin 512 → ℝ) (g b : Fin 512 → ℝ) (w wt : Fin 8 → Fin 128 → Fin 128 → ℝ) (bs : Fin 128 → Fin 512 → ℝ)

/-- The gate's product with its bias, in the reals. -/
def gateR (r : Fin 128) (l : Fin 512) : ℝ := ∑ k, w (head l) r k * Math.normed (zv k) g b l + bs r l
/-- The gradient of the gate's product. -/
def dsR (r : Fin 128) (l : Fin 512) : ℝ := d r l * Math.gelu (zu r l)
/-- The gradient of the layer norm's result. -/
def dvnR (r : Fin 128) (l : Fin 512) : ℝ := ∑ k, wt (head l) r k * dsR zu d k l

theorem dzu_up : dzu (up zu) (up zv) (up d) (upr g) (upr b) (fun h => upm (w h)) (up bs) =
    up fun r l => d r l * gateR zv g b w bs r l * Math.geluGrad (zu r l) := by
  rw [dzu, gate, normed_up, byHead_up, cast_up, geluGrad_up, addf_up, mulf_up, mulf_up, truncf_up]; rfl

theorem ds_up : ds (up zu) (up d) = up (dsR zu d) := by
  rw [ds, gelu_up, mulf_up]; rfl

theorem dvn_up : dvn (up zu) (up d) (fun h => upm (wt h)) = up (dvnR zu d wt) := by
  rw [dvn, ds16, ds_up, truncf_up, byHead_up]; rfl

theorem dbsStep_up (acc : Fin 128 → Fin 512 → ℝ) :
    dbsStep (up zu) (up d) (up acc) = up fun r l => acc r l + dsR zu d r l := by
  rw [dbsStep, ds_up, cast_up, addf_up]

theorem dwsStep_up (h : Fin 8) (acc : Fin 128 → Fin 128 → ℝ) :
    dwsStep (BitVec.ofNat 32 h.val) (up zu) (up zv) (up d) (upr g) (upr b) (upm acc) =
      upm fun r k => acc r k + ∑ l, (if head l = h then dsR zu d r l else 0) * Math.normed (zv k) g b l := by
  rw [dwsStep, ds16, ds_up, truncf_up, masked_up, normed_up]
  funext i
  idx_vars i
  pointwise [upm, up]
  simp only [← EReal.coe_mul]
  rw [coe_sum, ← EReal.coe_add]

theorem fold8_up (v : Fin 128 → Fin 512 → ℝ) :
    fold8 (up v) = up8 fun a l => ∑ j : Fin 16, v ⟨j.val * 8 + a.val, by omega⟩ l := by
  funext i
  idx_vars i
  pointwise [fold8, up, up8]
  rw [coe_sum]

theorem dgStep_up (acc : Fin 8 → Fin 512 → ℝ) :
    dgStep (up zu) (up zv) (up d) (fun h => upm (wt h)) (up8 acc) =
      up8 fun a l => acc a l + ∑ j : Fin 16, dvnR zu d wt ⟨j.val * 8 + a.val, by omega⟩ l * Math.xhat (zv ⟨j.val * 8 + a.val, by omega⟩) l := by
  rw [dgStep, dvn_up, xhat_up, mulf_up, fold8_up]
  funext i
  idx_vars i
  pointwise [up8]
  exact (EReal.coe_add _ _).symm

theorem dbStep_up (acc : Fin 8 → Fin 512 → ℝ) :
    dbStep (up zu) (up d) (fun h => upm (wt h)) (up8 acc) =
      up8 fun a l => acc a l + ∑ j : Fin 16, dvnR zu d wt ⟨j.val * 8 + a.val, by omega⟩ l := by
  rw [dbStep, dvn_up, fold8_up]
  funext i
  idx_vars i
  pointwise [up8]
  exact (EReal.coe_add _ _).symm

theorem dzv_up : dzv (up zu) (up zv) (up d) (upr g) (fun h => upm (wt h)) =
    up fun r l => Math.lnGrad (zv r) g (dvnR zu d wt r) l * Math.geluGrad (zv r l) := by
  rw [dzv, dgv, dvn_up, xhat_up, rstd_up, tokens_upr, mulf_up, mulf_up, mean_up, mean_up, lanes_upc, lanes_upc, lanes_upc,
    subf_up, mulf_up, subf_up, mulf_up, geluGrad_up, mulf_up, truncf_up]
  rfl

end Gradients

end Cert.KernelIdeal.Chunk

end
-- ==== Proof.Blocks.lean ====
/-
  The blocks that a grid point reads, as real numbers: the arguments' columns and rows, and the arrays that the host
  prepares (the masked matrices, their transposes, the bias at every lane).
-/
module

public import proofs.«01_k».proof.Proof.Steps
public import proofs.«01_k».proof.Proof.ChunkReal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Chunk

open Cert.KernelIdeal Cert.KernelIdeal.Gen
open Cert.Math (Args head tok chunk place)

variable (m : (ℓ : Loc nD τ sig) → Buf (Elt Ideal) ℓ)

/-- The memory's arguments on device `c` are the reals `A`. -/
structure Holds (c : Dev nD) (A : Args) : Prop where
  h0 : (m ((c : Thread nD τ).loc main_arg0) : FVec Ideal S4096x3584 .f32) = fun i => ((A.P (i 0) (i 1) : ℝ) : EReal)
  h1 : (m ((c : Thread nD τ).loc main_arg1) : FVec Ideal S4096x512 .f32) = fun i => ((A.D (i 0) (i 1) : ℝ) : EReal)
  h2 : (m ((c : Thread nD τ).loc main_arg2) : FVec Ideal S1x512 .f32) = fun i => ((A.g (i 1) : ℝ) : EReal)
  h3 : (m ((c : Thread nD τ).loc main_arg3) : FVec Ideal S1x512 .f32) = fun i => ((A.b (i 1) : ℝ) : EReal)
  h4 : (m ((c : Thread nD τ).loc main_arg4) : FVec Ideal S8x128x128 .f32) = fun i => ((A.W (i 0) (i 1) (i 2) : ℝ) : EReal)
  h5 : (m ((c : Thread nD τ).loc main_arg5) : FVec Ideal S8x128 .f32) = fun i => ((A.B (i 0) (i 1) : ℝ) : EReal)

theorem idx : ∀ t : Fin cfg0.N, win0_0.index t = ![t.val, 1] ∧ win0_1.index t = ![t.val, 2] ∧ win0_2.index t = ![t.val, 0]
    ∧ win0_3.index t = ![0, 0] ∧ win0_4.index t = ![0, 0] ∧ win0_5.index t = ![0, 0, 0] ∧ win0_6.index t = ![0, 0, 0]
    ∧ win0_7.index t = ![0, 0] ∧ win0_8.index t = ![t.val, 0] ∧ win0_9.index t = ![t.val, 0] :=
  (by decide +kernel : ∀ t : Fin grid0.N, _)

/-- Point `t`'s chunk `k`. -/
def nth (t : Fin cfg0.N) (k : Fin 4) : Fin 32 := ⟨t.val * 4 + k.val, by have : t.val < 8 := t.isLt; omega⟩

/-- The mask below and on the diagonal. -/
def causal : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The mask at every head. -/
def causal8 : IVec S8x128x128 1 :=
  broadcastInDim S8x128x128 ![0, 1, 2] bcast_S1x128x128_S8x128x128_0_1_2 (broadcastInDim S1x128x128 ![1, 2] bcast_S128x128_S1x128x128_1_2 causal)

/-- The masked matrices. -/
def masked (w : FVec Ideal S8x128x128 .f32) : FVec Ideal S8x128x128 .f32 :=
  select causal8 w (broadcastInDim S8x128x128 ![] bcast_S_S8x128x128 (constant (F := Ideal) S_ .f32 0x00000000#32))

theorem V_main_v4 (c : Dev nD) : (V m c main_v4 : FVec Ideal S8x128x128 .bf16) =
    truncf .bf16 (masked (m ((c : Thread nD τ).loc main_arg4))) bitsLt_bf16_f32 := by
  simp only [V, V0, List.flatten_cons, List.flatten_nil, List.append_nil, List.cons_append, List.nil_append]
  after_results
  rfl

theorem V_main_v5 (c : Dev nD) : (V m c main_v5 : FVec Ideal S8x128x128 .bf16) =
    transpose S8x128x128 [0, 2, 1] (truncf .bf16 (masked (m ((c : Thread nD τ).loc main_arg4))) bitsLt_bf16_f32) transposes_S8x128x128_S8x128x128_0_2_1 := by
  simp only [V, V0, List.flatten_cons, List.flatten_nil, List.append_nil, List.cons_append, List.nil_append]
  after_results
  rfl

theorem V_main_v8 (c : Dev nD) : (V m c main_v8 : FVec Ideal S128x512 .f32) =
    shapeCast S128x512 (broadcastInDim S128x8x64 ![0, 1] bcast_S128x8_S128x8x64_0_1
      (transpose S128x8 [1, 0] (m ((c : Thread nD τ).loc main_arg5) : FVec Ideal S8x128 .f32) transposes_S8x128_S128x8_1_0)) shapeCasts_S128x8x64_S128x512 := by
  simp only [V, V0, List.flatten_cons, List.flatten_nil, List.append_nil, List.cons_append, List.nil_append]
  after_results
  rfl

theorem below : ∀ r k : Fin 128, Scalar.select (IntOp.cmpi .sge (IntOp.addi (BitVec.ofNat 32 r.val) 0#32) (BitVec.ofNat 32 k.val)) 1#1 0#1 =
    BitVec.ofBool (decide (k ≤ r)) := by decide +kernel

theorem causal_at (r k : Fin 128) : causal (ix2 r k) = BitVec.ofBool (decide (k ≤ r)) := by
  pointwise [causal]
  exact below r k

theorem masked_of (W : Fin 8 → Fin 128 → Fin 128 → ℝ) (h : Fin 8) (r k : Fin 128) :
    masked (fun i => ((W (i 0) (i 1) (i 2) : ℝ) : EReal)) (ix3 h r k) = ((if k ≤ r then W h r k else 0 : ℝ) : EReal) := by
  pointwise [masked, causal8]
  rw [causal_at]
  by_cases e : k ≤ r
  · simp [Scalar.select, e]
  · simp [Scalar.select, e]

variable {m} {c : Dev nD} {A : Args} (H : Holds m c A) (t : Fin cfg0.N)
include H

theorem Zu_eq (k : Fin 4) : Zu m c t k = up fun r l => A.zu (tok (nth t k) r) l := by
  funext i
  idx_vars i
  have e : Zu m c t k (ix2 i0 i1) = (m ((c : Thread nD τ).loc main_arg0) : FVec Ideal S4096x3584 .f32)
      (ix2 (tok (nth t k) i0) (⟨512 + i1.val, by omega⟩ : Fin 3584)) := by
    simp only [Zu, chunkOf]
    blk_ext [iblk, V, idx t]
    simp only [tok, nth]; omega
  rw [e, H.h0]
  rfl

theorem Zv_eq (k : Fin 4) : Zv m c t k = up fun r l => A.zv (tok (nth t k) r) l := by
  funext i
  idx_vars i
  have e : Zv m c t k (ix2 i0 i1) = (m ((c : Thread nD τ).loc main_arg0) : FVec Ideal S4096x3584 .f32)
      (ix2 (tok (nth t k) i0) (⟨1024 + i1.val, by omega⟩ : Fin 3584)) := by
    simp only [Zv, chunkOf]
    blk_ext [iblk, V, idx t]
    simp only [tok, nth]; omega
  rw [e, H.h0]
  rfl

theorem Dd_eq (k : Fin 4) : Dd m c t k = up fun r l => A.D (tok (nth t k) r) l := by
  funext i
  idx_vars i
  have e : Dd m c t k (ix2 i0 i1) = (m ((c : Thread nD τ).loc main_arg1) : FVec Ideal S4096x512 .f32)
      (ix2 (tok (nth t k) i0) i1) := by
    simp only [Dd, chunkOf]
    blk_ext [iblk, V, idx t]
    simp only [tok, nth]; omega
  rw [e, H.h1]
  rfl

theorem iblk3_eq : iblk m c 3 t = upr A.g := by
  funext i
  idx_vars i
  have e : iblk m c 3 t (ix2 i0 i1) = (m ((c : Thread nD τ).loc main_arg2) : FVec Ideal S1x512 .f32) (ix2 i0 i1) := by
    blk_ext [iblk, V, idx t]
  rw [e, H.h2]
  rfl

theorem iblk4_eq : iblk m c 4 t = upr A.b := by
  funext i
  idx_vars i
  have e : iblk m c 4 t (ix2 i0 i1) = (m ((c : Thread nD τ).loc main_arg3) : FVec Ideal S1x512 .f32) (ix2 i0 i1) := by
    blk_ext [iblk, V, idx t]
  rw [e, H.h3]
  rfl

theorem Wn_eq : Wn m c t = fun h => upm (A.wm h) := by
  funext h i
  idx_vars i
  have e : Wn m c t h (ix3 i0 i1 i2) = (V m c main_v4 : FVec Ideal S8x128x128 .bf16) (ix3 h i1 i2) := by
    simp only [Wn, headOf]
    blk_ext [iblk, idx t]
  rw [e, V_main_v4, H.h4]
  pointwise [upm]
  exact masked_of A.W h i1 i2

theorem Wt_eq : Wt m c t = fun h => upm fun r k => A.wm h k r := by
  funext h i
  idx_vars i
  have e : Wt m c t h (ix3 i0 i1 i2) = (V m c main_v5 : FVec Ideal S8x128x128 .bf16) (ix3 h i1 i2) := by
    simp only [Wt, headOf]
    blk_ext [iblk, idx t]
  rw [e, V_main_v5, H.h4]
  pointwise [upm]
  exact masked_of A.W h i2 i1

theorem iblk7_eq : iblk m c 7 t = up (φ := .f32) fun r l => A.B (head l) r := by
  funext i
  idx_vars i
  have e : iblk m c 7 t (ix2 i0 i1) = (V m c main_v8 : FVec Ideal S128x512 .f32) (ix2 i0 i1) := by
    blk_ext [iblk, idx t]
  rw [e, V_main_v8, H.h5]
  pointwise [up]
  rfl

end Cert.KernelIdeal.Chunk

end
-- ==== Proof.Arrays.lean ====
/-
  The six arrays that the region leaves, as real numbers: the two tiled ones block by block, the four accumulators
  as sums over the 32 chunks.
-/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Chunk

open Cert.KernelIdeal Cert.KernelIdeal.Gen
open Cert.Math (Args head tok chunk place)

theorem chunk_tok (q : Fin 32) (r : Fin 128) : chunk (tok q r) = q := Fin.ext (by simp only [chunk, tok]; omega)
theorem place_tok (q : Fin 32) (r : Fin 128) : place (tok q r) = r := Fin.ext (by simp only [place, tok]; omega)

/-- An accumulator that starts at zero and takes a term at each of eight points ends at the terms' sum, where what it
    holds is the lift of an additive quantity. -/
theorem fold_lift {α B : Type} [AddCommMonoid B] (lift : B → α) (f : (n : ℕ) → n < 8 → α) (S : Fin 8 → α → α) (T : Fin 8 → B)
    (z : α) (hz : z = lift 0) (hS : ∀ t x, S t (lift x) = lift (x + T t))
    (hA : ∀ t : Fin 8, t.val % 8 = 0 → f t.val t.isLt = S t z)
    (hB : ∀ t : Fin 8, ¬ t.val % 8 = 0 → f t.val t.isLt = S t (f (t.val - 1) (lt_of_le_of_lt (Nat.sub_le _ _) t.isLt))) :
    f 7 (by decide) = lift (∑ t, T t) := by
  have key : ∀ n (h : n < 8), f n h = lift (∑ t : Fin (n + 1), T ⟨t.val, by omega⟩) := by
    intro n
    induction n with
    | zero =>
      intro h
      rw [hA ⟨0, h⟩ rfl, hz, hS]
      simp
    | succ n ih =>
      intro h
      rw [hB ⟨n + 1, h⟩ (by simp only; omega), Fin.sum_univ_castSucc]
      exact (congrArg (S ⟨n + 1, h⟩) (ih (by omega))).trans (hS _ _)
  exact key 7 (by decide)

/-- The chunks of eight points are the 32 chunks. -/
theorem sum_nth {B : Type} [AddCommMonoid B] (F : Fin 32 → B) : ∑ t : Fin 8, ∑ k : Fin 4, F (nth t k) = ∑ q, F q :=
  (Fin.sum_univ_tiles 8 4 rfl F).symm

variable {m : (ℓ : Loc nD τ sig) → Buf (Elt Ideal) ℓ} {c : Dev nD} {A : Args} (H : Holds m c A)
include H

theorem dvnR_eq (q : Fin 32) : dvnR (fun r l => A.zu (tok q r) l) (fun r l => A.D (tok q r) l) (fun h r k => A.wm h k r) =
    fun r l => A.dvn (tok q r) l := by
  funext r l
  simp only [dvnR, Args.dvn, chunk_tok, place_tok]
  rfl

theorem dzuPt_at (t : Fin cfg0.N) (k : Fin 4) (r : Fin 128) (l : Fin 512) :
    dzu (Zu m c t k) (Zv m c t k) (Dd m c t k) (iblk m c 3 t) (iblk m c 4 t) (Wn m c t) (iblk m c 7 t) (ix2 r l) =
      ((A.dzu (tok (nth t k) r) l : ℝ) : EReal) := by
  rw [Zu_eq H, Zv_eq H, Dd_eq H, iblk3_eq H, iblk4_eq H, Wn_eq H, iblk7_eq H, dzu_up, up_at]
  simp only [gateR, Args.dzu, Args.gate, chunk_tok, place_tok]

theorem dzvPt_at (t : Fin cfg0.N) (k : Fin 4) (r : Fin 128) (l : Fin 512) :
    dzv (Zu m c t k) (Zv m c t k) (Dd m c t k) (iblk m c 3 t) (Wt m c t) (ix2 r l) = ((A.dzv (tok (nth t k) r) l : ℝ) : EReal) := by
  rw [Zu_eq H, Zv_eq H, Dd_eq H, iblk3_eq H, Wt_eq H, dzv_up, up_at, dvnR_eq H]
  rfl

theorem final8 : (dats m 0 c).arrAt 8 (cfgs 0).N = (fun i => ((A.dzu (i 0) (i 1) : ℝ) : EReal) : FVec Ideal S4096x512 .bf16) := by
  refine (dats m 0 c).arrAt_eq_of_covers 8 _ (by decide +kernel) fun t _ y => ?_
  blk_simp
  rw [after0_8]
  have e : (outsAt0 m c t.val t.isLt).1 = dzuPt m c t := by
    by_cases h : t.val % 8 = 0
    · exact dzu_A m c t h
    · exact dzu_B m c t h
  rw [e]
  have h0 : (y 0).val < 512 := (y 0).isLt
  refine (dzuPt_at H t _ _ _).trans ?_
  refine congrArg _ (congrArg₂ A.dzu (Fin.ext ?_) (Fin.ext ?_))
  · blk_simp [idx t]
    simp only [tok, nth]
    omega
  · blk_simp [idx t]

theorem final9 : (dats m 0 c).arrAt 9 (cfgs 0).N = (fun i => ((A.dzv (i 0) (i 1) : ℝ) : EReal) : FVec Ideal S4096x512 .bf16) := by
  refine (dats m 0 c).arrAt_eq_of_covers 9 _ (by decide +kernel) fun t _ y => ?_
  blk_simp
  rw [after0_9]
  have e : (outsAt0 m c t.val t.isLt).2.1 = dzvPt m c t := by
    by_cases h : t.val % 8 = 0
    · exact dzv_A m c t h
    · exact dzv_B m c t h
  rw [e]
  have h0 : (y 0).val < 512 := (y 0).isLt
  refine (dzvPt_at H t _ _ _).trans ?_
  refine congrArg _ (congrArg₂ A.dzv (Fin.ext ?_) (Fin.ext ?_))
  · blk_simp [idx t]
    simp only [tok, nth]
    omega
  · blk_simp [idx t]

/-- What chunk `q` adds to each accumulator. -/
def dwsTerm (A : Args) (q : Fin 32) (h : Fin 8) (r k : Fin 128) : ℝ :=
  ∑ l, (if head l = h then A.ds (tok q r) l else 0) * Math.normed (A.zv (tok q k)) A.g A.b l
def dbsTerm (A : Args) (q : Fin 32) (r : Fin 128) (l : Fin 512) : ℝ := A.ds (tok q r) l
def dgTerm (A : Args) (q : Fin 32) (a : Fin 8) (l : Fin 512) : ℝ :=
  ∑ j : Fin 16, A.dvn (tok q ⟨j.val * 8 + a.val, by omega⟩) l * Math.xhat (A.zv (tok q ⟨j.val * 8 + a.val, by omega⟩)) l
def dbTerm (A : Args) (q : Fin 32) (a : Fin 8) (l : Fin 512) : ℝ := ∑ j : Fin 16, A.dvn (tok q ⟨j.val * 8 + a.val, by omega⟩) l

/-- Eight matrices of reals. -/
def upw (W : Fin 8 → Fin 128 → Fin 128 → ℝ) : FVec Ideal S8x128x128 .f32 := fun i => ((W (i 0) (i 1) (i 2) : ℝ) : EReal)

theorem dwsPt_up (t : Fin cfg0.N) (x : Fin 8 → Fin 128 → Fin 128 → ℝ) :
    dwsPt m c t (upw x) = upw (x + ∑ k : Fin 4, dwsTerm A (nth t k)) := by
  rw [dwsPt, Zu_eq H, Zu_eq H, Zu_eq H, Zu_eq H, Zv_eq H, Zv_eq H, Zv_eq H, Zv_eq H, Dd_eq H, Dd_eq H, Dd_eq H, Dd_eq H,
    iblk3_eq H, iblk4_eq H]
  have e (h : Fin 8) : headOf (upw x) h = upm (x h) := rfl
  simp only [e, dwsStep_up]
  rw [Fin.sum_univ_four, ← add_assoc, ← add_assoc, ← add_assoc]
  rfl

theorem dbsPt_up (t : Fin cfg0.N) (x : Fin 128 → Fin 512 → ℝ) : dbsPt m c t (up x) = up (x + ∑ k : Fin 4, dbsTerm A (nth t k)) := by
  rw [dbsPt, Zu_eq H, Zu_eq H, Zu_eq H, Zu_eq H, Dd_eq H, Dd_eq H, Dd_eq H, Dd_eq H, dbsStep_up, dbsStep_up, dbsStep_up, dbsStep_up,
    Fin.sum_univ_four, ← add_assoc, ← add_assoc, ← add_assoc]
  rfl

theorem dgPt_up (t : Fin cfg0.N) (x : Fin 8 → Fin 512 → ℝ) : dgPt m c t (up8 x) = up8 (x + ∑ k : Fin 4, dgTerm A (nth t k)) := by
  rw [dgPt, Zu_eq H, Zu_eq H, Zu_eq H, Zu_eq H, Zv_eq H, Zv_eq H, Zv_eq H, Zv_eq H, Dd_eq H, Dd_eq H, Dd_eq H, Dd_eq H, Wt_eq H,
    dgStep_up, dgStep_up, dgStep_up, dgStep_up, dvnR_eq H, dvnR_eq H, dvnR_eq H, dvnR_eq H, Fin.sum_univ_four, ← add_assoc, ← add_assoc, ← add_assoc]
  rfl

theorem dbPt_up (t : Fin cfg0.N) (x : Fin 8 → Fin 512 → ℝ) : dbPt m c t (up8 x) = up8 (x + ∑ k : Fin 4, dbTerm A (nth t k)) := by
  rw [dbPt, Zu_eq H, Zu_eq H, Zu_eq H, Zu_eq H, Dd_eq H, Dd_eq H, Dd_eq H, Dd_eq H, Wt_eq H,
    dbStep_up, dbStep_up, dbStep_up, dbStep_up, dvnR_eq H, dvnR_eq H, dvnR_eq H, dvnR_eq H, Fin.sum_univ_four, ← add_assoc, ← add_assoc, ← add_assoc]
  rfl

theorem final10 : (dats m 0 c).arrAt 10 (cfgs 0).N = (upw (∑ q, dwsTerm A q) : FVec Ideal S8x128x128 .f32) := by
  refine (dats m 0 c).arrAt_eq_of_after_last 10 t0_7 (by decide +kernel) _ fun j => ?_
  blk_simp
  rw [after0_10]
  have e := fold_lift (fun x => upw x) (fun n h => (outsAt0 m c n h).2.2.1) (fun t a => dwsPt m c t a)
    (fun t => ∑ k : Fin 4, dwsTerm A (nth t k)) k0_pay2
    (by funext i; idx_vars i; pointwise [k0_pay2, upw]; exact EReal.coe_zero.symm) (dwsPt_up H) (dws_A m c) (dws_B m c)
  rw [sum_nth] at e
  exact congrFun e j

theorem final11 : (dats m 0 c).arrAt 11 (cfgs 0).N = (up (φ := .f32) (∑ q, dbsTerm A q) : FVec Ideal S128x512 .f32) := by
  refine (dats m 0 c).arrAt_eq_of_after_last 11 t0_7 (by decide +kernel) _ fun j => ?_
  blk_simp
  rw [after0_11]
  have e := fold_lift (fun x => up (φ := .f32) x) (fun n h => (outsAt0 m c n h).2.2.2.1) (fun t a => dbsPt m c t a)
    (fun t => ∑ k : Fin 4, dbsTerm A (nth t k)) k0_pay3
    (by funext i; idx_vars i; pointwise [k0_pay3, up]; exact EReal.coe_zero.symm) (dbsPt_up H) (dbs_A m c) (dbs_B m c)
  rw [sum_nth] at e
  exact congrFun e j

theorem final12 : (dats m 0 c).arrAt 12 (cfgs 0).N = (up8 (∑ q, dgTerm A q) : FVec Ideal S8x512 .f32) := by
  refine (dats m 0 c).arrAt_eq_of_after_last 12 t0_7 (by decide +kernel) _ fun j => ?_
  blk_simp
  rw [after0_12]
  have e := fold_lift (fun x => up8 x) (fun n h => (outsAt0 m c n h).2.2.2.2.1) (fun t a => dgPt m c t a)
    (fun t => ∑ k : Fin 4, dgTerm A (nth t k)) k0_pay4
    (by funext i; idx_vars i; pointwise [k0_pay4, up8]; exact EReal.coe_zero.symm) (dgPt_up H) (dg_A m c) (dg_B m c)
  rw [sum_nth] at e
  exact congrFun e j

theorem final13 : (dats m 0 c).arrAt 13 (cfgs 0).N = (up8 (∑ q, dbTerm A q) : FVec Ideal S8x512 .f32) := by
  refine (dats m 0 c).arrAt_eq_of_after_last 13 t0_7 (by decide +kernel) _ fun j => ?_
  blk_simp
  rw [after0_13]
  have e := fold_lift (fun x => up8 x) (fun n h => (outsAt0 m c n h).2.2.2.2.2) (fun t a => dbPt m c t a)
    (fun t => ∑ k : Fin 4, dbTerm A (nth t k)) k0_pay5
    (by funext i; idx_vars i; pointwise [k0_pay5, up8]; exact EReal.coe_zero.symm) (dbPt_up H) (db_A m c) (db_B m c)
  rw [sum_nth] at e
  exact congrFun e j

end Cert.KernelIdeal.Chunk

end
-- ==== Proof.Tail.lean ====
/-
  The kernel's run: its six results as real numbers, the host's last lines (the mask, the sums over a head's lanes and
  over eight rows) included.
-/
module

public import proofs.«01_k».proof.Proof.Arrays
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Chunk

open Cert.KernelIdeal Cert.KernelIdeal.Gen
open Cert.Math (Args head tok chunk place)

section Sums

variable (A : Args)

theorem head_sum (h : Fin 8) (f w : Fin 512 → ℝ) :
    ∑ l, (if head l = h then f l else 0) * w l = ∑ j : Fin 64, f ⟨h.val * 64 + j.val, by omega⟩ * w ⟨h.val * 64 + j.val, by omega⟩ := by
  rw [Fin.sum_univ_tiles 8 64 rfl]
  rw [Finset.sum_eq_single h]
  · refine Finset.sum_congr rfl fun j _ => ?_
    rw [if_pos (Fin.ext (by simp only [head]; omega))]
  · intro b _ hb
    refine Finset.sum_eq_zero fun j _ => ?_
    rw [if_neg, zero_mul]
    intro e
    refine hb (Fin.ext ?_)
    have := congrArg Fin.val e
    simp only [head] at this
    omega
  · intro h; exact absurd (Finset.mem_univ _) h

theorem tok_sum {B : Type} [AddCommMonoid B] (F : Fin 4096 → B) : ∑ q : Fin 32, ∑ r : Fin 128, F (tok q r) = ∑ n, F n :=
  (Fin.sum_univ_tiles 32 128 rfl F).symm

theorem rows_sum (F : Fin 4096 → ℝ) :
    ∑ a : Fin 8, ∑ q : Fin 32, ∑ j : Fin 16, F (tok q ⟨j.val * 8 + a.val, by omega⟩) = ∑ n, F n := by
  rw [← tok_sum, Finset.sum_comm]
  refine Finset.sum_congr rfl fun q _ => ?_
  rw [Finset.sum_comm, Fin.sum_univ_tiles 16 8 rfl fun r : Fin 128 => F (tok q r)]

theorem dws_sum (h : Fin 8) (r k : Fin 128) : (if k ≤ r then (∑ q, dwsTerm A q) h r k else 0) = A.dws h r k := by
  simp only [Finset.sum_apply, dwsTerm, head_sum, Args.dws]

theorem dbs_sum (h : Fin 8) (r : Fin 128) :
    ∑ j : Fin 64, (∑ q, dbsTerm A q) r ⟨h.val * 64 + j.val, by omega⟩ = A.dbs h r := by
  simp only [Finset.sum_apply, dbsTerm, Args.dbs]
  rw [Finset.sum_comm]

theorem dg_sum (l : Fin 512) : ∑ a : Fin 8, (∑ q, dgTerm A q) a l = A.dg l := by
  simp only [Finset.sum_apply, dgTerm, Args.dg]
  exact rows_sum fun n => A.dvn n l * Math.xhat (A.zv n) l

theorem db_sum (l : Fin 512) : ∑ a : Fin 8, (∑ q, dbTerm A q) a l = A.db l := by
  simp only [Finset.sum_apply, dbTerm, Args.db]
  exact rows_sum fun n => A.dvn n l

end Sums

variable {m : (ℓ : Loc nD τ sig) → Buf (Elt Ideal) ℓ}

/-- The buffers as the region leaves them. -/
def left (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem shared : ∀ w w' : Fin cfg0.W, w ≠ w' → Pipeline.arrRef (cfgs 0).spec w = Pipeline.arrRef (cfgs 0).spec w' → w = 0 ∨ w = 1 :=
  (by decide +kernel : ∀ w w' : Fin 14, w ≠ w' → Pipeline.arrRef (cfgs 0).spec w = Pipeline.arrRef (cfgs 0).spec w' → w = 0 ∨ w = 1)

theorem left_arr (c : Dev nD) (w : Fin cfg0.W) :
    left m c (Proc.devRef .tc (Pipeline.arrRef (cfgs 0).spec w)) = (dats m 0 c).arrAt w (cfgs 0).N := by
  refine Pipeline.withArrays_arr_shared (cfgs 0).spec c (V0 m c) _ (fun w w' hne e => ?_) w
  rcases shared w w' hne e with rfl | rfl
  · exact ((dats m 0 c).arrAt_in 0 rfl _).trans (A_eq m c 0)
  · exact ((dats m 0 c).arrAt_in 1 rfl _).trans (A_eq m c 1)

theorem left_v1 (c : Dev nD) : left m c (Proc.devRef .tc main_v1) = causal := by
  refine (Pipeline.withArrays_of_ne (cfgs 0).spec c (V0 m c) _ main_v1
    (by decide +kernel : ∀ w : Fin 14, Pipeline.arrRef (cfgs 0).spec w ≠ main_v1)).trans ?_
  simp only [V0, List.flatten_cons, List.flatten_nil, List.append_nil, List.cons_append, List.nil_append]
  after_results
  rfl

variable {c : Dev nD} {A : Args} (H : Holds m c A)
include H

theorem tail_v11 : (Pipeline.afterTail₀ cfgs (dats m) 0 (V0 m) [hostOps1, hostOps1_1, hostOps1_2] c main_v11 : FVec Ideal S8x128x128 .f32) =
    fun i => ((A.dws (i 0) (i 1) (i 2) : ℝ) : EReal) := by
  have h1 := left_v1 (m := m) c
  have h2 := (left_arr (m := m) c 10).trans (final10 H)
  unfold Pipeline.afterTail₀
  rw [show Pipeline.withArrays (cfgs 0).spec c (V0 m c) (fun w => (dats m 0 c).arrAt w (cfgs 0).N) = left m c from rfl]
  generalize left m c = L at *
  simp only [List.flatten_cons, List.flatten_nil, List.append_nil, List.cons_append, List.nil_append]
  after_results
  refine Eq.trans (b := select (broadcastInDim S8x128x128 ![0, 1, 2] bcast_S1x128x128_S8x128x128_0_1_2
    (broadcastInDim S1x128x128 ![1, 2] bcast_S128x128_S1x128x128_1_2 (L (Proc.devRef .tc main_v1) : IVec S128x128 1)))
    (L (Proc.devRef .tc main_v9_2) : FVec Ideal S8x128x128 .f32) (broadcastInDim S8x128x128 ![] bcast_S_S8x128x128 (constant (F := Ideal) S_ .f32 0x00000000#32))) rfl ?_
  rw [h1, show L (Proc.devRef .tc main_v9_2) = upw (∑ q, dwsTerm A q) from h2]
  funext i
  idx_vars i
  refine (masked_of (∑ q, dwsTerm A q) i0 i1 i2).trans ?_
  rw [dws_sum]

theorem tail_v14 : (Pipeline.afterTail₀ cfgs (dats m) 0 (V0 m) [hostOps1, hostOps1_1, hostOps1_2] c main_v14 : FVec Ideal S8x128 .f32) =
    fun i => ((A.dbs (i 0) (i 1) : ℝ) : EReal) := by
  have h2 := (left_arr (m := m) c 11).trans (final11 H)
  unfold Pipeline.afterTail₀
  rw [show Pipeline.withArrays (cfgs 0).spec c (V0 m c) (fun w => (dats m 0 c).arrAt w (cfgs 0).N) = left m c from rfl]
  generalize left m c = L at *
  simp only [List.flatten_cons, List.flatten_nil, List.append_nil, List.cons_append, List.nil_append]
  after_results
  rw [show L (Proc.devRef .tc main_v9_3) = up (φ := .f32) (∑ q, dbsTerm A q) from h2]
  funext i
  idx_vars i
  pointwise [up]
  rw [coe_sum, dbs_sum]

theorem tail_v16 : (Pipeline.afterTail₀ cfgs (dats m) 0 (V0 m) [hostOps1, hostOps1_1, hostOps1_2] c main_v16 : FVec Ideal S1x512 .f32) =
    fun i => ((A.dg (i 1) : ℝ) : EReal) := by
  have h2 := (left_arr (m := m) c 12).trans (final12 H)
  unfold Pipeline.afterTail₀
  rw [show Pipeline.withArrays (cfgs 0).spec c (V0 m c) (fun w => (dats m 0 c).arrAt w (cfgs 0).N) = left m c from rfl]
  generalize left m c = L at *
  simp only [List.flatten_cons, List.flatten_nil, List.append_nil, List.cons_append, List.nil_append]
  after_results
  rw [show L (Proc.devRef .tc main_v9_4) = up8 (∑ q, dgTerm A q) from h2]
  funext i
  idx_vars i
  pointwise [up8]
  rw [coe_sum, dg_sum]

theorem tail_v18 : (Pipeline.afterTail₀ cfgs (dats m) 0 (V0 m) [hostOps1, hostOps1_1, hostOps1_2] c main_v18 : FVec Ideal S1x512 .f32) =
    fun i => ((A.db (i 1) : ℝ) : EReal) := by
  have h2 := (left_arr (m := m) c 13).trans (final13 H)
  unfold Pipeline.afterTail₀
  rw [show Pipeline.withArrays (cfgs 0).spec c (V0 m c) (fun w => (dats m 0 c).arrAt w (cfgs 0).N) = left m c from rfl]
  generalize left m c = L at *
  simp only [List.flatten_cons, List.flatten_nil, List.append_nil, List.cons_append, List.nil_append]
  after_results
  rw [show L (Proc.devRef .tc main_v9_5) = up8 (∑ q, dbTerm A q) from h2]
  funext i
  idx_vars i
  pointwise [up8]
  rw [coe_sum, db_sum]

/-- What the kernel's run leaves in its six results. -/
theorem results (r : PUnit × MemSt nD τ sig (Elt Ideal))
    (h : Pipeline.FramePost cfgs (dats m) 0 (Pipeline.afterTail₀ cfgs (dats m) 0 (V0 m) [hostOps1, hostOps1_1, hostOps1_2]) r) :
    (r.2.mem ((c.tc : Thread nD τ).loc main_v9_0) : FVec Ideal S4096x512 .bf16) = (fun i => ((A.dzu (i 0) (i 1) : ℝ) : EReal))
    ∧ (r.2.mem ((c.tc : Thread nD τ).loc main_v9_1) : FVec Ideal S4096x512 .bf16) = (fun i => ((A.dzv (i 0) (i 1) : ℝ) : EReal))
    ∧ (r.2.mem ((c.tc : Thread nD τ).loc main_v11) : FVec Ideal S8x128x128 .f32) = (fun i => ((A.dws (i 0) (i 1) (i 2) : ℝ) : EReal))
    ∧ (r.2.mem ((c.tc : Thread nD τ).loc main_v14) : FVec Ideal S8x128 .f32) = (fun i => ((A.dbs (i 0) (i 1) : ℝ) : EReal))
    ∧ (r.2.mem ((c.tc : Thread nD τ).loc main_v16) : FVec Ideal S1x512 .f32) = (fun i => ((A.dg (i 1) : ℝ) : EReal))
    ∧ (r.2.mem ((c.tc : Thread nD τ).loc main_v18) : FVec Ideal S1x512 .f32) = (fun i => ((A.db (i 1) : ℝ) : EReal)) :=
  ⟨((h c).1 8).trans (final8 H), ((h c).1 9).trans (final9 H), ((h c).2 main_v11 (by decide +kernel)).trans (tail_v11 H),
    ((h c).2 main_v14 (by decide +kernel)).trans (tail_v14 H), ((h c).2 main_v16 (by decide +kernel)).trans (tail_v16 H),
    ((h c).2 main_v18 (by decide +kernel)).trans (tail_v18 H)⟩

end Cert.KernelIdeal.Chunk

end
-- ==== Proof.RefReal.lean ====
/-
  The reference's forward values as real numbers, operation by operation: gelu, the layer norm, the masked matrices and
  the gate.
-/
module

public import proofs.«01_k».proof.Proof.Gen.ReferenceIdeal.Read
public import proofs.«01_k».proof.Proof.Consts
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.ReferenceIdeal.Reals

open Cert.ReferenceIdeal Cert.ReferenceIdeal.Gen Cert.ReferenceIdeal.Read Cert.Consts
open Cert.Math (Args head tok chunk place)

/-- A sum of reals, taken among the extended reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s h ih => rw [Finset.sum_insert h, Finset.sum_insert h, ih, EReal.coe_add]

/-- Arrays of reals, by shape: tokens by lanes, a column, chunks by places by heads by lanes. -/
def rr (f : Fin 4096 → Fin 512 → ℝ) : FVec Ideal S4096x512 .f32 := fun i => ((f (i 0) (i 1) : ℝ) : EReal)
def rc (f : Fin 4096 → ℝ) : FVec Ideal S4096x1 .f32 := fun i => ((f (i 0) : ℝ) : EReal)
def r1 (f : Fin 4096 → ℝ) : FVec Ideal S4096 .f32 := fun i => ((f (i 0) : ℝ) : EReal)

variable (A : Args)

/-- The six arguments. -/
def a0 : FVec Ideal S4096x3584 .f32 := fun i => ((A.P (i 0) (i 1) : ℝ) : EReal)
def a1 : FVec Ideal S4096x512 .f32 := fun i => ((A.D (i 0) (i 1) : ℝ) : EReal)
def a2 : FVec Ideal S1x512 .f32 := fun i => ((A.g (i 1) : ℝ) : EReal)
def a3 : FVec Ideal S1x512 .f32 := fun i => ((A.b (i 1) : ℝ) : EReal)
def a4 : FVec Ideal S8x128x128 .f32 := fun i => ((A.W (i 0) (i 1) (i 2) : ℝ) : EReal)
def a5 : FVec Ideal S8x128 .f32 := fun i => ((A.B (i 0) (i 1) : ℝ) : EReal)

theorem mulf_rr (v w : Fin 4096 → Fin 512 → ℝ) : mulf (rr v) (rr w) = rr fun n l => v n l * w n l := by
  funext i; idx_vars i; pointwise [rr]; exact (EReal.coe_mul _ _).symm
theorem addf_rr (v w : Fin 4096 → Fin 512 → ℝ) : addf (rr v) (rr w) = rr fun n l => v n l + w n l := by
  funext i; idx_vars i; pointwise [rr]; exact (EReal.coe_add _ _).symm
theorem subf_rr (v w : Fin 4096 → Fin 512 → ℝ) : subf (rr v) (rr w) = rr fun n l => v n l - w n l := by
  funext i; idx_vars i; pointwise [rr]; exact (EReal.coe_sub _ _).symm
theorem negf_rr (v : Fin 4096 → Fin 512 → ℝ) : Host.negf (rr v) = rr fun n l => - v n l := by
  funext i; idx_vars i; pointwise [rr]; exact (EReal.coe_neg _).symm
theorem divf_rr (v w : Fin 4096 → Fin 512 → ℝ) (h : ∀ n l, w n l ≠ 0) : Host.divf (rr v) (rr w) = rr fun n l => v n l / w n l := by
  funext i; idx_vars i; pointwise [rr]; rw [Ideal.div_coe (h _ _), ← EReal.coe_mul, mul_one_div]
theorem mulf_rc (v w : Fin 4096 → ℝ) : mulf (rc v) (rc w) = rc fun n => v n * w n := by
  funext i; idx_vars i; pointwise [rc]; exact (EReal.coe_mul _ _).symm
theorem addf_rc (v w : Fin 4096 → ℝ) : addf (rc v) (rc w) = rc fun n => v n + w n := by
  funext i; idx_vars i; pointwise [rc]; exact (EReal.coe_add _ _).symm
theorem negf_rc (v : Fin 4096 → ℝ) : Host.negf (rc v) = rc fun n => - v n := by
  funext i; idx_vars i; pointwise [rc]; exact (EReal.coe_neg _).symm
theorem divf_rc (v w : Fin 4096 → ℝ) (h : ∀ n, w n ≠ 0) : Host.divf (rc v) (rc w) = rc fun n => v n / w n := by
  funext i; idx_vars i; pointwise [rc]; rw [Ideal.div_coe (h _), ← EReal.coe_mul, mul_one_div]
theorem cst_rr (w : BitVec 32) (x : ℝ) (h : Ideal.ofBits .f32 w = ((x : ℝ) : EReal)) :
    broadcastInDim S4096x512 ![] bcast_S_S4096x512 (constant (F := Ideal) S_ .f32 w) = rr fun _ _ => x := by
  funext i; idx_vars i; pointwise [rr]; exact h
theorem cst_rc (w : BitVec 32) (x : ℝ) (h : Ideal.ofBits .f32 w = ((x : ℝ) : EReal)) :
    broadcastInDim S4096x1 ![] bcast_S_S4096x1 (constant (F := Ideal) S_ .f32 w) = rc fun _ => x := by
  funext i; idx_vars i; pointwise [rc]; exact h
theorem wide_rc (v : Fin 4096 → ℝ) : broadcastInDim S4096x512 ![0, 1] bcast_S4096x1_S4096x512_0_1 (rc v) = rr fun n _ => v n := by
  funext i; idx_vars i; pointwise [rr, rc]
/-- A row's sum, kept as a column. -/
theorem row_sum (f : Fin 4096 → Fin 512 → ℝ) :
    broadcastInDim S4096x1 ![0] bcast_S4096_S4096x1_0
      (Host.reduceAdd (rr f) (constant (F := Ideal) S_ .f32 0x00000000#32) reducesTo_S4096x512_S4096_d1 h_S_) = rc fun n => ∑ l, f n l := by
  funext i; idx_vars i; pointwise [rr, rc]; exact coe_sum _

theorem v0 : val_main_v0 (F := Ideal) (a0 A) = rr A.zu := by
  funext i; idx_vars i; pointwise [val_main_v0, a0, rr]; rfl
theorem v1 : val_main_v1 (F := Ideal) (a0 A) = rr A.zv := by
  funext i; idx_vars i; pointwise [val_main_v1, a0, rr]; rfl

theorem v6 : val_main_v6 (F := Ideal) (a0 A) = rr fun n l => 3 * (A.zu n l * A.zu n l) := by
  unfold val_main_v6 val_main_v5 val_main_v4 val_main_cst
  rw [v0, mulf_rr, cst_rr _ _ three_word, mulf_rr]

theorem v11 : val_main_v11 (F := Ideal) (a0 A) = rr fun n l => A.zu n l + 8943 / 200000 * (A.zu n l * A.zu n l * A.zu n l) := by
  unfold val_main_v11 val_main_v10 val_main_v9 val_main_v8 val_main_v7 val_main_v3 val_main_v2 val_main_cst_0 val_main_cst_1
  rw [v0, mulf_rr, mulf_rr, cst_rr _ _ num_word, cst_rr _ _ den_word, mulf_rr, divf_rr _ _ (fun _ _ => by norm_num), addf_rr]
  congr 1; funext n l; ring

theorem v14 : val_main_v14 (F := Ideal) (a0 A) = rr fun n l => Math.tanhOf (A.zu n l) := by
  unfold val_main_v14 val_main_v13 val_main_v12 val_main_cst_2
  rw [v11, cst_rr _ _ rootTwoOverPi_word, mulf_rr]
  funext i; idx_vars i; pointwise [rr]; rw [Ideal.tanh_coe]; rfl

theorem v19 : val_main_v19 (F := Ideal) (a0 A) = rr fun n l => (1 + Math.tanhOf (A.zu n l)) * (1 - Math.tanhOf (A.zu n l)) := by
  unfold val_main_v19 val_main_v18 val_main_v16 val_main_v15 val_main_v17 val_main_cst_3 val_main_cst_4
  rw [v14, cst_rr _ _ one_word, addf_rr, subf_rr, mulf_rr]

theorem v23 : val_main_v23 (F := Ideal) (a0 A) = rr fun n l => 1 / 2 * (1 + Math.tanhOf (A.zu n l)) := by
  unfold val_main_v23 val_main_v21 val_main_v20 val_main_v22 val_main_cst_5 val_main_cst_6
  rw [v14, cst_rr _ _ one_word, cst_rr _ _ half_word, addf_rr, mulf_rr]

theorem v24 : val_main_v24 (F := Ideal) (a0 A) = rr fun n l => Math.gelu (A.zu n l) := by
  unfold val_main_v24
  rw [v0, v23, mulf_rr]
  congr 1; funext n l; simp only [Math.gelu]; ring

theorem v29 : val_main_v29 (F := Ideal) (a0 A) = rr fun n l => 3 * (A.zv n l * A.zv n l) := by
  unfold val_main_v29 val_main_v28 val_main_v27 val_main_cst_7
  rw [v1, mulf_rr, cst_rr _ _ three_word, mulf_rr]

theorem v34 : val_main_v34 (F := Ideal) (a0 A) = rr fun n l => A.zv n l + 8943 / 200000 * (A.zv n l * A.zv n l * A.zv n l) := by
  unfold val_main_v34 val_main_v33 val_main_v32 val_main_v31 val_main_v30 val_main_v26 val_main_v25 val_main_cst_8 val_main_cst_9
  rw [v1, mulf_rr, mulf_rr, cst_rr _ _ num_word, cst_rr _ _ den_word, mulf_rr, divf_rr _ _ (fun _ _ => by norm_num), addf_rr]
  congr 1; funext n l; ring

theorem v37 : val_main_v37 (F := Ideal) (a0 A) = rr fun n l => Math.tanhOf (A.zv n l) := by
  unfold val_main_v37 val_main_v36 val_main_v35 val_main_cst_10
  rw [v34, cst_rr _ _ rootTwoOverPi_word, mulf_rr]
  funext i; idx_vars i; pointwise [rr]; rw [Ideal.tanh_coe]; rfl

theorem v42 : val_main_v42 (F := Ideal) (a0 A) = rr fun n l => (1 + Math.tanhOf (A.zv n l)) * (1 - Math.tanhOf (A.zv n l)) := by
  unfold val_main_v42 val_main_v41 val_main_v39 val_main_v38 val_main_v40 val_main_cst_11 val_main_cst_12
  rw [v37, cst_rr _ _ one_word, addf_rr, subf_rr, mulf_rr]

theorem v46 : val_main_v46 (F := Ideal) (a0 A) = rr fun n l => 1 / 2 * (1 + Math.tanhOf (A.zv n l)) := by
  unfold val_main_v46 val_main_v44 val_main_v43 val_main_v45 val_main_cst_13 val_main_cst_14
  rw [v37, cst_rr _ _ one_word, cst_rr _ _ half_word, addf_rr, mulf_rr]

theorem v47 : val_main_v47 (F := Ideal) (a0 A) = rr fun n l => Math.gelu (A.zv n l) := by
  unfold val_main_v47
  rw [v1, v46, mulf_rr]
  congr 1; funext n l; simp only [Math.gelu]; ring

theorem v51 : val_main_v51 (F := Ideal) (a0 A) = rc fun n => Math.mean fun l => Math.gelu (A.zv n l) := by
  unfold val_main_v51 val_main_v50 val_main_v49 val_main_v48 val_main_cst_15 val_main_cst_16
  rw [v47, row_sum, cst_rc _ _ width_word, divf_rc _ _ (fun _ => by norm_num)]
  congr 1; funext n; simp only [Math.mean]; ring

theorem v53 : val_main_v53 (F := Ideal) (a0 A) = rr fun n l => Math.centred (A.zv n) l := by
  unfold val_main_v53 val_main_v52
  rw [v47, v51, wide_rc, subf_rr]
  rfl

theorem v62 : val_main_v62 (F := Ideal) (a0 A) = rr fun n l => Math.centred (A.zv n) l := by
  unfold val_main_v62 val_main_v61
  rw [v47, v51, wide_rc, subf_rr]
  rfl

theorem v56 : val_main_v56 (F := Ideal) (a0 A) = rr fun n l => 2 * Math.centred (A.zv n) l := by
  unfold val_main_v56 val_main_v55 val_main_cst_17
  rw [v53, cst_rr _ _ two_word, mulf_rr]

theorem v64 : val_main_v64 (F := Ideal) (a0 A) = rc fun n => Math.var (A.zv n) := by
  unfold val_main_v64 val_main_v63 val_main_v60 val_main_v59 val_main_v58 val_main_v57 val_main_v54 val_main_cst_18 val_main_cst_19 val_main_cst_20
  rw [v53, mulf_rr, row_sum, cst_rc _ _ width_word, cst_rc _ _ eps_word, divf_rc _ _ (fun _ => by norm_num), addf_rc]
  congr 1; funext n; simp only [Math.var, Math.mean, Math.eps]; ring

theorem v65 : val_main_v65 (F := Ideal) (a0 A) = rc fun n => Math.rstd (A.zv n) := by
  unfold val_main_v65
  rw [v64]
  funext i; idx_vars i; pointwise [rc]; rw [Ideal.rsqrt_coe, if_neg (Math.var_pos _).le.not_gt, if_neg (Math.var_pos _).ne']; rfl

theorem v68 : val_main_v68 (F := Ideal) (a0 A) = rc fun n => -(1 / 2) * (Math.rstd (A.zv n) / Math.var (A.zv n)) := by
  unfold val_main_v68 val_main_v67 val_main_v66 val_main_cst_21
  rw [v65, v64, divf_rc _ _ (fun n => (Math.var_pos _).ne'), cst_rc _ _ negHalf_word, mulf_rc]

theorem v70 : val_main_v70 (F := Ideal) (a0 A) = rr fun n l => Math.xhat (A.zv n) l := by
  unfold val_main_v70 val_main_v69
  rw [v62, v65, wide_rc, mulf_rr]
  rfl

theorem wide_a2 : broadcastInDim S4096x512 ![0, 1] bcast_S1x512_S4096x512_0_1 (a2 A) = rr fun _ l => A.g l := by
  funext i; idx_vars i; pointwise [rr, a2]
theorem wide_a3 : broadcastInDim S4096x512 ![0, 1] bcast_S1x512_S4096x512_0_1 (a3 A) = rr fun _ l => A.b l := by
  funext i; idx_vars i; pointwise [rr, a3]

theorem v74 : val_main_v74 (F := Ideal) (a0 A) (a2 A) (a3 A) = rr fun n l => Math.normed (A.zv n) A.g A.b l := by
  unfold val_main_v74 val_main_v73 val_main_v72 val_main_v71
  rw [v70, wide_a2, wide_a3, mulf_rr, addf_rr]
  rfl

/-- Arrays of reals by chunk, place, head and lane, and by head, chunk, lane and place. -/
def r4 (f : Fin 32 → Fin 128 → Fin 8 → Fin 64 → ℝ) : FVec Ideal S32x128x8x64 .f32 := fun i => ((f (i 0) (i 1) (i 2) (i 3) : ℝ) : EReal)
def rt (f : Fin 8 → Fin 32 → Fin 64 → Fin 128 → ℝ) : FVec Ideal S8x32x64x128 .f32 := fun i => ((f (i 0) (i 1) (i 2) (i 3) : ℝ) : EReal)
def r3 (f : Fin 8 → Fin 128 → Fin 128 → ℝ) : FVec Ideal S8x128x128 .f32 := fun i => ((f (i 0) (i 1) (i 2) : ℝ) : EReal)

/-- A head's lane. -/
def lane (h : Fin 8) (j : Fin 64) : Fin 512 := ⟨h.val * 64 + j.val, by omega⟩
/-- A lane's place in its head. -/
def sub (l : Fin 512) : Fin 64 := ⟨l.val % 64, by omega⟩

theorem split (f : Fin 4096 → Fin 512 → ℝ) :
    shapeCast S32x128x8x64 (rr f) shapeCasts_S4096x512_S32x128x8x64 = r4 fun q r h j => f (tok q r) (lane h j) := by
  funext i; idx_vars i; pointwise [rr, r4]; rfl
theorem joined (f : Fin 32 → Fin 128 → Fin 8 → Fin 64 → ℝ) :
    shapeCast S4096x512 (r4 f) shapeCasts_S32x128x8x64_S4096x512 = rr fun n l => f (chunk n) (place n) (head l) (sub l) := by
  funext i; idx_vars i; pointwise [rr, r4]; rfl
theorem turn (f : Fin 8 → Fin 32 → Fin 64 → Fin 128 → ℝ) :
    transpose S32x128x8x64 [1, 3, 0, 2] (rt f) transposes_S8x32x64x128_S32x128x8x64_1_3_0_2 = r4 fun q r h j => f h q j r := by
  funext i; idx_vars i; pointwise [rt, r4]
theorem turned (f : Fin 32 → Fin 128 → Fin 8 → Fin 64 → ℝ) :
    transpose S8x32x64x128 [2, 0, 3, 1] (r4 f) transposes_S32x128x8x64_S8x32x64x128_2_0_3_1 = rt fun h q j r => f q r h j := by
  funext i; idx_vars i; pointwise [rt, r4]
theorem dot80 (x : Fin 32 → Fin 128 → Fin 8 → Fin 64 → ℝ) (w : Fin 8 → Fin 128 → Fin 128 → ℝ) :
    Host.dotGeneral dot_S32x128x8x64_S8x128x128_S8x32x64x128_1_2_03_1_2_0 none (r4 x) (r3 w) = rt fun h q j r => ∑ k, x q k h j * w h r k := by
  funext i; idx_vars i; pointwise [rt, r4, r3]
  simp only [← EReal.coe_mul, coe_sum]
theorem dot99 (x : Fin 8 → Fin 32 → Fin 64 → Fin 128 → ℝ) (y : Fin 32 → Fin 128 → Fin 8 → Fin 64 → ℝ) :
    Host.dotGeneral dot_S8x32x64x128_S32x128x8x64_S8x128x128_12_03_3_1_0_2 none (rt x) (r4 y) = r3 fun h r k => ∑ q, ∑ j, x h q j r * y q k h j := by
  funext i; idx_vars i; pointwise [rt, r4, r3]
  simp only [← EReal.coe_mul, coe_sum]
theorem dot100 (x : Fin 8 → Fin 32 → Fin 64 → Fin 128 → ℝ) (w : Fin 8 → Fin 128 → Fin 128 → ℝ) :
    Host.dotGeneral dot_S8x32x64x128_S8x128x128_S8x32x64x128_3_1_12_2_0_0 none (rt x) (r3 w) = rt fun h q j k => ∑ r, x h q j r * w h r k := by
  funext i; idx_vars i; pointwise [rt, r3]
  simp only [← EReal.coe_mul, coe_sum]
theorem addf_r4 (x y : Fin 32 → Fin 128 → Fin 8 → Fin 64 → ℝ) : addf (r4 x) (r4 y) = r4 fun q r h j => x q r h j + y q r h j := by
  funext i; idx_vars i; pointwise [r4]; exact (EReal.coe_add _ _).symm

theorem below : ∀ r k : Fin 128, Scalar.select (IntOp.cmpi .sge (IntOp.addi (BitVec.ofNat 32 r.val) 0#32) (BitVec.ofNat 32 k.val)) 1#1 0#1 =
    BitVec.ofBool (decide (k ≤ r)) := by decide +kernel

theorem mask_at (h : Fin 8) (r k : Fin 128) : val_main_v79_1 (F := Ideal) (ix3 h r k) = BitVec.ofBool (decide (k ≤ r)) := by
  unfold val_main_v79_1 val_main_v78 val_main_v77 val_main_v76
  pointwise [val_main_call0_v4, val_main_call0_v2, val_main_call0_v3, val_main_call0_v1, val_main_call0_v0, val_main_call0_c, val_main_c,
    val_main_call0_v5, val_main_call0_c_0]
  exact below r k

theorem v79_0 : val_main_v79_0 (F := Ideal) (a4 A) = r3 A.wm := by
  funext i; idx_vars i
  unfold val_main_v79_0 val_main_call1_v2
  pointwise [val_main_call1_v0, val_main_cst_22, a4, r3]
  rw [mask_at]
  by_cases e : i2 ≤ i1
  · simp [Scalar.select, e, Math.Args.wm]
  · simp [Scalar.select, e, Math.Args.wm]
    exact zero_word.trans EReal.coe_zero
theorem v85 : val_main_v85 (F := Ideal) (a5 A) = r4 fun _ r h _ => A.B h r := by
  funext i; idx_vars i; pointwise [r4, val_main_v85, val_main_v84, val_main_v83, val_main_v82, a5]

theorem drop_sum (f : Fin 32 → Fin 128 → Fin 8 → Fin 64 → ℝ) (r : Fin 128) (h : Fin 8) :
    (Host.reduceAdd (r4 f) (constant (F := Ideal) S_ .f32 0x00000000#32) reducesTo_S32x128x8x64_S128x8_d0_3 h_S_ : FVec Ideal S128x8 .f32) (ix2 r h)
      = ((∑ q, ∑ j, f q r h j : ℝ) : EReal) := by
  pointwise
  simp only [Host.reduceAdd, Ideal.hostReduceAdd_def, Ideal.hostReduceAdd]
  rw [zero_add]
  simp only [← coe_sum]
  rw [← Finset.sum_product']
  refine Finset.sum_nbij' (fun i => (i 0, i 3)) (fun p => ix4 p.1 r h p.2) ?_ ?_ ?_ ?_ ?_
  · intro i _; exact Finset.mem_product.mpr ⟨Finset.mem_univ _, Finset.mem_univ _⟩
  · intro p _; refine Finset.mem_filter.mpr ⟨Finset.mem_univ _, ?_⟩
    funext a; fin_cases a <;> rfl
  · intro i hi
    have hi := (Finset.mem_filter.mp hi).2
    funext a; fin_cases a
    · rfl
    · exact (congrFun hi 0).symm
    · exact (congrFun hi 1).symm
    · rfl
  · intro p _; rfl
  · intro i hi
    have hi := (Finset.mem_filter.mp hi).2
    have h1 : i 1 = r := congrFun hi 0
    have h2 : i 2 = h := congrFun hi 1
    simp only [r4, h1, h2]

/-- Arrays by place and head, bare and with axes of size one. -/
def r2 (f : Fin 128 → Fin 8 → ℝ) : FVec Ideal S128x8 .f32 := fun i => ((f (i 0) (i 1) : ℝ) : EReal)

def r5 (f : Fin 128 → Fin 8 → ℝ) : FVec Ideal S1x128x8x1 .f32 := fun i => ((f (i 1) (i 2) : ℝ) : EReal)

theorem drop_sum' (f : Fin 128 → Fin 8 → ℝ) :
    Host.reduceAdd (r5 f) (constant (F := Ideal) S_ .f32 0x00000000#32)
      reducesTo_S1x128x8x1_S128x8_d0_3 h_S_ = r2 f := by
  funext i; idx_vars i
  pointwise [r2]
  simp only [Host.reduceAdd, Ideal.hostReduceAdd_def, Ideal.hostReduceAdd]
  rw [zero_add]
  refine (Finset.sum_eq_single_of_mem (ix4 (0 : Fin 1) i0 i1 (0 : Fin 1)) (Finset.mem_filter.mpr ⟨Finset.mem_univ _, ?_⟩) ?_).trans rfl
  · funext a; fin_cases a <;> rfl
  · intro x hx hne
    have hx := (Finset.mem_filter.mp hx).2
    refine absurd ?_ hne
    funext a; fin_cases a
    · exact Subsingleton.elim (α := Fin 1) _ _
    · exact congrFun hx 0
    · exact congrFun hx 1
    · exact Subsingleton.elim (α := Fin 1) _ _

theorem drop_all (f : Fin 32 → Fin 128 → Fin 8 → Fin 64 → ℝ) :
    Host.reduceAdd (r4 f) (constant (F := Ideal) S_ .f32 0x00000000#32) reducesTo_S32x128x8x64_S128x8_d0_3 h_S_ = r2 fun r h => ∑ q, ∑ j, f q r h j := by
  funext i; idx_vars i; exact drop_sum f i0 i1

theorem pad (f : Fin 128 → Fin 8 → ℝ) :
    shapeCast S1x128x8x1 (r2 f) shapeCasts_S128x8_S1x128x8x1 = (r5 f) := by
  funext i; idx_vars i; pointwise [r2, r5]

theorem wide_one (f : Fin 128 → Fin 8 → ℝ) :
    Host.reduceAdd (broadcastInDim S128x8x1 ![0, 1] bcast_S128x8_S128x8x1_0_1 (r2 f)) (constant (F := Ideal) S_ .f32 0x00000000#32) reducesTo_S128x8x1_S128x8_d2 h_S_ = r2 f := by
  funext i; idx_vars i; pointwise [r2]; exact Fin.sum_univ_one _

theorem row_sum' (f : Fin 4096 → Fin 512 → ℝ) :
    shapeCast S4096x1 (Host.reduceAdd (rr f) (constant (F := Ideal) S_ .f32 0x00000000#32) reducesTo_S4096x512_S4096_d1 h_S_) shapeCasts_S4096_S4096x1
      = rc fun n => ∑ l, f n l := by
  funext i; idx_vars i; pointwise [rr, rc]; exact coe_sum _

theorem one_col (f : Fin 4096 → ℝ) :
    Host.reduceAdd (rc f) (constant (F := Ideal) S_ .f32 0x00000000#32) reducesTo_S4096x1_S4096_d1 h_S_ = r1 f := by
  funext i; idx_vars i; pointwise [r1, rc]; exact Fin.sum_univ_one _

theorem wide_r1 (f : Fin 4096 → ℝ) :
    broadcastInDim S4096x512 ![0] bcast_S4096_S4096x512_0 (r1 f) = rr fun n _ => f n := by
  funext i; idx_vars i; pointwise [r1, rr]

theorem col_sum (f : Fin 4096 → Fin 512 → ℝ) :
    shapeCast S1x512 (Host.reduceAdd (rr f) (constant (F := Ideal) S_ .f32 0x00000000#32) reducesTo_S4096x512_S512_d0 h_S_) shapeCasts_S512_S1x512
      = (fun i => ((∑ n, f n (i 1) : ℝ) : EReal) : FVec Ideal S1x512 .f32) := by
  funext i; idx_vars i; pointwise [rr]; exact coe_sum _

theorem lane_head (l : Fin 512) : lane (head l) (sub l) = l := by
  ext; simp only [lane, head, sub]; omega

theorem v75 : val_main_v75 (F := Ideal) (a0 A) (a2 A) (a3 A) = r4 fun q r h j => Math.normed (A.zv (tok q r)) A.g A.b (lane h j) := by
  unfold val_main_v75
  rw [v74, split]

theorem v87 : val_main_v87 (F := Ideal) (a0 A) (a2 A) (a3 A) (a4 A) (a5 A) = rr A.gate := by
  unfold val_main_v87 val_main_v86 val_main_v81 val_main_v80
  rw [v75, v79_0, dot80, turn, v85, addf_r4, joined]
  congr 1; funext n l; simp only [lane_head, Math.Args.gate]; congr 1; exact Finset.sum_congr rfl fun _ _ => mul_comm _ _

theorem v89 : val_main_v89 (F := Ideal) (a0 A) (a1 A) = rr A.ds := by
  unfold val_main_v89
  rw [v24, show a1 A = rr A.D from rfl, mulf_rr]
  congr 1; funext n l; simp only [Math.Args.ds]; ring

theorem v90 : val_main_v90 (F := Ideal) (a0 A) (a1 A) (a2 A) (a3 A) (a4 A) (a5 A) = rr fun n l => A.D n l * A.gate n l := by
  unfold val_main_v90
  rw [v87, show a1 A = rr A.D from rfl, mulf_rr]

theorem v91 : val_main_v91 (F := Ideal) (a0 A) (a1 A) = r4 fun q r h j => A.ds (tok q r) (lane h j) := by
  unfold val_main_v91
  rw [v89, split]

theorem v97 : val_main_v97 (F := Ideal) (a0 A) (a1 A) = fun i => ((A.dbs (i 0) (i 1) : ℝ) : EReal) := by
  unfold val_main_v97 val_main_v96 val_main_v95 val_main_v94 val_main_v93 val_main_v92 val_main_cst_23 val_main_cst_24 val_main_cst_25
  rw [v91, drop_all, pad, drop_sum', wide_one]
  funext i; idx_vars i; pointwise [r2]; rfl

theorem v98 : val_main_v98 (F := Ideal) (a0 A) (a1 A) = rt fun h q j r => A.ds (tok q r) (lane h j) := by
  unfold val_main_v98
  rw [v91, turned]

theorem v102 : val_main_v102 (F := Ideal) (a0 A) (a1 A) (a2 A) (a3 A) = fun i => ((A.dws (i 0) (i 1) (i 2) : ℝ) : EReal) := by
  unfold val_main_v102 val_main_v99
  rw [v98, v75, dot99]
  funext i; idx_vars i; pointwise [r3, val_main_call2_v0, val_main_call2_cst]
  rw [mask_at]
  by_cases e : i2 ≤ i1
  · simp [Scalar.select, e, Math.Args.dws, lane]
  · simp [Scalar.select, e, Math.Args.dws]

theorem v103 : val_main_v103 (F := Ideal) (a0 A) (a1 A) (a4 A) = rr A.dvn := by
  unfold val_main_v103 val_main_v101 val_main_v100
  rw [v98, v79_0, dot100, turn, joined]
  congr 1; funext n l; simp only [lane_head, Math.Args.dvn]; exact Finset.sum_congr rfl fun _ _ => mul_comm _ _

theorem v105 : val_main_v105 (F := Ideal) (a0 A) (a1 A) (a4 A) = fun i => ((A.db (i 1) : ℝ) : EReal) := by
  unfold val_main_v105 val_main_v104 val_main_cst_26
  rw [v103, col_sum]; rfl

theorem v108 : val_main_v108 (F := Ideal) (a0 A) (a1 A) (a4 A) = fun i => ((A.dg (i 1) : ℝ) : EReal) := by
  unfold val_main_v108 val_main_v107 val_main_v106 val_main_cst_27
  rw [v103, v70, mulf_rr, col_sum]
  funext i; simp only [Math.Args.dg]; congr 1; exact Finset.sum_congr rfl fun _ _ => mul_comm _ _

/-- The layer norm's gradient, as the chain rule's operations have it. -/
theorem lnGrad_chain (z g d : Fin 512 → ℝ) (l : Fin 512) :
    d l * g l * Math.rstd z + (∑ j, Math.centred z j * (d j * g j)) * (-(1 / 2) * (Math.rstd z / Math.var z)) / 512 * (2 * Math.centred z l)
      + (-(∑ j, d j * g j * Math.rstd z)
        + -(∑ j, (∑ k, Math.centred z k * (d k * g k)) * (-(1 / 2) * (Math.rstd z / Math.var z)) / 512 * (2 * Math.centred z j))) / 512
      = Math.lnGrad z g d l := by
  have h0 : ∑ j, Math.centred z j = 0 := by
    simp only [Math.centred, Math.mean, Finset.sum_sub_distrib, Finset.sum_const, Finset.card_univ, Fintype.card_fin, nsmul_eq_mul]
    push_cast; ring
  have hv := Math.var_pos z
  have hr : Math.rstd z * Math.rstd z = 1 / Math.var z := by
    rw [Math.rstd, ← mul_inv, Real.mul_self_sqrt hv.le, one_div]
  have hq : Math.rstd z / Math.var z = Math.rstd z * (Math.rstd z * Math.rstd z) := by rw [hr]; ring
  have e1 : ∑ j, (∑ k, Math.centred z k * (d k * g k)) * (-(1 / 2) * (Math.rstd z / Math.var z)) / 512 * (2 * Math.centred z j) = 0 := by
    rw [← Finset.mul_sum, ← Finset.mul_sum, h0]; ring
  have e2 : ∑ j, d j * g j * Math.rstd z = (∑ j, d j * g j) * Math.rstd z := (Finset.sum_mul _ _ _).symm
  have e3 : ∑ j, d j * g j * Math.xhat z j = (∑ j, Math.centred z j * (d j * g j)) * Math.rstd z := by
    rw [Finset.sum_mul]; exact Finset.sum_congr rfl fun j _ => by simp only [Math.xhat]; ring
  rw [e1, e2, hq]
  rw [Math.lnGrad, Math.mean, Math.mean, e3, Math.xhat]
  ring

theorem v110 : val_main_v110 (F := Ideal) (a0 A) (a1 A) (a2 A) (a4 A) = rr fun n l => A.dvn n l * A.g l := by
  unfold val_main_v110 val_main_v109
  rw [v103, wide_a2, mulf_rr]

theorem v115 : val_main_v115 (F := Ideal) (a0 A) (a1 A) (a2 A) (a4 A) = rr fun n l => A.dvn n l * A.g l * Math.rstd (A.zv n) := by
  unfold val_main_v115 val_main_v114
  rw [v110, v65, wide_rc, mulf_rr]

theorem v124 : val_main_v124 (F := Ideal) (a0 A) (a1 A) (a2 A) (a4 A) = rr fun n l =>
    (∑ k, Math.centred (A.zv n) k * (A.dvn n k * A.g k)) * (-(1 / 2) * (Math.rstd (A.zv n) / Math.var (A.zv n))) / 512 * (2 * Math.centred (A.zv n) l) := by
  unfold val_main_v124 val_main_v123 val_main_v122 val_main_v121 val_main_v120 val_main_v116 val_main_v113 val_main_v112 val_main_v111
    val_main_cst_28 val_main_cst_30 val_main_cst_31
  rw [v110, v62, mulf_rr, row_sum', v68, mulf_rc, cst_rc _ _ width_word, divf_rc _ _ (fun _ => by norm_num), one_col, wide_r1, v56, mulf_rr]

theorem v134 : val_main_v134 (F := Ideal) (a0 A) (a1 A) (a2 A) (a4 A) = rr fun n l => Math.lnGrad (A.zv n) A.g (A.dvn n) l := by
  unfold val_main_v134 val_main_v133 val_main_v132 val_main_v131 val_main_v130 val_main_v129 val_main_v128 val_main_v127 val_main_v126 val_main_v125
    val_main_v119 val_main_v118 val_main_v117 val_main_cst_29 val_main_cst_32 val_main_cst_33 val_main_cst_34
  rw [v124, v115]
  simp only [addf_rr, negf_rr, row_sum', addf_rc]
  rw [cst_rc _ _ width_word, divf_rc _ _ (fun _ => by norm_num), one_col, wide_r1, addf_rr]
  congr 1; funext n l
  rw [← lnGrad_chain]
  simp only [Finset.sum_neg_distrib]

/-- Gelu's gradient against an incoming one. -/
theorem v148 : val_main_v148 (F := Ideal) (a0 A) (a1 A) (a2 A) (a4 A) = rr A.dzv := by
  unfold val_main_v148 val_main_v147 val_main_v146 val_main_v145 val_main_v144 val_main_v143 val_main_v142 val_main_v141 val_main_v140 val_main_v139
    val_main_v138 val_main_v137 val_main_v136 val_main_v135 val_main_cst_35 val_main_cst_36 val_main_cst_37 val_main_cst_38
  rw [v134, v1, v46, v42, v29, cst_rr _ _ half_word, cst_rr _ _ rootTwoOverPi_word, cst_rr _ _ num_word, cst_rr _ _ den_word]
  simp only [mulf_rr]
  rw [divf_rr _ _ (fun _ _ => by norm_num)]
  simp only [mulf_rr, addf_rr]
  congr 1; funext n l
  rw [Math.Args.dzv, ← Math.geluGrad_chain]
  simp only [Math.cC]
  ring

theorem v162 : val_main_v162 (F := Ideal) (a0 A) (a1 A) (a2 A) (a3 A) (a4 A) (a5 A) = rr A.dzu := by
  unfold val_main_v162 val_main_v161 val_main_v160 val_main_v159 val_main_v158 val_main_v157 val_main_v156 val_main_v155 val_main_v154 val_main_v153
    val_main_v152 val_main_v151 val_main_v150 val_main_v149 val_main_cst_39 val_main_cst_40 val_main_cst_41 val_main_cst_42
  rw [v90, v0, v23, v19, v6, cst_rr _ _ half_word, cst_rr _ _ rootTwoOverPi_word, cst_rr _ _ num_word, cst_rr _ _ den_word]
  simp only [mulf_rr]
  rw [divf_rr _ _ (fun _ _ => by norm_num)]
  simp only [mulf_rr, addf_rr]
  congr 1; funext n l
  rw [Math.Args.dzu, ← Math.geluGrad_chain]
  simp only [Math.cC]
  ring

/-- The two gradients, as they are returned. -/
theorem v163 : val_main_v163 (F := Ideal) (a0 A) (a1 A) (a2 A) (a3 A) (a4 A) (a5 A) = fun i => ((A.dzu (i 0) (i 1) : ℝ) : EReal) := by
  unfold val_main_v163
  rw [v162]
  funext i; idx_vars i; pointwise [rr]

theorem v164 : val_main_v164 (F := Ideal) (a0 A) (a1 A) (a2 A) (a4 A) = fun i => ((A.dzv (i 0) (i 1) : ℝ) : EReal) := by
  unfold val_main_v164
  rw [v148]
  funext i; idx_vars i; pointwise [rr]

end Cert.ReferenceIdeal.Reals

end
-- ==== Proof.Finite.lean ====
/-
  The precondition says that every entry of every argument is finite, so that the arguments are arrays of reals.
-/
module

public import proofs.«01_k».proof.Defs
public import proofs.«01_k».proof.Proof.Blocks
public import proofs.«01_k».proof.Proof.RefReal
public import Idealize.ShloMosaic.Lib.Pointwise

@[expose] public section

set_option maxRecDepth 16384

noncomputable section

open Idealize.ShloMosaic Idealize.ShloMosaic.TcCoe Idealize.SL.Sem

namespace Cert.Proof

theorem finiteFacts : Cert.Pre_finite.Facts where
  bcast_S_S4096x3584 := by decide
  bcast_S_S4096x512 := by decide
  bcast_S_S1x512 := by decide
  bcast_S_S8x128x128 := by decide
  bcast_S_S8x128 := by decide

/-- A value whose magnitude is below infinity is a real. -/
theorem real_of_lt (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine EReal.coe_toReal hlt.1.ne ?_
  rintro rfl
  simp at hlt

theorem real_at {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    (((x i : EReal).toReal : ℝ) : EReal) = x i :=
  real_of_lt _ (congrFun h i)

/-- The arguments in a memory, as reals. -/
def reals (x0 : FVec Ideal Cert.KernelIdeal.S4096x3584 .f32) (x1 : FVec Ideal Cert.KernelIdeal.S4096x512 .f32) (x2 x3 : FVec Ideal Cert.KernelIdeal.S1x512 .f32)
    (x4 : FVec Ideal Cert.KernelIdeal.S8x128x128 .f32) (x5 : FVec Ideal Cert.KernelIdeal.S8x128 .f32) : Cert.Math.Args where
  P n l := (x0 (ix2 n l) : EReal).toReal
  D n l := (x1 (ix2 n l) : EReal).toReal
  g l := (x2 (ix2 (0 : Fin 1) l) : EReal).toReal
  b l := (x3 (ix2 (0 : Fin 1) l) : EReal).toReal
  W h r k := (x4 (ix3 h r k) : EReal).toReal
  B h r := (x5 (ix2 h r) : EReal).toReal

variable (m : (ℓ : Loc Cert.KernelIdeal.nD Cert.KernelIdeal.τ Cert.KernelIdeal.sig) → Buf (Elt Ideal) ℓ)

/-- Device `c`'s arguments, as reals. -/
def realsOf (c : Dev Cert.KernelIdeal.nD) : Cert.Math.Args :=
  reals (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

theorem holds_of (h : Cert.Pre_KernelIdeal_finite (hPre_finite := finiteFacts) m) (c : Dev Cert.KernelIdeal.nD) :
    Cert.KernelIdeal.Chunk.Holds m c (realsOf m c) := by
  obtain ⟨e0, e1, e2, e3, e4, e5⟩ := h c
  refine ⟨?_, ?_, ?_, ?_, ?_, ?_⟩
  · funext i; idx_vars i; exact (real_at _ _ e0 (ix2 i0 i1)).symm
  · funext i; idx_vars i; exact (real_at _ _ e1 (ix2 i0 i1)).symm
  · funext i; idx_vars i; obtain rfl : i0 = 0 := Subsingleton.elim _ _; exact (real_at _ _ e2 (ix2 (0 : Fin 1) i1)).symm
  · funext i; idx_vars i; obtain rfl : i0 = 0 := Subsingleton.elim _ _; exact (real_at _ _ e3 (ix2 (0 : Fin 1) i1)).symm
  · funext i; idx_vars i; exact (real_at _ _ e4 (ix3 i0 i1 i2)).symm
  · funext i; idx_vars i; exact (real_at _ _ e5 (ix2 i0 i1)).symm

end Cert.Proof

end
-- ==== Proof.HalfRegions.lean ====
/-
  What five of the nine calls of a half-step's backward pass leaves in its arrays, as sums over the arrays it reads.
-/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

/-- The sigmoid as the calls compute it. -/
def sgm (v : EReal) : EReal :=
  Ideal.ofBits .f32 0x3F000000#32 * Ideal.tanh (Ideal.ofBits .f32 0x3F000000#32 * v) + Ideal.ofBits .f32 0x3F000000#32

/-- The projection of the tokens by the first weight: part `s` of block `j`. -/
def hid (X : FVec Ideal S4096x1024 .bf16) (W : FVec Ideal S2x4x1024x704 .bf16) : FVec Ideal S4x2x4096x704 .bf16 :=
  fun i => (∑ k : Fin 1024, (X (ix2 (i 2) k) : EReal) * W (ix4 (i 1) (i 0) k (i 3)) : EReal)

/-- The gated hidden layer. -/
def act (X : FVec Ideal S4096x1024 .bf16) (W : FVec Ideal S2x4x1024x704 .bf16) : FVec Ideal S4x4096x704 .bf16 :=
  fun i => ((hid X W (ix4 (i 0) (0 : Fin 2) (i 1) (i 2)) : EReal) * sgm (hid X W (ix4 (i 0) (0 : Fin 2) (i 1) (i 2)))
    * hid X W (ix4 (i 0) (1 : Fin 2) (i 1) (i 2)) : EReal)

/-- The second weight's gradient. -/
def dOut (A : FVec Ideal S4x4096x704 .bf16) (D : FVec Ideal S4096x1024 .bf16) : FVec Ideal S4x704x1024 .bf16 :=
  fun i => (∑ k : Fin 4096, (A (ix3 (i 0) k (i 1)) : EReal) * D (ix2 k (i 2)) : EReal)

/-- The hidden layer's cotangent after the second product. -/
def dAct (D : FVec Ideal S4096x1024 .bf16) (W : FVec Ideal S4x704x1024 .bf16) (j : Fin 4) (t : Fin 4096) (f : Fin 704) : EReal :=
  ∑ k : Fin 1024, (D (ix2 t k) : EReal) * W (ix3 j f k)

/-- The cotangent of the gate half, from the cotangent `a` and the two halves `g`, `u`. -/
def dGate (a g u : EReal) : EReal := a * sgm g * u * (Ideal.ofBits .f32 0x3F800000#32 + (g - g * sgm g))

/-- The cotangent of the other half. -/
def dUp (a g : EReal) : EReal := a * (g * sgm g)

/-- The projection's cotangent. -/
def dHid (D : FVec Ideal S4096x1024 .bf16) (W : FVec Ideal S4x704x1024 .bf16) (h : FVec Ideal S4x2x4096x704 .bf16) :
    FVec Ideal S4x2x4096x704 .bf16 :=
  fun i => if (i 1).val = 0 then dGate (dAct D W (i 0) (i 2) (i 3)) (h (ix4 (i 0) (0 : Fin 2) (i 2) (i 3))) (h (ix4 (i 0) (1 : Fin 2) (i 2) (i 3)))
    else dUp (dAct D W (i 0) (i 2) (i 3)) (h (ix4 (i 0) (0 : Fin 2) (i 2) (i 3)))

/-- The first weight's gradient. -/
def dIn (X : FVec Ideal S4096x1024 .bf16) (dh : FVec Ideal S4x2x4096x704 .bf16) : FVec Ideal S2x4x1024x704 .bf16 :=
  fun i => (∑ k : Fin 4096, (X (ix2 k (i 2)) : EReal) * dh (ix4 (i 1) (i 0) k (i 3)) : EReal)

/-- One block's share of the tokens' gradient. -/
def dXpart (dh : FVec Ideal S4x2x4096x704 .bf16) (W : FVec Ideal S2x4x1024x704 .bf16) (t : Fin 4096) (d : Fin 1024) (j : Fin 4) (s : Fin 2) : EReal :=
  ∑ k : Fin 704, (dh (ix4 j s t k) : EReal) * W (ix4 s j d k)

variable (V : (c : Dev nD) → (b : Ref sig .tc) → Buf (Elt Ideal) ((c : Thread nD τ).loc b))

theorem idx0 : ∀ t : Fin cfg0.N, win0_0.index t = ![t.val / 4, 0] ∧ win0_1.index t = ![0, t.val % 4, 0, 0] ∧ win0_2.index t = ![1, t.val % 4, 0, 0]
    ∧ win0_3.index t = ![t.val % 4, 0, t.val / 4, 0] ∧ win0_4.index t = ![t.val % 4, t.val / 4, 0] :=
  (by decide +kernel : ∀ t : Fin grid0.N, _)

theorem final0_4 (c : Dev nD) : (dat0 V c).arrAt 4 cfg0.N = act (V c main_v0) (V c main_v6) := by
  refine (dat0 V c).arrAt_eq_of_covers 4 _ (by decide +kernel) fun t _ y => ?_
  blk_simp
  rw [after0_4]; frame_out
  pointwise [k0_pay6, k0_pay1, k0_pay2, k0_pay3, act, hid, sgm]
  blk_point [iblk0, idx0 t]

theorem final0_3 (c : Dev nD) : (dat0 V c).arrAt 3 cfg0.N = hid (V c main_v0) (V c main_v6) := by
  refine (dat0 V c).arrAt_eq_of_covers 3 _ (by decide +kernel) fun t _ y => ?_
  blk_simp
  rw [after0_3]; frame_out
  canon_tiles y h
  case piece0 =>
    pointwise [k0_pay5, k0_pay1, k0_pay3, hid]
    blk_point [iblk0, idx0 t]
  case piece1 =>
    pointwise [k0_pay4, k0_pay1, k0_pay2, hid]
    blk_point [iblk0, idx0 t]

theorem idx5 : ∀ t : Fin cfg5.N, win5_0.index t = ![t.val, 0, 0] ∧ win5_1.index t = ![0, 0] ∧ win5_2.index t = ![t.val, 0, 0] :=
  (by decide +kernel : ∀ t : Fin grid5.N, _)

theorem final5_2 (c : Dev nD) : (dat5 V c).arrAt 2 cfg5.N = dOut (V c main_v8_1) (V c main_v12_1) := by
  refine (dat5 V c).arrAt_eq_of_covers 2 _ (by decide +kernel) fun t _ y => ?_
  blk_simp
  rw [after5_2]; frame_out
  pointwise [k5_pay1, dOut]
  blk_point [iblk5, idx5 t]

theorem idx7 : ∀ t : Fin cfg7.N, win7_0.index t = ![0, 0] ∧ win7_1.index t = ![t.val / 2, t.val % 2, 0, 0] ∧ win7_2.index t = ![t.val % 2, t.val / 2, 0, 0] :=
  (by decide +kernel : ∀ t : Fin grid7.N, _)

theorem final7_2 (c : Dev nD) : (dat7 V c).arrAt 2 cfg7.N = dIn (V c main_v0) (V c main_v14) := by
  refine (dat7 V c).arrAt_eq_of_covers 2 _ (by decide +kernel) fun t _ y => ?_
  blk_simp
  rw [after7_2]; frame_out
  pointwise [k7_pay1, dIn]
  blk_point [iblk7, idx7 t]

end Cert.Kernel2Ideal.Half

end
-- ==== Proof.HalfHidden.lean ====
/-
  The last two calls of a half-step's backward pass: the projection's cotangent and the tokens' gradient.
-/
module

public import proofs.«01_k».proof.Proof.HalfRegions
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

theorem dHid_gate (D : FVec Ideal S4096x1024 .bf16) (W : FVec Ideal S4x704x1024 .bf16) (h : FVec Ideal S4x2x4096x704 .bf16)
    (i : S4x2x4096x704.Idx) (e : (i 1).val = 0) :
    dHid D W h i = dGate (dAct D W (i 0) (i 2) (i 3)) (h (ix4 (i 0) (0 : Fin 2) (i 2) (i 3))) (h (ix4 (i 0) (1 : Fin 2) (i 2) (i 3))) := if_pos e

theorem dHid_up (D : FVec Ideal S4096x1024 .bf16) (W : FVec Ideal S4x704x1024 .bf16) (h : FVec Ideal S4x2x4096x704 .bf16)
    (i : S4x2x4096x704.Idx) (e : ¬ (i 1).val = 0) :
    dHid D W h i = dUp (dAct D W (i 0) (i 2) (i 3)) (h (ix4 (i 0) (0 : Fin 2) (i 2) (i 3))) := if_neg e

variable (V : (c : Dev nD) → (b : Ref sig .tc) → Buf (Elt Ideal) ((c : Thread nD τ).loc b))

theorem idx6 : ∀ t : Fin cfg6.N, win6_0.index t = ![t.val / 4, 0] ∧ win6_1.index t = ![t.val % 4, 0, 0]
    ∧ win6_2.index t = ![t.val % 4, 0, t.val / 4, 0] ∧ win6_3.index t = ![t.val % 4, 0, t.val / 4, 0] :=
  (by decide +kernel : ∀ t : Fin grid6.N, _)

theorem final6_3 (c : Dev nD) : (dat6 V c).arrAt 3 cfg6.N = dHid (V c main_v12_1) (V c main_v7) (V c main_v8_0) := by
  refine (dat6 V c).arrAt_eq_of_covers 3 _ (by decide +kernel) fun t _ y => ?_
  blk_simp
  rw [after6_3]; frame_out
  canon_tiles y h
  case piece0 =>
    refine Eq.trans ?_ (dHid_up _ _ _ _ ?_).symm
    · pointwise [k6_pay1, k6_pay7, k6_pay2, k6_pay5, k6_pay4, k6_pay3, dUp, sgm, dAct]
      blk_point [iblk6, idx6 t]
    · blk_simp [idx6 t]
      omega
  case piece1 =>
    refine Eq.trans ?_ (dHid_gate _ _ _ _ ?_).symm
    · pointwise [k6_pay6, k6_pay2, k6_pay5, k6_pay4, k6_pay3, dGate, sgm, dAct]
      blk_point [iblk6, idx6 t]
    · blk_simp [idx6 t]
      omega

/-- The tokens' gradient: the eight blocks' shares, and the cotangent that goes round the half-step. -/
def dX (dh : FVec Ideal S4x2x4096x704 .bf16) (W : FVec Ideal S2x4x1024x704 .bf16) (r : FVec Ideal S4096x1024 .f32) : FVec Ideal S4096x1024 .f32 :=
  fun i => ((((((((dXpart dh W (i 0) (i 1) 0 0 + dXpart dh W (i 0) (i 1) 0 1) + dXpart dh W (i 0) (i 1) 1 0) + dXpart dh W (i 0) (i 1) 1 1)
    + dXpart dh W (i 0) (i 1) 2 0) + dXpart dh W (i 0) (i 1) 2 1) + dXpart dh W (i 0) (i 1) 3 0) + dXpart dh W (i 0) (i 1) 3 1)
    + Ideal.ofBits .f32 0x3F9837F0#32 * r i : EReal)

theorem idx8 : ∀ t : Fin cfg8.N, win8_0.index t = ![0, 0, t.val, 0] ∧ win8_1.index t = ![0, 0, 0, 0] ∧ win8_2.index t = ![t.val, 0]
    ∧ win8_3.index t = ![t.val, 0] :=
  (by decide +kernel : ∀ t : Fin grid8.N, _)

theorem final8_3 (c : Dev nD) : (dat8 V c).arrAt 3 cfg8.N = dX (V c main_v14) (V c main_v6) (V c main_v12_0) := by
  refine (dat8 V c).arrAt_eq_of_covers 3 _ (by decide +kernel) fun t _ y => ?_
  blk_simp
  rw [after8_3]; frame_out
  pointwise [k8_pay1, k8_pay2, k8_pay3, dX, dXpart]
  blk_point [iblk8, idx8 t]

end Cert.Kernel2Ideal.Half

end
-- ==== Proof.HalfNorm.lean ====
/-
  The layer norm of one row of 1024 lanes and its gradient, over the extended reals: the gradient as the calls compute it,
  the gradient that the chain rule gives operation by operation, and their equality on rows of real numbers.
-/
module

public import proofs.«01_k».proof.Proof.Consts

@[expose] public section

noncomputable section

namespace Cert.Norm

open Idealize.ShloMosaic Cert.Consts

/-- The row's length, as the programs spell it. -/
def width : EReal := Ideal.ofBits .f32 0x44800000#32

def mean (r : Fin 1024 → EReal) : EReal := Ideal.div (∑ l, r l) width
def cen (r : Fin 1024 → EReal) (l : Fin 1024) : EReal := r l - mean r
def vr (r : Fin 1024 → EReal) : EReal := mean (fun l => cen r l * cen r l) + Ideal.ofBits .f32 0x3727C5AC#32
def rs (r : Fin 1024 → EReal) : EReal := Ideal.rsqrt (vr r)
def xh (r : Fin 1024 → EReal) (l : Fin 1024) : EReal := cen r l * rs r

/-- The gradient in the row, of an incoming gradient `d` of the normalised row, as the calls compute it. -/
def grad (r d : Fin 1024 → EReal) (l : Fin 1024) : EReal :=
  rs r * ((d l - mean d) - xh r l * mean fun j => d j * xh r j)

/-- The variance's share of the chain rule's gradient. -/
def spread (r d : Fin 1024 → EReal) (l : Fin 1024) : EReal :=
  Ideal.div ((∑ k, cen r k * d k) * (Ideal.ofBits .f32 0xBF000000#32 * Ideal.div (rs r) (vr r))) width * (Ideal.ofBits .f32 0x40000000#32 * cen r l)

/-- The gradient as the chain rule gives it. -/
def chain (r d : Fin 1024 → EReal) (l : Fin 1024) : EReal :=
  (d l * rs r + spread r d l) + Ideal.div ((∑ k, -(d k * rs r)) + ∑ k, -spread r d k) width

/-- The same, over the real numbers. -/
def rmean (r : Fin 1024 → ℝ) : ℝ := (∑ l, r l) / 1024
def rcen (r : Fin 1024 → ℝ) (l : Fin 1024) : ℝ := r l - rmean r
def rvr (r : Fin 1024 → ℝ) : ℝ := rmean (fun l => rcen r l * rcen r l) + 2748779 / 274877906944
def rrs (r : Fin 1024 → ℝ) : ℝ := (Real.sqrt (rvr r))⁻¹
def rxh (r : Fin 1024 → ℝ) (l : Fin 1024) : ℝ := rcen r l * rrs r
def rgrad (r d : Fin 1024 → ℝ) (l : Fin 1024) : ℝ := rrs r * ((d l - rmean d) - rxh r l * rmean fun j => d j * rxh r j)
def rspread (r d : Fin 1024 → ℝ) (l : Fin 1024) : ℝ :=
  (∑ k, rcen r k * d k) * (-(1 / 2) * (rrs r / rvr r)) / 1024 * (2 * rcen r l)
def rchain (r d : Fin 1024 → ℝ) (l : Fin 1024) : ℝ :=
  (d l * rrs r + rspread r d l) + ((∑ k, -(d k * rrs r)) + ∑ k, -rspread r d k) / 1024

theorem width_word : width = ((1024 : ℝ) : EReal) := by
  simp [width, Ideal.ofBits, Ideal.ieee, -EReal.coe_mul]; norm_num

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, ← EReal.coe_add]

theorem div_width (a : ℝ) : Ideal.div (a : EReal) width = ((a / 1024 : ℝ) : EReal) := by
  rw [width_word, Ideal.div_coe (by norm_num), ← EReal.coe_mul]
  congr 1; ring

theorem rvr_pos (r : Fin 1024 → ℝ) : 0 < rvr r := by
  have h : 0 ≤ rmean fun l => rcen r l * rcen r l := div_nonneg (Finset.sum_nonneg fun l _ => mul_self_nonneg _) (by norm_num)
  unfold rvr; linarith

section

variable (r d : Fin 1024 → ℝ)

theorem mean_coe : mean (fun l => (r l : EReal)) = (rmean r : EReal) := by
  rw [mean, coe_sum, div_width]; rfl

theorem cen_coe (l : Fin 1024) : cen (fun l => (r l : EReal)) l = (rcen r l : EReal) := by
  rw [cen, mean_coe, ← EReal.coe_sub]; rfl

theorem vr_coe : vr (fun l => (r l : EReal)) = (rvr r : EReal) := by
  simp only [vr, cen_coe, ← EReal.coe_mul]
  rw [mean_coe, eps_word, ← EReal.coe_add]; rfl

theorem rs_coe : rs (fun l => (r l : EReal)) = (rrs r : EReal) := by
  rw [rs, vr_coe, Ideal.rsqrt_coe, if_neg (rvr_pos r).le.not_gt, if_neg (rvr_pos r).ne']; rfl

theorem xh_coe (l : Fin 1024) : xh (fun l => (r l : EReal)) l = (rxh r l : EReal) := by
  rw [xh, cen_coe, rs_coe, ← EReal.coe_mul]; rfl

theorem grad_coe (l : Fin 1024) : grad (fun l => (r l : EReal)) (fun l => (d l : EReal)) l = (rgrad r d l : EReal) := by
  simp only [grad, rs_coe, mean_coe, xh_coe, ← EReal.coe_mul, ← EReal.coe_sub]
  rfl

theorem spread_coe (l : Fin 1024) : spread (fun l => (r l : EReal)) (fun l => (d l : EReal)) l = (rspread r d l : EReal) := by
  simp only [spread, rs_coe, vr_coe, cen_coe, negHalf_word, two_word, ← EReal.coe_mul]
  rw [coe_sum, Ideal.div_coe (rvr_pos r).ne']
  simp only [← EReal.coe_mul, div_width]
  congr 1
  simp only [rspread]
  ring

theorem chain_coe (l : Fin 1024) : chain (fun l => (r l : EReal)) (fun l => (d l : EReal)) l = (rchain r d l : EReal) := by
  simp only [chain, rs_coe, spread_coe, ← EReal.coe_mul, ← EReal.coe_neg, ← EReal.coe_add, coe_sum, div_width]
  rfl

theorem rchain_eq (l : Fin 1024) : rchain r d l = rgrad r d l := by
  have h0 : ∑ j, rcen r j = 0 := by
    simp only [rcen, rmean, Finset.sum_sub_distrib, Finset.sum_const, Finset.card_univ, Fintype.card_fin, nsmul_eq_mul]
    push_cast; ring
  have hv := rvr_pos r
  have hr : rrs r * rrs r = 1 / rvr r := by rw [rrs, ← mul_inv, Real.mul_self_sqrt hv.le, one_div]
  have hq : rrs r / rvr r = rrs r * (rrs r * rrs r) := by rw [hr]; ring
  have e1 : ∑ j, rspread r d j = 0 := by
    simp only [rspread]
    rw [← Finset.mul_sum, ← Finset.mul_sum, h0]; ring
  have e2 : ∑ j, d j * rrs r = (∑ j, d j) * rrs r := (Finset.sum_mul _ _ _).symm
  have e3 : ∑ j, d j * rxh r j = (∑ j, rcen r j * d j) * rrs r := by
    rw [Finset.sum_mul]; exact Finset.sum_congr rfl fun j _ => by simp only [rxh]; ring
  rw [rchain, Finset.sum_neg_distrib, Finset.sum_neg_distrib, e1, e2, rspread, hq, rgrad, rmean, rmean, e3, rxh]
  ring

end

/-- A row of real numbers. -/
def RealRow (r : Fin 1024 → EReal) : Prop := ∀ l, ∃ x : ℝ, r l = (x : EReal)

theorem RealRow.lift {r : Fin 1024 → EReal} (h : RealRow r) : ∃ x : Fin 1024 → ℝ, r = fun l => (x l : EReal) :=
  ⟨fun l => (h l).choose, funext fun l => (h l).choose_spec⟩

/-- On rows of real numbers the chain rule's gradient is the calls'. -/
theorem chain_eq {r d : Fin 1024 → EReal} (hr : RealRow r) (hd : RealRow d) (l : Fin 1024) : chain r d l = grad r d l := by
  obtain ⟨x, rfl⟩ := hr.lift
  obtain ⟨y, rfl⟩ := hd.lift
  rw [chain_coe, grad_coe, rchain_eq]

theorem grad_real {r d : Fin 1024 → EReal} (hr : RealRow r) (hd : RealRow d) : RealRow (grad r d) := fun l => by
  obtain ⟨x, rfl⟩ := hr.lift
  obtain ⟨y, rfl⟩ := hd.lift
  exact ⟨_, grad_coe x y l⟩

end Cert.Norm

end
-- ==== Proof.HalfMix.lean ====
/-
  What the two calls of the mixers' projection leave: the projection, and its weight's gradient.
-/
module

public import proofs.«01_k».proof.Proof.Gen.Kernel2Ideal.Frame
public import Idealize.ShloMosaic.Lib.Pipeline.ValueKit
public import Idealize.ShloMosaic.Lib.Pointwise
public import proofs.«01_k».proof.Proof.HalfNorm

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

/-- The mixers' projection. -/
def proj (X : FVec Ideal S4096x1024 .bf16) (W : FVec Ideal S1024x3584 .bf16) : FVec Ideal S4096x3584 .f32 :=
  fun i => (∑ k : Fin 1024, (X (ix2 (i 0) k) : EReal) * W (ix2 k (i 1)) : EReal)

/-- The gradient of the mixers' weight. -/
def dMix (X : FVec Ideal S4096x1024 .bf16) (P : FVec Ideal S4096x3584 .f32) : FVec Ideal S1024x3584 .bf16 :=
  fun i => (∑ k : Fin 4096, (X (ix2 k (i 0)) : EReal) * P (ix2 k (i 1)) : EReal)

variable (V : (c : Dev nD) → (b : Ref sig .tc) → Buf (Elt Ideal) ((c : Thread nD τ).loc b))

theorem idx2 : ∀ t : Fin cfg2.N, win2_0.index t = ![t.val / 7, 0] ∧ win2_1.index t = ![0, t.val % 7] ∧ win2_2.index t = ![t.val / 7, t.val % 7] :=
  (by decide +kernel : ∀ t : Fin grid2.N, _)

theorem final2_2 (c : Dev nD) : (dat2 V c).arrAt 2 cfg2.N = proj (V c main_v9_2) (V c main_v3) := by
  refine (dat2 V c).arrAt_eq_of_covers 2 _ (by decide +kernel) fun t _ y => ?_
  blk_simp
  rw [after2_2]; frame_out
  pointwise [k2_pay1, proj]
  blk_point [iblk2, idx2 t]

theorem idx3 : ∀ t : Fin cfg3.N, win3_0.index t = ![0, 0] ∧ win3_1.index t = ![0, t.val] ∧ win3_2.index t = ![0, t.val] :=
  (by decide +kernel : ∀ t : Fin grid3.N, _)

theorem final3_2 (c : Dev nD) : (dat3 V c).arrAt 2 cfg3.N = dMix (V c main_v9_2) (V c main_arg6) := by
  refine (dat3 V c).arrAt_eq_of_covers 2 _ (by decide +kernel) fun t _ y => ?_
  blk_simp
  rw [after3_2]; frame_out
  pointwise [k3_pay1, dMix]
  blk_point [iblk3, idx3 t]

end Cert.Kernel2Ideal.Half

end
-- ==== Proof.HalfForward.lean ====
/-
  What the call of the second product leaves: the half-step's sum before its layer norm, and the layer norm of it.
-/
module

public import proofs.«01_k».proof.Proof.Gen.Kernel2Ideal.Frame
public import Idealize.ShloMosaic.Lib.Pipeline.ValueKit
public import Idealize.ShloMosaic.Lib.Pointwise
public import proofs.«01_k».proof.Proof.HalfNorm

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

/-- The half-step's sum before its layer norm. -/
def pre (A : FVec Ideal S4x4096x704 .bf16) (W : FVec Ideal S4x704x1024 .bf16) (x : FVec Ideal S4096x1024 .f32) : FVec Ideal S4096x1024 .f32 :=
  fun i => (Ideal.ofBits .f32 0x3F9837F0#32 * x i + Ideal.ofBits .f32 0x3F000000#32 *
    ((((∑ k : Fin 704, (A (ix3 (0 : Fin 4) (i 0) k) : EReal) * W (ix3 (0 : Fin 4) k (i 1))) + ∑ k : Fin 704, (A (ix3 (1 : Fin 4) (i 0) k) : EReal) * W (ix3 (1 : Fin 4) k (i 1)))
      + ∑ k : Fin 704, (A (ix3 (2 : Fin 4) (i 0) k) : EReal) * W (ix3 (2 : Fin 4) k (i 1))) + ∑ k : Fin 704, (A (ix3 (3 : Fin 4) (i 0) k) : EReal) * W (ix3 (3 : Fin 4) k (i 1))) : EReal)

/-- Row `t` of an array of 4096 rows. -/
def rowOf (r : FVec Ideal S4096x1024 .f32) (t : Fin 4096) : Fin 1024 → EReal := fun l => r (ix2 t l)

/-- The layer norm of every row, with its scale and shift. -/
def normed (r : FVec Ideal S4096x1024 .f32) (g b : FVec Ideal S1x1024 .f32) : FVec Ideal S4096x1024 .bf16 :=
  fun i => (Norm.xh (rowOf r (i 0)) (i 1) * g (ix2 (0 : Fin 1) (i 1)) + b (ix2 (0 : Fin 1) (i 1)) : EReal)

theorem k1_norm (u v w : FVec Ideal S512x1024 .f32) (g b : FVec Ideal S1x1024 .f32) (p : Fin 512) (q : Fin 1024) :
    (k1_pay3 (F := Ideal) u v w g b (ix2 p q) : EReal) =
      Norm.xh (fun l => k1_pay1 (F := Ideal) u v w (ix2 p l)) q * g (ix2 (0 : Fin 1) q) + b (ix2 (0 : Fin 1) q) := by
  unfold k1_pay3 k1_pay2
  generalize k1_pay1 (F := Ideal) u v w = r
  pointwise [Norm.xh, Norm.cen, Norm.rs, Norm.vr, Norm.mean, Norm.width]

variable (V : (c : Dev nD) → (b : Ref sig .tc) → Buf (Elt Ideal) ((c : Thread nD τ).loc b))

theorem idx1 : ∀ t : Fin cfg1.N, win1_0.index t = ![0, t.val, 0] ∧ win1_1.index t = ![0, 0, 0] ∧ win1_2.index t = ![t.val, 0]
    ∧ win1_3.index t = ![0, 0] ∧ win1_4.index t = ![0, 0] ∧ win1_5.index t = ![t.val, 0] ∧ win1_7.index t = ![t.val, 0] :=
  (by decide +kernel : ∀ t : Fin grid1.N, _)

theorem final1_5 (c : Dev nD) : (dat1 V c).arrAt 5 cfg1.N = pre (V c main_v8_1) (V c main_v7) (V c main_arg0) := by
  refine (dat1 V c).arrAt_eq_of_covers 5 _ (by decide +kernel) fun t _ y => ?_
  blk_simp
  rw [after1_5]; frame_out
  pointwise [k1_pay1, k1_pay7, k1_pay8, k1_pay9, k1_pay4, k1_pay5, k1_pay6, pre]
  blk_point [iblk1, idx1 t]

/-- Row `p` of the block of grid point `t`. -/
def rowAt (t : Fin 8) (p : Fin 512) : Fin 4096 := ⟨t.val * 512 + p.val, by omega⟩

theorem pre_at (c : Dev nD) (t : Fin cfg1.N) (p : Fin 512) (q : Fin 1024) :
    (k1_pay1 (k1_pay7 (iblk1 V c 0 t) (iblk1 V c 1 t) (iblk1 V c 2 t) (iblk1 V c 3 t) (iblk1 V c 4 t))
      (k1_pay8 (iblk1 V c 0 t) (iblk1 V c 1 t) (iblk1 V c 2 t) (iblk1 V c 3 t) (iblk1 V c 4 t))
      (k1_pay9 (iblk1 V c 0 t) (iblk1 V c 1 t) (iblk1 V c 2 t) (iblk1 V c 3 t) (iblk1 V c 4 t)) (ix2 p q) : EReal) =
      pre (V c main_v8_1) (V c main_v7) (V c main_arg0) (ix2 (rowAt t p) q) := by
  pointwise [k1_pay1, k1_pay7, k1_pay8, k1_pay9, k1_pay4, k1_pay5, k1_pay6, pre, rowAt]
  blk_point [iblk1, idx1 t]

theorem final1_7 (c : Dev nD) : (dat1 V c).arrAt 7 cfg1.N =
    normed (pre (V c main_v8_1) (V c main_v7) (V c main_arg0)) (V c main_arg3) (V c main_arg4) := by
  refine (dat1 V c).arrAt_eq_of_covers 7 _ (by decide +kernel) fun t _ y => ?_
  obtain ⟨p, q, rfl⟩ : ∃ (p : Fin 512) (q : Fin 1024), y = ix2 p q := ⟨y 0, y 1, by blk_ext⟩
  blk_simp
  rw [after1_7]; frame_out
  refine (k1_norm _ _ _ _ _ p q).trans ?_
  simp only [pre_at]
  have e : (win1_7.blk t).view.emb (ix2 p q) = ix2 (rowAt t p) q := by
    blk_ext [rowAt, idx1 t]
  rw [e]
  refine congrArg₂ (· + ·) (congrArg₂ (· * ·) rfl ?_) ?_
  · blk_point [iblk1, idx1 t]
  · blk_point [iblk1, idx1 t]

end Cert.Kernel2Ideal.Half

end
-- ==== Proof.HalfRows.lean ====
/-
  What the call of the layer norm's backward pass computes at one grid point, row by row.
-/
module

public import proofs.«01_k».proof.Proof.Gen.Kernel2Ideal.Frame
public import Idealize.ShloMosaic.Lib.Pipeline.ValueKit
public import Idealize.ShloMosaic.Lib.Pointwise
public import proofs.«01_k».proof.Proof.HalfNorm
public import proofs.«01_k».proof.Proof.HalfForward

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

/-- The cotangent of the layer norm's result. -/
def dNorm (P : FVec Ideal S4096x3584 .f32) (W : FVec Ideal S1024x3584 .bf16) (d : FVec Ideal S4096x1024 .f32) : FVec Ideal S4096x1024 .f32 :=
  fun i => ((∑ k : Fin 3584, (P (ix2 (i 0) k) : EReal) * W (ix2 (i 1) k)) + Ideal.ofBits .f32 0x3F9837F0#32 * d i : EReal)

/-- The scaled cotangent's row `t`. -/
def scaledRow (dy : FVec Ideal S4096x1024 .f32) (g : FVec Ideal S1x1024 .f32) (t : Fin 4096) : Fin 1024 → EReal :=
  fun l => dy (ix2 t l) * g (ix2 (0 : Fin 1) l)

/-- The cotangent of the sum before the layer norm. -/
def dSum (dy r : FVec Ideal S4096x1024 .f32) (g : FVec Ideal S1x1024 .f32) : FVec Ideal S4096x1024 .f32 :=
  fun i => Norm.grad (rowOf r (i 0)) (scaledRow dy g (i 0)) (i 1)

/-- Half of it. -/
def halfSum (dy r : FVec Ideal S4096x1024 .f32) (g : FVec Ideal S1x1024 .f32) : FVec Ideal S4096x1024 .bf16 :=
  fun i => (Ideal.ofBits .f32 0x3F000000#32 * dSum dy r g i : EReal)

theorem k4_cen (r : FVec Ideal S512x1024 .f32) (p : Fin 512) (q : Fin 1024) :
    (k4_pay8 (F := Ideal) r (ix2 p q) : EReal) = Norm.cen (fun l => r (ix2 p l)) q := by
  pointwise [k4_pay8, Norm.cen, Norm.mean, Norm.width]

theorem k4_rs (r : FVec Ideal S512x1024 .f32) (p : Fin 512) :
    (k4_pay9 (F := Ideal) r (ix2 p (0 : Fin 1)) : EReal) = Norm.rs (fun l => r (ix2 p l)) := by
  have e (l : Fin 1024) := k4_cen r p l
  unfold k4_pay9
  generalize k4_pay8 (F := Ideal) r = a at *
  pointwise [Norm.rs, Norm.vr, Norm.mean, Norm.width]
  simp only [e]

theorem k4_xh (r : FVec Ideal S512x1024 .f32) (p : Fin 512) (q : Fin 1024) :
    (k4_pay10 (F := Ideal) r (ix2 p q) : EReal) = Norm.xh (fun l => r (ix2 p l)) q := by
  have e := k4_cen r p q
  have e' := k4_rs r p
  unfold k4_pay10
  generalize k4_pay8 (F := Ideal) r = a at *
  generalize k4_pay9 (F := Ideal) r = b at *
  pointwise [Norm.xh]
  rw [← e, ← e']

theorem k4_scaled (P : FVec Ideal S512x3584 .f32) (W : FVec Ideal S1024x3584 .bf16) (d : FVec Ideal S512x1024 .f32) (g : FVec Ideal S1x1024 .f32)
    (p : Fin 512) (q : Fin 1024) :
    (k4_pay11 (F := Ideal) P W d g (ix2 p q) : EReal) = k4_pay7 (F := Ideal) P W d (ix2 p q) * g (ix2 (0 : Fin 1) q) := by
  unfold k4_pay11
  generalize k4_pay7 (F := Ideal) P W d = a
  pointwise

theorem k4_mean (P : FVec Ideal S512x3584 .f32) (W : FVec Ideal S1024x3584 .bf16) (d : FVec Ideal S512x1024 .f32) (g : FVec Ideal S1x1024 .f32)
    (p : Fin 512) :
    (k4_pay12 (F := Ideal) P W d g (ix2 p (0 : Fin 1)) : EReal) = Norm.mean fun l => k4_pay11 (F := Ideal) P W d g (ix2 p l) := by
  unfold k4_pay12
  generalize k4_pay11 (F := Ideal) P W d g = a
  pointwise [Norm.mean, Norm.width]

theorem k4_dot (P : FVec Ideal S512x3584 .f32) (W : FVec Ideal S1024x3584 .bf16) (d r : FVec Ideal S512x1024 .f32) (g : FVec Ideal S1x1024 .f32)
    (p : Fin 512) :
    (k4_pay13 (F := Ideal) P W d r g (ix2 p (0 : Fin 1)) : EReal) =
      ∑ l : Fin 1024, (k4_pay11 (F := Ideal) P W d g (ix2 p l) : EReal) * k4_pay10 (F := Ideal) r (ix2 p l) := by
  unfold k4_pay13
  generalize k4_pay11 (F := Ideal) P W d g = a
  generalize k4_pay10 (F := Ideal) r = b
  pointwise

theorem k4_grad (P : FVec Ideal S512x3584 .f32) (W : FVec Ideal S1024x3584 .bf16) (d r : FVec Ideal S512x1024 .f32) (g : FVec Ideal S1x1024 .f32)
    (p : Fin 512) (q : Fin 1024) :
    (k4_pay1 (F := Ideal) (k4_pay9 r) (k4_pay10 r) (k4_pay11 P W d g) (k4_pay12 P W d g) (k4_pay13 P W d r g) k4_pay14 (ix2 p q) : EReal) =
      Norm.grad (fun l => r (ix2 p l)) (fun l => k4_pay7 (F := Ideal) P W d (ix2 p l) * g (ix2 (0 : Fin 1) l)) q := by
  have e1 := k4_rs r p
  have e2 (l : Fin 1024) := k4_xh r p l
  have e3 (l : Fin 1024) := k4_scaled P W d g p l
  have e4 := k4_mean P W d g p
  have e5 := k4_dot P W d r g p
  have e6 : (k4_pay14 (F := Ideal) (ix2 p (0 : Fin 1)) : EReal) = Norm.width := by pointwise [k4_pay14, Norm.width]
  generalize k4_pay14 (F := Ideal) = w at *
  generalize k4_pay13 (F := Ideal) P W d r g = s at *
  generalize k4_pay12 (F := Ideal) P W d g = m at *
  generalize k4_pay11 (F := Ideal) P W d g = a at *
  generalize k4_pay10 (F := Ideal) r = x at *
  generalize k4_pay9 (F := Ideal) r = z at *
  simp only [e3, e2] at e4 e5
  have e : (k4_pay1 (F := Ideal) z x a m s w (ix2 p q) : EReal) =
      z (ix2 p (0 : Fin 1)) * ((a (ix2 p q) - m (ix2 p (0 : Fin 1))) - x (ix2 p q) * Ideal.div (s (ix2 p (0 : Fin 1))) (w (ix2 p (0 : Fin 1)))) := by
    pointwise [k4_pay1]
  rw [e, e1, e3, e4, e2, e5, e6]
  rfl

theorem k4_half (z : FVec Ideal S512x1 .f32) (x a : FVec Ideal S512x1024 .f32) (m s w : FVec Ideal S512x1 .f32) (p : Fin 512) (q : Fin 1024) :
    (k4_pay2 (F := Ideal) z x a m s w (ix2 p q) : EReal) = Ideal.ofBits .f32 0x3F000000#32 * k4_pay1 (F := Ideal) z x a m s w (ix2 p q) := by
  unfold k4_pay2
  generalize k4_pay1 (F := Ideal) z x a m s w = b
  pointwise

end Cert.Kernel2Ideal.Half

end
-- ==== Proof.HalfBack.lean ====
/-
  What the call of the layer norm's backward pass leaves: the cotangent of the sum before it, half of that, and the two
  accumulators over the grid for the scale's and the shift's gradients.
-/
module

public import proofs.«01_k».proof.Proof.HalfRows

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

/-- Row `8 j + a` of a block. -/
def fold (j : Fin 64) (a : Fin 8) : Fin 512 := ⟨j.val * 8 + a.val, by omega⟩

theorem k4_scale (u v : FVec Ideal S512x1024 .f32) (acc : FVec Ideal S8x1024 .f32) (a : Fin 8) (l : Fin 1024) :
    (k4_pay5 (F := Ideal) u v acc (ix2 a l) : EReal) = acc (ix2 a l) + ∑ j : Fin 64, (u (ix2 (fold j a) l) : EReal) * v (ix2 (fold j a) l) := by
  pointwise [k4_pay5, fold]
  blk_ext

theorem k4_shift (u : FVec Ideal S512x1024 .f32) (acc : FVec Ideal S8x1024 .f32) (a : Fin 8) (l : Fin 1024) :
    (k4_pay6 (F := Ideal) u acc (ix2 a l) : EReal) = acc (ix2 a l) + ∑ j : Fin 64, (u (ix2 (fold j a) l) : EReal) := by
  pointwise [k4_pay6, fold]
  blk_ext

/-- An accumulator that starts at zero and takes a term at each of eight points ends at the terms' sum. -/
theorem fold_sum (f : (n : ℕ) → n < 8 → FVec Ideal S8x1024 .f32) (S : Fin 8 → FVec Ideal S8x1024 .f32 → FVec Ideal S8x1024 .f32)
    (T : Fin 8 → EReal) (z : FVec Ideal S8x1024 .f32) (i : S8x1024.Idx) (hz : (z i : EReal) = 0) (hS : ∀ t x, (S t x i : EReal) = x i + T t)
    (hA : ∀ t : Fin 8, t.val % 8 = 0 → f t.val t.isLt = S t z)
    (hB : ∀ t : Fin 8, ¬ t.val % 8 = 0 → f t.val t.isLt = S t (f (t.val - 1) (lt_of_le_of_lt (Nat.sub_le _ _) t.isLt))) :
    (f 7 (by decide) i : EReal) = ∑ t, T t := by
  have key : ∀ n (h : n < 8), (f n h i : EReal) = ∑ t : Fin (n + 1), T ⟨t.val, by omega⟩ := by
    intro n
    induction n with
    | zero =>
      intro h
      rw [hA ⟨0, h⟩ rfl, hS, hz]
      simp
    | succ n ih =>
      intro h
      rw [hB ⟨n + 1, h⟩ (by simp only; omega), hS, Fin.sum_univ_castSucc]
      exact congrArg (· + T ⟨n + 1, h⟩) (ih (by omega))
  exact key 7 (by decide)

/-- The scale's gradient, the tokens folded by eight. -/
def dScale (dy r : FVec Ideal S4096x1024 .f32) : FVec Ideal S8x1024 .f32 :=
  fun i => (∑ t : Fin 8, ∑ j : Fin 64, (dy (ix2 (rowAt t (fold j (i 0))) (i 1)) : EReal) * Norm.xh (rowOf r (rowAt t (fold j (i 0)))) (i 1) : EReal)

/-- The shift's gradient, the tokens folded by eight. -/
def dShift (dy : FVec Ideal S4096x1024 .f32) : FVec Ideal S8x1024 .f32 :=
  fun i => (∑ t : Fin 8, ∑ j : Fin 64, (dy (ix2 (rowAt t (fold j (i 0))) (i 1)) : EReal) : EReal)

variable (V : (c : Dev nD) → (b : Ref sig .tc) → Buf (Elt Ideal) ((c : Thread nD τ).loc b))

/-- The cotangent of the layer norm's result, as the call's arrays have it. -/
abbrev DY (c : Dev nD) : FVec Ideal S4096x1024 .f32 := dNorm (V c main_arg6) (V c main_v3) (V c main_arg7)

/-- The cotangent and the normalised rows of the block of grid point `t`. -/
abbrev dyB (c : Dev nD) (t : Fin cfg4.N) : FVec Ideal S512x1024 .f32 := k4_pay7 (F := Ideal) (iblk4 V c 0 t) (iblk4 V c 1 t) (iblk4 V c 3 t)
abbrev xB (c : Dev nD) (t : Fin cfg4.N) : FVec Ideal S512x1024 .f32 := k4_pay10 (F := Ideal) (iblk4 V c 2 t)

theorem idx4 : ∀ t : Fin cfg4.N, win4_0.index t = ![t.val, 0] ∧ win4_1.index t = ![0, 0] ∧ win4_2.index t = ![t.val, 0] ∧ win4_3.index t = ![t.val, 0]
    ∧ win4_4.index t = ![0, 0] ∧ win4_5.index t = ![t.val, 0] ∧ win4_6.index t = ![t.val, 0] :=
  (by decide +kernel : ∀ t : Fin grid4.N, _)

theorem dyB_at (c : Dev nD) (t : Fin cfg4.N) (p : Fin 512) (q : Fin 1024) : (dyB V c t (ix2 p q) : EReal) = DY V c (ix2 (rowAt t p) q) := by
  pointwise [dyB, k4_pay7, DY, dNorm, rowAt]
  blk_point [iblk4, idx4 t]

theorem r_at (c : Dev nD) (t : Fin cfg4.N) (p : Fin 512) (q : Fin 1024) :
    (iblk4 V c 2 t (ix2 p q) : EReal) = (V c main_v9_0 : FVec Ideal S4096x1024 .f32) (ix2 (rowAt t p) q) := by
  pointwise [rowAt]
  blk_point [iblk4, idx4 t]

theorem g_at (c : Dev nD) (t : Fin cfg4.N) (q : Fin 1024) :
    (iblk4 V c 4 t (ix2 (0 : Fin 1) q) : EReal) = (V c main_arg3 : FVec Ideal S1x1024 .f32) (ix2 (0 : Fin 1) q) := by
  blk_point [iblk4, idx4 t]

theorem xB_at (c : Dev nD) (t : Fin cfg4.N) (p : Fin 512) (q : Fin 1024) :
    (xB V c t (ix2 p q) : EReal) = Norm.xh (rowOf (V c main_v9_0) (rowAt t p)) q := by
  refine (k4_xh _ p q).trans (congrArg (Norm.xh · q) ?_)
  funext l
  exact r_at V c t p l

theorem grad_at (c : Dev nD) (t : Fin cfg4.N) (p : Fin 512) (q : Fin 1024) :
    (k4_pay1 (F := Ideal) (k4_pay9 (iblk4 V c 2 t)) (k4_pay10 (iblk4 V c 2 t)) (k4_pay11 (iblk4 V c 0 t) (iblk4 V c 1 t) (iblk4 V c 3 t) (iblk4 V c 4 t))
      (k4_pay12 (iblk4 V c 0 t) (iblk4 V c 1 t) (iblk4 V c 3 t) (iblk4 V c 4 t))
      (k4_pay13 (iblk4 V c 0 t) (iblk4 V c 1 t) (iblk4 V c 3 t) (iblk4 V c 2 t) (iblk4 V c 4 t)) k4_pay14 (ix2 p q) : EReal) =
      dSum (DY V c) (V c main_v9_0) (V c main_arg3) (ix2 (rowAt t p) q) := by
  refine (k4_grad _ _ _ _ _ p q).trans (congrFun (congrArg₂ Norm.grad ?_ ?_) q)
  · funext l
    exact r_at V c t p l
  · funext l
    exact congrArg₂ (· * ·) (dyB_at V c t p l) (g_at V c t l)

theorem sum_out (c : Dev nD) (t : Fin cfg4.N) : (outsAt4 V c t.val t.isLt).1 =
    k4_pay1 (F := Ideal) (k4_pay9 (iblk4 V c 2 t)) (k4_pay10 (iblk4 V c 2 t)) (k4_pay11 (iblk4 V c 0 t) (iblk4 V c 1 t) (iblk4 V c 3 t) (iblk4 V c 4 t))
      (k4_pay12 (iblk4 V c 0 t) (iblk4 V c 1 t) (iblk4 V c 3 t) (iblk4 V c 4 t))
      (k4_pay13 (iblk4 V c 0 t) (iblk4 V c 1 t) (iblk4 V c 3 t) (iblk4 V c 2 t) (iblk4 V c 4 t)) k4_pay14 := by
  by_cases h : t.val % 8 = 0
  · rw [outsAt4_A V c t h]; frame_out
  · rw [outsAt4_B V c t h]; frame_out

theorem half_out (c : Dev nD) (t : Fin cfg4.N) : (outsAt4 V c t.val t.isLt).2.1 =
    k4_pay2 (F := Ideal) (k4_pay9 (iblk4 V c 2 t)) (k4_pay10 (iblk4 V c 2 t)) (k4_pay11 (iblk4 V c 0 t) (iblk4 V c 1 t) (iblk4 V c 3 t) (iblk4 V c 4 t))
      (k4_pay12 (iblk4 V c 0 t) (iblk4 V c 1 t) (iblk4 V c 3 t) (iblk4 V c 4 t))
      (k4_pay13 (iblk4 V c 0 t) (iblk4 V c 1 t) (iblk4 V c 3 t) (iblk4 V c 2 t) (iblk4 V c 4 t)) k4_pay14 := by
  by_cases h : t.val % 8 = 0
  · rw [outsAt4_A V c t h]; frame_out
  · rw [outsAt4_B V c t h]; frame_out

theorem scale_A (c : Dev nD) (t : Fin cfg4.N) (h : t.val % 8 = 0) :
    (outsAt4 V c t.val t.isLt).2.2.1 = k4_pay5 (F := Ideal) (dyB V c t) (xB V c t) (k4_pay3 (F := Ideal)) := by
  rw [outsAt4_A V c t h]; frame_out

theorem scale_B (c : Dev nD) (t : Fin cfg4.N) (h : ¬ t.val % 8 = 0) :
    (outsAt4 V c t.val t.isLt).2.2.1 = k4_pay5 (F := Ideal) (dyB V c t) (xB V c t)
      (outsAt4 V c (t.val - 1) (lt_of_le_of_lt (Nat.sub_le _ _) t.isLt)).2.2.1 := by
  rw [outsAt4_B V c t h]; frame_out

theorem shift_A (c : Dev nD) (t : Fin cfg4.N) (h : t.val % 8 = 0) :
    (outsAt4 V c t.val t.isLt).2.2.2 = k4_pay6 (F := Ideal) (dyB V c t) (k4_pay4 (F := Ideal)) := by
  rw [outsAt4_A V c t h]; frame_out

theorem shift_B (c : Dev nD) (t : Fin cfg4.N) (h : ¬ t.val % 8 = 0) :
    (outsAt4 V c t.val t.isLt).2.2.2 = k4_pay6 (F := Ideal) (dyB V c t)
      (outsAt4 V c (t.val - 1) (lt_of_le_of_lt (Nat.sub_le _ _) t.isLt)).2.2.2 := by
  rw [outsAt4_B V c t h]; frame_out

theorem final4_5 (c : Dev nD) : (dat4 V c).arrAt 5 cfg4.N = dSum (DY V c) (V c main_v9_0) (V c main_arg3) := by
  refine (dat4 V c).arrAt_eq_of_covers 5 _ (by decide +kernel) fun t _ y => ?_
  obtain ⟨p, q, rfl⟩ : ∃ (p : Fin 512) (q : Fin 1024), y = ix2 p q := ⟨y 0, y 1, by blk_ext⟩
  blk_simp
  rw [after4_5, sum_out]
  refine (grad_at V c t p q).trans (congrArg _ ?_)
  blk_ext [rowAt, idx4 t]

theorem final4_6 (c : Dev nD) : (dat4 V c).arrAt 6 cfg4.N = halfSum (DY V c) (V c main_v9_0) (V c main_arg3) := by
  refine (dat4 V c).arrAt_eq_of_covers 6 _ (by decide +kernel) fun t _ y => ?_
  obtain ⟨p, q, rfl⟩ : ∃ (p : Fin 512) (q : Fin 1024), y = ix2 p q := ⟨y 0, y 1, by blk_ext⟩
  blk_simp
  rw [after4_6, half_out]
  refine (k4_half _ _ _ _ _ _ p q).trans ?_
  rw [grad_at V c t p q]
  refine congrArg (halfSum (DY V c) (V c main_v9_0) (V c main_arg3)) ?_
  blk_ext [rowAt, idx4 t]

theorem final4_7 (c : Dev nD) : (dat4 V c).arrAt 7 cfg4.N = dScale (DY V c) (V c main_v9_0) := by
  refine (dat4 V c).arrAt_eq_of_after_last 7 t4_7 (by decide +kernel) _ fun y => ?_
  obtain ⟨a, l, rfl⟩ : ∃ (a : Fin 8) (l : Fin 1024), y = ix2 a l := ⟨y 0, y 1, by blk_ext⟩
  blk_simp
  rw [after4_7]
  have e := fold_sum (fun n h => (outsAt4 V c n h).2.2.1) (fun t x => k4_pay5 (F := Ideal) (dyB V c t) (xB V c t) x)
    (fun t => ∑ j : Fin 64, (DY V c (ix2 (rowAt t (fold j a)) l) : EReal) * Norm.xh (rowOf (V c main_v9_0) (rowAt t (fold j a))) l)
    (k4_pay3 (F := Ideal)) (ix2 a l) (by pointwise [k4_pay3])
    (fun t x => (k4_scale _ _ x a l).trans (congrArg _ (Finset.sum_congr rfl fun j _ => congrArg₂ (· * ·) (dyB_at V c t _ l) (xB_at V c t _ l))))
    (scale_A V c) (scale_B V c)
  exact e

theorem final4_8 (c : Dev nD) : (dat4 V c).arrAt 8 cfg4.N = dShift (DY V c) := by
  refine (dat4 V c).arrAt_eq_of_after_last 8 t4_7 (by decide +kernel) _ fun y => ?_
  obtain ⟨a, l, rfl⟩ : ∃ (a : Fin 8) (l : Fin 1024), y = ix2 a l := ⟨y 0, y 1, by blk_ext⟩
  blk_simp
  rw [after4_8]
  have e := fold_sum (fun n h => (outsAt4 V c n h).2.2.2) (fun t x => k4_pay6 (F := Ideal) (dyB V c t) x)
    (fun t => ∑ j : Fin 64, (DY V c (ix2 (rowAt t (fold j a)) l) : EReal))
    (k4_pay4 (F := Ideal)) (ix2 a l) (by pointwise [k4_pay4])
    (fun t x => (k4_shift _ x a l).trans (congrArg _ (Finset.sum_congr rfl fun j _ => dyB_at V c t _ l)))
    (shift_A V c) (shift_B V c)
  exact e

end Cert.Kernel2Ideal.Half

end
-- ==== Proof.HalfRun.lean ====
/-
  The whole run of the half-step, the layer norm and the mixers' projection, forwards and backwards: what the arguments
  become before the calls, and the seven results as the calls compose.
-/
module

public import proofs.«01_k».proof.Proof.HalfHidden
public import proofs.«01_k».proof.Proof.HalfMix
public import proofs.«01_k».proof.Proof.HalfBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Half

open Cert.Kernel2Ideal Cert.Kernel2Ideal.Gen

variable (m : (ℓ : Loc nD τ sig) → Buf (Elt Ideal) ℓ)

section

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- The run: every weakly fair execution ends with each buffer that the program owns at its final contents. -/
theorem run (ρ : Dev nD → PrngReg) : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end

variable (ρ : Dev nD → PrngReg)

/-- The first weight in the blocks that the calls take. -/
def blocksIn (w : FVec Ideal S1024x5632 .f32) : FVec Ideal S2x4x1024x704 .bf16 :=
  shapeCast S2x4x1024x704 (transpose S8x1024x704 [1, 0, 2] (shapeCast S1024x8x704 (truncf .bf16 w bitsLt_bf16_f32) shapeCasts_S1024x5632_S1024x8x704)
    transposes_S1024x8x704_S8x1024x704_1_0_2) shapeCasts_S8x1024x704_S2x4x1024x704

/-- The second weight in the blocks that the calls take. -/
def blocksOut (w : FVec Ideal S2816x1024 .f32) : FVec Ideal S4x704x1024 .bf16 :=
  shapeCast S4x704x1024 (truncf .bf16 w bitsLt_bf16_f32) shapeCasts_S2816x1024_S4x704x1024

/-- The tokens at the narrow format. -/
def low (x : FVec Ideal S4096x1024 .f32) : FVec Ideal S4096x1024 .bf16 := truncf .bf16 x bitsLt_bf16_f32

/-- The projection's weight at the narrow format. -/
def lowMix (w : FVec Ideal S1024x3584 .f32) : FVec Ideal S1024x3584 .bf16 := truncf .bf16 w bitsLt_bf16_f32

/-- What the calls take and leave on device `c`: the tokens, the weights, the sum before the layer norm, the layer norm's result, its
    cotangent, the sum's, and the projection's. -/
abbrev Xc (c : Dev nD) : FVec Ideal S4096x1024 .bf16 := low (m ((c : Thread nD τ).loc main_arg0) : FVec Ideal S4096x1024 .f32)
abbrev Wc (c : Dev nD) : FVec Ideal S2x4x1024x704 .bf16 := blocksIn (m ((c : Thread nD τ).loc main_arg1) : FVec Ideal S1024x5632 .f32)
abbrev Oc (c : Dev nD) : FVec Ideal S4x704x1024 .bf16 := blocksOut (m ((c : Thread nD τ).loc main_arg2) : FVec Ideal S2816x1024 .f32)
abbrev Mc (c : Dev nD) : FVec Ideal S1024x3584 .bf16 := lowMix (m ((c : Thread nD τ).loc main_arg5) : FVec Ideal S1024x3584 .f32)
abbrev Rc (c : Dev nD) : FVec Ideal S4096x1024 .f32 := pre (act (Xc m c) (Wc m c)) (Oc m c) (m ((c : Thread nD τ).loc main_arg0) : FVec Ideal S4096x1024 .f32)
abbrev Yc (c : Dev nD) : FVec Ideal S4096x1024 .bf16 := normed (Rc m c) (m ((c : Thread nD τ).loc main_arg3) : FVec Ideal S1x1024 .f32) (m ((c : Thread nD τ).loc main_arg4) : FVec Ideal S1x1024 .f32)
abbrev Nc (c : Dev nD) : FVec Ideal S4096x1024 .f32 := dNorm (m ((c : Thread nD τ).loc main_arg6) : FVec Ideal S4096x3584 .f32) (Mc m c) (m ((c : Thread nD τ).loc main_arg7) : FVec Ideal S4096x1024 .f32)
abbrev Dc (c : Dev nD) : FVec Ideal S4096x1024 .bf16 := halfSum (Nc m c) (Rc m c) (m ((c : Thread nD τ).loc main_arg3) : FVec Ideal S1x1024 .f32)
abbrev Hc (c : Dev nD) : FVec Ideal S4x2x4096x704 .bf16 := dHid (Dc m c) (Oc m c) (hid (Xc m c) (Wc m c))

theorem W1_v0 (c : Dev nD) : (W1 m ρ c (Proc.devRef .tc main_v0) : FVec Ideal S4096x1024 .bf16) = Xc m c := by
  simp only [W1]
  after_results
  rfl

theorem W1_v3 (c : Dev nD) : (W1 m ρ c (Proc.devRef .tc main_v3) : FVec Ideal S1024x3584 .bf16) = Mc m c := by
  simp only [W1]
  after_results
  rfl

theorem W1_v6 (c : Dev nD) : (W1 m ρ c (Proc.devRef .tc main_v6) : FVec Ideal S2x4x1024x704 .bf16) = Wc m c := by
  simp only [W1]
  after_results
  rfl

theorem W1_v7 (c : Dev nD) : (W1 m ρ c (Proc.devRef .tc main_v7) : FVec Ideal S4x704x1024 .bf16) = Oc m c := by
  simp only [W1]
  after_results
  rfl

theorem W2_v8_0 (c : Dev nD) : (W2 m ρ c (Proc.devRef .tc main_v8_0) : FVec Ideal S4x2x4096x704 .bf16) = hid (Xc m c) (Wc m c) := by
  refine (W2_arr m ρ c 3).trans ((final0_3 (V1 m ρ) c).trans ?_)
  exact congrArg₂ hid (W1_v0 m ρ c) (W1_v6 m ρ c)

theorem W2_v8_1 (c : Dev nD) : (W2 m ρ c (Proc.devRef .tc main_v8_1) : FVec Ideal S4x4096x704 .bf16) = act (Xc m c) (Wc m c) := by
  refine (W2_arr m ρ c 4).trans ((final0_4 (V1 m ρ) c).trans ?_)
  exact congrArg₂ act (W1_v0 m ρ c) (W1_v6 m ρ c)

theorem W2_v7 (c : Dev nD) : (W2 m ρ c (Proc.devRef .tc main_v7) : FVec Ideal S4x704x1024 .bf16) = Oc m c :=
  (W2_of m ρ c main_v7 (by decide +kernel)).trans (W1_v7 m ρ c)

theorem pre2 (c : Dev nD) : pre (V2 m ρ c main_v8_1) (V2 m ρ c main_v7) (V2 m ρ c main_arg0) = Rc m c :=
  congr (congrArg₂ pre (W2_v8_1 m ρ c) (W2_v7 m ρ c)) (W2_args m ρ c main_arg0 (by decide +kernel))

theorem W3_v9_0 (c : Dev nD) : (W3 m ρ c (Proc.devRef .tc main_v9_0) : FVec Ideal S4096x1024 .f32) = Rc m c :=
  (W3_arr m ρ c 5).trans ((final1_5 (V2 m ρ) c).trans (pre2 m ρ c))

theorem W3_v9_2 (c : Dev nD) : (W3 m ρ c (Proc.devRef .tc main_v9_2) : FVec Ideal S4096x1024 .bf16) = Yc m c := by
  refine (W3_arr m ρ c 7).trans ((final1_7 (V2 m ρ) c).trans ?_)
  exact congr (congrArg₂ normed (pre2 m ρ c) (W2_args m ρ c main_arg3 (by decide +kernel))) (W2_args m ρ c main_arg4 (by decide +kernel))

theorem W2_v3 (c : Dev nD) : (W2 m ρ c (Proc.devRef .tc main_v3) : FVec Ideal S1024x3584 .bf16) = Mc m c :=
  (W2_of m ρ c main_v3 (by decide +kernel)).trans (W1_v3 m ρ c)

theorem W3_v3 (c : Dev nD) : (W3 m ρ c (Proc.devRef .tc main_v3) : FVec Ideal S1024x3584 .bf16) = Mc m c :=
  (W3_of m ρ c main_v3 (by decide +kernel)).trans (W2_v3 m ρ c)

theorem W4_v10 (c : Dev nD) : (W4 m ρ c (Proc.devRef .tc main_v10) : FVec Ideal S4096x3584 .f32) = proj (Yc m c) (Mc m c) := by
  refine (W4_arr m ρ c 2).trans ((final2_2 (V3 m ρ) c).trans ?_)
  exact congrArg₂ proj (W3_v9_2 m ρ c) (W3_v3 m ρ c)

theorem W4_v9_2 (c : Dev nD) : (W4 m ρ c (Proc.devRef .tc main_v9_2) : FVec Ideal S4096x1024 .bf16) = Yc m c :=
  (W4_of m ρ c main_v9_2 (by decide +kernel)).trans (W3_v9_2 m ρ c)

theorem W5_v11 (c : Dev nD) : (W5 m ρ c (Proc.devRef .tc main_v11) : FVec Ideal S1024x3584 .bf16) = dMix (Yc m c) (m ((c : Thread nD τ).loc main_arg6) : FVec Ideal S4096x3584 .f32) := by
  refine (W5_arr m ρ c 2).trans ((final3_2 (V4 m ρ) c).trans ?_)
  exact congrArg₂ dMix (W4_v9_2 m ρ c) (W4_args m ρ c main_arg6 (by decide +kernel))

theorem W4_v3 (c : Dev nD) : (W4 m ρ c (Proc.devRef .tc main_v3) : FVec Ideal S1024x3584 .bf16) = Mc m c :=
  (W4_of m ρ c main_v3 (by decide +kernel)).trans (W3_v3 m ρ c)

theorem W5_v3 (c : Dev nD) : (W5 m ρ c (Proc.devRef .tc main_v3) : FVec Ideal S1024x3584 .bf16) = Mc m c :=
  (W5_of m ρ c main_v3 (by decide +kernel)).trans (W4_v3 m ρ c)

theorem W4_v9_0 (c : Dev nD) : (W4 m ρ c (Proc.devRef .tc main_v9_0) : FVec Ideal S4096x1024 .f32) = Rc m c :=
  (W4_of m ρ c main_v9_0 (by decide +kernel)).trans (W3_v9_0 m ρ c)

theorem W5_v9_0 (c : Dev nD) : (W5 m ρ c (Proc.devRef .tc main_v9_0) : FVec Ideal S4096x1024 .f32) = Rc m c :=
  (W5_of m ρ c main_v9_0 (by decide +kernel)).trans (W4_v9_0 m ρ c)

theorem norm5 (c : Dev nD) : dNorm (V5 m ρ c main_arg6) (V5 m ρ c main_v3) (V5 m ρ c main_arg7) = Nc m c :=
  congr (congrArg₂ dNorm (W5_args m ρ c main_arg6 (by decide +kernel)) (W5_v3 m ρ c)) (W5_args m ρ c main_arg7 (by decide +kernel))

theorem W6_v12_0 (c : Dev nD) : (W6 m ρ c (Proc.devRef .tc main_v12_0) : FVec Ideal S4096x1024 .f32) = dSum (Nc m c) (Rc m c) (m ((c : Thread nD τ).loc main_arg3) : FVec Ideal S1x1024 .f32) := by
  refine (W6_arr m ρ c 5).trans ((final4_5 (V5 m ρ) c).trans ?_)
  exact congr (congrArg₂ dSum (norm5 m ρ c) (W5_v9_0 m ρ c)) (W5_args m ρ c main_arg3 (by decide +kernel))

theorem W6_v12_1 (c : Dev nD) : (W6 m ρ c (Proc.devRef .tc main_v12_1) : FVec Ideal S4096x1024 .bf16) = Dc m c := by
  refine (W6_arr m ρ c 6).trans ((final4_6 (V5 m ρ) c).trans ?_)
  exact congr (congrArg₂ halfSum (norm5 m ρ c) (W5_v9_0 m ρ c)) (W5_args m ρ c main_arg3 (by decide +kernel))

theorem W6_v12_2 (c : Dev nD) : (W6 m ρ c (Proc.devRef .tc main_v12_2) : FVec Ideal S8x1024 .f32) = dScale (Nc m c) (Rc m c) := by
  refine (W6_arr m ρ c 7).trans ((final4_7 (V5 m ρ) c).trans ?_)
  exact congrArg₂ dScale (norm5 m ρ c) (W5_v9_0 m ρ c)

theorem W6_v12_3 (c : Dev nD) : (W6 m ρ c (Proc.devRef .tc main_v12_3) : FVec Ideal S8x1024 .f32) = dShift (Nc m c) := by
  refine (W6_arr m ρ c 8).trans ((final4_8 (V5 m ρ) c).trans ?_)
  exact congrArg dShift (norm5 m ρ c)

theorem W3_v8_1 (c : Dev nD) : (W3 m ρ c (Proc.devRef .tc main_v8_1) : FVec Ideal S4x4096x704 .bf16) = act (Xc m c) (Wc m c) :=
  (W3_of m ρ c main_v8_1 (by decide +kernel)).trans (W2_v8_1 m ρ c)

theorem W4_v8_1 (c : Dev nD) : (W4 m ρ c (Proc.devRef .tc main_v8_1) : FVec Ideal S4x4096x704 .bf16) = act (Xc m c) (Wc m c) :=
  (W4_of m ρ c main_v8_1 (by decide +kernel)).trans (W3_v8_1 m ρ c)

theorem W5_v8_1 (c : Dev nD) : (W5 m ρ c (Proc.devRef .tc main_v8_1) : FVec Ideal S4x4096x704 .bf16) = act (Xc m c) (Wc m c) :=
  (W5_of m ρ c main_v8_1 (by decide +kernel)).trans (W4_v8_1 m ρ c)

theorem W6_v8_1 (c : Dev nD) : (W6 m ρ c (Proc.devRef .tc main_v8_1) : FVec Ideal S4x4096x704 .bf16) = act (Xc m c) (Wc m c) :=
  (W6_of m ρ c main_v8_1 (by decide +kernel)).trans (W5_v8_1 m ρ c)

theorem W7_v13 (c : Dev nD) : (W7 m ρ c (Proc.devRef .tc main_v13) : FVec Ideal S4x704x1024 .bf16) = dOut (act (Xc m c) (Wc m c)) (Dc m c) := by
  refine (W7_arr m ρ c 2).trans ((final5_2 (V6 m ρ) c).trans ?_)
  exact congrArg₂ dOut (W6_v8_1 m ρ c) (W6_v12_1 m ρ c)

theorem W7_v12_1 (c : Dev nD) : (W7 m ρ c (Proc.devRef .tc main_v12_1) : FVec Ideal S4096x1024 .bf16) = Dc m c :=
  (W7_of m ρ c main_v12_1 (by decide +kernel)).trans (W6_v12_1 m ρ c)

theorem W3_v7 (c : Dev nD) : (W3 m ρ c (Proc.devRef .tc main_v7) : FVec Ideal S4x704x1024 .bf16) = Oc m c :=
  (W3_of m ρ c main_v7 (by decide +kernel)).trans (W2_v7 m ρ c)

theorem W4_v7 (c : Dev nD) : (W4 m ρ c (Proc.devRef .tc main_v7) : FVec Ideal S4x704x1024 .bf16) = Oc m c :=
  (W4_of m ρ c main_v7 (by decide +kernel)).trans (W3_v7 m ρ c)

theorem W5_v7 (c : Dev nD) : (W5 m ρ c (Proc.devRef .tc main_v7) : FVec Ideal S4x704x1024 .bf16) = Oc m c :=
  (W5_of m ρ c main_v7 (by decide +kernel)).trans (W4_v7 m ρ c)

theorem W6_v7 (c : Dev nD) : (W6 m ρ c (Proc.devRef .tc main_v7) : FVec Ideal S4x704x1024 .bf16) = Oc m c :=
  (W6_of m ρ c main_v7 (by decide +kernel)).trans (W5_v7 m ρ c)

theorem W7_v7 (c : Dev nD) : (W7 m ρ c (Proc.devRef .tc main_v7) : FVec Ideal S4x704x1024 .bf16) = Oc m c :=
  (W7_of m ρ c main_v7 (by decide +kernel)).trans (W6_v7 m ρ c)

theorem W3_v8_0 (c : Dev nD) : (W3 m ρ c (Proc.devRef .tc main_v8_0) : FVec Ideal S4x2x4096x704 .bf16) = hid (Xc m c) (Wc m c) :=
  (W3_of m ρ c main_v8_0 (by decide +kernel)).trans (W2_v8_0 m ρ c)

theorem W4_v8_0 (c : Dev nD) : (W4 m ρ c (Proc.devRef .tc main_v8_0) : FVec Ideal S4x2x4096x704 .bf16) = hid (Xc m c) (Wc m c) :=
  (W4_of m ρ c main_v8_0 (by decide +kernel)).trans (W3_v8_0 m ρ c)

theorem W5_v8_0 (c : Dev nD) : (W5 m ρ c (Proc.devRef .tc main_v8_0) : FVec Ideal S4x2x4096x704 .bf16) = hid (Xc m c) (Wc m c) :=
  (W5_of m ρ c main_v8_0 (by decide +kernel)).trans (W4_v8_0 m ρ c)

theorem W6_v8_0 (c : Dev nD) : (W6 m ρ c (Proc.devRef .tc main_v8_0) : FVec Ideal S4x2x4096x704 .bf16) = hid (Xc m c) (Wc m c) :=
  (W6_of m ρ c main_v8_0 (by decide +kernel)).trans (W5_v8_0 m ρ c)

theorem W7_v8_0 (c : Dev nD) : (W7 m ρ c (Proc.devRef .tc main_v8_0) : FVec Ideal S4x2x4096x704 .bf16) = hid (Xc m c) (Wc m c) :=
  (W7_of m ρ c main_v8_0 (by decide +kernel)).trans (W6_v8_0 m ρ c)

theorem W8_v14 (c : Dev nD) : (W8 m ρ c (Proc.devRef .tc main_v14) : FVec Ideal S4x2x4096x704 .bf16) = Hc m c := by
  refine (W8_arr m ρ c 3).trans ((final6_3 (V7 m ρ) c).trans ?_)
  exact congr (congrArg₂ dHid (W7_v12_1 m ρ c) (W7_v7 m ρ c)) (W7_v8_0 m ρ c)

theorem W2_v0 (c : Dev nD) : (W2 m ρ c (Proc.devRef .tc main_v0) : FVec Ideal S4096x1024 .bf16) = Xc m c :=
  (W2_of m ρ c main_v0 (by decide +kernel)).trans (W1_v0 m ρ c)

theorem W3_v0 (c : Dev nD) : (W3 m ρ c (Proc.devRef .tc main_v0) : FVec Ideal S4096x1024 .bf16) = Xc m c :=
  (W3_of m ρ c main_v0 (by decide +kernel)).trans (W2_v0 m ρ c)

theorem W4_v0 (c : Dev nD) : (W4 m ρ c (Proc.devRef .tc main_v0) : FVec Ideal S4096x1024 .bf16) = Xc m c :=
  (W4_of m ρ c main_v0 (by decide +kernel)).trans (W3_v0 m ρ c)

theorem W5_v0 (c : Dev nD) : (W5 m ρ c (Proc.devRef .tc main_v0) : FVec Ideal S4096x1024 .bf16) = Xc m c :=
  (W5_of m ρ c main_v0 (by decide +kernel)).trans (W4_v0 m ρ c)

theorem W6_v0 (c : Dev nD) : (W6 m ρ c (Proc.devRef .tc main_v0) : FVec Ideal S4096x1024 .bf16) = Xc m c :=
  (W6_of m ρ c main_v0 (by decide +kernel)).trans (W5_v0 m ρ c)

theorem W7_v0 (c : Dev nD) : (W7 m ρ c (Proc.devRef .tc main_v0) : FVec Ideal S4096x1024 .bf16) = Xc m c :=
  (W7_of m ρ c main_v0 (by decide +kernel)).trans (W6_v0 m ρ c)

theorem W8_v0 (c : Dev nD) : (W8 m ρ c (Proc.devRef .tc main_v0) : FVec Ideal S4096x1024 .bf16) = Xc m c :=
  (W8_of m ρ c main_v0 (by decide +kernel)).trans (W7_v0 m ρ c)

theorem W9_v15 (c : Dev nD) : (W9 m ρ c (Proc.devRef .tc main_v15) : FVec Ideal S2x4x1024x704 .bf16) = dIn (Xc m c) (Hc m c) := by
  refine (W9_arr m ρ c 2).trans ((final7_2 (V8 m ρ) c).trans ?_)
  exact congrArg₂ dIn (W8_v0 m ρ c) (W8_v14 m ρ c)

theorem W9_v14 (c : Dev nD) : (W9 m ρ c (Proc.devRef .tc main_v14) : FVec Ideal S4x2x4096x704 .bf16) = Hc m c :=
  (W9_of m ρ c main_v14 (by decide +kernel)).trans (W8_v14 m ρ c)

theorem W2_v6 (c : Dev nD) : (W2 m ρ c (Proc.devRef .tc main_v6) : FVec Ideal S2x4x1024x704 .bf16) = Wc m c :=
  (W2_of m ρ c main_v6 (by decide +kernel)).trans (W1_v6 m ρ c)

theorem W3_v6 (c : Dev nD) : (W3 m ρ c (Proc.devRef .tc main_v6) : FVec Ideal S2x4x1024x704 .bf16) = Wc m c :=
  (W3_of m ρ c main_v6 (by decide +kernel)).trans (W2_v6 m ρ c)

theorem W4_v6 (c : Dev nD) : (W4 m ρ c (Proc.devRef .tc main_v6) : FVec Ideal S2x4x1024x704 .bf16) = Wc m c :=
  (W4_of m ρ c main_v6 (by decide +kernel)).trans (W3_v6 m ρ c)

theorem W5_v6 (c : Dev nD) : (W5 m ρ c (Proc.devRef .tc main_v6) : FVec Ideal S2x4x1024x704 .bf16) = Wc m c :=
  (W5_of m ρ c main_v6 (by decide +kernel)).trans (W4_v6 m ρ c)

theorem W6_v6 (c : Dev nD) : (W6 m ρ c (Proc.devRef .tc main_v6) : FVec Ideal S2x4x1024x704 .bf16) = Wc m c :=
  (W6_of m ρ c main_v6 (by decide +kernel)).trans (W5_v6 m ρ c)

theorem W7_v6 (c : Dev nD) : (W7 m ρ c (Proc.devRef .tc main_v6) : FVec Ideal S2x4x1024x704 .bf16) = Wc m c :=
  (W7_of m ρ c main_v6 (by decide +kernel)).trans (W6_v6 m ρ c)

theorem W8_v6 (c : Dev nD) : (W8 m ρ c (Proc.devRef .tc main_v6) : FVec Ideal S2x4x1024x704 .bf16) = Wc m c :=
  (W8_of m ρ c main_v6 (by decide +kernel)).trans (W7_v6 m ρ c)

theorem W9_v6 (c : Dev nD) : (W9 m ρ c (Proc.devRef .tc main_v6) : FVec Ideal S2x4x1024x704 .bf16) = Wc m c :=
  (W9_of m ρ c main_v6 (by decide +kernel)).trans (W8_v6 m ρ c)

theorem W7_v12_0 (c : Dev nD) : (W7 m ρ c (Proc.devRef .tc main_v12_0) : FVec Ideal S4096x1024 .f32) = dSum (Nc m c) (Rc m c) (m ((c : Thread nD τ).loc main_arg3) : FVec Ideal S1x1024 .f32) :=
  (W7_of m ρ c main_v12_0 (by decide +kernel)).trans (W6_v12_0 m ρ c)

theorem W8_v12_0 (c : Dev nD) : (W8 m ρ c (Proc.devRef .tc main_v12_0) : FVec Ideal S4096x1024 .f32) = dSum (Nc m c) (Rc m c) (m ((c : Thread nD τ).loc main_arg3) : FVec Ideal S1x1024 .f32) :=
  (W8_of m ρ c main_v12_0 (by decide +kernel)).trans (W7_v12_0 m ρ c)

theorem W9_v12_0 (c : Dev nD) : (W9 m ρ c (Proc.devRef .tc main_v12_0) : FVec Ideal S4096x1024 .f32) = dSum (Nc m c) (Rc m c) (m ((c : Thread nD τ).loc main_arg3) : FVec Ideal S1x1024 .f32) :=
  (W9_of m ρ c main_v12_0 (by decide +kernel)).trans (W8_v12_0 m ρ c)

theorem W10_v16 (c : Dev nD) : (W10 m ρ c (Proc.devRef .tc main_v16) : FVec Ideal S4096x1024 .f32) = dX (Hc m c) (Wc m c) (dSum (Nc m c) (Rc m c) (m ((c : Thread nD τ).loc main_arg3) : FVec Ideal S1x1024 .f32)) := by
  refine (W10_arr m ρ c 3).trans ((final8_3 (V9 m ρ) c).trans ?_)
  exact congr (congrArg₂ dX (W9_v14 m ρ c) (W9_v6 m ρ c)) (W9_v12_0 m ρ c)

theorem W5_v10 (c : Dev nD) : (W5 m ρ c (Proc.devRef .tc main_v10) : FVec Ideal S4096x3584 .f32) = proj (Yc m c) (Mc m c) :=
  (W5_of m ρ c main_v10 (by decide +kernel)).trans (W4_v10 m ρ c)

theorem W6_v10 (c : Dev nD) : (W6 m ρ c (Proc.devRef .tc main_v10) : FVec Ideal S4096x3584 .f32) = proj (Yc m c) (Mc m c) :=
  (W6_of m ρ c main_v10 (by decide +kernel)).trans (W5_v10 m ρ c)

theorem W7_v10 (c : Dev nD) : (W7 m ρ c (Proc.devRef .tc main_v10) : FVec Ideal S4096x3584 .f32) = proj (Yc m c) (Mc m c) :=
  (W7_of m ρ c main_v10 (by decide +kernel)).trans (W6_v10 m ρ c)

theorem W8_v10 (c : Dev nD) : (W8 m ρ c (Proc.devRef .tc main_v10) : FVec Ideal S4096x3584 .f32) = proj (Yc m c) (Mc m c) :=
  (W8_of m ρ c main_v10 (by decide +kernel)).trans (W7_v10 m ρ c)

theorem W9_v10 (c : Dev nD) : (W9 m ρ c (Proc.devRef .tc main_v10) : FVec Ideal S4096x3584 .f32) = proj (Yc m c) (Mc m c) :=
  (W9_of m ρ c main_v10 (by decide +kernel)).trans (W8_v10 m ρ c)

theorem W10_v10 (c : Dev nD) : (W10 m ρ c (Proc.devRef .tc main_v10) : FVec Ideal S4096x3584 .f32) = proj (Yc m c) (Mc m c) :=
  (W10_of m ρ c main_v10 (by decide +kernel)).trans (W9_v10 m ρ c)

theorem W11_v10 (c : Dev nD) : (W11 m ρ c (Proc.devRef .tc main_v10) : FVec Ideal S4096x3584 .f32) = proj (Yc m c) (Mc m c) :=
  (W11_of m ρ c main_v10 (by decide +kernel)).trans (W10_v10 m ρ c)

theorem W6_v11 (c : Dev nD) : (W6 m ρ c (Proc.devRef .tc main_v11) : FVec Ideal S1024x3584 .bf16) = dMix (Yc m c) (m ((c : Thread nD τ).loc main_arg6) : FVec Ideal S4096x3584 .f32) :=
  (W6_of m ρ c main_v11 (by decide +kernel)).trans (W5_v11 m ρ c)

theorem W7_v11 (c : Dev nD) : (W7 m ρ c (Proc.devRef .tc main_v11) : FVec Ideal S1024x3584 .bf16) = dMix (Yc m c) (m ((c : Thread nD τ).loc main_arg6) : FVec Ideal S4096x3584 .f32) :=
  (W7_of m ρ c main_v11 (by decide +kernel)).trans (W6_v11 m ρ c)

theorem W8_v11 (c : Dev nD) : (W8 m ρ c (Proc.devRef .tc main_v11) : FVec Ideal S1024x3584 .bf16) = dMix (Yc m c) (m ((c : Thread nD τ).loc main_arg6) : FVec Ideal S4096x3584 .f32) :=
  (W8_of m ρ c main_v11 (by decide +kernel)).trans (W7_v11 m ρ c)

theorem W9_v11 (c : Dev nD) : (W9 m ρ c (Proc.devRef .tc main_v11) : FVec Ideal S1024x3584 .bf16) = dMix (Yc m c) (m ((c : Thread nD τ).loc main_arg6) : FVec Ideal S4096x3584 .f32) :=
  (W9_of m ρ c main_v11 (by decide +kernel)).trans (W8_v11 m ρ c)

theorem W10_v11 (c : Dev nD) : (W10 m ρ c (Proc.devRef .tc main_v11) : FVec Ideal S1024x3584 .bf16) = dMix (Yc m c) (m ((c : Thread nD τ).loc main_arg6) : FVec Ideal S4096x3584 .f32) :=
  (W10_of m ρ c main_v11 (by decide +kernel)).trans (W9_v11 m ρ c)

theorem W11_v11 (c : Dev nD) : (W11 m ρ c (Proc.devRef .tc main_v11) : FVec Ideal S1024x3584 .bf16) = dMix (Yc m c) (m ((c : Thread nD τ).loc main_arg6) : FVec Ideal S4096x3584 .f32) :=
  (W11_of m ρ c main_v11 (by decide +kernel)).trans (W10_v11 m ρ c)

theorem W8_v13 (c : Dev nD) : (W8 m ρ c (Proc.devRef .tc main_v13) : FVec Ideal S4x704x1024 .bf16) = dOut (act (Xc m c) (Wc m c)) (Dc m c) :=
  (W8_of m ρ c main_v13 (by decide +kernel)).trans (W7_v13 m ρ c)

theorem W9_v13 (c : Dev nD) : (W9 m ρ c (Proc.devRef .tc main_v13) : FVec Ideal S4x704x1024 .bf16) = dOut (act (Xc m c) (Wc m c)) (Dc m c) :=
  (W9_of m ρ c main_v13 (by decide +kernel)).trans (W8_v13 m ρ c)

theorem W10_v13 (c : Dev nD) : (W10 m ρ c (Proc.devRef .tc main_v13) : FVec Ideal S4x704x1024 .bf16) = dOut (act (Xc m c) (Wc m c)) (Dc m c) :=
  (W10_of m ρ c main_v13 (by decide +kernel)).trans (W9_v13 m ρ c)

theorem W11_v13 (c : Dev nD) : (W11 m ρ c (Proc.devRef .tc main_v13) : FVec Ideal S4x704x1024 .bf16) = dOut (act (Xc m c) (Wc m c)) (Dc m c) :=
  (W11_of m ρ c main_v13 (by decide +kernel)).trans (W10_v13 m ρ c)

theorem W10_v15 (c : Dev nD) : (W10 m ρ c (Proc.devRef .tc main_v15) : FVec Ideal S2x4x1024x704 .bf16) = dIn (Xc m c) (Hc m c) :=
  (W10_of m ρ c main_v15 (by decide +kernel)).trans (W9_v15 m ρ c)

theorem W11_v15 (c : Dev nD) : (W11 m ρ c (Proc.devRef .tc main_v15) : FVec Ideal S2x4x1024x704 .bf16) = dIn (Xc m c) (Hc m c) :=
  (W11_of m ρ c main_v15 (by decide +kernel)).trans (W10_v15 m ρ c)

theorem W11_v16 (c : Dev nD) : (W11 m ρ c (Proc.devRef .tc main_v16) : FVec Ideal S4096x1024 .f32) = dX (Hc m c) (Wc m c) (dSum (Nc m c) (Rc m c) (m ((c : Thread nD τ).loc main_arg3) : FVec Ideal S1x1024 .f32)) :=
  (W11_of m ρ c main_v16 (by decide +kernel)).trans (W10_v16 m ρ c)

theorem W7_v12_2 (c : Dev nD) : (W7 m ρ c (Proc.devRef .tc main_v12_2) : FVec Ideal S8x1024 .f32) = dScale (Nc m c) (Rc m c) :=
  (W7_of m ρ c main_v12_2 (by decide +kernel)).trans (W6_v12_2 m ρ c)

theorem W8_v12_2 (c : Dev nD) : (W8 m ρ c (Proc.devRef .tc main_v12_2) : FVec Ideal S8x1024 .f32) = dScale (Nc m c) (Rc m c) :=
  (W8_of m ρ c main_v12_2 (by decide +kernel)).trans (W7_v12_2 m ρ c)

theorem W9_v12_2 (c : Dev nD) : (W9 m ρ c (Proc.devRef .tc main_v12_2) : FVec Ideal S8x1024 .f32) = dScale (Nc m c) (Rc m c) :=
  (W9_of m ρ c main_v12_2 (by decide +kernel)).trans (W8_v12_2 m ρ c)

theorem W10_v12_2 (c : Dev nD) : (W10 m ρ c (Proc.devRef .tc main_v12_2) : FVec Ideal S8x1024 .f32) = dScale (Nc m c) (Rc m c) :=
  (W10_of m ρ c main_v12_2 (by decide +kernel)).trans (W9_v12_2 m ρ c)

theorem W7_v12_3 (c : Dev nD) : (W7 m ρ c (Proc.devRef .tc main_v12_3) : FVec Ideal S8x1024 .f32) = dShift (Nc m c) :=
  (W7_of m ρ c main_v12_3 (by decide +kernel)).trans (W6_v12_3 m ρ c)

theorem W8_v12_3 (c : Dev nD) : (W8 m ρ c (Proc.devRef .tc main_v12_3) : FVec Ideal S8x1024 .f32) = dShift (Nc m c) :=
  (W8_of m ρ c main_v12_3 (by decide +kernel)).trans (W7_v12_3 m ρ c)

theorem W9_v12_3 (c : Dev nD) : (W9 m ρ c (Proc.devRef .tc main_v12_3) : FVec Ideal S8x1024 .f32) = dShift (Nc m c) :=
  (W9_of m ρ c main_v12_3 (by decide +kernel)).trans (W8_v12_3 m ρ c)

theorem W10_v12_3 (c : Dev nD) : (W10 m ρ c (Proc.devRef .tc main_v12_3) : FVec Ideal S8x1024 .f32) = dShift (Nc m c) :=
  (W10_of m ρ c main_v12_3 (by decide +kernel)).trans (W9_v12_3 m ρ c)

/-- The sum of an accumulator's eight rows. -/
def rowsSum (a : FVec Ideal S8x1024 .f32) : FVec Ideal S1x1024 .f32 := fun i => (∑ k : Fin 8, a (ix2 k (i 1)) : EReal)

theorem W11_v18 (c : Dev nD) : (W11 m ρ c (Proc.devRef .tc main_v18) : FVec Ideal S1x1024 .f32) = rowsSum (dScale (Nc m c) (Rc m c)) := by
  have h := W10_v12_2 m ρ c
  generalize dScale (Nc m c) (Rc m c) = a at *
  simp only [W11]
  generalize W10 m ρ c = L at *
  after_results
  rw [show L (Proc.devRef .tc main_v12_2) = a from h]
  funext i
  idx_vars i
  pointwise [rowsSum]

theorem W11_v20 (c : Dev nD) : (W11 m ρ c (Proc.devRef .tc main_v20) : FVec Ideal S1x1024 .f32) = rowsSum (dShift (Nc m c)) := by
  have h := W10_v12_3 m ρ c
  generalize dShift (Nc m c) = a at *
  simp only [W11]
  generalize W10 m ρ c = L at *
  after_results
  rw [show L (Proc.devRef .tc main_v12_3) = a from h]
  funext i
  idx_vars i
  pointwise [rowsSum]

end Cert.Kernel2Ideal.Half

end
-- ==== Proof.HalfChain.lean ====
/-
  The reference's stages of the layer norm and of its backward pass, row by row: the row functions of the layer norm, with the
  gradient as the chain rule gives it.
-/
module

public import proofs.«01_k».proof.Proof.HalfRows
public import proofs.«01_k».proof.Proof.Gen.Reference2Ideal.Read

@[expose] public section

set_option maxRecDepth 16384

noncomputable section

open Idealize.ShloMosaic Idealize.ShloMosaic.TcCoe Idealize.SL.Sem

namespace Cert.Half

open Cert.Kernel2Ideal (S4096x1024 S1024x5632 S2816x1024 S1x1024 S1024x3584 S4096x3584)
open Cert.Kernel2Ideal.Half
open Cert.Reference2Ideal.Read

variable (x0 : FVec Ideal S4096x1024 .f32) (x1 : FVec Ideal S1024x5632 .f32) (x2 : FVec Ideal S2816x1024 .f32) (x3 x4 : FVec Ideal S1x1024 .f32)
  (x5 : FVec Ideal S1024x3584 .f32) (x6 : FVec Ideal S4096x3584 .f32) (x7 : FVec Ideal S4096x1024 .f32)

/-- Row `t` of the sum before the layer norm, and of the gradient of the normalised row. -/
abbrev R (t : Fin 4096) : Fin 1024 → EReal := rowOf (val_main_v10 (F := Ideal) x0 x1 x2) t
abbrev D (t : Fin 4096) : Fin 1024 → EReal := rowOf (val_main_v53 (F := Ideal) x3 x5 x6 x7) t

theorem v14_at (t : Fin 4096) : (val_main_v14 (F := Ideal) x0 x1 x2 (ix2 t (0 : Fin 1)) : EReal) = Norm.mean (R x0 x1 x2 t) := by
  unfold val_main_v14 val_main_v12 val_main_v11 R
  generalize val_main_v10 (F := Ideal) x0 x1 x2 = r
  pointwise [val_main_v13, val_main_cst_2, val_main_cst_1, Norm.mean, Norm.width, rowOf]

theorem v16_at (t : Fin 4096) (l : Fin 1024) : (val_main_v16 (F := Ideal) x0 x1 x2 (ix2 t l) : EReal) = Norm.cen (R x0 x1 x2 t) l := by
  have e := v14_at x0 x1 x2 t
  unfold val_main_v16 val_main_v15
  generalize val_main_v14 (F := Ideal) x0 x1 x2 = m at *
  unfold R at *
  generalize val_main_v10 (F := Ideal) x0 x1 x2 = r at *
  pointwise [Norm.cen]
  rw [e]
  rfl

theorem v25_at (t : Fin 4096) (l : Fin 1024) : (val_main_v25 (F := Ideal) x0 x1 x2 (ix2 t l) : EReal) = Norm.cen (R x0 x1 x2 t) l :=
  v16_at x0 x1 x2 t l

theorem v19_at (t : Fin 4096) (l : Fin 1024) :
    (val_main_v19 (F := Ideal) x0 x1 x2 (ix2 t l) : EReal) = Ideal.ofBits .f32 0x40000000#32 * Norm.cen (R x0 x1 x2 t) l := by
  rw [← v16_at x0 x1 x2 t l]
  unfold val_main_v19
  generalize val_main_v16 (F := Ideal) x0 x1 x2 = a
  pointwise [val_main_v18, val_main_cst_3]

theorem v27_at (t : Fin 4096) : (val_main_v27 (F := Ideal) x0 x1 x2 (ix2 t (0 : Fin 1)) : EReal) = Norm.vr (R x0 x1 x2 t) := by
  have e (l : Fin 1024) := v16_at x0 x1 x2 t l
  unfold val_main_v27 val_main_v23 val_main_v21 val_main_v20 val_main_v17
  generalize val_main_v16 (F := Ideal) x0 x1 x2 = a at *
  generalize R x0 x1 x2 t = r at *
  pointwise [val_main_v22, val_main_v26, val_main_cst_4, val_main_cst_5, val_main_cst_6, Norm.vr, Norm.mean, Norm.width]
  simp only [e]

theorem v28_at (t : Fin 4096) : (val_main_v28 (F := Ideal) x0 x1 x2 (ix2 t (0 : Fin 1)) : EReal) = Norm.rs (R x0 x1 x2 t) := by
  have e := v27_at x0 x1 x2 t
  unfold val_main_v28
  generalize val_main_v27 (F := Ideal) x0 x1 x2 = a at *
  pointwise [Norm.rs]
  rw [e]

theorem v31_at (t : Fin 4096) : (val_main_v31 (F := Ideal) x0 x1 x2 (ix2 t (0 : Fin 1)) : EReal) =
    Ideal.ofBits .f32 0xBF000000#32 * Ideal.div (Norm.rs (R x0 x1 x2 t)) (Norm.vr (R x0 x1 x2 t)) := by
  have e := v27_at x0 x1 x2 t
  have e' := v28_at x0 x1 x2 t
  unfold val_main_v31 val_main_v29
  generalize val_main_v27 (F := Ideal) x0 x1 x2 = a at *
  generalize val_main_v28 (F := Ideal) x0 x1 x2 = b at *
  pointwise [val_main_v30, val_main_cst_7]
  rw [e, e']

theorem v33_at (t : Fin 4096) (l : Fin 1024) : (val_main_v33 (F := Ideal) x0 x1 x2 (ix2 t l) : EReal) = Norm.xh (R x0 x1 x2 t) l := by
  have e := v25_at x0 x1 x2 t l
  have e' := v28_at x0 x1 x2 t
  unfold val_main_v33 val_main_v32
  generalize val_main_v25 (F := Ideal) x0 x1 x2 = a at *
  generalize val_main_v28 (F := Ideal) x0 x1 x2 = b at *
  pointwise [Norm.xh]
  rw [e, e']

theorem v37_at (t : Fin 4096) (l : Fin 1024) : (val_main_v37 (F := Ideal) x0 x1 x2 x3 x4 (ix2 t l) : EReal) =
    Norm.xh (R x0 x1 x2 t) l * x3 (ix2 (0 : Fin 1) l) + x4 (ix2 (0 : Fin 1) l) := by
  rw [← v33_at]
  unfold val_main_v37 val_main_v35
  generalize val_main_v33 (F := Ideal) x0 x1 x2 = a
  pointwise [val_main_v34, val_main_v36]

theorem v53_at (t : Fin 4096) : D x3 x5 x6 x7 t = scaledRow (val_main_v46 (F := Ideal) x5 x6 x7) x3 t := by
  funext l
  unfold D val_main_v53
  generalize val_main_v46 (F := Ideal) x5 x6 x7 = a
  pointwise [val_main_v52, scaledRow, rowOf]

theorem v56_at (t : Fin 4096) : (val_main_v56 (F := Ideal) x0 x1 x2 x3 x5 x6 x7 (ix2 t (0 : Fin 1)) : EReal) =
    ∑ k, Norm.cen (R x0 x1 x2 t) k * D x3 x5 x6 x7 t k := by
  have e (l : Fin 1024) := v25_at x0 x1 x2 t l
  unfold val_main_v56 val_main_v55 val_main_v54 D
  generalize val_main_v25 (F := Ideal) x0 x1 x2 = a at *
  generalize val_main_v53 (F := Ideal) x3 x5 x6 x7 = d
  generalize R x0 x1 x2 t = r at *
  pointwise [val_main_cst_12, rowOf]
  simp only [e]

theorem v58_at (t : Fin 4096) (l : Fin 1024) : (val_main_v58 (F := Ideal) x0 x1 x2 x3 x5 x6 x7 (ix2 t l) : EReal) =
    D x3 x5 x6 x7 t l * Norm.rs (R x0 x1 x2 t) := by
  have e := v28_at x0 x1 x2 t
  unfold val_main_v58 val_main_v57 D
  generalize val_main_v28 (F := Ideal) x0 x1 x2 = a at *
  generalize val_main_v53 (F := Ideal) x3 x5 x6 x7 = d
  pointwise [rowOf]
  rw [e]

theorem v67_at (t : Fin 4096) (l : Fin 1024) : (val_main_v67 (F := Ideal) x0 x1 x2 x3 x5 x6 x7 (ix2 t l) : EReal) =
    Norm.spread (R x0 x1 x2 t) (D x3 x5 x6 x7 t) l := by
  have e1 := v56_at x0 x1 x2 x3 x5 x6 x7 t
  have e2 := v31_at x0 x1 x2 t
  have e3 := v19_at x0 x1 x2 t l
  unfold val_main_v67 val_main_v66 val_main_v65 val_main_v64 val_main_v59
  generalize val_main_v56 (F := Ideal) x0 x1 x2 x3 x5 x6 x7 = a at *
  generalize val_main_v31 (F := Ideal) x0 x1 x2 = b at *
  generalize val_main_v19 (F := Ideal) x0 x1 x2 = c at *
  pointwise [val_main_cst_14, val_main_cst_15, val_main_v63, Norm.spread, Norm.width]
  rw [Fin.sum_univ_one, ← e3, ← e2, ← e1]

theorem v62_at (t : Fin 4096) : (val_main_v62 (F := Ideal) x0 x1 x2 x3 x5 x6 x7 (ix2 t (0 : Fin 1)) : EReal) =
    ∑ k, -(D x3 x5 x6 x7 t k * Norm.rs (R x0 x1 x2 t)) := by
  have e (l : Fin 1024) := v58_at x0 x1 x2 x3 x5 x6 x7 t l
  unfold val_main_v62 val_main_v61 val_main_v60
  generalize val_main_v58 (F := Ideal) x0 x1 x2 x3 x5 x6 x7 = a at *
  pointwise [val_main_cst_13]
  simp only [e]

theorem v70_at (t : Fin 4096) : (val_main_v70 (F := Ideal) x0 x1 x2 x3 x5 x6 x7 (ix2 t (0 : Fin 1)) : EReal) =
    ∑ k, -Norm.spread (R x0 x1 x2 t) (D x3 x5 x6 x7 t) k := by
  have e (l : Fin 1024) := v67_at x0 x1 x2 x3 x5 x6 x7 t l
  unfold val_main_v70 val_main_v69 val_main_v68
  generalize val_main_v67 (F := Ideal) x0 x1 x2 x3 x5 x6 x7 = a at *
  pointwise [val_main_cst_16]
  simp only [e]

theorem v77_at (t : Fin 4096) (l : Fin 1024) : (val_main_v77 (F := Ideal) x0 x1 x2 x3 x5 x6 x7 (ix2 t l) : EReal) =
    Norm.chain (R x0 x1 x2 t) (D x3 x5 x6 x7 t) l := by
  have e1 := v58_at x0 x1 x2 x3 x5 x6 x7 t l
  have e2 := v67_at x0 x1 x2 x3 x5 x6 x7 t l
  have e3 := v62_at x0 x1 x2 x3 x5 x6 x7 t
  have e4 := v70_at x0 x1 x2 x3 x5 x6 x7 t
  unfold val_main_v77 val_main_v71 val_main_v76 val_main_v75 val_main_v74 val_main_v72
  generalize val_main_v58 (F := Ideal) x0 x1 x2 x3 x5 x6 x7 = a at *
  generalize val_main_v67 (F := Ideal) x0 x1 x2 x3 x5 x6 x7 = b at *
  generalize val_main_v62 (F := Ideal) x0 x1 x2 x3 x5 x6 x7 = c at *
  generalize val_main_v70 (F := Ideal) x0 x1 x2 x3 x5 x6 x7 = d at *
  pointwise [val_main_v73, val_main_cst_17, val_main_cst_18, Norm.chain]
  rw [Fin.sum_univ_one, ← e4, ← e3, ← e2, ← e1]
  rfl

end Cert.Half

end
-- ==== Proof.HalfEqual.lean ====
/-
  The calls' arrays against the reference's stages: the same products over the same entries, and two identities of
  real functions where the two write a derivative differently, the gate's and the layer norm's.
-/
module

public import proofs.«01_k».proof.Proof.HalfRun
public import proofs.«01_k».proof.Proof.HalfChain
public import proofs.«01_k».proof.Proof.Consts

@[expose] public section

set_option maxRecDepth 16384

noncomputable section

open Idealize.ShloMosaic Idealize.ShloMosaic.TcCoe Idealize.SL.Sem

namespace Cert.Half

open Cert.Kernel2Ideal (S4096x1024 S1024x5632 S2816x1024 S4x2x4096x704 S2x4x1024x704 S4x704x1024 S4x4096x704 S1x1024 S1024x3584 S4096x3584)
open Cert.Kernel2Ideal.Half
open Cert.Consts

/-- A value that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {n : ℕ} (f : Fin n → EReal) (h : ∀ k, IsReal (f k)) : IsReal (∑ k, f k) := by
  induction n with
  | zero => exact ⟨0, by simp⟩
  | succ n ih =>
    rw [Fin.sum_univ_succ]
    exact (h 0).add (ih _ fun k => h k.succ)

theorem alpha_word : Ideal.ofBits .f32 0x3F9837F0#32 = ((623487 / 524288 : ℝ) : EReal) := by
  simp [Ideal.ofBits, Ideal.ieee, -EReal.coe_mul]; norm_num

theorem sigmoid_real (v : ℝ) : 1 / 2 * Real.tanh (1 / 2 * v) + 1 / 2 = 1 / (1 + Real.exp (-v)) := by
  have h : v = 1 / 2 * v + 1 / 2 * v := by ring
  have e : Real.exp (-v) = Real.exp (-(1 / 2 * v)) * Real.exp (-(1 / 2 * v)) := by
    rw [← Real.exp_add]; congr 1; linarith
  have i : Real.exp (1 / 2 * v) * Real.exp (-(1 / 2 * v)) = 1 := by rw [← Real.exp_add]; simp
  have p := Real.exp_pos (1 / 2 * v)
  have q := Real.exp_pos (-(1 / 2 * v))
  rw [Real.tanh_eq_sinh_div_cosh, Real.sinh_eq, Real.cosh_eq, e]
  generalize Real.exp (1 / 2 * v) = a at *
  generalize Real.exp (-(1 / 2 * v)) = b at *
  have s : 0 < a + b := by linarith
  field_simp
  linear_combination (2 * b) * i

/-- The reference's sigmoid. -/
def logistic (v : ℝ) : ℝ := 1 / (1 + Real.exp (-v))

theorem sgm_real (v : ℝ) : sgm (v : EReal) = (logistic v : EReal) := by
  rw [sgm, half_word, ← EReal.coe_mul, Ideal.tanh_coe, ← EReal.coe_mul, ← EReal.coe_add, sigmoid_real]
  rfl

theorem logistic_word (v : ℝ) : Ideal.div (Ideal.ofBits .f32 0x3F800000#32) (Ideal.ofBits .f32 0x3F800000#32 + Ideal.exp (-(v : EReal))) = (logistic v : EReal) := by
  have p := Real.exp_pos (-v)
  rw [one_word, ← EReal.coe_neg, Ideal.exp_coe, ← EReal.coe_add, Ideal.div_coe (by linarith), ← EReal.coe_mul, one_mul]
  rfl

/-- The gate's cotangent, as the reference writes it. -/
theorem gate_real (a g u : ℝ) :
    dGate (a : EReal) g u = (a : EReal) * u * logistic g + (g : EReal) * (a * u) * (logistic g * (((1 : ℝ) : EReal) - logistic g)) := by
  rw [dGate, sgm_real, one_word]
  simp only [← EReal.coe_mul, ← EReal.coe_sub, ← EReal.coe_add]
  congr 1
  ring

open Cert.Reference2Ideal.Read

/-- Column `f` of block `j` of part `s`. -/
def col (s : Fin 2) (j : Fin 4) (f : Fin 704) : Fin 5632 := ⟨s.val * 2816 + j.val * 704 + f.val, by omega⟩

/-- Row `f` of block `j`. -/
def row (j : Fin 4) (f : Fin 704) : Fin 2816 := ⟨j.val * 704 + f.val, by omega⟩

theorem blocksIn_at (x1 : FVec Ideal S1024x5632 .f32) (s : Fin 2) (j : Fin 4) (k : Fin 1024) (f : Fin 704) :
    (blocksIn x1 (ix4 s j k f) : EReal) = x1 (ix2 k (col s j f)) := by
  pointwise [blocksIn, col]
  blk_ext

theorem blocksOut_at (x2 : FVec Ideal S2816x1024 .f32) (j : Fin 4) (f : Fin 704) (k : Fin 1024) :
    (blocksOut x2 (ix3 j f k) : EReal) = x2 (ix2 (row j f) k) := by
  pointwise [blocksOut, row]
  blk_ext

theorem ext2 {n m : ℕ} (a b : (⟨2, ![n, m]⟩ : Shape).Idx) (h0 : (a 0).val = (b 0).val) (h1 : (a 1).val = (b 1).val) : a = b := by
  funext q
  match q with
  | ⟨0, _⟩ => exact Fin.ext h0
  | ⟨1, _⟩ => exact Fin.ext h1

/-- The 2816 rows, block by block. -/
theorem sum_rows (g : Fin 2816 → EReal) : ∑ k, g k = ∑ j : Fin 4, ∑ f : Fin 704, g (row j f) :=
  Fin.sum_univ_tiles 4 704 rfl g

variable (x0 : FVec Ideal S4096x1024 .f32) (x1 : FVec Ideal S1024x5632 .f32) (x2 : FVec Ideal S2816x1024 .f32) (x3 x4 : FVec Ideal S1x1024 .f32)
  (x5 : FVec Ideal S1024x3584 .f32) (x6 : FVec Ideal S4096x3584 .f32) (x7 : FVec Ideal S4096x1024 .f32)

/-- The sum before the layer norm, the cotangent of the layer norm's result, and half the sum's cotangent, as the calls compute them. -/
abbrev preK : FVec Ideal S4096x1024 .f32 := pre (act (low x0) (blocksIn x1)) (blocksOut x2) x0
abbrev normK : FVec Ideal S4096x1024 .f32 := dNorm x6 (lowMix x5) x7
abbrev halfK : FVec Ideal S4096x1024 .bf16 := halfSum (normK x5 x6 x7) (preK x0 x1 x2) x3

theorem hid_at (j : Fin 4) (s : Fin 2) (t : Fin 4096) (f : Fin 704) :
    (hid (low x0) (blocksIn x1) (ix4 j s t f) : EReal) = val_main_v0 (F := Ideal) x0 x1 (ix2 t (col s j f)) := by
  rw [val_main_v0_apply]
  refine Finset.sum_congr rfl fun k _ => ?_
  exact congrArg₂ (· * ·) (congrArg x0 (ext2 _ _ rfl rfl)) ((blocksIn_at x1 s j k f).trans (congrArg x1 (ext2 _ _ rfl rfl)))

theorem v1_at (j : Fin 4) (t : Fin 4096) (f : Fin 704) :
    (val_main_v1 (F := Ideal) x0 x1 (ix2 t (row j f)) : EReal) = hid (low x0) (blocksIn x1) (ix4 j (0 : Fin 2) t f) := by
  rw [val_main_v1_apply, hid_at]
  exact congrArg _ (ext2 _ _ (by simp [row, col]) (by simp [row, col]))

theorem v2_at (j : Fin 4) (t : Fin 4096) (f : Fin 704) :
    (val_main_v2 (F := Ideal) x0 x1 (ix2 t (row j f)) : EReal) = hid (low x0) (blocksIn x1) (ix4 j (1 : Fin 2) t f) := by
  rw [val_main_v2_apply, hid_at]
  exact congrArg _ (ext2 _ _ (by simp [row, col]) (by simp [row, col]; omega))

theorem v10_at (t : Fin 4096) (d : Fin 1024) : (val_main_v10 (F := Ideal) x0 x1 x2 (ix2 t d) : EReal) =
    Ideal.ofBits .f32 0x3F9837F0#32 * x0 (ix2 t d) + Ideal.ofBits .f32 0x3F000000#32 *
      ∑ j : Fin 4, ∑ f : Fin 704, (val_main_v6 (F := Ideal) x0 x1 (ix2 t (row j f)) : EReal) * x2 (ix2 (row j f) d) := by
  have e : (val_main_v7 (F := Ideal) x0 x1 x2 (ix2 t d) : EReal) =
      ∑ k : Fin 2816, (val_main_v6 (F := Ideal) x0 x1 (ix2 t k) : EReal) * x2 (ix2 k d) := by
    rw [val_main_v7_apply]
    exact Finset.sum_congr rfl fun k _ => congrArg₂ (· * ·) (congrArg _ (ext2 _ _ rfl rfl)) (congrArg x2 (ext2 _ _ rfl rfl))
  rw [← sum_rows fun k => (val_main_v6 (F := Ideal) x0 x1 (ix2 t k) : EReal) * x2 (ix2 k d), ← e]
  unfold val_main_v10 val_main_v9
  generalize val_main_v7 (F := Ideal) x0 x1 x2 = a
  pointwise [val_main_v4, val_main_v3, val_main_cst, val_main_v8, val_main_cst_0]

/-- The cotangent of the layer norm's result. -/
theorem v46_at (t : Fin 4096) (d : Fin 1024) : (val_main_v46 (F := Ideal) x5 x6 x7 (ix2 t d) : EReal) =
    (∑ k : Fin 3584, (x6 (ix2 t k) : EReal) * x5 (ix2 d k)) + Ideal.ofBits .f32 0x3F9837F0#32 * x7 (ix2 t d) := by
  have e : (val_main_v45 (F := Ideal) x5 x6 (ix2 t d) : EReal) = ∑ k : Fin 3584, (x6 (ix2 t k) : EReal) * x5 (ix2 d k) := by
    rw [val_main_v45_apply]
    exact Finset.sum_congr rfl fun k _ => congrArg₂ (· * ·) (congrArg x6 (ext2 _ _ rfl rfl)) (congrArg x5 (ext2 _ _ rfl rfl))
  rw [← e, add_comm]
  unfold val_main_v46
  generalize val_main_v45 (F := Ideal) x5 x6 = a
  pointwise [val_main_v42, val_main_v41, val_main_cst_9]

theorem norm_eq : normK x5 x6 x7 = val_main_v46 (F := Ideal) x5 x6 x7 := by
  funext i
  idx_vars i
  exact (v46_at x5 x6 x7 i0 i1).symm

/-- Every argument but the layer norm's shift is an array of real numbers. -/
structure Finite : Prop where
  h0 : ∀ i, IsReal (x0 i)
  h1 : ∀ i, IsReal (x1 i)
  h2 : ∀ i, IsReal (x2 i)
  h3 : ∀ i, IsReal (x3 i)
  h5 : ∀ i, IsReal (x5 i)
  h6 : ∀ i, IsReal (x6 i)
  h7 : ∀ i, IsReal (x7 i)

variable {x0 x1 x2 x3 x4 x5 x6 x7} (H : Finite x0 x1 x2 x3 x5 x6 x7)
include H

theorem hid_real (j : Fin 4) (s : Fin 2) (t : Fin 4096) (f : Fin 704) : IsReal (hid (low x0) (blocksIn x1) (ix4 j s t f)) := by
  rw [hid_at, val_main_v0_apply]
  exact IsReal.sum _ fun k => (H.h0 _).mul (H.h1 _)

theorem sig_at (j : Fin 4) (t : Fin 4096) (f : Fin 704) {g : ℝ} (hg : hid (low x0) (blocksIn x1) (ix4 j (0 : Fin 2) t f) = (g : EReal)) :
    (val_main_v5_2 (F := Ideal) x0 x1 (ix2 t (row j f)) : EReal) = (logistic g : EReal) := by
  have e := (v1_at x0 x1 j t f).trans hg
  refine Eq.trans ?_ (logistic_word g)
  rw [← e]
  pointwise [val_main_v5_2, val_main_call0_v4, val_main_call0_v3, val_main_call0_v2, val_main_call0_v1, val_main_call0_v0, val_main_call0_cst, val_main_call0_cst_0]

theorem act_at (j : Fin 4) (t : Fin 4096) (f : Fin 704) :
    (act (low x0) (blocksIn x1) (ix3 j t f) : EReal) = val_main_v6 (F := Ideal) x0 x1 (ix2 t (row j f)) := by
  obtain ⟨g, hg⟩ := hid_real H j 0 t f
  have e : (val_main_v6 (F := Ideal) x0 x1 (ix2 t (row j f)) : EReal) =
      val_main_v1 (F := Ideal) x0 x1 (ix2 t (row j f)) * val_main_v5_2 (F := Ideal) x0 x1 (ix2 t (row j f)) * val_main_v2 (F := Ideal) x0 x1 (ix2 t (row j f)) := rfl
  rw [e, sig_at H j t f hg, v1_at, v2_at, hg]
  refine congrArg₂ (· * ·) ?_ rfl
  rw [← sgm_real, ← hg]
  rfl

theorem v6_real (j : Fin 4) (t : Fin 4096) (f : Fin 704) : IsReal (val_main_v6 (F := Ideal) x0 x1 (ix2 t (row j f))) := by
  obtain ⟨g, hg⟩ := hid_real H j 0 t f
  have e : (val_main_v6 (F := Ideal) x0 x1 (ix2 t (row j f)) : EReal) =
      val_main_v1 (F := Ideal) x0 x1 (ix2 t (row j f)) * val_main_v5_2 (F := Ideal) x0 x1 (ix2 t (row j f)) * val_main_v2 (F := Ideal) x0 x1 (ix2 t (row j f)) := rfl
  rw [e, sig_at H j t f hg, v1_at, v2_at]
  exact ((hid_real H j 0 t f).mul ⟨_, rfl⟩).mul (hid_real H j 1 t f)

theorem pre_eq : preK x0 x1 x2 = val_main_v10 (F := Ideal) x0 x1 x2 := by
  funext i
  idx_vars i
  refine Eq.trans ?_ (v10_at x0 x1 x2 i0 i1).symm
  simp only [Fin.sum_univ_four, ← act_at H, ← blocksOut_at x2]
  rfl

theorem v10_real (t : Fin 4096) : Norm.RealRow (R x0 x1 x2 t) := fun l => by
  have e := v10_at x0 x1 x2 t l
  refine (show IsReal (val_main_v10 (F := Ideal) x0 x1 x2 (ix2 t l)) from ?_)
  rw [e, alpha_word, half_word]
  exact (IsReal.mul ⟨_, rfl⟩ (H.h0 _)).add (IsReal.mul ⟨_, rfl⟩ (IsReal.sum _ fun j => IsReal.sum _ fun f => (v6_real H j t f).mul (H.h2 _)))

theorem v46_real (t : Fin 4096) (l : Fin 1024) : IsReal (val_main_v46 (F := Ideal) x5 x6 x7 (ix2 t l)) := by
  rw [v46_at, alpha_word]
  exact (IsReal.sum _ fun k => (H.h6 _).mul (H.h5 _)).add (IsReal.mul ⟨_, rfl⟩ (H.h7 _))

theorem v53_real (t : Fin 4096) : Norm.RealRow (D x3 x5 x6 x7 t) := fun l => by
  rw [v53_at]
  exact (v46_real H t l).mul (H.h3 _)

theorem v77_row (t : Fin 4096) (l : Fin 1024) : (val_main_v77 (F := Ideal) x0 x1 x2 x3 x5 x6 x7 (ix2 t l) : EReal) =
    Norm.grad (R x0 x1 x2 t) (D x3 x5 x6 x7 t) l :=
  (v77_at x0 x1 x2 x3 x5 x6 x7 t l).trans (Norm.chain_eq (v10_real H t) (v53_real H t) l)

theorem v77_real (t : Fin 4096) (l : Fin 1024) : IsReal (val_main_v77 (F := Ideal) x0 x1 x2 x3 x5 x6 x7 (ix2 t l)) := by
  rw [v77_row H]
  exact Norm.grad_real (v10_real H t) (v53_real H t) l

/-- The cotangent of the sum before the layer norm. -/
theorem sum_eq : dSum (normK x5 x6 x7) (preK x0 x1 x2) x3 = val_main_v77 (F := Ideal) x0 x1 x2 x3 x5 x6 x7 := by
  rw [norm_eq, pre_eq H]
  funext i
  idx_vars i
  refine Eq.trans ?_ (v77_row H i0 i1).symm
  rw [v53_at]
  rfl

theorem half_at (t : Fin 4096) (k : Fin 1024) : (halfK x0 x1 x2 x3 x5 x6 x7 (ix2 t k) : EReal) = val_main_v79 (F := Ideal) x0 x1 x2 x3 x5 x6 x7 (ix2 t k) := by
  have e : (halfK x0 x1 x2 x3 x5 x6 x7 (ix2 t k) : EReal) =
      Ideal.ofBits .f32 0x3F000000#32 * dSum (normK x5 x6 x7) (preK x0 x1 x2) x3 (ix2 t k) := rfl
  rw [e, sum_eq H]
  unfold val_main_v79
  generalize val_main_v77 (F := Ideal) x0 x1 x2 x3 x5 x6 x7 = a
  pointwise [val_main_v78, val_main_cst_19]

theorem half_real (t : Fin 4096) (k : Fin 1024) : IsReal (halfK x0 x1 x2 x3 x5 x6 x7 (ix2 t k)) := by
  have e : (halfK x0 x1 x2 x3 x5 x6 x7 (ix2 t k) : EReal) =
      Ideal.ofBits .f32 0x3F000000#32 * dSum (normK x5 x6 x7) (preK x0 x1 x2) x3 (ix2 t k) := rfl
  rw [e, sum_eq H, half_word]
  exact IsReal.mul ⟨_, rfl⟩ (v77_real H t k)

theorem dAct_at (j : Fin 4) (t : Fin 4096) (f : Fin 704) :
    dAct (halfK x0 x1 x2 x3 x5 x6 x7) (blocksOut x2) j t f = val_main_v82 (F := Ideal) x0 x1 x2 x3 x5 x6 x7 (ix2 t (row j f)) := by
  rw [val_main_v82_apply]
  refine Finset.sum_congr rfl fun k _ => ?_
  exact congrArg₂ (· * ·) ((half_at H t k).trans (congrArg _ (ext2 _ _ rfl rfl))) ((blocksOut_at x2 j f k).trans (congrArg x2 (ext2 _ _ rfl rfl)))

theorem dAct_real (j : Fin 4) (t : Fin 4096) (f : Fin 704) : IsReal (dAct (halfK x0 x1 x2 x3 x5 x6 x7) (blocksOut x2) j t f) := by
  refine IsReal.sum _ fun k => (half_real H t k).mul ?_
  rw [blocksOut_at]
  exact H.h2 _

theorem up_at (j : Fin 4) (t : Fin 4096) (f : Fin 704) :
    (dHid (halfK x0 x1 x2 x3 x5 x6 x7) (blocksOut x2) (hid (low x0) (blocksIn x1)) (ix4 j (1 : Fin 2) t f) : EReal) =
      val_main_v83 (F := Ideal) x0 x1 x2 x3 x5 x6 x7 (ix2 t (row j f)) := by
  obtain ⟨g, hg⟩ := hid_real H j 0 t f
  have e : (val_main_v83 (F := Ideal) x0 x1 x2 x3 x5 x6 x7 (ix2 t (row j f)) : EReal) =
      val_main_v1 (F := Ideal) x0 x1 (ix2 t (row j f)) * val_main_v5_2 (F := Ideal) x0 x1 (ix2 t (row j f)) * val_main_v82 (F := Ideal) x0 x1 x2 x3 x5 x6 x7 (ix2 t (row j f)) := rfl
  rw [e, sig_at H j t f hg, v1_at, ← dAct_at H, hg]
  refine (dHid_up _ _ _ _ (Nat.one_ne_zero)).trans ((mul_comm _ _).trans (congrArg₂ (· * ·) ?_ rfl))
  refine (congrArg (fun v : EReal => v * sgm v) hg).trans ?_
  simp only [sgm_real]

theorem gate_at (j : Fin 4) (t : Fin 4096) (f : Fin 704) :
    (dHid (halfK x0 x1 x2 x3 x5 x6 x7) (blocksOut x2) (hid (low x0) (blocksIn x1)) (ix4 j (0 : Fin 2) t f) : EReal) =
      val_main_v85 (F := Ideal) x0 x1 x2 x3 x5 x6 x7 (ix2 t (row j f)) := by
  obtain ⟨g, hg⟩ := hid_real H j 0 t f
  obtain ⟨u, hu⟩ := hid_real H j 1 t f
  obtain ⟨a, ha⟩ := dAct_real H j t f
  have e : (val_main_v85 (F := Ideal) x0 x1 x2 x3 x5 x6 x7 (ix2 t (row j f)) : EReal) =
      val_main_v82 (F := Ideal) x0 x1 x2 x3 x5 x6 x7 (ix2 t (row j f)) * val_main_v2 (F := Ideal) x0 x1 (ix2 t (row j f)) * val_main_v5_2 (F := Ideal) x0 x1 (ix2 t (row j f))
      + val_main_v1 (F := Ideal) x0 x1 (ix2 t (row j f)) * (val_main_v82 (F := Ideal) x0 x1 x2 x3 x5 x6 x7 (ix2 t (row j f)) * val_main_v2 (F := Ideal) x0 x1 (ix2 t (row j f)))
        * (val_main_v5_2 (F := Ideal) x0 x1 (ix2 t (row j f)) * (Ideal.ofBits .f32 0x3F800000#32 - val_main_v5_2 (F := Ideal) x0 x1 (ix2 t (row j f)))) := by
    unfold val_main_v85 val_main_call1_v1 val_main_call1_v2 val_main_call1_v0 val_main_v84
    generalize val_main_v82 (F := Ideal) x0 x1 x2 x3 x5 x6 x7 = b
    pointwise [val_main_v5_1, val_main_call0_v7, val_main_call0_v6, val_main_call0_cst_1]
  rw [e, sig_at H j t f hg, v1_at, v2_at, ← dAct_at H, hg, hu, ha, one_word, ← gate_real]
  refine (dHid_gate _ _ _ _ rfl).trans ?_
  exact congr (congrArg₂ dGate ha hg) hu

end Cert.Half

end
-- ==== Proof.HalfResults.lean ====
/-
  The seven results of the half-step, the layer norm and the mixers' projection are the reference's.
-/
module

public import proofs.«01_k».proof.Proof.HalfEqual

@[expose] public section

set_option maxRecDepth 16384

noncomputable section

open Idealize.ShloMosaic Idealize.ShloMosaic.TcCoe Idealize.SL.Sem

namespace Cert.Half

open Cert.Kernel2Ideal (S4096x1024 S1024x5632 S2816x1024 S4x2x4096x704 S2x4x1024x704 S4x704x1024 S4x4096x704 S1x1024 S1024x3584 S4096x3584 S8x1024)
open Cert.Kernel2Ideal.Half
open Cert.Consts

open Cert.Reference2Ideal.Read

variable {x0 : FVec Ideal S4096x1024 .f32} {x1 : FVec Ideal S1024x5632 .f32} {x2 : FVec Ideal S2816x1024 .f32} {x3 x4 : FVec Ideal S1x1024 .f32}
  {x5 : FVec Ideal S1024x3584 .f32} {x6 : FVec Ideal S4096x3584 .f32} {x7 : FVec Ideal S4096x1024 .f32}
variable (H : Finite x0 x1 x2 x3 x5 x6 x7)
include H

omit H in
theorem v88_lo (j : Fin 4) (t : Fin 4096) (f : Fin 704) :
    (val_main_v88 (F := Ideal) x0 x1 x2 x3 x5 x6 x7 (ix2 t (col 0 j f)) : EReal) = val_main_v85 (F := Ideal) x0 x1 x2 x3 x5 x6 x7 (ix2 t (row j f)) := by
  unfold val_main_v88
  generalize val_main_v85 (F := Ideal) x0 x1 x2 x3 x5 x6 x7 = a
  generalize val_main_v83 (F := Ideal) x0 x1 x2 x3 x5 x6 x7 = b
  pointwise
  have low : (col 0 j f).val < 2816 := by simp only [col, Fin.val_zero]; omega
  have same : (col 0 j f).val = (row j f).val := by simp [row, col]
  generalize col 0 j f = p at *
  rw [dif_pos low]
  exact congrArg a (ext2 _ _ rfl same)

omit H in
theorem v88_hi (j : Fin 4) (t : Fin 4096) (f : Fin 704) :
    (val_main_v88 (F := Ideal) x0 x1 x2 x3 x5 x6 x7 (ix2 t (col 1 j f)) : EReal) = val_main_v83 (F := Ideal) x0 x1 x2 x3 x5 x6 x7 (ix2 t (row j f)) := by
  unfold val_main_v88
  generalize val_main_v85 (F := Ideal) x0 x1 x2 x3 x5 x6 x7 = a
  generalize val_main_v83 (F := Ideal) x0 x1 x2 x3 x5 x6 x7 = b
  pointwise
  rw [dif_neg (show ¬ (col 1 j f).val < 2816 by simp only [col, Fin.val_one]; omega)]
  exact congrArg b (ext2 _ _ rfl (by simp [row, col]; omega))

/-- The projection's cotangent at column `col s j f`. -/
theorem dHid_at (j : Fin 4) (s : Fin 2) (t : Fin 4096) (f : Fin 704) :
    (dHid (halfK x0 x1 x2 x3 x5 x6 x7) (blocksOut x2) (hid (low x0) (blocksIn x1)) (ix4 j s t f) : EReal) = val_main_v88 (F := Ideal) x0 x1 x2 x3 x5 x6 x7 (ix2 t (col s j f)) := by
  match s with
  | ⟨0, _⟩ => exact (gate_at H j t f).trans (v88_lo j t f).symm
  | ⟨1, _⟩ => exact (up_at H j t f).trans (v88_hi j t f).symm

omit H in
theorem v95_at (s : Fin 2) (j : Fin 4) (d : Fin 1024) (f : Fin 704) :
    (val_main_v95 (F := Ideal) x0 x1 x2 x3 x5 x6 x7 (ix4 s j d f) : EReal) = val_main_v89 (F := Ideal) x0 x1 x2 x3 x5 x6 x7 (ix2 (col s j f) d) := by
  unfold val_main_v95 val_main_v94 val_main_v93 val_main_v90
  generalize val_main_v89 (F := Ideal) x0 x1 x2 x3 x5 x6 x7 = a
  pointwise
  refine congrArg a (ext2 _ _ ?_ ?_)
  · simp [col]
  · simp

omit H in
theorem v97_at (j : Fin 4) (f : Fin 704) (d : Fin 1024) :
    (val_main_v97 (F := Ideal) x0 x1 x2 x3 x5 x6 x7 (ix3 j f d) : EReal) = val_main_v80 (F := Ideal) x0 x1 x2 x3 x5 x6 x7 (ix2 d (row j f)) := by
  unfold val_main_v97 val_main_v96 val_main_v81
  generalize val_main_v80 (F := Ideal) x0 x1 x2 x3 x5 x6 x7 = a
  pointwise
  refine congrArg a (ext2 _ _ ?_ ?_)
  · simp
  · simp [row]

theorem in_eq : dIn (low x0) (dHid (halfK x0 x1 x2 x3 x5 x6 x7) (blocksOut x2) (hid (low x0) (blocksIn x1))) = val_main_v95 (F := Ideal) x0 x1 x2 x3 x5 x6 x7 := by
  funext i
  idx_vars i
  refine Eq.trans ?_ (v95_at i0 i1 i2 i3).symm
  rw [val_main_v89_apply]
  refine Finset.sum_congr rfl fun k _ => (mul_comm _ _).trans ?_
  exact congrArg₂ (· * ·) ((dHid_at H i1 i0 k i3).trans (congrArg _ (ext2 _ _ rfl rfl))) (congrArg x0 (ext2 _ _ rfl rfl))

theorem out_eq : dOut (act (low x0) (blocksIn x1)) (halfK x0 x1 x2 x3 x5 x6 x7) = val_main_v97 (F := Ideal) x0 x1 x2 x3 x5 x6 x7 := by
  funext i
  idx_vars i
  refine Eq.trans ?_ (v97_at i0 i1 i2).symm
  rw [val_main_v80_apply]
  refine Finset.sum_congr rfl fun k _ => (mul_comm _ _).trans ?_
  exact congrArg₂ (· * ·) ((half_at H k i2).trans (congrArg _ (ext2 _ _ rfl rfl))) ((act_at H i0 k i1).trans (congrArg _ (ext2 _ _ rfl rfl)))

/-- One block's share is the reference's sum over that block's columns. -/
theorem share_at (t : Fin 4096) (d : Fin 1024) (j : Fin 4) (s : Fin 2) :
    dXpart (dHid (halfK x0 x1 x2 x3 x5 x6 x7) (blocksOut x2) (hid (low x0) (blocksIn x1))) (blocksIn x1) t d j s =
      ∑ f : Fin 704, (val_main_v88 (F := Ideal) x0 x1 x2 x3 x5 x6 x7 (ix2 t (col s j f)) : EReal) * x1 (ix2 d (col s j f)) :=
  Finset.sum_congr rfl fun f _ => congrArg₂ (· * ·) (dHid_at H j s t f) (blocksIn_at x1 s j d f)

omit H in
/-- The 5632 columns, block by block. -/
theorem sum_cols (g : Fin 5632 → EReal) : ∑ k, g k = ∑ s : Fin 2, ∑ j : Fin 4, ∑ f : Fin 704, g (col s j f) := by
  rw [Fin.sum_univ_tiles 2 2816 rfl g]
  refine Finset.sum_congr rfl fun s _ => ?_
  rw [Fin.sum_univ_tiles 4 704 rfl]
  refine Finset.sum_congr rfl fun j _ => Finset.sum_congr rfl fun f _ => congrArg g (Fin.ext ?_)
  simp only [col]
  omega

theorem x_eq : dX (dHid (halfK x0 x1 x2 x3 x5 x6 x7) (blocksOut x2) (hid (low x0) (blocksIn x1))) (blocksIn x1) (dSum (normK x5 x6 x7) (preK x0 x1 x2) x3) =
    val_main_v92 (F := Ideal) x0 x1 x2 x3 x5 x6 x7 := by
  rw [sum_eq H]
  have sh (t : Fin 4096) (d : Fin 1024) (j : Fin 4) (s : Fin 2) := share_at H t d j s
  generalize dHid (halfK x0 x1 x2 x3 x5 x6 x7) (blocksOut x2) (hid (low x0) (blocksIn x1)) = h at *
  funext i
  idx_vars i
  have e : (val_main_v92 (F := Ideal) x0 x1 x2 x3 x5 x6 x7 (ix2 i0 i1) : EReal) =
      Ideal.ofBits .f32 0x3F9837F0#32 * val_main_v77 (F := Ideal) x0 x1 x2 x3 x5 x6 x7 (ix2 i0 i1) + val_main_v91 (F := Ideal) x0 x1 x2 x3 x5 x6 x7 (ix2 i0 i1) := by
    unfold val_main_v92 val_main_v87
    generalize val_main_v77 (F := Ideal) x0 x1 x2 x3 x5 x6 x7 = a
    generalize val_main_v91 (F := Ideal) x0 x1 x2 x3 x5 x6 x7 = b
    pointwise [val_main_v86, val_main_cst_20]
  have e' : (val_main_v91 (F := Ideal) x0 x1 x2 x3 x5 x6 x7 (ix2 i0 i1) : EReal) =
      ∑ k : Fin 5632, (val_main_v88 (F := Ideal) x0 x1 x2 x3 x5 x6 x7 (ix2 i0 k) : EReal) * x1 (ix2 i1 k) := by
    rw [val_main_v91_apply]
    exact Finset.sum_congr rfl fun k _ => congrArg₂ (· * ·) (congrArg _ (ext2 _ _ rfl rfl)) (congrArg x1 (ext2 _ _ rfl rfl))
  refine Eq.trans ?_ (e.trans (congrArg _ (e'.trans (sum_cols _)))).symm
  simp only [Fin.sum_univ_two, Fin.sum_univ_four, ← sh]
  refine (add_comm _ _).trans (congrArg _ ?_)
  simp only [ix2]
  ac_rfl

/-- The layer norm's result. -/
theorem normed_at (t : Fin 4096) (l : Fin 1024) :
    (normed (preK x0 x1 x2) x3 x4 (ix2 t l) : EReal) = val_main_v37 (F := Ideal) x0 x1 x2 x3 x4 (ix2 t l) := by
  rw [v37_at, pre_eq H]
  rfl

theorem proj_eq : proj (normed (preK x0 x1 x2) x3 x4) (lowMix x5) = val_main_v38 (F := Ideal) x0 x1 x2 x3 x4 x5 := by
  funext i
  idx_vars i
  rw [val_main_v38_apply]
  exact Finset.sum_congr rfl fun k _ => congrArg₂ (· * ·) ((normed_at H i0 k).trans (congrArg _ (ext2 _ _ rfl rfl))) (congrArg x5 (ext2 _ _ rfl rfl))

omit H in
theorem v98_at (d : Fin 1024) (n : Fin 3584) :
    (val_main_v98 (F := Ideal) x0 x1 x2 x3 x4 x6 (ix2 d n) : EReal) = val_main_v43 (F := Ideal) x0 x1 x2 x3 x4 x6 (ix2 n d) := by
  unfold val_main_v98 val_main_v44
  generalize val_main_v43 (F := Ideal) x0 x1 x2 x3 x4 x6 = a
  pointwise

theorem mix_eq : dMix (normed (preK x0 x1 x2) x3 x4) x6 = val_main_v98 (F := Ideal) x0 x1 x2 x3 x4 x6 := by
  funext i
  idx_vars i
  refine Eq.trans ?_ (v98_at i0 i1).symm
  rw [val_main_v43_apply]
  refine Finset.sum_congr rfl fun k _ => (mul_comm _ _).trans ?_
  exact congrArg₂ (· * ·) (congrArg x6 (ext2 _ _ rfl rfl)) ((normed_at H k i0).trans (congrArg _ (ext2 _ _ rfl rfl)))

omit H in
/-- The 4096 tokens, by the accumulators' rows, the blocks and the rows within one. -/
theorem sum_tokens (g : Fin 4096 → EReal) : ∑ a : Fin 8, ∑ t : Fin 8, ∑ j : Fin 64, g (rowAt t (fold j a)) = ∑ n, g n := by
  rw [Fin.sum_univ_tiles 8 512 rfl g, Finset.sum_comm]
  refine Finset.sum_congr rfl fun t _ => ?_
  rw [Fin.sum_univ_tiles 64 8 rfl, Finset.sum_comm]
  exact Finset.sum_congr rfl fun j _ => Finset.sum_congr rfl fun a _ => congrArg g (Fin.ext rfl)

omit H in
theorem v51_at (l : Fin 1024) : (val_main_v51 (F := Ideal) x0 x1 x2 x5 x6 x7 (ix2 (0 : Fin 1) l) : EReal) =
    ∑ n, (val_main_v33 (F := Ideal) x0 x1 x2 (ix2 n l) : EReal) * val_main_v46 (F := Ideal) x5 x6 x7 (ix2 n l) := by
  unfold val_main_v51 val_main_v50 val_main_v49
  generalize val_main_v33 (F := Ideal) x0 x1 x2 = a
  generalize val_main_v46 (F := Ideal) x5 x6 x7 = b
  pointwise [val_main_cst_11]

omit H in
theorem v48_at (l : Fin 1024) : (val_main_v48 (F := Ideal) x5 x6 x7 (ix2 (0 : Fin 1) l) : EReal) =
    ∑ n, (val_main_v46 (F := Ideal) x5 x6 x7 (ix2 n l) : EReal) := by
  unfold val_main_v48 val_main_v47
  generalize val_main_v46 (F := Ideal) x5 x6 x7 = b
  pointwise [val_main_cst_10]

theorem scale_eq : rowsSum (dScale (normK x5 x6 x7) (preK x0 x1 x2)) = val_main_v51 (F := Ideal) x0 x1 x2 x5 x6 x7 := by
  rw [norm_eq, pre_eq H]
  funext i
  idx_vars i
  obtain rfl : i0 = 0 := Subsingleton.elim _ _
  refine Eq.trans ?_ (v51_at i1).symm
  refine (sum_tokens fun n => (val_main_v46 (F := Ideal) x5 x6 x7 (ix2 n i1) : EReal) * Norm.xh (R x0 x1 x2 n) i1).trans ?_
  exact Finset.sum_congr rfl fun n _ => (mul_comm _ _).trans (congrArg₂ (· * ·) (v33_at x0 x1 x2 n i1).symm rfl)

omit H in
theorem shift_eq : rowsSum (dShift (normK x5 x6 x7)) = val_main_v48 (F := Ideal) x5 x6 x7 := by
  rw [norm_eq]
  funext i
  idx_vars i
  obtain rfl : i0 = 0 := Subsingleton.elim _ _
  refine Eq.trans ?_ (v48_at i1).symm
  exact sum_tokens fun n => (val_main_v46 (F := Ideal) x5 x6 x7 (ix2 n i1) : EReal)

end Cert.Half

end
-- ==== Proof.HalfClaim.lean ====
/-
  The claims about the half-step, the layer norm and the mixers' projection: the reference leaves its arguments as they were, and at
  finite arguments both programs end with the same seven arrays.
-/
module

public import proofs.«01_k».proof.Proof.HalfResults
public import proofs.«01_k».proof.Proof.Finite
public import proofs.«01_k».proof.Proof.Gen.Reference2Ideal.Run

@[expose] public section

set_option maxRecDepth 16384

noncomputable section

open Idealize.ShloMosaic Idealize.ShloMosaic.TcCoe Idealize.SL.Sem

namespace Cert.Half

theorem finite2Facts : Cert.Pre_finite2.Facts where
  bcast_S_S4096x1024 := by decide
  bcast_S_S1024x5632 := by decide
  bcast_S_S2816x1024 := by decide
  bcast_S_S1x1024 := by decide
  bcast_S_S1024x3584 := by decide
  bcast_S_S4096x3584 := by decide

/-- The reference leaves its arguments as they were, whatever they are. -/
theorem referenceFrame : Cert.quiescent_Reference2Ideal (hReference2Ideal := Cert.Reference2Ideal.Gen.facts) := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

section

open Cert.Kernel2Ideal Cert.Kernel2Ideal.Gen

variable (m : (ℓ : Loc nD τ sig) → Buf (Elt Ideal) ℓ)

/-- Device `c`'s arguments. -/
abbrev A0 (c : Dev nD) : FVec Ideal S4096x1024 .f32 := m ((c.tc : Thread nD τ).loc main_arg0)
abbrev A1 (c : Dev nD) : FVec Ideal S1024x5632 .f32 := m ((c.tc : Thread nD τ).loc main_arg1)
abbrev A2 (c : Dev nD) : FVec Ideal S2816x1024 .f32 := m ((c.tc : Thread nD τ).loc main_arg2)
abbrev A3 (c : Dev nD) : FVec Ideal S1x1024 .f32 := m ((c.tc : Thread nD τ).loc main_arg3)
abbrev A4 (c : Dev nD) : FVec Ideal S1x1024 .f32 := m ((c.tc : Thread nD τ).loc main_arg4)
abbrev A5 (c : Dev nD) : FVec Ideal S1024x3584 .f32 := m ((c.tc : Thread nD τ).loc main_arg5)
abbrev A6 (c : Dev nD) : FVec Ideal S4096x3584 .f32 := m ((c.tc : Thread nD τ).loc main_arg6)
abbrev A7 (c : Dev nD) : FVec Ideal S4096x1024 .f32 := m ((c.tc : Thread nD τ).loc main_arg7)

/-- The precondition says that every entry is a real. -/
theorem finite_of (h : Cert.Pre_Kernel2Ideal_finite2 (hPre_finite2 := finite2Facts) m) (c : Dev nD) :
    Finite (A0 m c) (A1 m c) (A2 m c) (A3 m c) (A5 m c) (A6 m c) (A7 m c) := by
  obtain ⟨e0, e1, e2, e3, e5, e6, e7⟩ := h c
  exact ⟨fun i => ⟨_, (Cert.Proof.real_at _ _ e0 i).symm⟩,
    fun i => ⟨_, (Cert.Proof.real_at _ _ e1 i).symm⟩,
    fun i => ⟨_, (Cert.Proof.real_at _ _ e2 i).symm⟩,
    fun i => ⟨_, (Cert.Proof.real_at _ _ e3 i).symm⟩,
    fun i => ⟨_, (Cert.Proof.real_at _ _ e5 i).symm⟩,
    fun i => ⟨_, (Cert.Proof.real_at _ _ e6 i).symm⟩,
    fun i => ⟨_, (Cert.Proof.real_at _ _ e7 i).symm⟩⟩

/-- What the kernel's run leaves. -/
theorem kernelRun (h : Cert.Pre_Kernel2Ideal_finite2 (hPre_finite2 := finite2Facts) m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = Cert.Reference2Ideal.Read.val_main_v38 (F := Ideal) (A0 m c) (A1 m c) (A2 m c) (A3 m c) (A4 m c) (A5 m c)
      ∧ r.2.mem ((c.tc : Thread nD τ).loc main_v16) = Cert.Reference2Ideal.Read.val_main_v92 (F := Ideal) (A0 m c) (A1 m c) (A2 m c) (A3 m c) (A5 m c) (A6 m c) (A7 m c)
      ∧ r.2.mem ((c.tc : Thread nD τ).loc main_v15) = Cert.Reference2Ideal.Read.val_main_v95 (F := Ideal) (A0 m c) (A1 m c) (A2 m c) (A3 m c) (A5 m c) (A6 m c) (A7 m c)
      ∧ r.2.mem ((c.tc : Thread nD τ).loc main_v13) = Cert.Reference2Ideal.Read.val_main_v97 (F := Ideal) (A0 m c) (A1 m c) (A2 m c) (A3 m c) (A5 m c) (A6 m c) (A7 m c)
      ∧ r.2.mem ((c.tc : Thread nD τ).loc main_v18) = Cert.Reference2Ideal.Read.val_main_v51 (F := Ideal) (A0 m c) (A1 m c) (A2 m c) (A5 m c) (A6 m c) (A7 m c)
      ∧ r.2.mem ((c.tc : Thread nD τ).loc main_v20) = Cert.Reference2Ideal.Read.val_main_v48 (F := Ideal) (A5 m c) (A6 m c) (A7 m c)
      ∧ r.2.mem ((c.tc : Thread nD τ).loc main_v11) = Cert.Reference2Ideal.Read.val_main_v98 (F := Ideal) (A0 m c) (A1 m c) (A2 m c) (A3 m c) (A4 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r k c => ?_) (Cert.Kernel2Ideal.Half.run m ρ)
  have H := finite_of m h c
  exact ⟨(k c _ (mem_uc main_v10 (by decide))).trans ((Cert.Kernel2Ideal.Half.W11_v10 m ρ c).trans (proj_eq H)),
    (k c _ (mem_uc main_v16 (by decide))).trans ((Cert.Kernel2Ideal.Half.W11_v16 m ρ c).trans (x_eq H)),
    (k c _ (mem_uc main_v15 (by decide))).trans ((Cert.Kernel2Ideal.Half.W11_v15 m ρ c).trans (in_eq H)),
    (k c _ (mem_uc main_v13 (by decide))).trans ((Cert.Kernel2Ideal.Half.W11_v13 m ρ c).trans (out_eq H)),
    (k c _ (mem_uc main_v18 (by decide))).trans ((Cert.Kernel2Ideal.Half.W11_v18 m ρ c).trans (scale_eq H)),
    (k c _ (mem_uc main_v20 (by decide))).trans ((Cert.Kernel2Ideal.Half.W11_v20 m ρ c).trans (shift_eq)),
    (k c _ (mem_uc main_v11 (by decide))).trans ((Cert.Kernel2Ideal.Half.W11_v11 m ρ c).trans (mix_eq H)),
    (k c _ (mem_uc main_arg0 (by decide))).trans (W11_main_arg0 m ρ c),
    (k c _ (mem_uc main_arg1 (by decide))).trans (W11_main_arg1 m ρ c),
    (k c _ (mem_uc main_arg2 (by decide))).trans (W11_main_arg2 m ρ c),
    (k c _ (mem_uc main_arg3 (by decide))).trans (W11_main_arg3 m ρ c),
    (k c _ (mem_uc main_arg4 (by decide))).trans (W11_main_arg4 m ρ c),
    (k c _ (mem_uc main_arg5 (by decide))).trans (W11_main_arg5 m ρ c),
    (k c _ (mem_uc main_arg6 (by decide))).trans (W11_main_arg6 m ρ c),
    (k c _ (mem_uc main_arg7 (by decide))).trans (W11_main_arg7 m ρ c)⟩

end

/-- At finite arguments the kernel and the reference leave the same seven arrays. -/
theorem equal : Cert.algebraic_Kernel2Ideal_Reference2Ideal_pre_finite2 (hKernel2Ideal := Cert.Kernel2Ideal.Gen.facts)
    (hReference2Ideal := Cert.Reference2Ideal.Gen.facts) (hPre_finite2 := finite2Facts) := by
  intro m g m' g' hpre hargs
  refine ⟨_, _, _, _, _, _, _, kernelRun m hpre g, ?_⟩
  refine (θ_run Cert.Reference2Ideal.defs _ _).mono (fun r h c => ?_) (Cert.Reference2Ideal.Value.run (F := Ideal) m' g')
  obtain ⟨h0, h1, h2, h3, h4, h5, h6, hk⟩ := h c
  obtain ⟨e0, e1, e2, e3, e4, e5, e6, e7⟩ := hargs c
  refine ⟨?_, ?_, ?_, ?_, ?_, ?_, ?_, hk⟩
  · refine h0.trans ((Cert.Reference2Ideal.Read.val_main_v38_eq (F := Ideal) _).trans ?_)
    show Cert.Reference2Ideal.Read.val_main_v38 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) = _
    rw [e0, e1, e2, e3, e4, e5]
  · refine h1.trans ((Cert.Reference2Ideal.Read.val_main_v92_eq (F := Ideal) _).trans ?_)
    show Cert.Reference2Ideal.Read.val_main_v92 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
    rw [e0, e1, e2, e3, e5, e6, e7]
  · refine h2.trans ((Cert.Reference2Ideal.Read.val_main_v95_eq (F := Ideal) _).trans ?_)
    show Cert.Reference2Ideal.Read.val_main_v95 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
    rw [e0, e1, e2, e3, e5, e6, e7]
  · refine h3.trans ((Cert.Reference2Ideal.Read.val_main_v97_eq (F := Ideal) _).trans ?_)
    show Cert.Reference2Ideal.Read.val_main_v97 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
    rw [e0, e1, e2, e3, e5, e6, e7]
  · refine h4.trans ((Cert.Reference2Ideal.Read.val_main_v51_eq (F := Ideal) _).trans ?_)
    show Cert.Reference2Ideal.Read.val_main_v51 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
    rw [e0, e1, e2, e5, e6, e7]
  · refine h5.trans ((Cert.Reference2Ideal.Read.val_main_v48_eq (F := Ideal) _).trans ?_)
    show Cert.Reference2Ideal.Read.val_main_v48 (F := Ideal) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
    rw [e5, e6, e7]
  · refine h6.trans ((Cert.Reference2Ideal.Read.val_main_v98_eq (F := Ideal) _).trans ?_)
    show Cert.Reference2Ideal.Read.val_main_v98 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg6)) = _
    rw [e0, e1, e2, e3, e4, e6]

end Cert.Half

end
-- ==== Proof.SecondMix.lean ====
/-
  The two products around the mixers' output projection.
-/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Second

open Cert.Kernel3Ideal Cert.Kernel3Ideal.Gen

/-- The mixers' outputs' cotangent. -/
def dM (D : FVec Ideal S4096x1024 .bf16) (W : FVec Ideal S1024x1024 .bf16) : FVec Ideal S4096x1024 .f32 :=
  fun i => (∑ k : Fin 1024, (D (ix2 (i 0) k) : EReal) * W (ix2 (i 1) k) : EReal)

/-- The gradient of the output projection's weight. -/
def dMixOut (M D : FVec Ideal S4096x1024 .bf16) : FVec Ideal S1024x1024 .bf16 :=
  fun i => (∑ k : Fin 4096, (M (ix2 k (i 0)) : EReal) * D (ix2 k (i 1)) : EReal)

variable (V : (c : Dev nD) → (b : Ref sig .tc) → Buf (Elt Ideal) ((c : Thread nD τ).loc b))

theorem idx7 : ∀ t : Fin cfg7.N, win7_0.index t = ![t.val / 2, 0] ∧ win7_1.index t = ![t.val % 2, 0] ∧ win7_2.index t = ![t.val / 2, t.val % 2] :=
  (by decide +kernel : ∀ t : Fin grid7.N, _)

theorem final7_2 (c : Dev nD) : (dat7 V c).arrAt 2 cfg7.N = dM (V c main_v19_1) (V c main_v1) := by
  refine (dat7 V c).arrAt_eq_of_covers 2 _ (by decide +kernel) fun t _ y => ?_
  blk_simp
  rw [after7_2]; frame_out
  pointwise [k7_pay1, dM]
  blk_point [iblk7, idx7 t]

theorem idx8 : ∀ t : Fin cfg8.N, win8_0.index t = ![0, 0] ∧ win8_1.index t = ![0, t.val] ∧ win8_2.index t = ![0, t.val] :=
  (by decide +kernel : ∀ t : Fin grid8.N, _)

theorem final8_2 (c : Dev nD) : (dat8 V c).arrAt 2 cfg8.N = dMixOut (V c main_v0) (V c main_v19_1) := by
  refine (dat8 V c).arrAt_eq_of_covers 2 _ (by decide +kernel) fun t _ y => ?_
  blk_simp
  rw [after8_2]; frame_out
  pointwise [k8_pay1, dMixOut]
  blk_point [iblk8, idx8 t]

end Cert.Kernel3Ideal.Second

end
-- ==== Proof.SecondRegions.lean ====
/-
  What five of the nine calls of the second half-step leave in their arrays, as sums over the arrays they read.
-/
module

public import proofs.«01_k».proof.Proof.Gen.Kernel3Ideal.Frame
public import proofs.«01_k».proof.Proof.HalfHidden
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Second

open Cert.Kernel3Ideal Cert.Kernel3Ideal.Gen
open Cert.Kernel2Ideal.Half (hid act sgm dOut dAct dGate dUp dHid dIn dHid_gate dHid_up)

variable (V : (c : Dev nD) → (b : Ref sig .tc) → Buf (Elt Ideal) ((c : Thread nD τ).loc b))

theorem idx1 : ∀ t : Fin cfg1.N, win1_0.index t = ![t.val / 4, 0] ∧ win1_1.index t = ![0, t.val % 4, 0, 0] ∧ win1_2.index t = ![1, t.val % 4, 0, 0]
    ∧ win1_3.index t = ![t.val % 4, 0, t.val / 4, 0] ∧ win1_4.index t = ![t.val % 4, t.val / 4, 0] :=
  (by decide +kernel : ∀ t : Fin grid1.N, _)

theorem final1_4 (c : Dev nD) : (dat1 V c).arrAt 4 cfg1.N = act (V c main_v13_2) (V c main_v6) := by
  refine (dat1 V c).arrAt_eq_of_covers 4 _ (by decide +kernel) fun t _ y => ?_
  blk_simp
  rw [after1_4]; frame_out
  pointwise [k1_pay6, k1_pay1, k1_pay2, k1_pay3, act, hid, sgm]
  blk_point [iblk1, idx1 t]

theorem final1_3 (c : Dev nD) : (dat1 V c).arrAt 3 cfg1.N = hid (V c main_v13_2) (V c main_v6) := by
  refine (dat1 V c).arrAt_eq_of_covers 3 _ (by decide +kernel) fun t _ y => ?_
  blk_simp
  rw [after1_3]; frame_out
  canon_tiles y h
  case piece0 =>
    pointwise [k1_pay5, k1_pay1, k1_pay3, hid]
    blk_point [iblk1, idx1 t]
  case piece1 =>
    pointwise [k1_pay4, k1_pay1, k1_pay2, hid]
    blk_point [iblk1, idx1 t]

theorem idx3 : ∀ t : Fin cfg3.N, win3_0.index t = ![t.val / 4, 0] ∧ win3_1.index t = ![t.val % 4, 0, 0]
    ∧ win3_2.index t = ![t.val % 4, 0, t.val / 4, 0] ∧ win3_3.index t = ![t.val % 4, 0, t.val / 4, 0] :=
  (by decide +kernel : ∀ t : Fin grid3.N, _)

theorem final3_3 (c : Dev nD) : (dat3 V c).arrAt 3 cfg3.N = dHid (V c main_v10) (V c main_v7) (V c main_v14_0) := by
  refine (dat3 V c).arrAt_eq_of_covers 3 _ (by decide +kernel) fun t _ y => ?_
  blk_simp
  rw [after3_3]; frame_out
  canon_tiles y h
  case piece0 =>
    refine Eq.trans ?_ (dHid_up _ _ _ _ ?_).symm
    · pointwise [k3_pay1, k3_pay7, k3_pay2, k3_pay5, k3_pay4, k3_pay3, dUp, sgm, dAct]
      blk_point [iblk3, idx3 t]
    · blk_simp [idx3 t]
      omega
  case piece1 =>
    refine Eq.trans ?_ (dHid_gate _ _ _ _ ?_).symm
    · pointwise [k3_pay6, k3_pay2, k3_pay5, k3_pay4, k3_pay3, dGate, sgm, dAct]
      blk_point [iblk3, idx3 t]
    · blk_simp [idx3 t]
      omega

theorem idx4 : ∀ t : Fin cfg4.N, win4_0.index t = ![t.val, 0, 0] ∧ win4_1.index t = ![0, 0] ∧ win4_2.index t = ![t.val, 0, 0] :=
  (by decide +kernel : ∀ t : Fin grid4.N, _)

theorem final4_2 (c : Dev nD) : (dat4 V c).arrAt 2 cfg4.N = dOut (V c main_v14_1) (V c main_v10) := by
  refine (dat4 V c).arrAt_eq_of_covers 2 _ (by decide +kernel) fun t _ y => ?_
  blk_simp
  rw [after4_2]; frame_out
  pointwise [k4_pay1, dOut]
  blk_point [iblk4, idx4 t]

theorem idx5 : ∀ t : Fin cfg5.N, win5_0.index t = ![0, 0] ∧ win5_1.index t = ![t.val / 2, t.val % 2, 0, 0] ∧ win5_2.index t = ![t.val % 2, t.val / 2, 0, 0] :=
  (by decide +kernel : ∀ t : Fin grid5.N, _)

theorem final5_2 (c : Dev nD) : (dat5 V c).arrAt 2 cfg5.N = dIn (V c main_v13_2) (V c main_v16) := by
  refine (dat5 V c).arrAt_eq_of_covers 2 _ (by decide +kernel) fun t _ y => ?_
  blk_simp
  rw [after5_2]; frame_out
  pointwise [k5_pay1, dIn]
  blk_point [iblk5, idx5 t]

end Cert.Kernel3Ideal.Second

end
-- ==== Proof.SecondForward.lean ====
/-
  What the two calls that end in a layer norm leave: the sums before the norms, and the norms of them.
-/
module

public import proofs.«01_k».proof.Proof.Gen.Kernel3Ideal.Frame
public import proofs.«01_k».proof.Proof.HalfForward
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Second

open Cert.Kernel3Ideal Cert.Kernel3Ideal.Gen
open Cert.Kernel2Ideal.Half (pre rowOf normed rowAt)

/-- The sum before the second layer norm: the residual stream, and the mixers' output projection. -/
def preMix (M : FVec Ideal S1x4096x1024 .bf16) (W : FVec Ideal S1x1024x1024 .bf16) (x : FVec Ideal S4096x1024 .f32) : FVec Ideal S4096x1024 .f32 :=
  fun i => (Ideal.ofBits .f32 0x3F9837F0#32 * x i + Ideal.ofBits .f32 0x3F800000#32 *
    (∑ k : Fin 1024, (M (ix3 (0 : Fin 1) (i 0) k) : EReal) * W (ix3 (0 : Fin 1) k (i 1))) : EReal)

/-- The layer norm of every row, at full width. -/
def normedW (r : FVec Ideal S4096x1024 .f32) (g b : FVec Ideal S1x1024 .f32) : FVec Ideal S4096x1024 .f32 :=
  fun i => (Norm.xh (rowOf r (i 0)) (i 1) * g (ix2 (0 : Fin 1) (i 1)) + b (ix2 (0 : Fin 1) (i 1)) : EReal)

theorem k0_norm (u : FVec Ideal S1x512x1024 .bf16) (v : FVec Ideal S1x1024x1024 .bf16) (w : FVec Ideal S512x1024 .f32) (g b : FVec Ideal S1x1024 .f32)
    (p : Fin 512) (q : Fin 1024) :
    (k0_pay3 (F := Ideal) u v w g b (ix2 p q) : EReal) =
      Norm.xh (fun l => k0_pay2 (F := Ideal) u v w (ix2 p l)) q * g (ix2 (0 : Fin 1) q) + b (ix2 (0 : Fin 1) q) := by
  unfold k0_pay3
  generalize k0_pay2 (F := Ideal) u v w = r
  pointwise [Norm.xh, Norm.cen, Norm.rs, Norm.vr, Norm.mean, Norm.width]

theorem k2_norm (u v : FVec Ideal S512x1024 .f32) (w : Ideal .f32) (g b : FVec Ideal S1x1024 .f32) (p : Fin 512) (q : Fin 1024) :
    (k2_pay2 (F := Ideal) u v w g b (ix2 p q) : EReal) =
      Norm.xh (fun l => k2_pay1 (F := Ideal) u v w (ix2 p l)) q * g (ix2 (0 : Fin 1) q) + b (ix2 (0 : Fin 1) q) := by
  unfold k2_pay2
  generalize k2_pay1 (F := Ideal) u v w = r
  pointwise [Norm.xh, Norm.cen, Norm.rs, Norm.vr, Norm.mean, Norm.width]

variable (V : (c : Dev nD) → (b : Ref sig .tc) → Buf (Elt Ideal) ((c : Thread nD τ).loc b))

theorem idx0 : ∀ t : Fin cfg0.N, win0_0.index t = ![0, t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

theorem final0_5 (c : Dev nD) : (dat0 V c).arrAt 5 cfg0.N = preMix (V c main_v11) (V c main_v12) (V c main_arg1) := by
  refine (dat0 V c).arrAt_eq_of_covers 5 _ (by decide +kernel) fun t _ y => ?_
  blk_simp
  rw [after0_5]; frame_out
  pointwise [k0_pay2, preMix]
  blk_point [iblk0, idx0 t]

theorem norm0_at (c : Dev nD) (t : Fin cfg0.N) (p : Fin 512) (q : Fin 1024) :
    (k0_pay3 (F := Ideal) (iblk0 V c 0 t) (iblk0 V c 1 t) (iblk0 V c 2 t) (iblk0 V c 3 t) (iblk0 V c 4 t) (ix2 p q) : EReal) =
      normedW (preMix (V c main_v11) (V c main_v12) (V c main_arg1)) (V c main_arg3) (V c main_arg4) (ix2 (rowAt t p) q) := by
  refine (k0_norm _ _ _ _ _ p q).trans ?_
  refine congrArg₂ (· + ·) (congrArg₂ (· * ·) (congrArg (Norm.xh · q) (funext fun l => ?_)) ?_) ?_
  · pointwise [k0_pay2, preMix, rowAt, rowOf]
    blk_point [iblk0, idx0 t]
  · blk_point [iblk0, idx0 t]
  · blk_point [iblk0, idx0 t]

theorem final0_6 (c : Dev nD) : (dat0 V c).arrAt 6 cfg0.N =
    normedW (preMix (V c main_v11) (V c main_v12) (V c main_arg1)) (V c main_arg3) (V c main_arg4) := by
  refine (dat0 V c).arrAt_eq_of_covers 6 _ (by decide +kernel) fun t _ y => ?_
  obtain ⟨p, q, rfl⟩ : ∃ (p : Fin 512) (q : Fin 1024), y = ix2 p q := ⟨y 0, y 1, by blk_ext⟩
  blk_simp
  rw [after0_6]; frame_out [k0_pay4]
  refine (norm0_at V c t p q).trans (congrArg _ ?_)
  blk_ext [rowAt, idx0 t]

theorem final0_7 (c : Dev nD) : (dat0 V c).arrAt 7 cfg0.N =
    normed (preMix (V c main_v11) (V c main_v12) (V c main_arg1)) (V c main_arg3) (V c main_arg4) := by
  refine (dat0 V c).arrAt_eq_of_covers 7 _ (by decide +kernel) fun t _ y => ?_
  obtain ⟨p, q, rfl⟩ : ∃ (p : Fin 512) (q : Fin 1024), y = ix2 p q := ⟨y 0, y 1, by blk_ext⟩
  blk_simp
  rw [after0_7]; frame_out [k0_pay4]
  refine (norm0_at V c t p q).trans ?_
  refine congrArg (normed (preMix (V c main_v11) (V c main_v12) (V c main_arg1)) (V c main_arg3) (V c main_arg4)) ?_
  blk_ext [rowAt, idx0 t]

theorem idx2 : ∀ t : Fin cfg2.N, win2_0.index t = ![0, t.val, 0] ∧ win2_1.index t = ![0, 0, 0] ∧ win2_2.index t = ![t.val, 0]
    ∧ win2_3.index t = ![0, 0] ∧ win2_4.index t = ![0, 0] ∧ win2_5.index t = ![t.val, 0] ∧ win2_6.index t = ![t.val, 0] :=
  (by decide +kernel : ∀ t : Fin grid2.N, _)

theorem final2_5 (c : Dev nD) : (dat2 V c).arrAt 5 cfg2.N = pre (V c main_v14_1) (V c main_v7) (V c main_v13_1) := by
  refine (dat2 V c).arrAt_eq_of_covers 5 _ (by decide +kernel) fun t _ y => ?_
  blk_simp
  rw [after2_5]; frame_out
  pointwise [k2_pay1, k2_pay6, k2_pay7, k2_pay4, k2_pay5, pre]
  blk_point [iblk2, idx2 t]

theorem final2_6 (c : Dev nD) : (dat2 V c).arrAt 6 cfg2.N =
    normedW (pre (V c main_v14_1) (V c main_v7) (V c main_v13_1)) (V c main_arg7) (V c main_arg8) := by
  refine (dat2 V c).arrAt_eq_of_covers 6 _ (by decide +kernel) fun t _ y => ?_
  obtain ⟨p, q, rfl⟩ : ∃ (p : Fin 512) (q : Fin 1024), y = ix2 p q := ⟨y 0, y 1, by blk_ext⟩
  blk_simp
  rw [after2_6]; frame_out
  refine (k2_norm _ _ _ _ _ p q).trans ?_
  have e : (win2_6.blk t).view.emb (ix2 p q) = ix2 (rowAt t p) q := by
    blk_ext [rowAt, idx2 t]
  rw [e]
  refine congrArg₂ (· + ·) (congrArg₂ (· * ·) (congrArg (Norm.xh · q) (funext fun l => ?_)) ?_) ?_
  · pointwise [k2_pay1, k2_pay6, k2_pay7, k2_pay4, k2_pay5, pre, rowAt, rowOf]
    blk_point [iblk2, idx2 t]
  · blk_point [iblk2, idx2 t]
  · blk_point [iblk2, idx2 t]

end Cert.Kernel3Ideal.Second

end
-- ==== Proof.SecondRows.lean ====
/-
  The last call of the second half-step's backward pass, row by row: the layer norm of the sum before it, and that norm's gradient.
-/
module

public import proofs.«01_k».proof.Proof.Gen.Kernel3Ideal.Frame
public import proofs.«01_k».proof.Proof.HalfBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Second

open Cert.Kernel3Ideal Cert.Kernel3Ideal.Gen
open Cert.Kernel2Ideal.Half (fold)

theorem k6_cen (r : FVec Ideal S512x1024 .f32) (p : Fin 512) (q : Fin 1024) :
    (k6_pay11 (F := Ideal) r (ix2 p q) : EReal) = Norm.cen (fun l => r (ix2 p l)) q := by
  pointwise [k6_pay11, Norm.cen, Norm.mean, Norm.width]

theorem k6_rs (r : FVec Ideal S512x1024 .f32) (p : Fin 512) :
    (k6_pay12 (F := Ideal) r (ix2 p (0 : Fin 1)) : EReal) = Norm.rs (fun l => r (ix2 p l)) := by
  have e (l : Fin 1024) := k6_cen r p l
  unfold k6_pay12
  generalize k6_pay11 (F := Ideal) r = a at *
  pointwise [Norm.rs, Norm.vr, Norm.mean, Norm.width]
  simp only [e]

theorem k6_xh (r : FVec Ideal S512x1024 .f32) (p : Fin 512) (q : Fin 1024) :
    (k6_pay13 (F := Ideal) r (ix2 p q) : EReal) = Norm.xh (fun l => r (ix2 p l)) q := by
  have e := k6_cen r p q
  have e' := k6_rs r p
  unfold k6_pay13
  generalize k6_pay11 (F := Ideal) r = a at *
  generalize k6_pay12 (F := Ideal) r = b at *
  pointwise [Norm.xh]
  rw [← e, ← e']

theorem k6_grad (u : FVec Ideal S512x1024 .f32) (v : FVec Ideal S512x704 .bf16) (w : FVec Ideal S1x1x1024x704 .bf16) (r : FVec Ideal S512x1024 .f32)
    (g : FVec Ideal S1x1024 .f32) (p : Fin 512) (q : Fin 1024) :
    (k6_pay14 (F := Ideal) u v w r g (ix2 p q) : EReal) =
      Norm.grad (fun l => r (ix2 p l)) (fun l => k6_pay10 (F := Ideal) u v w (ix2 p l) * g (ix2 (0 : Fin 1) l)) q := by
  have e1 := k6_rs r p
  have e2 (l : Fin 1024) := k6_xh r p l
  unfold k6_pay14
  generalize k6_pay10 (F := Ideal) u v w = a at *
  generalize k6_pay13 (F := Ideal) r = x at *
  generalize k6_pay12 (F := Ideal) r = z at *
  simp only [Norm.grad, ← e1, ← e2]
  pointwise [Norm.mean, Norm.width]

theorem k6_low (b : FVec Ideal S512x1024 .f32) (p : Fin 512) (q : Fin 1024) :
    (k6_pay1 (F := Ideal) b (ix2 p q) : EReal) = Ideal.ofBits .f32 0x3F800000#32 * b (ix2 p q) := by
  pointwise [k6_pay1]

theorem k6_scale (u v : FVec Ideal S512x1024 .f32) (acc : FVec Ideal S8x1024 .f32) (a : Fin 8) (l : Fin 1024) :
    (k6_pay4 (F := Ideal) u v acc (ix2 a l) : EReal) = acc (ix2 a l) + ∑ j : Fin 64, (u (ix2 (fold j a) l) : EReal) * v (ix2 (fold j a) l) := by
  pointwise [k6_pay4, fold]
  blk_ext

theorem k6_shift (u : FVec Ideal S512x1024 .f32) (acc : FVec Ideal S8x1024 .f32) (a : Fin 8) (l : Fin 1024) :
    (k6_pay5 (F := Ideal) u acc (ix2 a l) : EReal) = acc (ix2 a l) + ∑ j : Fin 64, (u (ix2 (fold j a) l) : EReal) := by
  pointwise [k6_pay5, fold]
  blk_ext

end Cert.Kernel3Ideal.Second

end
-- ==== Proof.SecondBack.lean ====
/-
  What the last call of the second half-step's backward pass leaves: the cotangent of the sum before the second layer norm, twice, and the two
  accumulators over the grid for the scale's and the shift's gradients.
-/
module

public import proofs.«01_k».proof.Proof.SecondRows
public import proofs.«01_k».proof.Proof.HalfRegions
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Second

open Cert.Kernel3Ideal Cert.Kernel3Ideal.Gen
open Cert.Kernel2Ideal.Half (rowOf rowAt fold fold_sum scaledRow dSum dScale dShift dXpart)

/-- The cotangent of the second layer norm's result. -/
def dTok (dh : FVec Ideal S4x2x4096x704 .bf16) (W : FVec Ideal S2x4x1024x704 .bf16) (d : FVec Ideal S4096x1024 .f32) : FVec Ideal S4096x1024 .f32 :=
  fun i => ((((((((Ideal.ofBits .f32 0x3F9837F0#32 * d i + dXpart dh W (i 0) (i 1) 0 0) + dXpart dh W (i 0) (i 1) 0 1) + dXpart dh W (i 0) (i 1) 1 0)
    + dXpart dh W (i 0) (i 1) 1 1) + dXpart dh W (i 0) (i 1) 2 0) + dXpart dh W (i 0) (i 1) 2 1) + dXpart dh W (i 0) (i 1) 3 0)
    + dXpart dh W (i 0) (i 1) 3 1 : EReal)

/-- The cotangent of the sum before the layer norm, at the narrow format. -/
def lowSum (dy r : FVec Ideal S4096x1024 .f32) (g : FVec Ideal S1x1024 .f32) : FVec Ideal S4096x1024 .bf16 :=
  fun i => (Ideal.ofBits .f32 0x3F800000#32 * dSum dy r g i : EReal)

variable (V : (c : Dev nD) → (b : Ref sig .tc) → Buf (Elt Ideal) ((c : Thread nD τ).loc b))

/-- The cotangent of the layer norm's result, as the call's arrays have it. -/
abbrev DY (c : Dev nD) : FVec Ideal S4096x1024 .f32 := dTok (V c main_v16) (V c main_v6) (V c main_arg9)

/-- The cotangent, without its last block and whole, and the normalised rows, of the block of grid point `t`. -/
abbrev sevenB (c : Dev nD) (t : Fin cfg6.N) : FVec Ideal S512x1024 .f32 :=
  (k6_pay8 (F := Ideal)
    (k6_pay6 (F := Ideal) (iblk6 V c 3 t) (View.ld (iblk6 V c 0 t) (Rect.unit ![0, 0, 0, 0] ![1, 1, 512, 704] inb_S4x2x512x704_S1x1x512x704_0_0_0_0)) (View.ld (iblk6 V c 1 t) (Rect.unit ![0, 0, 0, 0] ![1, 1, 1024, 704] inb_S2x4x1024x704_S1x1x1024x704_0_0_0_0))
      (View.ld (iblk6 V c 0 t) (Rect.unit ![0, 1, 0, 0] ![1, 1, 512, 704] inb_S4x2x512x704_S1x1x512x704_0_1_0_0)) (View.ld (iblk6 V c 1 t) (Rect.unit ![1, 0, 0, 0] ![1, 1, 1024, 704] inb_S2x4x1024x704_S1x1x1024x704_1_0_0_0))
      (View.ld (iblk6 V c 0 t) (Rect.unit ![1, 0, 0, 0] ![1, 1, 512, 704] inb_S4x2x512x704_S1x1x512x704_1_0_0_0)) (View.ld (iblk6 V c 1 t) (Rect.unit ![0, 1, 0, 0] ![1, 1, 1024, 704] inb_S2x4x1024x704_S1x1x1024x704_0_1_0_0)))
    (k6_pay7 (F := Ideal) (View.ld (iblk6 V c 0 t) (Rect.unit ![1, 1, 0, 0] ![1, 1, 512, 704] inb_S4x2x512x704_S1x1x512x704_1_1_0_0))) (View.ld (iblk6 V c 1 t) (Rect.unit ![1, 1, 0, 0] ![1, 1, 1024, 704] inb_S2x4x1024x704_S1x1x1024x704_1_1_0_0))
    (View.ld (iblk6 V c 0 t) (Rect.unit ![2, 0, 0, 0] ![1, 1, 512, 704] inb_S4x2x512x704_S1x1x512x704_2_0_0_0)) (View.ld (iblk6 V c 1 t) (Rect.unit ![0, 2, 0, 0] ![1, 1, 1024, 704] inb_S2x4x1024x704_S1x1x1024x704_0_2_0_0))
    (View.ld (iblk6 V c 0 t) (Rect.unit ![2, 1, 0, 0] ![1, 1, 512, 704] inb_S4x2x512x704_S1x1x512x704_2_1_0_0)) (View.ld (iblk6 V c 1 t) (Rect.unit ![1, 2, 0, 0] ![1, 1, 1024, 704] inb_S2x4x1024x704_S1x1x1024x704_1_2_0_0))
    (View.ld (iblk6 V c 0 t) (Rect.unit ![3, 0, 0, 0] ![1, 1, 512, 704] inb_S4x2x512x704_S1x1x512x704_3_0_0_0)) (View.ld (iblk6 V c 1 t) (Rect.unit ![0, 3, 0, 0] ![1, 1, 1024, 704] inb_S2x4x1024x704_S1x1x1024x704_0_3_0_0)))
abbrev eighthB (c : Dev nD) (t : Fin cfg6.N) : FVec Ideal S512x704 .bf16 := (k6_pay9 (F := Ideal) (View.ld (iblk6 V c 0 t) (Rect.unit ![3, 1, 0, 0] ![1, 1, 512, 704] inb_S4x2x512x704_S1x1x512x704_3_1_0_0)))
abbrev lastB (c : Dev nD) (t : Fin cfg6.N) : FVec Ideal S1x1x1024x704 .bf16 := (View.ld (iblk6 V c 1 t) (Rect.unit ![1, 3, 0, 0] ![1, 1, 1024, 704] inb_S2x4x1024x704_S1x1x1024x704_1_3_0_0))
abbrev dyB (c : Dev nD) (t : Fin cfg6.N) : FVec Ideal S512x1024 .f32 := k6_pay10 (F := Ideal) (sevenB V c t) (eighthB V c t) (lastB V c t)
abbrev xB (c : Dev nD) (t : Fin cfg6.N) : FVec Ideal S512x1024 .f32 := k6_pay13 (F := Ideal) (iblk6 V c 2 t)
abbrev drB (c : Dev nD) (t : Fin cfg6.N) : FVec Ideal S512x1024 .f32 :=
  k6_pay14 (F := Ideal) (sevenB V c t) (eighthB V c t) (lastB V c t) (iblk6 V c 2 t) (iblk6 V c 4 t)

theorem idx6 : ∀ t : Fin cfg6.N, win6_0.index t = ![0, 0, t.val, 0] ∧ win6_1.index t = ![0, 0, 0, 0] ∧ win6_2.index t = ![t.val, 0]
    ∧ win6_3.index t = ![t.val, 0] ∧ win6_4.index t = ![0, 0] ∧ win6_5.index t = ![t.val, 0] ∧ win6_6.index t = ![t.val, 0] :=
  (by decide +kernel : ∀ t : Fin grid6.N, _)

theorem dyB_at (c : Dev nD) (t : Fin cfg6.N) (p : Fin 512) (q : Fin 1024) : (dyB V c t (ix2 p q) : EReal) = DY V c (ix2 (rowAt t p) q) := by
  unfold dyB sevenB eighthB lastB
  pointwise [k6_pay10, k6_pay9, k6_pay8, k6_pay7, k6_pay6, DY, dTok, dXpart, rowAt]
  blk_point [iblk6, idx6 t]

theorem r_at (c : Dev nD) (t : Fin cfg6.N) (p : Fin 512) (q : Fin 1024) :
    (iblk6 V c 2 t (ix2 p q) : EReal) = (V c main_v13_0 : FVec Ideal S4096x1024 .f32) (ix2 (rowAt t p) q) := by
  pointwise [rowAt]
  blk_point [iblk6, idx6 t]

theorem g_at (c : Dev nD) (t : Fin cfg6.N) (q : Fin 1024) :
    (iblk6 V c 4 t (ix2 (0 : Fin 1) q) : EReal) = (V c main_arg3 : FVec Ideal S1x1024 .f32) (ix2 (0 : Fin 1) q) := by
  blk_point [iblk6, idx6 t]

theorem xB_at (c : Dev nD) (t : Fin cfg6.N) (p : Fin 512) (q : Fin 1024) :
    (xB V c t (ix2 p q) : EReal) = Norm.xh (rowOf (V c main_v13_0) (rowAt t p)) q := by
  refine (k6_xh _ p q).trans (congrArg (Norm.xh · q) ?_)
  funext l
  exact r_at V c t p l

theorem grad_at (c : Dev nD) (t : Fin cfg6.N) (p : Fin 512) (q : Fin 1024) :
    (drB V c t (ix2 p q) : EReal) = dSum (DY V c) (V c main_v13_0) (V c main_arg3) (ix2 (rowAt t p) q) := by
  refine (k6_grad _ _ _ _ _ p q).trans (congrFun (congrArg₂ Norm.grad ?_ ?_) q)
  · funext l
    exact r_at V c t p l
  · funext l
    exact congrArg₂ (· * ·) (dyB_at V c t p l) (g_at V c t l)

theorem sum_out (c : Dev nD) (t : Fin cfg6.N) : (outsAt6 V c t.val t.isLt).1 = drB V c t := by
  by_cases h : t.val % 8 = 0
  · rw [outsAt6_A V c t h]; frame_out; rfl
  · rw [outsAt6_B V c t h]; frame_out; rfl

theorem low_out (c : Dev nD) (t : Fin cfg6.N) : (outsAt6 V c t.val t.isLt).2.1 = k6_pay1 (F := Ideal) (drB V c t) := by
  by_cases h : t.val % 8 = 0
  · rw [outsAt6_A V c t h]; frame_out; rfl
  · rw [outsAt6_B V c t h]; frame_out; rfl

theorem scale_A (c : Dev nD) (t : Fin cfg6.N) (h : t.val % 8 = 0) :
    (outsAt6 V c t.val t.isLt).2.2.1 = k6_pay4 (F := Ideal) (dyB V c t) (xB V c t) (k6_pay2 (F := Ideal)) := by
  rw [outsAt6_A V c t h]; frame_out; rfl

theorem scale_B (c : Dev nD) (t : Fin cfg6.N) (h : ¬ t.val % 8 = 0) :
    (outsAt6 V c t.val t.isLt).2.2.1 = k6_pay4 (F := Ideal) (dyB V c t) (xB V c t)
      (outsAt6 V c (t.val - 1) (lt_of_le_of_lt (Nat.sub_le _ _) t.isLt)).2.2.1 := by
  rw [outsAt6_B V c t h]; frame_out; rfl

theorem shift_A (c : Dev nD) (t : Fin cfg6.N) (h : t.val % 8 = 0) :
    (outsAt6 V c t.val t.isLt).2.2.2 = k6_pay5 (F := Ideal) (dyB V c t) (k6_pay3 (F := Ideal)) := by
  rw [outsAt6_A V c t h]; frame_out; rfl

theorem shift_B (c : Dev nD) (t : Fin cfg6.N) (h : ¬ t.val % 8 = 0) :
    (outsAt6 V c t.val t.isLt).2.2.2 = k6_pay5 (F := Ideal) (dyB V c t)
      (outsAt6 V c (t.val - 1) (lt_of_le_of_lt (Nat.sub_le _ _) t.isLt)).2.2.2 := by
  rw [outsAt6_B V c t h]; frame_out; rfl

theorem final6_5 (c : Dev nD) : (dat6 V c).arrAt 5 cfg6.N = dSum (DY V c) (V c main_v13_0) (V c main_arg3) := by
  refine (dat6 V c).arrAt_eq_of_covers 5 _ (by decide +kernel) fun t _ y => ?_
  obtain ⟨p, q, rfl⟩ : ∃ (p : Fin 512) (q : Fin 1024), y = ix2 p q := ⟨y 0, y 1, by blk_ext⟩
  blk_simp
  rw [after6_5, sum_out]
  refine (grad_at V c t p q).trans (congrArg _ ?_)
  blk_ext [rowAt, idx6 t]

theorem final6_6 (c : Dev nD) : (dat6 V c).arrAt 6 cfg6.N = lowSum (DY V c) (V c main_v13_0) (V c main_arg3) := by
  refine (dat6 V c).arrAt_eq_of_covers 6 _ (by decide +kernel) fun t _ y => ?_
  obtain ⟨p, q, rfl⟩ : ∃ (p : Fin 512) (q : Fin 1024), y = ix2 p q := ⟨y 0, y 1, by blk_ext⟩
  blk_simp
  rw [after6_6, low_out]
  refine (k6_low _ p q).trans ?_
  rw [grad_at V c t p q]
  refine congrArg (lowSum (DY V c) (V c main_v13_0) (V c main_arg3)) ?_
  blk_ext [rowAt, idx6 t]

theorem final6_7 (c : Dev nD) : (dat6 V c).arrAt 7 cfg6.N = dScale (DY V c) (V c main_v13_0) := by
  refine (dat6 V c).arrAt_eq_of_after_last 7 t6_7 (by decide +kernel) _ fun y => ?_
  obtain ⟨a, l, rfl⟩ : ∃ (a : Fin 8) (l : Fin 1024), y = ix2 a l := ⟨y 0, y 1, by blk_ext⟩
  blk_simp
  rw [after6_7]
  have e := fold_sum (fun n h => (outsAt6 V c n h).2.2.1) (fun t x => k6_pay4 (F := Ideal) (dyB V c t) (xB V c t) x)
    (fun t => ∑ j : Fin 64, (DY V c (ix2 (rowAt t (fold j a)) l) : EReal) * Norm.xh (rowOf (V c main_v13_0) (rowAt t (fold j a))) l)
    (k6_pay2 (F := Ideal)) (ix2 a l) (by pointwise [k6_pay2])
    (fun t x => (k6_scale _ _ x a l).trans (congrArg _ (Finset.sum_congr rfl fun j _ => congrArg₂ (· * ·) (dyB_at V c t _ l) (xB_at V c t _ l))))
    (scale_A V c) (scale_B V c)
  exact e

theorem final6_8 (c : Dev nD) : (dat6 V c).arrAt 8 cfg6.N = dShift (DY V c) := by
  refine (dat6 V c).arrAt_eq_of_after_last 8 t6_7 (by decide +kernel) _ fun y => ?_
  obtain ⟨a, l, rfl⟩ : ∃ (a : Fin 8) (l : Fin 1024), y = ix2 a l := ⟨y 0, y 1, by blk_ext⟩
  blk_simp
  rw [after6_8]
  have e := fold_sum (fun n h => (outsAt6 V c n h).2.2.2) (fun t x => k6_pay5 (F := Ideal) (dyB V c t) x)
    (fun t => ∑ j : Fin 64, (DY V c (ix2 (rowAt t (fold j a)) l) : EReal))
    (k6_pay3 (F := Ideal)) (ix2 a l) (by pointwise [k6_pay3])
    (fun t x => (k6_shift _ x a l).trans (congrArg _ (Finset.sum_congr rfl fun j _ => dyB_at V c t _ l)))
    (shift_A V c) (shift_B V c)
  exact e

end Cert.Kernel3Ideal.Second

end
-- ==== Proof.SecondRun.lean ====
/-
  The whole run of the mixers' output projection, the second layer norm and the second half-step, forwards and backwards: what the arguments become
  before the calls, and the nine results as the calls compose.
-/
module

public import proofs.«01_k».proof.Proof.SecondMix
public import proofs.«01_k».proof.Proof.SecondRegions
public import proofs.«01_k».proof.Proof.SecondForward
public import proofs.«01_k».proof.Proof.SecondBack
public import proofs.«01_k».proof.Proof.HalfRun
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Second

open Cert.Kernel3Ideal Cert.Kernel3Ideal.Gen
open Cert.Kernel2Ideal.Half (hid act dOut dHid dIn pre rowOf normed dSum dScale dShift rowsSum blocksIn blocksOut low)

variable (m : (ℓ : Loc nD τ sig) → Buf (Elt Ideal) ℓ)

section

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- The run: every weakly fair execution ends with each buffer that the program owns at its final contents. -/
theorem run (ρ : Dev nD → PrngReg) : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end

variable (ρ : Dev nD → PrngReg)

/-- The mixers' output weight at the narrow format. -/
def lowSq (w : FVec Ideal S1024x1024 .f32) : FVec Ideal S1024x1024 .bf16 := truncf .bf16 w bitsLt_bf16_f32

/-- Half of the cotangent, at the narrow format. -/
def halfLow (d : FVec Ideal S4096x1024 .f32) : FVec Ideal S4096x1024 .bf16 := fun i => (Ideal.ofBits .f32 0x3F000000#32 * d i : EReal)

/-- The mixers' result and their output weight, under a leading axis of one. -/
def stackM (x : FVec Ideal S4096x1024 .bf16) : FVec Ideal S1x4096x1024 .bf16 := fun i => x (ix2 (i 1) (i 2))
def stackW (x : FVec Ideal S1024x1024 .bf16) : FVec Ideal S1x1024x1024 .bf16 := fun i => x (ix2 (i 1) (i 2))

/-- What the calls take and leave on device `c`: the mixers' result, the weights, half of the cotangent, the sum before the second layer norm,
    that norm at both formats, the half-step's hidden blocks and activations, the sum before the third layer norm, the hidden blocks' cotangent, the
    second layer norm's, and the sum's. -/
abbrev Mc (c : Dev nD) : FVec Ideal S4096x1024 .bf16 := low (m ((c : Thread nD τ).loc main_arg0) : FVec Ideal S4096x1024 .f32)
abbrev Kc (c : Dev nD) : FVec Ideal S1024x1024 .bf16 := lowSq (m ((c : Thread nD τ).loc main_arg2) : FVec Ideal S1024x1024 .f32)
abbrev Wc (c : Dev nD) : FVec Ideal S2x4x1024x704 .bf16 := blocksIn (m ((c : Thread nD τ).loc main_arg5) : FVec Ideal S1024x5632 .f32)
abbrev Oc (c : Dev nD) : FVec Ideal S4x704x1024 .bf16 := blocksOut (m ((c : Thread nD τ).loc main_arg6) : FVec Ideal S2816x1024 .f32)
abbrev Dc (c : Dev nD) : FVec Ideal S4096x1024 .bf16 := halfLow (m ((c : Thread nD τ).loc main_arg9) : FVec Ideal S4096x1024 .f32)
abbrev Rc (c : Dev nD) : FVec Ideal S4096x1024 .f32 := preMix (stackM (Mc m c)) (stackW (Kc m c)) (m ((c : Thread nD τ).loc main_arg1) : FVec Ideal S4096x1024 .f32)
abbrev Yc (c : Dev nD) : FVec Ideal S4096x1024 .f32 := normedW (Rc m c) (m ((c : Thread nD τ).loc main_arg3) : FVec Ideal S1x1024 .f32) (m ((c : Thread nD τ).loc main_arg4) : FVec Ideal S1x1024 .f32)
abbrev Xc (c : Dev nD) : FVec Ideal S4096x1024 .bf16 := normed (Rc m c) (m ((c : Thread nD τ).loc main_arg3) : FVec Ideal S1x1024 .f32) (m ((c : Thread nD τ).loc main_arg4) : FVec Ideal S1x1024 .f32)
abbrev hidc (c : Dev nD) : FVec Ideal S4x2x4096x704 .bf16 := hid (Xc m c) (Wc m c)
abbrev actc (c : Dev nD) : FVec Ideal S4x4096x704 .bf16 := act (Xc m c) (Wc m c)
abbrev Tc (c : Dev nD) : FVec Ideal S4096x1024 .f32 := pre (actc m c) (Oc m c) (Yc m c)
abbrev Hc (c : Dev nD) : FVec Ideal S4x2x4096x704 .bf16 := dHid (Dc m c) (Oc m c) (hidc m c)
abbrev Nc (c : Dev nD) : FVec Ideal S4096x1024 .f32 := dTok (Hc m c) (Wc m c) (m ((c : Thread nD τ).loc main_arg9) : FVec Ideal S4096x1024 .f32)
abbrev Lc (c : Dev nD) : FVec Ideal S4096x1024 .bf16 := lowSum (Nc m c) (Rc m c) (m ((c : Thread nD τ).loc main_arg3) : FVec Ideal S1x1024 .f32)

theorem W1_v0 (c : Dev nD) : (W1 m ρ c (Proc.devRef .tc main_v0) : FVec Ideal S4096x1024 .bf16) = Mc m c := by
  simp only [W1]
  after_results
  rfl

theorem W1_v1 (c : Dev nD) : (W1 m ρ c (Proc.devRef .tc main_v1) : FVec Ideal S1024x1024 .bf16) = Kc m c := by
  simp only [W1]
  after_results
  rfl

theorem W1_v6 (c : Dev nD) : (W1 m ρ c (Proc.devRef .tc main_v6) : FVec Ideal S2x4x1024x704 .bf16) = Wc m c := by
  simp only [W1]
  after_results
  rfl

theorem W1_v7 (c : Dev nD) : (W1 m ρ c (Proc.devRef .tc main_v7) : FVec Ideal S4x704x1024 .bf16) = Oc m c := by
  simp only [W1]
  after_results
  rfl

theorem W1_v10 (c : Dev nD) : (W1 m ρ c (Proc.devRef .tc main_v10) : FVec Ideal S4096x1024 .bf16) = Dc m c := by
  simp only [W1]
  after_results
  funext i
  pointwise [halfLow]

theorem W1_v11 (c : Dev nD) : (W1 m ρ c (Proc.devRef .tc main_v11) : FVec Ideal S1x4096x1024 .bf16) = stackM (Mc m c) := by
  simp only [W1]
  after_results
  funext i
  pointwise [stackM, low]
  blk_ext

theorem W1_v12 (c : Dev nD) : (W1 m ρ c (Proc.devRef .tc main_v12) : FVec Ideal S1x1024x1024 .bf16) = stackW (Kc m c) := by
  simp only [W1]
  after_results
  funext i
  pointwise [stackW, lowSq]
  blk_ext

theorem mix1 (c : Dev nD) : preMix (V1 m ρ c main_v11) (V1 m ρ c main_v12) (V1 m ρ c main_arg1) = Rc m c :=
  congr (congrArg₂ preMix (W1_v11 m ρ c) (W1_v12 m ρ c)) (W1_args m ρ c main_arg1 (by decide +kernel))

theorem W2_v13_0 (c : Dev nD) : (W2 m ρ c (Proc.devRef .tc main_v13_0) : FVec Ideal S4096x1024 .f32) = Rc m c :=
  (W2_arr m ρ c 5).trans ((final0_5 (V1 m ρ) c).trans (mix1 m ρ c))

theorem W2_v13_1 (c : Dev nD) : (W2 m ρ c (Proc.devRef .tc main_v13_1) : FVec Ideal S4096x1024 .f32) = Yc m c := by
  refine (W2_arr m ρ c 6).trans ((final0_6 (V1 m ρ) c).trans ?_)
  exact congr (congrArg₂ normedW (mix1 m ρ c) (W1_args m ρ c main_arg3 (by decide +kernel))) (W1_args m ρ c main_arg4 (by decide +kernel))

theorem W2_v13_2 (c : Dev nD) : (W2 m ρ c (Proc.devRef .tc main_v13_2) : FVec Ideal S4096x1024 .bf16) = Xc m c := by
  refine (W2_arr m ρ c 7).trans ((final0_7 (V1 m ρ) c).trans ?_)
  exact congr (congrArg₂ normed (mix1 m ρ c) (W1_args m ρ c main_arg3 (by decide +kernel))) (W1_args m ρ c main_arg4 (by decide +kernel))

theorem W2_v6 (c : Dev nD) : (W2 m ρ c (Proc.devRef .tc main_v6) : FVec Ideal S2x4x1024x704 .bf16) = Wc m c :=
  (W2_of m ρ c main_v6 (by decide +kernel)).trans (W1_v6 m ρ c)

theorem W3_v14_0 (c : Dev nD) : (W3 m ρ c (Proc.devRef .tc main_v14_0) : FVec Ideal S4x2x4096x704 .bf16) = hidc m c := by
  refine (W3_arr m ρ c 3).trans ((final1_3 (V2 m ρ) c).trans ?_)
  exact congrArg₂ hid (W2_v13_2 m ρ c) (W2_v6 m ρ c)

theorem W3_v14_1 (c : Dev nD) : (W3 m ρ c (Proc.devRef .tc main_v14_1) : FVec Ideal S4x4096x704 .bf16) = actc m c := by
  refine (W3_arr m ρ c 4).trans ((final1_4 (V2 m ρ) c).trans ?_)
  exact congrArg₂ act (W2_v13_2 m ρ c) (W2_v6 m ρ c)

theorem W2_v7 (c : Dev nD) : (W2 m ρ c (Proc.devRef .tc main_v7) : FVec Ideal S4x704x1024 .bf16) = Oc m c :=
  (W2_of m ρ c main_v7 (by decide +kernel)).trans (W1_v7 m ρ c)

theorem W3_v7 (c : Dev nD) : (W3 m ρ c (Proc.devRef .tc main_v7) : FVec Ideal S4x704x1024 .bf16) = Oc m c :=
  (W3_of m ρ c main_v7 (by decide +kernel)).trans (W2_v7 m ρ c)

theorem W3_v13_1 (c : Dev nD) : (W3 m ρ c (Proc.devRef .tc main_v13_1) : FVec Ideal S4096x1024 .f32) = Yc m c :=
  (W3_of m ρ c main_v13_1 (by decide +kernel)).trans (W2_v13_1 m ρ c)

theorem pre3 (c : Dev nD) : pre (V3 m ρ c main_v14_1) (V3 m ρ c main_v7) (V3 m ρ c main_v13_1) = Tc m c :=
  congr (congrArg₂ pre (W3_v14_1 m ρ c) (W3_v7 m ρ c)) (W3_v13_1 m ρ c)

theorem W4_v15_0 (c : Dev nD) : (W4 m ρ c (Proc.devRef .tc main_v15_0) : FVec Ideal S4096x1024 .f32) = Tc m c :=
  (W4_arr m ρ c 5).trans ((final2_5 (V3 m ρ) c).trans (pre3 m ρ c))

theorem W4_v15_1 (c : Dev nD) : (W4 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) := by
  refine (W4_arr m ρ c 6).trans ((final2_6 (V3 m ρ) c).trans ?_)
  exact congr (congrArg₂ normedW (pre3 m ρ c) (W3_args m ρ c main_arg7 (by decide +kernel))) (W3_args m ρ c main_arg8 (by decide +kernel))

theorem W2_v10 (c : Dev nD) : (W2 m ρ c (Proc.devRef .tc main_v10) : FVec Ideal S4096x1024 .bf16) = Dc m c :=
  (W2_of m ρ c main_v10 (by decide +kernel)).trans (W1_v10 m ρ c)

theorem W3_v10 (c : Dev nD) : (W3 m ρ c (Proc.devRef .tc main_v10) : FVec Ideal S4096x1024 .bf16) = Dc m c :=
  (W3_of m ρ c main_v10 (by decide +kernel)).trans (W2_v10 m ρ c)

theorem W4_v10 (c : Dev nD) : (W4 m ρ c (Proc.devRef .tc main_v10) : FVec Ideal S4096x1024 .bf16) = Dc m c :=
  (W4_of m ρ c main_v10 (by decide +kernel)).trans (W3_v10 m ρ c)

theorem W4_v7 (c : Dev nD) : (W4 m ρ c (Proc.devRef .tc main_v7) : FVec Ideal S4x704x1024 .bf16) = Oc m c :=
  (W4_of m ρ c main_v7 (by decide +kernel)).trans (W3_v7 m ρ c)

theorem W4_v14_0 (c : Dev nD) : (W4 m ρ c (Proc.devRef .tc main_v14_0) : FVec Ideal S4x2x4096x704 .bf16) = hidc m c :=
  (W4_of m ρ c main_v14_0 (by decide +kernel)).trans (W3_v14_0 m ρ c)

theorem W5_v16 (c : Dev nD) : (W5 m ρ c (Proc.devRef .tc main_v16) : FVec Ideal S4x2x4096x704 .bf16) = Hc m c := by
  refine (W5_arr m ρ c 3).trans ((final3_3 (V4 m ρ) c).trans ?_)
  exact congr (congrArg₂ dHid (W4_v10 m ρ c) (W4_v7 m ρ c)) (W4_v14_0 m ρ c)

theorem W4_v14_1 (c : Dev nD) : (W4 m ρ c (Proc.devRef .tc main_v14_1) : FVec Ideal S4x4096x704 .bf16) = actc m c :=
  (W4_of m ρ c main_v14_1 (by decide +kernel)).trans (W3_v14_1 m ρ c)

theorem W5_v14_1 (c : Dev nD) : (W5 m ρ c (Proc.devRef .tc main_v14_1) : FVec Ideal S4x4096x704 .bf16) = actc m c :=
  (W5_of m ρ c main_v14_1 (by decide +kernel)).trans (W4_v14_1 m ρ c)

theorem W5_v10 (c : Dev nD) : (W5 m ρ c (Proc.devRef .tc main_v10) : FVec Ideal S4096x1024 .bf16) = Dc m c :=
  (W5_of m ρ c main_v10 (by decide +kernel)).trans (W4_v10 m ρ c)

theorem W6_v17 (c : Dev nD) : (W6 m ρ c (Proc.devRef .tc main_v17) : FVec Ideal S4x704x1024 .bf16) = dOut (actc m c) (Dc m c) := by
  refine (W6_arr m ρ c 2).trans ((final4_2 (V5 m ρ) c).trans ?_)
  exact congrArg₂ dOut (W5_v14_1 m ρ c) (W5_v10 m ρ c)

theorem W3_v13_2 (c : Dev nD) : (W3 m ρ c (Proc.devRef .tc main_v13_2) : FVec Ideal S4096x1024 .bf16) = Xc m c :=
  (W3_of m ρ c main_v13_2 (by decide +kernel)).trans (W2_v13_2 m ρ c)

theorem W4_v13_2 (c : Dev nD) : (W4 m ρ c (Proc.devRef .tc main_v13_2) : FVec Ideal S4096x1024 .bf16) = Xc m c :=
  (W4_of m ρ c main_v13_2 (by decide +kernel)).trans (W3_v13_2 m ρ c)

theorem W5_v13_2 (c : Dev nD) : (W5 m ρ c (Proc.devRef .tc main_v13_2) : FVec Ideal S4096x1024 .bf16) = Xc m c :=
  (W5_of m ρ c main_v13_2 (by decide +kernel)).trans (W4_v13_2 m ρ c)

theorem W6_v13_2 (c : Dev nD) : (W6 m ρ c (Proc.devRef .tc main_v13_2) : FVec Ideal S4096x1024 .bf16) = Xc m c :=
  (W6_of m ρ c main_v13_2 (by decide +kernel)).trans (W5_v13_2 m ρ c)

theorem W6_v16 (c : Dev nD) : (W6 m ρ c (Proc.devRef .tc main_v16) : FVec Ideal S4x2x4096x704 .bf16) = Hc m c :=
  (W6_of m ρ c main_v16 (by decide +kernel)).trans (W5_v16 m ρ c)

theorem W7_v18 (c : Dev nD) : (W7 m ρ c (Proc.devRef .tc main_v18) : FVec Ideal S2x4x1024x704 .bf16) = dIn (Xc m c) (Hc m c) := by
  refine (W7_arr m ρ c 2).trans ((final5_2 (V6 m ρ) c).trans ?_)
  exact congrArg₂ dIn (W6_v13_2 m ρ c) (W6_v16 m ρ c)

theorem W7_v16 (c : Dev nD) : (W7 m ρ c (Proc.devRef .tc main_v16) : FVec Ideal S4x2x4096x704 .bf16) = Hc m c :=
  (W7_of m ρ c main_v16 (by decide +kernel)).trans (W6_v16 m ρ c)

theorem W3_v6 (c : Dev nD) : (W3 m ρ c (Proc.devRef .tc main_v6) : FVec Ideal S2x4x1024x704 .bf16) = Wc m c :=
  (W3_of m ρ c main_v6 (by decide +kernel)).trans (W2_v6 m ρ c)

theorem W4_v6 (c : Dev nD) : (W4 m ρ c (Proc.devRef .tc main_v6) : FVec Ideal S2x4x1024x704 .bf16) = Wc m c :=
  (W4_of m ρ c main_v6 (by decide +kernel)).trans (W3_v6 m ρ c)

theorem W5_v6 (c : Dev nD) : (W5 m ρ c (Proc.devRef .tc main_v6) : FVec Ideal S2x4x1024x704 .bf16) = Wc m c :=
  (W5_of m ρ c main_v6 (by decide +kernel)).trans (W4_v6 m ρ c)

theorem W6_v6 (c : Dev nD) : (W6 m ρ c (Proc.devRef .tc main_v6) : FVec Ideal S2x4x1024x704 .bf16) = Wc m c :=
  (W6_of m ρ c main_v6 (by decide +kernel)).trans (W5_v6 m ρ c)

theorem W7_v6 (c : Dev nD) : (W7 m ρ c (Proc.devRef .tc main_v6) : FVec Ideal S2x4x1024x704 .bf16) = Wc m c :=
  (W7_of m ρ c main_v6 (by decide +kernel)).trans (W6_v6 m ρ c)

theorem tok7 (c : Dev nD) : dTok (V7 m ρ c main_v16) (V7 m ρ c main_v6) (V7 m ρ c main_arg9) = Nc m c :=
  congr (congrArg₂ dTok (W7_v16 m ρ c) (W7_v6 m ρ c)) (W7_args m ρ c main_arg9 (by decide +kernel))

theorem W3_v13_0 (c : Dev nD) : (W3 m ρ c (Proc.devRef .tc main_v13_0) : FVec Ideal S4096x1024 .f32) = Rc m c :=
  (W3_of m ρ c main_v13_0 (by decide +kernel)).trans (W2_v13_0 m ρ c)

theorem W4_v13_0 (c : Dev nD) : (W4 m ρ c (Proc.devRef .tc main_v13_0) : FVec Ideal S4096x1024 .f32) = Rc m c :=
  (W4_of m ρ c main_v13_0 (by decide +kernel)).trans (W3_v13_0 m ρ c)

theorem W5_v13_0 (c : Dev nD) : (W5 m ρ c (Proc.devRef .tc main_v13_0) : FVec Ideal S4096x1024 .f32) = Rc m c :=
  (W5_of m ρ c main_v13_0 (by decide +kernel)).trans (W4_v13_0 m ρ c)

theorem W6_v13_0 (c : Dev nD) : (W6 m ρ c (Proc.devRef .tc main_v13_0) : FVec Ideal S4096x1024 .f32) = Rc m c :=
  (W6_of m ρ c main_v13_0 (by decide +kernel)).trans (W5_v13_0 m ρ c)

theorem W7_v13_0 (c : Dev nD) : (W7 m ρ c (Proc.devRef .tc main_v13_0) : FVec Ideal S4096x1024 .f32) = Rc m c :=
  (W7_of m ρ c main_v13_0 (by decide +kernel)).trans (W6_v13_0 m ρ c)

theorem W8_v19_0 (c : Dev nD) : (W8 m ρ c (Proc.devRef .tc main_v19_0) : FVec Ideal S4096x1024 .f32) = dSum (Nc m c) (Rc m c) (m ((c : Thread nD τ).loc main_arg3) : FVec Ideal S1x1024 .f32) := by
  refine (W8_arr m ρ c 5).trans ((final6_5 (V7 m ρ) c).trans ?_)
  exact congr (congrArg₂ dSum (tok7 m ρ c) (W7_v13_0 m ρ c)) (W7_args m ρ c main_arg3 (by decide +kernel))

theorem W8_v19_1 (c : Dev nD) : (W8 m ρ c (Proc.devRef .tc main_v19_1) : FVec Ideal S4096x1024 .bf16) = Lc m c := by
  refine (W8_arr m ρ c 6).trans ((final6_6 (V7 m ρ) c).trans ?_)
  exact congr (congrArg₂ lowSum (tok7 m ρ c) (W7_v13_0 m ρ c)) (W7_args m ρ c main_arg3 (by decide +kernel))

theorem W8_v19_2 (c : Dev nD) : (W8 m ρ c (Proc.devRef .tc main_v19_2) : FVec Ideal S8x1024 .f32) = dScale (Nc m c) (Rc m c) := by
  refine (W8_arr m ρ c 7).trans ((final6_7 (V7 m ρ) c).trans ?_)
  exact congrArg₂ dScale (tok7 m ρ c) (W7_v13_0 m ρ c)

theorem W8_v19_3 (c : Dev nD) : (W8 m ρ c (Proc.devRef .tc main_v19_3) : FVec Ideal S8x1024 .f32) = dShift (Nc m c) := by
  refine (W8_arr m ρ c 8).trans ((final6_8 (V7 m ρ) c).trans ?_)
  exact congrArg dShift (tok7 m ρ c)

theorem W2_v1 (c : Dev nD) : (W2 m ρ c (Proc.devRef .tc main_v1) : FVec Ideal S1024x1024 .bf16) = Kc m c :=
  (W2_of m ρ c main_v1 (by decide +kernel)).trans (W1_v1 m ρ c)

theorem W3_v1 (c : Dev nD) : (W3 m ρ c (Proc.devRef .tc main_v1) : FVec Ideal S1024x1024 .bf16) = Kc m c :=
  (W3_of m ρ c main_v1 (by decide +kernel)).trans (W2_v1 m ρ c)

theorem W4_v1 (c : Dev nD) : (W4 m ρ c (Proc.devRef .tc main_v1) : FVec Ideal S1024x1024 .bf16) = Kc m c :=
  (W4_of m ρ c main_v1 (by decide +kernel)).trans (W3_v1 m ρ c)

theorem W5_v1 (c : Dev nD) : (W5 m ρ c (Proc.devRef .tc main_v1) : FVec Ideal S1024x1024 .bf16) = Kc m c :=
  (W5_of m ρ c main_v1 (by decide +kernel)).trans (W4_v1 m ρ c)

theorem W6_v1 (c : Dev nD) : (W6 m ρ c (Proc.devRef .tc main_v1) : FVec Ideal S1024x1024 .bf16) = Kc m c :=
  (W6_of m ρ c main_v1 (by decide +kernel)).trans (W5_v1 m ρ c)

theorem W7_v1 (c : Dev nD) : (W7 m ρ c (Proc.devRef .tc main_v1) : FVec Ideal S1024x1024 .bf16) = Kc m c :=
  (W7_of m ρ c main_v1 (by decide +kernel)).trans (W6_v1 m ρ c)

theorem W8_v1 (c : Dev nD) : (W8 m ρ c (Proc.devRef .tc main_v1) : FVec Ideal S1024x1024 .bf16) = Kc m c :=
  (W8_of m ρ c main_v1 (by decide +kernel)).trans (W7_v1 m ρ c)

theorem W9_v20 (c : Dev nD) : (W9 m ρ c (Proc.devRef .tc main_v20) : FVec Ideal S4096x1024 .f32) = dM (Lc m c) (Kc m c) := by
  refine (W9_arr m ρ c 2).trans ((final7_2 (V8 m ρ) c).trans ?_)
  exact congrArg₂ dM (W8_v19_1 m ρ c) (W8_v1 m ρ c)

theorem W2_v0 (c : Dev nD) : (W2 m ρ c (Proc.devRef .tc main_v0) : FVec Ideal S4096x1024 .bf16) = Mc m c :=
  (W2_of m ρ c main_v0 (by decide +kernel)).trans (W1_v0 m ρ c)

theorem W3_v0 (c : Dev nD) : (W3 m ρ c (Proc.devRef .tc main_v0) : FVec Ideal S4096x1024 .bf16) = Mc m c :=
  (W3_of m ρ c main_v0 (by decide +kernel)).trans (W2_v0 m ρ c)

theorem W4_v0 (c : Dev nD) : (W4 m ρ c (Proc.devRef .tc main_v0) : FVec Ideal S4096x1024 .bf16) = Mc m c :=
  (W4_of m ρ c main_v0 (by decide +kernel)).trans (W3_v0 m ρ c)

theorem W5_v0 (c : Dev nD) : (W5 m ρ c (Proc.devRef .tc main_v0) : FVec Ideal S4096x1024 .bf16) = Mc m c :=
  (W5_of m ρ c main_v0 (by decide +kernel)).trans (W4_v0 m ρ c)

theorem W6_v0 (c : Dev nD) : (W6 m ρ c (Proc.devRef .tc main_v0) : FVec Ideal S4096x1024 .bf16) = Mc m c :=
  (W6_of m ρ c main_v0 (by decide +kernel)).trans (W5_v0 m ρ c)

theorem W7_v0 (c : Dev nD) : (W7 m ρ c (Proc.devRef .tc main_v0) : FVec Ideal S4096x1024 .bf16) = Mc m c :=
  (W7_of m ρ c main_v0 (by decide +kernel)).trans (W6_v0 m ρ c)

theorem W8_v0 (c : Dev nD) : (W8 m ρ c (Proc.devRef .tc main_v0) : FVec Ideal S4096x1024 .bf16) = Mc m c :=
  (W8_of m ρ c main_v0 (by decide +kernel)).trans (W7_v0 m ρ c)

theorem W9_v0 (c : Dev nD) : (W9 m ρ c (Proc.devRef .tc main_v0) : FVec Ideal S4096x1024 .bf16) = Mc m c :=
  (W9_of m ρ c main_v0 (by decide +kernel)).trans (W8_v0 m ρ c)

theorem W9_v19_1 (c : Dev nD) : (W9 m ρ c (Proc.devRef .tc main_v19_1) : FVec Ideal S4096x1024 .bf16) = Lc m c :=
  (W9_of m ρ c main_v19_1 (by decide +kernel)).trans (W8_v19_1 m ρ c)

theorem W10_v21 (c : Dev nD) : (W10 m ρ c (Proc.devRef .tc main_v21) : FVec Ideal S1024x1024 .bf16) = dMixOut (Mc m c) (Lc m c) := by
  refine (W10_arr m ρ c 2).trans ((final8_2 (V9 m ρ) c).trans ?_)
  exact congrArg₂ dMixOut (W9_v0 m ρ c) (W9_v19_1 m ρ c)

theorem W5_v15_0 (c : Dev nD) : (W5 m ρ c (Proc.devRef .tc main_v15_0) : FVec Ideal S4096x1024 .f32) = Tc m c :=
  (W5_of m ρ c main_v15_0 (by decide +kernel)).trans (W4_v15_0 m ρ c)

theorem W6_v15_0 (c : Dev nD) : (W6 m ρ c (Proc.devRef .tc main_v15_0) : FVec Ideal S4096x1024 .f32) = Tc m c :=
  (W6_of m ρ c main_v15_0 (by decide +kernel)).trans (W5_v15_0 m ρ c)

theorem W7_v15_0 (c : Dev nD) : (W7 m ρ c (Proc.devRef .tc main_v15_0) : FVec Ideal S4096x1024 .f32) = Tc m c :=
  (W7_of m ρ c main_v15_0 (by decide +kernel)).trans (W6_v15_0 m ρ c)

theorem W8_v15_0 (c : Dev nD) : (W8 m ρ c (Proc.devRef .tc main_v15_0) : FVec Ideal S4096x1024 .f32) = Tc m c :=
  (W8_of m ρ c main_v15_0 (by decide +kernel)).trans (W7_v15_0 m ρ c)

theorem W9_v15_0 (c : Dev nD) : (W9 m ρ c (Proc.devRef .tc main_v15_0) : FVec Ideal S4096x1024 .f32) = Tc m c :=
  (W9_of m ρ c main_v15_0 (by decide +kernel)).trans (W8_v15_0 m ρ c)

theorem W10_v15_0 (c : Dev nD) : (W10 m ρ c (Proc.devRef .tc main_v15_0) : FVec Ideal S4096x1024 .f32) = Tc m c :=
  (W10_of m ρ c main_v15_0 (by decide +kernel)).trans (W9_v15_0 m ρ c)

theorem W11_v15_0 (c : Dev nD) : (W11 m ρ c (Proc.devRef .tc main_v15_0) : FVec Ideal S4096x1024 .f32) = Tc m c :=
  (W11_of m ρ c main_v15_0 (by decide +kernel)).trans (W10_v15_0 m ρ c)

theorem W5_v15_1 (c : Dev nD) : (W5 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W5_of m ρ c main_v15_1 (by decide +kernel)).trans (W4_v15_1 m ρ c)

theorem W6_v15_1 (c : Dev nD) : (W6 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W6_of m ρ c main_v15_1 (by decide +kernel)).trans (W5_v15_1 m ρ c)

theorem W7_v15_1 (c : Dev nD) : (W7 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W7_of m ρ c main_v15_1 (by decide +kernel)).trans (W6_v15_1 m ρ c)

theorem W8_v15_1 (c : Dev nD) : (W8 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W8_of m ρ c main_v15_1 (by decide +kernel)).trans (W7_v15_1 m ρ c)

theorem W9_v15_1 (c : Dev nD) : (W9 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W9_of m ρ c main_v15_1 (by decide +kernel)).trans (W8_v15_1 m ρ c)

theorem W10_v15_1 (c : Dev nD) : (W10 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W10_of m ρ c main_v15_1 (by decide +kernel)).trans (W9_v15_1 m ρ c)

theorem W11_v15_1 (c : Dev nD) : (W11 m ρ c (Proc.devRef .tc main_v15_1) : FVec Ideal S4096x1024 .f32) = normedW (Tc m c) (m ((c : Thread nD τ).loc main_arg7) : FVec Ideal S1x1024 .f32) (m ((c : Thread nD τ).loc main_arg8) : FVec Ideal S1x1024 .f32) :=
  (W11_of m ρ c main_v15_1 (by decide +kernel)).trans (W10_v15_1 m ρ c)

theorem W9_v19_0 (c : Dev nD) : (W9 m ρ c (Proc.devRef .tc main_v19_0) : FVec Ideal S4096x1024 .f32) = dSum (Nc m c) (Rc m c) (m ((c : Thread nD τ).loc main_arg3) : FVec Ideal S1x1024 .f32) :=
  (W9_of m ρ c main_v19_0 (by decide +kernel)).trans (W8_v19_0 m ρ c)

theorem W10_v19_0 (c : Dev nD) : (W10 m ρ c (Proc.devRef .tc main_v19_0) : FVec Ideal S4096x1024 .f32) = dSum (Nc m c) (Rc m c) (m ((c : Thread nD τ).loc main_arg3) : FVec Ideal S1x1024 .f32) :=
  (W10_of m ρ c main_v19_0 (by decide +kernel)).trans (W9_v19_0 m ρ c)

theorem W11_v19_0 (c : Dev nD) : (W11 m ρ c (Proc.devRef .tc main_v19_0) : FVec Ideal S4096x1024 .f32) = dSum (Nc m c) (Rc m c) (m ((c : Thread nD τ).loc main_arg3) : FVec Ideal S1x1024 .f32) :=
  (W11_of m ρ c main_v19_0 (by decide +kernel)).trans (W10_v19_0 m ρ c)

theorem W10_v20 (c : Dev nD) : (W10 m ρ c (Proc.devRef .tc main_v20) : FVec Ideal S4096x1024 .f32) = dM (Lc m c) (Kc m c) :=
  (W10_of m ρ c main_v20 (by decide +kernel)).trans (W9_v20 m ρ c)

theorem W11_v20 (c : Dev nD) : (W11 m ρ c (Proc.devRef .tc main_v20) : FVec Ideal S4096x1024 .f32) = dM (Lc m c) (Kc m c) :=
  (W11_of m ρ c main_v20 (by decide +kernel)).trans (W10_v20 m ρ c)

theorem W8_v18 (c : Dev nD) : (W8 m ρ c (Proc.devRef .tc main_v18) : FVec Ideal S2x4x1024x704 .bf16) = dIn (Xc m c) (Hc m c) :=
  (W8_of m ρ c main_v18 (by decide +kernel)).trans (W7_v18 m ρ c)

theorem W9_v18 (c : Dev nD) : (W9 m ρ c (Proc.devRef .tc main_v18) : FVec Ideal S2x4x1024x704 .bf16) = dIn (Xc m c) (Hc m c) :=
  (W9_of m ρ c main_v18 (by decide +kernel)).trans (W8_v18 m ρ c)

theorem W10_v18 (c : Dev nD) : (W10 m ρ c (Proc.devRef .tc main_v18) : FVec Ideal S2x4x1024x704 .bf16) = dIn (Xc m c) (Hc m c) :=
  (W10_of m ρ c main_v18 (by decide +kernel)).trans (W9_v18 m ρ c)

theorem W11_v18 (c : Dev nD) : (W11 m ρ c (Proc.devRef .tc main_v18) : FVec Ideal S2x4x1024x704 .bf16) = dIn (Xc m c) (Hc m c) :=
  (W11_of m ρ c main_v18 (by decide +kernel)).trans (W10_v18 m ρ c)

theorem W7_v17 (c : Dev nD) : (W7 m ρ c (Proc.devRef .tc main_v17) : FVec Ideal S4x704x1024 .bf16) = dOut (actc m c) (Dc m c) :=
  (W7_of m ρ c main_v17 (by decide +kernel)).trans (W6_v17 m ρ c)

theorem W8_v17 (c : Dev nD) : (W8 m ρ c (Proc.devRef .tc main_v17) : FVec Ideal S4x704x1024 .bf16) = dOut (actc m c) (Dc m c) :=
  (W8_of m ρ c main_v17 (by decide +kernel)).trans (W7_v17 m ρ c)

theorem W9_v17 (c : Dev nD) : (W9 m ρ c (Proc.devRef .tc main_v17) : FVec Ideal S4x704x1024 .bf16) = dOut (actc m c) (Dc m c) :=
  (W9_of m ρ c main_v17 (by decide +kernel)).trans (W8_v17 m ρ c)

theorem W10_v17 (c : Dev nD) : (W10 m ρ c (Proc.devRef .tc main_v17) : FVec Ideal S4x704x1024 .bf16) = dOut (actc m c) (Dc m c) :=
  (W10_of m ρ c main_v17 (by decide +kernel)).trans (W9_v17 m ρ c)

theorem W11_v17 (c : Dev nD) : (W11 m ρ c (Proc.devRef .tc main_v17) : FVec Ideal S4x704x1024 .bf16) = dOut (actc m c) (Dc m c) :=
  (W11_of m ρ c main_v17 (by decide +kernel)).trans (W10_v17 m ρ c)

theorem W11_v21 (c : Dev nD) : (W11 m ρ c (Proc.devRef .tc main_v21) : FVec Ideal S1024x1024 .bf16) = dMixOut (Mc m c) (Lc m c) :=
  (W11_of m ρ c main_v21 (by decide +kernel)).trans (W10_v21 m ρ c)

theorem W9_v19_2 (c : Dev nD) : (W9 m ρ c (Proc.devRef .tc main_v19_2) : FVec Ideal S8x1024 .f32) = dScale (Nc m c) (Rc m c) :=
  (W9_of m ρ c main_v19_2 (by decide +kernel)).trans (W8_v19_2 m ρ c)

theorem W10_v19_2 (c : Dev nD) : (W10 m ρ c (Proc.devRef .tc main_v19_2) : FVec Ideal S8x1024 .f32) = dScale (Nc m c) (Rc m c) :=
  (W10_of m ρ c main_v19_2 (by decide +kernel)).trans (W9_v19_2 m ρ c)

theorem W9_v19_3 (c : Dev nD) : (W9 m ρ c (Proc.devRef .tc main_v19_3) : FVec Ideal S8x1024 .f32) = dShift (Nc m c) :=
  (W9_of m ρ c main_v19_3 (by decide +kernel)).trans (W8_v19_3 m ρ c)

theorem W10_v19_3 (c : Dev nD) : (W10 m ρ c (Proc.devRef .tc main_v19_3) : FVec Ideal S8x1024 .f32) = dShift (Nc m c) :=
  (W10_of m ρ c main_v19_3 (by decide +kernel)).trans (W9_v19_3 m ρ c)

theorem W11_v23 (c : Dev nD) : (W11 m ρ c (Proc.devRef .tc main_v23) : FVec Ideal S1x1024 .f32) = rowsSum (dScale (Nc m c) (Rc m c)) := by
  have h := W10_v19_2 m ρ c
  generalize dScale (Nc m c) (Rc m c) = a at *
  simp only [W11]
  generalize W10 m ρ c = L at *
  after_results
  rw [show L (Proc.devRef .tc main_v19_2) = a from h]
  funext i
  idx_vars i
  pointwise [rowsSum]

theorem W11_v25 (c : Dev nD) : (W11 m ρ c (Proc.devRef .tc main_v25) : FVec Ideal S1x1024 .f32) = rowsSum (dShift (Nc m c)) := by
  have h := W10_v19_3 m ρ c
  generalize dShift (Nc m c) = a at *
  simp only [W11]
  generalize W10 m ρ c = L at *
  after_results
  rw [show L (Proc.devRef .tc main_v19_3) = a from h]
  funext i
  idx_vars i
  pointwise [rowsSum]

end Cert.Kernel3Ideal.Second

end
-- ==== Proof.SecondChain.lean ====
/-
  The reference's two layer norms and the gradient of the first, stage by stage, as functions of rows.
-/
module

public import proofs.«01_k».proof.Proof.HalfRows
public import proofs.«01_k».proof.Proof.SecondRows
public import proofs.«01_k».proof.Proof.Gen.Reference3Ideal.Read

@[expose] public section

set_option maxRecDepth 16384

noncomputable section

open Idealize.ShloMosaic Idealize.ShloMosaic.TcCoe Idealize.SL.Sem

namespace Cert.Second

open Cert.Kernel3Ideal (S4096x1024 S1024x5632 S2816x1024 S1x1024 S1024x1024)
open Cert.Kernel2Ideal.Half (rowOf scaledRow)
open Cert.Reference3Ideal.Read

variable (x0 x1 : FVec Ideal S4096x1024 .f32) (x2 : FVec Ideal S1024x1024 .f32) (x3 x4 : FVec Ideal S1x1024 .f32)
  (x5 : FVec Ideal S1024x5632 .f32) (x6 : FVec Ideal S2816x1024 .f32) (x7 x8 : FVec Ideal S1x1024 .f32) (x9 : FVec Ideal S4096x1024 .f32)

/-- Row `t` of the sum before the layer norm, and of the gradient of the normalised row. -/
abbrev R (t : Fin 4096) : Fin 1024 → EReal := rowOf (val_main_v3 (F := Ideal) x0 x1 x2) t
abbrev D (t : Fin 4096) : Fin 1024 → EReal := rowOf (val_main_v65 (F := Ideal) x0 x1 x2 x3 x4 x5 x6 x9) t

theorem v7_at (t : Fin 4096) : (val_main_v7 (F := Ideal) x0 x1 x2 (ix2 t (0 : Fin 1)) : EReal) = Norm.mean (R x0 x1 x2 t) := by
  unfold val_main_v7 val_main_v5 val_main_v4 R
  generalize val_main_v3 (F := Ideal) x0 x1 x2 = r
  pointwise [val_main_v6, val_main_cst_1, val_main_cst_0, Norm.mean, Norm.width, rowOf]

theorem v9_at (t : Fin 4096) (l : Fin 1024) : (val_main_v9 (F := Ideal) x0 x1 x2 (ix2 t l) : EReal) = Norm.cen (R x0 x1 x2 t) l := by
  have e := v7_at x0 x1 x2 t
  unfold val_main_v9 val_main_v8
  generalize val_main_v7 (F := Ideal) x0 x1 x2 = m at *
  unfold R at *
  generalize val_main_v3 (F := Ideal) x0 x1 x2 = r at *
  pointwise [Norm.cen]
  rw [e]
  rfl

theorem v18_at (t : Fin 4096) (l : Fin 1024) : (val_main_v18 (F := Ideal) x0 x1 x2 (ix2 t l) : EReal) = Norm.cen (R x0 x1 x2 t) l :=
  v9_at x0 x1 x2 t l

theorem v12_at (t : Fin 4096) (l : Fin 1024) :
    (val_main_v12 (F := Ideal) x0 x1 x2 (ix2 t l) : EReal) = Ideal.ofBits .f32 0x40000000#32 * Norm.cen (R x0 x1 x2 t) l := by
  rw [← v9_at x0 x1 x2 t l]
  unfold val_main_v12
  generalize val_main_v9 (F := Ideal) x0 x1 x2 = a
  pointwise [val_main_v11, val_main_cst_2]

theorem v20_at (t : Fin 4096) : (val_main_v20 (F := Ideal) x0 x1 x2 (ix2 t (0 : Fin 1)) : EReal) = Norm.vr (R x0 x1 x2 t) := by
  have e (l : Fin 1024) := v9_at x0 x1 x2 t l
  unfold val_main_v20 val_main_v16 val_main_v14 val_main_v13 val_main_v10
  generalize val_main_v9 (F := Ideal) x0 x1 x2 = a at *
  generalize R x0 x1 x2 t = r at *
  pointwise [val_main_v15, val_main_v19, val_main_cst_3, val_main_cst_4, val_main_cst_5, Norm.vr, Norm.mean, Norm.width]
  simp only [e]

theorem v21_at (t : Fin 4096) : (val_main_v21 (F := Ideal) x0 x1 x2 (ix2 t (0 : Fin 1)) : EReal) = Norm.rs (R x0 x1 x2 t) := by
  have e := v20_at x0 x1 x2 t
  unfold val_main_v21
  generalize val_main_v20 (F := Ideal) x0 x1 x2 = a at *
  pointwise [Norm.rs]
  rw [e]

theorem v24_at (t : Fin 4096) : (val_main_v24 (F := Ideal) x0 x1 x2 (ix2 t (0 : Fin 1)) : EReal) =
    Ideal.ofBits .f32 0xBF000000#32 * Ideal.div (Norm.rs (R x0 x1 x2 t)) (Norm.vr (R x0 x1 x2 t)) := by
  have e := v20_at x0 x1 x2 t
  have e' := v21_at x0 x1 x2 t
  unfold val_main_v24 val_main_v22
  generalize val_main_v20 (F := Ideal) x0 x1 x2 = a at *
  generalize val_main_v21 (F := Ideal) x0 x1 x2 = b at *
  pointwise [val_main_v23, val_main_cst_6]
  rw [e, e']

theorem v26_at (t : Fin 4096) (l : Fin 1024) : (val_main_v26 (F := Ideal) x0 x1 x2 (ix2 t l) : EReal) = Norm.xh (R x0 x1 x2 t) l := by
  have e := v18_at x0 x1 x2 t l
  have e' := v21_at x0 x1 x2 t
  unfold val_main_v26 val_main_v25
  generalize val_main_v18 (F := Ideal) x0 x1 x2 = a at *
  generalize val_main_v21 (F := Ideal) x0 x1 x2 = b at *
  pointwise [Norm.xh]
  rw [e, e']

theorem v30_at (t : Fin 4096) (l : Fin 1024) : (val_main_v30 (F := Ideal) x0 x1 x2 x3 x4 (ix2 t l) : EReal) =
    Norm.xh (R x0 x1 x2 t) l * x3 (ix2 (0 : Fin 1) l) + x4 (ix2 (0 : Fin 1) l) := by
  rw [← v26_at]
  unfold val_main_v30 val_main_v28
  generalize val_main_v26 (F := Ideal) x0 x1 x2 = a
  pointwise [val_main_v27, val_main_v29]

theorem v65_at (t : Fin 4096) : D x0 x1 x2 x3 x4 x5 x6 x9 t = scaledRow (val_main_v58 (F := Ideal) x0 x1 x2 x3 x4 x5 x6 x9) x3 t := by
  funext l
  unfold D val_main_v65
  generalize val_main_v58 (F := Ideal) x0 x1 x2 x3 x4 x5 x6 x9 = a
  pointwise [val_main_v64, scaledRow, rowOf]

theorem v68_at (t : Fin 4096) : (val_main_v68 (F := Ideal) x0 x1 x2 x3 x4 x5 x6 x9 (ix2 t (0 : Fin 1)) : EReal) =
    ∑ k, Norm.cen (R x0 x1 x2 t) k * D x0 x1 x2 x3 x4 x5 x6 x9 t k := by
  have e (l : Fin 1024) := v18_at x0 x1 x2 t l
  unfold val_main_v68 val_main_v67 val_main_v66 D
  generalize val_main_v18 (F := Ideal) x0 x1 x2 = a at *
  generalize val_main_v65 (F := Ideal) x0 x1 x2 x3 x4 x5 x6 x9 = d
  generalize R x0 x1 x2 t = r at *
  pointwise [val_main_cst_13, rowOf]
  simp only [e]

theorem v70_at (t : Fin 4096) (l : Fin 1024) : (val_main_v70 (F := Ideal) x0 x1 x2 x3 x4 x5 x6 x9 (ix2 t l) : EReal) =
    D x0 x1 x2 x3 x4 x5 x6 x9 t l * Norm.rs (R x0 x1 x2 t) := by
  have e := v21_at x0 x1 x2 t
  unfold val_main_v70 val_main_v69 D
  generalize val_main_v21 (F := Ideal) x0 x1 x2 = a at *
  generalize val_main_v65 (F := Ideal) x0 x1 x2 x3 x4 x5 x6 x9 = d
  pointwise [rowOf]
  rw [e]

theorem v79_at (t : Fin 4096) (l : Fin 1024) : (val_main_v79 (F := Ideal) x0 x1 x2 x3 x4 x5 x6 x9 (ix2 t l) : EReal) =
    Norm.spread (R x0 x1 x2 t) (D x0 x1 x2 x3 x4 x5 x6 x9 t) l := by
  have e1 := v68_at x0 x1 x2 x3 x4 x5 x6 x9 t
  have e2 := v24_at x0 x1 x2 t
  have e3 := v12_at x0 x1 x2 t l
  unfold val_main_v79 val_main_v78 val_main_v77 val_main_v76 val_main_v71
  generalize val_main_v68 (F := Ideal) x0 x1 x2 x3 x4 x5 x6 x9 = a at *
  generalize val_main_v24 (F := Ideal) x0 x1 x2 = b at *
  generalize val_main_v12 (F := Ideal) x0 x1 x2 = c at *
  pointwise [val_main_cst_15, val_main_cst_16, val_main_v75, Norm.spread, Norm.width]
  rw [Fin.sum_univ_one, ← e3, ← e2, ← e1]

theorem v74_at (t : Fin 4096) : (val_main_v74 (F := Ideal) x0 x1 x2 x3 x4 x5 x6 x9 (ix2 t (0 : Fin 1)) : EReal) =
    ∑ k, -(D x0 x1 x2 x3 x4 x5 x6 x9 t k * Norm.rs (R x0 x1 x2 t)) := by
  have e (l : Fin 1024) := v70_at x0 x1 x2 x3 x4 x5 x6 x9 t l
  unfold val_main_v74 val_main_v73 val_main_v72
  generalize val_main_v70 (F := Ideal) x0 x1 x2 x3 x4 x5 x6 x9 = a at *
  pointwise [val_main_cst_14]
  simp only [e]

theorem v82_at (t : Fin 4096) : (val_main_v82 (F := Ideal) x0 x1 x2 x3 x4 x5 x6 x9 (ix2 t (0 : Fin 1)) : EReal) =
    ∑ k, -Norm.spread (R x0 x1 x2 t) (D x0 x1 x2 x3 x4 x5 x6 x9 t) k := by
  have e (l : Fin 1024) := v79_at x0 x1 x2 x3 x4 x5 x6 x9 t l
  unfold val_main_v82 val_main_v81 val_main_v80
  generalize val_main_v79 (F := Ideal) x0 x1 x2 x3 x4 x5 x6 x9 = a at *
  pointwise [val_main_cst_17]
  simp only [e]

theorem v89_at (t : Fin 4096) (l : Fin 1024) : (val_main_v89 (F := Ideal) x0 x1 x2 x3 x4 x5 x6 x9 (ix2 t l) : EReal) =
    Norm.chain (R x0 x1 x2 t) (D x0 x1 x2 x3 x4 x5 x6 x9 t) l := by
  have e1 := v70_at x0 x1 x2 x3 x4 x5 x6 x9 t l
  have e2 := v79_at x0 x1 x2 x3 x4 x5 x6 x9 t l
  have e3 := v74_at x0 x1 x2 x3 x4 x5 x6 x9 t
  have e4 := v82_at x0 x1 x2 x3 x4 x5 x6 x9 t
  unfold val_main_v89 val_main_v83 val_main_v88 val_main_v87 val_main_v86 val_main_v84
  generalize val_main_v70 (F := Ideal) x0 x1 x2 x3 x4 x5 x6 x9 = a at *
  generalize val_main_v79 (F := Ideal) x0 x1 x2 x3 x4 x5 x6 x9 = b at *
  generalize val_main_v74 (F := Ideal) x0 x1 x2 x3 x4 x5 x6 x9 = c at *
  generalize val_main_v82 (F := Ideal) x0 x1 x2 x3 x4 x5 x6 x9 = d at *
  pointwise [val_main_v85, val_main_cst_18, val_main_cst_19, Norm.chain]
  rw [Fin.sum_univ_one, ← e4, ← e3, ← e2, ← e1]
  rfl

/-- Row `t` of the half-step's sum before its own layer norm. -/
abbrev R3 (t : Fin 4096) : Fin 1024 → EReal := rowOf (val_main_v41 (F := Ideal) x0 x1 x2 x3 x4 x5 x6) t

theorem v96_at (t : Fin 4096) : (val_main_v96 (F := Ideal) x0 x1 x2 x3 x4 x5 x6 (ix2 t (0 : Fin 1)) : EReal) = Norm.mean (R3 x0 x1 x2 x3 x4 x5 x6 t) := by
  unfold val_main_v96 val_main_v94 val_main_v93 R3
  generalize val_main_v41 (F := Ideal) x0 x1 x2 x3 x4 x5 x6 = r
  pointwise [val_main_v95, val_main_cst_21, val_main_cst_20, Norm.mean, Norm.width, rowOf]

theorem v98_at (t : Fin 4096) (l : Fin 1024) : (val_main_v98 (F := Ideal) x0 x1 x2 x3 x4 x5 x6 (ix2 t l) : EReal) = Norm.cen (R3 x0 x1 x2 x3 x4 x5 x6 t) l := by
  have e := v96_at x0 x1 x2 x3 x4 x5 x6 t
  unfold val_main_v98 val_main_v97
  generalize val_main_v96 (F := Ideal) x0 x1 x2 x3 x4 x5 x6 = m at *
  unfold R3 at *
  generalize val_main_v41 (F := Ideal) x0 x1 x2 x3 x4 x5 x6 = r at *
  pointwise [Norm.cen]
  rw [e]
  rfl

theorem v105_at (t : Fin 4096) (l : Fin 1024) : (val_main_v105 (F := Ideal) x0 x1 x2 x3 x4 x5 x6 (ix2 t l) : EReal) = Norm.cen (R3 x0 x1 x2 x3 x4 x5 x6 t) l :=
  v98_at x0 x1 x2 x3 x4 x5 x6 t l

theorem v107_at (t : Fin 4096) : (val_main_v107 (F := Ideal) x0 x1 x2 x3 x4 x5 x6 (ix2 t (0 : Fin 1)) : EReal) = Norm.vr (R3 x0 x1 x2 x3 x4 x5 x6 t) := by
  have e (l : Fin 1024) := v98_at x0 x1 x2 x3 x4 x5 x6 t l
  unfold val_main_v107 val_main_v103 val_main_v101 val_main_v100 val_main_v99
  generalize val_main_v98 (F := Ideal) x0 x1 x2 x3 x4 x5 x6 = a at *
  generalize R3 x0 x1 x2 x3 x4 x5 x6 t = r at *
  pointwise [val_main_v102, val_main_v106, val_main_cst_22, val_main_cst_23, val_main_cst_24, Norm.vr, Norm.mean, Norm.width]
  simp only [e]

theorem v108_at (t : Fin 4096) : (val_main_v108 (F := Ideal) x0 x1 x2 x3 x4 x5 x6 (ix2 t (0 : Fin 1)) : EReal) = Norm.rs (R3 x0 x1 x2 x3 x4 x5 x6 t) := by
  have e := v107_at x0 x1 x2 x3 x4 x5 x6 t
  unfold val_main_v108
  generalize val_main_v107 (F := Ideal) x0 x1 x2 x3 x4 x5 x6 = a at *
  pointwise [Norm.rs]
  rw [e]

theorem v110_at (t : Fin 4096) (l : Fin 1024) : (val_main_v110 (F := Ideal) x0 x1 x2 x3 x4 x5 x6 (ix2 t l) : EReal) = Norm.xh (R3 x0 x1 x2 x3 x4 x5 x6 t) l := by
  have e := v105_at x0 x1 x2 x3 x4 x5 x6 t l
  have e' := v108_at x0 x1 x2 x3 x4 x5 x6 t
  unfold val_main_v110 val_main_v109
  generalize val_main_v105 (F := Ideal) x0 x1 x2 x3 x4 x5 x6 = a at *
  generalize val_main_v108 (F := Ideal) x0 x1 x2 x3 x4 x5 x6 = b at *
  pointwise [Norm.xh]
  rw [e, e']

theorem v114_at (t : Fin 4096) (l : Fin 1024) : (val_main_v114 (F := Ideal) x0 x1 x2 x3 x4 x5 x6 x7 x8 (ix2 t l) : EReal) =
    Norm.xh (R3 x0 x1 x2 x3 x4 x5 x6 t) l * x7 (ix2 (0 : Fin 1) l) + x8 (ix2 (0 : Fin 1) l) := by
  rw [← v110_at]
  unfold val_main_v114 val_main_v112
  generalize val_main_v110 (F := Ideal) x0 x1 x2 x3 x4 x5 x6 = a
  pointwise [val_main_v111, val_main_v113]

end Cert.Second

end
-- ==== Proof.SecondEqual.lean ====
/-
  The arrays of the calls of the second half-step against the reference's stages: the same products over the same entries, and two identities
  of real functions where the two write a derivative differently, the gate's and the layer norm's.
-/
module

public import proofs.«01_k».proof.Proof.SecondRun
public import proofs.«01_k».proof.Proof.SecondChain
public import proofs.«01_k».proof.Proof.HalfResults

@[expose] public section

set_option maxRecDepth 16384

noncomputable section

open Idealize.ShloMosaic Idealize.ShloMosaic.TcCoe Idealize.SL.Sem

namespace Cert.Second

open Cert.Kernel3Ideal (S4096x1024 S1024x5632 S2816x1024 S4x2x4096x704 S2x4x1024x704 S4x704x1024 S4x4096x704 S1x1024 S1024x1024 S8x1024)
open Cert.Kernel2Ideal.Half (sgm hid act dOut dAct dGate dUp dHid dHid_gate dHid_up dIn dXpart pre rowOf normed rowAt fold scaledRow dSum dScale dShift rowsSum blocksIn blocksOut low)
open Cert.Kernel3Ideal.Second (preMix normedW stackM stackW lowSq halfLow dTok lowSum dM dMixOut)
open Cert.Half (IsReal IsReal.mul IsReal.add IsReal.sum alpha_word logistic sgm_real logistic_word gate_real col row blocksIn_at blocksOut_at ext2 sum_rows sum_cols sum_tokens)
open Cert.Consts

open Cert.Reference3Ideal.Read

variable (x0 x1 : FVec Ideal S4096x1024 .f32) (x2 : FVec Ideal S1024x1024 .f32) (x3 x4 : FVec Ideal S1x1024 .f32)
  (x5 : FVec Ideal S1024x5632 .f32) (x6 : FVec Ideal S2816x1024 .f32) (x7 x8 : FVec Ideal S1x1024 .f32) (x9 : FVec Ideal S4096x1024 .f32)

/-- The sum before the second layer norm, that norm at both formats, the half-step's hidden blocks, activations and output, the hidden blocks'
    cotangent, the norm's, and the sum's at the narrow format, as the calls compute them. -/
abbrev preK : FVec Ideal S4096x1024 .f32 := preMix (stackM (low x0)) (stackW (lowSq x2)) x1
abbrev normW : FVec Ideal S4096x1024 .f32 := normedW (preK x0 x1 x2) x3 x4
abbrev normK : FVec Ideal S4096x1024 .bf16 := normed (preK x0 x1 x2) x3 x4
abbrev hidK : FVec Ideal S4x2x4096x704 .bf16 := hid (normK x0 x1 x2 x3 x4) (blocksIn x5)
abbrev actK : FVec Ideal S4x4096x704 .bf16 := act (normK x0 x1 x2 x3 x4) (blocksIn x5)
abbrev outK : FVec Ideal S4096x1024 .f32 := pre (actK x0 x1 x2 x3 x4 x5) (blocksOut x6) (normW x0 x1 x2 x3 x4)
abbrev dHidK : FVec Ideal S4x2x4096x704 .bf16 := dHid (halfLow x9) (blocksOut x6) (hidK x0 x1 x2 x3 x4 x5)
abbrev tokGK : FVec Ideal S4096x1024 .f32 := dTok (dHidK x0 x1 x2 x3 x4 x5 x6 x9) (blocksIn x5) x9
abbrev lowK : FVec Ideal S4096x1024 .bf16 := lowSum (tokGK x0 x1 x2 x3 x4 x5 x6 x9) (preK x0 x1 x2) x3

theorem v3_at (t : Fin 4096) (d : Fin 1024) : (val_main_v3 (F := Ideal) x0 x1 x2 (ix2 t d) : EReal) =
    Ideal.ofBits .f32 0x3F9837F0#32 * x1 (ix2 t d) + ∑ k : Fin 1024, (x0 (ix2 t k) : EReal) * x2 (ix2 k d) := by
  have e : (val_main_v2 (F := Ideal) x0 x2 (ix2 t d) : EReal) = ∑ k : Fin 1024, (x0 (ix2 t k) : EReal) * x2 (ix2 k d) := by
    rw [val_main_v2_apply]
    exact Finset.sum_congr rfl fun k _ => congrArg₂ (· * ·) (congrArg x0 (ext2 _ _ rfl rfl)) (congrArg x2 (ext2 _ _ rfl rfl))
  rw [← e]
  unfold val_main_v3
  generalize val_main_v2 (F := Ideal) x0 x2 = a
  pointwise [val_main_v1, val_main_v0, val_main_cst]

theorem pre_eq : (preK x0 x1 x2) = val_main_v3 (F := Ideal) x0 x1 x2 := by
  funext i
  idx_vars i
  refine Eq.trans ?_ (v3_at x0 x1 x2 i0 i1).symm
  have e : ((preK x0 x1 x2) (ix2 i0 i1) : EReal) = Ideal.ofBits .f32 0x3F9837F0#32 * x1 (ix2 i0 i1) + Ideal.ofBits .f32 0x3F800000#32 *
    ∑ k : Fin 1024, (x0 (ix2 i0 k) : EReal) * x2 (ix2 k i1) := rfl
  rw [e, one_word, EReal.coe_one, one_mul]

/-- The second layer norm's result, at either format. -/
theorem norm_at (t : Fin 4096) (l : Fin 1024) : (normK x0 x1 x2 x3 x4 (ix2 t l) : EReal) = val_main_v30 (F := Ideal) x0 x1 x2 x3 x4 (ix2 t l) := by
  rw [v30_at]
  unfold normK
  rw [pre_eq]
  rfl

theorem normW_eq : normW x0 x1 x2 x3 x4 = val_main_v30 (F := Ideal) x0 x1 x2 x3 x4 := by
  funext i
  idx_vars i
  exact norm_at x0 x1 x2 x3 x4 i0 i1

theorem hid_at (j : Fin 4) (s : Fin 2) (t : Fin 4096) (f : Fin 704) : ((hidK x0 x1 x2 x3 x4 x5) (ix4 j s t f) : EReal) = val_main_v31 (F := Ideal) x0 x1 x2 x3 x4 x5 (ix2 t (col s j f)) := by
  rw [val_main_v31_apply]
  refine Finset.sum_congr rfl fun k _ => ?_
  exact congrArg₂ (· * ·) ((norm_at x0 x1 x2 x3 x4 t k).trans (congrArg _ (ext2 _ _ rfl rfl))) ((blocksIn_at x5 s j k f).trans (congrArg x5 (ext2 _ _ rfl rfl)))

theorem v32_at (j : Fin 4) (t : Fin 4096) (f : Fin 704) : (val_main_v32 (F := Ideal) x0 x1 x2 x3 x4 x5 (ix2 t (row j f)) : EReal) = (hidK x0 x1 x2 x3 x4 x5) (ix4 j (0 : Fin 2) t f) := by
  rw [val_main_v32_apply, hid_at]
  exact congrArg _ (ext2 _ _ (by simp [row, col]) (by simp [row, col]))

theorem v33_at (j : Fin 4) (t : Fin 4096) (f : Fin 704) : (val_main_v33 (F := Ideal) x0 x1 x2 x3 x4 x5 (ix2 t (row j f)) : EReal) = (hidK x0 x1 x2 x3 x4 x5) (ix4 j (1 : Fin 2) t f) := by
  rw [val_main_v33_apply, hid_at]
  exact congrArg _ (ext2 _ _ (by simp [row, col]) (by simp [row, col]; omega))

theorem v41_at (t : Fin 4096) (d : Fin 1024) : (val_main_v41 (F := Ideal) x0 x1 x2 x3 x4 x5 x6 (ix2 t d) : EReal) =
    Ideal.ofBits .f32 0x3F9837F0#32 * val_main_v30 (F := Ideal) x0 x1 x2 x3 x4 (ix2 t d) + Ideal.ofBits .f32 0x3F000000#32 *
      ∑ j : Fin 4, ∑ f : Fin 704, (val_main_v37 (F := Ideal) x0 x1 x2 x3 x4 x5 (ix2 t (row j f)) : EReal) * x6 (ix2 (row j f) d) := by
  have e : (val_main_v38 (F := Ideal) x0 x1 x2 x3 x4 x5 x6 (ix2 t d) : EReal) = ∑ k : Fin 2816, (val_main_v37 (F := Ideal) x0 x1 x2 x3 x4 x5 (ix2 t k) : EReal) * x6 (ix2 k d) := by
    rw [val_main_v38_apply]
    exact Finset.sum_congr rfl fun k _ => congrArg₂ (· * ·) (congrArg _ (ext2 _ _ rfl rfl)) (congrArg x6 (ext2 _ _ rfl rfl))
  rw [← sum_rows fun k => (val_main_v37 (F := Ideal) x0 x1 x2 x3 x4 x5 (ix2 t k) : EReal) * x6 (ix2 k d), ← e]
  unfold val_main_v41 val_main_v40 val_main_v35
  generalize val_main_v38 (F := Ideal) x0 x1 x2 x3 x4 x5 x6 = a
  generalize val_main_v30 (F := Ideal) x0 x1 x2 x3 x4 = b
  pointwise [val_main_v34, val_main_cst_7, val_main_v39, val_main_cst_8]

/-- Half of the incoming cotangent. -/
theorem half_at (t : Fin 4096) (k : Fin 1024) : (halfLow x9 (ix2 t k) : EReal) = val_main_v45 (F := Ideal) x9 (ix2 t k) := by
  pointwise [val_main_v45, val_main_v44, val_main_v43, val_main_cst_9, halfLow]

theorem dAct_at (j : Fin 4) (t : Fin 4096) (f : Fin 704) : dAct (halfLow x9) (blocksOut x6) j t f = val_main_v48 (F := Ideal) x6 x9 (ix2 t (row j f)) := by
  rw [val_main_v48_apply]
  refine Finset.sum_congr rfl fun k _ => ?_
  exact congrArg₂ (· * ·) ((half_at x9 t k).trans (congrArg _ (ext2 _ _ rfl rfl))) ((blocksOut_at x6 j f k).trans (congrArg x6 (ext2 _ _ rfl rfl)))

/-- Every argument but the third layer norm's scale and shift is an array of real numbers. -/
structure Finite : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)
  h6 : ∀ i, IsReal (x6 i)
  h9 : ∀ i, IsReal (x9 i)

variable {x0 x1 x2 x3 x4 x5 x6 x7 x8 x9} (H : Finite x0 x1 x2 x3 x4 x5 x6 x9)
include H

theorem v3_real (t : Fin 4096) : Norm.RealRow (R x0 x1 x2 t) := fun l => by
  have e := v3_at x0 x1 x2 t l
  refine (show IsReal (val_main_v3 (F := Ideal) x0 x1 x2 (ix2 t l)) from ?_)
  rw [e, alpha_word]
  exact (IsReal.mul ⟨_, rfl⟩ (H.h1 _)).add (IsReal.sum _ fun k => (H.h0 _).mul (H.h2 _))

theorem v30_real (t : Fin 4096) (l : Fin 1024) : IsReal (val_main_v30 (F := Ideal) x0 x1 x2 x3 x4 (ix2 t l)) := by
  rw [v30_at]
  obtain ⟨x, hx⟩ := (v3_real H t).lift
  rw [hx]
  exact (IsReal.mul ⟨_, Norm.xh_coe x l⟩ (H.h3 _)).add (H.h4 _)

theorem hid_real (j : Fin 4) (s : Fin 2) (t : Fin 4096) (f : Fin 704) : IsReal ((hidK x0 x1 x2 x3 x4 x5) (ix4 j s t f)) := by
  refine IsReal.sum _ fun k => IsReal.mul ?_ ?_
  · exact (congrArg IsReal (norm_at x0 x1 x2 x3 x4 t k)).mpr (v30_real H t k)
  · exact (congrArg IsReal (blocksIn_at x5 s j k f)).mpr (H.h5 _)

theorem sig_at (j : Fin 4) (t : Fin 4096) (f : Fin 704) {g : ℝ} (hg : (hidK x0 x1 x2 x3 x4 x5) (ix4 j (0 : Fin 2) t f) = (g : EReal)) :
    (val_main_v36_2 (F := Ideal) x0 x1 x2 x3 x4 x5 (ix2 t (row j f)) : EReal) = (logistic g : EReal) := by
  have e := (v32_at x0 x1 x2 x3 x4 x5 j t f).trans hg
  refine Eq.trans ?_ (logistic_word g)
  rw [← e]
  unfold val_main_v36_2 val_main_call0_v3 val_main_call0_v1 val_main_call0_v0
  generalize val_main_v32 (F := Ideal) x0 x1 x2 x3 x4 x5 = a
  pointwise [val_main_call0_v4, val_main_call0_v2, val_main_call0_cst, val_main_call0_cst_0]

theorem act_at (j : Fin 4) (t : Fin 4096) (f : Fin 704) : ((actK x0 x1 x2 x3 x4 x5) (ix3 j t f) : EReal) = val_main_v37 (F := Ideal) x0 x1 x2 x3 x4 x5 (ix2 t (row j f)) := by
  obtain ⟨g, hg⟩ := hid_real H j 0 t f
  have e : (val_main_v37 (F := Ideal) x0 x1 x2 x3 x4 x5 (ix2 t (row j f)) : EReal) =
      val_main_v32 (F := Ideal) x0 x1 x2 x3 x4 x5 (ix2 t (row j f)) * val_main_v36_2 (F := Ideal) x0 x1 x2 x3 x4 x5 (ix2 t (row j f)) * val_main_v33 (F := Ideal) x0 x1 x2 x3 x4 x5 (ix2 t (row j f)) := rfl
  rw [e, sig_at H j t f hg, v32_at, v33_at, hg]
  refine congrArg₂ (· * ·) ?_ rfl
  rw [← sgm_real, ← hg]
  rfl

/-- The sum before the third layer norm. -/
theorem out_eq : (outK x0 x1 x2 x3 x4 x5 x6) = val_main_v41 (F := Ideal) x0 x1 x2 x3 x4 x5 x6 := by
  funext i
  idx_vars i
  refine Eq.trans ?_ (v41_at x0 x1 x2 x3 x4 x5 x6 i0 i1).symm
  simp only [Fin.sum_univ_four, ← act_at H, ← blocksOut_at x6, ← normW_eq]
  rfl

omit H in
theorem half_real (h : ∀ i, IsReal (x9 i)) (t : Fin 4096) (k : Fin 1024) : IsReal (halfLow x9 (ix2 t k)) := by
  refine (show IsReal (Ideal.ofBits .f32 0x3F000000#32 * x9 (ix2 t k)) from ?_)
  rw [half_word]
  exact IsReal.mul ⟨_, rfl⟩ (h _)

theorem dAct_real (j : Fin 4) (t : Fin 4096) (f : Fin 704) : IsReal (dAct (halfLow x9) (blocksOut x6) j t f) := by
  refine IsReal.sum _ fun k => (half_real H.h9 t k).mul ?_
  rw [blocksOut_at]
  exact H.h6 _

theorem up_at (j : Fin 4) (t : Fin 4096) (f : Fin 704) : ((dHidK x0 x1 x2 x3 x4 x5 x6 x9) (ix4 j (1 : Fin 2) t f) : EReal) = val_main_v49 (F := Ideal) x0 x1 x2 x3 x4 x5 x6 x9 (ix2 t (row j f)) := by
  obtain ⟨g, hg⟩ := hid_real H j 0 t f
  have e : (val_main_v49 (F := Ideal) x0 x1 x2 x3 x4 x5 x6 x9 (ix2 t (row j f)) : EReal) =
      val_main_v32 (F := Ideal) x0 x1 x2 x3 x4 x5 (ix2 t (row j f)) * val_main_v36_2 (F := Ideal) x0 x1 x2 x3 x4 x5 (ix2 t (row j f)) * val_main_v48 (F := Ideal) x6 x9 (ix2 t (row j f)) := rfl
  rw [e, sig_at H j t f hg, v32_at, ← dAct_at, hg]
  refine (dHid_up _ _ _ _ (Nat.one_ne_zero)).trans ((mul_comm _ _).trans (congrArg₂ (· * ·) ?_ rfl))
  refine (congrArg (fun v : EReal => v * sgm v) hg).trans ?_
  simp only [sgm_real]

theorem gate_at (j : Fin 4) (t : Fin 4096) (f : Fin 704) : ((dHidK x0 x1 x2 x3 x4 x5 x6 x9) (ix4 j (0 : Fin 2) t f) : EReal) = val_main_v51 (F := Ideal) x0 x1 x2 x3 x4 x5 x6 x9 (ix2 t (row j f)) := by
  obtain ⟨g, hg⟩ := hid_real H j 0 t f
  obtain ⟨u, hu⟩ := hid_real H j 1 t f
  obtain ⟨a, ha⟩ := dAct_real H j t f
  have e : (val_main_v51 (F := Ideal) x0 x1 x2 x3 x4 x5 x6 x9 (ix2 t (row j f)) : EReal) =
      val_main_v48 (F := Ideal) x6 x9 (ix2 t (row j f)) * val_main_v33 (F := Ideal) x0 x1 x2 x3 x4 x5 (ix2 t (row j f)) * val_main_v36_2 (F := Ideal) x0 x1 x2 x3 x4 x5 (ix2 t (row j f))
      + val_main_v32 (F := Ideal) x0 x1 x2 x3 x4 x5 (ix2 t (row j f)) * (val_main_v48 (F := Ideal) x6 x9 (ix2 t (row j f)) * val_main_v33 (F := Ideal) x0 x1 x2 x3 x4 x5 (ix2 t (row j f)))
        * (val_main_v36_2 (F := Ideal) x0 x1 x2 x3 x4 x5 (ix2 t (row j f)) * (Ideal.ofBits .f32 0x3F800000#32 - val_main_v36_2 (F := Ideal) x0 x1 x2 x3 x4 x5 (ix2 t (row j f)))) := by
    unfold val_main_v51 val_main_call1_v1 val_main_call1_v2 val_main_call1_v0 val_main_v50 val_main_v36_1 val_main_call0_v7
    generalize val_main_v48 (F := Ideal) x6 x9 = b
    generalize val_main_v36_2 (F := Ideal) x0 x1 x2 x3 x4 x5 = c
    generalize val_main_v33 (F := Ideal) x0 x1 x2 x3 x4 x5 = d
    generalize val_main_v32 (F := Ideal) x0 x1 x2 x3 x4 x5 = p
    pointwise [val_main_call0_v6, val_main_call0_cst_1]
  rw [e, sig_at H j t f hg, v32_at, v33_at, ← dAct_at, hg, hu, ha, one_word, ← gate_real]
  refine (dHid_gate _ _ _ _ rfl).trans ?_
  exact congr (congrArg₂ dGate ha hg) hu

omit H in
theorem v54_lo (j : Fin 4) (t : Fin 4096) (f : Fin 704) : (val_main_v54 (F := Ideal) x0 x1 x2 x3 x4 x5 x6 x9 (ix2 t (col 0 j f)) : EReal) = val_main_v51 (F := Ideal) x0 x1 x2 x3 x4 x5 x6 x9 (ix2 t (row j f)) := by
  unfold val_main_v54
  generalize val_main_v51 (F := Ideal) x0 x1 x2 x3 x4 x5 x6 x9 = a
  generalize val_main_v49 (F := Ideal) x0 x1 x2 x3 x4 x5 x6 x9 = b
  pointwise
  have low : (col 0 j f).val < 2816 := by simp only [col, Fin.val_zero]; omega
  have same : (col 0 j f).val = (row j f).val := by simp [row, col]
  generalize col 0 j f = p at *
  rw [dif_pos low]
  exact congrArg a (ext2 _ _ rfl same)

omit H in
theorem v54_hi (j : Fin 4) (t : Fin 4096) (f : Fin 704) : (val_main_v54 (F := Ideal) x0 x1 x2 x3 x4 x5 x6 x9 (ix2 t (col 1 j f)) : EReal) = val_main_v49 (F := Ideal) x0 x1 x2 x3 x4 x5 x6 x9 (ix2 t (row j f)) := by
  unfold val_main_v54
  generalize val_main_v51 (F := Ideal) x0 x1 x2 x3 x4 x5 x6 x9 = a
  generalize val_main_v49 (F := Ideal) x0 x1 x2 x3 x4 x5 x6 x9 = b
  pointwise
  rw [dif_neg (show ¬ (col 1 j f).val < 2816 by simp only [col, Fin.val_one]; omega)]
  exact congrArg b (ext2 _ _ rfl (by simp [row, col]; omega))

/-- The hidden blocks' cotangent at column `col s j f`. -/
theorem dHid_at (j : Fin 4) (s : Fin 2) (t : Fin 4096) (f : Fin 704) : ((dHidK x0 x1 x2 x3 x4 x5 x6 x9) (ix4 j s t f) : EReal) = val_main_v54 (F := Ideal) x0 x1 x2 x3 x4 x5 x6 x9 (ix2 t (col s j f)) := by
  match s with
  | ⟨0, _⟩ => exact (gate_at H j t f).trans (v54_lo j t f).symm
  | ⟨1, _⟩ => exact (up_at H j t f).trans (v54_hi j t f).symm

theorem dHid_real (j : Fin 4) (s : Fin 2) (t : Fin 4096) (f : Fin 704) : IsReal ((dHidK x0 x1 x2 x3 x4 x5 x6 x9) (ix4 j s t f)) := by
  obtain ⟨g, hg⟩ := hid_real H j 0 t f
  obtain ⟨u, hu⟩ := hid_real H j 1 t f
  obtain ⟨a, ha⟩ := dAct_real H j t f
  match s with
  | ⟨0, _⟩ =>
    refine (congrArg IsReal ((dHid_gate _ _ _ _ rfl).trans (congr (congrArg₂ dGate ha hg) hu))).mpr ?_
    rw [dGate, sgm_real, one_word]
    simp only [← EReal.coe_mul, ← EReal.coe_sub, ← EReal.coe_add]
    exact ⟨_, rfl⟩
  | ⟨1, _⟩ =>
    refine (congrArg IsReal ((dHid_up _ _ _ _ (Nat.one_ne_zero)).trans (congrArg₂ dUp ha hg))).mpr ?_
    rw [dUp, sgm_real]
    simp only [← EReal.coe_mul]
    exact ⟨_, rfl⟩

end Cert.Second

end
-- ==== Proof.SecondResults.lean ====
/-
  The nine results of the second half-step, the second layer norm and the mixers' output projection are the reference's.
-/
module

public import proofs.«01_k».proof.Proof.SecondEqual

@[expose] public section

set_option maxRecDepth 16384

noncomputable section

open Idealize.ShloMosaic Idealize.ShloMosaic.TcCoe Idealize.SL.Sem

namespace Cert.Second

open Cert.Kernel3Ideal (S4096x1024 S1024x5632 S2816x1024 S4x2x4096x704 S2x4x1024x704 S4x704x1024 S4x4096x704 S1x1024 S1024x1024 S8x1024)
open Cert.Kernel2Ideal.Half (sgm hid act dOut dAct dGate dUp dHid dHid_gate dHid_up dIn dXpart pre rowOf normed rowAt fold scaledRow dSum dScale dShift rowsSum blocksIn blocksOut low)
open Cert.Kernel3Ideal.Second (preMix normedW stackM stackW lowSq halfLow dTok lowSum dM dMixOut)
open Cert.Half (IsReal IsReal.mul IsReal.add IsReal.sum alpha_word logistic sgm_real logistic_word gate_real col row blocksIn_at blocksOut_at ext2 sum_rows sum_cols sum_tokens)
open Cert.Consts

open Cert.Reference3Ideal.Read

variable {x0 x1 : FVec Ideal S4096x1024 .f32} {x2 : FVec Ideal S1024x1024 .f32} {x3 x4 : FVec Ideal S1x1024 .f32}
  {x5 : FVec Ideal S1024x5632 .f32} {x6 : FVec Ideal S2816x1024 .f32} {x7 x8 : FVec Ideal S1x1024 .f32} {x9 : FVec Ideal S4096x1024 .f32}
variable (H : Finite x0 x1 x2 x3 x4 x5 x6 x9)
include H

/-- One block's share is the reference's sum over that block's columns. -/
theorem share_at (t : Fin 4096) (d : Fin 1024) (j : Fin 4) (s : Fin 2) : dXpart (dHidK x0 x1 x2 x3 x4 x5 x6 x9) (blocksIn x5) t d j s =
      ∑ f : Fin 704, (val_main_v54 (F := Ideal) x0 x1 x2 x3 x4 x5 x6 x9 (ix2 t (col s j f)) : EReal) * x5 (ix2 d (col s j f)) :=
  Finset.sum_congr rfl fun f _ => congrArg₂ (· * ·) (dHid_at H j s t f) (blocksIn_at x5 s j d f)

theorem share_real (t : Fin 4096) (d : Fin 1024) (j : Fin 4) (s : Fin 2) : IsReal (dXpart (dHidK x0 x1 x2 x3 x4 x5 x6 x9) (blocksIn x5) t d j s) :=
  IsReal.sum _ fun f => (dHid_real H j s t f).mul ((congrArg IsReal (blocksIn_at x5 s j d f)).mpr (H.h5 _))

/-- The cotangent of the second layer norm's result. -/
theorem tok_eq : (tokGK x0 x1 x2 x3 x4 x5 x6 x9) = val_main_v58 (F := Ideal) x0 x1 x2 x3 x4 x5 x6 x9 := by
  unfold tokGK
  have sh (t : Fin 4096) (d : Fin 1024) (j : Fin 4) (s : Fin 2) := share_at H t d j s
  generalize (dHidK x0 x1 x2 x3 x4 x5 x6 x9) = h at *
  funext i
  idx_vars i
  have e : (val_main_v58 (F := Ideal) x0 x1 x2 x3 x4 x5 x6 x9 (ix2 i0 i1) : EReal) = Ideal.ofBits .f32 0x3F9837F0#32 * x9 (ix2 i0 i1) + val_main_v57 (F := Ideal) x0 x1 x2 x3 x4 x5 x6 x9 (ix2 i0 i1) := by
    unfold val_main_v58
    generalize val_main_v57 (F := Ideal) x0 x1 x2 x3 x4 x5 x6 x9 = b
    pointwise [val_main_v53, val_main_v52, val_main_v42, val_main_cst_10]
  have e' : (val_main_v57 (F := Ideal) x0 x1 x2 x3 x4 x5 x6 x9 (ix2 i0 i1) : EReal) = ∑ k : Fin 5632, (val_main_v54 (F := Ideal) x0 x1 x2 x3 x4 x5 x6 x9 (ix2 i0 k) : EReal) * x5 (ix2 i1 k) := by
    rw [val_main_v57_apply]
    exact Finset.sum_congr rfl fun k _ => congrArg₂ (· * ·) (congrArg _ (ext2 _ _ rfl rfl)) (congrArg x5 (ext2 _ _ rfl rfl))
  refine Eq.trans ?_ (e.trans (congrArg _ (e'.trans (sum_cols _)))).symm
  simp only [Fin.sum_univ_two, Fin.sum_univ_four, ← sh, dTok]
  simp only [ix2]
  ac_rfl

theorem v58_real (t : Fin 4096) (l : Fin 1024) : IsReal (val_main_v58 (F := Ideal) x0 x1 x2 x3 x4 x5 x6 x9 (ix2 t l)) := by
  rw [← tok_eq H]
  have s (j : Fin 4) (p : Fin 2) := share_real H t l j p
  have z : IsReal (Ideal.ofBits .f32 0x3F9837F0#32 * x9 (ix2 t l)) := by
    rw [alpha_word]
    exact IsReal.mul ⟨_, rfl⟩ (H.h9 _)
  exact ((((((((z.add (s 0 0)).add (s 0 1)).add (s 1 0)).add (s 1 1)).add (s 2 0)).add (s 2 1)).add (s 3 0)).add (s 3 1))

theorem v65_real (t : Fin 4096) : Norm.RealRow (D x0 x1 x2 x3 x4 x5 x6 x9 t) := fun l => by
  rw [v65_at]
  exact (v58_real H t l).mul (H.h3 _)

theorem v89_row (t : Fin 4096) (l : Fin 1024) : (val_main_v89 (F := Ideal) x0 x1 x2 x3 x4 x5 x6 x9 (ix2 t l) : EReal) = Norm.grad (R x0 x1 x2 t) (D x0 x1 x2 x3 x4 x5 x6 x9 t) l :=
  (v89_at x0 x1 x2 x3 x4 x5 x6 x9 t l).trans (Norm.chain_eq (v3_real H t) (v65_real H t) l)

/-- The cotangent of the sum before the second layer norm, at full width and at the narrow format. -/
theorem sum_eq : dSum (tokGK x0 x1 x2 x3 x4 x5 x6 x9) (preK x0 x1 x2) x3 = val_main_v89 (F := Ideal) x0 x1 x2 x3 x4 x5 x6 x9 := by
  rw [tok_eq H, pre_eq]
  funext i
  idx_vars i
  refine Eq.trans ?_ (v89_row H i0 i1).symm
  rw [v65_at]
  rfl

theorem low_at (t : Fin 4096) (l : Fin 1024) : ((lowK x0 x1 x2 x3 x4 x5 x6 x9) (ix2 t l) : EReal) = val_main_v89 (F := Ideal) x0 x1 x2 x3 x4 x5 x6 x9 (ix2 t l) := by
  have e : ((lowK x0 x1 x2 x3 x4 x5 x6 x9) (ix2 t l) : EReal) = Ideal.ofBits .f32 0x3F800000#32 * dSum (tokGK x0 x1 x2 x3 x4 x5 x6 x9) (preK x0 x1 x2) x3 (ix2 t l) := rfl
  rw [e, sum_eq H, one_word, EReal.coe_one, one_mul]

/-- The mixers' outputs' cotangent. -/
theorem dM_eq : dM (lowK x0 x1 x2 x3 x4 x5 x6 x9) (lowSq x2) = val_main_v92 (F := Ideal) x0 x1 x2 x3 x4 x5 x6 x9 := by
  funext i
  idx_vars i
  rw [val_main_v92_apply]
  exact Finset.sum_congr rfl fun k _ => congrArg₂ (· * ·) ((low_at H i0 k).trans (congrArg _ (ext2 _ _ rfl rfl))) (congrArg x2 (ext2 _ _ rfl rfl))

omit H in
theorem v120_at (n d : Fin 1024) : (val_main_v120 (F := Ideal) x0 x1 x2 x3 x4 x5 x6 x9 (ix2 n d) : EReal) = val_main_v90 (F := Ideal) x0 x1 x2 x3 x4 x5 x6 x9 (ix2 d n) := by
  unfold val_main_v120 val_main_v91
  generalize val_main_v90 (F := Ideal) x0 x1 x2 x3 x4 x5 x6 x9 = a
  pointwise

/-- The gradient of the mixers' output weight. -/
theorem mixOut_eq : dMixOut (low x0) (lowK x0 x1 x2 x3 x4 x5 x6 x9) = val_main_v120 (F := Ideal) x0 x1 x2 x3 x4 x5 x6 x9 := by
  funext i
  idx_vars i
  refine Eq.trans ?_ (v120_at i0 i1).symm
  rw [val_main_v90_apply]
  refine Finset.sum_congr rfl fun k _ => (mul_comm _ _).trans ?_
  exact congrArg₂ (· * ·) ((low_at H k i1).trans (congrArg _ (ext2 _ _ rfl rfl))) (congrArg x0 (ext2 _ _ rfl rfl))

omit H in
theorem v117_at (s : Fin 2) (j : Fin 4) (d : Fin 1024) (f : Fin 704) : (val_main_v117 (F := Ideal) x0 x1 x2 x3 x4 x5 x6 x9 (ix4 s j d f) : EReal) = val_main_v55 (F := Ideal) x0 x1 x2 x3 x4 x5 x6 x9 (ix2 (col s j f) d) := by
  unfold val_main_v117 val_main_v116 val_main_v115 val_main_v56
  generalize val_main_v55 (F := Ideal) x0 x1 x2 x3 x4 x5 x6 x9 = a
  pointwise
  refine congrArg a (ext2 _ _ ?_ ?_)
  · simp [col]
  · simp

omit H in
theorem v119_at (j : Fin 4) (f : Fin 704) (d : Fin 1024) : (val_main_v119 (F := Ideal) x0 x1 x2 x3 x4 x5 x9 (ix3 j f d) : EReal) = val_main_v46 (F := Ideal) x0 x1 x2 x3 x4 x5 x9 (ix2 d (row j f)) := by
  unfold val_main_v119 val_main_v118 val_main_v47
  generalize val_main_v46 (F := Ideal) x0 x1 x2 x3 x4 x5 x9 = a
  pointwise
  refine congrArg a (ext2 _ _ ?_ ?_)
  · simp
  · simp [row]

/-- The gradients of the half-step's weights, in the blocks in which the calls leave them. -/
theorem in_eq : dIn (normK x0 x1 x2 x3 x4) (dHidK x0 x1 x2 x3 x4 x5 x6 x9) = val_main_v117 (F := Ideal) x0 x1 x2 x3 x4 x5 x6 x9 := by
  funext i
  idx_vars i
  refine Eq.trans ?_ (v117_at i0 i1 i2 i3).symm
  rw [val_main_v55_apply]
  refine Finset.sum_congr rfl fun k _ => (mul_comm _ _).trans ?_
  exact congrArg₂ (· * ·) ((dHid_at H i1 i0 k i3).trans (congrArg _ (ext2 _ _ rfl rfl))) ((norm_at x0 x1 x2 x3 x4 k i2).trans (congrArg _ (ext2 _ _ rfl rfl)))

theorem outW_eq : dOut (actK x0 x1 x2 x3 x4 x5) (halfLow x9) = val_main_v119 (F := Ideal) x0 x1 x2 x3 x4 x5 x9 := by
  funext i
  idx_vars i
  refine Eq.trans ?_ (v119_at i0 i1 i2).symm
  rw [val_main_v46_apply]
  refine Finset.sum_congr rfl fun k _ => (mul_comm _ _).trans ?_
  exact congrArg₂ (· * ·) ((half_at x9 k i2).trans (congrArg _ (ext2 _ _ rfl rfl))) ((act_at H i0 k i1).trans (congrArg _ (ext2 _ _ rfl rfl)))

/-- The third layer norm's result. -/
theorem last_eq : normedW (outK x0 x1 x2 x3 x4 x5 x6) x7 x8 = val_main_v114 (F := Ideal) x0 x1 x2 x3 x4 x5 x6 x7 x8 := by
  rw [out_eq H]
  funext i
  idx_vars i
  exact (v114_at x0 x1 x2 x3 x4 x5 x6 x7 x8 i0 i1).symm

omit H in
theorem v63_at (l : Fin 1024) : (val_main_v63 (F := Ideal) x0 x1 x2 x3 x4 x5 x6 x9 (ix2 (0 : Fin 1) l) : EReal) = ∑ n, (val_main_v26 (F := Ideal) x0 x1 x2 (ix2 n l) : EReal) * val_main_v58 (F := Ideal) x0 x1 x2 x3 x4 x5 x6 x9 (ix2 n l) := by
  unfold val_main_v63 val_main_v62 val_main_v61
  generalize val_main_v26 (F := Ideal) x0 x1 x2 = a
  generalize val_main_v58 (F := Ideal) x0 x1 x2 x3 x4 x5 x6 x9 = b
  pointwise [val_main_cst_12]

omit H in
theorem v60_at (l : Fin 1024) : (val_main_v60 (F := Ideal) x0 x1 x2 x3 x4 x5 x6 x9 (ix2 (0 : Fin 1) l) : EReal) = ∑ n, (val_main_v58 (F := Ideal) x0 x1 x2 x3 x4 x5 x6 x9 (ix2 n l) : EReal) := by
  unfold val_main_v60 val_main_v59
  generalize val_main_v58 (F := Ideal) x0 x1 x2 x3 x4 x5 x6 x9 = b
  pointwise [val_main_cst_11]

theorem scale_eq : rowsSum (dScale (tokGK x0 x1 x2 x3 x4 x5 x6 x9) (preK x0 x1 x2)) = val_main_v63 (F := Ideal) x0 x1 x2 x3 x4 x5 x6 x9 := by
  rw [tok_eq H, pre_eq]
  funext i
  idx_vars i
  obtain rfl : i0 = 0 := Subsingleton.elim _ _
  refine Eq.trans ?_ (v63_at i1).symm
  refine (sum_tokens fun n => (val_main_v58 (F := Ideal) x0 x1 x2 x3 x4 x5 x6 x9 (ix2 n i1) : EReal) * Norm.xh (R x0 x1 x2 n) i1).trans ?_
  exact Finset.sum_congr rfl fun n _ => (mul_comm _ _).trans (congrArg₂ (· * ·) (v26_at x0 x1 x2 n i1).symm rfl)

theorem shift_eq : rowsSum (dShift (tokGK x0 x1 x2 x3 x4 x5 x6 x9)) = val_main_v60 (F := Ideal) x0 x1 x2 x3 x4 x5 x6 x9 := by
  rw [tok_eq H]
  funext i
  idx_vars i
  obtain rfl : i0 = 0 := Subsingleton.elim _ _
  refine Eq.trans ?_ (v60_at i1).symm
  exact sum_tokens fun n => (val_main_v58 (F := Ideal) x0 x1 x2 x3 x4 x5 x6 x9 (ix2 n i1) : EReal)

end Cert.Second

end
-- ==== Proof.SecondClaim.lean ====
/-
  The claims about the second half-step, the layer norm before it and the mixers' output projection: the reference leaves its arguments as they
  were, and at finite arguments both programs end with the same nine arrays.
-/
module

public import proofs.«01_k».proof.Proof.SecondResults
public import proofs.«01_k».proof.Proof.Finite
public import proofs.«01_k».proof.Proof.Gen.Reference3Ideal.Run

@[expose] public section

set_option maxRecDepth 16384

noncomputable section

open Idealize.ShloMosaic Idealize.ShloMosaic.TcCoe Idealize.SL.Sem

namespace Cert.Second

theorem finite3Facts : Cert.Pre_finite3.Facts where
  bcast_S_S4096x1024 := by decide
  bcast_S_S1024x1024 := by decide
  bcast_S_S1x1024 := by decide
  bcast_S_S1024x5632 := by decide
  bcast_S_S2816x1024 := by decide

/-- The reference leaves its arguments as they were, whatever they are. -/
theorem referenceFrame : Cert.quiescent_Reference3Ideal (hReference3Ideal := Cert.Reference3Ideal.Gen.facts) := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

section

open Cert.Kernel3Ideal Cert.Kernel3Ideal.Gen

variable (m : (ℓ : Loc nD τ sig) → Buf (Elt Ideal) ℓ)

/-- Device `c`'s arguments. -/
abbrev A0 (c : Dev nD) : FVec Ideal S4096x1024 .f32 := m ((c.tc : Thread nD τ).loc main_arg0)
abbrev A1 (c : Dev nD) : FVec Ideal S4096x1024 .f32 := m ((c.tc : Thread nD τ).loc main_arg1)
abbrev A2 (c : Dev nD) : FVec Ideal S1024x1024 .f32 := m ((c.tc : Thread nD τ).loc main_arg2)
abbrev A3 (c : Dev nD) : FVec Ideal S1x1024 .f32 := m ((c.tc : Thread nD τ).loc main_arg3)
abbrev A4 (c : Dev nD) : FVec Ideal S1x1024 .f32 := m ((c.tc : Thread nD τ).loc main_arg4)
abbrev A5 (c : Dev nD) : FVec Ideal S1024x5632 .f32 := m ((c.tc : Thread nD τ).loc main_arg5)
abbrev A6 (c : Dev nD) : FVec Ideal S2816x1024 .f32 := m ((c.tc : Thread nD τ).loc main_arg6)
abbrev A7 (c : Dev nD) : FVec Ideal S1x1024 .f32 := m ((c.tc : Thread nD τ).loc main_arg7)
abbrev A8 (c : Dev nD) : FVec Ideal S1x1024 .f32 := m ((c.tc : Thread nD τ).loc main_arg8)
abbrev A9 (c : Dev nD) : FVec Ideal S4096x1024 .f32 := m ((c.tc : Thread nD τ).loc main_arg9)

/-- The precondition says that every entry is a real. -/
theorem finite_of (h : Cert.Pre_Kernel3Ideal_finite3 (hPre_finite3 := finite3Facts) m) (c : Dev nD) :
    Finite (A0 m c) (A1 m c) (A2 m c) (A3 m c) (A4 m c) (A5 m c) (A6 m c) (A9 m c) := by
  obtain ⟨e0, e1, e2, e3, e4, e5, e6, e9⟩ := h c
  exact ⟨fun i => ⟨_, (Cert.Proof.real_at _ _ e0 i).symm⟩,
    fun i => ⟨_, (Cert.Proof.real_at _ _ e1 i).symm⟩,
    fun i => ⟨_, (Cert.Proof.real_at _ _ e2 i).symm⟩,
    fun i => ⟨_, (Cert.Proof.real_at _ _ e3 i).symm⟩,
    fun i => ⟨_, (Cert.Proof.real_at _ _ e4 i).symm⟩,
    fun i => ⟨_, (Cert.Proof.real_at _ _ e5 i).symm⟩,
    fun i => ⟨_, (Cert.Proof.real_at _ _ e6 i).symm⟩,
    fun i => ⟨_, (Cert.Proof.real_at _ _ e9 i).symm⟩⟩

/-- What the kernel's run leaves. -/
theorem kernelRun (h : Cert.Pre_Kernel3Ideal_finite3 (hPre_finite3 := finite3Facts) m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15_0) = Cert.Reference3Ideal.Read.val_main_v41 (F := Ideal) (A0 m c) (A1 m c) (A2 m c) (A3 m c) (A4 m c) (A5 m c) (A6 m c)
      ∧ r.2.mem ((c.tc : Thread nD τ).loc main_v15_1) = Cert.Reference3Ideal.Read.val_main_v114 (F := Ideal) (A0 m c) (A1 m c) (A2 m c) (A3 m c) (A4 m c) (A5 m c) (A6 m c) (A7 m c) (A8 m c)
      ∧ r.2.mem ((c.tc : Thread nD τ).loc main_v19_0) = Cert.Reference3Ideal.Read.val_main_v89 (F := Ideal) (A0 m c) (A1 m c) (A2 m c) (A3 m c) (A4 m c) (A5 m c) (A6 m c) (A9 m c)
      ∧ r.2.mem ((c.tc : Thread nD τ).loc main_v20) = Cert.Reference3Ideal.Read.val_main_v92 (F := Ideal) (A0 m c) (A1 m c) (A2 m c) (A3 m c) (A4 m c) (A5 m c) (A6 m c) (A9 m c)
      ∧ r.2.mem ((c.tc : Thread nD τ).loc main_v18) = Cert.Reference3Ideal.Read.val_main_v117 (F := Ideal) (A0 m c) (A1 m c) (A2 m c) (A3 m c) (A4 m c) (A5 m c) (A6 m c) (A9 m c)
      ∧ r.2.mem ((c.tc : Thread nD τ).loc main_v17) = Cert.Reference3Ideal.Read.val_main_v119 (F := Ideal) (A0 m c) (A1 m c) (A2 m c) (A3 m c) (A4 m c) (A5 m c) (A9 m c)
      ∧ r.2.mem ((c.tc : Thread nD τ).loc main_v23) = Cert.Reference3Ideal.Read.val_main_v63 (F := Ideal) (A0 m c) (A1 m c) (A2 m c) (A3 m c) (A4 m c) (A5 m c) (A6 m c) (A9 m c)
      ∧ r.2.mem ((c.tc : Thread nD τ).loc main_v25) = Cert.Reference3Ideal.Read.val_main_v60 (F := Ideal) (A0 m c) (A1 m c) (A2 m c) (A3 m c) (A4 m c) (A5 m c) (A6 m c) (A9 m c)
      ∧ r.2.mem ((c.tc : Thread nD τ).loc main_v21) = Cert.Reference3Ideal.Read.val_main_v120 (F := Ideal) (A0 m c) (A1 m c) (A2 m c) (A3 m c) (A4 m c) (A5 m c) (A6 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r k c => ?_) (Cert.Kernel3Ideal.Second.run m ρ)
  have H := finite_of m h c
  exact ⟨(k c _ (mem_uc main_v15_0 (by decide))).trans ((Cert.Kernel3Ideal.Second.W11_v15_0 m ρ c).trans (out_eq H)),
    (k c _ (mem_uc main_v15_1 (by decide))).trans ((Cert.Kernel3Ideal.Second.W11_v15_1 m ρ c).trans (last_eq H)),
    (k c _ (mem_uc main_v19_0 (by decide))).trans ((Cert.Kernel3Ideal.Second.W11_v19_0 m ρ c).trans (sum_eq H)),
    (k c _ (mem_uc main_v20 (by decide))).trans ((Cert.Kernel3Ideal.Second.W11_v20 m ρ c).trans (dM_eq H)),
    (k c _ (mem_uc main_v18 (by decide))).trans ((Cert.Kernel3Ideal.Second.W11_v18 m ρ c).trans (in_eq H)),
    (k c _ (mem_uc main_v17 (by decide))).trans ((Cert.Kernel3Ideal.Second.W11_v17 m ρ c).trans (outW_eq H)),
    (k c _ (mem_uc main_v23 (by decide))).trans ((Cert.Kernel3Ideal.Second.W11_v23 m ρ c).trans (scale_eq H)),
    (k c _ (mem_uc main_v25 (by decide))).trans ((Cert.Kernel3Ideal.Second.W11_v25 m ρ c).trans (shift_eq H)),
    (k c _ (mem_uc main_v21 (by decide))).trans ((Cert.Kernel3Ideal.Second.W11_v21 m ρ c).trans (mixOut_eq H)),
    (k c _ (mem_uc main_arg0 (by decide))).trans (W11_main_arg0 m ρ c),
    (k c _ (mem_uc main_arg1 (by decide))).trans (W11_main_arg1 m ρ c),
    (k c _ (mem_uc main_arg2 (by decide))).trans (W11_main_arg2 m ρ c),
    (k c _ (mem_uc main_arg3 (by decide))).trans (W11_main_arg3 m ρ c),
    (k c _ (mem_uc main_arg4 (by decide))).trans (W11_main_arg4 m ρ c),
    (k c _ (mem_uc main_arg5 (by decide))).trans (W11_main_arg5 m ρ c),
    (k c _ (mem_uc main_arg6 (by decide))).trans (W11_main_arg6 m ρ c),
    (k c _ (mem_uc main_arg7 (by decide))).trans (W11_main_arg7 m ρ c),
    (k c _ (mem_uc main_arg8 (by decide))).trans (W11_main_arg8 m ρ c),
    (k c _ (mem_uc main_arg9 (by decide))).trans (W11_main_arg9 m ρ c)⟩

end

/-- At finite arguments the kernel and the reference leave the same nine arrays. -/
theorem equal : Cert.algebraic_Kernel3Ideal_Reference3Ideal_pre_finite3 (hKernel3Ideal := Cert.Kernel3Ideal.Gen.facts)
    (hReference3Ideal := Cert.Reference3Ideal.Gen.facts) (hPre_finite3 := finite3Facts) := by
  intro m g m' g' hpre hargs
  refine ⟨_, _, _, _, _, _, _, _, _, kernelRun m hpre g, ?_⟩
  refine (θ_run Cert.Reference3Ideal.defs _ _).mono (fun r h c => ?_) (Cert.Reference3Ideal.Value.run (F := Ideal) m' g')
  obtain ⟨h0, h1, h2, h3, h4, h5, h6, h7, h8, hk⟩ := h c
  obtain ⟨e0, e1, e2, e3, e4, e5, e6, e7, e8, e9⟩ := hargs c
  refine ⟨?_, ?_, ?_, ?_, ?_, ?_, ?_, ?_, ?_, hk⟩
  · refine h0.trans ((Cert.Reference3Ideal.Read.val_main_v41_eq (F := Ideal) _).trans ?_)
    show Cert.Reference3Ideal.Read.val_main_v41 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) = _
    rw [e0, e1, e2, e3, e4, e5, e6]
  · refine h1.trans ((Cert.Reference3Ideal.Read.val_main_v114_eq (F := Ideal) _).trans ?_)
    show Cert.Reference3Ideal.Read.val_main_v114 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
    rw [e0, e1, e2, e3, e4, e5, e6, e7, e8]
  · refine h2.trans ((Cert.Reference3Ideal.Read.val_main_v89_eq (F := Ideal) _).trans ?_)
    show Cert.Reference3Ideal.Read.val_main_v89 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [e0, e1, e2, e3, e4, e5, e6, e9]
  · refine h3.trans ((Cert.Reference3Ideal.Read.val_main_v92_eq (F := Ideal) _).trans ?_)
    show Cert.Reference3Ideal.Read.val_main_v92 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [e0, e1, e2, e3, e4, e5, e6, e9]
  · refine h4.trans ((Cert.Reference3Ideal.Read.val_main_v117_eq (F := Ideal) _).trans ?_)
    show Cert.Reference3Ideal.Read.val_main_v117 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [e0, e1, e2, e3, e4, e5, e6, e9]
  · refine h5.trans ((Cert.Reference3Ideal.Read.val_main_v119_eq (F := Ideal) _).trans ?_)
    show Cert.Reference3Ideal.Read.val_main_v119 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg9)) = _
    rw [e0, e1, e2, e3, e4, e5, e9]
  · refine h6.trans ((Cert.Reference3Ideal.Read.val_main_v63_eq (F := Ideal) _).trans ?_)
    show Cert.Reference3Ideal.Read.val_main_v63 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [e0, e1, e2, e3, e4, e5, e6, e9]
  · refine h7.trans ((Cert.Reference3Ideal.Read.val_main_v60_eq (F := Ideal) _).trans ?_)
    show Cert.Reference3Ideal.Read.val_main_v60 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [e0, e1, e2, e3, e4, e5, e6, e9]
  · refine h8.trans ((Cert.Reference3Ideal.Read.val_main_v120_eq (F := Ideal) _).trans ?_)
    show Cert.Reference3Ideal.Read.val_main_v120 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [e0, e1, e2, e3, e4, e5, e6, e9]

end Cert.Second

end
-- ==== Proof.MergeForward.lean ====
/-
  The gated merge: what its forward call leaves in its three arrays, as sums over the arrays it reads.
-/
module

public import proofs.«01_k».proof.Proof.Gen.Kernel4Ideal.Frame
public import proofs.«01_k».proof.Proof.HalfBack
public import proofs.«01_k».proof.Proof.HalfRegions
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen
open Cert.Kernel2Ideal.Half (sgm rowAt)

/-- The two gates' columns of the projection. -/
def colA (q : Fin 1024) : Fin 3584 := ⟨1536 + q.val, by omega⟩
def colB (q : Fin 1024) : Fin 3584 := ⟨2560 + q.val, by omega⟩

/-- The gates. -/
def gateA (P : FVec Ideal S4096x3584 .f32) (p : Fin 4096) (q : Fin 1024) : EReal := sgm (P (ix2 p (colA q)))
def gateB (P : FVec Ideal S4096x3584 .f32) (p : Fin 4096) (q : Fin 1024) : EReal := sgm (P (ix2 p (colB q)))

/-- A branch through its output weight. -/
def up (s : FVec Ideal S4096x512 .f32) (u : FVec Ideal S512x1024 .bf16) : FVec Ideal S4096x1024 .bf16 :=
  fun i => (∑ k : Fin 512, (s (ix2 (i 0) k) : EReal) * u (ix2 k (i 1)) : EReal)

/-- The merged sum. -/
def merged (s g : FVec Ideal S4096x512 .f32) (P : FVec Ideal S4096x3584 .f32) (u v : FVec Ideal S512x1024 .bf16) : FVec Ideal S4096x1024 .bf16 :=
  fun i => (gateA P (i 0) (i 1) * (up s u i : EReal) + gateB P (i 0) (i 1) * (up g v i : EReal) : EReal)

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 3]
    ∧ win0_3.index t = ![t.val, 4] ∧ win0_4.index t = ![t.val, 5] ∧ win0_5.index t = ![t.val, 6] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

theorem final0_9 (c : Dev nD) : (dat0 V c).arrAt 9 cfg0.N = up (V c main_arg0) (V c main_v0) := by
  refine (dat0 V c).arrAt_eq_of_covers 9 _ (by decide +kernel) fun t _ y => ?_
  blk_simp
  rw [after0_9]; frame_out
  pointwise [k0_pay5, k0_pay3, up]
  blk_point [iblk0, idx0 t]

theorem final0_10 (c : Dev nD) : (dat0 V c).arrAt 10 cfg0.N = up (V c main_arg1) (V c main_v1) := by
  refine (dat0 V c).arrAt_eq_of_covers 10 _ (by decide +kernel) fun t _ y => ?_
  blk_simp
  rw [after0_10]; frame_out
  pointwise [k0_pay6, k0_pay4, up]
  blk_point [iblk0, idx0 t]

theorem final0_8 (c : Dev nD) : (dat0 V c).arrAt 8 cfg0.N =
    merged (V c main_arg0) (V c main_arg1) (V c main_arg2) (V c main_v0) (V c main_v1) := by
  refine (dat0 V c).arrAt_eq_of_covers 8 _ (by decide +kernel) fun t _ y => ?_
  blk_simp
  rw [after0_8]; frame_out
  canon_tiles y h
  case piece0 =>
    pointwise [k0_pay2, k0_pay3, k0_pay4, merged, up, gateA, gateB, colA, colB, sgm]
    blk_point [iblk0, idx0 t]
  case piece1 =>
    pointwise [k0_pay1, k0_pay7, k0_pay8, k0_pay9, k0_pay3, k0_pay4, merged, up, gateA, gateB, colA, colB, sgm]
    blk_point [iblk0, idx0 t]

end Cert.Kernel4Ideal.Merge

end
-- ==== Proof.MergeBack.lean ====
/-
  The gated merge: what its backward call leaves. The gates' cotangents, the branches' cotangents, and the two accumulators over the grid for the
  gradients of the branches' output weights.
-/
module

public import proofs.«01_k».proof.Proof.MergeForward
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen
open Cert.Kernel2Ideal.Half (sgm rowAt)

/-- What an array holds after eight grid points, each of which adds its share to what the point before left, the first to zeros. -/
theorem fold_all {ι : Type} (f : (n : ℕ) → n < 8 → ι → EReal) (S : Fin 8 → (ι → EReal) → ι → EReal) (T : Fin 8 → EReal) (z : ι → EReal) (i : ι)
    (hz : z i = 0) (hS : ∀ t x, S t x i = x i + T t) (hA : ∀ t : Fin 8, t.val % 8 = 0 → f t.val t.isLt = S t z)
    (hB : ∀ t : Fin 8, ¬ t.val % 8 = 0 → f t.val t.isLt = S t (f (t.val - 1) (lt_of_le_of_lt (Nat.sub_le _ _) t.isLt))) :
    f 7 (by decide) i = ∑ t, T t := by
  have key : ∀ n (h : n < 8), f n h i = ∑ t : Fin (n + 1), T ⟨t.val, by omega⟩ := by
    intro n
    induction n with
    | zero =>
      intro h
      rw [hA ⟨0, h⟩ rfl, hS, hz]
      simp
    | succ n ih =>
      intro h
      rw [hB ⟨n + 1, h⟩ (by simp only; omega), hS, Fin.sum_univ_castSucc]
      exact congrArg (· + T ⟨n + 1, h⟩) (ih (by omega))
  exact key 7 (by decide)

/-- A gate's cotangent. -/
def dGateA (d : FVec Ideal S4096x1024 .f32) (y : FVec Ideal S4096x1024 .bf16) (P : FVec Ideal S4096x3584 .f32) : FVec Ideal S4096x1024 .bf16 :=
  fun i => ((d i : EReal) * y i * gateA P (i 0) (i 1) * (Ideal.ofBits .f32 0x3F800000#32 - gateA P (i 0) (i 1)) : EReal)
def dGateB (d : FVec Ideal S4096x1024 .f32) (y : FVec Ideal S4096x1024 .bf16) (P : FVec Ideal S4096x3584 .f32) : FVec Ideal S4096x1024 .bf16 :=
  fun i => ((d i : EReal) * y i * gateB P (i 0) (i 1) * (Ideal.ofBits .f32 0x3F800000#32 - gateB P (i 0) (i 1)) : EReal)

/-- The cotangent of a branch through its output weight. -/
def dUpA (d : FVec Ideal S4096x1024 .f32) (P : FVec Ideal S4096x3584 .f32) : FVec Ideal S4096x1024 .bf16 :=
  fun i => ((d i : EReal) * gateA P (i 0) (i 1) : EReal)
def dUpB (d : FVec Ideal S4096x1024 .f32) (P : FVec Ideal S4096x3584 .f32) : FVec Ideal S4096x1024 .bf16 :=
  fun i => ((d i : EReal) * gateB P (i 0) (i 1) : EReal)

/-- A branch's cotangent, and the gradient of its output weight, the tokens by blocks; the latter's term of one token. -/
def dBranch (e : FVec Ideal S4096x1024 .bf16) (u : FVec Ideal S512x1024 .bf16) : FVec Ideal S4096x512 .f32 :=
  fun i => (∑ k : Fin 1024, (e (ix2 (i 0) k) : EReal) * u (ix2 (i 1) k) : EReal)
def term (e : FVec Ideal S4096x1024 .bf16) (s : FVec Ideal S4096x512 .f32) (p : Fin 512) (q : Fin 1024) (n : Fin 4096) : EReal :=
  (s (ix2 n p) : EReal) * e (ix2 n q)
def dWeight (e : FVec Ideal S4096x1024 .bf16) (s : FVec Ideal S4096x512 .f32) : FVec Ideal S512x1024 .f32 :=
  fun i => (∑ t : Fin 8, ∑ j : Fin 512, term e s (i 0) (i 1) (rowAt t j) : EReal)

/-- The weight of a branch at the narrow format. -/
def lowU (w : FVec Ideal S512x1024 .f32) : FVec Ideal S512x1024 .bf16 := truncf .bf16 w bitsLt_bf16_f32

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 3] ∧ win1_6.index t = ![t.val, 4]
    ∧ win1_7.index t = ![t.val, 5] ∧ win1_8.index t = ![t.val, 6] ∧ win1_9.index t = ![0, 0] ∧ win1_10.index t = ![0, 0]
    ∧ win1_11.index t = ![t.val, 0] ∧ win1_12.index t = ![t.val, 0] ∧ win1_13.index t = ![t.val, 0] ∧ win1_14.index t = ![t.val, 0] :=
  (by decide +kernel : ∀ t : Fin grid1.N, _)

/-- The cotangents of the two branches through their output weights, of the block of grid point `t`: the left half, the right half's gate and the
    right half of the cotangent they are made of. -/
abbrev leftA (c : Dev nD) (t : Fin cfg1.N) : FVec Ideal S512x512 .bf16 := k1_pay9 (F := Ideal) (k1_pay3 (F := Ideal) (iblk1 V c 5 t)) (k1_pay5 (F := Ideal) (iblk1 V c 0 t))
abbrev leftB (c : Dev nD) (t : Fin cfg1.N) : FVec Ideal S512x512 .bf16 := k1_pay10 (F := Ideal) (k1_pay4 (F := Ideal) (iblk1 V c 7 t)) (k1_pay5 (F := Ideal) (iblk1 V c 0 t))
abbrev rightA (c : Dev nD) (t : Fin cfg1.N) : FVec Ideal S512x512 .f32 := k1_pay11 (F := Ideal) (iblk1 V c 6 t)
abbrev rightB (c : Dev nD) (t : Fin cfg1.N) : FVec Ideal S512x512 .f32 := k1_pay12 (F := Ideal) (iblk1 V c 8 t)
abbrev cotR (c : Dev nD) (t : Fin cfg1.N) : FVec Ideal S512x512 .f32 := k1_pay13 (F := Ideal) (iblk1 V c 0 t)

theorem dyA_at (c : Dev nD) (t : Fin cfg1.N) (p : Fin 512) (q : Fin 1024) :
    (k1_pay16 (F := Ideal) (leftA V c t) (rightA V c t) (cotR V c t) (ix2 p q) : EReal) = dUpA (V c main_arg5) (V c main_arg2) (ix2 (rowAt t p) q) := by
  unfold leftA rightA cotR
  by_cases h : q.val < 512
  · pointwise [k1_pay16, k1_pay9, k1_pay3, k1_pay5, k1_pay11, k1_pay13, dUpA, gateA, colA, sgm, rowAt]
    rw [dif_pos h]
    blk_point [iblk1, idx1 t]
  · pointwise [k1_pay16, k1_pay9, k1_pay3, k1_pay5, k1_pay11, k1_pay13, dUpA, gateA, colA, sgm, rowAt]
    rw [dif_neg h]
    blk_point [iblk1, idx1 t]

theorem dyB_at (c : Dev nD) (t : Fin cfg1.N) (p : Fin 512) (q : Fin 1024) :
    (k1_pay17 (F := Ideal) (leftB V c t) (rightB V c t) (cotR V c t) (ix2 p q) : EReal) = dUpB (V c main_arg5) (V c main_arg2) (ix2 (rowAt t p) q) := by
  unfold leftB rightB cotR
  by_cases h : q.val < 512
  · pointwise [k1_pay17, k1_pay10, k1_pay4, k1_pay5, k1_pay12, k1_pay13, dUpB, gateB, colB, sgm, rowAt]
    rw [dif_pos h]
    blk_point [iblk1, idx1 t]
  · pointwise [k1_pay17, k1_pay10, k1_pay4, k1_pay5, k1_pay12, k1_pay13, dUpB, gateB, colB, sgm, rowAt]
    rw [dif_neg h]
    blk_point [iblk1, idx1 t]

theorem s_at (c : Dev nD) (t : Fin cfg1.N) (p : Fin 512) (q : Fin 512) :
    (iblk1 V c 3 t (ix2 p q) : EReal) = (V c main_arg0 : FVec Ideal S4096x512 .f32) (ix2 (rowAt t p) q) := by
  pointwise [rowAt]
  blk_point [iblk1, idx1 t]

theorem g_at (c : Dev nD) (t : Fin cfg1.N) (p : Fin 512) (q : Fin 512) :
    (iblk1 V c 4 t (ix2 p q) : EReal) = (V c main_arg1 : FVec Ideal S4096x512 .f32) (ix2 (rowAt t p) q) := by
  pointwise [rowAt]
  blk_point [iblk1, idx1 t]

theorem gateA_out (c : Dev nD) (t : Fin cfg1.N) (y : S512x1024.Idx) : ((outsAt1 V c t.val t.isLt).1 y : EReal) =
    dGateA (V c main_arg5) (V c main_v2_1) (V c main_arg2) ((win1_11.blk t).view.emb y) := by
  by_cases h : t.val % 8 = 0
  · rw [outsAt1_A V c t h]; frame_out
    canon_tiles y h
    case piece0 =>
      pointwise [k1_pay14, k1_pay13, k1_pay1, k1_pay11, dGateA, gateA, colA, sgm]
      blk_point [iblk1, idx1 t]
    case piece1 =>
      pointwise [k1_pay6, k1_pay1, k1_pay3, k1_pay5, dGateA, gateA, colA, sgm]
      blk_point [iblk1, idx1 t]
  · rw [outsAt1_B V c t h]; frame_out
    canon_tiles y h
    case piece0 =>
      pointwise [k1_pay14, k1_pay13, k1_pay1, k1_pay11, dGateA, gateA, colA, sgm]
      blk_point [iblk1, idx1 t]
    case piece1 =>
      pointwise [k1_pay6, k1_pay1, k1_pay3, k1_pay5, dGateA, gateA, colA, sgm]
      blk_point [iblk1, idx1 t]

theorem gateB_out (c : Dev nD) (t : Fin cfg1.N) (y : S512x1024.Idx) : ((outsAt1 V c t.val t.isLt).2.1 y : EReal) =
    dGateB (V c main_arg5) (V c main_v2_2) (V c main_arg2) ((win1_12.blk t).view.emb y) := by
  by_cases h : t.val % 8 = 0
  · rw [outsAt1_A V c t h]; frame_out
    canon_tiles y h
    case piece0 =>
      pointwise [k1_pay15, k1_pay13, k1_pay2, k1_pay12, dGateB, gateB, colB, sgm]
      blk_point [iblk1, idx1 t]
    case piece1 =>
      pointwise [k1_pay8, k1_pay7, k1_pay2, k1_pay4, k1_pay5, dGateB, gateB, colB, sgm]
      blk_point [iblk1, idx1 t]
  · rw [outsAt1_B V c t h]; frame_out
    canon_tiles y h
    case piece0 =>
      pointwise [k1_pay15, k1_pay13, k1_pay2, k1_pay12, dGateB, gateB, colB, sgm]
      blk_point [iblk1, idx1 t]
    case piece1 =>
      pointwise [k1_pay8, k1_pay7, k1_pay2, k1_pay4, k1_pay5, dGateB, gateB, colB, sgm]
      blk_point [iblk1, idx1 t]

theorem s_out (c : Dev nD) (t : Fin cfg1.N) : (outsAt1 V c t.val t.isLt).2.2.1 =
    k1_pay18 (F := Ideal) (leftA V c t) (rightA V c t) (cotR V c t) (iblk1 V c 9 t) := by
  by_cases h : t.val % 8 = 0
  · rw [outsAt1_A V c t h]; frame_out
  · rw [outsAt1_B V c t h]; frame_out

theorem g_out (c : Dev nD) (t : Fin cfg1.N) : (outsAt1 V c t.val t.isLt).2.2.2.1 =
    k1_pay19 (F := Ideal) (leftB V c t) (rightB V c t) (cotR V c t) (iblk1 V c 10 t) := by
  by_cases h : t.val % 8 = 0
  · rw [outsAt1_A V c t h]; frame_out
  · rw [outsAt1_B V c t h]; frame_out

theorem accA_A (c : Dev nD) (t : Fin cfg1.N) (h : t.val % 8 = 0) : (outsAt1 V c t.val t.isLt).2.2.2.2.1 =
    k1_pay22 (F := Ideal) (leftA V c t) (rightA V c t) (cotR V c t) (k1_pay20 (F := Ideal)) (iblk1 V c 3 t) := by
  rw [outsAt1_A V c t h]; frame_out

theorem accA_B (c : Dev nD) (t : Fin cfg1.N) (h : ¬ t.val % 8 = 0) : (outsAt1 V c t.val t.isLt).2.2.2.2.1 =
    k1_pay22 (F := Ideal) (leftA V c t) (rightA V c t) (cotR V c t)
      (outsAt1 V c (t.val - 1) (lt_of_le_of_lt (Nat.sub_le _ _) t.isLt)).2.2.2.2.1 (iblk1 V c 3 t) := by
  rw [outsAt1_B V c t h]; frame_out

theorem accB_A (c : Dev nD) (t : Fin cfg1.N) (h : t.val % 8 = 0) : (outsAt1 V c t.val t.isLt).2.2.2.2.2 =
    k1_pay23 (F := Ideal) (leftB V c t) (rightB V c t) (cotR V c t) (k1_pay21 (F := Ideal)) (iblk1 V c 4 t) := by
  rw [outsAt1_A V c t h]; frame_out

theorem accB_B (c : Dev nD) (t : Fin cfg1.N) (h : ¬ t.val % 8 = 0) : (outsAt1 V c t.val t.isLt).2.2.2.2.2 =
    k1_pay23 (F := Ideal) (leftB V c t) (rightB V c t) (cotR V c t)
      (outsAt1 V c (t.val - 1) (lt_of_le_of_lt (Nat.sub_le _ _) t.isLt)).2.2.2.2.2 (iblk1 V c 4 t) := by
  rw [outsAt1_B V c t h]; frame_out

theorem pay18_at (a : FVec Ideal S512x512 .bf16) (b d : FVec Ideal S512x512 .f32) (u : FVec Ideal S512x1024 .bf16) (p q : Fin 512) :
    (k1_pay18 (F := Ideal) a b d u (ix2 p q) : EReal) = ∑ k : Fin 1024, (k1_pay16 (F := Ideal) a b d (ix2 p k) : EReal) * u (ix2 q k) := by
  unfold k1_pay18
  generalize k1_pay16 (F := Ideal) a b d = r
  pointwise []

theorem pay19_at (a : FVec Ideal S512x512 .bf16) (b d : FVec Ideal S512x512 .f32) (u : FVec Ideal S512x1024 .bf16) (p q : Fin 512) :
    (k1_pay19 (F := Ideal) a b d u (ix2 p q) : EReal) = ∑ k : Fin 1024, (k1_pay17 (F := Ideal) a b d (ix2 p k) : EReal) * u (ix2 q k) := by
  unfold k1_pay19
  generalize k1_pay17 (F := Ideal) a b d = r
  pointwise []

theorem pay22_at (a : FVec Ideal S512x512 .bf16) (b d : FVec Ideal S512x512 .f32) (x : FVec Ideal S512x1024 .f32) (s : FVec Ideal S512x512 .f32)
    (p : Fin 512) (q : Fin 1024) :
    (k1_pay22 (F := Ideal) a b d x s (ix2 p q) : EReal) =
      x (ix2 p q) + ∑ j : Fin 512, (s (ix2 j p) : EReal) * k1_pay16 (F := Ideal) a b d (ix2 j q) := by
  unfold k1_pay22
  generalize k1_pay16 (F := Ideal) a b d = r
  pointwise []

theorem pay23_at (a : FVec Ideal S512x512 .bf16) (b d : FVec Ideal S512x512 .f32) (x : FVec Ideal S512x1024 .f32) (s : FVec Ideal S512x512 .f32)
    (p : Fin 512) (q : Fin 1024) :
    (k1_pay23 (F := Ideal) a b d x s (ix2 p q) : EReal) =
      x (ix2 p q) + ∑ j : Fin 512, (s (ix2 j p) : EReal) * k1_pay17 (F := Ideal) a b d (ix2 j q) := by
  unfold k1_pay23
  generalize k1_pay17 (F := Ideal) a b d = r
  pointwise []

theorem final1_11 (c : Dev nD) : (dat1 V c).arrAt 11 cfg1.N = dGateA (V c main_arg5) (V c main_v2_1) (V c main_arg2) := by
  refine (dat1 V c).arrAt_eq_of_covers 11 _ (by decide +kernel) fun t _ y => ?_
  rw [after1_11]
  exact gateA_out V c t y

theorem final1_12 (c : Dev nD) : (dat1 V c).arrAt 12 cfg1.N = dGateB (V c main_arg5) (V c main_v2_2) (V c main_arg2) := by
  refine (dat1 V c).arrAt_eq_of_covers 12 _ (by decide +kernel) fun t _ y => ?_
  rw [after1_12]
  exact gateB_out V c t y

theorem final1_13 (c : Dev nD) : (dat1 V c).arrAt 13 cfg1.N = dBranch (dUpA (V c main_arg5) (V c main_arg2)) (V c main_v0) := by
  refine (dat1 V c).arrAt_eq_of_covers 13 _ (by decide +kernel) fun t _ y => ?_
  obtain ⟨p, q, rfl⟩ : ∃ (p : Fin 512) (q : Fin 512), y = ix2 p q := ⟨y 0, y 1, by blk_ext⟩
  blk_simp
  rw [after1_13, s_out]
  have e : (win1_13.blk t).view.emb (ix2 p q) = ix2 (rowAt t p) q := by
    blk_ext [rowAt, idx1 t]
  rw [e]
  refine (pay18_at _ _ _ _ p q).trans (Finset.sum_congr rfl fun k _ => congrArg₂ (· * ·) (dyA_at V c t p k) ?_)
  blk_point [iblk1, idx1 t]

theorem final1_14 (c : Dev nD) : (dat1 V c).arrAt 14 cfg1.N = dBranch (dUpB (V c main_arg5) (V c main_arg2)) (V c main_v1) := by
  refine (dat1 V c).arrAt_eq_of_covers 14 _ (by decide +kernel) fun t _ y => ?_
  obtain ⟨p, q, rfl⟩ : ∃ (p : Fin 512) (q : Fin 512), y = ix2 p q := ⟨y 0, y 1, by blk_ext⟩
  blk_simp
  rw [after1_14, g_out]
  have e : (win1_14.blk t).view.emb (ix2 p q) = ix2 (rowAt t p) q := by
    blk_ext [rowAt, idx1 t]
  rw [e]
  refine (pay19_at _ _ _ _ p q).trans (Finset.sum_congr rfl fun k _ => congrArg₂ (· * ·) (dyB_at V c t p k) ?_)
  blk_point [iblk1, idx1 t]

theorem stepA_at (c : Dev nD) (t : Fin cfg1.N) (x : FVec Ideal S512x1024 .f32) (p : Fin 512) (q : Fin 1024) :
    (k1_pay22 (F := Ideal) (leftA V c t) (rightA V c t) (cotR V c t) x (iblk1 V c 3 t) (ix2 p q) : EReal) =
      x (ix2 p q) + ∑ j : Fin 512, term (dUpA (V c main_arg5) (V c main_arg2)) (V c main_arg0) p q (rowAt t j) := by
  refine (pay22_at _ _ _ x _ p q).trans (congrArg _ (Finset.sum_congr rfl fun j _ => ?_))
  exact congrArg₂ (fun a b : EReal => a * b) (s_at V c t j p) (dyA_at V c t j q)

theorem final1_15 (c : Dev nD) : (dat1 V c).arrAt 15 cfg1.N = dWeight (dUpA (V c main_arg5) (V c main_arg2)) (V c main_arg0) := by
  refine (dat1 V c).arrAt_eq_of_after_last 15 t1_7 (by decide +kernel) _ fun y => ?_
  obtain ⟨p, q, rfl⟩ : ∃ (p : Fin 512) (q : Fin 1024), y = ix2 p q := ⟨y 0, y 1, by blk_ext⟩
  blk_simp
  rw [after1_15]
  have e := fold_all (fun n h => (outsAt1 V c n h).2.2.2.2.1)
    (fun t x => k1_pay22 (F := Ideal) (leftA V c t) (rightA V c t) (cotR V c t) x (iblk1 V c 3 t))
    (fun t => ∑ j : Fin 512, term (dUpA (V c main_arg5) (V c main_arg2)) (V c main_arg0) p q (rowAt t j))
    (k1_pay20 (F := Ideal)) (ix2 p q) (by pointwise [k1_pay20])
    (fun t x => stepA_at V c t x p q)
    (accA_A V c) (accA_B V c)
  exact e

theorem stepB_at (c : Dev nD) (t : Fin cfg1.N) (x : FVec Ideal S512x1024 .f32) (p : Fin 512) (q : Fin 1024) :
    (k1_pay23 (F := Ideal) (leftB V c t) (rightB V c t) (cotR V c t) x (iblk1 V c 4 t) (ix2 p q) : EReal) =
      x (ix2 p q) + ∑ j : Fin 512, term (dUpB (V c main_arg5) (V c main_arg2)) (V c main_arg1) p q (rowAt t j) := by
  refine (pay23_at _ _ _ x _ p q).trans (congrArg _ (Finset.sum_congr rfl fun j _ => ?_))
  exact congrArg₂ (fun a b : EReal => a * b) (g_at V c t j p) (dyB_at V c t j q)

theorem final1_16 (c : Dev nD) : (dat1 V c).arrAt 16 cfg1.N = dWeight (dUpB (V c main_arg5) (V c main_arg2)) (V c main_arg1) := by
  refine (dat1 V c).arrAt_eq_of_after_last 16 t1_7 (by decide +kernel) _ fun y => ?_
  obtain ⟨p, q, rfl⟩ : ∃ (p : Fin 512) (q : Fin 1024), y = ix2 p q := ⟨y 0, y 1, by blk_ext⟩
  blk_simp
  rw [after1_16]
  have e := fold_all (fun n h => (outsAt1 V c n h).2.2.2.2.2)
    (fun t x => k1_pay23 (F := Ideal) (leftB V c t) (rightB V c t) (cotR V c t) x (iblk1 V c 4 t))
    (fun t => ∑ j : Fin 512, term (dUpB (V c main_arg5) (V c main_arg2)) (V c main_arg1) p q (rowAt t j))
    (k1_pay21 (F := Ideal)) (ix2 p q) (by pointwise [k1_pay21])
    (fun t x => stepB_at V c t x p q)
    (accB_A V c) (accB_B V c)
  exact e

end Cert.Kernel4Ideal.Merge

end
-- ==== Proof.MergeEqual.lean ====
/-
  The gated merge: its calls' arrays are the reference's. A gate made of a hyperbolic tangent is the logistic function, at the infinities too, so that
  nothing is asked of the arguments.
-/
module

public import proofs.«01_k».proof.Proof.MergeBack
public import proofs.«01_k».proof.Proof.HalfEqual
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Merge

open Cert.Kernel4Ideal
open Cert.Kernel4Ideal.Merge (colA colB gateA gateB up merged dGateA dGateB dUpA dUpB dBranch dWeight term lowU)
open Cert.Kernel2Ideal.Half (sgm rowAt)
open Cert.Consts Cert.Half
open Cert.Reference4Ideal.Read

/-- The gate is the logistic function, at the infinities too. -/
theorem gate_word (v : EReal) : Ideal.div (Ideal.ofBits .f32 0x3F800000#32) (Ideal.ofBits .f32 0x3F800000#32 + Ideal.exp (-v)) = sgm v := by
  induction v using EReal.rec with
  | bot =>
    rw [sgm, half_word, one_word, EReal.neg_bot, Ideal.exp_top, EReal.coe_add_top, EReal.coe_mul_bot_of_pos (by norm_num), Ideal.tanh_bot,
      Ideal.div, if_neg (by simp), EReal.inv_top, mul_zero, mul_neg, mul_one, ← EReal.coe_neg, ← EReal.coe_add]
    norm_num
  | coe r => exact (logistic_word r).trans (sgm_real r).symm
  | top =>
    rw [sgm, half_word, one_word, EReal.neg_top, Ideal.exp_bot, add_zero, EReal.coe_mul_top_of_pos (by norm_num), Ideal.tanh_top,
      Ideal.div_coe (by norm_num), mul_one, ← EReal.coe_mul, ← EReal.coe_add]
    norm_num

variable (x0 x1 : FVec Ideal S4096x512 .f32) (x2 : FVec Ideal S4096x3584 .f32) (x3 x4 : FVec Ideal S512x1024 .f32) (x5 : FVec Ideal S4096x1024 .f32)

theorem v7_at (p : Fin 4096) (q : Fin 1024) : (val_main_v7 (F := Ideal) x2 (ix2 p q) : EReal) = gateA x2 p q := by
  refine Eq.trans ?_ (gate_word _)
  pointwise [val_main_v7, val_main_v6, val_main_v5, val_main_v4, val_main_v3, val_main_v2, val_main_v0, val_main_cst, val_main_cst_0, colA]

theorem v18_at (p : Fin 4096) (q : Fin 1024) : (val_main_v18 (F := Ideal) x2 (ix2 p q) : EReal) = gateB x2 p q := by
  refine Eq.trans ?_ (gate_word _)
  pointwise [val_main_v18, val_main_v17, val_main_v16, val_main_v15, val_main_v14, val_main_v13, val_main_v1, val_main_cst_2, val_main_cst_3, colB]

theorem v11_at (i : S4096x1024.Idx) : (val_main_v11 (F := Ideal) x0 x3 i : EReal) = up x0 (lowU x3) i := by
  idx_vars i
  pointwise [val_main_v11, up, lowU]

theorem v22_at (i : S4096x1024.Idx) : (val_main_v22 (F := Ideal) x1 x4 i : EReal) = up x1 (lowU x4) i := by
  idx_vars i
  pointwise [val_main_v22, up, lowU]

theorem v33_at (p : Fin 4096) (q : Fin 1024) : (val_main_v33 (F := Ideal) x2 x5 (ix2 p q) : EReal) = dUpA x5 x2 (ix2 p q) := by
  refine Eq.trans ?_ (mul_comm (gateA x2 p q) (x5 (ix2 p q) : EReal))
  rw [← v7_at x2 p q]
  pointwise [val_main_v33, val_main_v25]

theorem v27_at (p : Fin 4096) (q : Fin 1024) : (val_main_v27 (F := Ideal) x2 x5 (ix2 p q) : EReal) = dUpB x5 x2 (ix2 p q) := by
  refine Eq.trans ?_ (mul_comm (gateB x2 p q) (x5 (ix2 p q) : EReal))
  rw [← v18_at x2 p q]
  pointwise [val_main_v27, val_main_v26]

theorem merged_eq : merged x0 x1 x2 (lowU x3) (lowU x4) = val_main_v39 (F := Ideal) x0 x1 x2 x3 x4 := by
  funext i
  idx_vars i
  unfold merged
  rw [← v11_at, ← v22_at]
  show gateA x2 i0 i1 * _ + gateB x2 i0 i1 * _ = _
  rw [← v7_at x2 i0 i1, ← v18_at x2 i0 i1]
  pointwise [val_main_v39, val_main_v24, val_main_v23, val_main_v12]

theorem gateA_eq : dGateA x5 (up x0 (lowU x3)) x2 = val_main_v40 (F := Ideal) x0 x2 x3 x5 := by
  funext i
  idx_vars i
  unfold dGateA
  rw [← v11_at]
  show _ * gateA x2 i0 i1 * (_ - gateA x2 i0 i1) = _
  rw [← v7_at x2 i0 i1, mul_assoc]
  pointwise [val_main_v40, val_main_v38, val_main_v34, val_main_v25, val_main_v10, val_main_v9, val_main_v8, val_main_cst_1]

theorem gateB_eq : dGateB x5 (up x1 (lowU x4)) x2 = val_main_v41 (F := Ideal) x1 x2 x4 x5 := by
  funext i
  idx_vars i
  unfold dGateB
  rw [← v22_at]
  show _ * gateB x2 i0 i1 * (_ - gateB x2 i0 i1) = _
  rw [← v18_at x2 i0 i1, mul_assoc]
  pointwise [val_main_v41, val_main_v32, val_main_v28, val_main_v26, val_main_v21, val_main_v20, val_main_v19, val_main_cst_4]

theorem branchA_eq : dBranch (dUpA x5 x2) (lowU x3) = val_main_v37 (F := Ideal) x2 x3 x5 := by
  funext i
  idx_vars i
  refine (Finset.sum_congr rfl fun k _ => congrArg (· * _) (v33_at x2 x5 i0 k).symm).trans ?_
  pointwise [val_main_v37, lowU]

theorem branchB_eq : dBranch (dUpB x5 x2) (lowU x4) = val_main_v31 (F := Ideal) x2 x4 x5 := by
  funext i
  idx_vars i
  refine (Finset.sum_congr rfl fun k _ => congrArg (· * _) (v27_at x2 x5 i0 k).symm).trans ?_
  pointwise [val_main_v31, lowU]

/-- The tokens, block by block. -/
theorem sum_blocks (g : Fin 4096 → EReal) : ∑ t : Fin 8, ∑ j : Fin 512, g (rowAt t j) = ∑ n, g n := by
  rw [Fin.sum_univ_tiles 8 512 rfl g]
  exact Finset.sum_congr rfl fun t _ => Finset.sum_congr rfl fun j _ => congrArg g (Fin.ext rfl)

theorem weightA_eq : (fun i => dWeight (dUpA x5 x2) x0 i : FVec Ideal S512x1024 .bf16) = val_main_v42 (F := Ideal) x0 x2 x5 := by
  funext i
  idx_vars i
  refine (sum_blocks (term (dUpA x5 x2) x0 i0 i1)).trans ?_
  refine (Finset.sum_congr rfl fun n _ => (mul_comm _ _).trans (congrArg (· * _) (v33_at x2 x5 n i1).symm)).trans ?_
  pointwise [val_main_v42, val_main_v36, val_main_v35]

theorem weightB_eq : (fun i => dWeight (dUpB x5 x2) x1 i : FVec Ideal S512x1024 .bf16) = val_main_v43 (F := Ideal) x1 x2 x5 := by
  funext i
  idx_vars i
  refine (sum_blocks (term (dUpB x5 x2) x1 i0 i1)).trans ?_
  refine (Finset.sum_congr rfl fun n _ => (mul_comm _ _).trans (congrArg (· * _) (v27_at x2 x5 n i1).symm)).trans ?_
  pointwise [val_main_v43, val_main_v30, val_main_v29]

end Cert.Merge

end
-- ==== Proof.MergeRun.lean ====
/-
  The whole run of the gated merge, forwards and backwards: the seven results as the two calls compose.
-/
module

public import proofs.«01_k».proof.Proof.MergeEqual
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (m : (ℓ : Loc nD τ sig) → Buf (Elt Ideal) ℓ)

section

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- The run: every weakly fair execution ends with each buffer that the program owns at its final contents. -/
theorem run (ρ : Dev nD → PrngReg) : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end

variable (ρ : Dev nD → PrngReg)

/-- Device `c`'s arguments. -/
abbrev A0 (c : Dev nD) : FVec Ideal S4096x512 .f32 := m ((c.tc : Thread nD τ).loc main_arg0)
abbrev A1 (c : Dev nD) : FVec Ideal S4096x512 .f32 := m ((c.tc : Thread nD τ).loc main_arg1)
abbrev A2 (c : Dev nD) : FVec Ideal S4096x3584 .f32 := m ((c.tc : Thread nD τ).loc main_arg2)
abbrev A3 (c : Dev nD) : FVec Ideal S512x1024 .f32 := m ((c.tc : Thread nD τ).loc main_arg3)
abbrev A4 (c : Dev nD) : FVec Ideal S512x1024 .f32 := m ((c.tc : Thread nD τ).loc main_arg4)
abbrev A5 (c : Dev nD) : FVec Ideal S4096x1024 .f32 := m ((c.tc : Thread nD τ).loc main_arg5)

theorem W1_v0 (c : Dev nD) : (W1 m ρ c (Proc.devRef .tc main_v0) : FVec Ideal S512x1024 .bf16) = lowU (A3 m c) := by
  simp only [W1]
  after_results
  rfl

theorem W2_v0 (c : Dev nD) : (W2 m ρ c (Proc.devRef .tc main_v0) : FVec Ideal S512x1024 .bf16) = lowU (A3 m c) :=
  (W2_of m ρ c main_v0 (by decide +kernel)).trans (W1_v0 m ρ c)

theorem W1_v1 (c : Dev nD) : (W1 m ρ c (Proc.devRef .tc main_v1) : FVec Ideal S512x1024 .bf16) = lowU (A4 m c) := by
  simp only [W1]
  after_results
  rfl

theorem W2_v1 (c : Dev nD) : (W2 m ρ c (Proc.devRef .tc main_v1) : FVec Ideal S512x1024 .bf16) = lowU (A4 m c) :=
  (W2_of m ρ c main_v1 (by decide +kernel)).trans (W1_v1 m ρ c)

theorem W2_v2_0 (c : Dev nD) : (W2 m ρ c (Proc.devRef .tc main_v2_0) : FVec Ideal S4096x1024 .bf16) =
    merged (A0 m c) (A1 m c) (A2 m c) (lowU (A3 m c)) (lowU (A4 m c)) := by
  refine (W2_arr m ρ c 8).trans ((final0_8 (V1 m ρ) c).trans ?_)
  exact congr (congr (congr (congrArg₂ merged (W1_args m ρ c main_arg0 (by decide +kernel)) (W1_args m ρ c main_arg1 (by decide +kernel)))
    (W1_args m ρ c main_arg2 (by decide +kernel))) (W1_v0 m ρ c)) (W1_v1 m ρ c)

theorem W2_v2_1 (c : Dev nD) : (W2 m ρ c (Proc.devRef .tc main_v2_1) : FVec Ideal S4096x1024 .bf16) = up (A0 m c) (lowU (A3 m c)) := by
  refine (W2_arr m ρ c 9).trans ((final0_9 (V1 m ρ) c).trans ?_)
  exact congrArg₂ up (W1_args m ρ c main_arg0 (by decide +kernel)) (W1_v0 m ρ c)

theorem W2_v2_2 (c : Dev nD) : (W2 m ρ c (Proc.devRef .tc main_v2_2) : FVec Ideal S4096x1024 .bf16) = up (A1 m c) (lowU (A4 m c)) := by
  refine (W2_arr m ρ c 10).trans ((final0_10 (V1 m ρ) c).trans ?_)
  exact congrArg₂ up (W1_args m ρ c main_arg1 (by decide +kernel)) (W1_v1 m ρ c)

theorem W3_v2_0 (c : Dev nD) : (W3 m ρ c (Proc.devRef .tc main_v2_0) : FVec Ideal S4096x1024 .bf16) =
    merged (A0 m c) (A1 m c) (A2 m c) (lowU (A3 m c)) (lowU (A4 m c)) :=
  (W3_of m ρ c main_v2_0 (by decide +kernel)).trans (W2_v2_0 m ρ c)

theorem W3_v3_0 (c : Dev nD) : (W3 m ρ c (Proc.devRef .tc main_v3_0) : FVec Ideal S4096x1024 .bf16) =
    dGateA (A5 m c) (up (A0 m c) (lowU (A3 m c))) (A2 m c) := by
  refine (W3_arr m ρ c 11).trans ((final1_11 (V2 m ρ) c).trans ?_)
  exact congr (congrArg₂ dGateA (W2_args m ρ c main_arg5 (by decide +kernel)) (W2_v2_1 m ρ c)) (W2_args m ρ c main_arg2 (by decide +kernel))

theorem W3_v3_1 (c : Dev nD) : (W3 m ρ c (Proc.devRef .tc main_v3_1) : FVec Ideal S4096x1024 .bf16) =
    dGateB (A5 m c) (up (A1 m c) (lowU (A4 m c))) (A2 m c) := by
  refine (W3_arr m ρ c 12).trans ((final1_12 (V2 m ρ) c).trans ?_)
  exact congr (congrArg₂ dGateB (W2_args m ρ c main_arg5 (by decide +kernel)) (W2_v2_2 m ρ c)) (W2_args m ρ c main_arg2 (by decide +kernel))

theorem cotA (c : Dev nD) : dUpA (V2 m ρ c main_arg5) (V2 m ρ c main_arg2) = dUpA (A5 m c) (A2 m c) :=
  congrArg₂ dUpA (W2_args m ρ c main_arg5 (by decide +kernel)) (W2_args m ρ c main_arg2 (by decide +kernel))

theorem cotB (c : Dev nD) : dUpB (V2 m ρ c main_arg5) (V2 m ρ c main_arg2) = dUpB (A5 m c) (A2 m c) :=
  congrArg₂ dUpB (W2_args m ρ c main_arg5 (by decide +kernel)) (W2_args m ρ c main_arg2 (by decide +kernel))

theorem W3_v3_2 (c : Dev nD) : (W3 m ρ c (Proc.devRef .tc main_v3_2) : FVec Ideal S4096x512 .f32) = dBranch (dUpA (A5 m c) (A2 m c)) (lowU (A3 m c)) := by
  refine (W3_arr m ρ c 13).trans ((final1_13 (V2 m ρ) c).trans ?_)
  exact congrArg₂ dBranch (cotA m ρ c) (W2_v0 m ρ c)

theorem W3_v3_3 (c : Dev nD) : (W3 m ρ c (Proc.devRef .tc main_v3_3) : FVec Ideal S4096x512 .f32) = dBranch (dUpB (A5 m c) (A2 m c)) (lowU (A4 m c)) := by
  refine (W3_arr m ρ c 14).trans ((final1_14 (V2 m ρ) c).trans ?_)
  exact congrArg₂ dBranch (cotB m ρ c) (W2_v1 m ρ c)

theorem W3_v3_4 (c : Dev nD) : (W3 m ρ c (Proc.devRef .tc main_v3_4) : FVec Ideal S512x1024 .f32) = dWeight (dUpA (A5 m c) (A2 m c)) (A0 m c) := by
  refine (W3_arr m ρ c 15).trans ((final1_15 (V2 m ρ) c).trans ?_)
  exact congrArg₂ dWeight (cotA m ρ c) (W2_args m ρ c main_arg0 (by decide +kernel))

theorem W3_v3_5 (c : Dev nD) : (W3 m ρ c (Proc.devRef .tc main_v3_5) : FVec Ideal S512x1024 .f32) = dWeight (dUpB (A5 m c) (A2 m c)) (A1 m c) := by
  refine (W3_arr m ρ c 16).trans ((final1_16 (V2 m ρ) c).trans ?_)
  exact congrArg₂ dWeight (cotB m ρ c) (W2_args m ρ c main_arg1 (by decide +kernel))

theorem W4_v2_0 (c : Dev nD) : (W4 m ρ c (Proc.devRef .tc main_v2_0) : FVec Ideal S4096x1024 .bf16) =
    merged (A0 m c) (A1 m c) (A2 m c) (lowU (A3 m c)) (lowU (A4 m c)) :=
  (W4_of m ρ c main_v2_0 (by decide +kernel)).trans (W3_v2_0 m ρ c)

theorem W4_v3_0 (c : Dev nD) : (W4 m ρ c (Proc.devRef .tc main_v3_0) : FVec Ideal S4096x1024 .bf16) =
    dGateA (A5 m c) (up (A0 m c) (lowU (A3 m c))) (A2 m c) :=
  (W4_of m ρ c main_v3_0 (by decide +kernel)).trans (W3_v3_0 m ρ c)

theorem W4_v3_1 (c : Dev nD) : (W4 m ρ c (Proc.devRef .tc main_v3_1) : FVec Ideal S4096x1024 .bf16) =
    dGateB (A5 m c) (up (A1 m c) (lowU (A4 m c))) (A2 m c) :=
  (W4_of m ρ c main_v3_1 (by decide +kernel)).trans (W3_v3_1 m ρ c)

theorem W4_v3_2 (c : Dev nD) : (W4 m ρ c (Proc.devRef .tc main_v3_2) : FVec Ideal S4096x512 .f32) =
    dBranch (dUpA (A5 m c) (A2 m c)) (lowU (A3 m c)) :=
  (W4_of m ρ c main_v3_2 (by decide +kernel)).trans (W3_v3_2 m ρ c)

theorem W4_v3_3 (c : Dev nD) : (W4 m ρ c (Proc.devRef .tc main_v3_3) : FVec Ideal S4096x512 .f32) =
    dBranch (dUpB (A5 m c) (A2 m c)) (lowU (A4 m c)) :=
  (W4_of m ρ c main_v3_3 (by decide +kernel)).trans (W3_v3_3 m ρ c)

theorem W4_v4 (c : Dev nD) : (W4 m ρ c (Proc.devRef .tc main_v4) : FVec Ideal S512x1024 .bf16) =
    fun i => dWeight (dUpA (A5 m c) (A2 m c)) (A0 m c) i := by
  have h := W3_v3_4 m ρ c
  generalize dWeight (dUpA (A5 m c) (A2 m c)) (A0 m c) = a at *
  simp only [W4]
  generalize W3 m ρ c = L at *
  after_results
  rw [show L (Proc.devRef .tc main_v3_4) = a from h]
  rfl

theorem W4_v5 (c : Dev nD) : (W4 m ρ c (Proc.devRef .tc main_v5) : FVec Ideal S512x1024 .bf16) =
    fun i => dWeight (dUpB (A5 m c) (A2 m c)) (A1 m c) i := by
  have h := W3_v3_5 m ρ c
  generalize dWeight (dUpB (A5 m c) (A2 m c)) (A1 m c) = a at *
  simp only [W4]
  generalize W3 m ρ c = L at *
  after_results
  rw [show L (Proc.devRef .tc main_v3_5) = a from h]
  rfl

end Cert.Kernel4Ideal.Merge

end
-- ==== Proof.MergeClaim.lean ====
/-
  The claims about the gated merge: the reference leaves its arguments as they were, and both programs end with the same seven arrays.
-/
module

public import proofs.«01_k».proof.Proof.MergeRun
public import proofs.«01_k».proof.Proof.Finite
public import proofs.«01_k».proof.Proof.Gen.Reference4Ideal.Run

@[expose] public section

set_option maxRecDepth 16384

noncomputable section

open Idealize.ShloMosaic Idealize.ShloMosaic.TcCoe Idealize.SL.Sem

namespace Cert.Merge

/-- The reference leaves its arguments as they were, whatever they are. -/
theorem referenceFrame : Cert.quiescent_Reference4Ideal (hReference4Ideal := Cert.Reference4Ideal.Gen.facts) := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

section

open Cert.Kernel4Ideal Cert.Kernel4Ideal.Gen
open Cert.Kernel4Ideal.Merge

variable (m : (ℓ : Loc nD τ sig) → Buf (Elt Ideal) ℓ)

/-- The kernel's run ends with the reference's arrays. -/
theorem kernelRun (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = Cert.Reference4Ideal.Read.val_main_v39 (F := Ideal) (A0 m c) (A1 m c) (A2 m c) (A3 m c) (A4 m c)
      ∧ r.2.mem ((c.tc : Thread nD τ).loc main_v3_0) = Cert.Reference4Ideal.Read.val_main_v40 (F := Ideal) (A0 m c) (A2 m c) (A3 m c) (A5 m c)
      ∧ r.2.mem ((c.tc : Thread nD τ).loc main_v3_1) = Cert.Reference4Ideal.Read.val_main_v41 (F := Ideal) (A1 m c) (A2 m c) (A4 m c) (A5 m c)
      ∧ r.2.mem ((c.tc : Thread nD τ).loc main_v3_2) = Cert.Reference4Ideal.Read.val_main_v37 (F := Ideal) (A2 m c) (A3 m c) (A5 m c)
      ∧ r.2.mem ((c.tc : Thread nD τ).loc main_v3_3) = Cert.Reference4Ideal.Read.val_main_v31 (F := Ideal) (A2 m c) (A4 m c) (A5 m c)
      ∧ r.2.mem ((c.tc : Thread nD τ).loc main_v4) = Cert.Reference4Ideal.Read.val_main_v42 (F := Ideal) (A0 m c) (A2 m c) (A5 m c)
      ∧ r.2.mem ((c.tc : Thread nD τ).loc main_v5) = Cert.Reference4Ideal.Read.val_main_v43 (F := Ideal) (A1 m c) (A2 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r k c => ?_) (Cert.Kernel4Ideal.Merge.run m ρ)
  exact ⟨(k c _ (mem_uc main_v2_0 (by decide))).trans ((W4_v2_0 m ρ c).trans (merged_eq (A0 m c) (A1 m c) (A2 m c) (A3 m c) (A4 m c))),
    (k c _ (mem_uc main_v3_0 (by decide))).trans ((W4_v3_0 m ρ c).trans (gateA_eq (A0 m c) (A2 m c) (A3 m c) (A5 m c))),
    (k c _ (mem_uc main_v3_1 (by decide))).trans ((W4_v3_1 m ρ c).trans (gateB_eq (A1 m c) (A2 m c) (A4 m c) (A5 m c))),
    (k c _ (mem_uc main_v3_2 (by decide))).trans ((W4_v3_2 m ρ c).trans (branchA_eq (A2 m c) (A3 m c) (A5 m c))),
    (k c _ (mem_uc main_v3_3 (by decide))).trans ((W4_v3_3 m ρ c).trans (branchB_eq (A2 m c) (A4 m c) (A5 m c))),
    (k c _ (mem_uc main_v4 (by decide))).trans ((W4_v4 m ρ c).trans (weightA_eq (A0 m c) (A2 m c) (A5 m c))),
    (k c _ (mem_uc main_v5 (by decide))).trans ((W4_v5 m ρ c).trans (weightB_eq (A1 m c) (A2 m c) (A5 m c))),
    (k c _ (mem_uc main_arg0 (by decide))).trans (W4_main_arg0 m ρ c),
    (k c _ (mem_uc main_arg1 (by decide))).trans (W4_main_arg1 m ρ c),
    (k c _ (mem_uc main_arg2 (by decide))).trans (W4_main_arg2 m ρ c),
    (k c _ (mem_uc main_arg3 (by decide))).trans (W4_main_arg3 m ρ c),
    (k c _ (mem_uc main_arg4 (by decide))).trans (W4_main_arg4 m ρ c),
    (k c _ (mem_uc main_arg5 (by decide))).trans (W4_main_arg5 m ρ c)⟩

end

/-- The kernel and the reference leave the same seven arrays. -/
theorem equal : Cert.algebraic_Kernel4Ideal_Reference4Ideal (hKernel4Ideal := Cert.Kernel4Ideal.Gen.facts)
    (hReference4Ideal := Cert.Reference4Ideal.Gen.facts) := by
  intro m g m' g' hpre hargs
  refine ⟨_, _, _, _, _, _, _, kernelRun m g, ?_⟩
  refine (θ_run Cert.Reference4Ideal.defs _ _).mono (fun r h c => ?_) (Cert.Reference4Ideal.Value.run (F := Ideal) m' g')
  obtain ⟨h0, h1, h2, h3, h4, h5, h6, hk⟩ := h c
  obtain ⟨e0, e1, e2, e3, e4, e5⟩ := hargs c
  refine ⟨?_, ?_, ?_, ?_, ?_, ?_, ?_, hk⟩
  · refine h0.trans ((Cert.Reference4Ideal.Read.val_main_v39_eq (F := Ideal) _ _ _ _ _).trans ?_)
    rw [e0, e1, e2, e3, e4]
  · refine h1.trans ((Cert.Reference4Ideal.Read.val_main_v40_eq (F := Ideal) _ _ _ _).trans ?_)
    rw [e0, e2, e3, e5]
  · refine h2.trans ((Cert.Reference4Ideal.Read.val_main_v41_eq (F := Ideal) _ _ _ _).trans ?_)
    rw [e1, e2, e4, e5]
  · refine h3.trans ((Cert.Reference4Ideal.Read.val_main_v37_eq (F := Ideal) _ _ _).trans ?_)
    rw [e2, e3, e5]
  · refine h4.trans ((Cert.Reference4Ideal.Read.val_main_v31_eq (F := Ideal) _ _ _).trans ?_)
    rw [e2, e4, e5]
  · refine h5.trans ((Cert.Reference4Ideal.Read.val_main_v42_eq (F := Ideal) _ _ _).trans ?_)
    rw [e0, e2, e5]
  · refine h6.trans ((Cert.Reference4Ideal.Read.val_main_v43_eq (F := Ideal) _ _ _).trans ?_)
    rw [e1, e2, e5]

end Cert.Merge

end
-- ==== Proof.HeadRows.lean ====
/-
  The training step's head on a block of tokens: the gate, the embedding, the error and its share of the loss; the error's cotangents; the third
  layer norm's gradient.
-/
module

public import proofs.«01_k».proof.Proof.Gen.Kernel5Ideal.Frame
public import proofs.«01_k».proof.Proof.HalfRegions
public import proofs.«01_k».proof.Proof.HalfBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Head

open Cert.Kernel5Ideal Cert.Kernel5Ideal.Gen
open Cert.Kernel2Ideal.Half (fold sgm)

theorem k0_copy (x : FVec Ideal S512x1024 .f32) : k0_pay2 (F := Ideal) x = x := by
  funext i
  idx_vars i
  pointwise [k0_pay2]

theorem k0_gate (x : FVec Ideal S512x1024 .f32) (w : FVec Ideal S1024x1024 .bf16) (p : Fin 512) (q : Fin 1024) :
    (k0_pay3 (F := Ideal) x w (ix2 p q) : EReal) = sgm (∑ k : Fin 1024, (x (ix2 p k) : EReal) * w (ix2 k q)) := by
  pointwise [k0_pay3, k0_pay2, sgm]

theorem k0_emb (x : FVec Ideal S512x256 .bf16) (w : FVec Ideal S256x1024 .bf16) (p : Fin 512) (q : Fin 1024) :
    (k0_pay4 (F := Ideal) x w (ix2 p q) : EReal) = ∑ k : Fin 256, (x (ix2 p k) : EReal) * w (ix2 k q) := by
  pointwise [k0_pay4]

section Error

variable (x : FVec Ideal S512x1024 .f32) (wg : FVec Ideal S1024x1024 .bf16) (e : FVec Ideal S512x256 .bf16) (wp : FVec Ideal S256x1024 .bf16)
  (y : FVec Ideal S512x1024 .f32)

theorem k0_err (p : Fin 512) (q : Fin 1024) :
    (k0_pay5 (F := Ideal) x wg e wp y (ix2 p q) : EReal) =
      x (ix2 p q) + (k0_pay3 (F := Ideal) x wg (ix2 p q) : EReal) * k0_pay4 (F := Ideal) e wp (ix2 p q) - y (ix2 p q) := by
  unfold k0_pay5
  generalize k0_pay3 (F := Ideal) x wg = a at *
  generalize k0_pay4 (F := Ideal) e wp = b at *
  pointwise [k0_pay2]

theorem k0_loss (p : Fin 8) (q : Fin 128) :
    (k0_pay6 (F := Ideal) x wg e wp y (ix2 p q) : EReal) = Ideal.ofBits .f32 0x3F000000#32 * ∑ j : Fin 512, Ideal.div
      (∑ l : Fin 1024, (k0_pay5 (F := Ideal) x wg e wp y (ix2 j l) : EReal) * k0_pay5 (F := Ideal) x wg e wp y (ix2 j l)) Norm.width := by
  unfold k0_pay6
  generalize k0_pay5 (F := Ideal) x wg e wp y = a at *
  pointwise [Norm.width]

theorem k0_dout (p : Fin 512) (q : Fin 1024) :
    (k0_pay7 (F := Ideal) x wg e wp y (ix2 p q) : EReal) = (k0_pay5 (F := Ideal) x wg e wp y (ix2 p q) : EReal) * Ideal.ofBits .f32 0x3A800000#32 := by
  unfold k0_pay7
  generalize k0_pay5 (F := Ideal) x wg e wp y = a at *
  pointwise []

theorem k0_dsig (p : Fin 512) (q : Fin 1024) :
    (k0_pay8 (F := Ideal) x wg e wp y (ix2 p q) : EReal) =
      (k0_pay7 (F := Ideal) x wg e wp y (ix2 p q) : EReal) * k0_pay4 (F := Ideal) e wp (ix2 p q) := by
  unfold k0_pay8
  generalize k0_pay7 (F := Ideal) x wg e wp y = a at *
  generalize k0_pay4 (F := Ideal) e wp = b at *
  pointwise []

end Error

theorem k0_dpre (s d : FVec Ideal S512x1024 .f32) (p : Fin 512) (q : Fin 1024) :
    (k0_pay9 (F := Ideal) s d (ix2 p q) : EReal) = (d (ix2 p q) : EReal) * s (ix2 p q) * (Ideal.ofBits .f32 0x3F800000#32 - s (ix2 p q)) := by
  pointwise [k0_pay9]

theorem k0_demb (s d : FVec Ideal S512x1024 .f32) (p : Fin 512) (q : Fin 1024) :
    (k0_pay10 (F := Ideal) s d (ix2 p q) : EReal) = (d (ix2 p q) : EReal) * s (ix2 p q) := by
  pointwise [k0_pay10]

theorem k0_dx (s d e : FVec Ideal S512x1024 .f32) (w : FVec Ideal S1024x1024 .bf16) (p : Fin 512) (q : Fin 1024) :
    (k0_pay11 (F := Ideal) s d e w (ix2 p q) : EReal) =
      d (ix2 p q) + ∑ k : Fin 1024, (k0_pay9 (F := Ideal) s e (ix2 p k) : EReal) * w (ix2 q k) := by
  unfold k0_pay11
  generalize k0_pay9 (F := Ideal) s e = a at *
  pointwise []

theorem k0_cen (r : FVec Ideal S512x1024 .f32) (p : Fin 512) (q : Fin 1024) :
    (k0_pay12 (F := Ideal) r (ix2 p q) : EReal) = Norm.cen (fun l => r (ix2 p l)) q := by
  pointwise [k0_pay12, Norm.cen, Norm.mean, Norm.width]

theorem k0_rs (r : FVec Ideal S512x1024 .f32) (p : Fin 512) :
    (k0_pay13 (F := Ideal) r (ix2 p (0 : Fin 1)) : EReal) = Norm.rs (fun l => r (ix2 p l)) := by
  have e (l : Fin 1024) := k0_cen r p l
  unfold k0_pay13
  generalize k0_pay12 (F := Ideal) r = a at *
  pointwise [Norm.rs, Norm.vr, Norm.mean, Norm.width]
  simp only [e]

theorem k0_xh (r : FVec Ideal S512x1024 .f32) (p : Fin 512) (q : Fin 1024) :
    (k0_pay14 (F := Ideal) r (ix2 p q) : EReal) = Norm.xh (fun l => r (ix2 p l)) q := by
  have e := k0_cen r p q
  have e' := k0_rs r p
  unfold k0_pay14
  generalize k0_pay12 (F := Ideal) r = a at *
  generalize k0_pay13 (F := Ideal) r = b at *
  pointwise [Norm.xh]
  rw [← e, ← e']

theorem k0_grad (s d e : FVec Ideal S512x1024 .f32) (w : FVec Ideal S1024x1024 .bf16) (r : FVec Ideal S512x1024 .f32) (g : FVec Ideal S1x1024 .f32)
    (p : Fin 512) (q : Fin 1024) :
    (k0_pay18 (F := Ideal) (k0_pay13 (F := Ideal) r) (k0_pay16 (F := Ideal) s d e w g) (k0_pay17 (F := Ideal) s d e w r g) (ix2 p q) : EReal) =
      Norm.grad (fun l => r (ix2 p l)) (fun l => k0_pay11 (F := Ideal) s d e w (ix2 p l) * g (ix2 (0 : Fin 1) l)) q := by
  have e1 := k0_rs r p
  have e2 (l : Fin 1024) := k0_xh r p l
  unfold k0_pay16 k0_pay17 k0_pay15
  generalize k0_pay11 (F := Ideal) s d e w = a at *
  generalize k0_pay14 (F := Ideal) r = x at *
  generalize k0_pay13 (F := Ideal) r = z at *
  simp only [Norm.grad, ← e1, ← e2]
  pointwise [k0_pay18, Norm.mean, Norm.width]

theorem k0_half (s : FVec Ideal S512x1 .f32) (u v : FVec Ideal S512x1024 .f32) (p : Fin 512) (q : Fin 1024) :
    (k0_pay19 (F := Ideal) s u v (ix2 p q) : EReal) = Ideal.ofBits .f32 0x3F000000#32 * k0_pay18 (F := Ideal) s u v (ix2 p q) := by
  unfold k0_pay19
  generalize k0_pay18 (F := Ideal) s u v = a at *
  pointwise []

theorem k0_wgate (x d : FVec Ideal S512x1024 .f32) (acc : FVec Ideal S1024x1024 .f32) (p q : Fin 1024) :
    (k0_pay24 (F := Ideal) x d acc (ix2 p q) : EReal) = acc (ix2 p q) + ∑ j : Fin 512, (x (ix2 j p) : EReal) * d (ix2 j q) := by
  pointwise [k0_pay24]

theorem k0_wproj (d : FVec Ideal S512x1024 .f32) (acc : FVec Ideal S256x1024 .f32) (e : FVec Ideal S512x256 .bf16) (p : Fin 256) (q : Fin 1024) :
    (k0_pay25 (F := Ideal) d acc e (ix2 p q) : EReal) = acc (ix2 p q) + ∑ j : Fin 512, (e (ix2 j p) : EReal) * d (ix2 j q) := by
  pointwise [k0_pay25]

theorem k0_scale (u v : FVec Ideal S512x1024 .f32) (acc : FVec Ideal S8x1024 .f32) (a : Fin 8) (l : Fin 1024) :
    (k0_pay26 (F := Ideal) u v acc (ix2 a l) : EReal) = acc (ix2 a l) + ∑ j : Fin 64, (u (ix2 (fold j a) l) : EReal) * v (ix2 (fold j a) l) := by
  pointwise [k0_pay26, fold]
  blk_ext

theorem k0_shift (u : FVec Ideal S512x1024 .f32) (acc : FVec Ideal S8x1024 .f32) (a : Fin 8) (l : Fin 1024) :
    (k0_pay1 (F := Ideal) u acc (ix2 a l) : EReal) = acc (ix2 a l) + ∑ j : Fin 64, (u (ix2 (fold j a) l) : EReal) := by
  pointwise [k0_pay1, fold]
  blk_ext

end Cert.Kernel5Ideal.Head

end
-- ==== Proof.HeadBack.lean ====
/-
  What the call of the training step's head leaves: the blocks' shares of the loss, the cotangent of the sum before the third layer norm, twice, and
  four accumulators over the grid for the gradients of the two matrices, the scale and the shift.
-/
module

public import proofs.«01_k».proof.Proof.HeadRows
public import proofs.«01_k».proof.Proof.MergeBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Head

open Cert.Kernel5Ideal Cert.Kernel5Ideal.Gen
open Cert.Kernel2Ideal.Half (rowOf rowAt fold fold_sum scaledRow dSum dScale dShift sgm)
open Cert.Kernel4Ideal.Merge (fold_all)

section Arrays

variable (X : FVec Ideal S4096x1024 .f32) (G : FVec Ideal S1024x1024 .bf16) (E : FVec Ideal S4096x256 .bf16) (P : FVec Ideal S256x1024 .bf16)
  (Y : FVec Ideal S4096x1024 .f32)

/-- The gate of token `n` at lane `l`. -/
def gate (n : Fin 4096) (l : Fin 1024) : EReal := sgm (∑ k : Fin 1024, (X (ix2 n k) : EReal) * G (ix2 k l))

/-- The embedding of token `n`, projected, at lane `l`. -/
def emb (n : Fin 4096) (l : Fin 1024) : EReal := ∑ k : Fin 256, (E (ix2 n k) : EReal) * P (ix2 k l)

/-- The error of token `n` at lane `l`. -/
def err (n : Fin 4096) (l : Fin 1024) : EReal := X (ix2 n l) + gate X G n l * emb E P n l - Y (ix2 n l)

/-- A block's share of the loss, at every place of the block's tile. -/
def lossParts : FVec Ideal S64x128 .f32 := fun i => (Ideal.ofBits .f32 0x3F000000#32 * ∑ j : Fin 512, Ideal.div
  (∑ l : Fin 1024, err X G E P Y ⟨(i 0).val / 8 * 512 + j.val, by have := (i 0).isLt; have h : S64x128.size 0 = 64 := rfl; omega⟩ l *
    err X G E P Y ⟨(i 0).val / 8 * 512 + j.val, by have := (i 0).isLt; have h : S64x128.size 0 = 64 := rfl; omega⟩ l) Norm.width : EReal)

/-- The result's cotangent. -/
def dOut (n : Fin 4096) (l : Fin 1024) : EReal := err X G E P Y n l * Ideal.ofBits .f32 0x3A800000#32

/-- The cotangent of the gate's argument. -/
def dPre (n : Fin 4096) (l : Fin 1024) : EReal :=
  dOut X G E P Y n l * emb E P n l * gate X G n l * (Ideal.ofBits .f32 0x3F800000#32 - gate X G n l)

/-- The cotangent of the projected embedding. -/
def dEmb (n : Fin 4096) (l : Fin 1024) : EReal := dOut X G E P Y n l * gate X G n l

/-- The cotangent of the third layer norm's result. -/
def dTok : FVec Ideal S4096x1024 .f32 := fun i => (dOut X G E P Y (i 0) (i 1) + ∑ k : Fin 1024, dPre X G E P Y (i 0) k * G (ix2 (i 1) k) : EReal)

/-- The gate matrix's gradient, block of tokens by block of tokens. -/
def dGateW : FVec Ideal S1024x1024 .f32 :=
  fun i => (∑ t : Fin 8, ∑ j : Fin 512, (X (ix2 (rowAt t j) (i 0)) : EReal) * dPre X G E P Y (rowAt t j) (i 1) : EReal)

/-- The projection's gradient, block of tokens by block of tokens. -/
def dProjW : FVec Ideal S256x1024 .f32 :=
  fun i => (∑ t : Fin 8, ∑ j : Fin 512, (E (ix2 (rowAt t j) (i 0)) : EReal) * dEmb X G E P Y (rowAt t j) (i 1) : EReal)

end Arrays

/-- Half the cotangent of the sum before the layer norm, at the narrow format. -/
def lowSum (dy r : FVec Ideal S4096x1024 .f32) (g : FVec Ideal S1x1024 .f32) : FVec Ideal S4096x1024 .bf16 :=
  fun i => (Ideal.ofBits .f32 0x3F000000#32 * dSum dy r g i : EReal)

variable (m : (ℓ : Loc nD τ sig) → Buf (Elt Ideal) ℓ)

abbrev XV (c : Dev nD) : FVec Ideal S4096x1024 .f32 := V m c main_v21
abbrev RV (c : Dev nD) : FVec Ideal S4096x1024 .f32 := V m c main_arg0
abbrev SV (c : Dev nD) : FVec Ideal S1x1024 .f32 := V m c main_arg1
abbrev EV (c : Dev nD) : FVec Ideal S4096x256 .bf16 := V m c main_v22
abbrev YV (c : Dev nD) : FVec Ideal S4096x1024 .f32 := V m c main_arg4
abbrev GV (c : Dev nD) : FVec Ideal S1024x1024 .bf16 := V m c main_v23
abbrev PV (c : Dev nD) : FVec Ideal S256x1024 .bf16 := V m c main_v24

/-- The cotangent of the layer norm's result, as the call's arrays have it. -/
abbrev DY (c : Dev nD) : FVec Ideal S4096x1024 .f32 := dTok (XV m c) (GV m c) (EV m c) (PV m c) (YV m c)

/-- The gate, the embedding, the error and the cotangents of the block of grid point `t`. -/
abbrev gateB (c : Dev nD) (t : Fin cfg0.N) : FVec Ideal S512x1024 .f32 := k0_pay3 (F := Ideal) (iblk m c 0 t) (iblk m c 5 t)
abbrev embB (c : Dev nD) (t : Fin cfg0.N) : FVec Ideal S512x1024 .f32 := k0_pay4 (F := Ideal) (iblk m c 3 t) (iblk m c 6 t)
abbrev errB (c : Dev nD) (t : Fin cfg0.N) : FVec Ideal S512x1024 .f32 :=
  k0_pay5 (F := Ideal) (iblk m c 0 t) (iblk m c 5 t) (iblk m c 3 t) (iblk m c 6 t) (iblk m c 4 t)
abbrev lossB (c : Dev nD) (t : Fin cfg0.N) : FVec Ideal S8x128 .f32 :=
  k0_pay6 (F := Ideal) (iblk m c 0 t) (iblk m c 5 t) (iblk m c 3 t) (iblk m c 6 t) (iblk m c 4 t)
abbrev doutB (c : Dev nD) (t : Fin cfg0.N) : FVec Ideal S512x1024 .f32 :=
  k0_pay7 (F := Ideal) (iblk m c 0 t) (iblk m c 5 t) (iblk m c 3 t) (iblk m c 6 t) (iblk m c 4 t)
abbrev dsigB (c : Dev nD) (t : Fin cfg0.N) : FVec Ideal S512x1024 .f32 :=
  k0_pay8 (F := Ideal) (iblk m c 0 t) (iblk m c 5 t) (iblk m c 3 t) (iblk m c 6 t) (iblk m c 4 t)
abbrev dpreB (c : Dev nD) (t : Fin cfg0.N) : FVec Ideal S512x1024 .f32 := k0_pay9 (F := Ideal) (gateB m c t) (dsigB m c t)
abbrev dembB (c : Dev nD) (t : Fin cfg0.N) : FVec Ideal S512x1024 .f32 := k0_pay10 (F := Ideal) (gateB m c t) (doutB m c t)
abbrev dyB (c : Dev nD) (t : Fin cfg0.N) : FVec Ideal S512x1024 .f32 :=
  k0_pay11 (F := Ideal) (gateB m c t) (doutB m c t) (dsigB m c t) (iblk m c 5 t)
abbrev xB (c : Dev nD) (t : Fin cfg0.N) : FVec Ideal S512x1024 .f32 := k0_pay14 (F := Ideal) (iblk m c 1 t)
abbrev rsB (c : Dev nD) (t : Fin cfg0.N) : FVec Ideal S512x1 .f32 := k0_pay13 (F := Ideal) (iblk m c 1 t)
abbrev leftB (c : Dev nD) (t : Fin cfg0.N) : FVec Ideal S512x1024 .f32 :=
  k0_pay16 (F := Ideal) (gateB m c t) (doutB m c t) (dsigB m c t) (iblk m c 5 t) (iblk m c 2 t)
abbrev rightB (c : Dev nD) (t : Fin cfg0.N) : FVec Ideal S512x1024 .f32 :=
  k0_pay17 (F := Ideal) (gateB m c t) (doutB m c t) (dsigB m c t) (iblk m c 5 t) (iblk m c 1 t) (iblk m c 2 t)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem x_at (c : Dev nD) (t : Fin cfg0.N) (p : Fin 512) (q : Fin 1024) : (iblk m c 0 t (ix2 p q) : EReal) = XV m c (ix2 (rowAt t p) q) := by
  unfold XV
  pointwise [rowAt]
  blk_point [iblk, idx t]

theorem r_at (c : Dev nD) (t : Fin cfg0.N) (p : Fin 512) (q : Fin 1024) : (iblk m c 1 t (ix2 p q) : EReal) = RV m c (ix2 (rowAt t p) q) := by
  unfold RV
  pointwise [rowAt]
  blk_point [iblk, idx t]

theorem s_at (c : Dev nD) (t : Fin cfg0.N) (q : Fin 1024) : (iblk m c 2 t (ix2 (0 : Fin 1) q) : EReal) = SV m c (ix2 (0 : Fin 1) q) := by
  unfold SV
  blk_point [iblk, idx t]

theorem e_at (c : Dev nD) (t : Fin cfg0.N) (p : Fin 512) (q : Fin 256) : (iblk m c 3 t (ix2 p q) : EReal) = EV m c (ix2 (rowAt t p) q) := by
  unfold EV
  pointwise [rowAt]
  blk_point [iblk, idx t]

theorem y_at (c : Dev nD) (t : Fin cfg0.N) (p : Fin 512) (q : Fin 1024) : (iblk m c 4 t (ix2 p q) : EReal) = YV m c (ix2 (rowAt t p) q) := by
  unfold YV
  pointwise [rowAt]
  blk_point [iblk, idx t]

theorem g_at (c : Dev nD) (t : Fin cfg0.N) (p q : Fin 1024) : (iblk m c 5 t (ix2 p q) : EReal) = GV m c (ix2 p q) := by
  unfold GV
  blk_point [iblk, idx t]

theorem p_at (c : Dev nD) (t : Fin cfg0.N) (p : Fin 256) (q : Fin 1024) : (iblk m c 6 t (ix2 p q) : EReal) = PV m c (ix2 p q) := by
  unfold PV
  blk_point [iblk, idx t]

theorem gate_at (c : Dev nD) (t : Fin cfg0.N) (p : Fin 512) (q : Fin 1024) :
    (gateB m c t (ix2 p q) : EReal) = gate (XV m c) (GV m c) (rowAt t p) q :=
  (k0_gate _ _ p q).trans (congrArg sgm (Finset.sum_congr rfl fun k _ =>
    congrArg₂ (fun a b : EReal => a * b) (x_at m c t p k) (g_at m c t k q)))

theorem emb_at (c : Dev nD) (t : Fin cfg0.N) (p : Fin 512) (q : Fin 1024) :
    (embB m c t (ix2 p q) : EReal) = emb (EV m c) (PV m c) (rowAt t p) q :=
  (k0_emb _ _ p q).trans (Finset.sum_congr rfl fun k _ => congrArg₂ (fun a b : EReal => a * b) (e_at m c t p k) (p_at m c t k q))

theorem err_at (c : Dev nD) (t : Fin cfg0.N) (p : Fin 512) (q : Fin 1024) :
    (errB m c t (ix2 p q) : EReal) = err (XV m c) (GV m c) (EV m c) (PV m c) (YV m c) (rowAt t p) q :=
  (k0_err _ _ _ _ _ p q).trans (congrArg₂ (fun a b : EReal => a - b) (congrArg₂ (fun a b : EReal => a + b) (x_at m c t p q)
    (congrArg₂ (fun a b : EReal => a * b) (gate_at m c t p q) (emb_at m c t p q))) (y_at m c t p q))

theorem dout_at (c : Dev nD) (t : Fin cfg0.N) (p : Fin 512) (q : Fin 1024) :
    (doutB m c t (ix2 p q) : EReal) = dOut (XV m c) (GV m c) (EV m c) (PV m c) (YV m c) (rowAt t p) q :=
  (k0_dout _ _ _ _ _ p q).trans (congrArg (fun a : EReal => a * Ideal.ofBits .f32 0x3A800000#32) (err_at m c t p q))

theorem dsig_at (c : Dev nD) (t : Fin cfg0.N) (p : Fin 512) (q : Fin 1024) : (dsigB m c t (ix2 p q) : EReal) =
    dOut (XV m c) (GV m c) (EV m c) (PV m c) (YV m c) (rowAt t p) q * emb (EV m c) (PV m c) (rowAt t p) q :=
  (k0_dsig _ _ _ _ _ p q).trans (congrArg₂ (fun a b : EReal => a * b) (dout_at m c t p q) (emb_at m c t p q))

theorem dpre_at (c : Dev nD) (t : Fin cfg0.N) (p : Fin 512) (q : Fin 1024) :
    (dpreB m c t (ix2 p q) : EReal) = dPre (XV m c) (GV m c) (EV m c) (PV m c) (YV m c) (rowAt t p) q :=
  (k0_dpre _ _ p q).trans (congrArg₂ (fun a b : EReal => a * (Ideal.ofBits .f32 0x3F800000#32 - b))
    (congrArg₂ (fun a b : EReal => a * b) (dsig_at m c t p q) (gate_at m c t p q)) (gate_at m c t p q))

theorem demb_at (c : Dev nD) (t : Fin cfg0.N) (p : Fin 512) (q : Fin 1024) :
    (dembB m c t (ix2 p q) : EReal) = dEmb (XV m c) (GV m c) (EV m c) (PV m c) (YV m c) (rowAt t p) q :=
  (k0_demb _ _ p q).trans (congrArg₂ (fun a b : EReal => a * b) (dout_at m c t p q) (gate_at m c t p q))

theorem dy_at (c : Dev nD) (t : Fin cfg0.N) (p : Fin 512) (q : Fin 1024) : (dyB m c t (ix2 p q) : EReal) = DY m c (ix2 (rowAt t p) q) :=
  (k0_dx _ _ _ _ p q).trans (congrArg₂ (fun a b : EReal => a + b) (dout_at m c t p q)
    (Finset.sum_congr rfl fun k _ => congrArg₂ (fun a b : EReal => a * b) (dpre_at m c t p k) (g_at m c t q k)))

theorem xB_at (c : Dev nD) (t : Fin cfg0.N) (p : Fin 512) (q : Fin 1024) :
    (xB m c t (ix2 p q) : EReal) = Norm.xh (rowOf (RV m c) (rowAt t p)) q := by
  refine (k0_xh _ p q).trans (congrArg (Norm.xh · q) ?_)
  funext l
  exact r_at m c t p l

theorem grad_at (c : Dev nD) (t : Fin cfg0.N) (p : Fin 512) (q : Fin 1024) :
    (k0_pay18 (F := Ideal) (rsB m c t) (leftB m c t) (rightB m c t) (ix2 p q) : EReal) = dSum (DY m c) (RV m c) (SV m c) (ix2 (rowAt t p) q) := by
  refine (k0_grad _ _ _ _ _ _ p q).trans (congrFun (congrArg₂ Norm.grad ?_ ?_) q)
  · funext l
    exact r_at m c t p l
  · funext l
    exact congrArg₂ (fun a b : EReal => a * b) (dy_at m c t p l) (s_at m c t l)

theorem loss_out (c : Dev nD) (t : Fin cfg0.N) : (outsAt0 m c t.val t.isLt).1 = lossB m c t := by
  by_cases h : t.val % 8 = 0
  · rw [outsAt0_A m c t h]; frame_out
  · rw [outsAt0_B m c t h]; frame_out

theorem sum_out (c : Dev nD) (t : Fin cfg0.N) :
    (outsAt0 m c t.val t.isLt).2.1 = k0_pay18 (F := Ideal) (rsB m c t) (leftB m c t) (rightB m c t) := by
  by_cases h : t.val % 8 = 0
  · rw [outsAt0_A m c t h]; frame_out
  · rw [outsAt0_B m c t h]; frame_out

theorem low_out (c : Dev nD) (t : Fin cfg0.N) :
    (outsAt0 m c t.val t.isLt).2.2.1 = k0_pay19 (F := Ideal) (rsB m c t) (leftB m c t) (rightB m c t) := by
  by_cases h : t.val % 8 = 0
  · rw [outsAt0_A m c t h]; frame_out
  · rw [outsAt0_B m c t h]; frame_out

theorem wgate_A (c : Dev nD) (t : Fin cfg0.N) (h : t.val % 8 = 0) : (outsAt0 m c t.val t.isLt).2.2.2.1 =
    k0_pay24 (F := Ideal) (k0_pay2 (F := Ideal) (iblk m c 0 t)) (dpreB m c t) (k0_pay20 (F := Ideal)) := by
  rw [outsAt0_A m c t h]; frame_out

theorem wgate_B (c : Dev nD) (t : Fin cfg0.N) (h : ¬ t.val % 8 = 0) : (outsAt0 m c t.val t.isLt).2.2.2.1 =
    k0_pay24 (F := Ideal) (k0_pay2 (F := Ideal) (iblk m c 0 t)) (dpreB m c t)
      (outsAt0 m c (t.val - 1) (lt_of_le_of_lt (Nat.sub_le _ _) t.isLt)).2.2.2.1 := by
  rw [outsAt0_B m c t h]; frame_out

theorem wproj_A (c : Dev nD) (t : Fin cfg0.N) (h : t.val % 8 = 0) : (outsAt0 m c t.val t.isLt).2.2.2.2.1 =
    k0_pay25 (F := Ideal) (dembB m c t) (k0_pay21 (F := Ideal)) (iblk m c 3 t) := by
  rw [outsAt0_A m c t h]; frame_out

theorem wproj_B (c : Dev nD) (t : Fin cfg0.N) (h : ¬ t.val % 8 = 0) : (outsAt0 m c t.val t.isLt).2.2.2.2.1 =
    k0_pay25 (F := Ideal) (dembB m c t) (outsAt0 m c (t.val - 1) (lt_of_le_of_lt (Nat.sub_le _ _) t.isLt)).2.2.2.2.1 (iblk m c 3 t) := by
  rw [outsAt0_B m c t h]; frame_out

theorem scale_A (c : Dev nD) (t : Fin cfg0.N) (h : t.val % 8 = 0) :
    (outsAt0 m c t.val t.isLt).2.2.2.2.2.1 = k0_pay26 (F := Ideal) (dyB m c t) (xB m c t) (k0_pay22 (F := Ideal)) := by
  rw [outsAt0_A m c t h]; frame_out

theorem scale_B (c : Dev nD) (t : Fin cfg0.N) (h : ¬ t.val % 8 = 0) :
    (outsAt0 m c t.val t.isLt).2.2.2.2.2.1 = k0_pay26 (F := Ideal) (dyB m c t) (xB m c t)
      (outsAt0 m c (t.val - 1) (lt_of_le_of_lt (Nat.sub_le _ _) t.isLt)).2.2.2.2.2.1 := by
  rw [outsAt0_B m c t h]; frame_out

theorem shift_A (c : Dev nD) (t : Fin cfg0.N) (h : t.val % 8 = 0) :
    (outsAt0 m c t.val t.isLt).2.2.2.2.2.2 = k0_pay1 (F := Ideal) (dyB m c t) (k0_pay23 (F := Ideal)) := by
  rw [outsAt0_A m c t h]; frame_out

theorem shift_B (c : Dev nD) (t : Fin cfg0.N) (h : ¬ t.val % 8 = 0) :
    (outsAt0 m c t.val t.isLt).2.2.2.2.2.2 = k0_pay1 (F := Ideal) (dyB m c t)
      (outsAt0 m c (t.val - 1) (lt_of_le_of_lt (Nat.sub_le _ _) t.isLt)).2.2.2.2.2.2 := by
  rw [outsAt0_B m c t h]; frame_out

end Cert.Kernel5Ideal.Head

end
-- ==== Proof.HeadFinal.lean ====
/-
  The seven arrays that the call of the training step's head leaves.
-/
module

public import proofs.«01_k».proof.Proof.HeadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Head

open Cert.Kernel5Ideal Cert.Kernel5Ideal.Gen
open Cert.Kernel2Ideal.Half (rowOf rowAt fold fold_sum scaledRow dSum dScale dShift sgm)
open Cert.Kernel4Ideal.Merge (fold_all)

variable (m : (ℓ : Loc nD τ sig) → Buf (Elt Ideal) ℓ)

theorem loss_at (c : Dev nD) (t : Fin cfg0.N) (p : Fin 8) (q : Fin 128) : (lossB m c t (ix2 p q) : EReal) =
    Ideal.ofBits .f32 0x3F000000#32 * ∑ j : Fin 512, Ideal.div (∑ l : Fin 1024, err (XV m c) (GV m c) (EV m c) (PV m c) (YV m c) (rowAt t j) l
      * err (XV m c) (GV m c) (EV m c) (PV m c) (YV m c) (rowAt t j) l) Norm.width :=
  (k0_loss _ _ _ _ _ p q).trans (congrArg (fun a : EReal => Ideal.ofBits .f32 0x3F000000#32 * a) (Finset.sum_congr rfl fun j _ =>
    congrArg (fun a : EReal => Ideal.div a Norm.width) (Finset.sum_congr rfl fun l _ =>
      congrArg₂ (fun a b : EReal => a * b) (err_at m c t j l) (err_at m c t j l))))

theorem final7 (c : Dev nD) : (dats m 0 c).arrAt 7 (cfgs 0).N = lossParts (XV m c) (GV m c) (EV m c) (PV m c) (YV m c) := by
  refine (dats m 0 c).arrAt_eq_of_covers 7 _ (by decide +kernel) fun t _ y => ?_
  obtain ⟨p, q, rfl⟩ : ∃ (p : Fin 8) (q : Fin 128), y = ix2 p q := ⟨y 0, y 1, by blk_ext⟩
  blk_simp
  rw [after0_7, loss_out]
  have e : (win0_7.blk t).view.emb (ix2 p q) = ix2 (⟨t.val * 8 + p.val, by have h : t.val < 8 := t.isLt; omega⟩ : Fin 64) q := by
    blk_ext [idx t]
  rw [e]
  refine (loss_at m c t p q).trans ?_
  unfold lossParts
  have e' (j : Fin 512) : rowAt t j = (⟨(t.val * 8 + p.val) / 8 * 512 + j.val, by have h : t.val < 8 := t.isLt; omega⟩ : Fin 4096) :=
    Fin.ext (by simp only [rowAt]; omega)
  simp only [e']
  rfl

theorem final8 (c : Dev nD) : (dats m 0 c).arrAt 8 (cfgs 0).N = dSum (DY m c) (RV m c) (SV m c) := by
  refine (dats m 0 c).arrAt_eq_of_covers 8 _ (by decide +kernel) fun t _ y => ?_
  obtain ⟨p, q, rfl⟩ : ∃ (p : Fin 512) (q : Fin 1024), y = ix2 p q := ⟨y 0, y 1, by blk_ext⟩
  blk_simp
  rw [after0_8, sum_out]
  refine (grad_at m c t p q).trans (congrArg _ ?_)
  blk_ext [rowAt, idx t]

theorem final9 (c : Dev nD) : (dats m 0 c).arrAt 9 (cfgs 0).N = lowSum (DY m c) (RV m c) (SV m c) := by
  refine (dats m 0 c).arrAt_eq_of_covers 9 _ (by decide +kernel) fun t _ y => ?_
  obtain ⟨p, q, rfl⟩ : ∃ (p : Fin 512) (q : Fin 1024), y = ix2 p q := ⟨y 0, y 1, by blk_ext⟩
  blk_simp
  rw [after0_9, low_out]
  refine (k0_half _ _ _ p q).trans ?_
  rw [grad_at m c t p q]
  refine congrArg (lowSum (DY m c) (RV m c) (SV m c)) ?_
  blk_ext [rowAt, idx t]

theorem final10 (c : Dev nD) : (dats m 0 c).arrAt 10 (cfgs 0).N = dGateW (XV m c) (GV m c) (EV m c) (PV m c) (YV m c) := by
  refine (dats m 0 c).arrAt_eq_of_after_last 10 t0_7 (by decide +kernel) _ fun y => ?_
  obtain ⟨a, l, rfl⟩ : ∃ (a : Fin 1024) (l : Fin 1024), y = ix2 a l := ⟨y 0, y 1, by blk_ext⟩
  blk_simp
  rw [after0_10]
  have e := fold_all (fun n h => (outsAt0 m c n h).2.2.2.1)
    (fun t x => k0_pay24 (F := Ideal) (k0_pay2 (F := Ideal) (iblk m c 0 t)) (dpreB m c t) x)
    (fun t => ∑ j : Fin 512, (XV m c (ix2 (rowAt t j) a) : EReal) * dPre (XV m c) (GV m c) (EV m c) (PV m c) (YV m c) (rowAt t j) l)
    (k0_pay20 (F := Ideal)) (ix2 a l) (by pointwise [k0_pay20])
    (fun t x => (k0_wgate _ _ x a l).trans (congrArg (fun b : EReal => x (ix2 a l) + b) (Finset.sum_congr rfl fun j _ =>
      congrArg₂ (fun a b : EReal => a * b) ((congrFun (k0_copy _) _).trans (x_at m c t j a)) (dpre_at m c t j l))))
    (wgate_A m c) (wgate_B m c)
  exact e

theorem final11 (c : Dev nD) : (dats m 0 c).arrAt 11 (cfgs 0).N = dProjW (XV m c) (GV m c) (EV m c) (PV m c) (YV m c) := by
  refine (dats m 0 c).arrAt_eq_of_after_last 11 t0_7 (by decide +kernel) _ fun y => ?_
  obtain ⟨a, l, rfl⟩ : ∃ (a : Fin 256) (l : Fin 1024), y = ix2 a l := ⟨y 0, y 1, by blk_ext⟩
  blk_simp
  rw [after0_11]
  have e := fold_all (fun n h => (outsAt0 m c n h).2.2.2.2.1)
    (fun t x => k0_pay25 (F := Ideal) (dembB m c t) x (iblk m c 3 t))
    (fun t => ∑ j : Fin 512, (EV m c (ix2 (rowAt t j) a) : EReal) * dEmb (XV m c) (GV m c) (EV m c) (PV m c) (YV m c) (rowAt t j) l)
    (k0_pay21 (F := Ideal)) (ix2 a l) (by pointwise [k0_pay21])
    (fun t x => (k0_wproj _ x _ a l).trans (congrArg (fun b : EReal => x (ix2 a l) + b) (Finset.sum_congr rfl fun j _ =>
      congrArg₂ (fun a b : EReal => a * b) (e_at m c t j a) (demb_at m c t j l))))
    (wproj_A m c) (wproj_B m c)
  exact e

theorem final12 (c : Dev nD) : (dats m 0 c).arrAt 12 (cfgs 0).N = dScale (DY m c) (RV m c) := by
  refine (dats m 0 c).arrAt_eq_of_after_last 12 t0_7 (by decide +kernel) _ fun y => ?_
  obtain ⟨a, l, rfl⟩ : ∃ (a : Fin 8) (l : Fin 1024), y = ix2 a l := ⟨y 0, y 1, by blk_ext⟩
  blk_simp
  rw [after0_12]
  have e := fold_sum (fun n h => (outsAt0 m c n h).2.2.2.2.2.1) (fun t x => k0_pay26 (F := Ideal) (dyB m c t) (xB m c t) x)
    (fun t => ∑ j : Fin 64, (DY m c (ix2 (rowAt t (fold j a)) l) : EReal) * Norm.xh (rowOf (RV m c) (rowAt t (fold j a))) l)
    (k0_pay22 (F := Ideal)) (ix2 a l) (by pointwise [k0_pay22])
    (fun t x => (k0_scale _ _ x a l).trans (congrArg _ (Finset.sum_congr rfl fun j _ =>
      congrArg₂ (fun a b : EReal => a * b) (dy_at m c t _ l) (xB_at m c t _ l))))
    (scale_A m c) (scale_B m c)
  exact e

theorem final13 (c : Dev nD) : (dats m 0 c).arrAt 13 (cfgs 0).N = dShift (DY m c) := by
  refine (dats m 0 c).arrAt_eq_of_after_last 13 t0_7 (by decide +kernel) _ fun y => ?_
  obtain ⟨a, l, rfl⟩ : ∃ (a : Fin 8) (l : Fin 1024), y = ix2 a l := ⟨y 0, y 1, by blk_ext⟩
  blk_simp
  rw [after0_13]
  have e := fold_sum (fun n h => (outsAt0 m c n h).2.2.2.2.2.2) (fun t x => k0_pay1 (F := Ideal) (dyB m c t) x)
    (fun t => ∑ j : Fin 64, (DY m c (ix2 (rowAt t (fold j a)) l) : EReal))
    (k0_pay23 (F := Ideal)) (ix2 a l) (by pointwise [k0_pay23])
    (fun t x => (k0_shift _ x a l).trans (congrArg _ (Finset.sum_congr rfl fun j _ => dy_at m c t _ l)))
    (shift_A m c) (shift_B m c)
  exact e

end Cert.Kernel5Ideal.Head

end
-- ==== Proof.HeadChain.lean ====
/-
  The reference's third layer norm and its gradient, stage by stage, as functions of rows.
-/
module

public import proofs.«01_k».proof.Proof.HalfRows
public import proofs.«01_k».proof.Proof.HeadRows
public import proofs.«01_k».proof.Proof.Gen.Reference5Ideal.Read

@[expose] public section

set_option maxRecDepth 16384

noncomputable section

open Idealize.ShloMosaic Idealize.ShloMosaic.TcCoe Idealize.SL.Sem

namespace Cert.Head

open Cert.Kernel5Ideal (S4096x1024 S4096x256 S1024x1024 S256x1024 S1x1024 S8x1024)
open Cert.Kernel2Ideal.Half (rowOf scaledRow)
open Cert.Reference5Ideal.Read

variable (x0 : FVec Ideal S4096x1024 .f32) (x1 x2 : FVec Ideal S1x1024 .f32) (x3 : FVec Ideal S4096x256 .f32) (x4 : FVec Ideal S4096x1024 .f32)
  (x5 : FVec Ideal S1024x1024 .f32) (x6 : FVec Ideal S256x1024 .f32)

/-- Row `t` of the sum before the layer norm, and of the gradient of the normalised row. -/
abbrev R (t : Fin 4096) : Fin 1024 → EReal := rowOf x0 t
abbrev D (t : Fin 4096) : Fin 1024 → EReal := rowOf (val_main_v70 (F := Ideal) x0 x1 x2 x3 x4 x5 x6) t

theorem v3_at (t : Fin 4096) : (val_main_v3 (F := Ideal) x0 (ix2 t (0 : Fin 1)) : EReal) = Norm.mean (R x0 t) := by
  unfold val_main_v3 val_main_v1 val_main_v0 R
  pointwise [val_main_v2, val_main_cst_0, val_main_cst, Norm.mean, Norm.width, rowOf]

theorem v5_at (t : Fin 4096) (l : Fin 1024) : (val_main_v5 (F := Ideal) x0 (ix2 t l) : EReal) = Norm.cen (R x0 t) l := by
  have e := v3_at x0 t
  unfold val_main_v5 val_main_v4
  generalize val_main_v3 (F := Ideal) x0 = m at *
  unfold R at *
  pointwise [Norm.cen]
  rw [e]
  rfl

theorem v14_at (t : Fin 4096) (l : Fin 1024) : (val_main_v14 (F := Ideal) x0 (ix2 t l) : EReal) = Norm.cen (R x0 t) l :=
  v5_at x0 t l

theorem v8_at (t : Fin 4096) (l : Fin 1024) :
    (val_main_v8 (F := Ideal) x0 (ix2 t l) : EReal) = Ideal.ofBits .f32 0x40000000#32 * Norm.cen (R x0 t) l := by
  rw [← v5_at x0 t l]
  unfold val_main_v8
  generalize val_main_v5 (F := Ideal) x0 = a
  pointwise [val_main_v7, val_main_cst_1]

theorem v16_at (t : Fin 4096) : (val_main_v16 (F := Ideal) x0 (ix2 t (0 : Fin 1)) : EReal) = Norm.vr (R x0 t) := by
  have e (l : Fin 1024) := v5_at x0 t l
  unfold val_main_v16 val_main_v12 val_main_v10 val_main_v9 val_main_v6
  generalize val_main_v5 (F := Ideal) x0 = a at *
  generalize R x0 t = r at *
  pointwise [val_main_v11, val_main_v15, val_main_cst_2, val_main_cst_3, val_main_cst_4, Norm.vr, Norm.mean, Norm.width]
  simp only [e]

theorem v17_at (t : Fin 4096) : (val_main_v17 (F := Ideal) x0 (ix2 t (0 : Fin 1)) : EReal) = Norm.rs (R x0 t) := by
  have e := v16_at x0 t
  unfold val_main_v17
  generalize val_main_v16 (F := Ideal) x0 = a at *
  pointwise [Norm.rs]
  rw [e]

theorem v20_at (t : Fin 4096) : (val_main_v20 (F := Ideal) x0 (ix2 t (0 : Fin 1)) : EReal) =
    Ideal.ofBits .f32 0xBF000000#32 * Ideal.div (Norm.rs (R x0 t)) (Norm.vr (R x0 t)) := by
  have e := v16_at x0 t
  have e' := v17_at x0 t
  unfold val_main_v20 val_main_v18
  generalize val_main_v16 (F := Ideal) x0 = a at *
  generalize val_main_v17 (F := Ideal) x0 = b at *
  pointwise [val_main_v19, val_main_cst_5]
  rw [e, e']

theorem v22_at (t : Fin 4096) (l : Fin 1024) : (val_main_v22 (F := Ideal) x0 (ix2 t l) : EReal) = Norm.xh (R x0 t) l := by
  have e := v14_at x0 t l
  have e' := v17_at x0 t
  unfold val_main_v22 val_main_v21
  generalize val_main_v14 (F := Ideal) x0 = a at *
  generalize val_main_v17 (F := Ideal) x0 = b at *
  pointwise [Norm.xh]
  rw [e, e']

theorem v26_at (t : Fin 4096) (l : Fin 1024) : (val_main_v26 (F := Ideal) x0 x1 x2 (ix2 t l) : EReal) =
    Norm.xh (R x0 t) l * x1 (ix2 (0 : Fin 1) l) + x2 (ix2 (0 : Fin 1) l) := by
  rw [← v22_at]
  unfold val_main_v26 val_main_v24
  generalize val_main_v22 (F := Ideal) x0 = a
  pointwise [val_main_v23, val_main_v25]

theorem v70_at (t : Fin 4096) : D x0 x1 x2 x3 x4 x5 x6 t = scaledRow (val_main_v63 (F := Ideal) x0 x1 x2 x3 x4 x5 x6) x1 t := by
  funext l
  unfold D val_main_v70
  generalize val_main_v63 (F := Ideal) x0 x1 x2 x3 x4 x5 x6 = a
  pointwise [val_main_v69, scaledRow, rowOf]

theorem v73_at (t : Fin 4096) : (val_main_v73 (F := Ideal) x0 x1 x2 x3 x4 x5 x6 (ix2 t (0 : Fin 1)) : EReal) =
    ∑ k, Norm.cen (R x0 t) k * D x0 x1 x2 x3 x4 x5 x6 t k := by
  have e (l : Fin 1024) := v14_at x0 t l
  unfold val_main_v73 val_main_v72 val_main_v71 D
  generalize val_main_v14 (F := Ideal) x0 = a at *
  generalize val_main_v70 (F := Ideal) x0 x1 x2 x3 x4 x5 x6 = d
  generalize R x0 t = r at *
  pointwise [val_main_cst_19, rowOf]
  simp only [e]

theorem v75_at (t : Fin 4096) (l : Fin 1024) : (val_main_v75 (F := Ideal) x0 x1 x2 x3 x4 x5 x6 (ix2 t l) : EReal) =
    D x0 x1 x2 x3 x4 x5 x6 t l * Norm.rs (R x0 t) := by
  have e := v17_at x0 t
  unfold val_main_v75 val_main_v74 D
  generalize val_main_v17 (F := Ideal) x0 = a at *
  generalize val_main_v70 (F := Ideal) x0 x1 x2 x3 x4 x5 x6 = d
  pointwise [rowOf]
  rw [e]

theorem v84_at (t : Fin 4096) (l : Fin 1024) : (val_main_v84 (F := Ideal) x0 x1 x2 x3 x4 x5 x6 (ix2 t l) : EReal) =
    Norm.spread (R x0 t) (D x0 x1 x2 x3 x4 x5 x6 t) l := by
  have e1 := v73_at x0 x1 x2 x3 x4 x5 x6 t
  have e2 := v20_at x0 t
  have e3 := v8_at x0 t l
  unfold val_main_v84 val_main_v83 val_main_v82 val_main_v81 val_main_v76
  generalize val_main_v73 (F := Ideal) x0 x1 x2 x3 x4 x5 x6 = a at *
  generalize val_main_v20 (F := Ideal) x0 = b at *
  generalize val_main_v8 (F := Ideal) x0 = c at *
  pointwise [val_main_cst_21, val_main_cst_22, val_main_v80, Norm.spread, Norm.width]
  rw [Fin.sum_univ_one, ← e3, ← e2, ← e1]

theorem v79_at (t : Fin 4096) : (val_main_v79 (F := Ideal) x0 x1 x2 x3 x4 x5 x6 (ix2 t (0 : Fin 1)) : EReal) =
    ∑ k, -(D x0 x1 x2 x3 x4 x5 x6 t k * Norm.rs (R x0 t)) := by
  have e (l : Fin 1024) := v75_at x0 x1 x2 x3 x4 x5 x6 t l
  unfold val_main_v79 val_main_v78 val_main_v77
  generalize val_main_v75 (F := Ideal) x0 x1 x2 x3 x4 x5 x6 = a at *
  pointwise [val_main_cst_20]
  simp only [e]

theorem v87_at (t : Fin 4096) : (val_main_v87 (F := Ideal) x0 x1 x2 x3 x4 x5 x6 (ix2 t (0 : Fin 1)) : EReal) =
    ∑ k, -Norm.spread (R x0 t) (D x0 x1 x2 x3 x4 x5 x6 t) k := by
  have e (l : Fin 1024) := v84_at x0 x1 x2 x3 x4 x5 x6 t l
  unfold val_main_v87 val_main_v86 val_main_v85
  generalize val_main_v84 (F := Ideal) x0 x1 x2 x3 x4 x5 x6 = a at *
  pointwise [val_main_cst_23]
  simp only [e]

theorem v94_at (t : Fin 4096) (l : Fin 1024) : (val_main_v94 (F := Ideal) x0 x1 x2 x3 x4 x5 x6 (ix2 t l) : EReal) =
    Norm.chain (R x0 t) (D x0 x1 x2 x3 x4 x5 x6 t) l := by
  have e1 := v75_at x0 x1 x2 x3 x4 x5 x6 t l
  have e2 := v84_at x0 x1 x2 x3 x4 x5 x6 t l
  have e3 := v79_at x0 x1 x2 x3 x4 x5 x6 t
  have e4 := v87_at x0 x1 x2 x3 x4 x5 x6 t
  unfold val_main_v94 val_main_v88 val_main_v93 val_main_v92 val_main_v91 val_main_v89
  generalize val_main_v75 (F := Ideal) x0 x1 x2 x3 x4 x5 x6 = a at *
  generalize val_main_v84 (F := Ideal) x0 x1 x2 x3 x4 x5 x6 = b at *
  generalize val_main_v79 (F := Ideal) x0 x1 x2 x3 x4 x5 x6 = c at *
  generalize val_main_v87 (F := Ideal) x0 x1 x2 x3 x4 x5 x6 = d at *
  pointwise [val_main_v90, val_main_cst_24, val_main_cst_25, Norm.chain]
  rw [Fin.sum_univ_one, ← e4, ← e3, ← e2, ← e1]
  rfl

end Cert.Head

end
-- ==== Proof.HeadEqual.lean ====
/-
  The training step's head: its call's arrays are the reference's.
-/
module

public import proofs.«01_k».proof.Proof.HeadBack
public import proofs.«01_k».proof.Proof.HeadChain
public import proofs.«01_k».proof.Proof.HalfResults
public import proofs.«01_k».proof.Proof.MergeEqual
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Head

open Cert.Kernel5Ideal (S4096x1024 S4096x256 S1024x1024 S256x1024 S1x1024 S8x1024 S64x128 S_)
open Cert.Kernel5Ideal.Head (gate emb err lossParts dOut dPre dEmb dTok dGateW dProjW lowSum)
open Cert.Kernel2Ideal.Half (sgm rowOf rowAt fold scaledRow dSum dScale dShift rowsSum)
open Cert.Half (IsReal IsReal.mul IsReal.add IsReal.sum sgm_real sum_tokens)
open Cert.Merge (gate_word sum_blocks)
open Cert.Consts
open Cert.Reference5Ideal.Read

/-- An array at the narrow format, of the same values. -/
def low {s : Shape} (a : FVec Ideal s .f32) : FVec Ideal s .bf16 := fun i => (a i : EReal)

/-- The sum of the blocks' shares of the loss. -/
def lossSum (a : FVec Ideal S64x128 .f32) : FVec Ideal S_ .f32 := fun _ => (∑ t : Fin 8, (a (ix2 (⟨t.val * 8, by omega⟩ : Fin 64) (0 : Fin 128)) : EReal) : EReal)

theorem share_word : Ideal.ofBits .f32 0x3A800000#32 = ((1 / 1024 : ℝ) : EReal) := by
  simp [Ideal.ofBits, Ideal.ieee, -EReal.coe_mul]; norm_num

variable (x0 : FVec Ideal S4096x1024 .f32) (x1 x2 : FVec Ideal S1x1024 .f32) (x3 : FVec Ideal S4096x256 .f32) (x4 : FVec Ideal S4096x1024 .f32)
  (x5 : FVec Ideal S1024x1024 .f32) (x6 : FVec Ideal S256x1024 .f32)

/-- The normalised tokens, and the cotangent of them. -/
abbrev X : FVec Ideal S4096x1024 .f32 := val_main_v26 (F := Ideal) x0 x1 x2
abbrev DT : FVec Ideal S4096x1024 .f32 := dTok (X x0 x1 x2) (low x5) (low x3) (low x6) x4

theorem v27_at (t : Fin 4096) (l : Fin 1024) : (val_main_v27 (F := Ideal) x0 x1 x2 x5 (ix2 t l) : EReal) =
    ∑ k : Fin 1024, (X x0 x1 x2 (ix2 t k) : EReal) * low x5 (ix2 k l) := by
  unfold val_main_v27 X
  generalize val_main_v26 (F := Ideal) x0 x1 x2 = a
  pointwise [low]

theorem v33_at (t : Fin 4096) (l : Fin 1024) : (val_main_v33 (F := Ideal) x0 x1 x2 x5 (ix2 t l) : EReal) = gate (X x0 x1 x2) (low x5) t l := by
  refine Eq.trans ?_ ((gate_word (val_main_v27 (F := Ideal) x0 x1 x2 x5 (ix2 t l))).trans (congrArg sgm (v27_at x0 x1 x2 x5 t l)))
  unfold val_main_v33 val_main_v31 val_main_v29 val_main_v28
  generalize val_main_v27 (F := Ideal) x0 x1 x2 x5 = a
  pointwise [val_main_v32, val_main_v30, val_main_cst_6, val_main_cst_7]

theorem v36_at (t : Fin 4096) (l : Fin 1024) : (val_main_v36 (F := Ideal) x0 x1 x2 x5 (ix2 t l) : EReal) =
    gate (X x0 x1 x2) (low x5) t l * (Ideal.ofBits .f32 0x3F800000#32 - gate (X x0 x1 x2) (low x5) t l) := by
  rw [← v33_at]
  unfold val_main_v36 val_main_v35
  generalize val_main_v33 (F := Ideal) x0 x1 x2 x5 = a
  pointwise [val_main_v34, val_main_cst_8]

theorem v37_at (t : Fin 4096) (l : Fin 1024) : (val_main_v37 (F := Ideal) x3 x6 (ix2 t l) : EReal) = emb (low x3) (low x6) t l := by
  pointwise [val_main_v37, emb, low]

theorem v40_at (t : Fin 4096) (l : Fin 1024) : (val_main_v40 (F := Ideal) x0 x1 x2 x3 x4 x5 x6 (ix2 t l) : EReal) =
    err (X x0 x1 x2) (low x5) (low x3) (low x6) x4 t l := by
  unfold err
  rw [← v33_at, ← v37_at]
  unfold val_main_v40 val_main_v39 val_main_v38 X
  generalize val_main_v33 (F := Ideal) x0 x1 x2 x5 = a
  generalize val_main_v26 (F := Ideal) x0 x1 x2 = b
  generalize val_main_v37 (F := Ideal) x3 x6 = c
  pointwise []

theorem v54_at (t : Fin 4096) (l : Fin 1024) : (val_main_v54 (F := Ideal) x0 x1 x2 x3 x4 x5 x6 (ix2 t l) : EReal) =
    dOut (X x0 x1 x2) (low x5) (low x3) (low x6) x4 t l := by
  unfold dOut
  rw [← v40_at]
  unfold val_main_v54 val_main_v43
  generalize val_main_v40 (F := Ideal) x0 x1 x2 x3 x4 x5 x6 = a
  pointwise [val_main_v42, val_main_cst_9, val_main_v53, val_main_v52, val_main_v51, val_main_v50, val_main_v49, val_main_cst_14, val_main_cst_15, val_main_cst_16]
  have e : Ideal.div (Ideal.ofBits .f32 0x3F000000#32) (Ideal.ofBits .f32 0x44800000#32) * Ideal.ofBits .f32 0x40000000#32
      = Ideal.ofBits .f32 0x3A800000#32 := by
    rw [half_word, two_word, share_word]
    refine (congrArg (· * ((2 : ℝ) : EReal)) (Norm.div_width _)).trans ?_
    rw [← EReal.coe_mul]
    norm_num
  rw [← mul_assoc, mul_comm (a (ix2 t l)), ← e]

theorem v55_at (t : Fin 4096) (l : Fin 1024) : (val_main_v55 (F := Ideal) x0 x1 x2 x3 x4 x5 x6 (ix2 t l) : EReal) =
    dEmb (X x0 x1 x2) (low x5) (low x3) (low x6) x4 t l := by
  unfold dEmb
  rw [← v33_at, ← v54_at, mul_comm]
  rfl

theorem v59_at (t : Fin 4096) (l : Fin 1024) : (val_main_v59 (F := Ideal) x0 x1 x2 x3 x4 x5 x6 (ix2 t l) : EReal) =
    dPre (X x0 x1 x2) (low x5) (low x3) (low x6) x4 t l := by
  unfold dPre
  rw [mul_assoc _ (gate _ _ _ _), ← v36_at, ← v54_at, ← v37_at]
  rfl

theorem v63_at (t : Fin 4096) (l : Fin 1024) : (val_main_v63 (F := Ideal) x0 x1 x2 x3 x4 x5 x6 (ix2 t l) : EReal) = DT x0 x1 x2 x3 x4 x5 x6 (ix2 t l) := by
  have e1 := v54_at x0 x1 x2 x3 x4 x5 x6 t l
  have e2 (k : Fin 1024) := v59_at x0 x1 x2 x3 x4 x5 x6 t k
  refine Eq.trans ?_ (congrArg₂ (fun a b : EReal => a + b) e1
    (Finset.sum_congr rfl fun k _ => congrArg (fun a : EReal => a * low x5 (ix2 l k)) (e2 k)))
  unfold val_main_v63 val_main_v62
  generalize val_main_v59 (F := Ideal) x0 x1 x2 x3 x4 x5 x6 = a
  generalize val_main_v54 (F := Ideal) x0 x1 x2 x3 x4 x5 x6 = b
  pointwise [low]

theorem wgate_eq : low (dGateW (X x0 x1 x2) (low x5) (low x3) (low x6) x4) = val_main_v98 (F := Ideal) x0 x1 x2 x3 x4 x5 x6 := by
  funext i
  idx_vars i
  have e (k : Fin 4096) := v59_at x0 x1 x2 x3 x4 x5 x6 k i1
  refine (sum_blocks fun n => (X x0 x1 x2 (ix2 n i0) : EReal) * dPre (X x0 x1 x2) (low x5) (low x3) (low x6) x4 n i1).trans ?_
  simp only [← e]
  unfold val_main_v98 val_main_v61 val_main_v60 X
  generalize val_main_v59 (F := Ideal) x0 x1 x2 x3 x4 x5 x6 = a
  generalize val_main_v26 (F := Ideal) x0 x1 x2 = b
  pointwise []
  exact Finset.sum_congr rfl fun n _ => mul_comm _ _

theorem wproj_eq : low (dProjW (X x0 x1 x2) (low x5) (low x3) (low x6) x4) = val_main_v99 (F := Ideal) x0 x1 x2 x3 x4 x5 x6 := by
  funext i
  idx_vars i
  have e (k : Fin 4096) := v55_at x0 x1 x2 x3 x4 x5 x6 k i1
  refine (sum_blocks fun n => (x3 (ix2 n i0) : EReal) * dEmb (X x0 x1 x2) (low x5) (low x3) (low x6) x4 n i1).trans ?_
  simp only [← e]
  unfold val_main_v99 val_main_v58 val_main_v57
  generalize val_main_v55 (F := Ideal) x0 x1 x2 x3 x4 x5 x6 = a
  pointwise []
  exact Finset.sum_congr rfl fun n _ => mul_comm _ _

theorem shift_eq : rowsSum (dShift (DT x0 x1 x2 x3 x4 x5 x6)) = val_main_v65 (F := Ideal) x0 x1 x2 x3 x4 x5 x6 := by
  funext i
  idx_vars i
  refine (sum_tokens fun n => (DT x0 x1 x2 x3 x4 x5 x6 (ix2 n i1) : EReal)).trans ?_
  have e (n : Fin 4096) := v63_at x0 x1 x2 x3 x4 x5 x6 n i1
  simp only [← e]
  unfold val_main_v65 val_main_v64
  generalize val_main_v63 (F := Ideal) x0 x1 x2 x3 x4 x5 x6 = a
  pointwise [val_main_cst_17]

theorem scale_eq : rowsSum (dScale (DT x0 x1 x2 x3 x4 x5 x6) x0) = val_main_v68 (F := Ideal) x0 x1 x2 x3 x4 x5 x6 := by
  funext i
  idx_vars i
  refine (sum_tokens fun n => (DT x0 x1 x2 x3 x4 x5 x6 (ix2 n i1) : EReal) * Norm.xh (rowOf x0 n) i1).trans ?_
  have e (n : Fin 4096) := v63_at x0 x1 x2 x3 x4 x5 x6 n i1
  have e' (n : Fin 4096) := v22_at x0 n i1
  simp only [R] at e'
  simp only [← e, ← e']
  unfold val_main_v68 val_main_v67 val_main_v66
  generalize val_main_v63 (F := Ideal) x0 x1 x2 x3 x4 x5 x6 = a
  generalize val_main_v22 (F := Ideal) x0 = b
  pointwise [val_main_cst_18]
  exact Finset.sum_congr rfl fun n _ => mul_comm _ _

/-- Every argument is an array of real numbers. -/
structure Finite : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)
  h6 : ∀ i, IsReal (x6 i)

variable {x0 x1 x2 x3 x4 x5 x6}

theorem real_sub {x y : EReal} (hx : IsReal x) (hy : IsReal y) : IsReal (x - y) := by
  obtain ⟨a, rfl⟩ := hx
  obtain ⟨b, rfl⟩ := hy
  exact ⟨a - b, (EReal.coe_sub a b).symm⟩

theorem real_gate {x : EReal} (hx : IsReal x) : IsReal (sgm x) := by
  obtain ⟨a, rfl⟩ := hx
  exact ⟨_, sgm_real a⟩

variable (H : Finite x0 x1 x2 x3 x4 x5 x6)
include H

theorem row_real (t : Fin 4096) : Norm.RealRow (rowOf x0 t) := fun l => H.h0 _

theorem X_real (t : Fin 4096) (l : Fin 1024) : IsReal (X x0 x1 x2 (ix2 t l)) := by
  obtain ⟨x, hx⟩ := (row_real H t).lift
  refine (congrArg IsReal (v26_at x0 x1 x2 t l)).mpr (IsReal.add (IsReal.mul ?_ (H.h1 _)) (H.h2 _))
  exact ⟨_, (congrArg (Norm.xh · l) hx).trans (Norm.xh_coe x l)⟩

theorem gate_isReal (t : Fin 4096) (l : Fin 1024) : IsReal (gate (X x0 x1 x2) (low x5) t l) :=
  real_gate (IsReal.sum _ fun k => (X_real H t k).mul (H.h5 _))

theorem emb_isReal (t : Fin 4096) (l : Fin 1024) : IsReal (emb (low x3) (low x6) t l) :=
  IsReal.sum _ fun k => (H.h3 _).mul (H.h6 _)

theorem err_isReal (t : Fin 4096) (l : Fin 1024) : IsReal (err (X x0 x1 x2) (low x5) (low x3) (low x6) x4 t l) :=
  real_sub ((X_real H t l).add ((gate_isReal H t l).mul (emb_isReal H t l))) (H.h4 _)

theorem dOut_isReal (t : Fin 4096) (l : Fin 1024) : IsReal (dOut (X x0 x1 x2) (low x5) (low x3) (low x6) x4 t l) :=
  (err_isReal H t l).mul ⟨_, share_word⟩

theorem dPre_isReal (t : Fin 4096) (l : Fin 1024) : IsReal (dPre (X x0 x1 x2) (low x5) (low x3) (low x6) x4 t l) :=
  (((dOut_isReal H t l).mul (emb_isReal H t l)).mul (gate_isReal H t l)).mul (real_sub ⟨_, one_word⟩ (gate_isReal H t l))

theorem DT_isReal (t : Fin 4096) (l : Fin 1024) : IsReal (DT x0 x1 x2 x3 x4 x5 x6 (ix2 t l)) :=
  (dOut_isReal H t l).add (IsReal.sum _ fun k => (dPre_isReal H t k).mul (H.h5 _))

theorem D_row (t : Fin 4096) : D x0 x1 x2 x3 x4 x5 x6 t = scaledRow (DT x0 x1 x2 x3 x4 x5 x6) x1 t := by
  refine (v70_at x0 x1 x2 x3 x4 x5 x6 t).trans ?_
  funext l
  exact congrArg (fun a : EReal => a * x1 (ix2 (0 : Fin 1) l)) (v63_at x0 x1 x2 x3 x4 x5 x6 t l)

theorem sum_eq : dSum (DT x0 x1 x2 x3 x4 x5 x6) x0 x1 = val_main_v94 (F := Ideal) x0 x1 x2 x3 x4 x5 x6 := by
  funext i
  idx_vars i
  refine Eq.trans ?_ (v94_at x0 x1 x2 x3 x4 x5 x6 i0 i1).symm
  rw [D_row H]
  exact (Norm.chain_eq (row_real H i0) (fun l => (DT_isReal H i0 l).mul (H.h1 _)) i1).symm

theorem low_eq : lowSum (DT x0 x1 x2 x3 x4 x5 x6) x0 x1 = val_main_v97 (F := Ideal) x0 x1 x2 x3 x4 x5 x6 := by
  funext i
  have e := congrFun (sum_eq H) i
  idx_vars i
  refine (congrArg (fun a : EReal => Ideal.ofBits .f32 0x3F000000#32 * a) e).trans ?_
  unfold val_main_v97 val_main_v96
  generalize val_main_v94 (F := Ideal) x0 x1 x2 x3 x4 x5 x6 = a
  pointwise [val_main_v95, val_main_cst_26]

theorem loss_eq : lossSum (lossParts (X x0 x1 x2) (low x5) (low x3) (low x6) x4) = val_main_v48 (F := Ideal) x0 x1 x2 x3 x4 x5 x6 := by
  have hr (n : Fin 4096) : ∃ a : ℝ, Ideal.div (∑ l : Fin 1024, err (X x0 x1 x2) (low x5) (low x3) (low x6) x4 n l
      * err (X x0 x1 x2) (low x5) (low x3) (low x6) x4 n l) Norm.width = (a : EReal) := by
    obtain ⟨s, hs⟩ := IsReal.sum (fun l : Fin 1024 => err (X x0 x1 x2) (low x5) (low x3) (low x6) x4 n l
      * err (X x0 x1 x2) (low x5) (low x3) (low x6) x4 n l) fun l => (err_isReal H n l).mul (err_isReal H n l)
    exact ⟨_, (congrArg (Ideal.div · Norm.width) hs).trans (Norm.div_width s)⟩
  choose z hz using hr
  have hv (n : Fin 4096) : (val_main_v46 (F := Ideal) x0 x1 x2 x3 x4 x5 x6 (ix1 n) : EReal) = (z n : EReal) := by
    rw [← hz n]
    have e (l : Fin 1024) := v40_at x0 x1 x2 x3 x4 x5 x6 n l
    simp only [← e]
    unfold val_main_v46 val_main_v44 val_main_v41
    generalize val_main_v40 (F := Ideal) x0 x1 x2 x3 x4 x5 x6 = a
    pointwise [val_main_v45, val_main_cst_10, val_main_cst_11, Norm.width]
  funext i
  have hk (t : Fin 8) : (lossParts (X x0 x1 x2) (low x5) (low x3) (low x6) x4 (ix2 (⟨t.val * 8, by omega⟩ : Fin 64) (0 : Fin 128)) : EReal) =
      ((1 / 2 * ∑ j : Fin 512, z (rowAt t j) : ℝ) : EReal) := by
    have e' (j : Fin 512) : (⟨t.val * 8 / 8 * 512 + j.val, by omega⟩ : Fin 4096) = rowAt t j := Fin.ext (by simp only [rowAt]; omega)
    unfold lossParts
    blk_simp
    simp only [e', hz, Norm.coe_sum, half_word, ← EReal.coe_mul]
  unfold lossSum
  simp only [hk, Norm.coe_sum]
  unfold val_main_v48 val_main_v47
  generalize val_main_v46 (F := Ideal) x0 x1 x2 x3 x4 x5 x6 = a at *
  pointwise [val_main_cst_12, val_main_cst_13]
  simp only [hv, Norm.coe_sum, half_word, ← EReal.coe_mul]
  congr 1
  rw [← Finset.mul_sum]
  congr 1
  rw [Fin.sum_univ_tiles 8 512 rfl z]
  exact Finset.sum_congr rfl fun t _ => Finset.sum_congr rfl fun j _ => congrArg z (Fin.ext rfl)

end Cert.Head

end
-- ==== Proof.HeadTail.lean ====
/-
  The run of the training step's head: the host's layer norm and casts before the call, and its last lines after it (the sum of the blocks' shares
  of the loss, the casts of the matrices' gradients, the sums over eight rows).
-/
module

public import proofs.«01_k».proof.Proof.HeadFinal
public import proofs.«01_k».proof.Proof.HeadEqual
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Head

open Cert.Kernel5Ideal Cert.Kernel5Ideal.Gen
open Cert.Kernel2Ideal.Half (dSum dScale dShift rowsSum)
open Cert.Head (low lossSum X DT Finite)

variable (m : (ℓ : Loc nD τ sig) → Buf (Elt Ideal) ℓ)

/-- Device `c`'s arguments. -/
abbrev A0 (c : Dev nD) : FVec Ideal S4096x1024 .f32 := m ((c.tc : Thread nD τ).loc main_arg0)
abbrev A1 (c : Dev nD) : FVec Ideal S1x1024 .f32 := m ((c.tc : Thread nD τ).loc main_arg1)
abbrev A2 (c : Dev nD) : FVec Ideal S1x1024 .f32 := m ((c.tc : Thread nD τ).loc main_arg2)
abbrev A3 (c : Dev nD) : FVec Ideal S4096x256 .f32 := m ((c.tc : Thread nD τ).loc main_arg3)
abbrev A4 (c : Dev nD) : FVec Ideal S4096x1024 .f32 := m ((c.tc : Thread nD τ).loc main_arg4)
abbrev A5 (c : Dev nD) : FVec Ideal S1024x1024 .f32 := m ((c.tc : Thread nD τ).loc main_arg5)
abbrev A6 (c : Dev nD) : FVec Ideal S256x1024 .f32 := m ((c.tc : Thread nD τ).loc main_arg6)

theorem XV_eq (c : Dev nD) : XV m c = X (A0 m c) (A1 m c) (A2 m c) := by
  simp only [XV, V, V0, List.flatten_cons, List.flatten_nil, List.append_nil, List.cons_append, List.nil_append]
  after_results
  rfl

theorem RV_eq (c : Dev nD) : RV m c = A0 m c := by
  simp only [RV, V, V0, List.flatten_cons, List.flatten_nil, List.append_nil, List.cons_append, List.nil_append]
  after_results

theorem SV_eq (c : Dev nD) : SV m c = A1 m c := by
  simp only [SV, V, V0, List.flatten_cons, List.flatten_nil, List.append_nil, List.cons_append, List.nil_append]
  after_results

theorem YV_eq (c : Dev nD) : YV m c = A4 m c := by
  simp only [YV, V, V0, List.flatten_cons, List.flatten_nil, List.append_nil, List.cons_append, List.nil_append]
  after_results

theorem EV_eq (c : Dev nD) : EV m c = low (A3 m c) := by
  simp only [EV, V, V0, List.flatten_cons, List.flatten_nil, List.append_nil, List.cons_append, List.nil_append]
  after_results
  rfl

theorem GV_eq (c : Dev nD) : GV m c = low (A5 m c) := by
  simp only [GV, V, V0, List.flatten_cons, List.flatten_nil, List.append_nil, List.cons_append, List.nil_append]
  after_results
  rfl

theorem PV_eq (c : Dev nD) : PV m c = low (A6 m c) := by
  simp only [PV, V, V0, List.flatten_cons, List.flatten_nil, List.append_nil, List.cons_append, List.nil_append]
  after_results
  rfl

theorem DY_eq (c : Dev nD) : DY m c = DT (A0 m c) (A1 m c) (A2 m c) (A3 m c) (A4 m c) (A5 m c) (A6 m c) := by
  unfold DY DT
  rw [XV_eq, GV_eq, EV_eq, PV_eq, YV_eq]

/-- The buffers as the region leaves them. -/
def left (c : Dev nD) : Valuation τ sig (Elt Ideal) :=
  Pipeline.withArrays (cfgs 0).spec c (V0 m c) fun w => (dats m 0 c).arrAt w (cfgs 0).N

theorem distinct : ∀ w w' : Fin cfg0.W, w ≠ w' → Pipeline.arrRef (cfgs 0).spec w = Pipeline.arrRef (cfgs 0).spec w' → False :=
  (by decide +kernel : ∀ w w' : Fin 14, w ≠ w' → Pipeline.arrRef (cfgs 0).spec w = Pipeline.arrRef (cfgs 0).spec w' → False)

theorem left_arr (c : Dev nD) (w : Fin cfg0.W) :
    left m c (Proc.devRef .tc (Pipeline.arrRef (cfgs 0).spec w)) = (dats m 0 c).arrAt w (cfgs 0).N :=
  Pipeline.withArrays_arr_shared (cfgs 0).spec c (V0 m c) _ (fun w w' hne e => (distinct w w' hne e).elim) w

theorem tail_v28 (c : Dev nD) : (Pipeline.afterTail₀ cfgs (dats m) 0 (V0 m) [hostOps1] c main_v28 : FVec Ideal S_ .f32) =
    lossSum (lossParts (XV m c) (GV m c) (EV m c) (PV m c) (YV m c)) := by
  have h2 := (left_arr m c 7).trans (final7 m c)
  unfold Pipeline.afterTail₀
  rw [show Pipeline.withArrays (cfgs 0).spec c (V0 m c) (fun w => (dats m 0 c).arrAt w (cfgs 0).N) = left m c from rfl]
  generalize left m c = L at *
  generalize lossParts (XV m c) (GV m c) (EV m c) (PV m c) (YV m c) = a at *
  simp only [List.flatten_cons, List.flatten_nil, List.append_nil, List.cons_append, List.nil_append]
  after_results
  rw [show L (Proc.devRef .tc main_v25_0) = a from h2]
  funext i
  pointwise [lossSum]
  exact Finset.sum_congr rfl fun t _ => congrArg (fun n : Fin 64 => (a (ix2 n (0 : Fin 128)) : EReal)) (Fin.ext (Nat.mul_comm _ _))

theorem tail_v29 (c : Dev nD) : (Pipeline.afterTail₀ cfgs (dats m) 0 (V0 m) [hostOps1] c main_v29 : FVec Ideal S1024x1024 .bf16) =
    low (dGateW (XV m c) (GV m c) (EV m c) (PV m c) (YV m c)) := by
  have h2 := (left_arr m c 10).trans (final10 m c)
  unfold Pipeline.afterTail₀
  rw [show Pipeline.withArrays (cfgs 0).spec c (V0 m c) (fun w => (dats m 0 c).arrAt w (cfgs 0).N) = left m c from rfl]
  generalize left m c = L at *
  generalize dGateW (XV m c) (GV m c) (EV m c) (PV m c) (YV m c) = a at *
  simp only [List.flatten_cons, List.flatten_nil, List.append_nil, List.cons_append, List.nil_append]
  after_results
  rw [show L (Proc.devRef .tc main_v25_3) = a from h2]
  rfl

theorem tail_v30 (c : Dev nD) : (Pipeline.afterTail₀ cfgs (dats m) 0 (V0 m) [hostOps1] c main_v30 : FVec Ideal S256x1024 .bf16) =
    low (dProjW (XV m c) (GV m c) (EV m c) (PV m c) (YV m c)) := by
  have h2 := (left_arr m c 11).trans (final11 m c)
  unfold Pipeline.afterTail₀
  rw [show Pipeline.withArrays (cfgs 0).spec c (V0 m c) (fun w => (dats m 0 c).arrAt w (cfgs 0).N) = left m c from rfl]
  generalize left m c = L at *
  generalize dProjW (XV m c) (GV m c) (EV m c) (PV m c) (YV m c) = a at *
  simp only [List.flatten_cons, List.flatten_nil, List.append_nil, List.cons_append, List.nil_append]
  after_results
  rw [show L (Proc.devRef .tc main_v25_4) = a from h2]
  rfl

theorem tail_v32 (c : Dev nD) : (Pipeline.afterTail₀ cfgs (dats m) 0 (V0 m) [hostOps1] c main_v32 : FVec Ideal S1x1024 .f32) =
    rowsSum (dScale (DY m c) (RV m c)) := by
  have h2 := (left_arr m c 12).trans (final12 m c)
  unfold Pipeline.afterTail₀
  rw [show Pipeline.withArrays (cfgs 0).spec c (V0 m c) (fun w => (dats m 0 c).arrAt w (cfgs 0).N) = left m c from rfl]
  generalize left m c = L at *
  generalize dScale (DY m c) (RV m c) = a at *
  simp only [List.flatten_cons, List.flatten_nil, List.append_nil, List.cons_append, List.nil_append]
  after_results
  rw [show L (Proc.devRef .tc main_v25_5) = a from h2]
  funext i
  idx_vars i
  pointwise [rowsSum]

theorem tail_v34 (c : Dev nD) : (Pipeline.afterTail₀ cfgs (dats m) 0 (V0 m) [hostOps1] c main_v34 : FVec Ideal S1x1024 .f32) =
    rowsSum (dShift (DY m c)) := by
  have h2 := (left_arr m c 13).trans (final13 m c)
  unfold Pipeline.afterTail₀
  rw [show Pipeline.withArrays (cfgs 0).spec c (V0 m c) (fun w => (dats m 0 c).arrAt w (cfgs 0).N) = left m c from rfl]
  generalize left m c = L at *
  generalize dShift (DY m c) = a at *
  simp only [List.flatten_cons, List.flatten_nil, List.append_nil, List.cons_append, List.nil_append]
  after_results
  rw [show L (Proc.devRef .tc main_v25_6) = a from h2]
  funext i
  idx_vars i
  pointwise [rowsSum]

variable {m} {c : Dev nD} (H : Finite (A0 m c) (A1 m c) (A2 m c) (A3 m c) (A4 m c) (A5 m c) (A6 m c))
include H

/-- What the kernel's run leaves in its seven results. -/
theorem results (r : PUnit × MemSt nD τ sig (Elt Ideal))
    (h : Pipeline.FramePost cfgs (dats m) 0 (Pipeline.afterTail₀ cfgs (dats m) 0 (V0 m) [hostOps1]) r) :
    (r.2.mem ((c.tc : Thread nD τ).loc main_v28) : FVec Ideal S_ .f32) = Cert.Reference5Ideal.Read.val_main_v48 (F := Ideal) (A0 m c) (A1 m c) (A2 m c) (A3 m c) (A4 m c) (A5 m c) (A6 m c)
    ∧ (r.2.mem ((c.tc : Thread nD τ).loc main_v25_1) : FVec Ideal S4096x1024 .f32) = Cert.Reference5Ideal.Read.val_main_v94 (F := Ideal) (A0 m c) (A1 m c) (A2 m c) (A3 m c) (A4 m c) (A5 m c) (A6 m c)
    ∧ (r.2.mem ((c.tc : Thread nD τ).loc main_v25_2) : FVec Ideal S4096x1024 .bf16) = Cert.Reference5Ideal.Read.val_main_v97 (F := Ideal) (A0 m c) (A1 m c) (A2 m c) (A3 m c) (A4 m c) (A5 m c) (A6 m c)
    ∧ (r.2.mem ((c.tc : Thread nD τ).loc main_v29) : FVec Ideal S1024x1024 .bf16) = Cert.Reference5Ideal.Read.val_main_v98 (F := Ideal) (A0 m c) (A1 m c) (A2 m c) (A3 m c) (A4 m c) (A5 m c) (A6 m c)
    ∧ (r.2.mem ((c.tc : Thread nD τ).loc main_v30) : FVec Ideal S256x1024 .bf16) = Cert.Reference5Ideal.Read.val_main_v99 (F := Ideal) (A0 m c) (A1 m c) (A2 m c) (A3 m c) (A4 m c) (A5 m c) (A6 m c)
    ∧ (r.2.mem ((c.tc : Thread nD τ).loc main_v32) : FVec Ideal S1x1024 .f32) = Cert.Reference5Ideal.Read.val_main_v68 (F := Ideal) (A0 m c) (A1 m c) (A2 m c) (A3 m c) (A4 m c) (A5 m c) (A6 m c)
    ∧ (r.2.mem ((c.tc : Thread nD τ).loc main_v34) : FVec Ideal S1x1024 .f32) = Cert.Reference5Ideal.Read.val_main_v65 (F := Ideal) (A0 m c) (A1 m c) (A2 m c) (A3 m c) (A4 m c) (A5 m c) (A6 m c) := by
  refine ⟨((h c).2 main_v28 (by decide +kernel)).trans ((tail_v28 m c).trans ?_), ((h c).1 8).trans ((final8 m c).trans ?_),
    ((h c).1 9).trans ((final9 m c).trans ?_), ((h c).2 main_v29 (by decide +kernel)).trans ((tail_v29 m c).trans ?_),
    ((h c).2 main_v30 (by decide +kernel)).trans ((tail_v30 m c).trans ?_), ((h c).2 main_v32 (by decide +kernel)).trans ((tail_v32 m c).trans ?_),
    ((h c).2 main_v34 (by decide +kernel)).trans ((tail_v34 m c).trans ?_)⟩
  · rw [XV_eq, GV_eq, EV_eq, PV_eq, YV_eq]
    exact Cert.Head.loss_eq H
  · rw [DY_eq, RV_eq, SV_eq]
    exact Cert.Head.sum_eq H
  · rw [DY_eq, RV_eq, SV_eq]
    exact Cert.Head.low_eq H
  · rw [XV_eq, GV_eq, EV_eq, PV_eq, YV_eq]
    exact Cert.Head.wgate_eq _ _ _ _ _ _ _
  · rw [XV_eq, GV_eq, EV_eq, PV_eq, YV_eq]
    exact Cert.Head.wproj_eq _ _ _ _ _ _ _
  · rw [DY_eq, RV_eq]
    exact Cert.Head.scale_eq _ _ _ _ _ _ _
  · rw [DY_eq]
    exact Cert.Head.shift_eq _ _ _ _ _ _ _

end Cert.Kernel5Ideal.Head

end
-- ==== Proof.HeadClaim.lean ====
/-
  The training step's head: the five claims of its program.
-/
module

public import proofs.«01_k».proof.Proof.HeadTail
public import proofs.«01_k».proof.Proof.Finite
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.Head

theorem finite5Facts : Cert.Pre_finite5.Facts where
  bcast_S_S4096x1024 := by decide
  bcast_S_S1x1024 := by decide
  bcast_S_S4096x256 := by decide
  bcast_S_S1024x1024 := by decide
  bcast_S_S256x1024 := by decide

/-- The reference leaves its arguments as they were, whatever they are. -/
theorem referenceFrame : Cert.quiescent_Reference5Ideal (hReference5Ideal := Cert.Reference5Ideal.Gen.facts) := fun m ρ _ =>
  (θ_run Cert.Reference5Ideal.defs _ _).mono (fun r h => ⟨fun c => (h c).2.2.2.2.2.2.2, sem_eq_zero_of_no_sems (by decide) r.2⟩)
    (Cert.Reference5Ideal.Value.run (F := Ideal) m ρ)

section

open Cert.Kernel5Ideal Cert.Kernel5Ideal.Gen
open Cert.Kernel5Ideal.Head (A0 A1 A2 A3 A4 A5 A6)

variable (m : (ℓ : Loc nD τ sig) → Buf (Elt Ideal) ℓ)

/-- The precondition says that every entry is a real. -/
theorem finite_of (h : Cert.Pre_Kernel5Ideal_finite5 (hPre_finite5 := finite5Facts) m) (c : Dev nD) :
    Finite (A0 m c) (A1 m c) (A2 m c) (A3 m c) (A4 m c) (A5 m c) (A6 m c) := by
  obtain ⟨e0, e1, e2, e3, e4, e5, e6⟩ := h c
  exact ⟨fun i => ⟨_, (Cert.Proof.real_at _ _ e0 i).symm⟩,
    fun i => ⟨_, (Cert.Proof.real_at _ _ e1 i).symm⟩,
    fun i => ⟨_, (Cert.Proof.real_at _ _ e2 i).symm⟩,
    fun i => ⟨_, (Cert.Proof.real_at _ _ e3 i).symm⟩,
    fun i => ⟨_, (Cert.Proof.real_at _ _ e4 i).symm⟩,
    fun i => ⟨_, (Cert.Proof.real_at _ _ e5 i).symm⟩,
    fun i => ⟨_, (Cert.Proof.real_at _ _ e6 i).symm⟩⟩

end

/-- At finite arguments the kernel and the reference leave the same seven arrays. -/
theorem equal : Cert.algebraic_Kernel5Ideal_Reference5Ideal_pre_finite5 (hKernel5Ideal := Cert.Kernel5Ideal.Gen.facts)
    (hReference5Ideal := Cert.Reference5Ideal.Gen.facts) (hPre_finite5 := finite5Facts) := by
  intro m g m' g' hpre hargs
  refine ⟨fun c => Cert.Reference5Ideal.Read.val_main_v48 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c),
    fun c => Cert.Reference5Ideal.Read.val_main_v94 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c),
    fun c => Cert.Reference5Ideal.Read.val_main_v97 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c),
    fun c => Cert.Reference5Ideal.Read.val_main_v98 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c),
    fun c => Cert.Reference5Ideal.Read.val_main_v99 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c),
    fun c => Cert.Reference5Ideal.Read.val_main_v68 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c),
    fun c => Cert.Reference5Ideal.Read.val_main_v65 (F := Ideal) (Cert.Kernel5Ideal.Head.A0 m c) (Cert.Kernel5Ideal.Head.A1 m c) (Cert.Kernel5Ideal.Head.A2 m c) (Cert.Kernel5Ideal.Head.A3 m c) (Cert.Kernel5Ideal.Head.A4 m c) (Cert.Kernel5Ideal.Head.A5 m c) (Cert.Kernel5Ideal.Head.A6 m c), ?_, ?_⟩
  · refine (θ_run Cert.Kernel5Ideal.defs _ _).mono (fun r h c => ?_)
      (θ_run_and (Cert.Kernel5Ideal.Gen.run_main (F := Ideal) m g) (Cert.Kernel5Ideal.Gen.unchanged (F := Ideal) m g))
    obtain ⟨r0, r1, r2, r3, r4, r5, r6⟩ := Cert.Kernel5Ideal.Head.results (finite_of m hpre c) r h.1
    exact ⟨r0, r1, r2, r3, r4, r5, r6, h.2 c⟩
  · refine (θ_run Cert.Reference5Ideal.defs _ _).mono (fun r h c => ?_) (Cert.Reference5Ideal.Value.run (F := Ideal) m' g')
    obtain ⟨h0, h1, h2, h3, h4, h5, h6, hk⟩ := h c
    obtain ⟨e0, e1, e2, e3, e4, e5, e6⟩ := hargs c
    refine ⟨?_, ?_, ?_, ?_, ?_, ?_, ?_, hk⟩
    · refine h0.trans ((Cert.Reference5Ideal.Read.val_main_v48_eq (F := Ideal) _ _).trans ?_)
      rw [e0, e1, e2, e3, e4, e5, e6]
    · refine h1.trans ((Cert.Reference5Ideal.Read.val_main_v94_eq (F := Ideal) _ _).trans ?_)
      rw [e0, e1, e2, e3, e4, e5, e6]
    · refine h2.trans ((Cert.Reference5Ideal.Read.val_main_v97_eq (F := Ideal) _ _).trans ?_)
      rw [e0, e1, e2, e3, e4, e5, e6]
    · refine h3.trans ((Cert.Reference5Ideal.Read.val_main_v98_eq (F := Ideal) _ _).trans ?_)
      rw [e0, e1, e2, e3, e4, e5, e6]
    · refine h4.trans ((Cert.Reference5Ideal.Read.val_main_v99_eq (F := Ideal) _ _).trans ?_)
      rw [e0, e1, e2, e3, e4, e5, e6]
    · refine h5.trans ((Cert.Reference5Ideal.Read.val_main_v68_eq (F := Ideal) _ _).trans ?_)
      rw [e0, e1, e2, e3, e4, e5, e6]
    · refine h6.trans ((Cert.Reference5Ideal.Read.val_main_v65_eq (F := Ideal) _ _).trans ?_)
      rw [e0, e1, e2, e3, e4, e5, e6]

end Cert.Head

end
-- ==== Proof.UpdateSpec.lean ====
/-
  AdamW's step at one entry, and the sum of the devices' shares of a gradient.
-/
module

public import proofs.«01_k».proof.Proof.Gen.Kernel6Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

/-- The new first moment from a gradient `g` and the old moment `m`. -/
def first (g m : EReal) : EReal := Ideal.ofBits .f32 0x3F666666#32 * m + Ideal.ofBits .f32 0x3DCCCCCD#32 * g

/-- The new second moment from a gradient `g` and the old moment `v`. -/
def second (g v : EReal) : EReal := Ideal.ofBits .f32 0x3F7FBE77#32 * v + Ideal.ofBits .f32 0x3A83126F#32 * (g * g)

/-- The change of a weight `w`. -/
def change (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- The sum over the devices, the arrays of the step after it. -/
def sum1024x704 (x : FVec Ideal S8x1024x704 .bf16) : FVec Ideal S1024x704 .f32 := fun i => (∑ d : Fin 8, x (ix3 d (i 0) (i 1)) : EReal)
def change1024x704 (x : FVec Ideal S8x1024x704 .bf16) (w m v : FVec Ideal S1024x704 .f32) : FVec Ideal S1024x704 .f32 := fun i => change (sum1024x704 x i) (w i) (m i) (v i)
def first1024x704 (x : FVec Ideal S8x1024x704 .bf16) (m : FVec Ideal S1024x704 .f32) : FVec Ideal S1024x704 .f32 := fun i => first (sum1024x704 x i) (m i)
def second1024x704 (x : FVec Ideal S8x1024x704 .bf16) (v : FVec Ideal S1024x704 .f32) : FVec Ideal S1024x704 .f32 := fun i => second (sum1024x704 x i) (v i)

/-- The sum over the devices, the arrays of the step after it. -/
def sum352x1024 (x : FVec Ideal S8x352x1024 .bf16) : FVec Ideal S352x1024 .f32 := fun i => (∑ d : Fin 8, x (ix3 d (i 0) (i 1)) : EReal)
def change352x1024 (x : FVec Ideal S8x352x1024 .bf16) (w m v : FVec Ideal S352x1024 .f32) : FVec Ideal S352x1024 .f32 := fun i => change (sum352x1024 x i) (w i) (m i) (v i)
def first352x1024 (x : FVec Ideal S8x352x1024 .bf16) (m : FVec Ideal S352x1024 .f32) : FVec Ideal S352x1024 .f32 := fun i => first (sum352x1024 x i) (m i)
def second352x1024 (x : FVec Ideal S8x352x1024 .bf16) (v : FVec Ideal S352x1024 .f32) : FVec Ideal S352x1024 .f32 := fun i => second (sum352x1024 x i) (v i)

/-- The sum over the devices, the arrays of the step after it. -/
def sum1024x448 (x : FVec Ideal S8x1024x448 .bf16) : FVec Ideal S1024x448 .f32 := fun i => (∑ d : Fin 8, x (ix3 d (i 0) (i 1)) : EReal)
def change1024x448 (x : FVec Ideal S8x1024x448 .bf16) (w m v : FVec Ideal S1024x448 .f32) : FVec Ideal S1024x448 .f32 := fun i => change (sum1024x448 x i) (w i) (m i) (v i)
def first1024x448 (x : FVec Ideal S8x1024x448 .bf16) (m : FVec Ideal S1024x448 .f32) : FVec Ideal S1024x448 .f32 := fun i => first (sum1024x448 x i) (m i)
def second1024x448 (x : FVec Ideal S8x1024x448 .bf16) (v : FVec Ideal S1024x448 .f32) : FVec Ideal S1024x448 .f32 := fun i => second (sum1024x448 x i) (v i)

/-- The sum over the devices, the arrays of the step after it. -/
def sum64x512 (x : FVec Ideal S8x64x512 .bf16) : FVec Ideal S64x512 .f32 := fun i => (∑ d : Fin 8, x (ix3 d (i 0) (i 1)) : EReal)
def change64x512 (x : FVec Ideal S8x64x512 .bf16) (w m v : FVec Ideal S64x512 .f32) : FVec Ideal S64x512 .f32 := fun i => change (sum64x512 x i) (w i) (m i) (v i)
def first64x512 (x : FVec Ideal S8x64x512 .bf16) (m : FVec Ideal S64x512 .f32) : FVec Ideal S64x512 .f32 := fun i => first (sum64x512 x i) (m i)
def second64x512 (x : FVec Ideal S8x64x512 .bf16) (v : FVec Ideal S64x512 .f32) : FVec Ideal S64x512 .f32 := fun i => second (sum64x512 x i) (v i)

/-- The sum over the devices, the arrays of the step after it. -/
def sum512x128 (x : FVec Ideal S8x512x128 .bf16) : FVec Ideal S512x128 .f32 := fun i => (∑ d : Fin 8, x (ix3 d (i 0) (i 1)) : EReal)
def change512x128 (x : FVec Ideal S8x512x128 .bf16) (w m v : FVec Ideal S512x128 .f32) : FVec Ideal S512x128 .f32 := fun i => change (sum512x128 x i) (w i) (m i) (v i)
def first512x128 (x : FVec Ideal S8x512x128 .bf16) (m : FVec Ideal S512x128 .f32) : FVec Ideal S512x128 .f32 := fun i => first (sum512x128 x i) (m i)
def second512x128 (x : FVec Ideal S8x512x128 .bf16) (v : FVec Ideal S512x128 .f32) : FVec Ideal S512x128 .f32 := fun i => second (sum512x128 x i) (v i)

/-- The sum over the devices, the arrays of the step after it. -/
def sum128x1024 (x : FVec Ideal S8x128x1024 .bf16) : FVec Ideal S128x1024 .f32 := fun i => (∑ d : Fin 8, x (ix3 d (i 0) (i 1)) : EReal)
def change128x1024 (x : FVec Ideal S8x128x1024 .bf16) (w m v : FVec Ideal S128x1024 .f32) : FVec Ideal S128x1024 .f32 := fun i => change (sum128x1024 x i) (w i) (m i) (v i)
def first128x1024 (x : FVec Ideal S8x128x1024 .bf16) (m : FVec Ideal S128x1024 .f32) : FVec Ideal S128x1024 .f32 := fun i => first (sum128x1024 x i) (m i)
def second128x1024 (x : FVec Ideal S8x128x1024 .bf16) (v : FVec Ideal S128x1024 .f32) : FVec Ideal S128x1024 .f32 := fun i => second (sum128x1024 x i) (v i)

/-- The sum over the devices, the arrays of the step after it. -/
def sum256x128 (x : FVec Ideal S8x256x128 .bf16) : FVec Ideal S256x128 .f32 := fun i => (∑ d : Fin 8, x (ix3 d (i 0) (i 1)) : EReal)
def change256x128 (x : FVec Ideal S8x256x128 .bf16) (w m v : FVec Ideal S256x128 .f32) : FVec Ideal S256x128 .f32 := fun i => change (sum256x128 x i) (w i) (m i) (v i)
def first256x128 (x : FVec Ideal S8x256x128 .bf16) (m : FVec Ideal S256x128 .f32) : FVec Ideal S256x128 .f32 := fun i => first (sum256x128 x i) (m i)
def second256x128 (x : FVec Ideal S8x256x128 .bf16) (v : FVec Ideal S256x128 .f32) : FVec Ideal S256x128 .f32 := fun i => second (sum256x128 x i) (v i)

end Cert.Kernel6Ideal.Update

end
-- ==== Proof.UpdateFirst.lean ====
/-
  What the optimiser's calls of ffn1_w_in and ffn1_w_out leave in their four arrays.
-/
module

public import proofs.«01_k».proof.Proof.UpdateSpec

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (V : (c : Dev nD) → (b : Ref sig .tc) → Buf (Elt Ideal) ((c : Thread nD τ).loc b))

theorem idx0 : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem sum0_at (c : Dev nD) (t : Fin cfg0.N) (p : Fin 512) (q : Fin 704) :
    (k0_pay5 (F := Ideal) (iblk0 V c 0 t) (iblk0 V c 1 t) (iblk0 V c 2 t) (iblk0 V c 3 t) (ix2 p q) : EReal) =
      sum1024x704 (V c main_arg0) (ix2 (⟨t.val * 512 + p.val, by have h : t.val < 2 := t.isLt; omega⟩ : Fin 1024) q) := by
  unfold k0_pay5
  pointwise [k0_pay4, sum1024x704]
  rw [Fin.sum_univ_eight]
  blk_point [iblk0, idx0 t]

theorem blk0_1 (c : Dev nD) (t : Fin cfg0.N) (p : Fin 512) (q : Fin 704) :
    iblk0 V c 1 t (ix2 p q) = (V c main_arg1 : FVec Ideal S1024x704 .f32) (ix2 (⟨t.val * 512 + p.val, by have h : t.val < 2 := t.isLt; omega⟩ : Fin 1024) q) := by
  blk_ext [iblk0, idx0 t]

theorem blk0_2 (c : Dev nD) (t : Fin cfg0.N) (p : Fin 512) (q : Fin 704) :
    iblk0 V c 2 t (ix2 p q) = (V c main_arg2 : FVec Ideal S1024x704 .f32) (ix2 (⟨t.val * 512 + p.val, by have h : t.val < 2 := t.isLt; omega⟩ : Fin 1024) q) := by
  blk_ext [iblk0, idx0 t]

theorem blk0_3 (c : Dev nD) (t : Fin cfg0.N) (p : Fin 512) (q : Fin 704) :
    iblk0 V c 3 t (ix2 p q) = (V c main_arg3 : FVec Ideal S1024x704 .f32) (ix2 (⟨t.val * 512 + p.val, by have h : t.val < 2 := t.isLt; omega⟩ : Fin 1024) q) := by
  blk_ext [iblk0, idx0 t]

theorem final0_4 (c : Dev nD) : (dat0 V c).arrAt 4 cfg0.N = sum1024x704 (V c main_arg0) := by
  refine (dat0 V c).arrAt_eq_of_covers 4 _ (by decide +kernel) fun t _ y => ?_
  obtain ⟨p, q, rfl⟩ : ∃ (p : Fin 512) (q : Fin 704), y = ix2 p q := ⟨y 0, y 1, by blk_ext⟩
  blk_simp
  rw [after0_4]; frame_out
  have e : (win0_4.blk t).view.emb (ix2 p q) = ix2 (⟨t.val * 512 + p.val, by have h : t.val < 2 := t.isLt; omega⟩ : Fin 1024) q := by
    blk_ext [idx0 t]
  rw [e]
  exact sum0_at V c t p q

theorem final0_5 (c : Dev nD) : (dat0 V c).arrAt 5 cfg0.N = change1024x704 (V c main_arg0) (V c main_arg1) (V c main_arg2) (V c main_arg3) := by
  refine (dat0 V c).arrAt_eq_of_covers 5 _ (by decide +kernel) fun t _ y => ?_
  obtain ⟨p, q, rfl⟩ : ∃ (p : Fin 512) (q : Fin 704), y = ix2 p q := ⟨y 0, y 1, by blk_ext⟩
  blk_simp
  rw [after0_5]; frame_out
  have e : (win0_5.blk t).view.emb (ix2 p q) = ix2 (⟨t.val * 512 + p.val, by have h : t.val < 2 := t.isLt; omega⟩ : Fin 1024) q := by
    blk_ext [idx0 t]
  rw [e]
  have h := sum0_at V c t p q
  generalize k0_pay5 (F := Ideal) (iblk0 V c 0 t) (iblk0 V c 1 t) (iblk0 V c 2 t) (iblk0 V c 3 t) = g at *
  have h1 := blk0_1 V c t p q
  have h2 := blk0_2 V c t p q
  have h3 := blk0_3 V c t p q
  generalize iblk0 V c 1 t = x1 at *
  generalize iblk0 V c 2 t = x2 at *
  generalize iblk0 V c 3 t = x3 at *
  pointwise [k0_pay3, k0_pay1, k0_pay2]
  simp only [h, h1, h2, h3]
  rfl

theorem final0_6 (c : Dev nD) : (dat0 V c).arrAt 6 cfg0.N = first1024x704 (V c main_arg0) (V c main_arg2) := by
  refine (dat0 V c).arrAt_eq_of_covers 6 _ (by decide +kernel) fun t _ y => ?_
  obtain ⟨p, q, rfl⟩ : ∃ (p : Fin 512) (q : Fin 704), y = ix2 p q := ⟨y 0, y 1, by blk_ext⟩
  blk_simp
  rw [after0_6]; frame_out
  have e : (win0_6.blk t).view.emb (ix2 p q) = ix2 (⟨t.val * 512 + p.val, by have h : t.val < 2 := t.isLt; omega⟩ : Fin 1024) q := by
    blk_ext [idx0 t]
  rw [e]
  have h := sum0_at V c t p q
  generalize k0_pay5 (F := Ideal) (iblk0 V c 0 t) (iblk0 V c 1 t) (iblk0 V c 2 t) (iblk0 V c 3 t) = g at *
  have h2 := blk0_2 V c t p q
  generalize iblk0 V c 2 t = x2 at *
  pointwise [k0_pay1]
  simp only [h, h2]
  rfl

theorem final0_7 (c : Dev nD) : (dat0 V c).arrAt 7 cfg0.N = second1024x704 (V c main_arg0) (V c main_arg3) := by
  refine (dat0 V c).arrAt_eq_of_covers 7 _ (by decide +kernel) fun t _ y => ?_
  obtain ⟨p, q, rfl⟩ : ∃ (p : Fin 512) (q : Fin 704), y = ix2 p q := ⟨y 0, y 1, by blk_ext⟩
  blk_simp
  rw [after0_7]; frame_out
  have e : (win0_7.blk t).view.emb (ix2 p q) = ix2 (⟨t.val * 512 + p.val, by have h : t.val < 2 := t.isLt; omega⟩ : Fin 1024) q := by
    blk_ext [idx0 t]
  rw [e]
  have h := sum0_at V c t p q
  generalize k0_pay5 (F := Ideal) (iblk0 V c 0 t) (iblk0 V c 1 t) (iblk0 V c 2 t) (iblk0 V c 3 t) = g at *
  have h3 := blk0_3 V c t p q
  generalize iblk0 V c 3 t = x3 at *
  pointwise [k0_pay2]
  simp only [h, h3]
  rfl

theorem idx1 : ∀ t : Fin cfg1.N, win1_0.index t = ![0, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] :=
  (by decide +kernel : ∀ t : Fin grid1.N, _)

theorem sum1_at (c : Dev nD) (t : Fin cfg1.N) (p : Fin 352) (q : Fin 1024) :
    (k1_pay5 (F := Ideal) (iblk1 V c 0 t) (iblk1 V c 1 t) (iblk1 V c 2 t) (iblk1 V c 3 t) (ix2 p q) : EReal) =
      sum352x1024 (V c main_arg4) (ix2 p q) := by
  unfold k1_pay5
  pointwise [k1_pay4, sum352x1024]
  rw [Fin.sum_univ_eight]
  blk_point [iblk1, idx1 t]

theorem blk1_1 (c : Dev nD) (t : Fin cfg1.N) (p : Fin 352) (q : Fin 1024) :
    iblk1 V c 1 t (ix2 p q) = (V c main_arg5 : FVec Ideal S352x1024 .f32) (ix2 p q) := by
  blk_ext [iblk1, idx1 t]

theorem blk1_2 (c : Dev nD) (t : Fin cfg1.N) (p : Fin 352) (q : Fin 1024) :
    iblk1 V c 2 t (ix2 p q) = (V c main_arg6 : FVec Ideal S352x1024 .f32) (ix2 p q) := by
  blk_ext [iblk1, idx1 t]

theorem blk1_3 (c : Dev nD) (t : Fin cfg1.N) (p : Fin 352) (q : Fin 1024) :
    iblk1 V c 3 t (ix2 p q) = (V c main_arg7 : FVec Ideal S352x1024 .f32) (ix2 p q) := by
  blk_ext [iblk1, idx1 t]

theorem final1_4 (c : Dev nD) : (dat1 V c).arrAt 4 cfg1.N = sum352x1024 (V c main_arg4) := by
  refine (dat1 V c).arrAt_eq_of_covers 4 _ (by decide +kernel) fun t _ y => ?_
  obtain ⟨p, q, rfl⟩ : ∃ (p : Fin 352) (q : Fin 1024), y = ix2 p q := ⟨y 0, y 1, by blk_ext⟩
  blk_simp
  rw [after1_4]; frame_out
  have e : (win1_4.blk t).view.emb (ix2 p q) = ix2 p q := by
    blk_ext [idx1 t]
  rw [e]
  exact sum1_at V c t p q

theorem final1_5 (c : Dev nD) : (dat1 V c).arrAt 5 cfg1.N = change352x1024 (V c main_arg4) (V c main_arg5) (V c main_arg6) (V c main_arg7) := by
  refine (dat1 V c).arrAt_eq_of_covers 5 _ (by decide +kernel) fun t _ y => ?_
  obtain ⟨p, q, rfl⟩ : ∃ (p : Fin 352) (q : Fin 1024), y = ix2 p q := ⟨y 0, y 1, by blk_ext⟩
  blk_simp
  rw [after1_5]; frame_out
  have e : (win1_5.blk t).view.emb (ix2 p q) = ix2 p q := by
    blk_ext [idx1 t]
  rw [e]
  have h := sum1_at V c t p q
  generalize k1_pay5 (F := Ideal) (iblk1 V c 0 t) (iblk1 V c 1 t) (iblk1 V c 2 t) (iblk1 V c 3 t) = g at *
  have h1 := blk1_1 V c t p q
  have h2 := blk1_2 V c t p q
  have h3 := blk1_3 V c t p q
  generalize iblk1 V c 1 t = x1 at *
  generalize iblk1 V c 2 t = x2 at *
  generalize iblk1 V c 3 t = x3 at *
  pointwise [k1_pay3, k1_pay1, k1_pay2]
  simp only [h, h1, h2, h3]
  rfl

theorem final1_6 (c : Dev nD) : (dat1 V c).arrAt 6 cfg1.N = first352x1024 (V c main_arg4) (V c main_arg6) := by
  refine (dat1 V c).arrAt_eq_of_covers 6 _ (by decide +kernel) fun t _ y => ?_
  obtain ⟨p, q, rfl⟩ : ∃ (p : Fin 352) (q : Fin 1024), y = ix2 p q := ⟨y 0, y 1, by blk_ext⟩
  blk_simp
  rw [after1_6]; frame_out
  have e : (win1_6.blk t).view.emb (ix2 p q) = ix2 p q := by
    blk_ext [idx1 t]
  rw [e]
  have h := sum1_at V c t p q
  generalize k1_pay5 (F := Ideal) (iblk1 V c 0 t) (iblk1 V c 1 t) (iblk1 V c 2 t) (iblk1 V c 3 t) = g at *
  have h2 := blk1_2 V c t p q
  generalize iblk1 V c 2 t = x2 at *
  pointwise [k1_pay1]
  simp only [h, h2]
  rfl

theorem final1_7 (c : Dev nD) : (dat1 V c).arrAt 7 cfg1.N = second352x1024 (V c main_arg4) (V c main_arg7) := by
  refine (dat1 V c).arrAt_eq_of_covers 7 _ (by decide +kernel) fun t _ y => ?_
  obtain ⟨p, q, rfl⟩ : ∃ (p : Fin 352) (q : Fin 1024), y = ix2 p q := ⟨y 0, y 1, by blk_ext⟩
  blk_simp
  rw [after1_7]; frame_out
  have e : (win1_7.blk t).view.emb (ix2 p q) = ix2 p q := by
    blk_ext [idx1 t]
  rw [e]
  have h := sum1_at V c t p q
  generalize k1_pay5 (F := Ideal) (iblk1 V c 0 t) (iblk1 V c 1 t) (iblk1 V c 2 t) (iblk1 V c 3 t) = g at *
  have h3 := blk1_3 V c t p q
  generalize iblk1 V c 3 t = x3 at *
  pointwise [k1_pay2]
  simp only [h, h3]
  rfl

end Cert.Kernel6Ideal.Update

end
-- ==== Proof.UpdateMixers.lean ====
/-
  What the optimiser's calls of mix_w_in and ssm_glu_w leave in their four arrays.
-/
module

public import proofs.«01_k».proof.Proof.UpdateSpec

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (V : (c : Dev nD) → (b : Ref sig .tc) → Buf (Elt Ideal) ((c : Thread nD τ).loc b))

theorem idx2 : ∀ t : Fin cfg2.N, win2_0.index t = ![0, t.val, 0] ∧ win2_1.index t = ![t.val, 0] ∧ win2_2.index t = ![t.val, 0]
    ∧ win2_3.index t = ![t.val, 0] ∧ win2_4.index t = ![t.val, 0] ∧ win2_5.index t = ![t.val, 0] ∧ win2_6.index t = ![t.val, 0]
    ∧ win2_7.index t = ![t.val, 0] :=
  (by decide +kernel : ∀ t : Fin grid2.N, _)

theorem sum2_at (c : Dev nD) (t : Fin cfg2.N) (p : Fin 512) (q : Fin 448) :
    (k2_pay5 (F := Ideal) (iblk2 V c 0 t) (iblk2 V c 1 t) (iblk2 V c 2 t) (iblk2 V c 3 t) (ix2 p q) : EReal) =
      sum1024x448 (V c main_arg8) (ix2 (⟨t.val * 512 + p.val, by have h : t.val < 2 := t.isLt; omega⟩ : Fin 1024) q) := by
  unfold k2_pay5
  pointwise [k2_pay4, sum1024x448]
  rw [Fin.sum_univ_eight]
  blk_point [iblk2, idx2 t]

theorem blk2_1 (c : Dev nD) (t : Fin cfg2.N) (p : Fin 512) (q : Fin 448) :
    iblk2 V c 1 t (ix2 p q) = (V c main_arg9 : FVec Ideal S1024x448 .f32) (ix2 (⟨t.val * 512 + p.val, by have h : t.val < 2 := t.isLt; omega⟩ : Fin 1024) q) := by
  blk_ext [iblk2, idx2 t]

theorem blk2_2 (c : Dev nD) (t : Fin cfg2.N) (p : Fin 512) (q : Fin 448) :
    iblk2 V c 2 t (ix2 p q) = (V c main_arg10 : FVec Ideal S1024x448 .f32) (ix2 (⟨t.val * 512 + p.val, by have h : t.val < 2 := t.isLt; omega⟩ : Fin 1024) q) := by
  blk_ext [iblk2, idx2 t]

theorem blk2_3 (c : Dev nD) (t : Fin cfg2.N) (p : Fin 512) (q : Fin 448) :
    iblk2 V c 3 t (ix2 p q) = (V c main_arg11 : FVec Ideal S1024x448 .f32) (ix2 (⟨t.val * 512 + p.val, by have h : t.val < 2 := t.isLt; omega⟩ : Fin 1024) q) := by
  blk_ext [iblk2, idx2 t]

theorem final2_4 (c : Dev nD) : (dat2 V c).arrAt 4 cfg2.N = sum1024x448 (V c main_arg8) := by
  refine (dat2 V c).arrAt_eq_of_covers 4 _ (by decide +kernel) fun t _ y => ?_
  obtain ⟨p, q, rfl⟩ : ∃ (p : Fin 512) (q : Fin 448), y = ix2 p q := ⟨y 0, y 1, by blk_ext⟩
  blk_simp
  rw [after2_4]; frame_out
  have e : (win2_4.blk t).view.emb (ix2 p q) = ix2 (⟨t.val * 512 + p.val, by have h : t.val < 2 := t.isLt; omega⟩ : Fin 1024) q := by
    blk_ext [idx2 t]
  rw [e]
  exact sum2_at V c t p q

theorem final2_5 (c : Dev nD) : (dat2 V c).arrAt 5 cfg2.N = change1024x448 (V c main_arg8) (V c main_arg9) (V c main_arg10) (V c main_arg11) := by
  refine (dat2 V c).arrAt_eq_of_covers 5 _ (by decide +kernel) fun t _ y => ?_
  obtain ⟨p, q, rfl⟩ : ∃ (p : Fin 512) (q : Fin 448), y = ix2 p q := ⟨y 0, y 1, by blk_ext⟩
  blk_simp
  rw [after2_5]; frame_out
  have e : (win2_5.blk t).view.emb (ix2 p q) = ix2 (⟨t.val * 512 + p.val, by have h : t.val < 2 := t.isLt; omega⟩ : Fin 1024) q := by
    blk_ext [idx2 t]
  rw [e]
  have h := sum2_at V c t p q
  generalize k2_pay5 (F := Ideal) (iblk2 V c 0 t) (iblk2 V c 1 t) (iblk2 V c 2 t) (iblk2 V c 3 t) = g at *
  have h1 := blk2_1 V c t p q
  have h2 := blk2_2 V c t p q
  have h3 := blk2_3 V c t p q
  generalize iblk2 V c 1 t = x1 at *
  generalize iblk2 V c 2 t = x2 at *
  generalize iblk2 V c 3 t = x3 at *
  pointwise [k2_pay3, k2_pay1, k2_pay2]
  simp only [h, h1, h2, h3]
  rfl

theorem final2_6 (c : Dev nD) : (dat2 V c).arrAt 6 cfg2.N = first1024x448 (V c main_arg8) (V c main_arg10) := by
  refine (dat2 V c).arrAt_eq_of_covers 6 _ (by decide +kernel) fun t _ y => ?_
  obtain ⟨p, q, rfl⟩ : ∃ (p : Fin 512) (q : Fin 448), y = ix2 p q := ⟨y 0, y 1, by blk_ext⟩
  blk_simp
  rw [after2_6]; frame_out
  have e : (win2_6.blk t).view.emb (ix2 p q) = ix2 (⟨t.val * 512 + p.val, by have h : t.val < 2 := t.isLt; omega⟩ : Fin 1024) q := by
    blk_ext [idx2 t]
  rw [e]
  have h := sum2_at V c t p q
  generalize k2_pay5 (F := Ideal) (iblk2 V c 0 t) (iblk2 V c 1 t) (iblk2 V c 2 t) (iblk2 V c 3 t) = g at *
  have h2 := blk2_2 V c t p q
  generalize iblk2 V c 2 t = x2 at *
  pointwise [k2_pay1]
  simp only [h, h2]
  rfl

theorem final2_7 (c : Dev nD) : (dat2 V c).arrAt 7 cfg2.N = second1024x448 (V c main_arg8) (V c main_arg11) := by
  refine (dat2 V c).arrAt_eq_of_covers 7 _ (by decide +kernel) fun t _ y => ?_
  obtain ⟨p, q, rfl⟩ : ∃ (p : Fin 512) (q : Fin 448), y = ix2 p q := ⟨y 0, y 1, by blk_ext⟩
  blk_simp
  rw [after2_7]; frame_out
  have e : (win2_7.blk t).view.emb (ix2 p q) = ix2 (⟨t.val * 512 + p.val, by have h : t.val < 2 := t.isLt; omega⟩ : Fin 1024) q := by
    blk_ext [idx2 t]
  rw [e]
  have h := sum2_at V c t p q
  generalize k2_pay5 (F := Ideal) (iblk2 V c 0 t) (iblk2 V c 1 t) (iblk2 V c 2 t) (iblk2 V c 3 t) = g at *
  have h3 := blk2_3 V c t p q
  generalize iblk2 V c 3 t = x3 at *
  pointwise [k2_pay2]
  simp only [h, h3]
  rfl

theorem idx3 : ∀ t : Fin cfg3.N, win3_0.index t = ![0, 0, 0] ∧ win3_1.index t = ![0, 0] ∧ win3_2.index t = ![0, 0]
    ∧ win3_3.index t = ![0, 0] ∧ win3_4.index t = ![0, 0] ∧ win3_5.index t = ![0, 0] ∧ win3_6.index t = ![0, 0]
    ∧ win3_7.index t = ![0, 0] :=
  (by decide +kernel : ∀ t : Fin grid3.N, _)

theorem sum3_at (c : Dev nD) (t : Fin cfg3.N) (p : Fin 64) (q : Fin 512) :
    (k3_pay5 (F := Ideal) (iblk3 V c 0 t) (iblk3 V c 1 t) (iblk3 V c 2 t) (iblk3 V c 3 t) (ix2 p q) : EReal) =
      sum64x512 (V c main_arg12) (ix2 p q) := by
  unfold k3_pay5
  pointwise [k3_pay4, sum64x512]
  rw [Fin.sum_univ_eight]
  blk_point [iblk3, idx3 t]

theorem blk3_1 (c : Dev nD) (t : Fin cfg3.N) (p : Fin 64) (q : Fin 512) :
    iblk3 V c 1 t (ix2 p q) = (V c main_arg13 : FVec Ideal S64x512 .f32) (ix2 p q) := by
  blk_ext [iblk3, idx3 t]

theorem blk3_2 (c : Dev nD) (t : Fin cfg3.N) (p : Fin 64) (q : Fin 512) :
    iblk3 V c 2 t (ix2 p q) = (V c main_arg14 : FVec Ideal S64x512 .f32) (ix2 p q) := by
  blk_ext [iblk3, idx3 t]

theorem blk3_3 (c : Dev nD) (t : Fin cfg3.N) (p : Fin 64) (q : Fin 512) :
    iblk3 V c 3 t (ix2 p q) = (V c main_arg15 : FVec Ideal S64x512 .f32) (ix2 p q) := by
  blk_ext [iblk3, idx3 t]

theorem final3_4 (c : Dev nD) : (dat3 V c).arrAt 4 cfg3.N = sum64x512 (V c main_arg12) := by
  refine (dat3 V c).arrAt_eq_of_covers 4 _ (by decide +kernel) fun t _ y => ?_
  obtain ⟨p, q, rfl⟩ : ∃ (p : Fin 64) (q : Fin 512), y = ix2 p q := ⟨y 0, y 1, by blk_ext⟩
  blk_simp
  rw [after3_4]; frame_out
  have e : (win3_4.blk t).view.emb (ix2 p q) = ix2 p q := by
    blk_ext [idx3 t]
  rw [e]
  exact sum3_at V c t p q

theorem final3_5 (c : Dev nD) : (dat3 V c).arrAt 5 cfg3.N = change64x512 (V c main_arg12) (V c main_arg13) (V c main_arg14) (V c main_arg15) := by
  refine (dat3 V c).arrAt_eq_of_covers 5 _ (by decide +kernel) fun t _ y => ?_
  obtain ⟨p, q, rfl⟩ : ∃ (p : Fin 64) (q : Fin 512), y = ix2 p q := ⟨y 0, y 1, by blk_ext⟩
  blk_simp
  rw [after3_5]; frame_out
  have e : (win3_5.blk t).view.emb (ix2 p q) = ix2 p q := by
    blk_ext [idx3 t]
  rw [e]
  have h := sum3_at V c t p q
  generalize k3_pay5 (F := Ideal) (iblk3 V c 0 t) (iblk3 V c 1 t) (iblk3 V c 2 t) (iblk3 V c 3 t) = g at *
  have h1 := blk3_1 V c t p q
  have h2 := blk3_2 V c t p q
  have h3 := blk3_3 V c t p q
  generalize iblk3 V c 1 t = x1 at *
  generalize iblk3 V c 2 t = x2 at *
  generalize iblk3 V c 3 t = x3 at *
  pointwise [k3_pay3, k3_pay1, k3_pay2]
  simp only [h, h1, h2, h3]
  rfl

theorem final3_6 (c : Dev nD) : (dat3 V c).arrAt 6 cfg3.N = first64x512 (V c main_arg12) (V c main_arg14) := by
  refine (dat3 V c).arrAt_eq_of_covers 6 _ (by decide +kernel) fun t _ y => ?_
  obtain ⟨p, q, rfl⟩ : ∃ (p : Fin 64) (q : Fin 512), y = ix2 p q := ⟨y 0, y 1, by blk_ext⟩
  blk_simp
  rw [after3_6]; frame_out
  have e : (win3_6.blk t).view.emb (ix2 p q) = ix2 p q := by
    blk_ext [idx3 t]
  rw [e]
  have h := sum3_at V c t p q
  generalize k3_pay5 (F := Ideal) (iblk3 V c 0 t) (iblk3 V c 1 t) (iblk3 V c 2 t) (iblk3 V c 3 t) = g at *
  have h2 := blk3_2 V c t p q
  generalize iblk3 V c 2 t = x2 at *
  pointwise [k3_pay1]
  simp only [h, h2]
  rfl

theorem final3_7 (c : Dev nD) : (dat3 V c).arrAt 7 cfg3.N = second64x512 (V c main_arg12) (V c main_arg15) := by
  refine (dat3 V c).arrAt_eq_of_covers 7 _ (by decide +kernel) fun t _ y => ?_
  obtain ⟨p, q, rfl⟩ : ∃ (p : Fin 64) (q : Fin 512), y = ix2 p q := ⟨y 0, y 1, by blk_ext⟩
  blk_simp
  rw [after3_7]; frame_out
  have e : (win3_7.blk t).view.emb (ix2 p q) = ix2 p q := by
    blk_ext [idx3 t]
  rw [e]
  have h := sum3_at V c t p q
  generalize k3_pay5 (F := Ideal) (iblk3 V c 0 t) (iblk3 V c 1 t) (iblk3 V c 2 t) (iblk3 V c 3 t) = g at *
  have h3 := blk3_3 V c t p q
  generalize iblk3 V c 3 t = x3 at *
  pointwise [k3_pay2]
  simp only [h, h3]
  rfl

end Cert.Kernel6Ideal.Update

end
-- ==== Proof.UpdateGates.lean ====
/-
  What the optimiser's calls of up_a and up_b leave in their four arrays.
-/
module

public import proofs.«01_k».proof.Proof.UpdateSpec

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (V : (c : Dev nD) → (b : Ref sig .tc) → Buf (Elt Ideal) ((c : Thread nD τ).loc b))

theorem idx4 : ∀ t : Fin cfg4.N, win4_0.index t = ![0, 0, 0] ∧ win4_1.index t = ![0, 0] ∧ win4_2.index t = ![0, 0]
    ∧ win4_3.index t = ![0, 0] ∧ win4_4.index t = ![0, 0] ∧ win4_5.index t = ![0, 0] ∧ win4_6.index t = ![0, 0]
    ∧ win4_7.index t = ![0, 0] :=
  (by decide +kernel : ∀ t : Fin grid4.N, _)

theorem sum4_at (c : Dev nD) (t : Fin cfg4.N) (p : Fin 512) (q : Fin 128) :
    (k4_pay5 (F := Ideal) (iblk4 V c 0 t) (iblk4 V c 1 t) (iblk4 V c 2 t) (iblk4 V c 3 t) (ix2 p q) : EReal) =
      sum512x128 (V c main_arg16) (ix2 p q) := by
  unfold k4_pay5
  pointwise [k4_pay4, sum512x128]
  rw [Fin.sum_univ_eight]
  blk_point [iblk4, idx4 t]

theorem blk4_1 (c : Dev nD) (t : Fin cfg4.N) (p : Fin 512) (q : Fin 128) :
    iblk4 V c 1 t (ix2 p q) = (V c main_arg17 : FVec Ideal S512x128 .f32) (ix2 p q) := by
  blk_ext [iblk4, idx4 t]

theorem blk4_2 (c : Dev nD) (t : Fin cfg4.N) (p : Fin 512) (q : Fin 128) :
    iblk4 V c 2 t (ix2 p q) = (V c main_arg18 : FVec Ideal S512x128 .f32) (ix2 p q) := by
  blk_ext [iblk4, idx4 t]

theorem blk4_3 (c : Dev nD) (t : Fin cfg4.N) (p : Fin 512) (q : Fin 128) :
    iblk4 V c 3 t (ix2 p q) = (V c main_arg19 : FVec Ideal S512x128 .f32) (ix2 p q) := by
  blk_ext [iblk4, idx4 t]

theorem final4_4 (c : Dev nD) : (dat4 V c).arrAt 4 cfg4.N = sum512x128 (V c main_arg16) := by
  refine (dat4 V c).arrAt_eq_of_covers 4 _ (by decide +kernel) fun t _ y => ?_
  obtain ⟨p, q, rfl⟩ : ∃ (p : Fin 512) (q : Fin 128), y = ix2 p q := ⟨y 0, y 1, by blk_ext⟩
  blk_simp
  rw [after4_4]; frame_out
  have e : (win4_4.blk t).view.emb (ix2 p q) = ix2 p q := by
    blk_ext [idx4 t]
  rw [e]
  exact sum4_at V c t p q

theorem final4_5 (c : Dev nD) : (dat4 V c).arrAt 5 cfg4.N = change512x128 (V c main_arg16) (V c main_arg17) (V c main_arg18) (V c main_arg19) := by
  refine (dat4 V c).arrAt_eq_of_covers 5 _ (by decide +kernel) fun t _ y => ?_
  obtain ⟨p, q, rfl⟩ : ∃ (p : Fin 512) (q : Fin 128), y = ix2 p q := ⟨y 0, y 1, by blk_ext⟩
  blk_simp
  rw [after4_5]; frame_out
  have e : (win4_5.blk t).view.emb (ix2 p q) = ix2 p q := by
    blk_ext [idx4 t]
  rw [e]
  have h := sum4_at V c t p q
  generalize k4_pay5 (F := Ideal) (iblk4 V c 0 t) (iblk4 V c 1 t) (iblk4 V c 2 t) (iblk4 V c 3 t) = g at *
  have h1 := blk4_1 V c t p q
  have h2 := blk4_2 V c t p q
  have h3 := blk4_3 V c t p q
  generalize iblk4 V c 1 t = x1 at *
  generalize iblk4 V c 2 t = x2 at *
  generalize iblk4 V c 3 t = x3 at *
  pointwise [k4_pay3, k4_pay1, k4_pay2]
  simp only [h, h1, h2, h3]
  rfl

theorem final4_6 (c : Dev nD) : (dat4 V c).arrAt 6 cfg4.N = first512x128 (V c main_arg16) (V c main_arg18) := by
  refine (dat4 V c).arrAt_eq_of_covers 6 _ (by decide +kernel) fun t _ y => ?_
  obtain ⟨p, q, rfl⟩ : ∃ (p : Fin 512) (q : Fin 128), y = ix2 p q := ⟨y 0, y 1, by blk_ext⟩
  blk_simp
  rw [after4_6]; frame_out
  have e : (win4_6.blk t).view.emb (ix2 p q) = ix2 p q := by
    blk_ext [idx4 t]
  rw [e]
  have h := sum4_at V c t p q
  generalize k4_pay5 (F := Ideal) (iblk4 V c 0 t) (iblk4 V c 1 t) (iblk4 V c 2 t) (iblk4 V c 3 t) = g at *
  have h2 := blk4_2 V c t p q
  generalize iblk4 V c 2 t = x2 at *
  pointwise [k4_pay1]
  simp only [h, h2]
  rfl

theorem final4_7 (c : Dev nD) : (dat4 V c).arrAt 7 cfg4.N = second512x128 (V c main_arg16) (V c main_arg19) := by
  refine (dat4 V c).arrAt_eq_of_covers 7 _ (by decide +kernel) fun t _ y => ?_
  obtain ⟨p, q, rfl⟩ : ∃ (p : Fin 512) (q : Fin 128), y = ix2 p q := ⟨y 0, y 1, by blk_ext⟩
  blk_simp
  rw [after4_7]; frame_out
  have e : (win4_7.blk t).view.emb (ix2 p q) = ix2 p q := by
    blk_ext [idx4 t]
  rw [e]
  have h := sum4_at V c t p q
  generalize k4_pay5 (F := Ideal) (iblk4 V c 0 t) (iblk4 V c 1 t) (iblk4 V c 2 t) (iblk4 V c 3 t) = g at *
  have h3 := blk4_3 V c t p q
  generalize iblk4 V c 3 t = x3 at *
  pointwise [k4_pay2]
  simp only [h, h3]
  rfl

theorem idx5 : ∀ t : Fin cfg5.N, win5_0.index t = ![0, 0, 0] ∧ win5_1.index t = ![0, 0] ∧ win5_2.index t = ![0, 0]
    ∧ win5_3.index t = ![0, 0] ∧ win5_4.index t = ![0, 0] ∧ win5_5.index t = ![0, 0] ∧ win5_6.index t = ![0, 0]
    ∧ win5_7.index t = ![0, 0] :=
  (by decide +kernel : ∀ t : Fin grid5.N, _)

theorem sum5_at (c : Dev nD) (t : Fin cfg5.N) (p : Fin 512) (q : Fin 128) :
    (k5_pay5 (F := Ideal) (iblk5 V c 0 t) (iblk5 V c 1 t) (iblk5 V c 2 t) (iblk5 V c 3 t) (ix2 p q) : EReal) =
      sum512x128 (V c main_arg20) (ix2 p q) := by
  unfold k5_pay5
  pointwise [k5_pay4, sum512x128]
  rw [Fin.sum_univ_eight]
  blk_point [iblk5, idx5 t]

theorem blk5_1 (c : Dev nD) (t : Fin cfg5.N) (p : Fin 512) (q : Fin 128) :
    iblk5 V c 1 t (ix2 p q) = (V c main_arg21 : FVec Ideal S512x128 .f32) (ix2 p q) := by
  blk_ext [iblk5, idx5 t]

theorem blk5_2 (c : Dev nD) (t : Fin cfg5.N) (p : Fin 512) (q : Fin 128) :
    iblk5 V c 2 t (ix2 p q) = (V c main_arg22 : FVec Ideal S512x128 .f32) (ix2 p q) := by
  blk_ext [iblk5, idx5 t]

theorem blk5_3 (c : Dev nD) (t : Fin cfg5.N) (p : Fin 512) (q : Fin 128) :
    iblk5 V c 3 t (ix2 p q) = (V c main_arg23 : FVec Ideal S512x128 .f32) (ix2 p q) := by
  blk_ext [iblk5, idx5 t]

theorem final5_4 (c : Dev nD) : (dat5 V c).arrAt 4 cfg5.N = sum512x128 (V c main_arg20) := by
  refine (dat5 V c).arrAt_eq_of_covers 4 _ (by decide +kernel) fun t _ y => ?_
  obtain ⟨p, q, rfl⟩ : ∃ (p : Fin 512) (q : Fin 128), y = ix2 p q := ⟨y 0, y 1, by blk_ext⟩
  blk_simp
  rw [after5_4]; frame_out
  have e : (win5_4.blk t).view.emb (ix2 p q) = ix2 p q := by
    blk_ext [idx5 t]
  rw [e]
  exact sum5_at V c t p q

theorem final5_5 (c : Dev nD) : (dat5 V c).arrAt 5 cfg5.N = change512x128 (V c main_arg20) (V c main_arg21) (V c main_arg22) (V c main_arg23) := by
  refine (dat5 V c).arrAt_eq_of_covers 5 _ (by decide +kernel) fun t _ y => ?_
  obtain ⟨p, q, rfl⟩ : ∃ (p : Fin 512) (q : Fin 128), y = ix2 p q := ⟨y 0, y 1, by blk_ext⟩
  blk_simp
  rw [after5_5]; frame_out
  have e : (win5_5.blk t).view.emb (ix2 p q) = ix2 p q := by
    blk_ext [idx5 t]
  rw [e]
  have h := sum5_at V c t p q
  generalize k5_pay5 (F := Ideal) (iblk5 V c 0 t) (iblk5 V c 1 t) (iblk5 V c 2 t) (iblk5 V c 3 t) = g at *
  have h1 := blk5_1 V c t p q
  have h2 := blk5_2 V c t p q
  have h3 := blk5_3 V c t p q
  generalize iblk5 V c 1 t = x1 at *
  generalize iblk5 V c 2 t = x2 at *
  generalize iblk5 V c 3 t = x3 at *
  pointwise [k5_pay3, k5_pay1, k5_pay2]
  simp only [h, h1, h2, h3]
  rfl

theorem final5_6 (c : Dev nD) : (dat5 V c).arrAt 6 cfg5.N = first512x128 (V c main_arg20) (V c main_arg22) := by
  refine (dat5 V c).arrAt_eq_of_covers 6 _ (by decide +kernel) fun t _ y => ?_
  obtain ⟨p, q, rfl⟩ : ∃ (p : Fin 512) (q : Fin 128), y = ix2 p q := ⟨y 0, y 1, by blk_ext⟩
  blk_simp
  rw [after5_6]; frame_out
  have e : (win5_6.blk t).view.emb (ix2 p q) = ix2 p q := by
    blk_ext [idx5 t]
  rw [e]
  have h := sum5_at V c t p q
  generalize k5_pay5 (F := Ideal) (iblk5 V c 0 t) (iblk5 V c 1 t) (iblk5 V c 2 t) (iblk5 V c 3 t) = g at *
  have h2 := blk5_2 V c t p q
  generalize iblk5 V c 2 t = x2 at *
  pointwise [k5_pay1]
  simp only [h, h2]
  rfl

theorem final5_7 (c : Dev nD) : (dat5 V c).arrAt 7 cfg5.N = second512x128 (V c main_arg20) (V c main_arg23) := by
  refine (dat5 V c).arrAt_eq_of_covers 7 _ (by decide +kernel) fun t _ y => ?_
  obtain ⟨p, q, rfl⟩ : ∃ (p : Fin 512) (q : Fin 128), y = ix2 p q := ⟨y 0, y 1, by blk_ext⟩
  blk_simp
  rw [after5_7]; frame_out
  have e : (win5_7.blk t).view.emb (ix2 p q) = ix2 p q := by
    blk_ext [idx5 t]
  rw [e]
  have h := sum5_at V c t p q
  generalize k5_pay5 (F := Ideal) (iblk5 V c 0 t) (iblk5 V c 1 t) (iblk5 V c 2 t) (iblk5 V c 3 t) = g at *
  have h3 := blk5_3 V c t p q
  generalize iblk5 V c 3 t = x3 at *
  pointwise [k5_pay2]
  simp only [h, h3]
  rfl

end Cert.Kernel6Ideal.Update

end
-- ==== Proof.UpdateSecond.lean ====
/-
  What the optimiser's calls of ffn2_w_in and ffn2_w_out leave in their four arrays.
-/
module

public import proofs.«01_k».proof.Proof.UpdateSpec

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (V : (c : Dev nD) → (b : Ref sig .tc) → Buf (Elt Ideal) ((c : Thread nD τ).loc b))

theorem idx7 : ∀ t : Fin cfg7.N, win7_0.index t = ![0, t.val, 0] ∧ win7_1.index t = ![t.val, 0] ∧ win7_2.index t = ![t.val, 0]
    ∧ win7_3.index t = ![t.val, 0] ∧ win7_4.index t = ![t.val, 0] ∧ win7_5.index t = ![t.val, 0] ∧ win7_6.index t = ![t.val, 0]
    ∧ win7_7.index t = ![t.val, 0] :=
  (by decide +kernel : ∀ t : Fin grid7.N, _)

theorem sum7_at (c : Dev nD) (t : Fin cfg7.N) (p : Fin 512) (q : Fin 704) :
    (k7_pay5 (F := Ideal) (iblk7 V c 0 t) (iblk7 V c 1 t) (iblk7 V c 2 t) (iblk7 V c 3 t) (ix2 p q) : EReal) =
      sum1024x704 (V c main_arg28) (ix2 (⟨t.val * 512 + p.val, by have h : t.val < 2 := t.isLt; omega⟩ : Fin 1024) q) := by
  unfold k7_pay5
  pointwise [k7_pay4, sum1024x704]
  rw [Fin.sum_univ_eight]
  blk_point [iblk7, idx7 t]

theorem blk7_1 (c : Dev nD) (t : Fin cfg7.N) (p : Fin 512) (q : Fin 704) :
    iblk7 V c 1 t (ix2 p q) = (V c main_arg29 : FVec Ideal S1024x704 .f32) (ix2 (⟨t.val * 512 + p.val, by have h : t.val < 2 := t.isLt; omega⟩ : Fin 1024) q) := by
  blk_ext [iblk7, idx7 t]

theorem blk7_2 (c : Dev nD) (t : Fin cfg7.N) (p : Fin 512) (q : Fin 704) :
    iblk7 V c 2 t (ix2 p q) = (V c main_arg30 : FVec Ideal S1024x704 .f32) (ix2 (⟨t.val * 512 + p.val, by have h : t.val < 2 := t.isLt; omega⟩ : Fin 1024) q) := by
  blk_ext [iblk7, idx7 t]

theorem blk7_3 (c : Dev nD) (t : Fin cfg7.N) (p : Fin 512) (q : Fin 704) :
    iblk7 V c 3 t (ix2 p q) = (V c main_arg31 : FVec Ideal S1024x704 .f32) (ix2 (⟨t.val * 512 + p.val, by have h : t.val < 2 := t.isLt; omega⟩ : Fin 1024) q) := by
  blk_ext [iblk7, idx7 t]

theorem final7_4 (c : Dev nD) : (dat7 V c).arrAt 4 cfg7.N = sum1024x704 (V c main_arg28) := by
  refine (dat7 V c).arrAt_eq_of_covers 4 _ (by decide +kernel) fun t _ y => ?_
  obtain ⟨p, q, rfl⟩ : ∃ (p : Fin 512) (q : Fin 704), y = ix2 p q := ⟨y 0, y 1, by blk_ext⟩
  blk_simp
  rw [after7_4]; frame_out
  have e : (win7_4.blk t).view.emb (ix2 p q) = ix2 (⟨t.val * 512 + p.val, by have h : t.val < 2 := t.isLt; omega⟩ : Fin 1024) q := by
    blk_ext [idx7 t]
  rw [e]
  exact sum7_at V c t p q

theorem final7_5 (c : Dev nD) : (dat7 V c).arrAt 5 cfg7.N = change1024x704 (V c main_arg28) (V c main_arg29) (V c main_arg30) (V c main_arg31) := by
  refine (dat7 V c).arrAt_eq_of_covers 5 _ (by decide +kernel) fun t _ y => ?_
  obtain ⟨p, q, rfl⟩ : ∃ (p : Fin 512) (q : Fin 704), y = ix2 p q := ⟨y 0, y 1, by blk_ext⟩
  blk_simp
  rw [after7_5]; frame_out
  have e : (win7_5.blk t).view.emb (ix2 p q) = ix2 (⟨t.val * 512 + p.val, by have h : t.val < 2 := t.isLt; omega⟩ : Fin 1024) q := by
    blk_ext [idx7 t]
  rw [e]
  have h := sum7_at V c t p q
  generalize k7_pay5 (F := Ideal) (iblk7 V c 0 t) (iblk7 V c 1 t) (iblk7 V c 2 t) (iblk7 V c 3 t) = g at *
  have h1 := blk7_1 V c t p q
  have h2 := blk7_2 V c t p q
  have h3 := blk7_3 V c t p q
  generalize iblk7 V c 1 t = x1 at *
  generalize iblk7 V c 2 t = x2 at *
  generalize iblk7 V c 3 t = x3 at *
  pointwise [k7_pay3, k7_pay1, k7_pay2]
  simp only [h, h1, h2, h3]
  rfl

theorem final7_6 (c : Dev nD) : (dat7 V c).arrAt 6 cfg7.N = first1024x704 (V c main_arg28) (V c main_arg30) := by
  refine (dat7 V c).arrAt_eq_of_covers 6 _ (by decide +kernel) fun t _ y => ?_
  obtain ⟨p, q, rfl⟩ : ∃ (p : Fin 512) (q : Fin 704), y = ix2 p q := ⟨y 0, y 1, by blk_ext⟩
  blk_simp
  rw [after7_6]; frame_out
  have e : (win7_6.blk t).view.emb (ix2 p q) = ix2 (⟨t.val * 512 + p.val, by have h : t.val < 2 := t.isLt; omega⟩ : Fin 1024) q := by
    blk_ext [idx7 t]
  rw [e]
  have h := sum7_at V c t p q
  generalize k7_pay5 (F := Ideal) (iblk7 V c 0 t) (iblk7 V c 1 t) (iblk7 V c 2 t) (iblk7 V c 3 t) = g at *
  have h2 := blk7_2 V c t p q
  generalize iblk7 V c 2 t = x2 at *
  pointwise [k7_pay1]
  simp only [h, h2]
  rfl

theorem final7_7 (c : Dev nD) : (dat7 V c).arrAt 7 cfg7.N = second1024x704 (V c main_arg28) (V c main_arg31) := by
  refine (dat7 V c).arrAt_eq_of_covers 7 _ (by decide +kernel) fun t _ y => ?_
  obtain ⟨p, q, rfl⟩ : ∃ (p : Fin 512) (q : Fin 704), y = ix2 p q := ⟨y 0, y 1, by blk_ext⟩
  blk_simp
  rw [after7_7]; frame_out
  have e : (win7_7.blk t).view.emb (ix2 p q) = ix2 (⟨t.val * 512 + p.val, by have h : t.val < 2 := t.isLt; omega⟩ : Fin 1024) q := by
    blk_ext [idx7 t]
  rw [e]
  have h := sum7_at V c t p q
  generalize k7_pay5 (F := Ideal) (iblk7 V c 0 t) (iblk7 V c 1 t) (iblk7 V c 2 t) (iblk7 V c 3 t) = g at *
  have h3 := blk7_3 V c t p q
  generalize iblk7 V c 3 t = x3 at *
  pointwise [k7_pay2]
  simp only [h, h3]
  rfl

theorem idx8 : ∀ t : Fin cfg8.N, win8_0.index t = ![0, 0, 0] ∧ win8_1.index t = ![0, 0] ∧ win8_2.index t = ![0, 0]
    ∧ win8_3.index t = ![0, 0] ∧ win8_4.index t = ![0, 0] ∧ win8_5.index t = ![0, 0] ∧ win8_6.index t = ![0, 0]
    ∧ win8_7.index t = ![0, 0] :=
  (by decide +kernel : ∀ t : Fin grid8.N, _)

theorem sum8_at (c : Dev nD) (t : Fin cfg8.N) (p : Fin 352) (q : Fin 1024) :
    (k8_pay5 (F := Ideal) (iblk8 V c 0 t) (iblk8 V c 1 t) (iblk8 V c 2 t) (iblk8 V c 3 t) (ix2 p q) : EReal) =
      sum352x1024 (V c main_arg32) (ix2 p q) := by
  unfold k8_pay5
  pointwise [k8_pay4, sum352x1024]
  rw [Fin.sum_univ_eight]
  blk_point [iblk8, idx8 t]

theorem blk8_1 (c : Dev nD) (t : Fin cfg8.N) (p : Fin 352) (q : Fin 1024) :
    iblk8 V c 1 t (ix2 p q) = (V c main_arg33 : FVec Ideal S352x1024 .f32) (ix2 p q) := by
  blk_ext [iblk8, idx8 t]

theorem blk8_2 (c : Dev nD) (t : Fin cfg8.N) (p : Fin 352) (q : Fin 1024) :
    iblk8 V c 2 t (ix2 p q) = (V c main_arg34 : FVec Ideal S352x1024 .f32) (ix2 p q) := by
  blk_ext [iblk8, idx8 t]

theorem blk8_3 (c : Dev nD) (t : Fin cfg8.N) (p : Fin 352) (q : Fin 1024) :
    iblk8 V c 3 t (ix2 p q) = (V c main_arg35 : FVec Ideal S352x1024 .f32) (ix2 p q) := by
  blk_ext [iblk8, idx8 t]

theorem final8_4 (c : Dev nD) : (dat8 V c).arrAt 4 cfg8.N = sum352x1024 (V c main_arg32) := by
  refine (dat8 V c).arrAt_eq_of_covers 4 _ (by decide +kernel) fun t _ y => ?_
  obtain ⟨p, q, rfl⟩ : ∃ (p : Fin 352) (q : Fin 1024), y = ix2 p q := ⟨y 0, y 1, by blk_ext⟩
  blk_simp
  rw [after8_4]; frame_out
  have e : (win8_4.blk t).view.emb (ix2 p q) = ix2 p q := by
    blk_ext [idx8 t]
  rw [e]
  exact sum8_at V c t p q

theorem final8_5 (c : Dev nD) : (dat8 V c).arrAt 5 cfg8.N = change352x1024 (V c main_arg32) (V c main_arg33) (V c main_arg34) (V c main_arg35) := by
  refine (dat8 V c).arrAt_eq_of_covers 5 _ (by decide +kernel) fun t _ y => ?_
  obtain ⟨p, q, rfl⟩ : ∃ (p : Fin 352) (q : Fin 1024), y = ix2 p q := ⟨y 0, y 1, by blk_ext⟩
  blk_simp
  rw [after8_5]; frame_out
  have e : (win8_5.blk t).view.emb (ix2 p q) = ix2 p q := by
    blk_ext [idx8 t]
  rw [e]
  have h := sum8_at V c t p q
  generalize k8_pay5 (F := Ideal) (iblk8 V c 0 t) (iblk8 V c 1 t) (iblk8 V c 2 t) (iblk8 V c 3 t) = g at *
  have h1 := blk8_1 V c t p q
  have h2 := blk8_2 V c t p q
  have h3 := blk8_3 V c t p q
  generalize iblk8 V c 1 t = x1 at *
  generalize iblk8 V c 2 t = x2 at *
  generalize iblk8 V c 3 t = x3 at *
  pointwise [k8_pay3, k8_pay1, k8_pay2]
  simp only [h, h1, h2, h3]
  rfl

theorem final8_6 (c : Dev nD) : (dat8 V c).arrAt 6 cfg8.N = first352x1024 (V c main_arg32) (V c main_arg34) := by
  refine (dat8 V c).arrAt_eq_of_covers 6 _ (by decide +kernel) fun t _ y => ?_
  obtain ⟨p, q, rfl⟩ : ∃ (p : Fin 352) (q : Fin 1024), y = ix2 p q := ⟨y 0, y 1, by blk_ext⟩
  blk_simp
  rw [after8_6]; frame_out
  have e : (win8_6.blk t).view.emb (ix2 p q) = ix2 p q := by
    blk_ext [idx8 t]
  rw [e]
  have h := sum8_at V c t p q
  generalize k8_pay5 (F := Ideal) (iblk8 V c 0 t) (iblk8 V c 1 t) (iblk8 V c 2 t) (iblk8 V c 3 t) = g at *
  have h2 := blk8_2 V c t p q
  generalize iblk8 V c 2 t = x2 at *
  pointwise [k8_pay1]
  simp only [h, h2]
  rfl

theorem final8_7 (c : Dev nD) : (dat8 V c).arrAt 7 cfg8.N = second352x1024 (V c main_arg32) (V c main_arg35) := by
  refine (dat8 V c).arrAt_eq_of_covers 7 _ (by decide +kernel) fun t _ y => ?_
  obtain ⟨p, q, rfl⟩ : ∃ (p : Fin 352) (q : Fin 1024), y = ix2 p q := ⟨y 0, y 1, by blk_ext⟩
  blk_simp
  rw [after8_7]; frame_out
  have e : (win8_7.blk t).view.emb (ix2 p q) = ix2 p q := by
    blk_ext [idx8 t]
  rw [e]
  have h := sum8_at V c t p q
  generalize k8_pay5 (F := Ideal) (iblk8 V c 0 t) (iblk8 V c 1 t) (iblk8 V c 2 t) (iblk8 V c 3 t) = g at *
  have h3 := blk8_3 V c t p q
  generalize iblk8 V c 3 t = x3 at *
  pointwise [k8_pay2]
  simp only [h, h3]
  rfl

end Cert.Kernel6Ideal.Update

end
-- ==== Proof.UpdateRest.lean ====
/-
  What the optimiser's calls of mix_w_out and ple_w_proj leave in their four arrays.
-/
module

public import proofs.«01_k».proof.Proof.UpdateSpec

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (V : (c : Dev nD) → (b : Ref sig .tc) → Buf (Elt Ideal) ((c : Thread nD τ).loc b))

theorem idx6 : ∀ t : Fin cfg6.N, win6_0.index t = ![0, 0, 0] ∧ win6_1.index t = ![0, 0] ∧ win6_2.index t = ![0, 0]
    ∧ win6_3.index t = ![0, 0] ∧ win6_4.index t = ![0, 0] ∧ win6_5.index t = ![0, 0] ∧ win6_6.index t = ![0, 0]
    ∧ win6_7.index t = ![0, 0] :=
  (by decide +kernel : ∀ t : Fin grid6.N, _)

theorem sum6_at (c : Dev nD) (t : Fin cfg6.N) (p : Fin 128) (q : Fin 1024) :
    (k6_pay5 (F := Ideal) (iblk6 V c 0 t) (iblk6 V c 1 t) (iblk6 V c 2 t) (iblk6 V c 3 t) (ix2 p q) : EReal) =
      sum128x1024 (V c main_arg24) (ix2 p q) := by
  unfold k6_pay5
  pointwise [k6_pay4, sum128x1024]
  rw [Fin.sum_univ_eight]
  blk_point [iblk6, idx6 t]

theorem blk6_1 (c : Dev nD) (t : Fin cfg6.N) (p : Fin 128) (q : Fin 1024) :
    iblk6 V c 1 t (ix2 p q) = (V c main_arg25 : FVec Ideal S128x1024 .f32) (ix2 p q) := by
  blk_ext [iblk6, idx6 t]

theorem blk6_2 (c : Dev nD) (t : Fin cfg6.N) (p : Fin 128) (q : Fin 1024) :
    iblk6 V c 2 t (ix2 p q) = (V c main_arg26 : FVec Ideal S128x1024 .f32) (ix2 p q) := by
  blk_ext [iblk6, idx6 t]

theorem blk6_3 (c : Dev nD) (t : Fin cfg6.N) (p : Fin 128) (q : Fin 1024) :
    iblk6 V c 3 t (ix2 p q) = (V c main_arg27 : FVec Ideal S128x1024 .f32) (ix2 p q) := by
  blk_ext [iblk6, idx6 t]

theorem final6_4 (c : Dev nD) : (dat6 V c).arrAt 4 cfg6.N = sum128x1024 (V c main_arg24) := by
  refine (dat6 V c).arrAt_eq_of_covers 4 _ (by decide +kernel) fun t _ y => ?_
  obtain ⟨p, q, rfl⟩ : ∃ (p : Fin 128) (q : Fin 1024), y = ix2 p q := ⟨y 0, y 1, by blk_ext⟩
  blk_simp
  rw [after6_4]; frame_out
  have e : (win6_4.blk t).view.emb (ix2 p q) = ix2 p q := by
    blk_ext [idx6 t]
  rw [e]
  exact sum6_at V c t p q

theorem final6_5 (c : Dev nD) : (dat6 V c).arrAt 5 cfg6.N = change128x1024 (V c main_arg24) (V c main_arg25) (V c main_arg26) (V c main_arg27) := by
  refine (dat6 V c).arrAt_eq_of_covers 5 _ (by decide +kernel) fun t _ y => ?_
  obtain ⟨p, q, rfl⟩ : ∃ (p : Fin 128) (q : Fin 1024), y = ix2 p q := ⟨y 0, y 1, by blk_ext⟩
  blk_simp
  rw [after6_5]; frame_out
  have e : (win6_5.blk t).view.emb (ix2 p q) = ix2 p q := by
    blk_ext [idx6 t]
  rw [e]
  have h := sum6_at V c t p q
  generalize k6_pay5 (F := Ideal) (iblk6 V c 0 t) (iblk6 V c 1 t) (iblk6 V c 2 t) (iblk6 V c 3 t) = g at *
  have h1 := blk6_1 V c t p q
  have h2 := blk6_2 V c t p q
  have h3 := blk6_3 V c t p q
  generalize iblk6 V c 1 t = x1 at *
  generalize iblk6 V c 2 t = x2 at *
  generalize iblk6 V c 3 t = x3 at *
  pointwise [k6_pay3, k6_pay1, k6_pay2]
  simp only [h, h1, h2, h3]
  rfl

theorem final6_6 (c : Dev nD) : (dat6 V c).arrAt 6 cfg6.N = first128x1024 (V c main_arg24) (V c main_arg26) := by
  refine (dat6 V c).arrAt_eq_of_covers 6 _ (by decide +kernel) fun t _ y => ?_
  obtain ⟨p, q, rfl⟩ : ∃ (p : Fin 128) (q : Fin 1024), y = ix2 p q := ⟨y 0, y 1, by blk_ext⟩
  blk_simp
  rw [after6_6]; frame_out
  have e : (win6_6.blk t).view.emb (ix2 p q) = ix2 p q := by
    blk_ext [idx6 t]
  rw [e]
  have h := sum6_at V c t p q
  generalize k6_pay5 (F := Ideal) (iblk6 V c 0 t) (iblk6 V c 1 t) (iblk6 V c 2 t) (iblk6 V c 3 t) = g at *
  have h2 := blk6_2 V c t p q
  generalize iblk6 V c 2 t = x2 at *
  pointwise [k6_pay1]
  simp only [h, h2]
  rfl

theorem final6_7 (c : Dev nD) : (dat6 V c).arrAt 7 cfg6.N = second128x1024 (V c main_arg24) (V c main_arg27) := by
  refine (dat6 V c).arrAt_eq_of_covers 7 _ (by decide +kernel) fun t _ y => ?_
  obtain ⟨p, q, rfl⟩ : ∃ (p : Fin 128) (q : Fin 1024), y = ix2 p q := ⟨y 0, y 1, by blk_ext⟩
  blk_simp
  rw [after6_7]; frame_out
  have e : (win6_7.blk t).view.emb (ix2 p q) = ix2 p q := by
    blk_ext [idx6 t]
  rw [e]
  have h := sum6_at V c t p q
  generalize k6_pay5 (F := Ideal) (iblk6 V c 0 t) (iblk6 V c 1 t) (iblk6 V c 2 t) (iblk6 V c 3 t) = g at *
  have h3 := blk6_3 V c t p q
  generalize iblk6 V c 3 t = x3 at *
  pointwise [k6_pay2]
  simp only [h, h3]
  rfl

theorem idx9 : ∀ t : Fin cfg9.N, win9_0.index t = ![0, 0, 0] ∧ win9_1.index t = ![0, 0] ∧ win9_2.index t = ![0, 0]
    ∧ win9_3.index t = ![0, 0] ∧ win9_4.index t = ![0, 0] ∧ win9_5.index t = ![0, 0] ∧ win9_6.index t = ![0, 0]
    ∧ win9_7.index t = ![0, 0] :=
  (by decide +kernel : ∀ t : Fin grid9.N, _)

theorem sum9_at (c : Dev nD) (t : Fin cfg9.N) (p : Fin 256) (q : Fin 128) :
    (k9_pay5 (F := Ideal) (iblk9 V c 0 t) (iblk9 V c 1 t) (iblk9 V c 2 t) (iblk9 V c 3 t) (ix2 p q) : EReal) =
      sum256x128 (V c main_arg36) (ix2 p q) := by
  unfold k9_pay5
  pointwise [k9_pay4, sum256x128]
  rw [Fin.sum_univ_eight]
  blk_point [iblk9, idx9 t]

theorem blk9_1 (c : Dev nD) (t : Fin cfg9.N) (p : Fin 256) (q : Fin 128) :
    iblk9 V c 1 t (ix2 p q) = (V c main_arg37 : FVec Ideal S256x128 .f32) (ix2 p q) := by
  blk_ext [iblk9, idx9 t]

theorem blk9_2 (c : Dev nD) (t : Fin cfg9.N) (p : Fin 256) (q : Fin 128) :
    iblk9 V c 2 t (ix2 p q) = (V c main_arg38 : FVec Ideal S256x128 .f32) (ix2 p q) := by
  blk_ext [iblk9, idx9 t]

theorem blk9_3 (c : Dev nD) (t : Fin cfg9.N) (p : Fin 256) (q : Fin 128) :
    iblk9 V c 3 t (ix2 p q) = (V c main_arg39 : FVec Ideal S256x128 .f32) (ix2 p q) := by
  blk_ext [iblk9, idx9 t]

theorem final9_4 (c : Dev nD) : (dat9 V c).arrAt 4 cfg9.N = sum256x128 (V c main_arg36) := by
  refine (dat9 V c).arrAt_eq_of_covers 4 _ (by decide +kernel) fun t _ y => ?_
  obtain ⟨p, q, rfl⟩ : ∃ (p : Fin 256) (q : Fin 128), y = ix2 p q := ⟨y 0, y 1, by blk_ext⟩
  blk_simp
  rw [after9_4]; frame_out
  have e : (win9_4.blk t).view.emb (ix2 p q) = ix2 p q := by
    blk_ext [idx9 t]
  rw [e]
  exact sum9_at V c t p q

theorem final9_5 (c : Dev nD) : (dat9 V c).arrAt 5 cfg9.N = change256x128 (V c main_arg36) (V c main_arg37) (V c main_arg38) (V c main_arg39) := by
  refine (dat9 V c).arrAt_eq_of_covers 5 _ (by decide +kernel) fun t _ y => ?_
  obtain ⟨p, q, rfl⟩ : ∃ (p : Fin 256) (q : Fin 128), y = ix2 p q := ⟨y 0, y 1, by blk_ext⟩
  blk_simp
  rw [after9_5]; frame_out
  have e : (win9_5.blk t).view.emb (ix2 p q) = ix2 p q := by
    blk_ext [idx9 t]
  rw [e]
  have h := sum9_at V c t p q
  generalize k9_pay5 (F := Ideal) (iblk9 V c 0 t) (iblk9 V c 1 t) (iblk9 V c 2 t) (iblk9 V c 3 t) = g at *
  have h1 := blk9_1 V c t p q
  have h2 := blk9_2 V c t p q
  have h3 := blk9_3 V c t p q
  generalize iblk9 V c 1 t = x1 at *
  generalize iblk9 V c 2 t = x2 at *
  generalize iblk9 V c 3 t = x3 at *
  pointwise [k9_pay3, k9_pay1, k9_pay2]
  simp only [h, h1, h2, h3]
  rfl

theorem final9_6 (c : Dev nD) : (dat9 V c).arrAt 6 cfg9.N = first256x128 (V c main_arg36) (V c main_arg38) := by
  refine (dat9 V c).arrAt_eq_of_covers 6 _ (by decide +kernel) fun t _ y => ?_
  obtain ⟨p, q, rfl⟩ : ∃ (p : Fin 256) (q : Fin 128), y = ix2 p q := ⟨y 0, y 1, by blk_ext⟩
  blk_simp
  rw [after9_6]; frame_out
  have e : (win9_6.blk t).view.emb (ix2 p q) = ix2 p q := by
    blk_ext [idx9 t]
  rw [e]
  have h := sum9_at V c t p q
  generalize k9_pay5 (F := Ideal) (iblk9 V c 0 t) (iblk9 V c 1 t) (iblk9 V c 2 t) (iblk9 V c 3 t) = g at *
  have h2 := blk9_2 V c t p q
  generalize iblk9 V c 2 t = x2 at *
  pointwise [k9_pay1]
  simp only [h, h2]
  rfl

theorem final9_7 (c : Dev nD) : (dat9 V c).arrAt 7 cfg9.N = second256x128 (V c main_arg36) (V c main_arg39) := by
  refine (dat9 V c).arrAt_eq_of_covers 7 _ (by decide +kernel) fun t _ y => ?_
  obtain ⟨p, q, rfl⟩ : ∃ (p : Fin 256) (q : Fin 128), y = ix2 p q := ⟨y 0, y 1, by blk_ext⟩
  blk_simp
  rw [after9_7]; frame_out
  have e : (win9_7.blk t).view.emb (ix2 p q) = ix2 p q := by
    blk_ext [idx9 t]
  rw [e]
  have h := sum9_at V c t p q
  generalize k9_pay5 (F := Ideal) (iblk9 V c 0 t) (iblk9 V c 1 t) (iblk9 V c 2 t) (iblk9 V c 3 t) = g at *
  have h3 := blk9_3 V c t p q
  generalize iblk9 V c 3 t = x3 at *
  pointwise [k9_pay2]
  simp only [h, h3]
  rfl

end Cert.Kernel6Ideal.Update

end
-- ==== Proof.UpdateLast.lean ====
/-
  What the optimiser's calls of ple_w_gate leave in their four arrays.
-/
module

public import proofs.«01_k».proof.Proof.UpdateSpec

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (V : (c : Dev nD) → (b : Ref sig .tc) → Buf (Elt Ideal) ((c : Thread nD τ).loc b))

theorem idx10 : ∀ t : Fin cfg10.N, win10_0.index t = ![0, 0, 0] ∧ win10_1.index t = ![0, 0] ∧ win10_2.index t = ![0, 0]
    ∧ win10_3.index t = ![0, 0] ∧ win10_4.index t = ![0, 0] ∧ win10_5.index t = ![0, 0] ∧ win10_6.index t = ![0, 0]
    ∧ win10_7.index t = ![0, 0] :=
  (by decide +kernel : ∀ t : Fin grid10.N, _)

theorem sum10_at (c : Dev nD) (t : Fin cfg10.N) (p : Fin 128) (q : Fin 1024) :
    (k10_pay5 (F := Ideal) (iblk10 V c 0 t) (iblk10 V c 1 t) (iblk10 V c 2 t) (iblk10 V c 3 t) (ix2 p q) : EReal) =
      sum128x1024 (V c main_arg40) (ix2 p q) := by
  unfold k10_pay5
  pointwise [k10_pay4, sum128x1024]
  rw [Fin.sum_univ_eight]
  blk_point [iblk10, idx10 t]

theorem blk10_1 (c : Dev nD) (t : Fin cfg10.N) (p : Fin 128) (q : Fin 1024) :
    iblk10 V c 1 t (ix2 p q) = (V c main_arg41 : FVec Ideal S128x1024 .f32) (ix2 p q) := by
  blk_ext [iblk10, idx10 t]

theorem blk10_2 (c : Dev nD) (t : Fin cfg10.N) (p : Fin 128) (q : Fin 1024) :
    iblk10 V c 2 t (ix2 p q) = (V c main_arg42 : FVec Ideal S128x1024 .f32) (ix2 p q) := by
  blk_ext [iblk10, idx10 t]

theorem blk10_3 (c : Dev nD) (t : Fin cfg10.N) (p : Fin 128) (q : Fin 1024) :
    iblk10 V c 3 t (ix2 p q) = (V c main_arg43 : FVec Ideal S128x1024 .f32) (ix2 p q) := by
  blk_ext [iblk10, idx10 t]

theorem final10_4 (c : Dev nD) : (dat10 V c).arrAt 4 cfg10.N = sum128x1024 (V c main_arg40) := by
  refine (dat10 V c).arrAt_eq_of_covers 4 _ (by decide +kernel) fun t _ y => ?_
  obtain ⟨p, q, rfl⟩ : ∃ (p : Fin 128) (q : Fin 1024), y = ix2 p q := ⟨y 0, y 1, by blk_ext⟩
  blk_simp
  rw [after10_4]; frame_out
  have e : (win10_4.blk t).view.emb (ix2 p q) = ix2 p q := by
    blk_ext [idx10 t]
  rw [e]
  exact sum10_at V c t p q

theorem final10_5 (c : Dev nD) : (dat10 V c).arrAt 5 cfg10.N = change128x1024 (V c main_arg40) (V c main_arg41) (V c main_arg42) (V c main_arg43) := by
  refine (dat10 V c).arrAt_eq_of_covers 5 _ (by decide +kernel) fun t _ y => ?_
  obtain ⟨p, q, rfl⟩ : ∃ (p : Fin 128) (q : Fin 1024), y = ix2 p q := ⟨y 0, y 1, by blk_ext⟩
  blk_simp
  rw [after10_5]; frame_out
  have e : (win10_5.blk t).view.emb (ix2 p q) = ix2 p q := by
    blk_ext [idx10 t]
  rw [e]
  have h := sum10_at V c t p q
  generalize k10_pay5 (F := Ideal) (iblk10 V c 0 t) (iblk10 V c 1 t) (iblk10 V c 2 t) (iblk10 V c 3 t) = g at *
  have h1 := blk10_1 V c t p q
  have h2 := blk10_2 V c t p q
  have h3 := blk10_3 V c t p q
  generalize iblk10 V c 1 t = x1 at *
  generalize iblk10 V c 2 t = x2 at *
  generalize iblk10 V c 3 t = x3 at *
  pointwise [k10_pay3, k10_pay1, k10_pay2]
  simp only [h, h1, h2, h3]
  rfl

theorem final10_6 (c : Dev nD) : (dat10 V c).arrAt 6 cfg10.N = first128x1024 (V c main_arg40) (V c main_arg42) := by
  refine (dat10 V c).arrAt_eq_of_covers 6 _ (by decide +kernel) fun t _ y => ?_
  obtain ⟨p, q, rfl⟩ : ∃ (p : Fin 128) (q : Fin 1024), y = ix2 p q := ⟨y 0, y 1, by blk_ext⟩
  blk_simp
  rw [after10_6]; frame_out
  have e : (win10_6.blk t).view.emb (ix2 p q) = ix2 p q := by
    blk_ext [idx10 t]
  rw [e]
  have h := sum10_at V c t p q
  generalize k10_pay5 (F := Ideal) (iblk10 V c 0 t) (iblk10 V c 1 t) (iblk10 V c 2 t) (iblk10 V c 3 t) = g at *
  have h2 := blk10_2 V c t p q
  generalize iblk10 V c 2 t = x2 at *
  pointwise [k10_pay1]
  simp only [h, h2]
  rfl

theorem final10_7 (c : Dev nD) : (dat10 V c).arrAt 7 cfg10.N = second128x1024 (V c main_arg40) (V c main_arg43) := by
  refine (dat10 V c).arrAt_eq_of_covers 7 _ (by decide +kernel) fun t _ y => ?_
  obtain ⟨p, q, rfl⟩ : ∃ (p : Fin 128) (q : Fin 1024), y = ix2 p q := ⟨y 0, y 1, by blk_ext⟩
  blk_simp
  rw [after10_7]; frame_out
  have e : (win10_7.blk t).view.emb (ix2 p q) = ix2 p q := by
    blk_ext [idx10 t]
  rw [e]
  have h := sum10_at V c t p q
  generalize k10_pay5 (F := Ideal) (iblk10 V c 0 t) (iblk10 V c 1 t) (iblk10 V c 2 t) (iblk10 V c 3 t) = g at *
  have h3 := blk10_3 V c t p q
  generalize iblk10 V c 3 t = x3 at *
  pointwise [k10_pay2]
  simp only [h, h3]
  rfl

end Cert.Kernel6Ideal.Update

end
-- ==== Proof.UpdateRun.lean ====
/-
  The whole run of the optimiser's calls: each call's four arrays, which the later calls leave as they are.
-/
module

public import proofs.«01_k».proof.Proof.UpdateFirst
public import proofs.«01_k».proof.Proof.UpdateMixers
public import proofs.«01_k».proof.Proof.UpdateGates
public import proofs.«01_k».proof.Proof.UpdateSecond
public import proofs.«01_k».proof.Proof.UpdateRest
public import proofs.«01_k».proof.Proof.UpdateLast

@[expose] public section

set_option maxRecDepth 16384

noncomputable section

open Idealize.ShloMosaic Idealize.ShloMosaic.TcCoe Idealize.SL.Sem
open Idealize.ShloMosaic.Pipeline (Dat)

namespace Cert.Kernel6Ideal.Update

open Cert.Kernel6Ideal Cert.Kernel6Ideal.Gen

variable (m : (ℓ : Loc nD τ sig) → Buf (Elt Ideal) ℓ)

section

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- The run: every weakly fair execution ends with each buffer that the program owns at its final contents. -/
theorem run (ρ : Dev nD → PrngReg) : θ_run defs (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end

variable (ρ : Dev nD → PrngReg)

/-- The call of ffn1_w_in. -/
theorem end0_0 (c : Dev nD) : (W11 m ρ c (Proc.devRef .tc main_v0_0) : FVec Ideal S1024x704 .f32) = sum1024x704 (m ((c : Thread nD τ).loc main_arg0)) := by
  rw [W11_of m ρ c main_v0_0 (by decide +kernel), W10_of m ρ c main_v0_0 (by decide +kernel), W9_of m ρ c main_v0_0 (by decide +kernel), W8_of m ρ c main_v0_0 (by decide +kernel), W7_of m ρ c main_v0_0 (by decide +kernel), W6_of m ρ c main_v0_0 (by decide +kernel), W5_of m ρ c main_v0_0 (by decide +kernel), W4_of m ρ c main_v0_0 (by decide +kernel), W3_of m ρ c main_v0_0 (by decide +kernel), W2_of m ρ c main_v0_0 (by decide +kernel)]
  exact (W1_arr m ρ c 4).trans ((final0_4 (V0 m ρ) c).trans (congrArg sum1024x704 (W0_args m ρ c main_arg0 (by decide))))

theorem end0_1 (c : Dev nD) : (W11 m ρ c (Proc.devRef .tc main_v0_1) : FVec Ideal S1024x704 .f32) = change1024x704 (m ((c : Thread nD τ).loc main_arg0)) (m ((c : Thread nD τ).loc main_arg1)) (m ((c : Thread nD τ).loc main_arg2)) (m ((c : Thread nD τ).loc main_arg3)) := by
  rw [W11_of m ρ c main_v0_1 (by decide +kernel), W10_of m ρ c main_v0_1 (by decide +kernel), W9_of m ρ c main_v0_1 (by decide +kernel), W8_of m ρ c main_v0_1 (by decide +kernel), W7_of m ρ c main_v0_1 (by decide +kernel), W6_of m ρ c main_v0_1 (by decide +kernel), W5_of m ρ c main_v0_1 (by decide +kernel), W4_of m ρ c main_v0_1 (by decide +kernel), W3_of m ρ c main_v0_1 (by decide +kernel), W2_of m ρ c main_v0_1 (by decide +kernel)]
  exact (W1_arr m ρ c 5).trans ((final0_5 (V0 m ρ) c).trans (congr (congr (congrArg₂ change1024x704 (W0_args m ρ c main_arg0 (by decide)) (W0_args m ρ c main_arg1 (by decide))) (W0_args m ρ c main_arg2 (by decide))) (W0_args m ρ c main_arg3 (by decide))))

theorem end0_2 (c : Dev nD) : (W11 m ρ c (Proc.devRef .tc main_v0_2) : FVec Ideal S1024x704 .f32) = first1024x704 (m ((c : Thread nD τ).loc main_arg0)) (m ((c : Thread nD τ).loc main_arg2)) := by
  rw [W11_of m ρ c main_v0_2 (by decide +kernel), W10_of m ρ c main_v0_2 (by decide +kernel), W9_of m ρ c main_v0_2 (by decide +kernel), W8_of m ρ c main_v0_2 (by decide +kernel), W7_of m ρ c main_v0_2 (by decide +kernel), W6_of m ρ c main_v0_2 (by decide +kernel), W5_of m ρ c main_v0_2 (by decide +kernel), W4_of m ρ c main_v0_2 (by decide +kernel), W3_of m ρ c main_v0_2 (by decide +kernel), W2_of m ρ c main_v0_2 (by decide +kernel)]
  exact (W1_arr m ρ c 6).trans ((final0_6 (V0 m ρ) c).trans (congrArg₂ first1024x704 (W0_args m ρ c main_arg0 (by decide)) (W0_args m ρ c main_arg2 (by decide))))

theorem end0_3 (c : Dev nD) : (W11 m ρ c (Proc.devRef .tc main_v0_3) : FVec Ideal S1024x704 .f32) = second1024x704 (m ((c : Thread nD τ).loc main_arg0)) (m ((c : Thread nD τ).loc main_arg3)) := by
  rw [W11_of m ρ c main_v0_3 (by decide +kernel), W10_of m ρ c main_v0_3 (by decide +kernel), W9_of m ρ c main_v0_3 (by decide +kernel), W8_of m ρ c main_v0_3 (by decide +kernel), W7_of m ρ c main_v0_3 (by decide +kernel), W6_of m ρ c main_v0_3 (by decide +kernel), W5_of m ρ c main_v0_3 (by decide +kernel), W4_of m ρ c main_v0_3 (by decide +kernel), W3_of m ρ c main_v0_3 (by decide +kernel), W2_of m ρ c main_v0_3 (by decide +kernel)]
  exact (W1_arr m ρ c 7).trans ((final0_7 (V0 m ρ) c).trans (congrArg₂ second1024x704 (W0_args m ρ c main_arg0 (by decide)) (W0_args m ρ c main_arg3 (by decide))))

/-- The call of ffn1_w_out. -/
theorem end1_0 (c : Dev nD) : (W11 m ρ c (Proc.devRef .tc main_v1_0) : FVec Ideal S352x1024 .f32) = sum352x1024 (m ((c : Thread nD τ).loc main_arg4)) := by
  rw [W11_of m ρ c main_v1_0 (by decide +kernel), W10_of m ρ c main_v1_0 (by decide +kernel), W9_of m ρ c main_v1_0 (by decide +kernel), W8_of m ρ c main_v1_0 (by decide +kernel), W7_of m ρ c main_v1_0 (by decide +kernel), W6_of m ρ c main_v1_0 (by decide +kernel), W5_of m ρ c main_v1_0 (by decide +kernel), W4_of m ρ c main_v1_0 (by decide +kernel), W3_of m ρ c main_v1_0 (by decide +kernel)]
  exact (W2_arr m ρ c 4).trans ((final1_4 (V1 m ρ) c).trans (congrArg sum352x1024 (W1_args m ρ c main_arg4 (by decide))))

theorem end1_1 (c : Dev nD) : (W11 m ρ c (Proc.devRef .tc main_v1_1) : FVec Ideal S352x1024 .f32) = change352x1024 (m ((c : Thread nD τ).loc main_arg4)) (m ((c : Thread nD τ).loc main_arg5)) (m ((c : Thread nD τ).loc main_arg6)) (m ((c : Thread nD τ).loc main_arg7)) := by
  rw [W11_of m ρ c main_v1_1 (by decide +kernel), W10_of m ρ c main_v1_1 (by decide +kernel), W9_of m ρ c main_v1_1 (by decide +kernel), W8_of m ρ c main_v1_1 (by decide +kernel), W7_of m ρ c main_v1_1 (by decide +kernel), W6_of m ρ c main_v1_1 (by decide +kernel), W5_of m ρ c main_v1_1 (by decide +kernel), W4_of m ρ c main_v1_1 (by decide +kernel), W3_of m ρ c main_v1_1 (by decide +kernel)]
  exact (W2_arr m ρ c 5).trans ((final1_5 (V1 m ρ) c).trans (congr (congr (congrArg₂ change352x1024 (W1_args m ρ c main_arg4 (by decide)) (W1_args m ρ c main_arg5 (by decide))) (W1_args m ρ c main_arg6 (by decide))) (W1_args m ρ c main_arg7 (by decide))))

theorem end1_2 (c : Dev nD) : (W11 m ρ c (Proc.devRef .tc main_v1_2) : FVec Ideal S352x1024 .f32) = first352x1024 (m ((c : Thread nD τ).loc main_arg4)) (m ((c : Thread nD τ).loc main_arg6)) := by
  rw [W11_of m ρ c main_v1_2 (by decide +kernel), W10_of m ρ c main_v1_2 (by decide +kernel), W9_of m ρ c main_v1_2 (by decide +kernel), W8_of m ρ c main_v1_2 (by decide +kernel), W7_of m ρ c main_v1_2 (by decide +kernel), W6_of m ρ c main_v1_2 (by decide +kernel), W5_of m ρ c main_v1_2 (by decide +kernel), W4_of m ρ c main_v1_2 (by decide +kernel), W3_of m ρ c main_v1_2 (by decide +kernel)]
  exact (W2_arr m ρ c 6).trans ((final1_6 (V1 m ρ) c).trans (congrArg₂ first352x1024 (W1_args m ρ c main_arg4 (by decide)) (W1_args m ρ c main_arg6 (by decide))))

theorem end1_3 (c : Dev nD) : (W11 m ρ c (Proc.devRef .tc main_v1_3) : FVec Ideal S352x1024 .f32) = second352x1024 (m ((c : Thread nD τ).loc main_arg4)) (m ((c : Thread nD τ).loc main_arg7)) := by
  rw [W11_of m ρ c main_v1_3 (by decide +kernel), W10_of m ρ c main_v1_3 (by decide +kernel), W9_of m ρ c main_v1_3 (by decide +kernel), W8_of m ρ c main_v1_3 (by decide +kernel), W7_of m ρ c main_v1_3 (by decide +kernel), W6_of m ρ c main_v1_3 (by decide +kernel), W5_of m ρ c main_v1_3 (by decide +kernel), W4_of m ρ c main_v1_3 (by decide +kernel), W3_of m ρ c main_v1_3 (by decide +kernel)]
  exact (W2_arr m ρ c 7).trans ((final1_7 (V1 m ρ) c).trans (congrArg₂ second352x1024 (W1_args m ρ c main_arg4 (by decide)) (W1_args m ρ c main_arg7 (by decide))))

/-- The call of mix_w_in. -/
theorem end2_0 (c : Dev nD) : (W11 m ρ c (Proc.devRef .tc main_v2_0) : FVec Ideal S1024x448 .f32) = sum1024x448 (m ((c : Thread nD τ).loc main_arg8)) := by
  rw [W11_of m ρ c main_v2_0 (by decide +kernel), W10_of m ρ c main_v2_0 (by decide +kernel), W9_of m ρ c main_v2_0 (by decide +kernel), W8_of m ρ c main_v2_0 (by decide +kernel), W7_of m ρ c main_v2_0 (by decide +kernel), W6_of m ρ c main_v2_0 (by decide +kernel), W5_of m ρ c main_v2_0 (by decide +kernel), W4_of m ρ c main_v2_0 (by decide +kernel)]
  exact (W3_arr m ρ c 4).trans ((final2_4 (V2 m ρ) c).trans (congrArg sum1024x448 (W2_args m ρ c main_arg8 (by decide))))

theorem end2_1 (c : Dev nD) : (W11 m ρ c (Proc.devRef .tc main_v2_1) : FVec Ideal S1024x448 .f32) = change1024x448 (m ((c : Thread nD τ).loc main_arg8)) (m ((c : Thread nD τ).loc main_arg9)) (m ((c : Thread nD τ).loc main_arg10)) (m ((c : Thread nD τ).loc main_arg11)) := by
  rw [W11_of m ρ c main_v2_1 (by decide +kernel), W10_of m ρ c main_v2_1 (by decide +kernel), W9_of m ρ c main_v2_1 (by decide +kernel), W8_of m ρ c main_v2_1 (by decide +kernel), W7_of m ρ c main_v2_1 (by decide +kernel), W6_of m ρ c main_v2_1 (by decide +kernel), W5_of m ρ c main_v2_1 (by decide +kernel), W4_of m ρ c main_v2_1 (by decide +kernel)]
  exact (W3_arr m ρ c 5).trans ((final2_5 (V2 m ρ) c).trans (congr (congr (congrArg₂ change1024x448 (W2_args m ρ c main_arg8 (by decide)) (W2_args m ρ c main_arg9 (by decide))) (W2_args m ρ c main_arg10 (by decide))) (W2_args m ρ c main_arg11 (by decide))))

theorem end2_2 (c : Dev nD) : (W11 m ρ c (Proc.devRef .tc main_v2_2) : FVec Ideal S1024x448 .f32) = first1024x448 (m ((c : Thread nD τ).loc main_arg8)) (m ((c : Thread nD τ).loc main_arg10)) := by
  rw [W11_of m ρ c main_v2_2 (by decide +kernel), W10_of m ρ c main_v2_2 (by decide +kernel), W9_of m ρ c main_v2_2 (by decide +kernel), W8_of m ρ c main_v2_2 (by decide +kernel), W7_of m ρ c main_v2_2 (by decide +kernel), W6_of m ρ c main_v2_2 (by decide +kernel), W5_of m ρ c main_v2_2 (by decide +kernel), W4_of m ρ c main_v2_2 (by decide +kernel)]
  exact (W3_arr m ρ c 6).trans ((final2_6 (V2 m ρ) c).trans (congrArg₂ first1024x448 (W2_args m ρ c main_arg8 (by decide)) (W2_args m ρ c main_arg10 (by decide))))

theorem end2_3 (c : Dev nD) : (W11 m ρ c (Proc.devRef .tc main_v2_3) : FVec Ideal S1024x448 .f32) = second1024x448 (m ((c : Thread nD τ).loc main_arg8)) (m ((c : Thread nD τ).loc main_arg11)) := by
  rw [W11_of m ρ c main_v2_3 (by decide +kernel), W10_of m ρ c main_v2_3 (by decide +kernel), W9_of m ρ c main_v2_3 (by decide +kernel), W8_of m ρ c main_v2_3 (by decide +kernel), W7_of m ρ c main_v2_3 (by decide +kernel), W6_of m ρ c main_v2_3 (by decide +kernel), W5_of m ρ c main_v2_3 (by decide +kernel), W4_of m ρ c main_v2_3 (by decide +kernel)]
  exact (W3_arr m ρ c 7).trans ((final2_7 (V2 m ρ) c).trans (congrArg₂ second1024x448 (W2_args m ρ c main_arg8 (by decide)) (W2_args m ρ c main_arg11 (by decide))))

/-- The call of ssm_glu_w. -/
theorem end3_0 (c : Dev nD) : (W11 m ρ c (Proc.devRef .tc main_v3_0) : FVec Ideal S64x512 .f32) = sum64x512 (m ((c : Thread nD τ).loc main_arg12)) := by
  rw [W11_of m ρ c main_v3_0 (by decide +kernel), W10_of m ρ c main_v3_0 (by decide +kernel), W9_of m ρ c main_v3_0 (by decide +kernel), W8_of m ρ c main_v3_0 (by decide +kernel), W7_of m ρ c main_v3_0 (by decide +kernel), W6_of m ρ c main_v3_0 (by decide +kernel), W5_of m ρ c main_v3_0 (by decide +kernel)]
  exact (W4_arr m ρ c 4).trans ((final3_4 (V3 m ρ) c).trans (congrArg sum64x512 (W3_args m ρ c main_arg12 (by decide))))

theorem end3_1 (c : Dev nD) : (W11 m ρ c (Proc.devRef .tc main_v3_1) : FVec Ideal S64x512 .f32) = change64x512 (m ((c : Thread nD τ).loc main_arg12)) (m ((c : Thread nD τ).loc main_arg13)) (m ((c : Thread nD τ).loc main_arg14)) (m ((c : Thread nD τ).loc main_arg15)) := by
  rw [W11_of m ρ c main_v3_1 (by decide +kernel), W10_of m ρ c main_v3_1 (by decide +kernel), W9_of m ρ c main_v3_1 (by decide +kernel), W8_of m ρ c main_v3_1 (by decide +kernel), W7_of m ρ c main_v3_1 (by decide +kernel), W6_of m ρ c main_v3_1 (by decide +kernel), W5_of m ρ c main_v3_1 (by decide +kernel)]
  exact (W4_arr m ρ c 5).trans ((final3_5 (V3 m ρ) c).trans (congr (congr (congrArg₂ change64x512 (W3_args m ρ c main_arg12 (by decide)) (W3_args m ρ c main_arg13 (by decide))) (W3_args m ρ c main_arg14 (by decide))) (W3_args m ρ c main_arg15 (by decide))))

theorem end3_2 (c : Dev nD) : (W11 m ρ c (Proc.devRef .tc main_v3_2) : FVec Ideal S64x512 .f32) = first64x512 (m ((c : Thread nD τ).loc main_arg12)) (m ((c : Thread nD τ).loc main_arg14)) := by
  rw [W11_of m ρ c main_v3_2 (by decide +kernel), W10_of m ρ c main_v3_2 (by decide +kernel), W9_of m ρ c main_v3_2 (by decide +kernel), W8_of m ρ c main_v3_2 (by decide +kernel), W7_of m ρ c main_v3_2 (by decide +kernel), W6_of m ρ c main_v3_2 (by decide +kernel), W5_of m ρ c main_v3_2 (by decide +kernel)]
  exact (W4_arr m ρ c 6).trans ((final3_6 (V3 m ρ) c).trans (congrArg₂ first64x512 (W3_args m ρ c main_arg12 (by decide)) (W3_args m ρ c main_arg14 (by decide))))

theorem end3_3 (c : Dev nD) : (W11 m ρ c (Proc.devRef .tc main_v3_3) : FVec Ideal S64x512 .f32) = second64x512 (m ((c : Thread nD τ).loc main_arg12)) (m ((c : Thread nD τ).loc main_arg15)) := by
  rw [W11_of m ρ c main_v3_3 (by decide +kernel), W10_of m ρ c main_v3_3 (by decide +kernel), W9_of m ρ c main_v3_3 (by decide +kernel), W8_of m ρ c main_v3_3 (by decide +kernel), W7_of m ρ c main_v3_3 (by decide +kernel), W6_of m ρ c main_v3_3 (by decide +kernel), W5_of m ρ c main_v3_3 (by decide +kernel)]
  exact (W4_arr m ρ c 7).trans ((final3_7 (V3 m ρ) c).trans (congrArg₂ second64x512 (W3_args m ρ c main_arg12 (by decide)) (W3_args m ρ c main_arg15 (by decide))))

/-- The call of up_a. -/
theorem end4_0 (c : Dev nD) : (W11 m ρ c (Proc.devRef .tc main_v4_0) : FVec Ideal S512x128 .f32) = sum512x128 (m ((c : Thread nD τ).loc main_arg16)) := by
  rw [W11_of m ρ c main_v4_0 (by decide +kernel), W10_of m ρ c main_v4_0 (by decide +kernel), W9_of m ρ c main_v4_0 (by decide +kernel), W8_of m ρ c main_v4_0 (by decide +kernel), W7_of m ρ c main_v4_0 (by decide +kernel), W6_of m ρ c main_v4_0 (by decide +kernel)]
  exact (W5_arr m ρ c 4).trans ((final4_4 (V4 m ρ) c).trans (congrArg sum512x128 (W4_args m ρ c main_arg16 (by decide))))

theorem end4_1 (c : Dev nD) : (W11 m ρ c (Proc.devRef .tc main_v4_1) : FVec Ideal S512x128 .f32) = change512x128 (m ((c : Thread nD τ).loc main_arg16)) (m ((c : Thread nD τ).loc main_arg17)) (m ((c : Thread nD τ).loc main_arg18)) (m ((c : Thread nD τ).loc main_arg19)) := by
  rw [W11_of m ρ c main_v4_1 (by decide +kernel), W10_of m ρ c main_v4_1 (by decide +kernel), W9_of m ρ c main_v4_1 (by decide +kernel), W8_of m ρ c main_v4_1 (by decide +kernel), W7_of m ρ c main_v4_1 (by decide +kernel), W6_of m ρ c main_v4_1 (by decide +kernel)]
  exact (W5_arr m ρ c 5).trans ((final4_5 (V4 m ρ) c).trans (congr (congr (congrArg₂ change512x128 (W4_args m ρ c main_arg16 (by decide)) (W4_args m ρ c main_arg17 (by decide))) (W4_args m ρ c main_arg18 (by decide))) (W4_args m ρ c main_arg19 (by decide))))

theorem end4_2 (c : Dev nD) : (W11 m ρ c (Proc.devRef .tc main_v4_2) : FVec Ideal S512x128 .f32) = first512x128 (m ((c : Thread nD τ).loc main_arg16)) (m ((c : Thread nD τ).loc main_arg18)) := by
  rw [W11_of m ρ c main_v4_2 (by decide +kernel), W10_of m ρ c main_v4_2 (by decide +kernel), W9_of m ρ c main_v4_2 (by decide +kernel), W8_of m ρ c main_v4_2 (by decide +kernel), W7_of m ρ c main_v4_2 (by decide +kernel), W6_of m ρ c main_v4_2 (by decide +kernel)]
  exact (W5_arr m ρ c 6).trans ((final4_6 (V4 m ρ) c).trans (congrArg₂ first512x128 (W4_args m ρ c main_arg16 (by decide)) (W4_args m ρ c main_arg18 (by decide))))

theorem end4_3 (c : Dev nD) : (W11 m ρ c (Proc.devRef .tc main_v4_3) : FVec Ideal S512x128 .f32) = second512x128 (m ((c : Thread nD τ).loc main_arg16)) (m ((c : Thread nD τ).loc main_arg19)) := by
  rw [W11_of m ρ c main_v4_3 (by decide +kernel), W10_of m ρ c main_v4_3 (by decide +kernel), W9_of m ρ c main_v4_3 (by decide +kernel), W8_of m ρ c main_v4_3 (by decide +kernel), W7_of m ρ c main_v4_3 (by decide +kernel), W6_of m ρ c main_v4_3 (by decide +kernel)]
  exact (W5_arr m ρ c 7).trans ((final4_7 (V4 m ρ) c).trans (congrArg₂ second512x128 (W4_args m ρ c main_arg16 (by decide)) (W4_args m ρ c main_arg19 (by decide))))

/-- The call of up_b. -/
theorem end5_0 (c : Dev nD) : (W11 m ρ c (Proc.devRef .tc main_v5_0) : FVec Ideal S512x128 .f32) = sum512x128 (m ((c : Thread nD τ).loc main_arg20)) := by
  rw [W11_of m ρ c main_v5_0 (by decide +kernel), W10_of m ρ c main_v5_0 (by decide +kernel), W9_of m ρ c main_v5_0 (by decide +kernel), W8_of m ρ c main_v5_0 (by decide +kernel), W7_of m ρ c main_v5_0 (by decide +kernel)]
  exact (W6_arr m ρ c 4).trans ((final5_4 (V5 m ρ) c).trans (congrArg sum512x128 (W5_args m ρ c main_arg20 (by decide))))

theorem end5_1 (c : Dev nD) : (W11 m ρ c (Proc.devRef .tc main_v5_1) : FVec Ideal S512x128 .f32) = change512x128 (m ((c : Thread nD τ).loc main_arg20)) (m ((c : Thread nD τ).loc main_arg21)) (m ((c : Thread nD τ).loc main_arg22)) (m ((c : Thread nD τ).loc main_arg23)) := by
  rw [W11_of m ρ c main_v5_1 (by decide +kernel), W10_of m ρ c main_v5_1 (by decide +kernel), W9_of m ρ c main_v5_1 (by decide +kernel), W8_of m ρ c main_v5_1 (by decide +kernel), W7_of m ρ c main_v5_1 (by decide +kernel)]
  exact (W6_arr m ρ c 5).trans ((final5_5 (V5 m ρ) c).trans (congr (congr (congrArg₂ change512x128 (W5_args m ρ c main_arg20 (by decide)) (W5_args m ρ c main_arg21 (by decide))) (W5_args m ρ c main_arg22 (by decide))) (W5_args m ρ c main_arg23 (by decide))))

theorem end5_2 (c : Dev nD) : (W11 m ρ c (Proc.devRef .tc main_v5_2) : FVec Ideal S512x128 .f32) = first512x128 (m ((c : Thread nD τ).loc main_arg20)) (m ((c : Thread nD τ).loc main_arg22)) := by
  rw [W11_of m ρ c main_v5_2 (by decide +kernel), W10_of m ρ c main_v5_2 (by decide +kernel), W9_of m ρ c main_v5_2 (by decide +kernel), W8_of m ρ c main_v5_2 (by decide +kernel), W7_of m ρ c main_v5_2 (by decide +kernel)]
  exact (W6_arr m ρ c 6).trans ((final5_6 (V5 m ρ) c).trans (congrArg₂ first512x128 (W5_args m ρ c main_arg20 (by decide)) (W5_args m ρ c main_arg22 (by decide))))

theorem end5_3 (c : Dev nD) : (W11 m ρ c (Proc.devRef .tc main_v5_3) : FVec Ideal S512x128 .f32) = second512x128 (m ((c : Thread nD τ).loc main_arg20)) (m ((c : Thread nD τ).loc main_arg23)) := by
  rw [W11_of m ρ c main_v5_3 (by decide +kernel), W10_of m ρ c main_v5_3 (by decide +kernel), W9_of m ρ c main_v5_3 (by decide +kernel), W8_of m ρ c main_v5_3 (by decide +kernel), W7_of m ρ c main_v5_3 (by decide +kernel)]
  exact (W6_arr m ρ c 7).trans ((final5_7 (V5 m ρ) c).trans (congrArg₂ second512x128 (W5_args m ρ c main_arg20 (by decide)) (W5_args m ρ c main_arg23 (by decide))))

/-- The call of mix_w_out. -/
theorem end6_0 (c : Dev nD) : (W11 m ρ c (Proc.devRef .tc main_v6_0) : FVec Ideal S128x1024 .f32) = sum128x1024 (m ((c : Thread nD τ).loc main_arg24)) := by
  rw [W11_of m ρ c main_v6_0 (by decide +kernel), W10_of m ρ c main_v6_0 (by decide +kernel), W9_of m ρ c main_v6_0 (by decide +kernel), W8_of m ρ c main_v6_0 (by decide +kernel)]
  exact (W7_arr m ρ c 4).trans ((final6_4 (V6 m ρ) c).trans (congrArg sum128x1024 (W6_args m ρ c main_arg24 (by decide))))

theorem end6_1 (c : Dev nD) : (W11 m ρ c (Proc.devRef .tc main_v6_1) : FVec Ideal S128x1024 .f32) = change128x1024 (m ((c : Thread nD τ).loc main_arg24)) (m ((c : Thread nD τ).loc main_arg25)) (m ((c : Thread nD τ).loc main_arg26)) (m ((c : Thread nD τ).loc main_arg27)) := by
  rw [W11_of m ρ c main_v6_1 (by decide +kernel), W10_of m ρ c main_v6_1 (by decide +kernel), W9_of m ρ c main_v6_1 (by decide +kernel), W8_of m ρ c main_v6_1 (by decide +kernel)]
  exact (W7_arr m ρ c 5).trans ((final6_5 (V6 m ρ) c).trans (congr (congr (congrArg₂ change128x1024 (W6_args m ρ c main_arg24 (by decide)) (W6_args m ρ c main_arg25 (by decide))) (W6_args m ρ c main_arg26 (by decide))) (W6_args m ρ c main_arg27 (by decide))))

theorem end6_2 (c : Dev nD) : (W11 m ρ c (Proc.devRef .tc main_v6_2) : FVec Ideal S128x1024 .f32) = first128x1024 (m ((c : Thread nD τ).loc main_arg24)) (m ((c : Thread nD τ).loc main_arg26)) := by
  rw [W11_of m ρ c main_v6_2 (by decide +kernel), W10_of m ρ c main_v6_2 (by decide +kernel), W9_of m ρ c main_v6_2 (by decide +kernel), W8_of m ρ c main_v6_2 (by decide +kernel)]
  exact (W7_arr m ρ c 6).trans ((final6_6 (V6 m ρ) c).trans (congrArg₂ first128x1024 (W6_args m ρ c main_arg24 (by decide)) (W6_args m ρ c main_arg26 (by decide))))

theorem end6_3 (c : Dev nD) : (W11 m ρ c (Proc.devRef .tc main_v6_3) : FVec Ideal S128x1024 .f32) = second128x1024 (m ((c : Thread nD τ).loc main_arg24)) (m ((c : Thread nD τ).loc main_arg27)) := by
  rw [W11_of m ρ c main_v6_3 (by decide +kernel), W10_of m ρ c main_v6_3 (by decide +kernel), W9_of m ρ c main_v6_3 (by decide +kernel), W8_of m ρ c main_v6_3 (by decide +kernel)]
  exact (W7_arr m ρ c 7).trans ((final6_7 (V6 m ρ) c).trans (congrArg₂ second128x1024 (W6_args m ρ c main_arg24 (by decide)) (W6_args m ρ c main_arg27 (by decide))))

/-- The call of ffn2_w_in. -/
theorem end7_0 (c : Dev nD) : (W11 m ρ c (Proc.devRef .tc main_v7_0) : FVec Ideal S1024x704 .f32) = sum1024x704 (m ((c : Thread nD τ).loc main_arg28)) := by
  rw [W11_of m ρ c main_v7_0 (by decide +kernel), W10_of m ρ c main_v7_0 (by decide +kernel), W9_of m ρ c main_v7_0 (by decide +kernel)]
  exact (W8_arr m ρ c 4).trans ((final7_4 (V7 m ρ) c).trans (congrArg sum1024x704 (W7_args m ρ c main_arg28 (by decide))))

theorem end7_1 (c : Dev nD) : (W11 m ρ c (Proc.devRef .tc main_v7_1) : FVec Ideal S1024x704 .f32) = change1024x704 (m ((c : Thread nD τ).loc main_arg28)) (m ((c : Thread nD τ).loc main_arg29)) (m ((c : Thread nD τ).loc main_arg30)) (m ((c : Thread nD τ).loc main_arg31)) := by
  rw [W11_of m ρ c main_v7_1 (by decide +kernel), W10_of m ρ c main_v7_1 (by decide +kernel), W9_of m ρ c main_v7_1 (by decide +kernel)]
  exact (W8_arr m ρ c 5).trans ((final7_5 (V7 m ρ) c).trans (congr (congr (congrArg₂ change1024x704 (W7_args m ρ c main_arg28 (by decide)) (W7_args m ρ c main_arg29 (by decide))) (W7_args m ρ c main_arg30 (by decide))) (W7_args m ρ c main_arg31 (by decide))))

theorem end7_2 (c : Dev nD) : (W11 m ρ c (Proc.devRef .tc main_v7_2) : FVec Ideal S1024x704 .f32) = first1024x704 (m ((c : Thread nD τ).loc main_arg28)) (m ((c : Thread nD τ).loc main_arg30)) := by
  rw [W11_of m ρ c main_v7_2 (by decide +kernel), W10_of m ρ c main_v7_2 (by decide +kernel), W9_of m ρ c main_v7_2 (by decide +kernel)]
  exact (W8_arr m ρ c 6).trans ((final7_6 (V7 m ρ) c).trans (congrArg₂ first1024x704 (W7_args m ρ c main_arg28 (by decide)) (W7_args m ρ c main_arg30 (by decide))))

theorem end7_3 (c : Dev nD) : (W11 m ρ c (Proc.devRef .tc main_v7_3) : FVec Ideal S1024x704 .f32) = second1024x704 (m ((c : Thread nD τ).loc main_arg28)) (m ((c : Thread nD τ).loc main_arg31)) := by
  rw [W11_of m ρ c main_v7_3 (by decide +kernel), W10_of m ρ c main_v7_3 (by decide +kernel), W9_of m ρ c main_v7_3 (by decide +kernel)]
  exact (W8_arr m ρ c 7).trans ((final7_7 (V7 m ρ) c).trans (congrArg₂ second1024x704 (W7_args m ρ c main_arg28 (by decide)) (W7_args m ρ c main_arg31 (by decide))))

/-- The call of ffn2_w_out. -/
theorem end8_0 (c : Dev nD) : (W11 m ρ c (Proc.devRef .tc main_v8_0) : FVec Ideal S352x1024 .f32) = sum352x1024 (m ((c : Thread nD τ).loc main_arg32)) := by
  rw [W11_of m ρ c main_v8_0 (by decide +kernel), W10_of m ρ c main_v8_0 (by decide +kernel)]
  exact (W9_arr m ρ c 4).trans ((final8_4 (V8 m ρ) c).trans (congrArg sum352x1024 (W8_args m ρ c main_arg32 (by decide))))

theorem end8_1 (c : Dev nD) : (W11 m ρ c (Proc.devRef .tc main_v8_1) : FVec Ideal S352x1024 .f32) = change352x1024 (m ((c : Thread nD τ).loc main_arg32)) (m ((c : Thread nD τ).loc main_arg33)) (m ((c : Thread nD τ).loc main_arg34)) (m ((c : Thread nD τ).loc main_arg35)) := by
  rw [W11_of m ρ c main_v8_1 (by decide +kernel), W10_of m ρ c main_v8_1 (by decide +kernel)]
  exact (W9_arr m ρ c 5).trans ((final8_5 (V8 m ρ) c).trans (congr (congr (congrArg₂ change352x1024 (W8_args m ρ c main_arg32 (by decide)) (W8_args m ρ c main_arg33 (by decide))) (W8_args m ρ c main_arg34 (by decide))) (W8_args m ρ c main_arg35 (by decide))))

theorem end8_2 (c : Dev nD) : (W11 m ρ c (Proc.devRef .tc main_v8_2) : FVec Ideal S352x1024 .f32) = first352x1024 (m ((c : Thread nD τ).loc main_arg32)) (m ((c : Thread nD τ).loc main_arg34)) := by
  rw [W11_of m ρ c main_v8_2 (by decide +kernel), W10_of m ρ c main_v8_2 (by decide +kernel)]
  exact (W9_arr m ρ c 6).trans ((final8_6 (V8 m ρ) c).trans (congrArg₂ first352x1024 (W8_args m ρ c main_arg32 (by decide)) (W8_args m ρ c main_arg34 (by decide))))

theorem end8_3 (c : Dev nD) : (W11 m ρ c (Proc.devRef .tc main_v8_3) : FVec Ideal S352x1024 .f32) = second352x1024 (m ((c : Thread nD τ).loc main_arg32)) (m ((c : Thread nD τ).loc main_arg35)) := by
  rw [W11_of m ρ c main_v8_3 (by decide +kernel), W10_of m ρ c main_v8_3 (by decide +kernel)]
  exact (W9_arr m ρ c 7).trans ((final8_7 (V8 m ρ) c).trans (congrArg₂ second352x1024 (W8_args m ρ c main_arg32 (by decide)) (W8_args m ρ c main_arg35 (by decide))))

/-- The call of ple_w_proj. -/
theorem end9_0 (c : Dev nD) : (W11 m ρ c (Proc.devRef .tc main_v9_0) : FVec Ideal S256x128 .f32) = sum256x128 (m ((c : Thread nD τ).loc main_arg36)) := by
  rw [W11_of m ρ c main_v9_0 (by decide +kernel)]
  exact (W10_arr m ρ c 4).trans ((final9_4 (V9 m ρ) c).trans (congrArg sum256x128 (W9_args m ρ c main_arg36 (by decide))))

theorem end9_1 (c : Dev nD) : (W11 m ρ c (Proc.devRef .tc main_v9_1) : FVec Ideal S256x128 .f32) = change256x128 (m ((c : Thread nD τ).loc main_arg36)) (m ((c : Thread nD τ).loc main_arg37)) (m ((c : Thread nD τ).loc main_arg38)) (m ((c : Thread nD τ).loc main_arg39)) := by
  rw [W11_of m ρ c main_v9_1 (by decide +kernel)]
  exact (W10_arr m ρ c 5).trans ((final9_5 (V9 m ρ) c).trans (congr (congr (congrArg₂ change256x128 (W9_args m ρ c main_arg36 (by decide)) (W9_args m ρ c main_arg37 (by decide))) (W9_args m ρ c main_arg38 (by decide))) (W9_args m ρ c main_arg39 (by decide))))

theorem end9_2 (c : Dev nD) : (W11 m ρ c (Proc.devRef .tc main_v9_2) : FVec Ideal S256x128 .f32) = first256x128 (m ((c : Thread nD τ).loc main_arg36)) (m ((c : Thread nD τ).loc main_arg38)) := by
  rw [W11_of m ρ c main_v9_2 (by decide +kernel)]
  exact (W10_arr m ρ c 6).trans ((final9_6 (V9 m ρ) c).trans (congrArg₂ first256x128 (W9_args m ρ c main_arg36 (by decide)) (W9_args m ρ c main_arg38 (by decide))))

theorem end9_3 (c : Dev nD) : (W11 m ρ c (Proc.devRef .tc main_v9_3) : FVec Ideal S256x128 .f32) = second256x128 (m ((c : Thread nD τ).loc main_arg36)) (m ((c : Thread nD τ).loc main_arg39)) := by
  rw [W11_of m ρ c main_v9_3 (by decide +kernel)]
  exact (W10_arr m ρ c 7).trans ((final9_7 (V9 m ρ) c).trans (congrArg₂ second256x128 (W9_args m ρ c main_arg36 (by decide)) (W9_args m ρ c main_arg39 (by decide))))

/-- The call of ple_w_gate. -/
theorem end10_0 (c : Dev nD) : (W11 m ρ c (Proc.devRef .tc main_v10_0) : FVec Ideal S128x1024 .f32) = sum128x1024 (m ((c : Thread nD τ).loc main_arg40)) := by
  exact (W11_arr m ρ c 4).trans ((final10_4 (V10 m ρ) c).trans (congrArg sum128x1024 (W10_args m ρ c main_arg40 (by decide))))

theorem end10_1 (c : Dev nD) : (W11 m ρ c (Proc.devRef .tc main_v10_1) : FVec Ideal S128x1024 .f32) = change128x1024 (m ((c : Thread nD τ).loc main_arg40)) (m ((c : Thread nD τ).loc main_arg41)) (m ((c : Thread nD τ).loc main_arg42)) (m ((c : Thread nD τ).loc main_arg43)) := by
  exact (W11_arr m ρ c 5).trans ((final10_5 (V10 m ρ) c).trans (congr (congr (congrArg₂ change128x1024 (W10_args m ρ c main_arg40 (by decide)) (W10_args m ρ c main_arg41 (by decide))) (W10_args m ρ c main_arg42 (by decide))) (W10_args m ρ c main_arg43 (by decide))))

theorem end10_2 (c : Dev nD) : (W11 m ρ c (Proc.devRef .tc main_v10_2) : FVec Ideal S128x1024 .f32) = first128x1024 (m ((c : Thread nD τ).loc main_arg40)) (m ((c : Thread nD τ).loc main_arg42)) := by
  exact (W11_arr m ρ c 6).trans ((final10_6 (V10 m ρ) c).trans (congrArg₂ first128x1024 (W10_args m ρ c main_arg40 (by decide)) (W10_args m ρ c main_arg42 (by decide))))

theorem end10_3 (c : Dev nD) : (W11 m ρ c (Proc.devRef .tc main_v10_3) : FVec Ideal S128x1024 .f32) = second128x1024 (m ((c : Thread nD τ).loc main_arg40)) (m ((c : Thread nD τ).loc main_arg43)) := by
  exact (W11_arr m ρ c 7).trans ((final10_7 (V10 m ρ) c).trans (congrArg₂ second128x1024 (W10_args m ρ c main_arg40 (by decide)) (W10_args m ρ c main_arg43 (by decide))))

end Cert.Kernel6Ideal.Update

end
-- ==== Proof.UpdateEqual.lean ====
/-
  The optimiser's arrays against the reference's stages: the sum over the devices, and the same step at each entry.
-/
module

public import proofs.«01_k».proof.Proof.UpdateSpec
public import proofs.«01_k».proof.Proof.Consts
public import proofs.«01_k».proof.Proof.Gen.Reference6Ideal.Read

@[expose] public section

set_option maxRecDepth 16384

noncomputable section

open Idealize.ShloMosaic Idealize.ShloMosaic.TcCoe Idealize.SL.Sem
open Idealize.ShloMosaic.Pipeline (Dat)

namespace Cert.Update

open Cert.Kernel6Ideal.Update
open Cert.Reference6Ideal Cert.Reference6Ideal.Read

theorem sum0_eq (x : FVec Ideal Cert.Kernel6Ideal.S8x1024x704 .bf16) : sum1024x704 x = val_main_v1 (F := Ideal) x := by
  funext i
  rw [val_main_v1_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first0_eq (x : FVec Ideal Cert.Kernel6Ideal.S8x1024x704 .bf16) (m : FVec Ideal Cert.Kernel6Ideal.S1024x704 .f32) : first1024x704 x m = val_main_v6 (F := Ideal) x m := by
  funext i
  unfold first1024x704
  rw [sum0_eq]
  rfl

theorem second0_eq (x : FVec Ideal Cert.Kernel6Ideal.S8x1024x704 .bf16) (v : FVec Ideal Cert.Kernel6Ideal.S1024x704 .f32) : second1024x704 x v = val_main_v12 (F := Ideal) x v := by
  funext i
  unfold second1024x704
  rw [sum0_eq]
  rfl

theorem change0_eq (x : FVec Ideal Cert.Kernel6Ideal.S8x1024x704 .bf16) (w m v : FVec Ideal Cert.Kernel6Ideal.S1024x704 .f32) : change1024x704 x w m v = val_main_v25 (F := Ideal) x w m v := by
  funext i
  unfold change1024x704
  rw [sum0_eq]
  rfl

theorem sum1_eq (x : FVec Ideal Cert.Kernel6Ideal.S8x352x1024 .bf16) : sum352x1024 x = val_main_v27 (F := Ideal) x := by
  funext i
  rw [val_main_v27_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first1_eq (x : FVec Ideal Cert.Kernel6Ideal.S8x352x1024 .bf16) (m : FVec Ideal Cert.Kernel6Ideal.S352x1024 .f32) : first352x1024 x m = val_main_v32 (F := Ideal) x m := by
  funext i
  unfold first352x1024
  rw [sum1_eq]
  rfl

theorem second1_eq (x : FVec Ideal Cert.Kernel6Ideal.S8x352x1024 .bf16) (v : FVec Ideal Cert.Kernel6Ideal.S352x1024 .f32) : second352x1024 x v = val_main_v38 (F := Ideal) x v := by
  funext i
  unfold second352x1024
  rw [sum1_eq]
  rfl

theorem change1_eq (x : FVec Ideal Cert.Kernel6Ideal.S8x352x1024 .bf16) (w m v : FVec Ideal Cert.Kernel6Ideal.S352x1024 .f32) : change352x1024 x w m v = val_main_v51 (F := Ideal) x w m v := by
  funext i
  unfold change352x1024
  rw [sum1_eq]
  rfl

theorem sum2_eq (x : FVec Ideal Cert.Kernel6Ideal.S8x1024x448 .bf16) : sum1024x448 x = val_main_v53 (F := Ideal) x := by
  funext i
  rw [val_main_v53_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first2_eq (x : FVec Ideal Cert.Kernel6Ideal.S8x1024x448 .bf16) (m : FVec Ideal Cert.Kernel6Ideal.S1024x448 .f32) : first1024x448 x m = val_main_v58 (F := Ideal) x m := by
  funext i
  unfold first1024x448
  rw [sum2_eq]
  rfl

theorem second2_eq (x : FVec Ideal Cert.Kernel6Ideal.S8x1024x448 .bf16) (v : FVec Ideal Cert.Kernel6Ideal.S1024x448 .f32) : second1024x448 x v = val_main_v64 (F := Ideal) x v := by
  funext i
  unfold second1024x448
  rw [sum2_eq]
  rfl

theorem change2_eq (x : FVec Ideal Cert.Kernel6Ideal.S8x1024x448 .bf16) (w m v : FVec Ideal Cert.Kernel6Ideal.S1024x448 .f32) : change1024x448 x w m v = val_main_v77 (F := Ideal) x w m v := by
  funext i
  unfold change1024x448
  rw [sum2_eq]
  rfl

theorem sum3_eq (x : FVec Ideal Cert.Kernel6Ideal.S8x64x512 .bf16) : sum64x512 x = val_main_v79 (F := Ideal) x := by
  funext i
  rw [val_main_v79_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first3_eq (x : FVec Ideal Cert.Kernel6Ideal.S8x64x512 .bf16) (m : FVec Ideal Cert.Kernel6Ideal.S64x512 .f32) : first64x512 x m = val_main_v84 (F := Ideal) x m := by
  funext i
  unfold first64x512
  rw [sum3_eq]
  rfl

theorem second3_eq (x : FVec Ideal Cert.Kernel6Ideal.S8x64x512 .bf16) (v : FVec Ideal Cert.Kernel6Ideal.S64x512 .f32) : second64x512 x v = val_main_v90 (F := Ideal) x v := by
  funext i
  unfold second64x512
  rw [sum3_eq]
  rfl

theorem change3_eq (x : FVec Ideal Cert.Kernel6Ideal.S8x64x512 .bf16) (w m v : FVec Ideal Cert.Kernel6Ideal.S64x512 .f32) : change64x512 x w m v = val_main_v103 (F := Ideal) x w m v := by
  funext i
  unfold change64x512
  rw [sum3_eq]
  rfl

theorem sum4_eq (x : FVec Ideal Cert.Kernel6Ideal.S8x512x128 .bf16) : sum512x128 x = val_main_v105 (F := Ideal) x := by
  funext i
  rw [val_main_v105_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first4_eq (x : FVec Ideal Cert.Kernel6Ideal.S8x512x128 .bf16) (m : FVec Ideal Cert.Kernel6Ideal.S512x128 .f32) : first512x128 x m = val_main_v110 (F := Ideal) x m := by
  funext i
  unfold first512x128
  rw [sum4_eq]
  rfl

theorem second4_eq (x : FVec Ideal Cert.Kernel6Ideal.S8x512x128 .bf16) (v : FVec Ideal Cert.Kernel6Ideal.S512x128 .f32) : second512x128 x v = val_main_v116 (F := Ideal) x v := by
  funext i
  unfold second512x128
  rw [sum4_eq]
  rfl

theorem change4_eq (x : FVec Ideal Cert.Kernel6Ideal.S8x512x128 .bf16) (w m v : FVec Ideal Cert.Kernel6Ideal.S512x128 .f32) : change512x128 x w m v = val_main_v129 (F := Ideal) x w m v := by
  funext i
  unfold change512x128
  rw [sum4_eq]
  rfl

theorem sum5_eq (x : FVec Ideal Cert.Kernel6Ideal.S8x512x128 .bf16) : sum512x128 x = val_main_v131 (F := Ideal) x := by
  funext i
  rw [val_main_v131_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first5_eq (x : FVec Ideal Cert.Kernel6Ideal.S8x512x128 .bf16) (m : FVec Ideal Cert.Kernel6Ideal.S512x128 .f32) : first512x128 x m = val_main_v136 (F := Ideal) x m := by
  funext i
  unfold first512x128
  rw [sum5_eq]
  rfl

theorem second5_eq (x : FVec Ideal Cert.Kernel6Ideal.S8x512x128 .bf16) (v : FVec Ideal Cert.Kernel6Ideal.S512x128 .f32) : second512x128 x v = val_main_v142 (F := Ideal) x v := by
  funext i
  unfold second512x128
  rw [sum5_eq]
  rfl

theorem change5_eq (x : FVec Ideal Cert.Kernel6Ideal.S8x512x128 .bf16) (w m v : FVec Ideal Cert.Kernel6Ideal.S512x128 .f32) : change512x128 x w m v = val_main_v155 (F := Ideal) x w m v := by
  funext i
  unfold change512x128
  rw [sum5_eq]
  rfl

theorem sum6_eq (x : FVec Ideal Cert.Kernel6Ideal.S8x128x1024 .bf16) : sum128x1024 x = val_main_v157 (F := Ideal) x := by
  funext i
  rw [val_main_v157_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first6_eq (x : FVec Ideal Cert.Kernel6Ideal.S8x128x1024 .bf16) (m : FVec Ideal Cert.Kernel6Ideal.S128x1024 .f32) : first128x1024 x m = val_main_v162 (F := Ideal) x m := by
  funext i
  unfold first128x1024
  rw [sum6_eq]
  rfl

theorem second6_eq (x : FVec Ideal Cert.Kernel6Ideal.S8x128x1024 .bf16) (v : FVec Ideal Cert.Kernel6Ideal.S128x1024 .f32) : second128x1024 x v = val_main_v168 (F := Ideal) x v := by
  funext i
  unfold second128x1024
  rw [sum6_eq]
  rfl

theorem change6_eq (x : FVec Ideal Cert.Kernel6Ideal.S8x128x1024 .bf16) (w m v : FVec Ideal Cert.Kernel6Ideal.S128x1024 .f32) : change128x1024 x w m v = val_main_v181 (F := Ideal) x w m v := by
  funext i
  unfold change128x1024
  rw [sum6_eq]
  rfl

theorem sum7_eq (x : FVec Ideal Cert.Kernel6Ideal.S8x1024x704 .bf16) : sum1024x704 x = val_main_v183 (F := Ideal) x := by
  funext i
  rw [val_main_v183_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first7_eq (x : FVec Ideal Cert.Kernel6Ideal.S8x1024x704 .bf16) (m : FVec Ideal Cert.Kernel6Ideal.S1024x704 .f32) : first1024x704 x m = val_main_v188 (F := Ideal) x m := by
  funext i
  unfold first1024x704
  rw [sum7_eq]
  rfl

theorem second7_eq (x : FVec Ideal Cert.Kernel6Ideal.S8x1024x704 .bf16) (v : FVec Ideal Cert.Kernel6Ideal.S1024x704 .f32) : second1024x704 x v = val_main_v194 (F := Ideal) x v := by
  funext i
  unfold second1024x704
  rw [sum7_eq]
  rfl

theorem change7_eq (x : FVec Ideal Cert.Kernel6Ideal.S8x1024x704 .bf16) (w m v : FVec Ideal Cert.Kernel6Ideal.S1024x704 .f32) : change1024x704 x w m v = val_main_v207 (F := Ideal) x w m v := by
  funext i
  unfold change1024x704
  rw [sum7_eq]
  rfl

theorem sum8_eq (x : FVec Ideal Cert.Kernel6Ideal.S8x352x1024 .bf16) : sum352x1024 x = val_main_v209 (F := Ideal) x := by
  funext i
  rw [val_main_v209_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first8_eq (x : FVec Ideal Cert.Kernel6Ideal.S8x352x1024 .bf16) (m : FVec Ideal Cert.Kernel6Ideal.S352x1024 .f32) : first352x1024 x m = val_main_v214 (F := Ideal) x m := by
  funext i
  unfold first352x1024
  rw [sum8_eq]
  rfl

theorem second8_eq (x : FVec Ideal Cert.Kernel6Ideal.S8x352x1024 .bf16) (v : FVec Ideal Cert.Kernel6Ideal.S352x1024 .f32) : second352x1024 x v = val_main_v220 (F := Ideal) x v := by
  funext i
  unfold second352x1024
  rw [sum8_eq]
  rfl

theorem change8_eq (x : FVec Ideal Cert.Kernel6Ideal.S8x352x1024 .bf16) (w m v : FVec Ideal Cert.Kernel6Ideal.S352x1024 .f32) : change352x1024 x w m v = val_main_v233 (F := Ideal) x w m v := by
  funext i
  unfold change352x1024
  rw [sum8_eq]
  rfl

theorem sum9_eq (x : FVec Ideal Cert.Kernel6Ideal.S8x256x128 .bf16) : sum256x128 x = val_main_v235 (F := Ideal) x := by
  funext i
  rw [val_main_v235_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first9_eq (x : FVec Ideal Cert.Kernel6Ideal.S8x256x128 .bf16) (m : FVec Ideal Cert.Kernel6Ideal.S256x128 .f32) : first256x128 x m = val_main_v240 (F := Ideal) x m := by
  funext i
  unfold first256x128
  rw [sum9_eq]
  rfl

theorem second9_eq (x : FVec Ideal Cert.Kernel6Ideal.S8x256x128 .bf16) (v : FVec Ideal Cert.Kernel6Ideal.S256x128 .f32) : second256x128 x v = val_main_v246 (F := Ideal) x v := by
  funext i
  unfold second256x128
  rw [sum9_eq]
  rfl

theorem change9_eq (x : FVec Ideal Cert.Kernel6Ideal.S8x256x128 .bf16) (w m v : FVec Ideal Cert.Kernel6Ideal.S256x128 .f32) : change256x128 x w m v = val_main_v259 (F := Ideal) x w m v := by
  funext i
  unfold change256x128
  rw [sum9_eq]
  rfl

theorem sum10_eq (x : FVec Ideal Cert.Kernel6Ideal.S8x128x1024 .bf16) : sum128x1024 x = val_main_v261 (F := Ideal) x := by
  funext i
  rw [val_main_v261_apply]
  show _ = Ideal.ofBits .f32 0x00000000#32 + _
  rw [Cert.Consts.zero_word, EReal.coe_zero, zero_add]
  refine Finset.sum_congr rfl fun d _ => congrArg x (funext fun a => ?_)
  match a with
  | ⟨0, _⟩ => rfl
  | ⟨1, _⟩ => rfl
  | ⟨2, _⟩ => rfl

theorem first10_eq (x : FVec Ideal Cert.Kernel6Ideal.S8x128x1024 .bf16) (m : FVec Ideal Cert.Kernel6Ideal.S128x1024 .f32) : first128x1024 x m = val_main_v266 (F := Ideal) x m := by
  funext i
  unfold first128x1024
  rw [sum10_eq]
  rfl

theorem second10_eq (x : FVec Ideal Cert.Kernel6Ideal.S8x128x1024 .bf16) (v : FVec Ideal Cert.Kernel6Ideal.S128x1024 .f32) : second128x1024 x v = val_main_v272 (F := Ideal) x v := by
  funext i
  unfold second128x1024
  rw [sum10_eq]
  rfl

theorem change10_eq (x : FVec Ideal Cert.Kernel6Ideal.S8x128x1024 .bf16) (w m v : FVec Ideal Cert.Kernel6Ideal.S128x1024 .f32) : change128x1024 x w m v = val_main_v285 (F := Ideal) x w m v := by
  funext i
  unfold change128x1024
  rw [sum10_eq]
  rfl

end Cert.Update

end
-- ==== Proof.UpdateClaim.lean ====
/-
  The claims about the optimiser: the reference leaves its arguments as they were, and both programs end with the same arrays.
-/
module

public import proofs.«01_k».proof.Proof.UpdateRun
public import proofs.«01_k».proof.Proof.UpdateEqual
public import proofs.«01_k».proof.Proof.Finite
public import proofs.«01_k».proof.Proof.Gen.Reference6Ideal.Run

@[expose] public section

set_option maxRecDepth 16384

noncomputable section

open Idealize.ShloMosaic Idealize.ShloMosaic.TcCoe Idealize.SL.Sem

namespace Cert.Update

/-- The reference leaves its arguments as they were, whatever they are. -/
theorem referenceFrame : Cert.quiescent_Reference6Ideal (hReference6Ideal := Cert.Reference6Ideal.Gen.facts) := fun m ρ _ =>
  (θ_run Cert.Reference6Ideal.defs _ _).mono (fun r h => ⟨fun c => (h c).2.2.2.2.2.2.2.2.2.2.2.2.2.2.2.2.2.2.2.2.2.2.2.2.2.2.2.2.2.2.2.2.2.2.2.2.2.2.2.2.2.2.2.2, sem_eq_zero_of_no_sems (by decide) r.2⟩)
    (Cert.Reference6Ideal.Value.run (F := Ideal) m ρ)

section

open Cert.Kernel6Ideal Cert.Kernel6Ideal.Gen
open Cert.Kernel6Ideal.Update

variable (m : (ℓ : Loc nD τ sig) → Buf (Elt Ideal) ℓ)

set_option maxHeartbeats 4000000 in
/-- The kernel's run ends with the reference's arrays. -/
theorem kernelRun (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Cert.Reference6Ideal.Read.val_main_v1 (F := Ideal) (m ((c.tc : Thread nD τ).loc main_arg0))
      ∧ r.2.mem ((c.tc : Thread nD τ).loc main_v0_1) = Cert.Reference6Ideal.Read.val_main_v25 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_2) = Cert.Reference6Ideal.Read.val_main_v6 (F := Ideal) (m ((c.tc : Thread nD τ).loc main_arg0)) (m ((c.tc : Thread nD τ).loc main_arg2))
      ∧ r.2.mem ((c.tc : Thread nD τ).loc main_v0_3) = Cert.Reference6Ideal.Read.val_main_v12 (F := Ideal) (m ((c.tc : Thread nD τ).loc main_arg0)) (m ((c.tc : Thread nD τ).loc main_arg3))
      ∧ r.2.mem ((c.tc : Thread nD τ).loc main_v1_0) = Cert.Reference6Ideal.Read.val_main_v27 (F := Ideal) (m ((c.tc : Thread nD τ).loc main_arg4))
      ∧ r.2.mem ((c.tc : Thread nD τ).loc main_v1_1) = Cert.Reference6Ideal.Read.val_main_v51 (F := Ideal) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v1_2) = Cert.Reference6Ideal.Read.val_main_v32 (F := Ideal) (m ((c.tc : Thread nD τ).loc main_arg4)) (m ((c.tc : Thread nD τ).loc main_arg6))
      ∧ r.2.mem ((c.tc : Thread nD τ).loc main_v1_3) = Cert.Reference6Ideal.Read.val_main_v38 (F := Ideal) (m ((c.tc : Thread nD τ).loc main_arg4)) (m ((c.tc : Thread nD τ).loc main_arg7))
      ∧ r.2.mem ((c.tc : Thread nD τ).loc main_v2_0) = Cert.Reference6Ideal.Read.val_main_v53 (F := Ideal) (m ((c.tc : Thread nD τ).loc main_arg8))
      ∧ r.2.mem ((c.tc : Thread nD τ).loc main_v2_1) = Cert.Reference6Ideal.Read.val_main_v77 (F := Ideal) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v2_2) = Cert.Reference6Ideal.Read.val_main_v58 (F := Ideal) (m ((c.tc : Thread nD τ).loc main_arg8)) (m ((c.tc : Thread nD τ).loc main_arg10))
      ∧ r.2.mem ((c.tc : Thread nD τ).loc main_v2_3) = Cert.Reference6Ideal.Read.val_main_v64 (F := Ideal) (m ((c.tc : Thread nD τ).loc main_arg8)) (m ((c.tc : Thread nD τ).loc main_arg11))
      ∧ r.2.mem ((c.tc : Thread nD τ).loc main_v3_0) = Cert.Reference6Ideal.Read.val_main_v79 (F := Ideal) (m ((c.tc : Thread nD τ).loc main_arg12))
      ∧ r.2.mem ((c.tc : Thread nD τ).loc main_v3_1) = Cert.Reference6Ideal.Read.val_main_v103 (F := Ideal) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v3_2) = Cert.Reference6Ideal.Read.val_main_v84 (F := Ideal) (m ((c.tc : Thread nD τ).loc main_arg12)) (m ((c.tc : Thread nD τ).loc main_arg14))
      ∧ r.2.mem ((c.tc : Thread nD τ).loc main_v3_3) = Cert.Reference6Ideal.Read.val_main_v90 (F := Ideal) (m ((c.tc : Thread nD τ).loc main_arg12)) (m ((c.tc : Thread nD τ).loc main_arg15))
      ∧ r.2.mem ((c.tc : Thread nD τ).loc main_v4_0) = Cert.Reference6Ideal.Read.val_main_v105 (F := Ideal) (m ((c.tc : Thread nD τ).loc main_arg16))
      ∧ r.2.mem ((c.tc : Thread nD τ).loc main_v4_1) = Cert.Reference6Ideal.Read.val_main_v129 (F := Ideal) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v4_2) = Cert.Reference6Ideal.Read.val_main_v110 (F := Ideal) (m ((c.tc : Thread nD τ).loc main_arg16)) (m ((c.tc : Thread nD τ).loc main_arg18))
      ∧ r.2.mem ((c.tc : Thread nD τ).loc main_v4_3) = Cert.Reference6Ideal.Read.val_main_v116 (F := Ideal) (m ((c.tc : Thread nD τ).loc main_arg16)) (m ((c.tc : Thread nD τ).loc main_arg19))
      ∧ r.2.mem ((c.tc : Thread nD τ).loc main_v5_0) = Cert.Reference6Ideal.Read.val_main_v131 (F := Ideal) (m ((c.tc : Thread nD τ).loc main_arg20))
      ∧ r.2.mem ((c.tc : Thread nD τ).loc main_v5_1) = Cert.Reference6Ideal.Read.val_main_v155 (F := Ideal) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v5_2) = Cert.Reference6Ideal.Read.val_main_v136 (F := Ideal) (m ((c.tc : Thread nD τ).loc main_arg20)) (m ((c.tc : Thread nD τ).loc main_arg22))
      ∧ r.2.mem ((c.tc : Thread nD τ).loc main_v5_3) = Cert.Reference6Ideal.Read.val_main_v142 (F := Ideal) (m ((c.tc : Thread nD τ).loc main_arg20)) (m ((c.tc : Thread nD τ).loc main_arg23))
      ∧ r.2.mem ((c.tc : Thread nD τ).loc main_v6_0) = Cert.Reference6Ideal.Read.val_main_v157 (F := Ideal) (m ((c.tc : Thread nD τ).loc main_arg24))
      ∧ r.2.mem ((c.tc : Thread nD τ).loc main_v6_1) = Cert.Reference6Ideal.Read.val_main_v181 (F := Ideal) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_v6_2) = Cert.Reference6Ideal.Read.val_main_v162 (F := Ideal) (m ((c.tc : Thread nD τ).loc main_arg24)) (m ((c.tc : Thread nD τ).loc main_arg26))
      ∧ r.2.mem ((c.tc : Thread nD τ).loc main_v6_3) = Cert.Reference6Ideal.Read.val_main_v168 (F := Ideal) (m ((c.tc : Thread nD τ).loc main_arg24)) (m ((c.tc : Thread nD τ).loc main_arg27))
      ∧ r.2.mem ((c.tc : Thread nD τ).loc main_v7_0) = Cert.Reference6Ideal.Read.val_main_v183 (F := Ideal) (m ((c.tc : Thread nD τ).loc main_arg28))
      ∧ r.2.mem ((c.tc : Thread nD τ).loc main_v7_1) = Cert.Reference6Ideal.Read.val_main_v207 (F := Ideal) (m ((c.tc : Thread nD τ).loc main_arg28)) (m ((c.tc : Thread nD τ).loc main_arg29)) (m ((c.tc : Thread nD τ).loc main_arg30)) (m ((c.tc : Thread nD τ).loc main_arg31))
      ∧ r.2.mem ((c.tc : Thread nD τ).loc main_v7_2) = Cert.Reference6Ideal.Read.val_main_v188 (F := Ideal) (m ((c.tc : Thread nD τ).loc main_arg28)) (m ((c.tc : Thread nD τ).loc main_arg30))
      ∧ r.2.mem ((c.tc : Thread nD τ).loc main_v7_3) = Cert.Reference6Ideal.Read.val_main_v194 (F := Ideal) (m ((c.tc : Thread nD τ).loc main_arg28)) (m ((c.tc : Thread nD τ).loc main_arg31))
      ∧ r.2.mem ((c.tc : Thread nD τ).loc main_v8_0) = Cert.Reference6Ideal.Read.val_main_v209 (F := Ideal) (m ((c.tc : Thread nD τ).loc main_arg32))
      ∧ r.2.mem ((c.tc : Thread nD τ).loc main_v8_1) = Cert.Reference6Ideal.Read.val_main_v233 (F := Ideal) (m ((c.tc : Thread nD τ).loc main_arg32)) (m ((c.tc : Thread nD τ).loc main_arg33)) (m ((c.tc : Thread nD τ).loc main_arg34)) (m ((c.tc : Thread nD τ).loc main_arg35))
      ∧ r.2.mem ((c.tc : Thread nD τ).loc main_v8_2) = Cert.Reference6Ideal.Read.val_main_v214 (F := Ideal) (m ((c.tc : Thread nD τ).loc main_arg32)) (m ((c.tc : Thread nD τ).loc main_arg34))
      ∧ r.2.mem ((c.tc : Thread nD τ).loc main_v8_3) = Cert.Reference6Ideal.Read.val_main_v220 (F := Ideal) (m ((c.tc : Thread nD τ).loc main_arg32)) (m ((c.tc : Thread nD τ).loc main_arg35))
      ∧ r.2.mem ((c.tc : Thread nD τ).loc main_v9_0) = Cert.Reference6Ideal.Read.val_main_v235 (F := Ideal) (m ((c.tc : Thread nD τ).loc main_arg36))
      ∧ r.2.mem ((c.tc : Thread nD τ).loc main_v9_1) = Cert.Reference6Ideal.Read.val_main_v259 (F := Ideal) (m ((c.tc : Thread nD τ).loc main_arg36)) (m ((c.tc : Thread nD τ).loc main_arg37)) (m ((c.tc : Thread nD τ).loc main_arg38)) (m ((c.tc : Thread nD τ).loc main_arg39))
      ∧ r.2.mem ((c.tc : Thread nD τ).loc main_v9_2) = Cert.Reference6Ideal.Read.val_main_v240 (F := Ideal) (m ((c.tc : Thread nD τ).loc main_arg36)) (m ((c.tc : Thread nD τ).loc main_arg38))
      ∧ r.2.mem ((c.tc : Thread nD τ).loc main_v9_3) = Cert.Reference6Ideal.Read.val_main_v246 (F := Ideal) (m ((c.tc : Thread nD τ).loc main_arg36)) (m ((c.tc : Thread nD τ).loc main_arg39))
      ∧ r.2.mem ((c.tc : Thread nD τ).loc main_v10_0) = Cert.Reference6Ideal.Read.val_main_v261 (F := Ideal) (m ((c.tc : Thread nD τ).loc main_arg40))
      ∧ r.2.mem ((c.tc : Thread nD τ).loc main_v10_1) = Cert.Reference6Ideal.Read.val_main_v285 (F := Ideal) (m ((c.tc : Thread nD τ).loc main_arg40)) (m ((c.tc : Thread nD τ).loc main_arg41)) (m ((c.tc : Thread nD τ).loc main_arg42)) (m ((c.tc : Thread nD τ).loc main_arg43))
      ∧ r.2.mem ((c.tc : Thread nD τ).loc main_v10_2) = Cert.Reference6Ideal.Read.val_main_v266 (F := Ideal) (m ((c.tc : Thread nD τ).loc main_arg40)) (m ((c.tc : Thread nD τ).loc main_arg42))
      ∧ r.2.mem ((c.tc : Thread nD τ).loc main_v10_3) = Cert.Reference6Ideal.Read.val_main_v272 (F := Ideal) (m ((c.tc : Thread nD τ).loc main_arg40)) (m ((c.tc : Thread nD τ).loc main_arg43))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)) := by
  refine (θ_run defs _ _).mono (fun r k c => ?_) (Cert.Kernel6Ideal.Update.run m ρ)
  exact ⟨(k c _ (mem_uc main_v0_0 (by decide))).trans ((end0_0 m ρ c).trans (sum0_eq _)),
    (k c _ (mem_uc main_v0_1 (by decide))).trans ((end0_1 m ρ c).trans (change0_eq _ _ _ _)),
    (k c _ (mem_uc main_v0_2 (by decide))).trans ((end0_2 m ρ c).trans (first0_eq _ _)),
    (k c _ (mem_uc main_v0_3 (by decide))).trans ((end0_3 m ρ c).trans (second0_eq _ _)),
    (k c _ (mem_uc main_v1_0 (by decide))).trans ((end1_0 m ρ c).trans (sum1_eq _)),
    (k c _ (mem_uc main_v1_1 (by decide))).trans ((end1_1 m ρ c).trans (change1_eq _ _ _ _)),
    (k c _ (mem_uc main_v1_2 (by decide))).trans ((end1_2 m ρ c).trans (first1_eq _ _)),
    (k c _ (mem_uc main_v1_3 (by decide))).trans ((end1_3 m ρ c).trans (second1_eq _ _)),
    (k c _ (mem_uc main_v2_0 (by decide))).trans ((end2_0 m ρ c).trans (sum2_eq _)),
    (k c _ (mem_uc main_v2_1 (by decide))).trans ((end2_1 m ρ c).trans (change2_eq _ _ _ _)),
    (k c _ (mem_uc main_v2_2 (by decide))).trans ((end2_2 m ρ c).trans (first2_eq _ _)),
    (k c _ (mem_uc main_v2_3 (by decide))).trans ((end2_3 m ρ c).trans (second2_eq _ _)),
    (k c _ (mem_uc main_v3_0 (by decide))).trans ((end3_0 m ρ c).trans (sum3_eq _)),
    (k c _ (mem_uc main_v3_1 (by decide))).trans ((end3_1 m ρ c).trans (change3_eq _ _ _ _)),
    (k c _ (mem_uc main_v3_2 (by decide))).trans ((end3_2 m ρ c).trans (first3_eq _ _)),
    (k c _ (mem_uc main_v3_3 (by decide))).trans ((end3_3 m ρ c).trans (second3_eq _ _)),
    (k c _ (mem_uc main_v4_0 (by decide))).trans ((end4_0 m ρ c).trans (sum4_eq _)),
    (k c _ (mem_uc main_v4_1 (by decide))).trans ((end4_1 m ρ c).trans (change4_eq _ _ _ _)),
    (k c _ (mem_uc main_v4_2 (by decide))).trans ((end4_2 m ρ c).trans (first4_eq _ _)),
    (k c _ (mem_uc main_v4_3 (by decide))).trans ((end4_3 m ρ c).trans (second4_eq _ _)),
    (k c _ (mem_uc main_v5_0 (by decide))).trans ((end5_0 m ρ c).trans (sum5_eq _)),
    (k c _ (mem_uc main_v5_1 (by decide))).trans ((end5_1 m ρ c).trans (change5_eq _ _ _ _)),
    (k c _ (mem_uc main_v5_2 (by decide))).trans ((end5_2 m ρ c).trans (first5_eq _ _)),
    (k c _ (mem_uc main_v5_3 (by decide))).trans ((end5_3 m ρ c).trans (second5_eq _ _)),
    (k c _ (mem_uc main_v6_0 (by decide))).trans ((end6_0 m ρ c).trans (sum6_eq _)),
    (k c _ (mem_uc main_v6_1 (by decide))).trans ((end6_1 m ρ c).trans (change6_eq _ _ _ _)),
    (k c _ (mem_uc main_v6_2 (by decide))).trans ((end6_2 m ρ c).trans (first6_eq _ _)),
    (k c _ (mem_uc main_v6_3 (by decide))).trans ((end6_3 m ρ c).trans (second6_eq _ _)),
    (k c _ (mem_uc main_v7_0 (by decide))).trans ((end7_0 m ρ c).trans (sum7_eq _)),
    (k c _ (mem_uc main_v7_1 (by decide))).trans ((end7_1 m ρ c).trans (change7_eq _ _ _ _)),
    (k c _ (mem_uc main_v7_2 (by decide))).trans ((end7_2 m ρ c).trans (first7_eq _ _)),
    (k c _ (mem_uc main_v7_3 (by decide))).trans ((end7_3 m ρ c).trans (second7_eq _ _)),
    (k c _ (mem_uc main_v8_0 (by decide))).trans ((end8_0 m ρ c).trans (sum8_eq _)),
    (k c _ (mem_uc main_v8_1 (by decide))).trans ((end8_1 m ρ c).trans (change8_eq _ _ _ _)),
    (k c _ (mem_uc main_v8_2 (by decide))).trans ((end8_2 m ρ c).trans (first8_eq _ _)),
    (k c _ (mem_uc main_v8_3 (by decide))).trans ((end8_3 m ρ c).trans (second8_eq _ _)),
    (k c _ (mem_uc main_v9_0 (by decide))).trans ((end9_0 m ρ c).trans (sum9_eq _)),
    (k c _ (mem_uc main_v9_1 (by decide))).trans ((end9_1 m ρ c).trans (change9_eq _ _ _ _)),
    (k c _ (mem_uc main_v9_2 (by decide))).trans ((end9_2 m ρ c).trans (first9_eq _ _)),
    (k c _ (mem_uc main_v9_3 (by decide))).trans ((end9_3 m ρ c).trans (second9_eq _ _)),
    (k c _ (mem_uc main_v10_0 (by decide))).trans ((end10_0 m ρ c).trans (sum10_eq _)),
    (k c _ (mem_uc main_v10_1 (by decide))).trans ((end10_1 m ρ c).trans (change10_eq _ _ _ _)),
    (k c _ (mem_uc main_v10_2 (by decide))).trans ((end10_2 m ρ c).trans (first10_eq _ _)),
    (k c _ (mem_uc main_v10_3 (by decide))).trans ((end10_3 m ρ c).trans (second10_eq _ _)),
    (k c _ (mem_uc main_arg0 (by decide))).trans (W11_main_arg0 m ρ c),
    (k c _ (mem_uc main_arg1 (by decide))).trans (W11_main_arg1 m ρ c),
    (k c _ (mem_uc main_arg2 (by decide))).trans (W11_main_arg2 m ρ c),
    (k c _ (mem_uc main_arg3 (by decide))).trans (W11_main_arg3 m ρ c),
    (k c _ (mem_uc main_arg4 (by decide))).trans (W11_main_arg4 m ρ c),
    (k c _ (mem_uc main_arg5 (by decide))).trans (W11_main_arg5 m ρ c),
    (k c _ (mem_uc main_arg6 (by decide))).trans (W11_main_arg6 m ρ c),
    (k c _ (mem_uc main_arg7 (by decide))).trans (W11_main_arg7 m ρ c),
    (k c _ (mem_uc main_arg8 (by decide))).trans (W11_main_arg8 m ρ c),
    (k c _ (mem_uc main_arg9 (by decide))).trans (W11_main_arg9 m ρ c),
    (k c _ (mem_uc main_arg10 (by decide))).trans (W11_main_arg10 m ρ c),
    (k c _ (mem_uc main_arg11 (by decide))).trans (W11_main_arg11 m ρ c),
    (k c _ (mem_uc main_arg12 (by decide))).trans (W11_main_arg12 m ρ c),
    (k c _ (mem_uc main_arg13 (by decide))).trans (W11_main_arg13 m ρ c),
    (k c _ (mem_uc main_arg14 (by decide))).trans (W11_main_arg14 m ρ c),
    (k c _ (mem_uc main_arg15 (by decide))).trans (W11_main_arg15 m ρ c),
    (k c _ (mem_uc main_arg16 (by decide))).trans (W11_main_arg16 m ρ c),
    (k c _ (mem_uc main_arg17 (by decide))).trans (W11_main_arg17 m ρ c),
    (k c _ (mem_uc main_arg18 (by decide))).trans (W11_main_arg18 m ρ c),
    (k c _ (mem_uc main_arg19 (by decide))).trans (W11_main_arg19 m ρ c),
    (k c _ (mem_uc main_arg20 (by decide))).trans (W11_main_arg20 m ρ c),
    (k c _ (mem_uc main_arg21 (by decide))).trans (W11_main_arg21 m ρ c),
    (k c _ (mem_uc main_arg22 (by decide))).trans (W11_main_arg22 m ρ c),
    (k c _ (mem_uc main_arg23 (by decide))).trans (W11_main_arg23 m ρ c),
    (k c _ (mem_uc main_arg24 (by decide))).trans (W11_main_arg24 m ρ c),
    (k c _ (mem_uc main_arg25 (by decide))).trans (W11_main_arg25 m ρ c),
    (k c _ (mem_uc main_arg26 (by decide))).trans (W11_main_arg26 m ρ c),
    (k c _ (mem_uc main_arg27 (by decide))).trans (W11_main_arg27 m ρ c),
    (k c _ (mem_uc main_arg28 (by decide))).trans (W11_main_arg28 m ρ c),
    (k c _ (mem_uc main_arg29 (by decide))).trans (W11_main_arg29 m ρ c),
    (k c _ (mem_uc main_arg30 (by decide))).trans (W11_main_arg30 m ρ c),
    (k c _ (mem_uc main_arg31 (by decide))).trans (W11_main_arg31 m ρ c),
    (k c _ (mem_uc main_arg32 (by decide))).trans (W11_main_arg32 m ρ c),
    (k c _ (mem_uc main_arg33 (by decide))).trans (W11_main_arg33 m ρ c),
    (k c _ (mem_uc main_arg34 (by decide))).trans (W11_main_arg34 m ρ c),
    (k c _ (mem_uc main_arg35 (by decide))).trans (W11_main_arg35 m ρ c),
    (k c _ (mem_uc main_arg36 (by decide))).trans (W11_main_arg36 m ρ c),
    (k c _ (mem_uc main_arg37 (by decide))).trans (W11_main_arg37 m ρ c),
    (k c _ (mem_uc main_arg38 (by decide))).trans (W11_main_arg38 m ρ c),
    (k c _ (mem_uc main_arg39 (by decide))).trans (W11_main_arg39 m ρ c),
    (k c _ (mem_uc main_arg40 (by decide))).trans (W11_main_arg40 m ρ c),
    (k c _ (mem_uc main_arg41 (by decide))).trans (W11_main_arg41 m ρ c),
    (k c _ (mem_uc main_arg42 (by decide))).trans (W11_main_arg42 m ρ c),
    (k c _ (mem_uc main_arg43 (by decide))).trans (W11_main_arg43 m ρ c)⟩

end

set_option maxHeartbeats 4000000 in
open Cert.Reference6Ideal.Read in
/-- The kernel and the reference leave the same arrays. -/
theorem equal : Cert.algebraic_Kernel6Ideal_Reference6Ideal (hKernel6Ideal := Cert.Kernel6Ideal.Gen.facts)
    (hReference6Ideal := Cert.Reference6Ideal.Gen.facts) := by
  intro m g m' g' hpre hargs
  refine ⟨_, _, _, _, _, _, _, _, _, _, _, _, _, _, _, _, _, _, _, _, _, _, _, _, _, _, _, _, _, _, _, _, _, _, _, _, _, _, _, _, _, _, _, _, kernelRun m g, ?_⟩
  refine (θ_run Cert.Reference6Ideal.defs _ _).mono (fun r h c => ?_) (Cert.Reference6Ideal.Value.run (F := Ideal) m' g')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, hk⟩ := h c
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := hargs c
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, hk⟩
  · exact h0.trans ((val_main_v1_eq (F := Ideal) _).trans (congrArg (val_main_v1 (F := Ideal)) e0))
  · exact h1.trans ((val_main_v25_eq (F := Ideal) _).trans (congr (congr (congrArg₂ (val_main_v25 (F := Ideal)) e0 e1) e2) e3))
  · exact h2.trans ((val_main_v6_eq (F := Ideal) _).trans (congrArg₂ (val_main_v6 (F := Ideal)) e0 e2))
  · exact h3.trans ((val_main_v12_eq (F := Ideal) _).trans (congrArg₂ (val_main_v12 (F := Ideal)) e0 e3))
  · exact h4.trans ((val_main_v27_eq (F := Ideal) _).trans (congrArg (val_main_v27 (F := Ideal)) e4))
  · exact h5.trans ((val_main_v51_eq (F := Ideal) _).trans (congr (congr (congrArg₂ (val_main_v51 (F := Ideal)) e4 e5) e6) e7))
  · exact h6.trans ((val_main_v32_eq (F := Ideal) _).trans (congrArg₂ (val_main_v32 (F := Ideal)) e4 e6))
  · exact h7.trans ((val_main_v38_eq (F := Ideal) _).trans (congrArg₂ (val_main_v38 (F := Ideal)) e4 e7))
  · exact h8.trans ((val_main_v53_eq (F := Ideal) _).trans (congrArg (val_main_v53 (F := Ideal)) e8))
  · exact h9.trans ((val_main_v77_eq (F := Ideal) _).trans (congr (congr (congrArg₂ (val_main_v77 (F := Ideal)) e8 e9) e10) e11))
  · exact h10.trans ((val_main_v58_eq (F := Ideal) _).trans (congrArg₂ (val_main_v58 (F := Ideal)) e8 e10))
  · exact h11.trans ((val_main_v64_eq (F := Ideal) _).trans (congrArg₂ (val_main_v64 (F := Ideal)) e8 e11))
  · exact h12.trans ((val_main_v79_eq (F := Ideal) _).trans (congrArg (val_main_v79 (F := Ideal)) e12))
  · exact h13.trans ((val_main_v103_eq (F := Ideal) _).trans (congr (congr (congrArg₂ (val_main_v103 (F := Ideal)) e12 e13) e14) e15))
  · exact h14.trans ((val_main_v84_eq (F := Ideal) _).trans (congrArg₂ (val_main_v84 (F := Ideal)) e12 e14))
  · exact h15.trans ((val_main_v90_eq (F := Ideal) _).trans (congrArg₂ (val_main_v90 (F := Ideal)) e12 e15))
  · exact h16.trans ((val_main_v105_eq (F := Ideal) _).trans (congrArg (val_main_v105 (F := Ideal)) e16))
  · exact h17.trans ((val_main_v129_eq (F := Ideal) _).trans (congr (congr (congrArg₂ (val_main_v129 (F := Ideal)) e16 e17) e18) e19))
  · exact h18.trans ((val_main_v110_eq (F := Ideal) _).trans (congrArg₂ (val_main_v110 (F := Ideal)) e16 e18))
  · exact h19.trans ((val_main_v116_eq (F := Ideal) _).trans (congrArg₂ (val_main_v116 (F := Ideal)) e16 e19))
  · exact h20.trans ((val_main_v131_eq (F := Ideal) _).trans (congrArg (val_main_v131 (F := Ideal)) e20))
  · exact h21.trans ((val_main_v155_eq (F := Ideal) _).trans (congr (congr (congrArg₂ (val_main_v155 (F := Ideal)) e20 e21) e22) e23))
  · exact h22.trans ((val_main_v136_eq (F := Ideal) _).trans (congrArg₂ (val_main_v136 (F := Ideal)) e20 e22))
  · exact h23.trans ((val_main_v142_eq (F := Ideal) _).trans (congrArg₂ (val_main_v142 (F := Ideal)) e20 e23))
  · exact h24.trans ((val_main_v157_eq (F := Ideal) _).trans (congrArg (val_main_v157 (F := Ideal)) e24))
  · exact h25.trans ((val_main_v181_eq (F := Ideal) _).trans (congr (congr (congrArg₂ (val_main_v181 (F := Ideal)) e24 e25) e26) e27))
  · exact h26.trans ((val_main_v162_eq (F := Ideal) _).trans (congrArg₂ (val_main_v162 (F := Ideal)) e24 e26))
  · exact h27.trans ((val_main_v168_eq (F := Ideal) _).trans (congrArg₂ (val_main_v168 (F := Ideal)) e24 e27))
  · exact h28.trans ((val_main_v183_eq (F := Ideal) _).trans (congrArg (val_main_v183 (F := Ideal)) e28))
  · exact h29.trans ((val_main_v207_eq (F := Ideal) _).trans (congr (congr (congrArg₂ (val_main_v207 (F := Ideal)) e28 e29) e30) e31))
  · exact h30.trans ((val_main_v188_eq (F := Ideal) _).trans (congrArg₂ (val_main_v188 (F := Ideal)) e28 e30))
  · exact h31.trans ((val_main_v194_eq (F := Ideal) _).trans (congrArg₂ (val_main_v194 (F := Ideal)) e28 e31))
  · exact h32.trans ((val_main_v209_eq (F := Ideal) _).trans (congrArg (val_main_v209 (F := Ideal)) e32))
  · exact h33.trans ((val_main_v233_eq (F := Ideal) _).trans (congr (congr (congrArg₂ (val_main_v233 (F := Ideal)) e32 e33) e34) e35))
  · exact h34.trans ((val_main_v214_eq (F := Ideal) _).trans (congrArg₂ (val_main_v214 (F := Ideal)) e32 e34))
  · exact h35.trans ((val_main_v220_eq (F := Ideal) _).trans (congrArg₂ (val_main_v220 (F := Ideal)) e32 e35))
  · exact h36.trans ((val_main_v235_eq (F := Ideal) _).trans (congrArg (val_main_v235 (F := Ideal)) e36))
  · exact h37.trans ((val_main_v259_eq (F := Ideal) _).trans (congr (congr (congrArg₂ (val_main_v259 (F := Ideal)) e36 e37) e38) e39))
  · exact h38.trans ((val_main_v240_eq (F := Ideal) _).trans (congrArg₂ (val_main_v240 (F := Ideal)) e36 e38))
  · exact h39.trans ((val_main_v246_eq (F := Ideal) _).trans (congrArg₂ (val_main_v246 (F := Ideal)) e36 e39))
  · exact h40.trans ((val_main_v261_eq (F := Ideal) _).trans (congrArg (val_main_v261 (F := Ideal)) e40))
  · exact h41.trans ((val_main_v285_eq (F := Ideal) _).trans (congr (congr (congrArg₂ (val_main_v285 (F := Ideal)) e40 e41) e42) e43))
  · exact h42.trans ((val_main_v266_eq (F := Ideal) _).trans (congrArg₂ (val_main_v266 (F := Ideal)) e40 e42))
  · exact h43.trans ((val_main_v272_eq (F := Ideal) _).trans (congrArg₂ (val_main_v272 (F := Ideal)) e40 e43))

end Cert.Update

end
-- ==== Proof.GateChunk.lean ====
/-
  The gated MLP's forward call: a grid point's block is four chunks of 128 tokens, each the gelu of its multiplier times
  the spatial product, head by head, of its normalised gate.
-/
module

public import proofs.«01_k».proof.Proof.Steps
public import proofs.«01_k».proof.Proof.Gen.Kernel7Ideal.Frame

@[expose] public section

set_option maxRecDepth 16384

noncomputable section

open Idealize.ShloMosaic Idealize.ShloMosaic.TcCoe Idealize.SL.Sem

namespace Cert.Kernel7Ideal.Gate

open Cert.Kernel7Ideal Cert.Kernel7Ideal.Gen
open Cert.KernelIdeal.Chunk (word mean lanes tokens byHead chunkOf headOf unchunk unchunk_at ld_chunk0 ld_chunk1 ld_chunk2 ld_chunk3
  ld_head0_bf16 ld_head1_bf16 ld_head2_bf16 ld_head3_bf16 ld_head4_bf16 ld_head5_bf16 ld_head6_bf16 ld_head7_bf16)

/-- gelu. -/
def gelu (v : FVec Ideal S128x512 .f32) : FVec Ideal S128x512 .f32 :=
  mulf (mulf (word 0x3F000000#32) v) (addf (word 0x3F800000#32)
    (tanh (mulf (word 0x3F4C422A#32) (addf v (mulf (word 0x3D372713#32) (mulf (mulf v v) v))))))

/-- A chunk less its rows' means. -/
def centred (v : FVec Ideal S128x512 .f32) : FVec Ideal S128x512 .f32 := subf v (lanes (mean v))

/-- The layer norm of a chunk. -/
def normed (v : FVec Ideal S128x512 .f32) (g b : FVec Ideal S1x512 .f32) : FVec Ideal S128x512 .bf16 :=
  truncf .bf16 (addf (mulf (mulf (centred v) (lanes (rsqrt (addf (mean (mulf (centred v) (centred v)))
    (broadcast S128x1 (Scalar.ofBits (F := Ideal) .f32 0x3727C5AC#32)))))) (tokens g)) (tokens b)) bitsLt_bf16_f32

/-- A chunk of the call's result. -/
def gated (zu zv : FVec Ideal S128x512 .f32) (g b : FVec Ideal S1x512 .f32) (w : Fin 8 → FVec Ideal S1x128x128 .bf16)
    (bs : FVec Ideal S128x512 .f32) : FVec Ideal S128x512 .f32 :=
  mulf (gelu zu) (addf (byHead w (normed (gelu zv) g b)) (shapeCast S128x512 bs shapeCasts_S128x512_S128x512))

section Loads

variable (X : FVec Ideal S512x512 .f32) (W : FVec Ideal S8x128x128 .bf16)

theorem chunk0 : View.ld (Val := Elt Ideal) (e' := .f32) X r0_0 = chunkOf X 0 := ld_chunk0 X
theorem chunk1 : View.ld (Val := Elt Ideal) (e' := .f32) X r0_11 = chunkOf X 1 := ld_chunk1 X
theorem chunk2 : View.ld (Val := Elt Ideal) (e' := .f32) X r0_12 = chunkOf X 2 := ld_chunk2 X
theorem chunk3 : View.ld (Val := Elt Ideal) (e' := .f32) X r0_13 = chunkOf X 3 := ld_chunk3 X
theorem head0 : View.ld (Val := Elt Ideal) (e' := .bf16) W r0_2 = headOf W 0 := ld_head0_bf16 W
theorem head1 : View.ld (Val := Elt Ideal) (e' := .bf16) W r0_3 = headOf W 1 := ld_head1_bf16 W
theorem head2 : View.ld (Val := Elt Ideal) (e' := .bf16) W r0_4 = headOf W 2 := ld_head2_bf16 W
theorem head3 : View.ld (Val := Elt Ideal) (e' := .bf16) W r0_5 = headOf W 3 := ld_head3_bf16 W
theorem head4 : View.ld (Val := Elt Ideal) (e' := .bf16) W r0_6 = headOf W 4 := ld_head4_bf16 W
theorem head5 : View.ld (Val := Elt Ideal) (e' := .bf16) W r0_7 = headOf W 5 := ld_head5_bf16 W
theorem head6 : View.ld (Val := Elt Ideal) (e' := .bf16) W r0_8 = headOf W 6 := ld_head6_bf16 W
theorem head7 : View.ld (Val := Elt Ideal) (e' := .bf16) W r0_9 = headOf W 7 := ld_head7_bf16 W

theorem row (v : FVec Ideal S1x512 .f32) : View.ld (Val := Elt Ideal) (e' := .f32) v r0_1 = v := by
  funext i
  idx_vars i
  pointwise []
  exact congrArg v (congrArg (ix2 · i1) (Subsingleton.elim (α := Fin 1) _ _))

theorem bias (v : FVec Ideal S128x512 .f32) : View.ld (Val := Elt Ideal) (e' := .f32) v r0_10 = v := by
  funext i
  pointwise []

end Loads

set_option maxHeartbeats 4000000 in
theorem out_eq (x0 x1 : FVec Ideal S512x512 .f32) (x2 x3 : FVec Ideal S1x512 .f32) (x4 : FVec Ideal S8x128x128 .bf16) (x5 : FVec Ideal S128x512 .f32) :
    out0_6 (F := Ideal) x0 x1 x2 x3 x4 x5 =
      (unchunk fun k => gated (chunkOf x0 k) (chunkOf x1 k) x2 x3 (headOf x4) x5 : FVec Ideal S512x512 .f32) := by
  unfold_out out0_6
  funext y
  canon_tiles y h
  case piece0 =>
    refine Eq.trans ?_ (unchunk_at _ 3 _ _ (by simpa using h0) h1).symm
    simp only [chunk3, head0, head1, head2, head3, head4, head5, head6, head7, row, bias]
    rfl
  case piece1 =>
    refine Eq.trans ?_ (unchunk_at _ 2 _ _ (by simpa using h0) h1).symm
    simp only [chunk2, head0, head1, head2, head3, head4, head5, head6, head7, row, bias]
    rfl
  case piece2 =>
    refine Eq.trans ?_ (unchunk_at _ 1 _ _ (by simpa using h0) h1).symm
    simp only [chunk1, head0, head1, head2, head3, head4, head5, head6, head7, row, bias]
    rfl
  case piece3 =>
    refine Eq.trans ?_ (unchunk_at _ 0 _ _ (by simpa using h0) h1).symm
    simp only [chunk0, head0, head1, head2, head3, head4, head5, head6, head7, row, bias]
    rfl

end Cert.Kernel7Ideal.Gate

end
-- ==== Proof.GateEqual.lean ====
/-
  The gated MLP's forward call: the entries of a chunk and of the reference, over the extended reals, and their equality.
-/
module

public import proofs.«01_k».proof.Proof.GateChunk
public import proofs.«01_k».proof.Proof.Blocks
public import proofs.«01_k».proof.Proof.Gen.Reference7Ideal.Read

@[expose] public section

set_option maxRecDepth 16384

noncomputable section

open Idealize.ShloMosaic Idealize.ShloMosaic.TcCoe Idealize.SL.Sem

namespace Cert.Gate

open Cert.Kernel7Ideal (S4096x3584 S4096x512 S1x512 S8x128x128 S8x128 S128x512 S1x128x128)
open Cert.Kernel7Ideal.Gate (gelu centred normed gated)
open Cert.KernelIdeal.Chunk (byHead headDot isHead isHead_at word mean lanes tokens masked)
open Cert.Math (head tok)
open Cert.Reference7Ideal.Read

/-- gelu, as the reference groups it. -/
def gel (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * a * a)))))

/-- The mean of a row of 512 lanes. -/
def avg (z : Fin 512 → EReal) : EReal := Ideal.div (∑ l, z l) (Ideal.ofBits .f32 0x44000000#32)

/-- The layer norm of a row, before its scale and shift. -/
def xh (z : Fin 512 → EReal) (l : Fin 512) : EReal :=
  (z l - avg z) * Ideal.rsqrt (avg (fun j => (z j - avg z) * (z j - avg z)) + Ideal.ofBits .f32 0x3727C5AC#32)

theorem gelu_at (v : FVec Ideal S128x512 .f32) (r : Fin 128) (l : Fin 512) : (gelu v (ix2 r l) : EReal) = gel (v (ix2 r l)) := by
  unfold gel
  rw [← mul_assoc, mul_comm (v (ix2 r l) : EReal) (Ideal.ofBits .f32 0x3F000000#32)]
  pointwise [gelu, word]

theorem mean_at (v : FVec Ideal S128x512 .f32) (r : Fin 128) (u : Fin 1) : (mean v (ix2 r u) : EReal) = avg fun l => v (ix2 r l) := by
  pointwise [mean, avg]

theorem centred_at (v : FVec Ideal S128x512 .f32) (r : Fin 128) (l : Fin 512) :
    (centred v (ix2 r l) : EReal) = v (ix2 r l) - avg fun j => v (ix2 r j) := by
  rw [← mean_at v r 0]
  unfold centred
  generalize mean v = a
  pointwise [lanes]

theorem normed_at (v : FVec Ideal S128x512 .f32) (g b : FVec Ideal S1x512 .f32) (r : Fin 128) (l : Fin 512) :
    (normed v g b (ix2 r l) : EReal) = xh (fun j => v (ix2 r j)) l * g (ix2 0 l) + b (ix2 0 l) := by
  have e (j : Fin 512) := centred_at v r j
  unfold xh normed
  simp only [← e]
  generalize centred v = a
  rw [show (fun j => (a (ix2 r j) : EReal) * a (ix2 r j)) = fun j => (mulf a a (ix2 r j) : EReal) from rfl, ← mean_at (mulf a a) r 0]
  generalize mean (mulf a a) = q
  pointwise [lanes, tokens]

theorem headDot_at (w : FVec Ideal S1x128x128 .bf16) (x : FVec Ideal S128x512 .bf16) (r : Fin 128) (l : Fin 512) :
    (headDot w x (ix2 r l) : EReal) = ∑ k : Fin 128, (w (ix3 0 r k) : EReal) * x (ix2 k l) := by
  pointwise [headDot]

theorem byHead_at (w : Fin 8 → FVec Ideal S1x128x128 .bf16) (x : FVec Ideal S128x512 .bf16) (r : Fin 128) (l : Fin 512) :
    (byHead w x (ix2 r l) : EReal) = ∑ k : Fin 128, (w (head l) (ix3 0 r k) : EReal) * x (ix2 k l) := by
  refine Eq.trans ?_ (headDot_at (w (head l)) x r l)
  unfold byHead
  generalize headDot = d
  pointwise [isHead_at]
  generalize head l = h
  fin_cases h <;> rfl

theorem gated_at (zu zv : FVec Ideal S128x512 .f32) (g b : FVec Ideal S1x512 .f32) (w : Fin 8 → FVec Ideal S1x128x128 .bf16)
    (bs : FVec Ideal S128x512 .f32) (r : Fin 128) (l : Fin 512) : (gated zu zv g b w bs (ix2 r l) : EReal) =
    gel (zu (ix2 r l)) * ((∑ k : Fin 128, (w (head l) (ix3 0 r k) : EReal) * (xh (fun j => gel (zv (ix2 k j))) l * g (ix2 0 l) + b (ix2 0 l)))
      + bs (ix2 r l)) := by
  have e (k : Fin 128) := normed_at (gelu zv) g b k l
  simp only [gelu_at] at e
  simp only [← e]
  rw [← gelu_at, ← byHead_at w (normed (gelu zv) g b) r l]
  unfold gated
  generalize gelu zu = a
  generalize byHead w (normed (gelu zv) g b) = c
  pointwise []

section Reference

variable (x0 : FVec Ideal S4096x3584 .f32) (x1 x2 : FVec Ideal S1x512 .f32) (x3 : FVec Ideal S8x128x128 .f32) (x4 : FVec Ideal S8x128 .f32)

theorem v14_at (t : Fin 4096) (l : Fin 512) : (val_main_v14 (F := Ideal) x0 (ix2 t l) : EReal) =
    gel (x0 (ix2 t (⟨512 + l.val, by omega⟩ : Fin 3584))) := by
  have e : val_main_v0 (F := Ideal) x0 (ix2 t l) = x0 (ix2 t (⟨512 + l.val, by omega⟩ : Fin 3584)) := by
    pointwise [val_main_v0]
  rw [← e]
  rfl

theorem v27_at (t : Fin 4096) (l : Fin 512) : (val_main_v27 (F := Ideal) x0 (ix2 t l) : EReal) =
    gel (x0 (ix2 t (⟨1024 + l.val, by omega⟩ : Fin 3584))) := by
  have e : val_main_v1 (F := Ideal) x0 (ix2 t l) = x0 (ix2 t (⟨1024 + l.val, by omega⟩ : Fin 3584)) := by
    pointwise [val_main_v1]
  rw [← e]
  rfl

theorem v31_at (t : Fin 4096) (u : Fin 1) : (val_main_v31 (F := Ideal) x0 (ix2 t u) : EReal) =
    avg fun l => val_main_v27 (F := Ideal) x0 (ix2 t l) := by
  unfold val_main_v31 val_main_v29 val_main_v28
  generalize val_main_v27 (F := Ideal) x0 = a
  pointwise [val_main_v30, val_main_cst_7, val_main_cst_8, avg]

theorem v33_at (t : Fin 4096) (l : Fin 512) : (val_main_v33 (F := Ideal) x0 (ix2 t l) : EReal) =
    val_main_v27 (F := Ideal) x0 (ix2 t l) - avg fun l => val_main_v27 (F := Ideal) x0 (ix2 t l) := by
  rw [← v31_at x0 t 0]
  unfold val_main_v33 val_main_v32
  generalize val_main_v31 (F := Ideal) x0 = a
  generalize val_main_v27 (F := Ideal) x0 = b
  pointwise []

theorem v38_at (t : Fin 4096) (u : Fin 1) : (val_main_v38 (F := Ideal) x0 (ix2 t u) : EReal) =
    avg fun l => (val_main_v33 (F := Ideal) x0 (ix2 t l) : EReal) * val_main_v33 (F := Ideal) x0 (ix2 t l) := by
  unfold val_main_v38 val_main_v36 val_main_v35 val_main_v34
  generalize val_main_v33 (F := Ideal) x0 = a
  pointwise [val_main_v37, val_main_cst_9, val_main_cst_10, avg]

theorem v49_at (t : Fin 4096) (l : Fin 512) : (val_main_v49 (F := Ideal) x0 x1 x2 (ix2 t l) : EReal) =
    xh (fun j => gel (x0 (ix2 t (⟨1024 + j.val, by omega⟩ : Fin 3584)))) l * x1 (ix2 0 l) + x2 (ix2 0 l) := by
  have e (j : Fin 512) := v33_at x0 t j
  simp only [v27_at] at e
  unfold xh
  simp only [← e]
  rw [← v38_at x0 t 0]
  unfold val_main_v49 val_main_v47 val_main_v45 val_main_v44 val_main_v43 val_main_v42
  rw [show val_main_v40 (F := Ideal) x0 = val_main_v33 (F := Ideal) x0 from rfl]
  generalize val_main_v33 (F := Ideal) x0 = a
  generalize val_main_v38 (F := Ideal) x0 = b
  pointwise [val_main_v41, val_main_cst_11, val_main_v46, val_main_v48]

theorem v54_eq : val_main_v54 (F := Ideal) x3 = masked x3 := rfl

/-- The entry of the reference at a token of a chunk. -/
theorem v63_at (c : Fin 32) (r : Fin 128) (l : Fin 512) : (val_main_v63 (F := Ideal) x0 x1 x2 x3 x4 (ix2 (tok c r) l) : EReal) =
    gel (x0 (ix2 (tok c r) (⟨512 + l.val, by omega⟩ : Fin 3584))) *
      ((∑ k : Fin 128, (masked x3 (ix3 (head l) r k) : EReal)
        * (xh (fun j => gel (x0 (ix2 (tok c k) (⟨1024 + j.val, by omega⟩ : Fin 3584)))) l * x1 (ix2 0 l) + x2 (ix2 0 l)))
        + x4 (ix2 (head l) r)) := by
  simp only [← v49_at x0 x1 x2]
  rw [← v14_at, val_main_v63_apply, val_main_v62_apply, val_main_v61_apply, val_main_v56_apply, val_main_v55_apply, ← v54_eq]
  refine congrArg (fun a : EReal => (val_main_v14 (F := Ideal) x0 (ix2 (tok c r) l) : EReal) * a) (congrArg₂ (fun a b : EReal => a + b)
    (Finset.sum_congr rfl fun k _ => (mul_comm _ _).trans (congrArg₂ (fun a b : EReal => a * b) ?_ ?_)) ?_)
  · refine congrArg (val_main_v54 (F := Ideal) x3) ?_
    blk_ext [tok, head]
    all_goals omega
  · rw [val_main_v50_apply]
    refine congrArg (val_main_v49 (F := Ideal) x0 x1 x2) ?_
    blk_ext [tok, head]
    all_goals omega
  · rw [val_main_v60_apply, val_main_v59_apply, val_main_v58_apply, val_main_v57_apply]
    refine congrArg x4 ?_
    blk_ext [tok, head]
    all_goals omega

end Reference

end Cert.Gate

end
-- ==== Proof.GateClaim.lean ====
/-
  The gated MLP's forward call: the blocks that a grid point reads, the array that the call leaves, and the claims of its
  program.
-/
module

public import proofs.«01_k».proof.Proof.GateEqual
public import proofs.«01_k».proof.Proof.Finite
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Gate

open Cert.Kernel7Ideal Cert.Kernel7Ideal.Gen
open Cert.KernelIdeal.Chunk (chunkOf headOf unchunk_at masked)
open Cert.Math (head tok)
open Cert.Gate (gel xh)

variable (m : (ℓ : Loc nD τ sig) → Buf (Elt Ideal) ℓ)

/-- Device `c`'s arguments. -/
abbrev A0 (c : Dev nD) : FVec Ideal S4096x3584 .f32 := m ((c.tc : Thread nD τ).loc main_arg0)
abbrev A1 (c : Dev nD) : FVec Ideal S1x512 .f32 := m ((c.tc : Thread nD τ).loc main_arg1)
abbrev A2 (c : Dev nD) : FVec Ideal S1x512 .f32 := m ((c.tc : Thread nD τ).loc main_arg2)
abbrev A3 (c : Dev nD) : FVec Ideal S8x128x128 .f32 := m ((c.tc : Thread nD τ).loc main_arg3)
abbrev A4 (c : Dev nD) : FVec Ideal S8x128 .f32 := m ((c.tc : Thread nD τ).loc main_arg4)

theorem idx : ∀ t : Fin cfg0.N, win0_0.index t = ![t.val, 1] ∧ win0_1.index t = ![t.val, 2] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- Point `t`'s chunk `k`. -/
def nth (t : Fin cfg0.N) (k : Fin 4) : Fin 32 := ⟨t.val * 4 + k.val, by have : t.val < 8 := t.isLt; omega⟩

theorem V_mask (c : Dev nD) : (V m c main_v4 : FVec Ideal S8x128x128 .bf16) = truncf .bf16 (masked (A3 m c)) bitsLt_bf16_f32 := by
  simp only [V, List.flatten_cons, List.flatten_nil, List.append_nil, List.cons_append, List.nil_append]
  after_results
  rfl

theorem V_bias (c : Dev nD) : (V m c main_v7 : FVec Ideal S128x512 .f32) =
    shapeCast S128x512 (broadcastInDim S128x8x64 ![0, 1] bcast_S128x8_S128x8x64_0_1
      (transpose S128x8 [1, 0] (A4 m c) transposes_S8x128_S128x8_1_0)) shapeCasts_S128x8x64_S128x512 := by
  simp only [V, List.flatten_cons, List.flatten_nil, List.append_nil, List.cons_append, List.nil_append]
  after_results
  rfl

section Blocks

variable (c : Dev nD) (t : Fin cfg0.N)

theorem zu_at (k : Fin 4) (r : Fin 128) (l : Fin 512) : chunkOf (iblk m c 0 t) k (ix2 r l) =
    A0 m c (ix2 (tok (nth t k) r) (⟨512 + l.val, by omega⟩ : Fin 3584)) := by
  simp only [chunkOf]
  blk_ext [iblk, V, idx t]
  simp only [tok, nth]; omega

theorem zv_at (k : Fin 4) (r : Fin 128) (l : Fin 512) : chunkOf (iblk m c 1 t) k (ix2 r l) =
    A0 m c (ix2 (tok (nth t k) r) (⟨1024 + l.val, by omega⟩ : Fin 3584)) := by
  simp only [chunkOf]
  blk_ext [iblk, V, idx t]
  simp only [tok, nth]; omega

theorem scale_at (l : Fin 512) : iblk m c 2 t (ix2 0 l) = A1 m c (ix2 0 l) := by
  blk_ext [iblk, V, idx t]

theorem shift_at (l : Fin 512) : iblk m c 3 t (ix2 0 l) = A2 m c (ix2 0 l) := by
  blk_ext [iblk, V, idx t]

theorem mask_at (h : Fin 8) (r k : Fin 128) : (headOf (iblk m c 4 t) h (ix3 0 r k) : EReal) = masked (A3 m c) (ix3 h r k) := by
  have e : headOf (φ := .bf16) (iblk m c 4 t) h (ix3 0 r k) = (V m c main_v4 : FVec Ideal S8x128x128 .bf16) (ix3 h r k) := by
    simp only [headOf]
    blk_ext [iblk, idx t]
  refine (congrArg (fun a : EReal => a) e).trans ?_
  rw [V_mask]
  rfl

theorem bias_at (r : Fin 128) (l : Fin 512) : iblk m c 5 t (ix2 r l) = A4 m c (ix2 (head l) r) := by
  have e : iblk m c 5 t (ix2 r l) = (V m c main_v7 : FVec Ideal S128x512 .f32) (ix2 r l) := by
    blk_ext [iblk, idx t]
  rw [e, V_bias]
  pointwise []
  rfl

end Blocks

/-- The call leaves the reference's array. -/
theorem final6 (c : Dev nD) : (dats m 0 c).arrAt 6 (cfgs 0).N =
    Cert.Reference7Ideal.Read.val_main_v63 (F := Ideal) (A0 m c) (A1 m c) (A2 m c) (A3 m c) (A4 m c) := by
  refine (dats m 0 c).arrAt_eq_of_covers 6 _ (by decide +kernel) fun t _ y => ?_
  obtain ⟨p, l, rfl⟩ : ∃ (p : Fin 512) (l : Fin 512), y = ix2 p l := ⟨y 0, y 1, by blk_ext⟩
  blk_simp
  rw [after0_6, out_eq]
  have e : (win0_6.blk t).view.emb (ix2 p l) = ix2 (tok (nth t ⟨p.val / 128, by omega⟩) (⟨p.val % 128, by omega⟩ : Fin 128)) l := by
    blk_ext [idx t, tok, nth]
    all_goals omega
  rw [e]
  refine Eq.trans ?_ (Cert.Gate.v63_at (A0 m c) (A1 m c) (A2 m c) (A3 m c) (A4 m c) _ _ _).symm
  refine (unchunk_at _ (⟨p.val / 128, by omega⟩ : Fin 4) (ix2 p l) (ix2 (⟨p.val % 128, by omega⟩ : Fin 128) l) (by simp only [ix2_0]; omega) rfl).trans ?_
  refine (Cert.Gate.gated_at _ _ _ _ _ _ _ _).trans ?_
  simp only [zu_at, zv_at, scale_at, shift_at, bias_at]
  exact congrArg₂ (fun a b : EReal => a * b) rfl (congrArg₂ (fun a b : EReal => a + b) (Finset.sum_congr rfl fun k _ =>
    congrArg₂ (fun a b : EReal => a * b) (mask_at m c t (head l) _ k) rfl) rfl)

end Cert.Kernel7Ideal.Gate

namespace Cert.Gate

/-- The reference leaves its arguments as they were, whatever they are. -/
theorem referenceFrame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel and the reference leave the same array. -/
theorem equal : Cert.algebraic_Kernel7Ideal_Reference7Ideal (hKernel7Ideal := Cert.Kernel7Ideal.Gen.facts)
    (hReference7Ideal := Cert.Reference7Ideal.Gen.facts) := by
  intro m g m' g' hpre hargs
  refine ⟨_, (θ_run Cert.Kernel7Ideal.defs _ _).mono (fun r h c => ⟨((h.1 c).1 6).trans (Cert.Kernel7Ideal.Gate.final6 m c), h.2 c⟩)
    (θ_run_and (Cert.Kernel7Ideal.Gen.run_main (F := Ideal) m g) (Cert.Kernel7Ideal.Gen.unchanged (F := Ideal) m g)), ?_⟩
  refine (θ_run Cert.Reference7Ideal.defs _ _).mono (fun r h c => ?_) (Cert.Reference7Ideal.Value.run (F := Ideal) m' g')
  obtain ⟨h0, hk⟩ := h c
  obtain ⟨e0, e1, e2, e3, e4⟩ := hargs c
  refine ⟨h0.trans ((Cert.Reference7Ideal.Read.val_main_v63_eq (F := Ideal) _ _).trans ?_), hk⟩
  rw [e0, e1, e2, e3, e4]

end Cert.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Tail
public import proofs.«01_k».proof.Proof.Finite
public import proofs.«01_k».proof.Proof.HalfClaim
public import proofs.«01_k».proof.Proof.SecondClaim
public import proofs.«01_k».proof.Proof.MergeClaim
public import proofs.«01_k».proof.Proof.HeadClaim
public import proofs.«01_k».proof.Proof.UpdateClaim
public import proofs.«01_k».proof.Proof.GateClaim
public import Idealize.ShloMosaic.Adequacy
public import Idealize.ShloMosaic.Init

@[expose] public section

noncomputable section

namespace Cert.Proof

open Idealize.ShloMosaic Idealize.ShloMosaic.TcCoe Idealize.SL.Sem

/-- The reference leaves its arguments as they were, whatever they are. -/
theorem referenceFrame : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- What the reference's run leaves in its six results, where its arguments are the reals `A`. -/
theorem referenceResults (m : (ℓ : Loc Cert.ReferenceIdeal.nD Cert.ReferenceIdeal.τ Cert.ReferenceIdeal.sig) → Buf (Elt Ideal) ℓ)
    (A : Dev Cert.ReferenceIdeal.nD → Cert.Math.Args)
    (e0 : ∀ c : Dev Cert.ReferenceIdeal.nD, m ((c.tc : Thread Cert.ReferenceIdeal.nD Cert.ReferenceIdeal.τ).loc Cert.ReferenceIdeal.main_arg0) = Cert.ReferenceIdeal.Reals.a0 (A c))
    (e1 : ∀ c : Dev Cert.ReferenceIdeal.nD, m ((c.tc : Thread Cert.ReferenceIdeal.nD Cert.ReferenceIdeal.τ).loc Cert.ReferenceIdeal.main_arg1) = Cert.ReferenceIdeal.Reals.a1 (A c))
    (e2 : ∀ c : Dev Cert.ReferenceIdeal.nD, m ((c.tc : Thread Cert.ReferenceIdeal.nD Cert.ReferenceIdeal.τ).loc Cert.ReferenceIdeal.main_arg2) = Cert.ReferenceIdeal.Reals.a2 (A c))
    (e3 : ∀ c : Dev Cert.ReferenceIdeal.nD, m ((c.tc : Thread Cert.ReferenceIdeal.nD Cert.ReferenceIdeal.τ).loc Cert.ReferenceIdeal.main_arg3) = Cert.ReferenceIdeal.Reals.a3 (A c))
    (e4 : ∀ c : Dev Cert.ReferenceIdeal.nD, m ((c.tc : Thread Cert.ReferenceIdeal.nD Cert.ReferenceIdeal.τ).loc Cert.ReferenceIdeal.main_arg4) = Cert.ReferenceIdeal.Reals.a4 (A c))
    (e5 : ∀ c : Dev Cert.ReferenceIdeal.nD, m ((c.tc : Thread Cert.ReferenceIdeal.nD Cert.ReferenceIdeal.τ).loc Cert.ReferenceIdeal.main_arg5) = Cert.ReferenceIdeal.Reals.a5 (A c))
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      (r.2.mem ((c.tc : Thread Cert.ReferenceIdeal.nD Cert.ReferenceIdeal.τ).loc Cert.ReferenceIdeal.main_v163) : FVec Ideal Cert.ReferenceIdeal.S4096x512 .bf16) = (fun i => (((A c).dzu (i 0) (i 1) : ℝ) : EReal))
      ∧ (r.2.mem ((c.tc : Thread Cert.ReferenceIdeal.nD Cert.ReferenceIdeal.τ).loc Cert.ReferenceIdeal.main_v164) : FVec Ideal Cert.ReferenceIdeal.S4096x512 .bf16) = (fun i => (((A c).dzv (i 0) (i 1) : ℝ) : EReal))
      ∧ (r.2.mem ((c.tc : Thread Cert.ReferenceIdeal.nD Cert.ReferenceIdeal.τ).loc Cert.ReferenceIdeal.main_v102) : FVec Ideal Cert.ReferenceIdeal.S8x128x128 .f32) = (fun i => (((A c).dws (i 0) (i 1) (i 2) : ℝ) : EReal))
      ∧ (r.2.mem ((c.tc : Thread Cert.ReferenceIdeal.nD Cert.ReferenceIdeal.τ).loc Cert.ReferenceIdeal.main_v97) : FVec Ideal Cert.ReferenceIdeal.S8x128 .f32) = (fun i => (((A c).dbs (i 0) (i 1) : ℝ) : EReal))
      ∧ (r.2.mem ((c.tc : Thread Cert.ReferenceIdeal.nD Cert.ReferenceIdeal.τ).loc Cert.ReferenceIdeal.main_v108) : FVec Ideal Cert.ReferenceIdeal.S1x512 .f32) = (fun i => (((A c).dg (i 1) : ℝ) : EReal))
      ∧ (r.2.mem ((c.tc : Thread Cert.ReferenceIdeal.nD Cert.ReferenceIdeal.τ).loc Cert.ReferenceIdeal.main_v105) : FVec Ideal Cert.ReferenceIdeal.S1x512 .f32) = (fun i => (((A c).db (i 1) : ℝ) : EReal))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) := by
  refine (θ_run Cert.ReferenceIdeal.defs _ _).mono (fun r h c => ?_) (Cert.ReferenceIdeal.Value.run (F := Ideal) m ρ)
  obtain ⟨h0, h1, h2, h3, h4, h5, hargs⟩ := h c
  refine ⟨?_, ?_, ?_, ?_, ?_, ?_, hargs⟩
  · refine h0.trans ((Cert.ReferenceIdeal.Read.val_main_v163_eq (F := Ideal) _).trans ?_)
    show Cert.ReferenceIdeal.Read.val_main_v163 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) = _
    rw [e0, e1, e2, e3, e4, e5]
    exact Cert.ReferenceIdeal.Reals.v163 (A c)
  · refine h1.trans ((Cert.ReferenceIdeal.Read.val_main_v164_eq (F := Ideal) _).trans ?_)
    show Cert.ReferenceIdeal.Read.val_main_v164 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg4)) = _
    rw [e0, e1, e2, e4]
    exact Cert.ReferenceIdeal.Reals.v164 (A c)
  · refine h2.trans ((Cert.ReferenceIdeal.Read.val_main_v102_eq (F := Ideal) _).trans ?_)
    show Cert.ReferenceIdeal.Read.val_main_v102 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) = _
    rw [e0, e1, e2, e3]
    exact Cert.ReferenceIdeal.Reals.v102 (A c)
  · refine h3.trans ((Cert.ReferenceIdeal.Read.val_main_v97_eq (F := Ideal) _).trans ?_)
    show Cert.ReferenceIdeal.Read.val_main_v97 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) = _
    rw [e0, e1]
    exact Cert.ReferenceIdeal.Reals.v97 (A c)
  · refine h4.trans ((Cert.ReferenceIdeal.Read.val_main_v108_eq (F := Ideal) _).trans ?_)
    show Cert.ReferenceIdeal.Read.val_main_v108 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) = _
    rw [e0, e1, e4]
    exact Cert.ReferenceIdeal.Reals.v108 (A c)
  · refine h5.trans ((Cert.ReferenceIdeal.Read.val_main_v105_eq (F := Ideal) _).trans ?_)
    show Cert.ReferenceIdeal.Read.val_main_v105 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4)) = _
    rw [e0, e1, e4]
    exact Cert.ReferenceIdeal.Reals.v105 (A c)

/-- At finite arguments the kernel and the reference leave the same six arrays. -/
theorem equal : Cert.algebraic_KernelIdeal_ReferenceIdeal_pre_finite (hKernelIdeal := Cert.KernelIdeal.Gen.facts)
    (hReferenceIdeal := Cert.ReferenceIdeal.Gen.facts) (hPre_finite := finiteFacts) := by
  intro m g m' g' hpre hargs
  have H := holds_of m hpre
  refine ⟨fun c => (fun i => (((realsOf m c).dzu (i 0) (i 1) : ℝ) : EReal) : FVec Ideal Cert.KernelIdeal.S4096x512 .bf16), fun c => (fun i => (((realsOf m c).dzv (i 0) (i 1) : ℝ) : EReal) : FVec Ideal Cert.KernelIdeal.S4096x512 .bf16), fun c => (fun i => (((realsOf m c).dws (i 0) (i 1) (i 2) : ℝ) : EReal) : FVec Ideal Cert.KernelIdeal.S8x128x128 .f32), fun c => (fun i => (((realsOf m c).dbs (i 0) (i 1) : ℝ) : EReal) : FVec Ideal Cert.KernelIdeal.S8x128 .f32), fun c => (fun i => (((realsOf m c).dg (i 1) : ℝ) : EReal) : FVec Ideal Cert.KernelIdeal.S1x512 .f32), fun c => (fun i => (((realsOf m c).db (i 1) : ℝ) : EReal) : FVec Ideal Cert.KernelIdeal.S1x512 .f32), ?_, ?_⟩
  · refine (θ_run Cert.KernelIdeal.defs _ _).mono (fun r h c => ?_)
      (θ_run_and (Cert.KernelIdeal.Gen.run_main (F := Ideal) m g) (Cert.KernelIdeal.Gen.unchanged (F := Ideal) m g))
    obtain ⟨r0, r1, r2, r3, r4, r5⟩ := Cert.KernelIdeal.Chunk.results (H c) r h.1
    exact ⟨r0, r1, r2, r3, r4, r5, h.2 c⟩
  · exact referenceResults m' (fun c => realsOf m c) (fun c => (hargs c).1.trans (H c).h0) (fun c => (hargs c).2.1.trans (H c).h1)
      (fun c => (hargs c).2.2.1.trans (H c).h2) (fun c => (hargs c).2.2.2.1.trans (H c).h3) (fun c => (hargs c).2.2.2.2.1.trans (H c).h4)
      (fun c => (hargs c).2.2.2.2.2.trans (H c).h5) g'

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    finiteFacts, Cert.Half.finite2Facts, Cert.Second.finite3Facts, Cert.Head.finite5Facts,
    fun m ρ _ => Cert.Kernel.Gen.frame m ρ, fun m ρ _ => Cert.KernelIdeal.Gen.frame m ρ, fun m ρ _ => Cert.KernelIdeal.Gen.frame m ρ,
    referenceFrame, fun m ρ _ => referenceFrame m ρ trivial,
    fun m ρ _ => Cert.Kernel2.Gen.frame m ρ, fun m ρ _ => Cert.Kernel2Ideal.Gen.frame m ρ, fun m ρ _ => Cert.Kernel2Ideal.Gen.frame m ρ,
    Cert.Half.referenceFrame, fun m ρ _ => Cert.Half.referenceFrame m ρ trivial,
    fun m ρ _ => Cert.Kernel3.Gen.frame m ρ, fun m ρ _ => Cert.Kernel3Ideal.Gen.frame m ρ, fun m ρ _ => Cert.Kernel3Ideal.Gen.frame m ρ,
    Cert.Second.referenceFrame, fun m ρ _ => Cert.Second.referenceFrame m ρ trivial,
    fun m ρ _ => Cert.Kernel4.Gen.frame m ρ, fun m ρ _ => Cert.Kernel4Ideal.Gen.frame m ρ, Cert.Merge.referenceFrame,
    fun m ρ _ => Cert.Kernel5.Gen.frame m ρ, fun m ρ _ => Cert.Kernel5Ideal.Gen.frame m ρ, fun m ρ _ => Cert.Kernel5Ideal.Gen.frame m ρ,
    Cert.Head.referenceFrame, fun m ρ _ => Cert.Head.referenceFrame m ρ trivial,
    fun m ρ _ => Cert.Kernel6.Gen.frame m ρ, fun m ρ _ => Cert.Kernel6Ideal.Gen.frame m ρ, Cert.Update.referenceFrame,
    fun m ρ _ => Cert.Kernel7.Gen.frame m ρ, fun m ρ _ => Cert.Kernel7Ideal.Gen.frame m ρ, Cert.Gate.referenceFrame,
    ⟨IdealRules.named_const.statement Cert.KernelIdeal.κ "gelu_a" .f32 0x3D372713#32 ((8943 / 200000 : ℝ) : EReal) rfl,
      IdealRules.named_const.statement Cert.KernelIdeal.κ "gelu_3a" .f32 0x3E095D4F#32 ((26829 / 200000 : ℝ) : EReal) rfl⟩,
    equal, trivial, Cert.Half.equal, trivial, Cert.Second.equal, trivial, Cert.Merge.equal, trivial, Cert.Head.equal, trivial, Cert.Update.equal, trivial, Cert.Gate.equal⟩

end Cert.Proof

end
